-- ==== Defs.lean ====
def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))) = (fun _ => 1#1)

def Pre_DguKernel (m : (ℓ : Loc Cert.DguKernel.nD Cert.DguKernel.τ Cert.DguKernel.sig) → Buf (Elt Bits) ℓ) : Prop :=
  True

def Pre_DguKernelIdeal (m : (ℓ : Loc Cert.DguKernelIdeal.nD Cert.DguKernelIdeal.τ Cert.DguKernelIdeal.sig) → Buf (Elt Ideal) ℓ) : Prop :=
  True

def Pre_DguReferenceIdeal (m : (ℓ : Loc Cert.DguReferenceIdeal.nD Cert.DguReferenceIdeal.τ Cert.DguReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DhnKernel (m : (ℓ : Loc Cert.DhnKernel.nD Cert.DhnKernel.τ Cert.DhnKernel.sig) → Buf (Elt Bits) ℓ) : Prop :=
  True

def Pre_DhnKernelIdeal (m : (ℓ : Loc Cert.DhnKernelIdeal.nD Cert.DhnKernelIdeal.τ Cert.DhnKernelIdeal.sig) → Buf (Elt Ideal) ℓ) : Prop :=
  True

def Pre_DhnReferenceIdeal (m : (ℓ : Loc Cert.DhnReferenceIdeal.nD Cert.DhnReferenceIdeal.τ Cert.DhnReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_DiscKernel (m : (ℓ : Loc Cert.DiscKernel.nD Cert.DiscKernel.τ Cert.DiscKernel.sig) → Buf (Elt Bits) ℓ) : Prop :=
  True

def Pre_DiscKernelIdeal (m : (ℓ : Loc Cert.DiscKernelIdeal.nD Cert.DiscKernelIdeal.τ Cert.DiscKernelIdeal.sig) → Buf (Elt Ideal) ℓ) : Prop :=
  True

def Pre_DiscKernelIdeal_disc_regular [hPre_disc_regular : Cert.Pre_disc_regular.Facts] (m : (ℓ : Loc Cert.DiscKernelIdeal.nD Cert.DiscKernelIdeal.τ Cert.DiscKernelIdeal.sig) → Buf (Elt Ideal) ℓ) : Prop :=
  ∀ c : Dev Cert.DiscKernelIdeal.nD,
    (Cert.Pre_disc_regular.fn (F := Ideal) (m ((c.tc : Thread Cert.DiscKernelIdeal.nD Cert.DiscKernelIdeal.τ).loc Cert.DiscKernelIdeal.main_arg0)) (m ((c.tc : Thread Cert.DiscKernelIdeal.nD Cert.DiscKernelIdeal.τ).loc Cert.DiscKernelIdeal.main_arg1)) (m ((c.tc : Thread Cert.DiscKernelIdeal.nD Cert.DiscKernelIdeal.τ).loc Cert.DiscKernelIdeal.main_arg2)) (m ((c.tc : Thread Cert.DiscKernelIdeal.nD Cert.DiscKernelIdeal.τ).loc Cert.DiscKernelIdeal.main_arg3)) (m ((c.tc : Thread Cert.DiscKernelIdeal.nD Cert.DiscKernelIdeal.τ).loc Cert.DiscKernelIdeal.main_arg4)) (m ((c.tc : Thread Cert.DiscKernelIdeal.nD Cert.DiscKernelIdeal.τ).loc Cert.DiscKernelIdeal.main_arg5)) (m ((c.tc : Thread Cert.DiscKernelIdeal.nD Cert.DiscKernelIdeal.τ).loc Cert.DiscKernelIdeal.main_arg6)) (m ((c.tc : Thread Cert.DiscKernelIdeal.nD Cert.DiscKernelIdeal.τ).loc Cert.DiscKernelIdeal.main_arg7)) (m ((c.tc : Thread Cert.DiscKernelIdeal.nD Cert.DiscKernelIdeal.τ).loc Cert.DiscKernelIdeal.main_arg8))) = (fun _ => 1#1)

def Pre_DiscReferenceIdeal (m : (ℓ : Loc Cert.DiscReferenceIdeal.nD Cert.DiscReferenceIdeal.τ Cert.DiscReferenceIdeal.sig) → Buf (Elt Ideal) ℓ) : Prop :=
  True

def Pre_DiscReferenceIdeal_disc_regular [hPre_disc_regular : Cert.Pre_disc_regular.Facts] (m : (ℓ : Loc Cert.DiscReferenceIdeal.nD Cert.DiscReferenceIdeal.τ Cert.DiscReferenceIdeal.sig) → Buf (Elt Ideal) ℓ) : Prop :=
  ∀ c : Dev Cert.DiscReferenceIdeal.nD,
    (Cert.Pre_disc_regular.fn (F := Ideal) (m ((c.tc : Thread Cert.DiscReferenceIdeal.nD Cert.DiscReferenceIdeal.τ).loc Cert.DiscReferenceIdeal.main_arg0)) (m ((c.tc : Thread Cert.DiscReferenceIdeal.nD Cert.DiscReferenceIdeal.τ).loc Cert.DiscReferenceIdeal.main_arg1)) (m ((c.tc : Thread Cert.DiscReferenceIdeal.nD Cert.DiscReferenceIdeal.τ).loc Cert.DiscReferenceIdeal.main_arg2)) (m ((c.tc : Thread Cert.DiscReferenceIdeal.nD Cert.DiscReferenceIdeal.τ).loc Cert.DiscReferenceIdeal.main_arg3)) (m ((c.tc : Thread Cert.DiscReferenceIdeal.nD Cert.DiscReferenceIdeal.τ).loc Cert.DiscReferenceIdeal.main_arg4)) (m ((c.tc : Thread Cert.DiscReferenceIdeal.nD Cert.DiscReferenceIdeal.τ).loc Cert.DiscReferenceIdeal.main_arg5)) (m ((c.tc : Thread Cert.DiscReferenceIdeal.nD Cert.DiscReferenceIdeal.τ).loc Cert.DiscReferenceIdeal.main_arg6)) (m ((c.tc : Thread Cert.DiscReferenceIdeal.nD Cert.DiscReferenceIdeal.τ).loc Cert.DiscReferenceIdeal.main_arg7)) (m ((c.tc : Thread Cert.DiscReferenceIdeal.nD Cert.DiscReferenceIdeal.τ).loc Cert.DiscReferenceIdeal.main_arg8))) = (fun _ => 1#1)

def Pre_GlufKernel (m : (ℓ : Loc Cert.GlufKernel.nD Cert.GlufKernel.τ Cert.GlufKernel.sig) → Buf (Elt Bits) ℓ) : Prop :=
  True

def Pre_GlufKernelIdeal (m : (ℓ : Loc Cert.GlufKernelIdeal.nD Cert.GlufKernelIdeal.τ Cert.GlufKernelIdeal.sig) → Buf (Elt Ideal) ℓ) : Prop :=
  True

def Pre_GlufReferenceIdeal (m : (ℓ : Loc Cert.GlufReferenceIdeal.nD Cert.GlufReferenceIdeal.τ Cert.GlufReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_DiscfKernel (m : (ℓ : Loc Cert.DiscfKernel.nD Cert.DiscfKernel.τ Cert.DiscfKernel.sig) → Buf (Elt Bits) ℓ) : Prop :=
  True

def Pre_DiscfKernelIdeal (m : (ℓ : Loc Cert.DiscfKernelIdeal.nD Cert.DiscfKernelIdeal.τ Cert.DiscfKernelIdeal.sig) → Buf (Elt Ideal) ℓ) : Prop :=
  True

def Pre_DiscfKernelIdeal_disc_forward_regular [hPre_disc_forward_regular : Cert.Pre_disc_forward_regular.Facts] (m : (ℓ : Loc Cert.DiscfKernelIdeal.nD Cert.DiscfKernelIdeal.τ Cert.DiscfKernelIdeal.sig) → Buf (Elt Ideal) ℓ) : Prop :=
  ∀ c : Dev Cert.DiscfKernelIdeal.nD,
    (Cert.Pre_disc_forward_regular.fn (F := Ideal) (m ((c.tc : Thread Cert.DiscfKernelIdeal.nD Cert.DiscfKernelIdeal.τ).loc Cert.DiscfKernelIdeal.main_arg0)) (m ((c.tc : Thread Cert.DiscfKernelIdeal.nD Cert.DiscfKernelIdeal.τ).loc Cert.DiscfKernelIdeal.main_arg1)) (m ((c.tc : Thread Cert.DiscfKernelIdeal.nD Cert.DiscfKernelIdeal.τ).loc Cert.DiscfKernelIdeal.main_arg2)) (m ((c.tc : Thread Cert.DiscfKernelIdeal.nD Cert.DiscfKernelIdeal.τ).loc Cert.DiscfKernelIdeal.main_arg3)) (m ((c.tc : Thread Cert.DiscfKernelIdeal.nD Cert.DiscfKernelIdeal.τ).loc Cert.DiscfKernelIdeal.main_arg4))) = (fun _ => 1#1)

def Pre_DiscfReferenceIdeal (m : (ℓ : Loc Cert.DiscfReferenceIdeal.nD Cert.DiscfReferenceIdeal.τ Cert.DiscfReferenceIdeal.sig) → Buf (Elt Ideal) ℓ) : Prop :=
  True

def Pre_DiscfReferenceIdeal_disc_forward_regular [hPre_disc_forward_regular : Cert.Pre_disc_forward_regular.Facts] (m : (ℓ : Loc Cert.DiscfReferenceIdeal.nD Cert.DiscfReferenceIdeal.τ Cert.DiscfReferenceIdeal.sig) → Buf (Elt Ideal) ℓ) : Prop :=
  ∀ c : Dev Cert.DiscfReferenceIdeal.nD,
    (Cert.Pre_disc_forward_regular.fn (F := Ideal) (m ((c.tc : Thread Cert.DiscfReferenceIdeal.nD Cert.DiscfReferenceIdeal.τ).loc Cert.DiscfReferenceIdeal.main_arg0)) (m ((c.tc : Thread Cert.DiscfReferenceIdeal.nD Cert.DiscfReferenceIdeal.τ).loc Cert.DiscfReferenceIdeal.main_arg1)) (m ((c.tc : Thread Cert.DiscfReferenceIdeal.nD Cert.DiscfReferenceIdeal.τ).loc Cert.DiscfReferenceIdeal.main_arg2)) (m ((c.tc : Thread Cert.DiscfReferenceIdeal.nD Cert.DiscfReferenceIdeal.τ).loc Cert.DiscfReferenceIdeal.main_arg3)) (m ((c.tc : Thread Cert.DiscfReferenceIdeal.nD Cert.DiscfReferenceIdeal.τ).loc Cert.DiscfReferenceIdeal.main_arg4))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SumcKernel (m : (ℓ : Loc Cert.SumcKernel.nD Cert.SumcKernel.τ Cert.SumcKernel.sig) → Buf (Elt Bits) ℓ) : Prop :=
  True

def Pre_SumcKernelIdeal (m : (ℓ : Loc Cert.SumcKernelIdeal.nD Cert.SumcKernelIdeal.τ Cert.SumcKernelIdeal.sig) → Buf (Elt Ideal) ℓ) : Prop :=
  True

def Pre_SumcReferenceIdeal (m : (ℓ : Loc Cert.SumcReferenceIdeal.nD Cert.SumcReferenceIdeal.τ Cert.SumcReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_RepKernel (m : (ℓ : Loc Cert.RepKernel.nD Cert.RepKernel.τ Cert.RepKernel.sig) → Buf (Elt Bits) ℓ) : Prop :=
  True

def Pre_RepKernelIdeal (m : (ℓ : Loc Cert.RepKernelIdeal.nD Cert.RepKernelIdeal.τ Cert.RepKernelIdeal.sig) → Buf (Elt Ideal) ℓ) : Prop :=
  True

def Pre_RepReferenceIdeal (m : (ℓ : Loc Cert.RepReferenceIdeal.nD Cert.RepReferenceIdeal.τ Cert.RepReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_LrufKernel (m : (ℓ : Loc Cert.LrufKernel.nD Cert.LrufKernel.τ Cert.LrufKernel.sig) → Buf (Elt Bits) ℓ) : Prop :=
  True

def Pre_LrufKernelIdeal (m : (ℓ : Loc Cert.LrufKernelIdeal.nD Cert.LrufKernelIdeal.τ Cert.LrufKernelIdeal.sig) → Buf (Elt Ideal) ℓ) : Prop :=
  True

def Pre_LrufKernelIdeal_lru_decays [hPre_lru_decays : Cert.Pre_lru_decays.Facts] (m : (ℓ : Loc Cert.LrufKernelIdeal.nD Cert.LrufKernelIdeal.τ Cert.LrufKernelIdeal.sig) → Buf (Elt Ideal) ℓ) : Prop :=
  ∀ c : Dev Cert.LrufKernelIdeal.nD,
    (Cert.Pre_lru_decays.fn (F := Ideal) (m ((c.tc : Thread Cert.LrufKernelIdeal.nD Cert.LrufKernelIdeal.τ).loc Cert.LrufKernelIdeal.main_arg0)) (m ((c.tc : Thread Cert.LrufKernelIdeal.nD Cert.LrufKernelIdeal.τ).loc Cert.LrufKernelIdeal.main_arg1)) (m ((c.tc : Thread Cert.LrufKernelIdeal.nD Cert.LrufKernelIdeal.τ).loc Cert.LrufKernelIdeal.main_arg2)) (m ((c.tc : Thread Cert.LrufKernelIdeal.nD Cert.LrufKernelIdeal.τ).loc Cert.LrufKernelIdeal.main_arg3)) (m ((c.tc : Thread Cert.LrufKernelIdeal.nD Cert.LrufKernelIdeal.τ).loc Cert.LrufKernelIdeal.main_arg4)) (m ((c.tc : Thread Cert.LrufKernelIdeal.nD Cert.LrufKernelIdeal.τ).loc Cert.LrufKernelIdeal.main_arg5)) (m ((c.tc : Thread Cert.LrufKernelIdeal.nD Cert.LrufKernelIdeal.τ).loc Cert.LrufKernelIdeal.main_arg6)) (m ((c.tc : Thread Cert.LrufKernelIdeal.nD Cert.LrufKernelIdeal.τ).loc Cert.LrufKernelIdeal.main_arg7))) = (fun _ => 1#1)

def Pre_LrufReferenceIdeal (m : (ℓ : Loc Cert.LrufReferenceIdeal.nD Cert.LrufReferenceIdeal.τ Cert.LrufReferenceIdeal.sig) → Buf (Elt Ideal) ℓ) : Prop :=
  True

def Pre_LrufReferenceIdeal_lru_decays [hPre_lru_decays : Cert.Pre_lru_decays.Facts] (m : (ℓ : Loc Cert.LrufReferenceIdeal.nD Cert.LrufReferenceIdeal.τ Cert.LrufReferenceIdeal.sig) → Buf (Elt Ideal) ℓ) : Prop :=
  ∀ c : Dev Cert.LrufReferenceIdeal.nD,
    (Cert.Pre_lru_decays.fn (F := Ideal) (m ((c.tc : Thread Cert.LrufReferenceIdeal.nD Cert.LrufReferenceIdeal.τ).loc Cert.LrufReferenceIdeal.main_arg0)) (m ((c.tc : Thread Cert.LrufReferenceIdeal.nD Cert.LrufReferenceIdeal.τ).loc Cert.LrufReferenceIdeal.main_arg1)) (m ((c.tc : Thread Cert.LrufReferenceIdeal.nD Cert.LrufReferenceIdeal.τ).loc Cert.LrufReferenceIdeal.main_arg2)) (m ((c.tc : Thread Cert.LrufReferenceIdeal.nD Cert.LrufReferenceIdeal.τ).loc Cert.LrufReferenceIdeal.main_arg3)) (m ((c.tc : Thread Cert.LrufReferenceIdeal.nD Cert.LrufReferenceIdeal.τ).loc Cert.LrufReferenceIdeal.main_arg4)) (m ((c.tc : Thread Cert.LrufReferenceIdeal.nD Cert.LrufReferenceIdeal.τ).loc Cert.LrufReferenceIdeal.main_arg5)) (m ((c.tc : Thread Cert.LrufReferenceIdeal.nD Cert.LrufReferenceIdeal.τ).loc Cert.LrufReferenceIdeal.main_arg6)) (m ((c.tc : Thread Cert.LrufReferenceIdeal.nD Cert.LrufReferenceIdeal.τ).loc Cert.LrufReferenceIdeal.main_arg7))) = (fun _ => 1#1)

def Pre_S5fKernel (m : (ℓ : Loc Cert.S5fKernel.nD Cert.S5fKernel.τ Cert.S5fKernel.sig) → Buf (Elt Bits) ℓ) : Prop :=
  True

def Pre_S5fKernelIdeal (m : (ℓ : Loc Cert.S5fKernelIdeal.nD Cert.S5fKernelIdeal.τ Cert.S5fKernelIdeal.sig) → Buf (Elt Ideal) ℓ) : Prop :=
  True

def Pre_DwinKernel (m : (ℓ : Loc Cert.DwinKernel.nD Cert.DwinKernel.τ Cert.DwinKernel.sig) → Buf (Elt Bits) ℓ) : Prop :=
  True

def Pre_DwinKernelIdeal (m : (ℓ : Loc Cert.DwinKernelIdeal.nD Cert.DwinKernelIdeal.τ Cert.DwinKernelIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_DguKernel [hDguKernel : Cert.DguKernel.Facts] : Prop :=
  ∀ (m : (ℓ : Loc Cert.DguKernel.nD Cert.DguKernel.τ Cert.DguKernel.sig) → Buf (Elt Bits) ℓ) (g : Dev Cert.DguKernel.nD → PrngReg), Pre_DguKernel m →
    θ_run (Cert.DguKernel.defs (F := Bits)) (onTc (τ := Cert.DguKernel.τ) (Cert.DguKernel.main (F := Bits))) ⟨m, fun _ => 0, g⟩ (fun r => (∀ c : Dev Cert.DguKernel.nD,
      r.2.mem ((c.tc : Thread Cert.DguKernel.nD Cert.DguKernel.τ).loc Cert.DguKernel.main_arg0) = m ((c.tc : Thread Cert.DguKernel.nD Cert.DguKernel.τ).loc Cert.DguKernel.main_arg0)
      ∧ r.2.mem ((c.tc : Thread Cert.DguKernel.nD Cert.DguKernel.τ).loc Cert.DguKernel.main_arg1) = m ((c.tc : Thread Cert.DguKernel.nD Cert.DguKernel.τ).loc Cert.DguKernel.main_arg1)
      ∧ r.2.mem ((c.tc : Thread Cert.DguKernel.nD Cert.DguKernel.τ).loc Cert.DguKernel.main_arg2) = m ((c.tc : Thread Cert.DguKernel.nD Cert.DguKernel.τ).loc Cert.DguKernel.main_arg2)
      ∧ r.2.mem ((c.tc : Thread Cert.DguKernel.nD Cert.DguKernel.τ).loc Cert.DguKernel.main_arg3) = m ((c.tc : Thread Cert.DguKernel.nD Cert.DguKernel.τ).loc Cert.DguKernel.main_arg3))
      ∧ r.2.sem = fun _ => 0)

def quiescent_DguKernelIdeal [hDguKernelIdeal : Cert.DguKernelIdeal.Facts] : Prop :=
  ∀ (m : (ℓ : Loc Cert.DguKernelIdeal.nD Cert.DguKernelIdeal.τ Cert.DguKernelIdeal.sig) → Buf (Elt Ideal) ℓ) (g : Dev Cert.DguKernelIdeal.nD → PrngReg), Pre_DguKernelIdeal m →
    θ_run (Cert.DguKernelIdeal.defs (F := Ideal)) (onTc (τ := Cert.DguKernelIdeal.τ) (Cert.DguKernelIdeal.main (F := Ideal))) ⟨m, fun _ => 0, g⟩ (fun r => (∀ c : Dev Cert.DguKernelIdeal.nD,
      r.2.mem ((c.tc : Thread Cert.DguKernelIdeal.nD Cert.DguKernelIdeal.τ).loc Cert.DguKernelIdeal.main_arg0) = m ((c.tc : Thread Cert.DguKernelIdeal.nD Cert.DguKernelIdeal.τ).loc Cert.DguKernelIdeal.main_arg0)
      ∧ r.2.mem ((c.tc : Thread Cert.DguKernelIdeal.nD Cert.DguKernelIdeal.τ).loc Cert.DguKernelIdeal.main_arg1) = m ((c.tc : Thread Cert.DguKernelIdeal.nD Cert.DguKernelIdeal.τ).loc Cert.DguKernelIdeal.main_arg1)
      ∧ r.2.mem ((c.tc : Thread Cert.DguKernelIdeal.nD Cert.DguKernelIdeal.τ).loc Cert.DguKernelIdeal.main_arg2) = m ((c.tc : Thread Cert.DguKernelIdeal.nD Cert.DguKernelIdeal.τ).loc Cert.DguKernelIdeal.main_arg2)
      ∧ r.2.mem ((c.tc : Thread Cert.DguKernelIdeal.nD Cert.DguKernelIdeal.τ).loc Cert.DguKernelIdeal.main_arg3) = m ((c.tc : Thread Cert.DguKernelIdeal.nD Cert.DguKernelIdeal.τ).loc Cert.DguKernelIdeal.main_arg3))
      ∧ r.2.sem = fun _ => 0)

def quiescent_DguReferenceIdeal [hDguReferenceIdeal : Cert.DguReferenceIdeal.Facts] : Prop :=
  ∀ (m : (ℓ : Loc Cert.DguReferenceIdeal.nD Cert.DguReferenceIdeal.τ Cert.DguReferenceIdeal.sig) → Buf (Elt Ideal) ℓ) (g : Dev Cert.DguReferenceIdeal.nD → PrngReg), Pre_DguReferenceIdeal m →
    θ_run (Cert.DguReferenceIdeal.defs (F := Ideal)) (onTc (τ := Cert.DguReferenceIdeal.τ) (Cert.DguReferenceIdeal.main (F := Ideal))) ⟨m, fun _ => 0, g⟩ (fun r => (∀ c : Dev Cert.DguReferenceIdeal.nD,
      r.2.mem ((c.tc : Thread Cert.DguReferenceIdeal.nD Cert.DguReferenceIdeal.τ).loc Cert.DguReferenceIdeal.main_arg0) = m ((c.tc : Thread Cert.DguReferenceIdeal.nD Cert.DguReferenceIdeal.τ).loc Cert.DguReferenceIdeal.main_arg0)
      ∧ r.2.mem ((c.tc : Thread Cert.DguReferenceIdeal.nD Cert.DguReferenceIdeal.τ).loc Cert.DguReferenceIdeal.main_arg1) = m ((c.tc : Thread Cert.DguReferenceIdeal.nD Cert.DguReferenceIdeal.τ).loc Cert.DguReferenceIdeal.main_arg1)
      ∧ r.2.mem ((c.tc : Thread Cert.DguReferenceIdeal.nD Cert.DguReferenceIdeal.τ).loc Cert.DguReferenceIdeal.main_arg2) = m ((c.tc : Thread Cert.DguReferenceIdeal.nD Cert.DguReferenceIdeal.τ).loc Cert.DguReferenceIdeal.main_arg2)
      ∧ r.2.mem ((c.tc : Thread Cert.DguReferenceIdeal.nD Cert.DguReferenceIdeal.τ).loc Cert.DguReferenceIdeal.main_arg3) = m ((c.tc : Thread Cert.DguReferenceIdeal.nD Cert.DguReferenceIdeal.τ).loc Cert.DguReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_DhnKernel [hDhnKernel : Cert.DhnKernel.Facts] : Prop :=
  ∀ (m : (ℓ : Loc Cert.DhnKernel.nD Cert.DhnKernel.τ Cert.DhnKernel.sig) → Buf (Elt Bits) ℓ) (g : Dev Cert.DhnKernel.nD → PrngReg), Pre_DhnKernel m →
    θ_run (Cert.DhnKernel.defs (F := Bits)) (onTc (τ := Cert.DhnKernel.τ) (Cert.DhnKernel.main (F := Bits))) ⟨m, fun _ => 0, g⟩ (fun r => (∀ c : Dev Cert.DhnKernel.nD,
      r.2.mem ((c.tc : Thread Cert.DhnKernel.nD Cert.DhnKernel.τ).loc Cert.DhnKernel.main_arg0) = m ((c.tc : Thread Cert.DhnKernel.nD Cert.DhnKernel.τ).loc Cert.DhnKernel.main_arg0)
      ∧ r.2.mem ((c.tc : Thread Cert.DhnKernel.nD Cert.DhnKernel.τ).loc Cert.DhnKernel.main_arg1) = m ((c.tc : Thread Cert.DhnKernel.nD Cert.DhnKernel.τ).loc Cert.DhnKernel.main_arg1)
      ∧ r.2.mem ((c.tc : Thread Cert.DhnKernel.nD Cert.DhnKernel.τ).loc Cert.DhnKernel.main_arg2) = m ((c.tc : Thread Cert.DhnKernel.nD Cert.DhnKernel.τ).loc Cert.DhnKernel.main_arg2)
      ∧ r.2.mem ((c.tc : Thread Cert.DhnKernel.nD Cert.DhnKernel.τ).loc Cert.DhnKernel.main_arg3) = m ((c.tc : Thread Cert.DhnKernel.nD Cert.DhnKernel.τ).loc Cert.DhnKernel.main_arg3)
      ∧ r.2.mem ((c.tc : Thread Cert.DhnKernel.nD Cert.DhnKernel.τ).loc Cert.DhnKernel.main_arg4) = m ((c.tc : Thread Cert.DhnKernel.nD Cert.DhnKernel.τ).loc Cert.DhnKernel.main_arg4)
      ∧ r.2.mem ((c.tc : Thread Cert.DhnKernel.nD Cert.DhnKernel.τ).loc Cert.DhnKernel.main_arg5) = m ((c.tc : Thread Cert.DhnKernel.nD Cert.DhnKernel.τ).loc Cert.DhnKernel.main_arg5))
      ∧ r.2.sem = fun _ => 0)

def quiescent_DhnKernelIdeal [hDhnKernelIdeal : Cert.DhnKernelIdeal.Facts] : Prop :=
  ∀ (m : (ℓ : Loc Cert.DhnKernelIdeal.nD Cert.DhnKernelIdeal.τ Cert.DhnKernelIdeal.sig) → Buf (Elt Ideal) ℓ) (g : Dev Cert.DhnKernelIdeal.nD → PrngReg), Pre_DhnKernelIdeal m →
    θ_run (Cert.DhnKernelIdeal.defs (F := Ideal)) (onTc (τ := Cert.DhnKernelIdeal.τ) (Cert.DhnKernelIdeal.main (F := Ideal))) ⟨m, fun _ => 0, g⟩ (fun r => (∀ c : Dev Cert.DhnKernelIdeal.nD,
      r.2.mem ((c.tc : Thread Cert.DhnKernelIdeal.nD Cert.DhnKernelIdeal.τ).loc Cert.DhnKernelIdeal.main_arg0) = m ((c.tc : Thread Cert.DhnKernelIdeal.nD Cert.DhnKernelIdeal.τ).loc Cert.DhnKernelIdeal.main_arg0)
      ∧ r.2.mem ((c.tc : Thread Cert.DhnKernelIdeal.nD Cert.DhnKernelIdeal.τ).loc Cert.DhnKernelIdeal.main_arg1) = m ((c.tc : Thread Cert.DhnKernelIdeal.nD Cert.DhnKernelIdeal.τ).loc Cert.DhnKernelIdeal.main_arg1)
      ∧ r.2.mem ((c.tc : Thread Cert.DhnKernelIdeal.nD Cert.DhnKernelIdeal.τ).loc Cert.DhnKernelIdeal.main_arg2) = m ((c.tc : Thread Cert.DhnKernelIdeal.nD Cert.DhnKernelIdeal.τ).loc Cert.DhnKernelIdeal.main_arg2)
      ∧ r.2.mem ((c.tc : Thread Cert.DhnKernelIdeal.nD Cert.DhnKernelIdeal.τ).loc Cert.DhnKernelIdeal.main_arg3) = m ((c.tc : Thread Cert.DhnKernelIdeal.nD Cert.DhnKernelIdeal.τ).loc Cert.DhnKernelIdeal.main_arg3)
      ∧ r.2.mem ((c.tc : Thread Cert.DhnKernelIdeal.nD Cert.DhnKernelIdeal.τ).loc Cert.DhnKernelIdeal.main_arg4) = m ((c.tc : Thread Cert.DhnKernelIdeal.nD Cert.DhnKernelIdeal.τ).loc Cert.DhnKernelIdeal.main_arg4)
      ∧ r.2.mem ((c.tc : Thread Cert.DhnKernelIdeal.nD Cert.DhnKernelIdeal.τ).loc Cert.DhnKernelIdeal.main_arg5) = m ((c.tc : Thread Cert.DhnKernelIdeal.nD Cert.DhnKernelIdeal.τ).loc Cert.DhnKernelIdeal.main_arg5))
      ∧ r.2.sem = fun _ => 0)

def quiescent_DhnReferenceIdeal [hDhnReferenceIdeal : Cert.DhnReferenceIdeal.Facts] : Prop :=
  ∀ (m : (ℓ : Loc Cert.DhnReferenceIdeal.nD Cert.DhnReferenceIdeal.τ Cert.DhnReferenceIdeal.sig) → Buf (Elt Ideal) ℓ) (g : Dev Cert.DhnReferenceIdeal.nD → PrngReg), Pre_DhnReferenceIdeal m →
    θ_run (Cert.DhnReferenceIdeal.defs (F := Ideal)) (onTc (τ := Cert.DhnReferenceIdeal.τ) (Cert.DhnReferenceIdeal.main (F := Ideal))) ⟨m, fun _ => 0, g⟩ (fun r => (∀ c : Dev Cert.DhnReferenceIdeal.nD,
      r.2.mem ((c.tc : Thread Cert.DhnReferenceIdeal.nD Cert.DhnReferenceIdeal.τ).loc Cert.DhnReferenceIdeal.main_arg0) = m ((c.tc : Thread Cert.DhnReferenceIdeal.nD Cert.DhnReferenceIdeal.τ).loc Cert.DhnReferenceIdeal.main_arg0)
      ∧ r.2.mem ((c.tc : Thread Cert.DhnReferenceIdeal.nD Cert.DhnReferenceIdeal.τ).loc Cert.DhnReferenceIdeal.main_arg1) = m ((c.tc : Thread Cert.DhnReferenceIdeal.nD Cert.DhnReferenceIdeal.τ).loc Cert.DhnReferenceIdeal.main_arg1)
      ∧ r.2.mem ((c.tc : Thread Cert.DhnReferenceIdeal.nD Cert.DhnReferenceIdeal.τ).loc Cert.DhnReferenceIdeal.main_arg2) = m ((c.tc : Thread Cert.DhnReferenceIdeal.nD Cert.DhnReferenceIdeal.τ).loc Cert.DhnReferenceIdeal.main_arg2)
      ∧ r.2.mem ((c.tc : Thread Cert.DhnReferenceIdeal.nD Cert.DhnReferenceIdeal.τ).loc Cert.DhnReferenceIdeal.main_arg3) = m ((c.tc : Thread Cert.DhnReferenceIdeal.nD Cert.DhnReferenceIdeal.τ).loc Cert.DhnReferenceIdeal.main_arg3)
      ∧ r.2.mem ((c.tc : Thread Cert.DhnReferenceIdeal.nD Cert.DhnReferenceIdeal.τ).loc Cert.DhnReferenceIdeal.main_arg4) = m ((c.tc : Thread Cert.DhnReferenceIdeal.nD Cert.DhnReferenceIdeal.τ).loc Cert.DhnReferenceIdeal.main_arg4)
      ∧ r.2.mem ((c.tc : Thread Cert.DhnReferenceIdeal.nD Cert.DhnReferenceIdeal.τ).loc Cert.DhnReferenceIdeal.main_arg5) = m ((c.tc : Thread Cert.DhnReferenceIdeal.nD Cert.DhnReferenceIdeal.τ).loc Cert.DhnReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_DiscKernel [hDiscKernel : Cert.DiscKernel.Facts] : Prop :=
  ∀ (m : (ℓ : Loc Cert.DiscKernel.nD Cert.DiscKernel.τ Cert.DiscKernel.sig) → Buf (Elt Bits) ℓ) (g : Dev Cert.DiscKernel.nD → PrngReg), Pre_DiscKernel m →
    θ_run (Cert.DiscKernel.defs (F := Bits)) (onTc (τ := Cert.DiscKernel.τ) (Cert.DiscKernel.main (F := Bits))) ⟨m, fun _ => 0, g⟩ (fun r => (∀ c : Dev Cert.DiscKernel.nD,
      r.2.mem ((c.tc : Thread Cert.DiscKernel.nD Cert.DiscKernel.τ).loc Cert.DiscKernel.main_arg0) = m ((c.tc : Thread Cert.DiscKernel.nD Cert.DiscKernel.τ).loc Cert.DiscKernel.main_arg0)
      ∧ r.2.mem ((c.tc : Thread Cert.DiscKernel.nD Cert.DiscKernel.τ).loc Cert.DiscKernel.main_arg1) = m ((c.tc : Thread Cert.DiscKernel.nD Cert.DiscKernel.τ).loc Cert.DiscKernel.main_arg1)
      ∧ r.2.mem ((c.tc : Thread Cert.DiscKernel.nD Cert.DiscKernel.τ).loc Cert.DiscKernel.main_arg2) = m ((c.tc : Thread Cert.DiscKernel.nD Cert.DiscKernel.τ).loc Cert.DiscKernel.main_arg2)
      ∧ r.2.mem ((c.tc : Thread Cert.DiscKernel.nD Cert.DiscKernel.τ).loc Cert.DiscKernel.main_arg3) = m ((c.tc : Thread Cert.DiscKernel.nD Cert.DiscKernel.τ).loc Cert.DiscKernel.main_arg3)
      ∧ r.2.mem ((c.tc : Thread Cert.DiscKernel.nD Cert.DiscKernel.τ).loc Cert.DiscKernel.main_arg4) = m ((c.tc : Thread Cert.DiscKernel.nD Cert.DiscKernel.τ).loc Cert.DiscKernel.main_arg4)
      ∧ r.2.mem ((c.tc : Thread Cert.DiscKernel.nD Cert.DiscKernel.τ).loc Cert.DiscKernel.main_arg5) = m ((c.tc : Thread Cert.DiscKernel.nD Cert.DiscKernel.τ).loc Cert.DiscKernel.main_arg5)
      ∧ r.2.mem ((c.tc : Thread Cert.DiscKernel.nD Cert.DiscKernel.τ).loc Cert.DiscKernel.main_arg6) = m ((c.tc : Thread Cert.DiscKernel.nD Cert.DiscKernel.τ).loc Cert.DiscKernel.main_arg6)
      ∧ r.2.mem ((c.tc : Thread Cert.DiscKernel.nD Cert.DiscKernel.τ).loc Cert.DiscKernel.main_arg7) = m ((c.tc : Thread Cert.DiscKernel.nD Cert.DiscKernel.τ).loc Cert.DiscKernel.main_arg7)
      ∧ r.2.mem ((c.tc : Thread Cert.DiscKernel.nD Cert.DiscKernel.τ).loc Cert.DiscKernel.main_arg8) = m ((c.tc : Thread Cert.DiscKernel.nD Cert.DiscKernel.τ).loc Cert.DiscKernel.main_arg8))
      ∧ r.2.sem = fun _ => 0)

def quiescent_DiscKernelIdeal [hDiscKernelIdeal : Cert.DiscKernelIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg), Pre_DiscKernelIdeal m →
    θ_run (Cert.DiscKernelIdeal.defs (F := Ideal)) (onTc (τ := Cert.DiscKernelIdeal.τ) (Cert.DiscKernelIdeal.main (F := Ideal))) ⟨m, fun _ => 0, g⟩ (fun r => (∀ c : Dev Cert.DiscKernelIdeal.nD,
      r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
      ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
      ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
      ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
      ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
      ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
      ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
      ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
      ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8))
      ∧ r.2.sem = fun _ => 0)

def quiescent_DiscKernelIdeal_pre_disc_regular [hDiscKernelIdeal : Cert.DiscKernelIdeal.Facts] [hPre_disc_regular : Cert.Pre_disc_regular.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg), Pre_DiscKernelIdeal_disc_regular m →
    θ_run (Cert.DiscKernelIdeal.defs (F := Ideal)) (onTc (τ := Cert.DiscKernelIdeal.τ) (Cert.DiscKernelIdeal.main (F := Ideal))) ⟨m, fun _ => 0, g⟩ (fun r => (∀ c : Dev Cert.DiscKernelIdeal.nD,
      r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
      ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
      ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
      ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
      ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
      ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
      ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
      ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
      ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8))
      ∧ r.2.sem = fun _ => 0)

def quiescent_DiscReferenceIdeal [hDiscReferenceIdeal : Cert.DiscReferenceIdeal.Facts] : Prop :=
  ∀ (m : (ℓ : Loc Cert.DiscReferenceIdeal.nD Cert.DiscReferenceIdeal.τ Cert.DiscReferenceIdeal.sig) → Buf (Elt Ideal) ℓ) (g : Dev Cert.DiscReferenceIdeal.nD → PrngReg), Pre_DiscReferenceIdeal m →
    θ_run (Cert.DiscReferenceIdeal.defs (F := Ideal)) (onTc (τ := Cert.DiscReferenceIdeal.τ) (Cert.DiscReferenceIdeal.main (F := Ideal))) ⟨m, fun _ => 0, g⟩ (fun r => (∀ c : Dev Cert.DiscReferenceIdeal.nD,
      r.2.mem ((c.tc : Thread Cert.DiscReferenceIdeal.nD Cert.DiscReferenceIdeal.τ).loc Cert.DiscReferenceIdeal.main_arg0) = m ((c.tc : Thread Cert.DiscReferenceIdeal.nD Cert.DiscReferenceIdeal.τ).loc Cert.DiscReferenceIdeal.main_arg0)
      ∧ r.2.mem ((c.tc : Thread Cert.DiscReferenceIdeal.nD Cert.DiscReferenceIdeal.τ).loc Cert.DiscReferenceIdeal.main_arg1) = m ((c.tc : Thread Cert.DiscReferenceIdeal.nD Cert.DiscReferenceIdeal.τ).loc Cert.DiscReferenceIdeal.main_arg1)
      ∧ r.2.mem ((c.tc : Thread Cert.DiscReferenceIdeal.nD Cert.DiscReferenceIdeal.τ).loc Cert.DiscReferenceIdeal.main_arg2) = m ((c.tc : Thread Cert.DiscReferenceIdeal.nD Cert.DiscReferenceIdeal.τ).loc Cert.DiscReferenceIdeal.main_arg2)
      ∧ r.2.mem ((c.tc : Thread Cert.DiscReferenceIdeal.nD Cert.DiscReferenceIdeal.τ).loc Cert.DiscReferenceIdeal.main_arg3) = m ((c.tc : Thread Cert.DiscReferenceIdeal.nD Cert.DiscReferenceIdeal.τ).loc Cert.DiscReferenceIdeal.main_arg3)
      ∧ r.2.mem ((c.tc : Thread Cert.DiscReferenceIdeal.nD Cert.DiscReferenceIdeal.τ).loc Cert.DiscReferenceIdeal.main_arg4) = m ((c.tc : Thread Cert.DiscReferenceIdeal.nD Cert.DiscReferenceIdeal.τ).loc Cert.DiscReferenceIdeal.main_arg4)
      ∧ r.2.mem ((c.tc : Thread Cert.DiscReferenceIdeal.nD Cert.DiscReferenceIdeal.τ).loc Cert.DiscReferenceIdeal.main_arg5) = m ((c.tc : Thread Cert.DiscReferenceIdeal.nD Cert.DiscReferenceIdeal.τ).loc Cert.DiscReferenceIdeal.main_arg5)
      ∧ r.2.mem ((c.tc : Thread Cert.DiscReferenceIdeal.nD Cert.DiscReferenceIdeal.τ).loc Cert.DiscReferenceIdeal.main_arg6) = m ((c.tc : Thread Cert.DiscReferenceIdeal.nD Cert.DiscReferenceIdeal.τ).loc Cert.DiscReferenceIdeal.main_arg6)
      ∧ r.2.mem ((c.tc : Thread Cert.DiscReferenceIdeal.nD Cert.DiscReferenceIdeal.τ).loc Cert.DiscReferenceIdeal.main_arg7) = m ((c.tc : Thread Cert.DiscReferenceIdeal.nD Cert.DiscReferenceIdeal.τ).loc Cert.DiscReferenceIdeal.main_arg7)
      ∧ r.2.mem ((c.tc : Thread Cert.DiscReferenceIdeal.nD Cert.DiscReferenceIdeal.τ).loc Cert.DiscReferenceIdeal.main_arg8) = m ((c.tc : Thread Cert.DiscReferenceIdeal.nD Cert.DiscReferenceIdeal.τ).loc Cert.DiscReferenceIdeal.main_arg8))
      ∧ r.2.sem = fun _ => 0)

def quiescent_DiscReferenceIdeal_pre_disc_regular [hDiscReferenceIdeal : Cert.DiscReferenceIdeal.Facts] [hPre_disc_regular : Cert.Pre_disc_regular.Facts] : Prop :=
  ∀ (m : (ℓ : Loc Cert.DiscReferenceIdeal.nD Cert.DiscReferenceIdeal.τ Cert.DiscReferenceIdeal.sig) → Buf (Elt Ideal) ℓ) (g : Dev Cert.DiscReferenceIdeal.nD → PrngReg), Pre_DiscReferenceIdeal_disc_regular m →
    θ_run (Cert.DiscReferenceIdeal.defs (F := Ideal)) (onTc (τ := Cert.DiscReferenceIdeal.τ) (Cert.DiscReferenceIdeal.main (F := Ideal))) ⟨m, fun _ => 0, g⟩ (fun r => (∀ c : Dev Cert.DiscReferenceIdeal.nD,
      r.2.mem ((c.tc : Thread Cert.DiscReferenceIdeal.nD Cert.DiscReferenceIdeal.τ).loc Cert.DiscReferenceIdeal.main_arg0) = m ((c.tc : Thread Cert.DiscReferenceIdeal.nD Cert.DiscReferenceIdeal.τ).loc Cert.DiscReferenceIdeal.main_arg0)
      ∧ r.2.mem ((c.tc : Thread Cert.DiscReferenceIdeal.nD Cert.DiscReferenceIdeal.τ).loc Cert.DiscReferenceIdeal.main_arg1) = m ((c.tc : Thread Cert.DiscReferenceIdeal.nD Cert.DiscReferenceIdeal.τ).loc Cert.DiscReferenceIdeal.main_arg1)
      ∧ r.2.mem ((c.tc : Thread Cert.DiscReferenceIdeal.nD Cert.DiscReferenceIdeal.τ).loc Cert.DiscReferenceIdeal.main_arg2) = m ((c.tc : Thread Cert.DiscReferenceIdeal.nD Cert.DiscReferenceIdeal.τ).loc Cert.DiscReferenceIdeal.main_arg2)
      ∧ r.2.mem ((c.tc : Thread Cert.DiscReferenceIdeal.nD Cert.DiscReferenceIdeal.τ).loc Cert.DiscReferenceIdeal.main_arg3) = m ((c.tc : Thread Cert.DiscReferenceIdeal.nD Cert.DiscReferenceIdeal.τ).loc Cert.DiscReferenceIdeal.main_arg3)
      ∧ r.2.mem ((c.tc : Thread Cert.DiscReferenceIdeal.nD Cert.DiscReferenceIdeal.τ).loc Cert.DiscReferenceIdeal.main_arg4) = m ((c.tc : Thread Cert.DiscReferenceIdeal.nD Cert.DiscReferenceIdeal.τ).loc Cert.DiscReferenceIdeal.main_arg4)
      ∧ r.2.mem ((c.tc : Thread Cert.DiscReferenceIdeal.nD Cert.DiscReferenceIdeal.τ).loc Cert.DiscReferenceIdeal.main_arg5) = m ((c.tc : Thread Cert.DiscReferenceIdeal.nD Cert.DiscReferenceIdeal.τ).loc Cert.DiscReferenceIdeal.main_arg5)
      ∧ r.2.mem ((c.tc : Thread Cert.DiscReferenceIdeal.nD Cert.DiscReferenceIdeal.τ).loc Cert.DiscReferenceIdeal.main_arg6) = m ((c.tc : Thread Cert.DiscReferenceIdeal.nD Cert.DiscReferenceIdeal.τ).loc Cert.DiscReferenceIdeal.main_arg6)
      ∧ r.2.mem ((c.tc : Thread Cert.DiscReferenceIdeal.nD Cert.DiscReferenceIdeal.τ).loc Cert.DiscReferenceIdeal.main_arg7) = m ((c.tc : Thread Cert.DiscReferenceIdeal.nD Cert.DiscReferenceIdeal.τ).loc Cert.DiscReferenceIdeal.main_arg7)
      ∧ r.2.mem ((c.tc : Thread Cert.DiscReferenceIdeal.nD Cert.DiscReferenceIdeal.τ).loc Cert.DiscReferenceIdeal.main_arg8) = m ((c.tc : Thread Cert.DiscReferenceIdeal.nD Cert.DiscReferenceIdeal.τ).loc Cert.DiscReferenceIdeal.main_arg8))
      ∧ r.2.sem = fun _ => 0)

def quiescent_GlufKernel [hGlufKernel : Cert.GlufKernel.Facts] : Prop :=
  ∀ (m : (ℓ : Loc Cert.GlufKernel.nD Cert.GlufKernel.τ Cert.GlufKernel.sig) → Buf (Elt Bits) ℓ) (g : Dev Cert.GlufKernel.nD → PrngReg), Pre_GlufKernel m →
    θ_run (Cert.GlufKernel.defs (F := Bits)) (onTc (τ := Cert.GlufKernel.τ) (Cert.GlufKernel.main (F := Bits))) ⟨m, fun _ => 0, g⟩ (fun r => (∀ c : Dev Cert.GlufKernel.nD,
      r.2.mem ((c.tc : Thread Cert.GlufKernel.nD Cert.GlufKernel.τ).loc Cert.GlufKernel.main_arg0) = m ((c.tc : Thread Cert.GlufKernel.nD Cert.GlufKernel.τ).loc Cert.GlufKernel.main_arg0)
      ∧ r.2.mem ((c.tc : Thread Cert.GlufKernel.nD Cert.GlufKernel.τ).loc Cert.GlufKernel.main_arg1) = m ((c.tc : Thread Cert.GlufKernel.nD Cert.GlufKernel.τ).loc Cert.GlufKernel.main_arg1))
      ∧ r.2.sem = fun _ => 0)

def quiescent_GlufKernelIdeal [hGlufKernelIdeal : Cert.GlufKernelIdeal.Facts] : Prop :=
  ∀ (m : (ℓ : Loc Cert.GlufKernelIdeal.nD Cert.GlufKernelIdeal.τ Cert.GlufKernelIdeal.sig) → Buf (Elt Ideal) ℓ) (g : Dev Cert.GlufKernelIdeal.nD → PrngReg), Pre_GlufKernelIdeal m →
    θ_run (Cert.GlufKernelIdeal.defs (F := Ideal)) (onTc (τ := Cert.GlufKernelIdeal.τ) (Cert.GlufKernelIdeal.main (F := Ideal))) ⟨m, fun _ => 0, g⟩ (fun r => (∀ c : Dev Cert.GlufKernelIdeal.nD,
      r.2.mem ((c.tc : Thread Cert.GlufKernelIdeal.nD Cert.GlufKernelIdeal.τ).loc Cert.GlufKernelIdeal.main_arg0) = m ((c.tc : Thread Cert.GlufKernelIdeal.nD Cert.GlufKernelIdeal.τ).loc Cert.GlufKernelIdeal.main_arg0)
      ∧ r.2.mem ((c.tc : Thread Cert.GlufKernelIdeal.nD Cert.GlufKernelIdeal.τ).loc Cert.GlufKernelIdeal.main_arg1) = m ((c.tc : Thread Cert.GlufKernelIdeal.nD Cert.GlufKernelIdeal.τ).loc Cert.GlufKernelIdeal.main_arg1))
      ∧ r.2.sem = fun _ => 0)

def quiescent_GlufReferenceIdeal [hGlufReferenceIdeal : Cert.GlufReferenceIdeal.Facts] : Prop :=
  ∀ (m : (ℓ : Loc Cert.GlufReferenceIdeal.nD Cert.GlufReferenceIdeal.τ Cert.GlufReferenceIdeal.sig) → Buf (Elt Ideal) ℓ) (g : Dev Cert.GlufReferenceIdeal.nD → PrngReg), Pre_GlufReferenceIdeal m →
    θ_run (Cert.GlufReferenceIdeal.defs (F := Ideal)) (onTc (τ := Cert.GlufReferenceIdeal.τ) (Cert.GlufReferenceIdeal.main (F := Ideal))) ⟨m, fun _ => 0, g⟩ (fun r => (∀ c : Dev Cert.GlufReferenceIdeal.nD,
      r.2.mem ((c.tc : Thread Cert.GlufReferenceIdeal.nD Cert.GlufReferenceIdeal.τ).loc Cert.GlufReferenceIdeal.main_arg0) = m ((c.tc : Thread Cert.GlufReferenceIdeal.nD Cert.GlufReferenceIdeal.τ).loc Cert.GlufReferenceIdeal.main_arg0)
      ∧ r.2.mem ((c.tc : Thread Cert.GlufReferenceIdeal.nD Cert.GlufReferenceIdeal.τ).loc Cert.GlufReferenceIdeal.main_arg1) = m ((c.tc : Thread Cert.GlufReferenceIdeal.nD Cert.GlufReferenceIdeal.τ).loc Cert.GlufReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_DiscfKernel [hDiscfKernel : Cert.DiscfKernel.Facts] : Prop :=
  ∀ (m : (ℓ : Loc Cert.DiscfKernel.nD Cert.DiscfKernel.τ Cert.DiscfKernel.sig) → Buf (Elt Bits) ℓ) (g : Dev Cert.DiscfKernel.nD → PrngReg), Pre_DiscfKernel m →
    θ_run (Cert.DiscfKernel.defs (F := Bits)) (onTc (τ := Cert.DiscfKernel.τ) (Cert.DiscfKernel.main (F := Bits))) ⟨m, fun _ => 0, g⟩ (fun r => (∀ c : Dev Cert.DiscfKernel.nD,
      r.2.mem ((c.tc : Thread Cert.DiscfKernel.nD Cert.DiscfKernel.τ).loc Cert.DiscfKernel.main_arg0) = m ((c.tc : Thread Cert.DiscfKernel.nD Cert.DiscfKernel.τ).loc Cert.DiscfKernel.main_arg0)
      ∧ r.2.mem ((c.tc : Thread Cert.DiscfKernel.nD Cert.DiscfKernel.τ).loc Cert.DiscfKernel.main_arg1) = m ((c.tc : Thread Cert.DiscfKernel.nD Cert.DiscfKernel.τ).loc Cert.DiscfKernel.main_arg1)
      ∧ r.2.mem ((c.tc : Thread Cert.DiscfKernel.nD Cert.DiscfKernel.τ).loc Cert.DiscfKernel.main_arg2) = m ((c.tc : Thread Cert.DiscfKernel.nD Cert.DiscfKernel.τ).loc Cert.DiscfKernel.main_arg2)
      ∧ r.2.mem ((c.tc : Thread Cert.DiscfKernel.nD Cert.DiscfKernel.τ).loc Cert.DiscfKernel.main_arg3) = m ((c.tc : Thread Cert.DiscfKernel.nD Cert.DiscfKernel.τ).loc Cert.DiscfKernel.main_arg3)
      ∧ r.2.mem ((c.tc : Thread Cert.DiscfKernel.nD Cert.DiscfKernel.τ).loc Cert.DiscfKernel.main_arg4) = m ((c.tc : Thread Cert.DiscfKernel.nD Cert.DiscfKernel.τ).loc Cert.DiscfKernel.main_arg4))
      ∧ r.2.sem = fun _ => 0)

def quiescent_DiscfKernelIdeal [hDiscfKernelIdeal : Cert.DiscfKernelIdeal.Facts] : Prop :=
  ∀ (m : (ℓ : Loc Cert.DiscfKernelIdeal.nD Cert.DiscfKernelIdeal.τ Cert.DiscfKernelIdeal.sig) → Buf (Elt Ideal) ℓ) (g : Dev Cert.DiscfKernelIdeal.nD → PrngReg), Pre_DiscfKernelIdeal m →
    θ_run (Cert.DiscfKernelIdeal.defs (F := Ideal)) (onTc (τ := Cert.DiscfKernelIdeal.τ) (Cert.DiscfKernelIdeal.main (F := Ideal))) ⟨m, fun _ => 0, g⟩ (fun r => (∀ c : Dev Cert.DiscfKernelIdeal.nD,
      r.2.mem ((c.tc : Thread Cert.DiscfKernelIdeal.nD Cert.DiscfKernelIdeal.τ).loc Cert.DiscfKernelIdeal.main_arg0) = m ((c.tc : Thread Cert.DiscfKernelIdeal.nD Cert.DiscfKernelIdeal.τ).loc Cert.DiscfKernelIdeal.main_arg0)
      ∧ r.2.mem ((c.tc : Thread Cert.DiscfKernelIdeal.nD Cert.DiscfKernelIdeal.τ).loc Cert.DiscfKernelIdeal.main_arg1) = m ((c.tc : Thread Cert.DiscfKernelIdeal.nD Cert.DiscfKernelIdeal.τ).loc Cert.DiscfKernelIdeal.main_arg1)
      ∧ r.2.mem ((c.tc : Thread Cert.DiscfKernelIdeal.nD Cert.DiscfKernelIdeal.τ).loc Cert.DiscfKernelIdeal.main_arg2) = m ((c.tc : Thread Cert.DiscfKernelIdeal.nD Cert.DiscfKernelIdeal.τ).loc Cert.DiscfKernelIdeal.main_arg2)
      ∧ r.2.mem ((c.tc : Thread Cert.DiscfKernelIdeal.nD Cert.DiscfKernelIdeal.τ).loc Cert.DiscfKernelIdeal.main_arg3) = m ((c.tc : Thread Cert.DiscfKernelIdeal.nD Cert.DiscfKernelIdeal.τ).loc Cert.DiscfKernelIdeal.main_arg3)
      ∧ r.2.mem ((c.tc : Thread Cert.DiscfKernelIdeal.nD Cert.DiscfKernelIdeal.τ).loc Cert.DiscfKernelIdeal.main_arg4) = m ((c.tc : Thread Cert.DiscfKernelIdeal.nD Cert.DiscfKernelIdeal.τ).loc Cert.DiscfKernelIdeal.main_arg4))
      ∧ r.2.sem = fun _ => 0)

def quiescent_DiscfKernelIdeal_pre_disc_forward_regular [hDiscfKernelIdeal : Cert.DiscfKernelIdeal.Facts] [hPre_disc_forward_regular : Cert.Pre_disc_forward_regular.Facts] : Prop :=
  ∀ (m : (ℓ : Loc Cert.DiscfKernelIdeal.nD Cert.DiscfKernelIdeal.τ Cert.DiscfKernelIdeal.sig) → Buf (Elt Ideal) ℓ) (g : Dev Cert.DiscfKernelIdeal.nD → PrngReg), Pre_DiscfKernelIdeal_disc_forward_regular m →
    θ_run (Cert.DiscfKernelIdeal.defs (F := Ideal)) (onTc (τ := Cert.DiscfKernelIdeal.τ) (Cert.DiscfKernelIdeal.main (F := Ideal))) ⟨m, fun _ => 0, g⟩ (fun r => (∀ c : Dev Cert.DiscfKernelIdeal.nD,
      r.2.mem ((c.tc : Thread Cert.DiscfKernelIdeal.nD Cert.DiscfKernelIdeal.τ).loc Cert.DiscfKernelIdeal.main_arg0) = m ((c.tc : Thread Cert.DiscfKernelIdeal.nD Cert.DiscfKernelIdeal.τ).loc Cert.DiscfKernelIdeal.main_arg0)
      ∧ r.2.mem ((c.tc : Thread Cert.DiscfKernelIdeal.nD Cert.DiscfKernelIdeal.τ).loc Cert.DiscfKernelIdeal.main_arg1) = m ((c.tc : Thread Cert.DiscfKernelIdeal.nD Cert.DiscfKernelIdeal.τ).loc Cert.DiscfKernelIdeal.main_arg1)
      ∧ r.2.mem ((c.tc : Thread Cert.DiscfKernelIdeal.nD Cert.DiscfKernelIdeal.τ).loc Cert.DiscfKernelIdeal.main_arg2) = m ((c.tc : Thread Cert.DiscfKernelIdeal.nD Cert.DiscfKernelIdeal.τ).loc Cert.DiscfKernelIdeal.main_arg2)
      ∧ r.2.mem ((c.tc : Thread Cert.DiscfKernelIdeal.nD Cert.DiscfKernelIdeal.τ).loc Cert.DiscfKernelIdeal.main_arg3) = m ((c.tc : Thread Cert.DiscfKernelIdeal.nD Cert.DiscfKernelIdeal.τ).loc Cert.DiscfKernelIdeal.main_arg3)
      ∧ r.2.mem ((c.tc : Thread Cert.DiscfKernelIdeal.nD Cert.DiscfKernelIdeal.τ).loc Cert.DiscfKernelIdeal.main_arg4) = m ((c.tc : Thread Cert.DiscfKernelIdeal.nD Cert.DiscfKernelIdeal.τ).loc Cert.DiscfKernelIdeal.main_arg4))
      ∧ r.2.sem = fun _ => 0)

def quiescent_DiscfReferenceIdeal [hDiscfReferenceIdeal : Cert.DiscfReferenceIdeal.Facts] : Prop :=
  ∀ (m : (ℓ : Loc Cert.DiscfReferenceIdeal.nD Cert.DiscfReferenceIdeal.τ Cert.DiscfReferenceIdeal.sig) → Buf (Elt Ideal) ℓ) (g : Dev Cert.DiscfReferenceIdeal.nD → PrngReg), Pre_DiscfReferenceIdeal m →
    θ_run (Cert.DiscfReferenceIdeal.defs (F := Ideal)) (onTc (τ := Cert.DiscfReferenceIdeal.τ) (Cert.DiscfReferenceIdeal.main (F := Ideal))) ⟨m, fun _ => 0, g⟩ (fun r => (∀ c : Dev Cert.DiscfReferenceIdeal.nD,
      r.2.mem ((c.tc : Thread Cert.DiscfReferenceIdeal.nD Cert.DiscfReferenceIdeal.τ).loc Cert.DiscfReferenceIdeal.main_arg0) = m ((c.tc : Thread Cert.DiscfReferenceIdeal.nD Cert.DiscfReferenceIdeal.τ).loc Cert.DiscfReferenceIdeal.main_arg0)
      ∧ r.2.mem ((c.tc : Thread Cert.DiscfReferenceIdeal.nD Cert.DiscfReferenceIdeal.τ).loc Cert.DiscfReferenceIdeal.main_arg1) = m ((c.tc : Thread Cert.DiscfReferenceIdeal.nD Cert.DiscfReferenceIdeal.τ).loc Cert.DiscfReferenceIdeal.main_arg1)
      ∧ r.2.mem ((c.tc : Thread Cert.DiscfReferenceIdeal.nD Cert.DiscfReferenceIdeal.τ).loc Cert.DiscfReferenceIdeal.main_arg2) = m ((c.tc : Thread Cert.DiscfReferenceIdeal.nD Cert.DiscfReferenceIdeal.τ).loc Cert.DiscfReferenceIdeal.main_arg2)
      ∧ r.2.mem ((c.tc : Thread Cert.DiscfReferenceIdeal.nD Cert.DiscfReferenceIdeal.τ).loc Cert.DiscfReferenceIdeal.main_arg3) = m ((c.tc : Thread Cert.DiscfReferenceIdeal.nD Cert.DiscfReferenceIdeal.τ).loc Cert.DiscfReferenceIdeal.main_arg3)
      ∧ r.2.mem ((c.tc : Thread Cert.DiscfReferenceIdeal.nD Cert.DiscfReferenceIdeal.τ).loc Cert.DiscfReferenceIdeal.main_arg4) = m ((c.tc : Thread Cert.DiscfReferenceIdeal.nD Cert.DiscfReferenceIdeal.τ).loc Cert.DiscfReferenceIdeal.main_arg4))
      ∧ r.2.sem = fun _ => 0)

def quiescent_DiscfReferenceIdeal_pre_disc_forward_regular [hDiscfReferenceIdeal : Cert.DiscfReferenceIdeal.Facts] [hPre_disc_forward_regular : Cert.Pre_disc_forward_regular.Facts] : Prop :=
  ∀ (m : (ℓ : Loc Cert.DiscfReferenceIdeal.nD Cert.DiscfReferenceIdeal.τ Cert.DiscfReferenceIdeal.sig) → Buf (Elt Ideal) ℓ) (g : Dev Cert.DiscfReferenceIdeal.nD → PrngReg), Pre_DiscfReferenceIdeal_disc_forward_regular m →
    θ_run (Cert.DiscfReferenceIdeal.defs (F := Ideal)) (onTc (τ := Cert.DiscfReferenceIdeal.τ) (Cert.DiscfReferenceIdeal.main (F := Ideal))) ⟨m, fun _ => 0, g⟩ (fun r => (∀ c : Dev Cert.DiscfReferenceIdeal.nD,
      r.2.mem ((c.tc : Thread Cert.DiscfReferenceIdeal.nD Cert.DiscfReferenceIdeal.τ).loc Cert.DiscfReferenceIdeal.main_arg0) = m ((c.tc : Thread Cert.DiscfReferenceIdeal.nD Cert.DiscfReferenceIdeal.τ).loc Cert.DiscfReferenceIdeal.main_arg0)
      ∧ r.2.mem ((c.tc : Thread Cert.DiscfReferenceIdeal.nD Cert.DiscfReferenceIdeal.τ).loc Cert.DiscfReferenceIdeal.main_arg1) = m ((c.tc : Thread Cert.DiscfReferenceIdeal.nD Cert.DiscfReferenceIdeal.τ).loc Cert.DiscfReferenceIdeal.main_arg1)
      ∧ r.2.mem ((c.tc : Thread Cert.DiscfReferenceIdeal.nD Cert.DiscfReferenceIdeal.τ).loc Cert.DiscfReferenceIdeal.main_arg2) = m ((c.tc : Thread Cert.DiscfReferenceIdeal.nD Cert.DiscfReferenceIdeal.τ).loc Cert.DiscfReferenceIdeal.main_arg2)
      ∧ r.2.mem ((c.tc : Thread Cert.DiscfReferenceIdeal.nD Cert.DiscfReferenceIdeal.τ).loc Cert.DiscfReferenceIdeal.main_arg3) = m ((c.tc : Thread Cert.DiscfReferenceIdeal.nD Cert.DiscfReferenceIdeal.τ).loc Cert.DiscfReferenceIdeal.main_arg3)
      ∧ r.2.mem ((c.tc : Thread Cert.DiscfReferenceIdeal.nD Cert.DiscfReferenceIdeal.τ).loc Cert.DiscfReferenceIdeal.main_arg4) = m ((c.tc : Thread Cert.DiscfReferenceIdeal.nD Cert.DiscfReferenceIdeal.τ).loc Cert.DiscfReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_SumcKernel [hSumcKernel : Cert.SumcKernel.Facts] : Prop :=
  ∀ (m : (ℓ : Loc Cert.SumcKernel.nD Cert.SumcKernel.τ Cert.SumcKernel.sig) → Buf (Elt Bits) ℓ) (g : Dev Cert.SumcKernel.nD → PrngReg), Pre_SumcKernel m →
    θ_run (Cert.SumcKernel.defs (F := Bits)) (onTc (τ := Cert.SumcKernel.τ) (Cert.SumcKernel.main (F := Bits))) ⟨m, fun _ => 0, g⟩ (fun r => (∀ c : Dev Cert.SumcKernel.nD,
      r.2.mem ((c.tc : Thread Cert.SumcKernel.nD Cert.SumcKernel.τ).loc Cert.SumcKernel.main_arg0) = m ((c.tc : Thread Cert.SumcKernel.nD Cert.SumcKernel.τ).loc Cert.SumcKernel.main_arg0)
      ∧ r.2.mem ((c.tc : Thread Cert.SumcKernel.nD Cert.SumcKernel.τ).loc Cert.SumcKernel.main_arg1) = m ((c.tc : Thread Cert.SumcKernel.nD Cert.SumcKernel.τ).loc Cert.SumcKernel.main_arg1))
      ∧ r.2.sem = fun _ => 0)

def quiescent_SumcKernelIdeal [hSumcKernelIdeal : Cert.SumcKernelIdeal.Facts] : Prop :=
  ∀ (m : (ℓ : Loc Cert.SumcKernelIdeal.nD Cert.SumcKernelIdeal.τ Cert.SumcKernelIdeal.sig) → Buf (Elt Ideal) ℓ) (g : Dev Cert.SumcKernelIdeal.nD → PrngReg), Pre_SumcKernelIdeal m →
    θ_run (Cert.SumcKernelIdeal.defs (F := Ideal)) (onTc (τ := Cert.SumcKernelIdeal.τ) (Cert.SumcKernelIdeal.main (F := Ideal))) ⟨m, fun _ => 0, g⟩ (fun r => (∀ c : Dev Cert.SumcKernelIdeal.nD,
      r.2.mem ((c.tc : Thread Cert.SumcKernelIdeal.nD Cert.SumcKernelIdeal.τ).loc Cert.SumcKernelIdeal.main_arg0) = m ((c.tc : Thread Cert.SumcKernelIdeal.nD Cert.SumcKernelIdeal.τ).loc Cert.SumcKernelIdeal.main_arg0)
      ∧ r.2.mem ((c.tc : Thread Cert.SumcKernelIdeal.nD Cert.SumcKernelIdeal.τ).loc Cert.SumcKernelIdeal.main_arg1) = m ((c.tc : Thread Cert.SumcKernelIdeal.nD Cert.SumcKernelIdeal.τ).loc Cert.SumcKernelIdeal.main_arg1))
      ∧ r.2.sem = fun _ => 0)

def quiescent_SumcReferenceIdeal [hSumcReferenceIdeal : Cert.SumcReferenceIdeal.Facts] : Prop :=
  ∀ (m : (ℓ : Loc Cert.SumcReferenceIdeal.nD Cert.SumcReferenceIdeal.τ Cert.SumcReferenceIdeal.sig) → Buf (Elt Ideal) ℓ) (g : Dev Cert.SumcReferenceIdeal.nD → PrngReg), Pre_SumcReferenceIdeal m →
    θ_run (Cert.SumcReferenceIdeal.defs (F := Ideal)) (onTc (τ := Cert.SumcReferenceIdeal.τ) (Cert.SumcReferenceIdeal.main (F := Ideal))) ⟨m, fun _ => 0, g⟩ (fun r => (∀ c : Dev Cert.SumcReferenceIdeal.nD,
      r.2.mem ((c.tc : Thread Cert.SumcReferenceIdeal.nD Cert.SumcReferenceIdeal.τ).loc Cert.SumcReferenceIdeal.main_arg0) = m ((c.tc : Thread Cert.SumcReferenceIdeal.nD Cert.SumcReferenceIdeal.τ).loc Cert.SumcReferenceIdeal.main_arg0)
      ∧ r.2.mem ((c.tc : Thread Cert.SumcReferenceIdeal.nD Cert.SumcReferenceIdeal.τ).loc Cert.SumcReferenceIdeal.main_arg1) = m ((c.tc : Thread Cert.SumcReferenceIdeal.nD Cert.SumcReferenceIdeal.τ).loc Cert.SumcReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4))
      ∧ r.2.sem = fun _ => 0)

def quiescent_RepKernel [hRepKernel : Cert.RepKernel.Facts] : Prop :=
  ∀ (m : (ℓ : Loc Cert.RepKernel.nD Cert.RepKernel.τ Cert.RepKernel.sig) → Buf (Elt Bits) ℓ) (g : Dev Cert.RepKernel.nD → PrngReg), Pre_RepKernel m →
    θ_run (Cert.RepKernel.defs (F := Bits)) (onTc (τ := Cert.RepKernel.τ) (Cert.RepKernel.main (F := Bits))) ⟨m, fun _ => 0, g⟩ (fun r => (∀ c : Dev Cert.RepKernel.nD,
      r.2.mem ((c.tc : Thread Cert.RepKernel.nD Cert.RepKernel.τ).loc Cert.RepKernel.main_arg0) = m ((c.tc : Thread Cert.RepKernel.nD Cert.RepKernel.τ).loc Cert.RepKernel.main_arg0)
      ∧ r.2.mem ((c.tc : Thread Cert.RepKernel.nD Cert.RepKernel.τ).loc Cert.RepKernel.main_arg1) = m ((c.tc : Thread Cert.RepKernel.nD Cert.RepKernel.τ).loc Cert.RepKernel.main_arg1)
      ∧ r.2.mem ((c.tc : Thread Cert.RepKernel.nD Cert.RepKernel.τ).loc Cert.RepKernel.main_arg2) = m ((c.tc : Thread Cert.RepKernel.nD Cert.RepKernel.τ).loc Cert.RepKernel.main_arg2)
      ∧ r.2.mem ((c.tc : Thread Cert.RepKernel.nD Cert.RepKernel.τ).loc Cert.RepKernel.main_arg3) = m ((c.tc : Thread Cert.RepKernel.nD Cert.RepKernel.τ).loc Cert.RepKernel.main_arg3))
      ∧ r.2.sem = fun _ => 0)

def quiescent_RepKernelIdeal [hRepKernelIdeal : Cert.RepKernelIdeal.Facts] : Prop :=
  ∀ (m : (ℓ : Loc Cert.RepKernelIdeal.nD Cert.RepKernelIdeal.τ Cert.RepKernelIdeal.sig) → Buf (Elt Ideal) ℓ) (g : Dev Cert.RepKernelIdeal.nD → PrngReg), Pre_RepKernelIdeal m →
    θ_run (Cert.RepKernelIdeal.defs (F := Ideal)) (onTc (τ := Cert.RepKernelIdeal.τ) (Cert.RepKernelIdeal.main (F := Ideal))) ⟨m, fun _ => 0, g⟩ (fun r => (∀ c : Dev Cert.RepKernelIdeal.nD,
      r.2.mem ((c.tc : Thread Cert.RepKernelIdeal.nD Cert.RepKernelIdeal.τ).loc Cert.RepKernelIdeal.main_arg0) = m ((c.tc : Thread Cert.RepKernelIdeal.nD Cert.RepKernelIdeal.τ).loc Cert.RepKernelIdeal.main_arg0)
      ∧ r.2.mem ((c.tc : Thread Cert.RepKernelIdeal.nD Cert.RepKernelIdeal.τ).loc Cert.RepKernelIdeal.main_arg1) = m ((c.tc : Thread Cert.RepKernelIdeal.nD Cert.RepKernelIdeal.τ).loc Cert.RepKernelIdeal.main_arg1)
      ∧ r.2.mem ((c.tc : Thread Cert.RepKernelIdeal.nD Cert.RepKernelIdeal.τ).loc Cert.RepKernelIdeal.main_arg2) = m ((c.tc : Thread Cert.RepKernelIdeal.nD Cert.RepKernelIdeal.τ).loc Cert.RepKernelIdeal.main_arg2)
      ∧ r.2.mem ((c.tc : Thread Cert.RepKernelIdeal.nD Cert.RepKernelIdeal.τ).loc Cert.RepKernelIdeal.main_arg3) = m ((c.tc : Thread Cert.RepKernelIdeal.nD Cert.RepKernelIdeal.τ).loc Cert.RepKernelIdeal.main_arg3))
      ∧ r.2.sem = fun _ => 0)

def quiescent_RepReferenceIdeal [hRepReferenceIdeal : Cert.RepReferenceIdeal.Facts] : Prop :=
  ∀ (m : (ℓ : Loc Cert.RepReferenceIdeal.nD Cert.RepReferenceIdeal.τ Cert.RepReferenceIdeal.sig) → Buf (Elt Ideal) ℓ) (g : Dev Cert.RepReferenceIdeal.nD → PrngReg), Pre_RepReferenceIdeal m →
    θ_run (Cert.RepReferenceIdeal.defs (F := Ideal)) (onTc (τ := Cert.RepReferenceIdeal.τ) (Cert.RepReferenceIdeal.main (F := Ideal))) ⟨m, fun _ => 0, g⟩ (fun r => (∀ c : Dev Cert.RepReferenceIdeal.nD,
      r.2.mem ((c.tc : Thread Cert.RepReferenceIdeal.nD Cert.RepReferenceIdeal.τ).loc Cert.RepReferenceIdeal.main_arg0) = m ((c.tc : Thread Cert.RepReferenceIdeal.nD Cert.RepReferenceIdeal.τ).loc Cert.RepReferenceIdeal.main_arg0)
      ∧ r.2.mem ((c.tc : Thread Cert.RepReferenceIdeal.nD Cert.RepReferenceIdeal.τ).loc Cert.RepReferenceIdeal.main_arg1) = m ((c.tc : Thread Cert.RepReferenceIdeal.nD Cert.RepReferenceIdeal.τ).loc Cert.RepReferenceIdeal.main_arg1)
      ∧ r.2.mem ((c.tc : Thread Cert.RepReferenceIdeal.nD Cert.RepReferenceIdeal.τ).loc Cert.RepReferenceIdeal.main_arg2) = m ((c.tc : Thread Cert.RepReferenceIdeal.nD Cert.RepReferenceIdeal.τ).loc Cert.RepReferenceIdeal.main_arg2)
      ∧ r.2.mem ((c.tc : Thread Cert.RepReferenceIdeal.nD Cert.RepReferenceIdeal.τ).loc Cert.RepReferenceIdeal.main_arg3) = m ((c.tc : Thread Cert.RepReferenceIdeal.nD Cert.RepReferenceIdeal.τ).loc Cert.RepReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2))
      ∧ r.2.sem = fun _ => 0)

def quiescent_LrufKernel [hLrufKernel : Cert.LrufKernel.Facts] : Prop :=
  ∀ (m : (ℓ : Loc Cert.LrufKernel.nD Cert.LrufKernel.τ Cert.LrufKernel.sig) → Buf (Elt Bits) ℓ) (g : Dev Cert.LrufKernel.nD → PrngReg), Pre_LrufKernel m →
    θ_run (Cert.LrufKernel.defs (F := Bits)) (onTc (τ := Cert.LrufKernel.τ) (Cert.LrufKernel.main (F := Bits))) ⟨m, fun _ => 0, g⟩ (fun r => (∀ c : Dev Cert.LrufKernel.nD,
      r.2.mem ((c.tc : Thread Cert.LrufKernel.nD Cert.LrufKernel.τ).loc Cert.LrufKernel.main_arg0) = m ((c.tc : Thread Cert.LrufKernel.nD Cert.LrufKernel.τ).loc Cert.LrufKernel.main_arg0)
      ∧ r.2.mem ((c.tc : Thread Cert.LrufKernel.nD Cert.LrufKernel.τ).loc Cert.LrufKernel.main_arg1) = m ((c.tc : Thread Cert.LrufKernel.nD Cert.LrufKernel.τ).loc Cert.LrufKernel.main_arg1)
      ∧ r.2.mem ((c.tc : Thread Cert.LrufKernel.nD Cert.LrufKernel.τ).loc Cert.LrufKernel.main_arg2) = m ((c.tc : Thread Cert.LrufKernel.nD Cert.LrufKernel.τ).loc Cert.LrufKernel.main_arg2)
      ∧ r.2.mem ((c.tc : Thread Cert.LrufKernel.nD Cert.LrufKernel.τ).loc Cert.LrufKernel.main_arg3) = m ((c.tc : Thread Cert.LrufKernel.nD Cert.LrufKernel.τ).loc Cert.LrufKernel.main_arg3)
      ∧ r.2.mem ((c.tc : Thread Cert.LrufKernel.nD Cert.LrufKernel.τ).loc Cert.LrufKernel.main_arg4) = m ((c.tc : Thread Cert.LrufKernel.nD Cert.LrufKernel.τ).loc Cert.LrufKernel.main_arg4)
      ∧ r.2.mem ((c.tc : Thread Cert.LrufKernel.nD Cert.LrufKernel.τ).loc Cert.LrufKernel.main_arg5) = m ((c.tc : Thread Cert.LrufKernel.nD Cert.LrufKernel.τ).loc Cert.LrufKernel.main_arg5)
      ∧ r.2.mem ((c.tc : Thread Cert.LrufKernel.nD Cert.LrufKernel.τ).loc Cert.LrufKernel.main_arg6) = m ((c.tc : Thread Cert.LrufKernel.nD Cert.LrufKernel.τ).loc Cert.LrufKernel.main_arg6)
      ∧ r.2.mem ((c.tc : Thread Cert.LrufKernel.nD Cert.LrufKernel.τ).loc Cert.LrufKernel.main_arg7) = m ((c.tc : Thread Cert.LrufKernel.nD Cert.LrufKernel.τ).loc Cert.LrufKernel.main_arg7))
      ∧ r.2.sem = fun _ => 0)

def quiescent_LrufKernelIdeal [hLrufKernelIdeal : Cert.LrufKernelIdeal.Facts] : Prop :=
  ∀ (m : (ℓ : Loc Cert.LrufKernelIdeal.nD Cert.LrufKernelIdeal.τ Cert.LrufKernelIdeal.sig) → Buf (Elt Ideal) ℓ) (g : Dev Cert.LrufKernelIdeal.nD → PrngReg), Pre_LrufKernelIdeal m →
    θ_run (Cert.LrufKernelIdeal.defs (F := Ideal)) (onTc (τ := Cert.LrufKernelIdeal.τ) (Cert.LrufKernelIdeal.main (F := Ideal))) ⟨m, fun _ => 0, g⟩ (fun r => (∀ c : Dev Cert.LrufKernelIdeal.nD,
      r.2.mem ((c.tc : Thread Cert.LrufKernelIdeal.nD Cert.LrufKernelIdeal.τ).loc Cert.LrufKernelIdeal.main_arg0) = m ((c.tc : Thread Cert.LrufKernelIdeal.nD Cert.LrufKernelIdeal.τ).loc Cert.LrufKernelIdeal.main_arg0)
      ∧ r.2.mem ((c.tc : Thread Cert.LrufKernelIdeal.nD Cert.LrufKernelIdeal.τ).loc Cert.LrufKernelIdeal.main_arg1) = m ((c.tc : Thread Cert.LrufKernelIdeal.nD Cert.LrufKernelIdeal.τ).loc Cert.LrufKernelIdeal.main_arg1)
      ∧ r.2.mem ((c.tc : Thread Cert.LrufKernelIdeal.nD Cert.LrufKernelIdeal.τ).loc Cert.LrufKernelIdeal.main_arg2) = m ((c.tc : Thread Cert.LrufKernelIdeal.nD Cert.LrufKernelIdeal.τ).loc Cert.LrufKernelIdeal.main_arg2)
      ∧ r.2.mem ((c.tc : Thread Cert.LrufKernelIdeal.nD Cert.LrufKernelIdeal.τ).loc Cert.LrufKernelIdeal.main_arg3) = m ((c.tc : Thread Cert.LrufKernelIdeal.nD Cert.LrufKernelIdeal.τ).loc Cert.LrufKernelIdeal.main_arg3)
      ∧ r.2.mem ((c.tc : Thread Cert.LrufKernelIdeal.nD Cert.LrufKernelIdeal.τ).loc Cert.LrufKernelIdeal.main_arg4) = m ((c.tc : Thread Cert.LrufKernelIdeal.nD Cert.LrufKernelIdeal.τ).loc Cert.LrufKernelIdeal.main_arg4)
      ∧ r.2.mem ((c.tc : Thread Cert.LrufKernelIdeal.nD Cert.LrufKernelIdeal.τ).loc Cert.LrufKernelIdeal.main_arg5) = m ((c.tc : Thread Cert.LrufKernelIdeal.nD Cert.LrufKernelIdeal.τ).loc Cert.LrufKernelIdeal.main_arg5)
      ∧ r.2.mem ((c.tc : Thread Cert.LrufKernelIdeal.nD Cert.LrufKernelIdeal.τ).loc Cert.LrufKernelIdeal.main_arg6) = m ((c.tc : Thread Cert.LrufKernelIdeal.nD Cert.LrufKernelIdeal.τ).loc Cert.LrufKernelIdeal.main_arg6)
      ∧ r.2.mem ((c.tc : Thread Cert.LrufKernelIdeal.nD Cert.LrufKernelIdeal.τ).loc Cert.LrufKernelIdeal.main_arg7) = m ((c.tc : Thread Cert.LrufKernelIdeal.nD Cert.LrufKernelIdeal.τ).loc Cert.LrufKernelIdeal.main_arg7))
      ∧ r.2.sem = fun _ => 0)

def quiescent_LrufKernelIdeal_pre_lru_decays [hLrufKernelIdeal : Cert.LrufKernelIdeal.Facts] [hPre_lru_decays : Cert.Pre_lru_decays.Facts] : Prop :=
  ∀ (m : (ℓ : Loc Cert.LrufKernelIdeal.nD Cert.LrufKernelIdeal.τ Cert.LrufKernelIdeal.sig) → Buf (Elt Ideal) ℓ) (g : Dev Cert.LrufKernelIdeal.nD → PrngReg), Pre_LrufKernelIdeal_lru_decays m →
    θ_run (Cert.LrufKernelIdeal.defs (F := Ideal)) (onTc (τ := Cert.LrufKernelIdeal.τ) (Cert.LrufKernelIdeal.main (F := Ideal))) ⟨m, fun _ => 0, g⟩ (fun r => (∀ c : Dev Cert.LrufKernelIdeal.nD,
      r.2.mem ((c.tc : Thread Cert.LrufKernelIdeal.nD Cert.LrufKernelIdeal.τ).loc Cert.LrufKernelIdeal.main_arg0) = m ((c.tc : Thread Cert.LrufKernelIdeal.nD Cert.LrufKernelIdeal.τ).loc Cert.LrufKernelIdeal.main_arg0)
      ∧ r.2.mem ((c.tc : Thread Cert.LrufKernelIdeal.nD Cert.LrufKernelIdeal.τ).loc Cert.LrufKernelIdeal.main_arg1) = m ((c.tc : Thread Cert.LrufKernelIdeal.nD Cert.LrufKernelIdeal.τ).loc Cert.LrufKernelIdeal.main_arg1)
      ∧ r.2.mem ((c.tc : Thread Cert.LrufKernelIdeal.nD Cert.LrufKernelIdeal.τ).loc Cert.LrufKernelIdeal.main_arg2) = m ((c.tc : Thread Cert.LrufKernelIdeal.nD Cert.LrufKernelIdeal.τ).loc Cert.LrufKernelIdeal.main_arg2)
      ∧ r.2.mem ((c.tc : Thread Cert.LrufKernelIdeal.nD Cert.LrufKernelIdeal.τ).loc Cert.LrufKernelIdeal.main_arg3) = m ((c.tc : Thread Cert.LrufKernelIdeal.nD Cert.LrufKernelIdeal.τ).loc Cert.LrufKernelIdeal.main_arg3)
      ∧ r.2.mem ((c.tc : Thread Cert.LrufKernelIdeal.nD Cert.LrufKernelIdeal.τ).loc Cert.LrufKernelIdeal.main_arg4) = m ((c.tc : Thread Cert.LrufKernelIdeal.nD Cert.LrufKernelIdeal.τ).loc Cert.LrufKernelIdeal.main_arg4)
      ∧ r.2.mem ((c.tc : Thread Cert.LrufKernelIdeal.nD Cert.LrufKernelIdeal.τ).loc Cert.LrufKernelIdeal.main_arg5) = m ((c.tc : Thread Cert.LrufKernelIdeal.nD Cert.LrufKernelIdeal.τ).loc Cert.LrufKernelIdeal.main_arg5)
      ∧ r.2.mem ((c.tc : Thread Cert.LrufKernelIdeal.nD Cert.LrufKernelIdeal.τ).loc Cert.LrufKernelIdeal.main_arg6) = m ((c.tc : Thread Cert.LrufKernelIdeal.nD Cert.LrufKernelIdeal.τ).loc Cert.LrufKernelIdeal.main_arg6)
      ∧ r.2.mem ((c.tc : Thread Cert.LrufKernelIdeal.nD Cert.LrufKernelIdeal.τ).loc Cert.LrufKernelIdeal.main_arg7) = m ((c.tc : Thread Cert.LrufKernelIdeal.nD Cert.LrufKernelIdeal.τ).loc Cert.LrufKernelIdeal.main_arg7))
      ∧ r.2.sem = fun _ => 0)

def quiescent_LrufReferenceIdeal [hLrufReferenceIdeal : Cert.LrufReferenceIdeal.Facts] : Prop :=
  ∀ (m : (ℓ : Loc Cert.LrufReferenceIdeal.nD Cert.LrufReferenceIdeal.τ Cert.LrufReferenceIdeal.sig) → Buf (Elt Ideal) ℓ) (g : Dev Cert.LrufReferenceIdeal.nD → PrngReg), Pre_LrufReferenceIdeal m →
    θ_run (Cert.LrufReferenceIdeal.defs (F := Ideal)) (onTc (τ := Cert.LrufReferenceIdeal.τ) (Cert.LrufReferenceIdeal.main (F := Ideal))) ⟨m, fun _ => 0, g⟩ (fun r => (∀ c : Dev Cert.LrufReferenceIdeal.nD,
      r.2.mem ((c.tc : Thread Cert.LrufReferenceIdeal.nD Cert.LrufReferenceIdeal.τ).loc Cert.LrufReferenceIdeal.main_arg0) = m ((c.tc : Thread Cert.LrufReferenceIdeal.nD Cert.LrufReferenceIdeal.τ).loc Cert.LrufReferenceIdeal.main_arg0)
      ∧ r.2.mem ((c.tc : Thread Cert.LrufReferenceIdeal.nD Cert.LrufReferenceIdeal.τ).loc Cert.LrufReferenceIdeal.main_arg1) = m ((c.tc : Thread Cert.LrufReferenceIdeal.nD Cert.LrufReferenceIdeal.τ).loc Cert.LrufReferenceIdeal.main_arg1)
      ∧ r.2.mem ((c.tc : Thread Cert.LrufReferenceIdeal.nD Cert.LrufReferenceIdeal.τ).loc Cert.LrufReferenceIdeal.main_arg2) = m ((c.tc : Thread Cert.LrufReferenceIdeal.nD Cert.LrufReferenceIdeal.τ).loc Cert.LrufReferenceIdeal.main_arg2)
      ∧ r.2.mem ((c.tc : Thread Cert.LrufReferenceIdeal.nD Cert.LrufReferenceIdeal.τ).loc Cert.LrufReferenceIdeal.main_arg3) = m ((c.tc : Thread Cert.LrufReferenceIdeal.nD Cert.LrufReferenceIdeal.τ).loc Cert.LrufReferenceIdeal.main_arg3)
      ∧ r.2.mem ((c.tc : Thread Cert.LrufReferenceIdeal.nD Cert.LrufReferenceIdeal.τ).loc Cert.LrufReferenceIdeal.main_arg4) = m ((c.tc : Thread Cert.LrufReferenceIdeal.nD Cert.LrufReferenceIdeal.τ).loc Cert.LrufReferenceIdeal.main_arg4)
      ∧ r.2.mem ((c.tc : Thread Cert.LrufReferenceIdeal.nD Cert.LrufReferenceIdeal.τ).loc Cert.LrufReferenceIdeal.main_arg5) = m ((c.tc : Thread Cert.LrufReferenceIdeal.nD Cert.LrufReferenceIdeal.τ).loc Cert.LrufReferenceIdeal.main_arg5)
      ∧ r.2.mem ((c.tc : Thread Cert.LrufReferenceIdeal.nD Cert.LrufReferenceIdeal.τ).loc Cert.LrufReferenceIdeal.main_arg6) = m ((c.tc : Thread Cert.LrufReferenceIdeal.nD Cert.LrufReferenceIdeal.τ).loc Cert.LrufReferenceIdeal.main_arg6)
      ∧ r.2.mem ((c.tc : Thread Cert.LrufReferenceIdeal.nD Cert.LrufReferenceIdeal.τ).loc Cert.LrufReferenceIdeal.main_arg7) = m ((c.tc : Thread Cert.LrufReferenceIdeal.nD Cert.LrufReferenceIdeal.τ).loc Cert.LrufReferenceIdeal.main_arg7))
      ∧ r.2.sem = fun _ => 0)

def quiescent_LrufReferenceIdeal_pre_lru_decays [hLrufReferenceIdeal : Cert.LrufReferenceIdeal.Facts] [hPre_lru_decays : Cert.Pre_lru_decays.Facts] : Prop :=
  ∀ (m : (ℓ : Loc Cert.LrufReferenceIdeal.nD Cert.LrufReferenceIdeal.τ Cert.LrufReferenceIdeal.sig) → Buf (Elt Ideal) ℓ) (g : Dev Cert.LrufReferenceIdeal.nD → PrngReg), Pre_LrufReferenceIdeal_lru_decays m →
    θ_run (Cert.LrufReferenceIdeal.defs (F := Ideal)) (onTc (τ := Cert.LrufReferenceIdeal.τ) (Cert.LrufReferenceIdeal.main (F := Ideal))) ⟨m, fun _ => 0, g⟩ (fun r => (∀ c : Dev Cert.LrufReferenceIdeal.nD,
      r.2.mem ((c.tc : Thread Cert.LrufReferenceIdeal.nD Cert.LrufReferenceIdeal.τ).loc Cert.LrufReferenceIdeal.main_arg0) = m ((c.tc : Thread Cert.LrufReferenceIdeal.nD Cert.LrufReferenceIdeal.τ).loc Cert.LrufReferenceIdeal.main_arg0)
      ∧ r.2.mem ((c.tc : Thread Cert.LrufReferenceIdeal.nD Cert.LrufReferenceIdeal.τ).loc Cert.LrufReferenceIdeal.main_arg1) = m ((c.tc : Thread Cert.LrufReferenceIdeal.nD Cert.LrufReferenceIdeal.τ).loc Cert.LrufReferenceIdeal.main_arg1)
      ∧ r.2.mem ((c.tc : Thread Cert.LrufReferenceIdeal.nD Cert.LrufReferenceIdeal.τ).loc Cert.LrufReferenceIdeal.main_arg2) = m ((c.tc : Thread Cert.LrufReferenceIdeal.nD Cert.LrufReferenceIdeal.τ).loc Cert.LrufReferenceIdeal.main_arg2)
      ∧ r.2.mem ((c.tc : Thread Cert.LrufReferenceIdeal.nD Cert.LrufReferenceIdeal.τ).loc Cert.LrufReferenceIdeal.main_arg3) = m ((c.tc : Thread Cert.LrufReferenceIdeal.nD Cert.LrufReferenceIdeal.τ).loc Cert.LrufReferenceIdeal.main_arg3)
      ∧ r.2.mem ((c.tc : Thread Cert.LrufReferenceIdeal.nD Cert.LrufReferenceIdeal.τ).loc Cert.LrufReferenceIdeal.main_arg4) = m ((c.tc : Thread Cert.LrufReferenceIdeal.nD Cert.LrufReferenceIdeal.τ).loc Cert.LrufReferenceIdeal.main_arg4)
      ∧ r.2.mem ((c.tc : Thread Cert.LrufReferenceIdeal.nD Cert.LrufReferenceIdeal.τ).loc Cert.LrufReferenceIdeal.main_arg5) = m ((c.tc : Thread Cert.LrufReferenceIdeal.nD Cert.LrufReferenceIdeal.τ).loc Cert.LrufReferenceIdeal.main_arg5)
      ∧ r.2.mem ((c.tc : Thread Cert.LrufReferenceIdeal.nD Cert.LrufReferenceIdeal.τ).loc Cert.LrufReferenceIdeal.main_arg6) = m ((c.tc : Thread Cert.LrufReferenceIdeal.nD Cert.LrufReferenceIdeal.τ).loc Cert.LrufReferenceIdeal.main_arg6)
      ∧ r.2.mem ((c.tc : Thread Cert.LrufReferenceIdeal.nD Cert.LrufReferenceIdeal.τ).loc Cert.LrufReferenceIdeal.main_arg7) = m ((c.tc : Thread Cert.LrufReferenceIdeal.nD Cert.LrufReferenceIdeal.τ).loc Cert.LrufReferenceIdeal.main_arg7))
      ∧ r.2.sem = fun _ => 0)

def quiescent_S5fKernel [hS5fKernel : Cert.S5fKernel.Facts] : Prop :=
  ∀ (m : (ℓ : Loc Cert.S5fKernel.nD Cert.S5fKernel.τ Cert.S5fKernel.sig) → Buf (Elt Bits) ℓ) (g : Dev Cert.S5fKernel.nD → PrngReg), Pre_S5fKernel m →
    θ_run (Cert.S5fKernel.defs (F := Bits)) (onTc (τ := Cert.S5fKernel.τ) (Cert.S5fKernel.main (F := Bits))) ⟨m, fun _ => 0, g⟩ (fun r => (∀ c : Dev Cert.S5fKernel.nD,
      r.2.mem ((c.tc : Thread Cert.S5fKernel.nD Cert.S5fKernel.τ).loc Cert.S5fKernel.main_arg0) = m ((c.tc : Thread Cert.S5fKernel.nD Cert.S5fKernel.τ).loc Cert.S5fKernel.main_arg0)
      ∧ r.2.mem ((c.tc : Thread Cert.S5fKernel.nD Cert.S5fKernel.τ).loc Cert.S5fKernel.main_arg1) = m ((c.tc : Thread Cert.S5fKernel.nD Cert.S5fKernel.τ).loc Cert.S5fKernel.main_arg1)
      ∧ r.2.mem ((c.tc : Thread Cert.S5fKernel.nD Cert.S5fKernel.τ).loc Cert.S5fKernel.main_arg2) = m ((c.tc : Thread Cert.S5fKernel.nD Cert.S5fKernel.τ).loc Cert.S5fKernel.main_arg2)
      ∧ r.2.mem ((c.tc : Thread Cert.S5fKernel.nD Cert.S5fKernel.τ).loc Cert.S5fKernel.main_arg3) = m ((c.tc : Thread Cert.S5fKernel.nD Cert.S5fKernel.τ).loc Cert.S5fKernel.main_arg3)
      ∧ r.2.mem ((c.tc : Thread Cert.S5fKernel.nD Cert.S5fKernel.τ).loc Cert.S5fKernel.main_arg4) = m ((c.tc : Thread Cert.S5fKernel.nD Cert.S5fKernel.τ).loc Cert.S5fKernel.main_arg4)
      ∧ r.2.mem ((c.tc : Thread Cert.S5fKernel.nD Cert.S5fKernel.τ).loc Cert.S5fKernel.main_arg5) = m ((c.tc : Thread Cert.S5fKernel.nD Cert.S5fKernel.τ).loc Cert.S5fKernel.main_arg5)
      ∧ r.2.mem ((c.tc : Thread Cert.S5fKernel.nD Cert.S5fKernel.τ).loc Cert.S5fKernel.main_arg6) = m ((c.tc : Thread Cert.S5fKernel.nD Cert.S5fKernel.τ).loc Cert.S5fKernel.main_arg6)
      ∧ r.2.mem ((c.tc : Thread Cert.S5fKernel.nD Cert.S5fKernel.τ).loc Cert.S5fKernel.main_arg7) = m ((c.tc : Thread Cert.S5fKernel.nD Cert.S5fKernel.τ).loc Cert.S5fKernel.main_arg7))
      ∧ r.2.sem = fun _ => 0)

def quiescent_S5fKernelIdeal [hS5fKernelIdeal : Cert.S5fKernelIdeal.Facts] : Prop :=
  ∀ (m : (ℓ : Loc Cert.S5fKernelIdeal.nD Cert.S5fKernelIdeal.τ Cert.S5fKernelIdeal.sig) → Buf (Elt Ideal) ℓ) (g : Dev Cert.S5fKernelIdeal.nD → PrngReg), Pre_S5fKernelIdeal m →
    θ_run (Cert.S5fKernelIdeal.defs (F := Ideal)) (onTc (τ := Cert.S5fKernelIdeal.τ) (Cert.S5fKernelIdeal.main (F := Ideal))) ⟨m, fun _ => 0, g⟩ (fun r => (∀ c : Dev Cert.S5fKernelIdeal.nD,
      r.2.mem ((c.tc : Thread Cert.S5fKernelIdeal.nD Cert.S5fKernelIdeal.τ).loc Cert.S5fKernelIdeal.main_arg0) = m ((c.tc : Thread Cert.S5fKernelIdeal.nD Cert.S5fKernelIdeal.τ).loc Cert.S5fKernelIdeal.main_arg0)
      ∧ r.2.mem ((c.tc : Thread Cert.S5fKernelIdeal.nD Cert.S5fKernelIdeal.τ).loc Cert.S5fKernelIdeal.main_arg1) = m ((c.tc : Thread Cert.S5fKernelIdeal.nD Cert.S5fKernelIdeal.τ).loc Cert.S5fKernelIdeal.main_arg1)
      ∧ r.2.mem ((c.tc : Thread Cert.S5fKernelIdeal.nD Cert.S5fKernelIdeal.τ).loc Cert.S5fKernelIdeal.main_arg2) = m ((c.tc : Thread Cert.S5fKernelIdeal.nD Cert.S5fKernelIdeal.τ).loc Cert.S5fKernelIdeal.main_arg2)
      ∧ r.2.mem ((c.tc : Thread Cert.S5fKernelIdeal.nD Cert.S5fKernelIdeal.τ).loc Cert.S5fKernelIdeal.main_arg3) = m ((c.tc : Thread Cert.S5fKernelIdeal.nD Cert.S5fKernelIdeal.τ).loc Cert.S5fKernelIdeal.main_arg3)
      ∧ r.2.mem ((c.tc : Thread Cert.S5fKernelIdeal.nD Cert.S5fKernelIdeal.τ).loc Cert.S5fKernelIdeal.main_arg4) = m ((c.tc : Thread Cert.S5fKernelIdeal.nD Cert.S5fKernelIdeal.τ).loc Cert.S5fKernelIdeal.main_arg4)
      ∧ r.2.mem ((c.tc : Thread Cert.S5fKernelIdeal.nD Cert.S5fKernelIdeal.τ).loc Cert.S5fKernelIdeal.main_arg5) = m ((c.tc : Thread Cert.S5fKernelIdeal.nD Cert.S5fKernelIdeal.τ).loc Cert.S5fKernelIdeal.main_arg5)
      ∧ r.2.mem ((c.tc : Thread Cert.S5fKernelIdeal.nD Cert.S5fKernelIdeal.τ).loc Cert.S5fKernelIdeal.main_arg6) = m ((c.tc : Thread Cert.S5fKernelIdeal.nD Cert.S5fKernelIdeal.τ).loc Cert.S5fKernelIdeal.main_arg6)
      ∧ r.2.mem ((c.tc : Thread Cert.S5fKernelIdeal.nD Cert.S5fKernelIdeal.τ).loc Cert.S5fKernelIdeal.main_arg7) = m ((c.tc : Thread Cert.S5fKernelIdeal.nD Cert.S5fKernelIdeal.τ).loc Cert.S5fKernelIdeal.main_arg7))
      ∧ r.2.sem = fun _ => 0)

def quiescent_DwinKernel [hDwinKernel : Cert.DwinKernel.Facts] : Prop :=
  ∀ (m : (ℓ : Loc Cert.DwinKernel.nD Cert.DwinKernel.τ Cert.DwinKernel.sig) → Buf (Elt Bits) ℓ) (g : Dev Cert.DwinKernel.nD → PrngReg), Pre_DwinKernel m →
    θ_run (Cert.DwinKernel.defs (F := Bits)) (onTc (τ := Cert.DwinKernel.τ) (Cert.DwinKernel.main (F := Bits))) ⟨m, fun _ => 0, g⟩ (fun r => (∀ c : Dev Cert.DwinKernel.nD,
      r.2.mem ((c.tc : Thread Cert.DwinKernel.nD Cert.DwinKernel.τ).loc Cert.DwinKernel.main_arg0) = m ((c.tc : Thread Cert.DwinKernel.nD Cert.DwinKernel.τ).loc Cert.DwinKernel.main_arg0)
      ∧ r.2.mem ((c.tc : Thread Cert.DwinKernel.nD Cert.DwinKernel.τ).loc Cert.DwinKernel.main_arg1) = m ((c.tc : Thread Cert.DwinKernel.nD Cert.DwinKernel.τ).loc Cert.DwinKernel.main_arg1)
      ∧ r.2.mem ((c.tc : Thread Cert.DwinKernel.nD Cert.DwinKernel.τ).loc Cert.DwinKernel.main_arg2) = m ((c.tc : Thread Cert.DwinKernel.nD Cert.DwinKernel.τ).loc Cert.DwinKernel.main_arg2)
      ∧ r.2.mem ((c.tc : Thread Cert.DwinKernel.nD Cert.DwinKernel.τ).loc Cert.DwinKernel.main_arg3) = m ((c.tc : Thread Cert.DwinKernel.nD Cert.DwinKernel.τ).loc Cert.DwinKernel.main_arg3)
      ∧ r.2.mem ((c.tc : Thread Cert.DwinKernel.nD Cert.DwinKernel.τ).loc Cert.DwinKernel.main_arg4) = m ((c.tc : Thread Cert.DwinKernel.nD Cert.DwinKernel.τ).loc Cert.DwinKernel.main_arg4))
      ∧ r.2.sem = fun _ => 0)

def quiescent_DwinKernelIdeal [hDwinKernelIdeal : Cert.DwinKernelIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg), Pre_DwinKernelIdeal m →
    θ_run (Cert.DwinKernelIdeal.defs (F := Ideal)) (onTc (τ := Cert.DwinKernelIdeal.τ) (Cert.DwinKernelIdeal.main (F := Ideal))) ⟨m, fun _ => 0, g⟩ (fun r => (∀ c : Dev Cert.DwinKernelIdeal.nD,
      r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
      ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1)
      ∧ r.2.mem ((c.tc : Thread Cert.DwinKernelIdeal.nD Cert.DwinKernelIdeal.τ).loc Cert.DwinKernelIdeal.main_arg2) = m ((c.tc : Thread Cert.DwinKernelIdeal.nD Cert.DwinKernelIdeal.τ).loc Cert.DwinKernelIdeal.main_arg2)
      ∧ r.2.mem ((c.tc : Thread Cert.DwinKernelIdeal.nD Cert.DwinKernelIdeal.τ).loc Cert.DwinKernelIdeal.main_arg3) = m ((c.tc : Thread Cert.DwinKernelIdeal.nD Cert.DwinKernelIdeal.τ).loc Cert.DwinKernelIdeal.main_arg3)
      ∧ r.2.mem ((c.tc : Thread Cert.DwinKernelIdeal.nD Cert.DwinKernelIdeal.τ).loc Cert.DwinKernelIdeal.main_arg4) = m ((c.tc : Thread Cert.DwinKernelIdeal.nD Cert.DwinKernelIdeal.τ).loc Cert.DwinKernelIdeal.main_arg4))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1)
      ∧ r.2.mem ((c.tc : Thread Cert.DwinReferenceIdeal.nD Cert.DwinReferenceIdeal.τ).loc Cert.DwinReferenceIdeal.main_arg2) = m ((c.tc : Thread Cert.DwinReferenceIdeal.nD Cert.DwinReferenceIdeal.τ).loc Cert.DwinReferenceIdeal.main_arg2)
      ∧ r.2.mem ((c.tc : Thread Cert.DwinReferenceIdeal.nD Cert.DwinReferenceIdeal.τ).loc Cert.DwinReferenceIdeal.main_arg3) = m ((c.tc : Thread Cert.DwinReferenceIdeal.nD Cert.DwinReferenceIdeal.τ).loc Cert.DwinReferenceIdeal.main_arg3)
      ∧ r.2.mem ((c.tc : Thread Cert.DwinReferenceIdeal.nD Cert.DwinReferenceIdeal.τ).loc Cert.DwinReferenceIdeal.main_arg4) = m ((c.tc : Thread Cert.DwinReferenceIdeal.nD Cert.DwinReferenceIdeal.τ).loc Cert.DwinReferenceIdeal.main_arg4))
      ∧ r.2.sem = fun _ => 0)

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)) →
    ∃ (v0 : (c : Dev Cert.GluKernelIdeal.nD) → Buf (Elt Ideal) ((c.tc : Thread Cert.GluKernelIdeal.nD Cert.GluKernelIdeal.τ).loc Cert.GluKernelIdeal.main_v1)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v1) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v16) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_SbKernel_SbKernelIdeal : Prop :=
  True

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)) →
    ∃ (v0 : (c : Dev Cert.SbKernelIdeal.nD) → Buf (Elt Ideal) ((c.tc : Thread Cert.SbKernelIdeal.nD Cert.SbKernelIdeal.τ).loc Cert.SbKernelIdeal.main_v5_0)) (v1 : (c : Dev Cert.SbKernelIdeal.nD) → Buf (Elt Ideal) ((c.tc : Thread Cert.SbKernelIdeal.nD Cert.SbKernelIdeal.τ).loc Cert.SbKernelIdeal.main_v5_1)) (v2 : (c : Dev Cert.SbKernelIdeal.nD) → Buf (Elt Ideal) ((c.tc : Thread Cert.SbKernelIdeal.nD Cert.SbKernelIdeal.τ).loc Cert.SbKernelIdeal.main_v19)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v5_0) = v0 c
          ∧ r.2.mem ((c.tc : Thread Cert.SbKernelIdeal.nD Cert.SbKernelIdeal.τ).loc Cert.SbKernelIdeal.main_v5_1) = v1 c
          ∧ r.2.mem ((c.tc : Thread Cert.SbKernelIdeal.nD Cert.SbKernelIdeal.τ).loc Cert.SbKernelIdeal.main_v19) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v29) = v0 c
          ∧ r.2.mem ((c.tc : Thread Cert.SbReferenceIdeal.nD Cert.SbReferenceIdeal.τ).loc Cert.SbReferenceIdeal.main_v31) = v1 c
          ∧ r.2.mem ((c.tc : Thread Cert.SbReferenceIdeal.nD Cert.SbReferenceIdeal.τ).loc Cert.SbReferenceIdeal.main_v62) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1))

def preserves_DguKernel_DguKernelIdeal : Prop :=
  True

def algebraic_DguKernelIdeal_DguReferenceIdeal [hDguKernelIdeal : Cert.DguKernelIdeal.Facts] [hDguReferenceIdeal : Cert.DguReferenceIdeal.Facts] : Prop :=
  ∀ (m : (ℓ : Loc Cert.DguKernelIdeal.nD Cert.DguKernelIdeal.τ Cert.DguKernelIdeal.sig) → Buf (Elt Ideal) ℓ) (g : Dev Cert.DguKernelIdeal.nD → PrngReg)
    (m' : (ℓ : Loc Cert.DguReferenceIdeal.nD Cert.DguReferenceIdeal.τ Cert.DguReferenceIdeal.sig) → Buf (Elt Ideal) ℓ) (g' : Dev Cert.DguReferenceIdeal.nD → PrngReg), Pre_DguKernelIdeal m →
    (∀ c : Dev Cert.DguKernelIdeal.nD,
      m' ((c.tc : Thread Cert.DguReferenceIdeal.nD Cert.DguReferenceIdeal.τ).loc Cert.DguReferenceIdeal.main_arg0) = m ((c.tc : Thread Cert.DguKernelIdeal.nD Cert.DguKernelIdeal.τ).loc Cert.DguKernelIdeal.main_arg0)
      ∧ m' ((c.tc : Thread Cert.DguReferenceIdeal.nD Cert.DguReferenceIdeal.τ).loc Cert.DguReferenceIdeal.main_arg1) = m ((c.tc : Thread Cert.DguKernelIdeal.nD Cert.DguKernelIdeal.τ).loc Cert.DguKernelIdeal.main_arg1)
      ∧ m' ((c.tc : Thread Cert.DguReferenceIdeal.nD Cert.DguReferenceIdeal.τ).loc Cert.DguReferenceIdeal.main_arg2) = m ((c.tc : Thread Cert.DguKernelIdeal.nD Cert.DguKernelIdeal.τ).loc Cert.DguKernelIdeal.main_arg2)
      ∧ m' ((c.tc : Thread Cert.DguReferenceIdeal.nD Cert.DguReferenceIdeal.τ).loc Cert.DguReferenceIdeal.main_arg3) = m ((c.tc : Thread Cert.DguKernelIdeal.nD Cert.DguKernelIdeal.τ).loc Cert.DguKernelIdeal.main_arg3)) →
    ∃ (v0 : (c : Dev Cert.DguKernelIdeal.nD) → Buf (Elt Ideal) ((c.tc : Thread Cert.DguKernelIdeal.nD Cert.DguKernelIdeal.τ).loc Cert.DguKernelIdeal.main_v5)),
      θ_run (Cert.DguKernelIdeal.defs (F := Ideal)) (onTc (τ := Cert.DguKernelIdeal.τ) (Cert.DguKernelIdeal.main (F := Ideal))) ⟨m, fun _ => 0, g⟩ (fun r => ∀ c : Dev Cert.DguKernelIdeal.nD,
          r.2.mem ((c.tc : Thread Cert.DguKernelIdeal.nD Cert.DguKernelIdeal.τ).loc Cert.DguKernelIdeal.main_v5) = v0 c
          ∧ r.2.mem ((c.tc : Thread Cert.DguKernelIdeal.nD Cert.DguKernelIdeal.τ).loc Cert.DguKernelIdeal.main_arg0) = m ((c.tc : Thread Cert.DguKernelIdeal.nD Cert.DguKernelIdeal.τ).loc Cert.DguKernelIdeal.main_arg0)
          ∧ r.2.mem ((c.tc : Thread Cert.DguKernelIdeal.nD Cert.DguKernelIdeal.τ).loc Cert.DguKernelIdeal.main_arg1) = m ((c.tc : Thread Cert.DguKernelIdeal.nD Cert.DguKernelIdeal.τ).loc Cert.DguKernelIdeal.main_arg1)
          ∧ r.2.mem ((c.tc : Thread Cert.DguKernelIdeal.nD Cert.DguKernelIdeal.τ).loc Cert.DguKernelIdeal.main_arg2) = m ((c.tc : Thread Cert.DguKernelIdeal.nD Cert.DguKernelIdeal.τ).loc Cert.DguKernelIdeal.main_arg2)
          ∧ r.2.mem ((c.tc : Thread Cert.DguKernelIdeal.nD Cert.DguKernelIdeal.τ).loc Cert.DguKernelIdeal.main_arg3) = m ((c.tc : Thread Cert.DguKernelIdeal.nD Cert.DguKernelIdeal.τ).loc Cert.DguKernelIdeal.main_arg3))
      ∧ θ_run (Cert.DguReferenceIdeal.defs (F := Ideal)) (onTc (τ := Cert.DguReferenceIdeal.τ) (Cert.DguReferenceIdeal.main (F := Ideal))) ⟨m', fun _ => 0, g'⟩ (fun r => ∀ c : Dev Cert.DguReferenceIdeal.nD,
          r.2.mem ((c.tc : Thread Cert.DguReferenceIdeal.nD Cert.DguReferenceIdeal.τ).loc Cert.DguReferenceIdeal.main_v14) = v0 c
          ∧ r.2.mem ((c.tc : Thread Cert.DguReferenceIdeal.nD Cert.DguReferenceIdeal.τ).loc Cert.DguReferenceIdeal.main_arg0) = m' ((c.tc : Thread Cert.DguReferenceIdeal.nD Cert.DguReferenceIdeal.τ).loc Cert.DguReferenceIdeal.main_arg0)
          ∧ r.2.mem ((c.tc : Thread Cert.DguReferenceIdeal.nD Cert.DguReferenceIdeal.τ).loc Cert.DguReferenceIdeal.main_arg1) = m' ((c.tc : Thread Cert.DguReferenceIdeal.nD Cert.DguReferenceIdeal.τ).loc Cert.DguReferenceIdeal.main_arg1)
          ∧ r.2.mem ((c.tc : Thread Cert.DguReferenceIdeal.nD Cert.DguReferenceIdeal.τ).loc Cert.DguReferenceIdeal.main_arg2) = m' ((c.tc : Thread Cert.DguReferenceIdeal.nD Cert.DguReferenceIdeal.τ).loc Cert.DguReferenceIdeal.main_arg2)
          ∧ r.2.mem ((c.tc : Thread Cert.DguReferenceIdeal.nD Cert.DguReferenceIdeal.τ).loc Cert.DguReferenceIdeal.main_arg3) = m' ((c.tc : Thread Cert.DguReferenceIdeal.nD Cert.DguReferenceIdeal.τ).loc Cert.DguReferenceIdeal.main_arg3))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v3_0)) (v1 : (c : Dev Cert.MixKernelIdeal.nD) → Buf (Elt Ideal) ((c.tc : Thread Cert.MixKernelIdeal.nD Cert.MixKernelIdeal.τ).loc Cert.MixKernelIdeal.main_v3_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v3_0) = v0 c
          ∧ r.2.mem ((c.tc : Thread Cert.MixKernelIdeal.nD Cert.MixKernelIdeal.τ).loc Cert.MixKernelIdeal.main_v3_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v38) = v0 c
          ∧ r.2.mem ((c.tc : Thread Cert.MixReferenceIdeal.nD Cert.MixReferenceIdeal.τ).loc Cert.MixReferenceIdeal.main_v39) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_DhnKernel_DhnKernelIdeal : Prop :=
  True

def algebraic_DhnKernelIdeal_DhnReferenceIdeal [hDhnKernelIdeal : Cert.DhnKernelIdeal.Facts] [hDhnReferenceIdeal : Cert.DhnReferenceIdeal.Facts] : Prop :=
  ∀ (m : (ℓ : Loc Cert.DhnKernelIdeal.nD Cert.DhnKernelIdeal.τ Cert.DhnKernelIdeal.sig) → Buf (Elt Ideal) ℓ) (g : Dev Cert.DhnKernelIdeal.nD → PrngReg)
    (m' : (ℓ : Loc Cert.DhnReferenceIdeal.nD Cert.DhnReferenceIdeal.τ Cert.DhnReferenceIdeal.sig) → Buf (Elt Ideal) ℓ) (g' : Dev Cert.DhnReferenceIdeal.nD → PrngReg), Pre_DhnKernelIdeal m →
    (∀ c : Dev Cert.DhnKernelIdeal.nD,
      m' ((c.tc : Thread Cert.DhnReferenceIdeal.nD Cert.DhnReferenceIdeal.τ).loc Cert.DhnReferenceIdeal.main_arg0) = m ((c.tc : Thread Cert.DhnKernelIdeal.nD Cert.DhnKernelIdeal.τ).loc Cert.DhnKernelIdeal.main_arg0)
      ∧ m' ((c.tc : Thread Cert.DhnReferenceIdeal.nD Cert.DhnReferenceIdeal.τ).loc Cert.DhnReferenceIdeal.main_arg1) = m ((c.tc : Thread Cert.DhnKernelIdeal.nD Cert.DhnKernelIdeal.τ).loc Cert.DhnKernelIdeal.main_arg1)
      ∧ m' ((c.tc : Thread Cert.DhnReferenceIdeal.nD Cert.DhnReferenceIdeal.τ).loc Cert.DhnReferenceIdeal.main_arg2) = m ((c.tc : Thread Cert.DhnKernelIdeal.nD Cert.DhnKernelIdeal.τ).loc Cert.DhnKernelIdeal.main_arg2)
      ∧ m' ((c.tc : Thread Cert.DhnReferenceIdeal.nD Cert.DhnReferenceIdeal.τ).loc Cert.DhnReferenceIdeal.main_arg3) = m ((c.tc : Thread Cert.DhnKernelIdeal.nD Cert.DhnKernelIdeal.τ).loc Cert.DhnKernelIdeal.main_arg3)
      ∧ m' ((c.tc : Thread Cert.DhnReferenceIdeal.nD Cert.DhnReferenceIdeal.τ).loc Cert.DhnReferenceIdeal.main_arg4) = m ((c.tc : Thread Cert.DhnKernelIdeal.nD Cert.DhnKernelIdeal.τ).loc Cert.DhnKernelIdeal.main_arg4)
      ∧ m' ((c.tc : Thread Cert.DhnReferenceIdeal.nD Cert.DhnReferenceIdeal.τ).loc Cert.DhnReferenceIdeal.main_arg5) = m ((c.tc : Thread Cert.DhnKernelIdeal.nD Cert.DhnKernelIdeal.τ).loc Cert.DhnKernelIdeal.main_arg5)) →
    ∃ (v0 : (c : Dev Cert.DhnKernelIdeal.nD) → Buf (Elt Ideal) ((c.tc : Thread Cert.DhnKernelIdeal.nD Cert.DhnKernelIdeal.τ).loc Cert.DhnKernelIdeal.main_v6_0)) (v1 : (c : Dev Cert.DhnKernelIdeal.nD) → Buf (Elt Ideal) ((c.tc : Thread Cert.DhnKernelIdeal.nD Cert.DhnKernelIdeal.τ).loc Cert.DhnKernelIdeal.main_v6_1)),
      θ_run (Cert.DhnKernelIdeal.defs (F := Ideal)) (onTc (τ := Cert.DhnKernelIdeal.τ) (Cert.DhnKernelIdeal.main (F := Ideal))) ⟨m, fun _ => 0, g⟩ (fun r => ∀ c : Dev Cert.DhnKernelIdeal.nD,
          r.2.mem ((c.tc : Thread Cert.DhnKernelIdeal.nD Cert.DhnKernelIdeal.τ).loc Cert.DhnKernelIdeal.main_v6_0) = v0 c
          ∧ r.2.mem ((c.tc : Thread Cert.DhnKernelIdeal.nD Cert.DhnKernelIdeal.τ).loc Cert.DhnKernelIdeal.main_v6_1) = v1 c
          ∧ r.2.mem ((c.tc : Thread Cert.DhnKernelIdeal.nD Cert.DhnKernelIdeal.τ).loc Cert.DhnKernelIdeal.main_arg0) = m ((c.tc : Thread Cert.DhnKernelIdeal.nD Cert.DhnKernelIdeal.τ).loc Cert.DhnKernelIdeal.main_arg0)
          ∧ r.2.mem ((c.tc : Thread Cert.DhnKernelIdeal.nD Cert.DhnKernelIdeal.τ).loc Cert.DhnKernelIdeal.main_arg1) = m ((c.tc : Thread Cert.DhnKernelIdeal.nD Cert.DhnKernelIdeal.τ).loc Cert.DhnKernelIdeal.main_arg1)
          ∧ r.2.mem ((c.tc : Thread Cert.DhnKernelIdeal.nD Cert.DhnKernelIdeal.τ).loc Cert.DhnKernelIdeal.main_arg2) = m ((c.tc : Thread Cert.DhnKernelIdeal.nD Cert.DhnKernelIdeal.τ).loc Cert.DhnKernelIdeal.main_arg2)
          ∧ r.2.mem ((c.tc : Thread Cert.DhnKernelIdeal.nD Cert.DhnKernelIdeal.τ).loc Cert.DhnKernelIdeal.main_arg3) = m ((c.tc : Thread Cert.DhnKernelIdeal.nD Cert.DhnKernelIdeal.τ).loc Cert.DhnKernelIdeal.main_arg3)
          ∧ r.2.mem ((c.tc : Thread Cert.DhnKernelIdeal.nD Cert.DhnKernelIdeal.τ).loc Cert.DhnKernelIdeal.main_arg4) = m ((c.tc : Thread Cert.DhnKernelIdeal.nD Cert.DhnKernelIdeal.τ).loc Cert.DhnKernelIdeal.main_arg4)
          ∧ r.2.mem ((c.tc : Thread Cert.DhnKernelIdeal.nD Cert.DhnKernelIdeal.τ).loc Cert.DhnKernelIdeal.main_arg5) = m ((c.tc : Thread Cert.DhnKernelIdeal.nD Cert.DhnKernelIdeal.τ).loc Cert.DhnKernelIdeal.main_arg5))
      ∧ θ_run (Cert.DhnReferenceIdeal.defs (F := Ideal)) (onTc (τ := Cert.DhnReferenceIdeal.τ) (Cert.DhnReferenceIdeal.main (F := Ideal))) ⟨m', fun _ => 0, g'⟩ (fun r => ∀ c : Dev Cert.DhnReferenceIdeal.nD,
          r.2.mem ((c.tc : Thread Cert.DhnReferenceIdeal.nD Cert.DhnReferenceIdeal.τ).loc Cert.DhnReferenceIdeal.main_v41) = v0 c
          ∧ r.2.mem ((c.tc : Thread Cert.DhnReferenceIdeal.nD Cert.DhnReferenceIdeal.τ).loc Cert.DhnReferenceIdeal.main_v42) = v1 c
          ∧ r.2.mem ((c.tc : Thread Cert.DhnReferenceIdeal.nD Cert.DhnReferenceIdeal.τ).loc Cert.DhnReferenceIdeal.main_arg0) = m' ((c.tc : Thread Cert.DhnReferenceIdeal.nD Cert.DhnReferenceIdeal.τ).loc Cert.DhnReferenceIdeal.main_arg0)
          ∧ r.2.mem ((c.tc : Thread Cert.DhnReferenceIdeal.nD Cert.DhnReferenceIdeal.τ).loc Cert.DhnReferenceIdeal.main_arg1) = m' ((c.tc : Thread Cert.DhnReferenceIdeal.nD Cert.DhnReferenceIdeal.τ).loc Cert.DhnReferenceIdeal.main_arg1)
          ∧ r.2.mem ((c.tc : Thread Cert.DhnReferenceIdeal.nD Cert.DhnReferenceIdeal.τ).loc Cert.DhnReferenceIdeal.main_arg2) = m' ((c.tc : Thread Cert.DhnReferenceIdeal.nD Cert.DhnReferenceIdeal.τ).loc Cert.DhnReferenceIdeal.main_arg2)
          ∧ r.2.mem ((c.tc : Thread Cert.DhnReferenceIdeal.nD Cert.DhnReferenceIdeal.τ).loc Cert.DhnReferenceIdeal.main_arg3) = m' ((c.tc : Thread Cert.DhnReferenceIdeal.nD Cert.DhnReferenceIdeal.τ).loc Cert.DhnReferenceIdeal.main_arg3)
          ∧ r.2.mem ((c.tc : Thread Cert.DhnReferenceIdeal.nD Cert.DhnReferenceIdeal.τ).loc Cert.DhnReferenceIdeal.main_arg4) = m' ((c.tc : Thread Cert.DhnReferenceIdeal.nD Cert.DhnReferenceIdeal.τ).loc Cert.DhnReferenceIdeal.main_arg4)
          ∧ r.2.mem ((c.tc : Thread Cert.DhnReferenceIdeal.nD Cert.DhnReferenceIdeal.τ).loc Cert.DhnReferenceIdeal.main_arg5) = m' ((c.tc : Thread Cert.DhnReferenceIdeal.nD Cert.DhnReferenceIdeal.τ).loc Cert.DhnReferenceIdeal.main_arg5))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3)) (v1 : (c : Dev Cert.LossKernelIdeal.nD) → Buf (Elt Ideal) ((c.tc : Thread Cert.LossKernelIdeal.nD Cert.LossKernelIdeal.τ).loc Cert.LossKernelIdeal.main_v1_0)) (v2 : (c : Dev Cert.LossKernelIdeal.nD) → Buf (Elt Ideal) ((c.tc : Thread Cert.LossKernelIdeal.nD Cert.LossKernelIdeal.τ).loc Cert.LossKernelIdeal.main_v4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3) = v0 c
          ∧ r.2.mem ((c.tc : Thread Cert.LossKernelIdeal.nD Cert.LossKernelIdeal.τ).loc Cert.LossKernelIdeal.main_v1_0) = v1 c
          ∧ r.2.mem ((c.tc : Thread Cert.LossKernelIdeal.nD Cert.LossKernelIdeal.τ).loc Cert.LossKernelIdeal.main_v4) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v24) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v36) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_DiscKernel_DiscKernelIdeal : Prop :=
  True

def algebraic_DiscKernelIdeal_DiscReferenceIdeal_pre_disc_regular [hDiscKernelIdeal : Cert.DiscKernelIdeal.Facts] [hDiscReferenceIdeal : Cert.DiscReferenceIdeal.Facts] [hPre_disc_regular : Cert.Pre_disc_regular.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg)
    (m' : (ℓ : Loc Cert.DiscReferenceIdeal.nD Cert.DiscReferenceIdeal.τ Cert.DiscReferenceIdeal.sig) → Buf (Elt Ideal) ℓ) (g' : Dev Cert.DiscReferenceIdeal.nD → PrngReg), Pre_DiscKernelIdeal_disc_regular m →
    (∀ c : Dev Cert.DiscKernelIdeal.nD,
      m' ((c.tc : Thread Cert.DiscReferenceIdeal.nD Cert.DiscReferenceIdeal.τ).loc Cert.DiscReferenceIdeal.main_arg0) = m ((c.tc : Thread Cert.DiscKernelIdeal.nD Cert.DiscKernelIdeal.τ).loc Cert.DiscKernelIdeal.main_arg0)
      ∧ m' ((c.tc : Thread Cert.DiscReferenceIdeal.nD Cert.DiscReferenceIdeal.τ).loc Cert.DiscReferenceIdeal.main_arg1) = m ((c.tc : Thread Cert.DiscKernelIdeal.nD Cert.DiscKernelIdeal.τ).loc Cert.DiscKernelIdeal.main_arg1)
      ∧ m' ((c.tc : Thread Cert.DiscReferenceIdeal.nD Cert.DiscReferenceIdeal.τ).loc Cert.DiscReferenceIdeal.main_arg2) = m ((c.tc : Thread Cert.DiscKernelIdeal.nD Cert.DiscKernelIdeal.τ).loc Cert.DiscKernelIdeal.main_arg2)
      ∧ m' ((c.tc : Thread Cert.DiscReferenceIdeal.nD Cert.DiscReferenceIdeal.τ).loc Cert.DiscReferenceIdeal.main_arg3) = m ((c.tc : Thread Cert.DiscKernelIdeal.nD Cert.DiscKernelIdeal.τ).loc Cert.DiscKernelIdeal.main_arg3)
      ∧ m' ((c.tc : Thread Cert.DiscReferenceIdeal.nD Cert.DiscReferenceIdeal.τ).loc Cert.DiscReferenceIdeal.main_arg4) = m ((c.tc : Thread Cert.DiscKernelIdeal.nD Cert.DiscKernelIdeal.τ).loc Cert.DiscKernelIdeal.main_arg4)
      ∧ m' ((c.tc : Thread Cert.DiscReferenceIdeal.nD Cert.DiscReferenceIdeal.τ).loc Cert.DiscReferenceIdeal.main_arg5) = m ((c.tc : Thread Cert.DiscKernelIdeal.nD Cert.DiscKernelIdeal.τ).loc Cert.DiscKernelIdeal.main_arg5)
      ∧ m' ((c.tc : Thread Cert.DiscReferenceIdeal.nD Cert.DiscReferenceIdeal.τ).loc Cert.DiscReferenceIdeal.main_arg6) = m ((c.tc : Thread Cert.DiscKernelIdeal.nD Cert.DiscKernelIdeal.τ).loc Cert.DiscKernelIdeal.main_arg6)
      ∧ m' ((c.tc : Thread Cert.DiscReferenceIdeal.nD Cert.DiscReferenceIdeal.τ).loc Cert.DiscReferenceIdeal.main_arg7) = m ((c.tc : Thread Cert.DiscKernelIdeal.nD Cert.DiscKernelIdeal.τ).loc Cert.DiscKernelIdeal.main_arg7)
      ∧ m' ((c.tc : Thread Cert.DiscReferenceIdeal.nD Cert.DiscReferenceIdeal.τ).loc Cert.DiscReferenceIdeal.main_arg8) = m ((c.tc : Thread Cert.DiscKernelIdeal.nD Cert.DiscKernelIdeal.τ).loc Cert.DiscKernelIdeal.main_arg8)) →
    ∃ (v0 : (c : Dev Cert.DiscKernelIdeal.nD) → Buf (Elt Ideal) ((c.tc : Thread Cert.DiscKernelIdeal.nD Cert.DiscKernelIdeal.τ).loc Cert.DiscKernelIdeal.main_v12)) (v1 : (c : Dev Cert.DiscKernelIdeal.nD) → Buf (Elt Ideal) ((c.tc : Thread Cert.DiscKernelIdeal.nD Cert.DiscKernelIdeal.τ).loc Cert.DiscKernelIdeal.main_v13)) (v2 : (c : Dev Cert.DiscKernelIdeal.nD) → Buf (Elt Ideal) ((c.tc : Thread Cert.DiscKernelIdeal.nD Cert.DiscKernelIdeal.τ).loc Cert.DiscKernelIdeal.main_v15)) (v3 : (c : Dev Cert.DiscKernelIdeal.nD) → Buf (Elt Ideal) ((c.tc : Thread Cert.DiscKernelIdeal.nD Cert.DiscKernelIdeal.τ).loc Cert.DiscKernelIdeal.main_v16)) (v4 : (c : Dev Cert.DiscKernelIdeal.nD) → Buf (Elt Ideal) ((c.tc : Thread Cert.DiscKernelIdeal.nD Cert.DiscKernelIdeal.τ).loc Cert.DiscKernelIdeal.main_v17)),
      θ_run (Cert.DiscKernelIdeal.defs (F := Ideal)) (onTc (τ := Cert.DiscKernelIdeal.τ) (Cert.DiscKernelIdeal.main (F := Ideal))) ⟨m, fun _ => 0, g⟩ (fun r => ∀ c : Dev Cert.DiscKernelIdeal.nD,
          r.2.mem ((c.tc : Thread Cert.DiscKernelIdeal.nD Cert.DiscKernelIdeal.τ).loc Cert.DiscKernelIdeal.main_v12) = v0 c
          ∧ r.2.mem ((c.tc : Thread Cert.DiscKernelIdeal.nD Cert.DiscKernelIdeal.τ).loc Cert.DiscKernelIdeal.main_v13) = v1 c
          ∧ r.2.mem ((c.tc : Thread Cert.DiscKernelIdeal.nD Cert.DiscKernelIdeal.τ).loc Cert.DiscKernelIdeal.main_v15) = v2 c
          ∧ r.2.mem ((c.tc : Thread Cert.DiscKernelIdeal.nD Cert.DiscKernelIdeal.τ).loc Cert.DiscKernelIdeal.main_v16) = v3 c
          ∧ r.2.mem ((c.tc : Thread Cert.DiscKernelIdeal.nD Cert.DiscKernelIdeal.τ).loc Cert.DiscKernelIdeal.main_v17) = v4 c
          ∧ r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
          ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
          ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
          ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
          ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
          ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
          ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
          ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
          ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8))
      ∧ θ_run (Cert.DiscReferenceIdeal.defs (F := Ideal)) (onTc (τ := Cert.DiscReferenceIdeal.τ) (Cert.DiscReferenceIdeal.main (F := Ideal))) ⟨m', fun _ => 0, g'⟩ (fun r => ∀ c : Dev Cert.DiscReferenceIdeal.nD,
          r.2.mem ((c.tc : Thread Cert.DiscReferenceIdeal.nD Cert.DiscReferenceIdeal.τ).loc Cert.DiscReferenceIdeal.main_v138) = v0 c
          ∧ r.2.mem ((c.tc : Thread Cert.DiscReferenceIdeal.nD Cert.DiscReferenceIdeal.τ).loc Cert.DiscReferenceIdeal.main_v130) = v1 c
          ∧ r.2.mem ((c.tc : Thread Cert.DiscReferenceIdeal.nD Cert.DiscReferenceIdeal.τ).loc Cert.DiscReferenceIdeal.main_v140) = v2 c
          ∧ r.2.mem ((c.tc : Thread Cert.DiscReferenceIdeal.nD Cert.DiscReferenceIdeal.τ).loc Cert.DiscReferenceIdeal.main_v71) = v3 c
          ∧ r.2.mem ((c.tc : Thread Cert.DiscReferenceIdeal.nD Cert.DiscReferenceIdeal.τ).loc Cert.DiscReferenceIdeal.main_v64) = v4 c
          ∧ r.2.mem ((c.tc : Thread Cert.DiscReferenceIdeal.nD Cert.DiscReferenceIdeal.τ).loc Cert.DiscReferenceIdeal.main_arg0) = m' ((c.tc : Thread Cert.DiscReferenceIdeal.nD Cert.DiscReferenceIdeal.τ).loc Cert.DiscReferenceIdeal.main_arg0)
          ∧ r.2.mem ((c.tc : Thread Cert.DiscReferenceIdeal.nD Cert.DiscReferenceIdeal.τ).loc Cert.DiscReferenceIdeal.main_arg1) = m' ((c.tc : Thread Cert.DiscReferenceIdeal.nD Cert.DiscReferenceIdeal.τ).loc Cert.DiscReferenceIdeal.main_arg1)
          ∧ r.2.mem ((c.tc : Thread Cert.DiscReferenceIdeal.nD Cert.DiscReferenceIdeal.τ).loc Cert.DiscReferenceIdeal.main_arg2) = m' ((c.tc : Thread Cert.DiscReferenceIdeal.nD Cert.DiscReferenceIdeal.τ).loc Cert.DiscReferenceIdeal.main_arg2)
          ∧ r.2.mem ((c.tc : Thread Cert.DiscReferenceIdeal.nD Cert.DiscReferenceIdeal.τ).loc Cert.DiscReferenceIdeal.main_arg3) = m' ((c.tc : Thread Cert.DiscReferenceIdeal.nD Cert.DiscReferenceIdeal.τ).loc Cert.DiscReferenceIdeal.main_arg3)
          ∧ r.2.mem ((c.tc : Thread Cert.DiscReferenceIdeal.nD Cert.DiscReferenceIdeal.τ).loc Cert.DiscReferenceIdeal.main_arg4) = m' ((c.tc : Thread Cert.DiscReferenceIdeal.nD Cert.DiscReferenceIdeal.τ).loc Cert.DiscReferenceIdeal.main_arg4)
          ∧ r.2.mem ((c.tc : Thread Cert.DiscReferenceIdeal.nD Cert.DiscReferenceIdeal.τ).loc Cert.DiscReferenceIdeal.main_arg5) = m' ((c.tc : Thread Cert.DiscReferenceIdeal.nD Cert.DiscReferenceIdeal.τ).loc Cert.DiscReferenceIdeal.main_arg5)
          ∧ r.2.mem ((c.tc : Thread Cert.DiscReferenceIdeal.nD Cert.DiscReferenceIdeal.τ).loc Cert.DiscReferenceIdeal.main_arg6) = m' ((c.tc : Thread Cert.DiscReferenceIdeal.nD Cert.DiscReferenceIdeal.τ).loc Cert.DiscReferenceIdeal.main_arg6)
          ∧ r.2.mem ((c.tc : Thread Cert.DiscReferenceIdeal.nD Cert.DiscReferenceIdeal.τ).loc Cert.DiscReferenceIdeal.main_arg7) = m' ((c.tc : Thread Cert.DiscReferenceIdeal.nD Cert.DiscReferenceIdeal.τ).loc Cert.DiscReferenceIdeal.main_arg7)
          ∧ r.2.mem ((c.tc : Thread Cert.DiscReferenceIdeal.nD Cert.DiscReferenceIdeal.τ).loc Cert.DiscReferenceIdeal.main_arg8) = m' ((c.tc : Thread Cert.DiscReferenceIdeal.nD Cert.DiscReferenceIdeal.τ).loc Cert.DiscReferenceIdeal.main_arg8))

def preserves_GlufKernel_GlufKernelIdeal : Prop :=
  True

def algebraic_GlufKernelIdeal_GlufReferenceIdeal [hGlufKernelIdeal : Cert.GlufKernelIdeal.Facts] [hGlufReferenceIdeal : Cert.GlufReferenceIdeal.Facts] : Prop :=
  ∀ (m : (ℓ : Loc Cert.GlufKernelIdeal.nD Cert.GlufKernelIdeal.τ Cert.GlufKernelIdeal.sig) → Buf (Elt Ideal) ℓ) (g : Dev Cert.GlufKernelIdeal.nD → PrngReg)
    (m' : (ℓ : Loc Cert.GlufReferenceIdeal.nD Cert.GlufReferenceIdeal.τ Cert.GlufReferenceIdeal.sig) → Buf (Elt Ideal) ℓ) (g' : Dev Cert.GlufReferenceIdeal.nD → PrngReg), Pre_GlufKernelIdeal m →
    (∀ c : Dev Cert.GlufKernelIdeal.nD,
      m' ((c.tc : Thread Cert.GlufReferenceIdeal.nD Cert.GlufReferenceIdeal.τ).loc Cert.GlufReferenceIdeal.main_arg0) = m ((c.tc : Thread Cert.GlufKernelIdeal.nD Cert.GlufKernelIdeal.τ).loc Cert.GlufKernelIdeal.main_arg0)
      ∧ m' ((c.tc : Thread Cert.GlufReferenceIdeal.nD Cert.GlufReferenceIdeal.τ).loc Cert.GlufReferenceIdeal.main_arg1) = m ((c.tc : Thread Cert.GlufKernelIdeal.nD Cert.GlufKernelIdeal.τ).loc Cert.GlufKernelIdeal.main_arg1)) →
    ∃ (v0 : (c : Dev Cert.GlufKernelIdeal.nD) → Buf (Elt Ideal) ((c.tc : Thread Cert.GlufKernelIdeal.nD Cert.GlufKernelIdeal.τ).loc Cert.GlufKernelIdeal.main_v1)),
      θ_run (Cert.GlufKernelIdeal.defs (F := Ideal)) (onTc (τ := Cert.GlufKernelIdeal.τ) (Cert.GlufKernelIdeal.main (F := Ideal))) ⟨m, fun _ => 0, g⟩ (fun r => ∀ c : Dev Cert.GlufKernelIdeal.nD,
          r.2.mem ((c.tc : Thread Cert.GlufKernelIdeal.nD Cert.GlufKernelIdeal.τ).loc Cert.GlufKernelIdeal.main_v1) = v0 c
          ∧ r.2.mem ((c.tc : Thread Cert.GlufKernelIdeal.nD Cert.GlufKernelIdeal.τ).loc Cert.GlufKernelIdeal.main_arg0) = m ((c.tc : Thread Cert.GlufKernelIdeal.nD Cert.GlufKernelIdeal.τ).loc Cert.GlufKernelIdeal.main_arg0)
          ∧ r.2.mem ((c.tc : Thread Cert.GlufKernelIdeal.nD Cert.GlufKernelIdeal.τ).loc Cert.GlufKernelIdeal.main_arg1) = m ((c.tc : Thread Cert.GlufKernelIdeal.nD Cert.GlufKernelIdeal.τ).loc Cert.GlufKernelIdeal.main_arg1))
      ∧ θ_run (Cert.GlufReferenceIdeal.defs (F := Ideal)) (onTc (τ := Cert.GlufReferenceIdeal.τ) (Cert.GlufReferenceIdeal.main (F := Ideal))) ⟨m', fun _ => 0, g'⟩ (fun r => ∀ c : Dev Cert.GlufReferenceIdeal.nD,
          r.2.mem ((c.tc : Thread Cert.GlufReferenceIdeal.nD Cert.GlufReferenceIdeal.τ).loc Cert.GlufReferenceIdeal.main_v9) = v0 c
          ∧ r.2.mem ((c.tc : Thread Cert.GlufReferenceIdeal.nD Cert.GlufReferenceIdeal.τ).loc Cert.GlufReferenceIdeal.main_arg0) = m' ((c.tc : Thread Cert.GlufReferenceIdeal.nD Cert.GlufReferenceIdeal.τ).loc Cert.GlufReferenceIdeal.main_arg0)
          ∧ r.2.mem ((c.tc : Thread Cert.GlufReferenceIdeal.nD Cert.GlufReferenceIdeal.τ).loc Cert.GlufReferenceIdeal.main_arg1) = m' ((c.tc : Thread Cert.GlufReferenceIdeal.nD Cert.GlufReferenceIdeal.τ).loc Cert.GlufReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_DiscfKernel_DiscfKernelIdeal : Prop :=
  True

def algebraic_DiscfKernelIdeal_DiscfReferenceIdeal_pre_disc_forward_regular [hDiscfKernelIdeal : Cert.DiscfKernelIdeal.Facts] [hDiscfReferenceIdeal : Cert.DiscfReferenceIdeal.Facts] [hPre_disc_forward_regular : Cert.Pre_disc_forward_regular.Facts] : Prop :=
  ∀ (m : (ℓ : Loc Cert.DiscfKernelIdeal.nD Cert.DiscfKernelIdeal.τ Cert.DiscfKernelIdeal.sig) → Buf (Elt Ideal) ℓ) (g : Dev Cert.DiscfKernelIdeal.nD → PrngReg)
    (m' : (ℓ : Loc Cert.DiscfReferenceIdeal.nD Cert.DiscfReferenceIdeal.τ Cert.DiscfReferenceIdeal.sig) → Buf (Elt Ideal) ℓ) (g' : Dev Cert.DiscfReferenceIdeal.nD → PrngReg), Pre_DiscfKernelIdeal_disc_forward_regular m →
    (∀ c : Dev Cert.DiscfKernelIdeal.nD,
      m' ((c.tc : Thread Cert.DiscfReferenceIdeal.nD Cert.DiscfReferenceIdeal.τ).loc Cert.DiscfReferenceIdeal.main_arg0) = m ((c.tc : Thread Cert.DiscfKernelIdeal.nD Cert.DiscfKernelIdeal.τ).loc Cert.DiscfKernelIdeal.main_arg0)
      ∧ m' ((c.tc : Thread Cert.DiscfReferenceIdeal.nD Cert.DiscfReferenceIdeal.τ).loc Cert.DiscfReferenceIdeal.main_arg1) = m ((c.tc : Thread Cert.DiscfKernelIdeal.nD Cert.DiscfKernelIdeal.τ).loc Cert.DiscfKernelIdeal.main_arg1)
      ∧ m' ((c.tc : Thread Cert.DiscfReferenceIdeal.nD Cert.DiscfReferenceIdeal.τ).loc Cert.DiscfReferenceIdeal.main_arg2) = m ((c.tc : Thread Cert.DiscfKernelIdeal.nD Cert.DiscfKernelIdeal.τ).loc Cert.DiscfKernelIdeal.main_arg2)
      ∧ m' ((c.tc : Thread Cert.DiscfReferenceIdeal.nD Cert.DiscfReferenceIdeal.τ).loc Cert.DiscfReferenceIdeal.main_arg3) = m ((c.tc : Thread Cert.DiscfKernelIdeal.nD Cert.DiscfKernelIdeal.τ).loc Cert.DiscfKernelIdeal.main_arg3)
      ∧ m' ((c.tc : Thread Cert.DiscfReferenceIdeal.nD Cert.DiscfReferenceIdeal.τ).loc Cert.DiscfReferenceIdeal.main_arg4) = m ((c.tc : Thread Cert.DiscfKernelIdeal.nD Cert.DiscfKernelIdeal.τ).loc Cert.DiscfKernelIdeal.main_arg4)) →
    ∃ (v0 : (c : Dev Cert.DiscfKernelIdeal.nD) → Buf (Elt Ideal) ((c.tc : Thread Cert.DiscfKernelIdeal.nD Cert.DiscfKernelIdeal.τ).loc Cert.DiscfKernelIdeal.main_v7_0)) (v1 : (c : Dev Cert.DiscfKernelIdeal.nD) → Buf (Elt Ideal) ((c.tc : Thread Cert.DiscfKernelIdeal.nD Cert.DiscfKernelIdeal.τ).loc Cert.DiscfKernelIdeal.main_v7_1)) (v2 : (c : Dev Cert.DiscfKernelIdeal.nD) → Buf (Elt Ideal) ((c.tc : Thread Cert.DiscfKernelIdeal.nD Cert.DiscfKernelIdeal.τ).loc Cert.DiscfKernelIdeal.main_v7_2)) (v3 : (c : Dev Cert.DiscfKernelIdeal.nD) → Buf (Elt Ideal) ((c.tc : Thread Cert.DiscfKernelIdeal.nD Cert.DiscfKernelIdeal.τ).loc Cert.DiscfKernelIdeal.main_v7_3)),
      θ_run (Cert.DiscfKernelIdeal.defs (F := Ideal)) (onTc (τ := Cert.DiscfKernelIdeal.τ) (Cert.DiscfKernelIdeal.main (F := Ideal))) ⟨m, fun _ => 0, g⟩ (fun r => ∀ c : Dev Cert.DiscfKernelIdeal.nD,
          r.2.mem ((c.tc : Thread Cert.DiscfKernelIdeal.nD Cert.DiscfKernelIdeal.τ).loc Cert.DiscfKernelIdeal.main_v7_0) = v0 c
          ∧ r.2.mem ((c.tc : Thread Cert.DiscfKernelIdeal.nD Cert.DiscfKernelIdeal.τ).loc Cert.DiscfKernelIdeal.main_v7_1) = v1 c
          ∧ r.2.mem ((c.tc : Thread Cert.DiscfKernelIdeal.nD Cert.DiscfKernelIdeal.τ).loc Cert.DiscfKernelIdeal.main_v7_2) = v2 c
          ∧ r.2.mem ((c.tc : Thread Cert.DiscfKernelIdeal.nD Cert.DiscfKernelIdeal.τ).loc Cert.DiscfKernelIdeal.main_v7_3) = v3 c
          ∧ r.2.mem ((c.tc : Thread Cert.DiscfKernelIdeal.nD Cert.DiscfKernelIdeal.τ).loc Cert.DiscfKernelIdeal.main_arg0) = m ((c.tc : Thread Cert.DiscfKernelIdeal.nD Cert.DiscfKernelIdeal.τ).loc Cert.DiscfKernelIdeal.main_arg0)
          ∧ r.2.mem ((c.tc : Thread Cert.DiscfKernelIdeal.nD Cert.DiscfKernelIdeal.τ).loc Cert.DiscfKernelIdeal.main_arg1) = m ((c.tc : Thread Cert.DiscfKernelIdeal.nD Cert.DiscfKernelIdeal.τ).loc Cert.DiscfKernelIdeal.main_arg1)
          ∧ r.2.mem ((c.tc : Thread Cert.DiscfKernelIdeal.nD Cert.DiscfKernelIdeal.τ).loc Cert.DiscfKernelIdeal.main_arg2) = m ((c.tc : Thread Cert.DiscfKernelIdeal.nD Cert.DiscfKernelIdeal.τ).loc Cert.DiscfKernelIdeal.main_arg2)
          ∧ r.2.mem ((c.tc : Thread Cert.DiscfKernelIdeal.nD Cert.DiscfKernelIdeal.τ).loc Cert.DiscfKernelIdeal.main_arg3) = m ((c.tc : Thread Cert.DiscfKernelIdeal.nD Cert.DiscfKernelIdeal.τ).loc Cert.DiscfKernelIdeal.main_arg3)
          ∧ r.2.mem ((c.tc : Thread Cert.DiscfKernelIdeal.nD Cert.DiscfKernelIdeal.τ).loc Cert.DiscfKernelIdeal.main_arg4) = m ((c.tc : Thread Cert.DiscfKernelIdeal.nD Cert.DiscfKernelIdeal.τ).loc Cert.DiscfKernelIdeal.main_arg4))
      ∧ θ_run (Cert.DiscfReferenceIdeal.defs (F := Ideal)) (onTc (τ := Cert.DiscfReferenceIdeal.τ) (Cert.DiscfReferenceIdeal.main (F := Ideal))) ⟨m', fun _ => 0, g'⟩ (fun r => ∀ c : Dev Cert.DiscfReferenceIdeal.nD,
          r.2.mem ((c.tc : Thread Cert.DiscfReferenceIdeal.nD Cert.DiscfReferenceIdeal.τ).loc Cert.DiscfReferenceIdeal.main_v40) = v0 c
          ∧ r.2.mem ((c.tc : Thread Cert.DiscfReferenceIdeal.nD Cert.DiscfReferenceIdeal.τ).loc Cert.DiscfReferenceIdeal.main_v41) = v1 c
          ∧ r.2.mem ((c.tc : Thread Cert.DiscfReferenceIdeal.nD Cert.DiscfReferenceIdeal.τ).loc Cert.DiscfReferenceIdeal.main_v42) = v2 c
          ∧ r.2.mem ((c.tc : Thread Cert.DiscfReferenceIdeal.nD Cert.DiscfReferenceIdeal.τ).loc Cert.DiscfReferenceIdeal.main_v43) = v3 c
          ∧ r.2.mem ((c.tc : Thread Cert.DiscfReferenceIdeal.nD Cert.DiscfReferenceIdeal.τ).loc Cert.DiscfReferenceIdeal.main_arg0) = m' ((c.tc : Thread Cert.DiscfReferenceIdeal.nD Cert.DiscfReferenceIdeal.τ).loc Cert.DiscfReferenceIdeal.main_arg0)
          ∧ r.2.mem ((c.tc : Thread Cert.DiscfReferenceIdeal.nD Cert.DiscfReferenceIdeal.τ).loc Cert.DiscfReferenceIdeal.main_arg1) = m' ((c.tc : Thread Cert.DiscfReferenceIdeal.nD Cert.DiscfReferenceIdeal.τ).loc Cert.DiscfReferenceIdeal.main_arg1)
          ∧ r.2.mem ((c.tc : Thread Cert.DiscfReferenceIdeal.nD Cert.DiscfReferenceIdeal.τ).loc Cert.DiscfReferenceIdeal.main_arg2) = m' ((c.tc : Thread Cert.DiscfReferenceIdeal.nD Cert.DiscfReferenceIdeal.τ).loc Cert.DiscfReferenceIdeal.main_arg2)
          ∧ r.2.mem ((c.tc : Thread Cert.DiscfReferenceIdeal.nD Cert.DiscfReferenceIdeal.τ).loc Cert.DiscfReferenceIdeal.main_arg3) = m' ((c.tc : Thread Cert.DiscfReferenceIdeal.nD Cert.DiscfReferenceIdeal.τ).loc Cert.DiscfReferenceIdeal.main_arg3)
          ∧ r.2.mem ((c.tc : Thread Cert.DiscfReferenceIdeal.nD Cert.DiscfReferenceIdeal.τ).loc Cert.DiscfReferenceIdeal.main_arg4) = m' ((c.tc : Thread Cert.DiscfReferenceIdeal.nD Cert.DiscfReferenceIdeal.τ).loc Cert.DiscfReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_SumcKernel_SumcKernelIdeal : Prop :=
  True

def algebraic_SumcKernelIdeal_SumcReferenceIdeal [hSumcKernelIdeal : Cert.SumcKernelIdeal.Facts] [hSumcReferenceIdeal : Cert.SumcReferenceIdeal.Facts] : Prop :=
  ∀ (m : (ℓ : Loc Cert.SumcKernelIdeal.nD Cert.SumcKernelIdeal.τ Cert.SumcKernelIdeal.sig) → Buf (Elt Ideal) ℓ) (g : Dev Cert.SumcKernelIdeal.nD → PrngReg)
    (m' : (ℓ : Loc Cert.SumcReferenceIdeal.nD Cert.SumcReferenceIdeal.τ Cert.SumcReferenceIdeal.sig) → Buf (Elt Ideal) ℓ) (g' : Dev Cert.SumcReferenceIdeal.nD → PrngReg), Pre_SumcKernelIdeal m →
    (∀ c : Dev Cert.SumcKernelIdeal.nD,
      m' ((c.tc : Thread Cert.SumcReferenceIdeal.nD Cert.SumcReferenceIdeal.τ).loc Cert.SumcReferenceIdeal.main_arg0) = m ((c.tc : Thread Cert.SumcKernelIdeal.nD Cert.SumcKernelIdeal.τ).loc Cert.SumcKernelIdeal.main_arg0)
      ∧ m' ((c.tc : Thread Cert.SumcReferenceIdeal.nD Cert.SumcReferenceIdeal.τ).loc Cert.SumcReferenceIdeal.main_arg1) = m ((c.tc : Thread Cert.SumcKernelIdeal.nD Cert.SumcKernelIdeal.τ).loc Cert.SumcKernelIdeal.main_arg1)) →
    ∃ (v0 : (c : Dev Cert.SumcKernelIdeal.nD) → Buf (Elt Ideal) ((c.tc : Thread Cert.SumcKernelIdeal.nD Cert.SumcKernelIdeal.τ).loc Cert.SumcKernelIdeal.main_v2)),
      θ_run (Cert.SumcKernelIdeal.defs (F := Ideal)) (onTc (τ := Cert.SumcKernelIdeal.τ) (Cert.SumcKernelIdeal.main (F := Ideal))) ⟨m, fun _ => 0, g⟩ (fun r => ∀ c : Dev Cert.SumcKernelIdeal.nD,
          r.2.mem ((c.tc : Thread Cert.SumcKernelIdeal.nD Cert.SumcKernelIdeal.τ).loc Cert.SumcKernelIdeal.main_v2) = v0 c
          ∧ r.2.mem ((c.tc : Thread Cert.SumcKernelIdeal.nD Cert.SumcKernelIdeal.τ).loc Cert.SumcKernelIdeal.main_arg0) = m ((c.tc : Thread Cert.SumcKernelIdeal.nD Cert.SumcKernelIdeal.τ).loc Cert.SumcKernelIdeal.main_arg0)
          ∧ r.2.mem ((c.tc : Thread Cert.SumcKernelIdeal.nD Cert.SumcKernelIdeal.τ).loc Cert.SumcKernelIdeal.main_arg1) = m ((c.tc : Thread Cert.SumcKernelIdeal.nD Cert.SumcKernelIdeal.τ).loc Cert.SumcKernelIdeal.main_arg1))
      ∧ θ_run (Cert.SumcReferenceIdeal.defs (F := Ideal)) (onTc (τ := Cert.SumcReferenceIdeal.τ) (Cert.SumcReferenceIdeal.main (F := Ideal))) ⟨m', fun _ => 0, g'⟩ (fun r => ∀ c : Dev Cert.SumcReferenceIdeal.nD,
          r.2.mem ((c.tc : Thread Cert.SumcReferenceIdeal.nD Cert.SumcReferenceIdeal.τ).loc Cert.SumcReferenceIdeal.main_v3) = v0 c
          ∧ r.2.mem ((c.tc : Thread Cert.SumcReferenceIdeal.nD Cert.SumcReferenceIdeal.τ).loc Cert.SumcReferenceIdeal.main_arg0) = m' ((c.tc : Thread Cert.SumcReferenceIdeal.nD Cert.SumcReferenceIdeal.τ).loc Cert.SumcReferenceIdeal.main_arg0)
          ∧ r.2.mem ((c.tc : Thread Cert.SumcReferenceIdeal.nD Cert.SumcReferenceIdeal.τ).loc Cert.SumcReferenceIdeal.main_arg1) = m' ((c.tc : Thread Cert.SumcReferenceIdeal.nD Cert.SumcReferenceIdeal.τ).loc Cert.SumcReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)) →
    ∃ (v0 : (c : Dev Cert.AdamKernelIdeal.nD) → Buf (Elt Ideal) ((c.tc : Thread Cert.AdamKernelIdeal.nD Cert.AdamKernelIdeal.τ).loc Cert.AdamKernelIdeal.main_v3_0)) (v1 : (c : Dev Cert.AdamKernelIdeal.nD) → Buf (Elt Ideal) ((c.tc : Thread Cert.AdamKernelIdeal.nD Cert.AdamKernelIdeal.τ).loc Cert.AdamKernelIdeal.main_v3_1)) (v2 : (c : Dev Cert.AdamKernelIdeal.nD) → Buf (Elt Ideal) ((c.tc : Thread Cert.AdamKernelIdeal.nD Cert.AdamKernelIdeal.τ).loc Cert.AdamKernelIdeal.main_v3_2)) (v3 : (c : Dev Cert.AdamKernelIdeal.nD) → Buf (Elt Ideal) ((c.tc : Thread Cert.AdamKernelIdeal.nD Cert.AdamKernelIdeal.τ).loc Cert.AdamKernelIdeal.main_v3_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v3_0) = v0 c
          ∧ r.2.mem ((c.tc : Thread Cert.AdamKernelIdeal.nD Cert.AdamKernelIdeal.τ).loc Cert.AdamKernelIdeal.main_v3_1) = v1 c
          ∧ r.2.mem ((c.tc : Thread Cert.AdamKernelIdeal.nD Cert.AdamKernelIdeal.τ).loc Cert.AdamKernelIdeal.main_v3_2) = v2 c
          ∧ r.2.mem ((c.tc : Thread Cert.AdamKernelIdeal.nD Cert.AdamKernelIdeal.τ).loc Cert.AdamKernelIdeal.main_v3_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v26) = v0 c
          ∧ r.2.mem ((c.tc : Thread Cert.AdamReferenceIdeal.nD Cert.AdamReferenceIdeal.τ).loc Cert.AdamReferenceIdeal.main_v27) = v1 c
          ∧ r.2.mem ((c.tc : Thread Cert.AdamReferenceIdeal.nD Cert.AdamReferenceIdeal.τ).loc Cert.AdamReferenceIdeal.main_v28) = v2 c
          ∧ r.2.mem ((c.tc : Thread Cert.AdamReferenceIdeal.nD Cert.AdamReferenceIdeal.τ).loc Cert.AdamReferenceIdeal.main_v29) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4))

def preserves_RepKernel_RepKernelIdeal : Prop :=
  True

def algebraic_RepKernelIdeal_RepReferenceIdeal [hRepKernelIdeal : Cert.RepKernelIdeal.Facts] [hRepReferenceIdeal : Cert.RepReferenceIdeal.Facts] : Prop :=
  ∀ (m : (ℓ : Loc Cert.RepKernelIdeal.nD Cert.RepKernelIdeal.τ Cert.RepKernelIdeal.sig) → Buf (Elt Ideal) ℓ) (g : Dev Cert.RepKernelIdeal.nD → PrngReg)
    (m' : (ℓ : Loc Cert.RepReferenceIdeal.nD Cert.RepReferenceIdeal.τ Cert.RepReferenceIdeal.sig) → Buf (Elt Ideal) ℓ) (g' : Dev Cert.RepReferenceIdeal.nD → PrngReg), Pre_RepKernelIdeal m →
    (∀ c : Dev Cert.RepKernelIdeal.nD,
      m' ((c.tc : Thread Cert.RepReferenceIdeal.nD Cert.RepReferenceIdeal.τ).loc Cert.RepReferenceIdeal.main_arg0) = m ((c.tc : Thread Cert.RepKernelIdeal.nD Cert.RepKernelIdeal.τ).loc Cert.RepKernelIdeal.main_arg0)
      ∧ m' ((c.tc : Thread Cert.RepReferenceIdeal.nD Cert.RepReferenceIdeal.τ).loc Cert.RepReferenceIdeal.main_arg1) = m ((c.tc : Thread Cert.RepKernelIdeal.nD Cert.RepKernelIdeal.τ).loc Cert.RepKernelIdeal.main_arg1)
      ∧ m' ((c.tc : Thread Cert.RepReferenceIdeal.nD Cert.RepReferenceIdeal.τ).loc Cert.RepReferenceIdeal.main_arg2) = m ((c.tc : Thread Cert.RepKernelIdeal.nD Cert.RepKernelIdeal.τ).loc Cert.RepKernelIdeal.main_arg2)
      ∧ m' ((c.tc : Thread Cert.RepReferenceIdeal.nD Cert.RepReferenceIdeal.τ).loc Cert.RepReferenceIdeal.main_arg3) = m ((c.tc : Thread Cert.RepKernelIdeal.nD Cert.RepKernelIdeal.τ).loc Cert.RepKernelIdeal.main_arg3)) →
    ∃ (v0 : (c : Dev Cert.RepKernelIdeal.nD) → Buf (Elt Ideal) ((c.tc : Thread Cert.RepKernelIdeal.nD Cert.RepKernelIdeal.τ).loc Cert.RepKernelIdeal.main_v0_0)) (v1 : (c : Dev Cert.RepKernelIdeal.nD) → Buf (Elt Ideal) ((c.tc : Thread Cert.RepKernelIdeal.nD Cert.RepKernelIdeal.τ).loc Cert.RepKernelIdeal.main_v0_1)) (v2 : (c : Dev Cert.RepKernelIdeal.nD) → Buf (Elt Ideal) ((c.tc : Thread Cert.RepKernelIdeal.nD Cert.RepKernelIdeal.τ).loc Cert.RepKernelIdeal.main_v0_2)) (v3 : (c : Dev Cert.RepKernelIdeal.nD) → Buf (Elt Ideal) ((c.tc : Thread Cert.RepKernelIdeal.nD Cert.RepKernelIdeal.τ).loc Cert.RepKernelIdeal.main_v0_3)),
      θ_run (Cert.RepKernelIdeal.defs (F := Ideal)) (onTc (τ := Cert.RepKernelIdeal.τ) (Cert.RepKernelIdeal.main (F := Ideal))) ⟨m, fun _ => 0, g⟩ (fun r => ∀ c : Dev Cert.RepKernelIdeal.nD,
          r.2.mem ((c.tc : Thread Cert.RepKernelIdeal.nD Cert.RepKernelIdeal.τ).loc Cert.RepKernelIdeal.main_v0_0) = v0 c
          ∧ r.2.mem ((c.tc : Thread Cert.RepKernelIdeal.nD Cert.RepKernelIdeal.τ).loc Cert.RepKernelIdeal.main_v0_1) = v1 c
          ∧ r.2.mem ((c.tc : Thread Cert.RepKernelIdeal.nD Cert.RepKernelIdeal.τ).loc Cert.RepKernelIdeal.main_v0_2) = v2 c
          ∧ r.2.mem ((c.tc : Thread Cert.RepKernelIdeal.nD Cert.RepKernelIdeal.τ).loc Cert.RepKernelIdeal.main_v0_3) = v3 c
          ∧ r.2.mem ((c.tc : Thread Cert.RepKernelIdeal.nD Cert.RepKernelIdeal.τ).loc Cert.RepKernelIdeal.main_arg0) = m ((c.tc : Thread Cert.RepKernelIdeal.nD Cert.RepKernelIdeal.τ).loc Cert.RepKernelIdeal.main_arg0)
          ∧ r.2.mem ((c.tc : Thread Cert.RepKernelIdeal.nD Cert.RepKernelIdeal.τ).loc Cert.RepKernelIdeal.main_arg1) = m ((c.tc : Thread Cert.RepKernelIdeal.nD Cert.RepKernelIdeal.τ).loc Cert.RepKernelIdeal.main_arg1)
          ∧ r.2.mem ((c.tc : Thread Cert.RepKernelIdeal.nD Cert.RepKernelIdeal.τ).loc Cert.RepKernelIdeal.main_arg2) = m ((c.tc : Thread Cert.RepKernelIdeal.nD Cert.RepKernelIdeal.τ).loc Cert.RepKernelIdeal.main_arg2)
          ∧ r.2.mem ((c.tc : Thread Cert.RepKernelIdeal.nD Cert.RepKernelIdeal.τ).loc Cert.RepKernelIdeal.main_arg3) = m ((c.tc : Thread Cert.RepKernelIdeal.nD Cert.RepKernelIdeal.τ).loc Cert.RepKernelIdeal.main_arg3))
      ∧ θ_run (Cert.RepReferenceIdeal.defs (F := Ideal)) (onTc (τ := Cert.RepReferenceIdeal.τ) (Cert.RepReferenceIdeal.main (F := Ideal))) ⟨m', fun _ => 0, g'⟩ (fun r => ∀ c : Dev Cert.RepReferenceIdeal.nD,
          r.2.mem ((c.tc : Thread Cert.RepReferenceIdeal.nD Cert.RepReferenceIdeal.τ).loc Cert.RepReferenceIdeal.main_v0) = v0 c
          ∧ r.2.mem ((c.tc : Thread Cert.RepReferenceIdeal.nD Cert.RepReferenceIdeal.τ).loc Cert.RepReferenceIdeal.main_v24) = v1 c
          ∧ r.2.mem ((c.tc : Thread Cert.RepReferenceIdeal.nD Cert.RepReferenceIdeal.τ).loc Cert.RepReferenceIdeal.main_v5) = v2 c
          ∧ r.2.mem ((c.tc : Thread Cert.RepReferenceIdeal.nD Cert.RepReferenceIdeal.τ).loc Cert.RepReferenceIdeal.main_v11) = v3 c
          ∧ r.2.mem ((c.tc : Thread Cert.RepReferenceIdeal.nD Cert.RepReferenceIdeal.τ).loc Cert.RepReferenceIdeal.main_arg0) = m' ((c.tc : Thread Cert.RepReferenceIdeal.nD Cert.RepReferenceIdeal.τ).loc Cert.RepReferenceIdeal.main_arg0)
          ∧ r.2.mem ((c.tc : Thread Cert.RepReferenceIdeal.nD Cert.RepReferenceIdeal.τ).loc Cert.RepReferenceIdeal.main_arg1) = m' ((c.tc : Thread Cert.RepReferenceIdeal.nD Cert.RepReferenceIdeal.τ).loc Cert.RepReferenceIdeal.main_arg1)
          ∧ r.2.mem ((c.tc : Thread Cert.RepReferenceIdeal.nD Cert.RepReferenceIdeal.τ).loc Cert.RepReferenceIdeal.main_arg2) = m' ((c.tc : Thread Cert.RepReferenceIdeal.nD Cert.RepReferenceIdeal.τ).loc Cert.RepReferenceIdeal.main_arg2)
          ∧ r.2.mem ((c.tc : Thread Cert.RepReferenceIdeal.nD Cert.RepReferenceIdeal.τ).loc Cert.RepReferenceIdeal.main_arg3) = m' ((c.tc : Thread Cert.RepReferenceIdeal.nD Cert.RepReferenceIdeal.τ).loc Cert.RepReferenceIdeal.main_arg3))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)) →
    ∃ (v0 : (c : Dev Cert.FfnKernelIdeal.nD) → Buf (Elt Ideal) ((c.tc : Thread Cert.FfnKernelIdeal.nD Cert.FfnKernelIdeal.τ).loc Cert.FfnKernelIdeal.main_v2_0)) (v1 : (c : Dev Cert.FfnKernelIdeal.nD) → Buf (Elt Ideal) ((c.tc : Thread Cert.FfnKernelIdeal.nD Cert.FfnKernelIdeal.τ).loc Cert.FfnKernelIdeal.main_v2_1)) (v2 : (c : Dev Cert.FfnKernelIdeal.nD) → Buf (Elt Ideal) ((c.tc : Thread Cert.FfnKernelIdeal.nD Cert.FfnKernelIdeal.τ).loc Cert.FfnKernelIdeal.main_v2_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2_0) = v0 c
          ∧ r.2.mem ((c.tc : Thread Cert.FfnKernelIdeal.nD Cert.FfnKernelIdeal.τ).loc Cert.FfnKernelIdeal.main_v2_1) = v1 c
          ∧ r.2.mem ((c.tc : Thread Cert.FfnKernelIdeal.nD Cert.FfnKernelIdeal.τ).loc Cert.FfnKernelIdeal.main_v2_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_v22) = v1 c
          ∧ r.2.mem ((c.tc : Thread Cert.FfnReferenceIdeal.nD Cert.FfnReferenceIdeal.τ).loc Cert.FfnReferenceIdeal.main_v23) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2))

def preserves_LrufKernel_LrufKernelIdeal : Prop :=
  True

def algebraic_LrufKernelIdeal_LrufReferenceIdeal_pre_lru_decays [hLrufKernelIdeal : Cert.LrufKernelIdeal.Facts] [hLrufReferenceIdeal : Cert.LrufReferenceIdeal.Facts] [hPre_lru_decays : Cert.Pre_lru_decays.Facts] : Prop :=
  ∀ (m : (ℓ : Loc Cert.LrufKernelIdeal.nD Cert.LrufKernelIdeal.τ Cert.LrufKernelIdeal.sig) → Buf (Elt Ideal) ℓ) (g : Dev Cert.LrufKernelIdeal.nD → PrngReg)
    (m' : (ℓ : Loc Cert.LrufReferenceIdeal.nD Cert.LrufReferenceIdeal.τ Cert.LrufReferenceIdeal.sig) → Buf (Elt Ideal) ℓ) (g' : Dev Cert.LrufReferenceIdeal.nD → PrngReg), Pre_LrufKernelIdeal_lru_decays m →
    (∀ c : Dev Cert.LrufKernelIdeal.nD,
      m' ((c.tc : Thread Cert.LrufReferenceIdeal.nD Cert.LrufReferenceIdeal.τ).loc Cert.LrufReferenceIdeal.main_arg0) = m ((c.tc : Thread Cert.LrufKernelIdeal.nD Cert.LrufKernelIdeal.τ).loc Cert.LrufKernelIdeal.main_arg0)
      ∧ m' ((c.tc : Thread Cert.LrufReferenceIdeal.nD Cert.LrufReferenceIdeal.τ).loc Cert.LrufReferenceIdeal.main_arg1) = m ((c.tc : Thread Cert.LrufKernelIdeal.nD Cert.LrufKernelIdeal.τ).loc Cert.LrufKernelIdeal.main_arg1)
      ∧ m' ((c.tc : Thread Cert.LrufReferenceIdeal.nD Cert.LrufReferenceIdeal.τ).loc Cert.LrufReferenceIdeal.main_arg2) = m ((c.tc : Thread Cert.LrufKernelIdeal.nD Cert.LrufKernelIdeal.τ).loc Cert.LrufKernelIdeal.main_arg2)
      ∧ m' ((c.tc : Thread Cert.LrufReferenceIdeal.nD Cert.LrufReferenceIdeal.τ).loc Cert.LrufReferenceIdeal.main_arg3) = m ((c.tc : Thread Cert.LrufKernelIdeal.nD Cert.LrufKernelIdeal.τ).loc Cert.LrufKernelIdeal.main_arg3)
      ∧ m' ((c.tc : Thread Cert.LrufReferenceIdeal.nD Cert.LrufReferenceIdeal.τ).loc Cert.LrufReferenceIdeal.main_arg4) = m ((c.tc : Thread Cert.LrufKernelIdeal.nD Cert.LrufKernelIdeal.τ).loc Cert.LrufKernelIdeal.main_arg4)
      ∧ m' ((c.tc : Thread Cert.LrufReferenceIdeal.nD Cert.LrufReferenceIdeal.τ).loc Cert.LrufReferenceIdeal.main_arg5) = m ((c.tc : Thread Cert.LrufKernelIdeal.nD Cert.LrufKernelIdeal.τ).loc Cert.LrufKernelIdeal.main_arg5)
      ∧ m' ((c.tc : Thread Cert.LrufReferenceIdeal.nD Cert.LrufReferenceIdeal.τ).loc Cert.LrufReferenceIdeal.main_arg6) = m ((c.tc : Thread Cert.LrufKernelIdeal.nD Cert.LrufKernelIdeal.τ).loc Cert.LrufKernelIdeal.main_arg6)
      ∧ m' ((c.tc : Thread Cert.LrufReferenceIdeal.nD Cert.LrufReferenceIdeal.τ).loc Cert.LrufReferenceIdeal.main_arg7) = m ((c.tc : Thread Cert.LrufKernelIdeal.nD Cert.LrufKernelIdeal.τ).loc Cert.LrufKernelIdeal.main_arg7)) →
    ∃ (v0 : (c : Dev Cert.LrufKernelIdeal.nD) → Buf (Elt Ideal) ((c.tc : Thread Cert.LrufKernelIdeal.nD Cert.LrufKernelIdeal.τ).loc Cert.LrufKernelIdeal.main_v6_0)) (v1 : (c : Dev Cert.LrufKernelIdeal.nD) → Buf (Elt Ideal) ((c.tc : Thread Cert.LrufKernelIdeal.nD Cert.LrufKernelIdeal.τ).loc Cert.LrufKernelIdeal.main_v6_1)),
      θ_run (Cert.LrufKernelIdeal.defs (F := Ideal)) (onTc (τ := Cert.LrufKernelIdeal.τ) (Cert.LrufKernelIdeal.main (F := Ideal))) ⟨m, fun _ => 0, g⟩ (fun r => ∀ c : Dev Cert.LrufKernelIdeal.nD,
          r.2.mem ((c.tc : Thread Cert.LrufKernelIdeal.nD Cert.LrufKernelIdeal.τ).loc Cert.LrufKernelIdeal.main_v6_0) = v0 c
          ∧ r.2.mem ((c.tc : Thread Cert.LrufKernelIdeal.nD Cert.LrufKernelIdeal.τ).loc Cert.LrufKernelIdeal.main_v6_1) = v1 c
          ∧ r.2.mem ((c.tc : Thread Cert.LrufKernelIdeal.nD Cert.LrufKernelIdeal.τ).loc Cert.LrufKernelIdeal.main_arg0) = m ((c.tc : Thread Cert.LrufKernelIdeal.nD Cert.LrufKernelIdeal.τ).loc Cert.LrufKernelIdeal.main_arg0)
          ∧ r.2.mem ((c.tc : Thread Cert.LrufKernelIdeal.nD Cert.LrufKernelIdeal.τ).loc Cert.LrufKernelIdeal.main_arg1) = m ((c.tc : Thread Cert.LrufKernelIdeal.nD Cert.LrufKernelIdeal.τ).loc Cert.LrufKernelIdeal.main_arg1)
          ∧ r.2.mem ((c.tc : Thread Cert.LrufKernelIdeal.nD Cert.LrufKernelIdeal.τ).loc Cert.LrufKernelIdeal.main_arg2) = m ((c.tc : Thread Cert.LrufKernelIdeal.nD Cert.LrufKernelIdeal.τ).loc Cert.LrufKernelIdeal.main_arg2)
          ∧ r.2.mem ((c.tc : Thread Cert.LrufKernelIdeal.nD Cert.LrufKernelIdeal.τ).loc Cert.LrufKernelIdeal.main_arg3) = m ((c.tc : Thread Cert.LrufKernelIdeal.nD Cert.LrufKernelIdeal.τ).loc Cert.LrufKernelIdeal.main_arg3)
          ∧ r.2.mem ((c.tc : Thread Cert.LrufKernelIdeal.nD Cert.LrufKernelIdeal.τ).loc Cert.LrufKernelIdeal.main_arg4) = m ((c.tc : Thread Cert.LrufKernelIdeal.nD Cert.LrufKernelIdeal.τ).loc Cert.LrufKernelIdeal.main_arg4)
          ∧ r.2.mem ((c.tc : Thread Cert.LrufKernelIdeal.nD Cert.LrufKernelIdeal.τ).loc Cert.LrufKernelIdeal.main_arg5) = m ((c.tc : Thread Cert.LrufKernelIdeal.nD Cert.LrufKernelIdeal.τ).loc Cert.LrufKernelIdeal.main_arg5)
          ∧ r.2.mem ((c.tc : Thread Cert.LrufKernelIdeal.nD Cert.LrufKernelIdeal.τ).loc Cert.LrufKernelIdeal.main_arg6) = m ((c.tc : Thread Cert.LrufKernelIdeal.nD Cert.LrufKernelIdeal.τ).loc Cert.LrufKernelIdeal.main_arg6)
          ∧ r.2.mem ((c.tc : Thread Cert.LrufKernelIdeal.nD Cert.LrufKernelIdeal.τ).loc Cert.LrufKernelIdeal.main_arg7) = m ((c.tc : Thread Cert.LrufKernelIdeal.nD Cert.LrufKernelIdeal.τ).loc Cert.LrufKernelIdeal.main_arg7))
      ∧ θ_run (Cert.LrufReferenceIdeal.defs (F := Ideal)) (onTc (τ := Cert.LrufReferenceIdeal.τ) (Cert.LrufReferenceIdeal.main (F := Ideal))) ⟨m', fun _ => 0, g'⟩ (fun r => ∀ c : Dev Cert.LrufReferenceIdeal.nD,
          r.2.mem ((c.tc : Thread Cert.LrufReferenceIdeal.nD Cert.LrufReferenceIdeal.τ).loc Cert.LrufReferenceIdeal.main_v94) = v0 c
          ∧ r.2.mem ((c.tc : Thread Cert.LrufReferenceIdeal.nD Cert.LrufReferenceIdeal.τ).loc Cert.LrufReferenceIdeal.main_v78_4) = v1 c
          ∧ r.2.mem ((c.tc : Thread Cert.LrufReferenceIdeal.nD Cert.LrufReferenceIdeal.τ).loc Cert.LrufReferenceIdeal.main_arg0) = m' ((c.tc : Thread Cert.LrufReferenceIdeal.nD Cert.LrufReferenceIdeal.τ).loc Cert.LrufReferenceIdeal.main_arg0)
          ∧ r.2.mem ((c.tc : Thread Cert.LrufReferenceIdeal.nD Cert.LrufReferenceIdeal.τ).loc Cert.LrufReferenceIdeal.main_arg1) = m' ((c.tc : Thread Cert.LrufReferenceIdeal.nD Cert.LrufReferenceIdeal.τ).loc Cert.LrufReferenceIdeal.main_arg1)
          ∧ r.2.mem ((c.tc : Thread Cert.LrufReferenceIdeal.nD Cert.LrufReferenceIdeal.τ).loc Cert.LrufReferenceIdeal.main_arg2) = m' ((c.tc : Thread Cert.LrufReferenceIdeal.nD Cert.LrufReferenceIdeal.τ).loc Cert.LrufReferenceIdeal.main_arg2)
          ∧ r.2.mem ((c.tc : Thread Cert.LrufReferenceIdeal.nD Cert.LrufReferenceIdeal.τ).loc Cert.LrufReferenceIdeal.main_arg3) = m' ((c.tc : Thread Cert.LrufReferenceIdeal.nD Cert.LrufReferenceIdeal.τ).loc Cert.LrufReferenceIdeal.main_arg3)
          ∧ r.2.mem ((c.tc : Thread Cert.LrufReferenceIdeal.nD Cert.LrufReferenceIdeal.τ).loc Cert.LrufReferenceIdeal.main_arg4) = m' ((c.tc : Thread Cert.LrufReferenceIdeal.nD Cert.LrufReferenceIdeal.τ).loc Cert.LrufReferenceIdeal.main_arg4)
          ∧ r.2.mem ((c.tc : Thread Cert.LrufReferenceIdeal.nD Cert.LrufReferenceIdeal.τ).loc Cert.LrufReferenceIdeal.main_arg5) = m' ((c.tc : Thread Cert.LrufReferenceIdeal.nD Cert.LrufReferenceIdeal.τ).loc Cert.LrufReferenceIdeal.main_arg5)
          ∧ r.2.mem ((c.tc : Thread Cert.LrufReferenceIdeal.nD Cert.LrufReferenceIdeal.τ).loc Cert.LrufReferenceIdeal.main_arg6) = m' ((c.tc : Thread Cert.LrufReferenceIdeal.nD Cert.LrufReferenceIdeal.τ).loc Cert.LrufReferenceIdeal.main_arg6)
          ∧ r.2.mem ((c.tc : Thread Cert.LrufReferenceIdeal.nD Cert.LrufReferenceIdeal.τ).loc Cert.LrufReferenceIdeal.main_arg7) = m' ((c.tc : Thread Cert.LrufReferenceIdeal.nD Cert.LrufReferenceIdeal.τ).loc Cert.LrufReferenceIdeal.main_arg7))

def preserves_S5fKernel_S5fKernelIdeal : Prop :=
  True

def preserves_DwinKernel_DwinKernelIdeal : Prop :=
  True

def algebraic_DwinKernelIdeal_DwinReferenceIdeal [hDwinKernelIdeal : Cert.DwinKernelIdeal.Facts] [hDwinReferenceIdeal : Cert.DwinReferenceIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinKernelIdeal m →
    (∀ c : Dev Cert.DwinKernelIdeal.nD,
      m' ((c.tc : Thread Cert.DwinReferenceIdeal.nD Cert.DwinReferenceIdeal.τ).loc Cert.DwinReferenceIdeal.main_arg0) = m ((c.tc : Thread Cert.DwinKernelIdeal.nD Cert.DwinKernelIdeal.τ).loc Cert.DwinKernelIdeal.main_arg0)
      ∧ m' ((c.tc : Thread Cert.DwinReferenceIdeal.nD Cert.DwinReferenceIdeal.τ).loc Cert.DwinReferenceIdeal.main_arg1) = m ((c.tc : Thread Cert.DwinKernelIdeal.nD Cert.DwinKernelIdeal.τ).loc Cert.DwinKernelIdeal.main_arg1)
      ∧ m' ((c.tc : Thread Cert.DwinReferenceIdeal.nD Cert.DwinReferenceIdeal.τ).loc Cert.DwinReferenceIdeal.main_arg2) = m ((c.tc : Thread Cert.DwinKernelIdeal.nD Cert.DwinKernelIdeal.τ).loc Cert.DwinKernelIdeal.main_arg2)
      ∧ m' ((c.tc : Thread Cert.DwinReferenceIdeal.nD Cert.DwinReferenceIdeal.τ).loc Cert.DwinReferenceIdeal.main_arg3) = m ((c.tc : Thread Cert.DwinKernelIdeal.nD Cert.DwinKernelIdeal.τ).loc Cert.DwinKernelIdeal.main_arg3)
      ∧ m' ((c.tc : Thread Cert.DwinReferenceIdeal.nD Cert.DwinReferenceIdeal.τ).loc Cert.DwinReferenceIdeal.main_arg4) = m ((c.tc : Thread Cert.DwinKernelIdeal.nD Cert.DwinKernelIdeal.τ).loc Cert.DwinKernelIdeal.main_arg4)) →
    ∃ (v0 : (c : Dev Cert.DwinKernelIdeal.nD) → Buf (Elt Ideal) ((c.tc : Thread Cert.DwinKernelIdeal.nD Cert.DwinKernelIdeal.τ).loc Cert.DwinKernelIdeal.main_v18)),
      θ_run (Cert.DwinKernelIdeal.defs (F := Ideal)) (onTc (τ := Cert.DwinKernelIdeal.τ) (Cert.DwinKernelIdeal.main (F := Ideal))) ⟨m, fun _ => 0, g⟩ (fun r => ∀ c : Dev Cert.DwinKernelIdeal.nD,
          r.2.mem ((c.tc : Thread Cert.DwinKernelIdeal.nD Cert.DwinKernelIdeal.τ).loc Cert.DwinKernelIdeal.main_v18) = v0 c
          ∧ r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
          ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1)
          ∧ r.2.mem ((c.tc : Thread Cert.DwinKernelIdeal.nD Cert.DwinKernelIdeal.τ).loc Cert.DwinKernelIdeal.main_arg2) = m ((c.tc : Thread Cert.DwinKernelIdeal.nD Cert.DwinKernelIdeal.τ).loc Cert.DwinKernelIdeal.main_arg2)
          ∧ r.2.mem ((c.tc : Thread Cert.DwinKernelIdeal.nD Cert.DwinKernelIdeal.τ).loc Cert.DwinKernelIdeal.main_arg3) = m ((c.tc : Thread Cert.DwinKernelIdeal.nD Cert.DwinKernelIdeal.τ).loc Cert.DwinKernelIdeal.main_arg3)
          ∧ r.2.mem ((c.tc : Thread Cert.DwinKernelIdeal.nD Cert.DwinKernelIdeal.τ).loc Cert.DwinKernelIdeal.main_arg4) = m ((c.tc : Thread Cert.DwinKernelIdeal.nD Cert.DwinKernelIdeal.τ).loc Cert.DwinKernelIdeal.main_arg4))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v18) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1)
          ∧ r.2.mem ((c.tc : Thread Cert.DwinReferenceIdeal.nD Cert.DwinReferenceIdeal.τ).loc Cert.DwinReferenceIdeal.main_arg2) = m' ((c.tc : Thread Cert.DwinReferenceIdeal.nD Cert.DwinReferenceIdeal.τ).loc Cert.DwinReferenceIdeal.main_arg2)
          ∧ r.2.mem ((c.tc : Thread Cert.DwinReferenceIdeal.nD Cert.DwinReferenceIdeal.τ).loc Cert.DwinReferenceIdeal.main_arg3) = m' ((c.tc : Thread Cert.DwinReferenceIdeal.nD Cert.DwinReferenceIdeal.τ).loc Cert.DwinReferenceIdeal.main_arg3)
          ∧ r.2.mem ((c.tc : Thread Cert.DwinReferenceIdeal.nD Cert.DwinReferenceIdeal.τ).loc Cert.DwinReferenceIdeal.main_arg4) = m' ((c.tc : Thread Cert.DwinReferenceIdeal.nD Cert.DwinReferenceIdeal.τ).loc Cert.DwinReferenceIdeal.main_arg4))

def Claim : Prop :=
  ∃ (hGluKernel : Cert.GluKernel.Facts) (hGluKernelIdeal : Cert.GluKernelIdeal.Facts) (hGluReferenceIdeal : Cert.GluReferenceIdeal.Facts) (hSbKernel : Cert.SbKernel.Facts) (hSbKernelIdeal : Cert.SbKernelIdeal.Facts) (hSbReferenceIdeal : Cert.SbReferenceIdeal.Facts) (hDguKernel : Cert.DguKernel.Facts) (hDguKernelIdeal : Cert.DguKernelIdeal.Facts) (hDguReferenceIdeal : Cert.DguReferenceIdeal.Facts) (hMixKernel : Cert.MixKernel.Facts) (hMixKernelIdeal : Cert.MixKernelIdeal.Facts) (hMixReferenceIdeal : Cert.MixReferenceIdeal.Facts) (hDhnKernel : Cert.DhnKernel.Facts) (hDhnKernelIdeal : Cert.DhnKernelIdeal.Facts) (hDhnReferenceIdeal : Cert.DhnReferenceIdeal.Facts) (hLossKernel : Cert.LossKernel.Facts) (hLossKernelIdeal : Cert.LossKernelIdeal.Facts) (hLossReferenceIdeal : Cert.LossReferenceIdeal.Facts) (hDiscKernel : Cert.DiscKernel.Facts) (hDiscKernelIdeal : Cert.DiscKernelIdeal.Facts) (hDiscReferenceIdeal : Cert.DiscReferenceIdeal.Facts) (hGlufKernel : Cert.GlufKernel.Facts) (hGlufKernelIdeal : Cert.GlufKernelIdeal.Facts) (hGlufReferenceIdeal : Cert.GlufReferenceIdeal.Facts) (hNormKernel : Cert.NormKernel.Facts) (hNormKernelIdeal : Cert.NormKernelIdeal.Facts) (hNormReferenceIdeal : Cert.NormReferenceIdeal.Facts) (hDiscfKernel : Cert.DiscfKernel.Facts) (hDiscfKernelIdeal : Cert.DiscfKernelIdeal.Facts) (hDiscfReferenceIdeal : Cert.DiscfReferenceIdeal.Facts) (hOutKernel : Cert.OutKernel.Facts) (hOutKernelIdeal : Cert.OutKernelIdeal.Facts) (hOutReferenceIdeal : Cert.OutReferenceIdeal.Facts) (hSumcKernel : Cert.SumcKernel.Facts) (hSumcKernelIdeal : Cert.SumcKernelIdeal.Facts) (hSumcReferenceIdeal : Cert.SumcReferenceIdeal.Facts) (hAdamKernel : Cert.AdamKernel.Facts) (hAdamKernelIdeal : Cert.AdamKernelIdeal.Facts) (hAdamReferenceIdeal : Cert.AdamReferenceIdeal.Facts) (hRepKernel : Cert.RepKernel.Facts) (hRepKernelIdeal : Cert.RepKernelIdeal.Facts) (hRepReferenceIdeal : Cert.RepReferenceIdeal.Facts) (hFfnKernel : Cert.FfnKernel.Facts) (hFfnKernelIdeal : Cert.FfnKernelIdeal.Facts) (hFfnReferenceIdeal : Cert.FfnReferenceIdeal.Facts) (hLrufKernel : Cert.LrufKernel.Facts) (hLrufKernelIdeal : Cert.LrufKernelIdeal.Facts) (hLrufReferenceIdeal : Cert.LrufReferenceIdeal.Facts) (hS5fKernel : Cert.S5fKernel.Facts) (hS5fKernelIdeal : Cert.S5fKernelIdeal.Facts) (hDwinKernel : Cert.DwinKernel.Facts) (hDwinKernelIdeal : Cert.DwinKernelIdeal.Facts) (hDwinReferenceIdeal : Cert.DwinReferenceIdeal.Facts) (hPre_sb_finite : Cert.Pre_sb_finite.Facts) (hPre_disc_regular : Cert.Pre_disc_regular.Facts) (hPre_disc_forward_regular : Cert.Pre_disc_forward_regular.Facts) (hPre_lru_decays : Cert.Pre_lru_decays.Facts),
    quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_DguKernel (hDguKernel := hDguKernel)
    ∧ quiescent_DguKernelIdeal (hDguKernelIdeal := hDguKernelIdeal)
    ∧ quiescent_DguReferenceIdeal (hDguReferenceIdeal := hDguReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DhnKernel (hDhnKernel := hDhnKernel)
    ∧ quiescent_DhnKernelIdeal (hDhnKernelIdeal := hDhnKernelIdeal)
    ∧ quiescent_DhnReferenceIdeal (hDhnReferenceIdeal := hDhnReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_DiscKernel (hDiscKernel := hDiscKernel)
    ∧ quiescent_DiscKernelIdeal (hDiscKernelIdeal := hDiscKernelIdeal)
    ∧ quiescent_DiscKernelIdeal_pre_disc_regular (hDiscKernelIdeal := hDiscKernelIdeal) (hPre_disc_regular := hPre_disc_regular)
    ∧ quiescent_DiscReferenceIdeal (hDiscReferenceIdeal := hDiscReferenceIdeal)
    ∧ quiescent_DiscReferenceIdeal_pre_disc_regular (hDiscReferenceIdeal := hDiscReferenceIdeal) (hPre_disc_regular := hPre_disc_regular)
    ∧ quiescent_GlufKernel (hGlufKernel := hGlufKernel)
    ∧ quiescent_GlufKernelIdeal (hGlufKernelIdeal := hGlufKernelIdeal)
    ∧ quiescent_GlufReferenceIdeal (hGlufReferenceIdeal := hGlufReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_DiscfKernel (hDiscfKernel := hDiscfKernel)
    ∧ quiescent_DiscfKernelIdeal (hDiscfKernelIdeal := hDiscfKernelIdeal)
    ∧ quiescent_DiscfKernelIdeal_pre_disc_forward_regular (hDiscfKernelIdeal := hDiscfKernelIdeal) (hPre_disc_forward_regular := hPre_disc_forward_regular)
    ∧ quiescent_DiscfReferenceIdeal (hDiscfReferenceIdeal := hDiscfReferenceIdeal)
    ∧ quiescent_DiscfReferenceIdeal_pre_disc_forward_regular (hDiscfReferenceIdeal := hDiscfReferenceIdeal) (hPre_disc_forward_regular := hPre_disc_forward_regular)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_SumcKernel (hSumcKernel := hSumcKernel)
    ∧ quiescent_SumcKernelIdeal (hSumcKernelIdeal := hSumcKernelIdeal)
    ∧ quiescent_SumcReferenceIdeal (hSumcReferenceIdeal := hSumcReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_RepKernel (hRepKernel := hRepKernel)
    ∧ quiescent_RepKernelIdeal (hRepKernelIdeal := hRepKernelIdeal)
    ∧ quiescent_RepReferenceIdeal (hRepReferenceIdeal := hRepReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_LrufKernel (hLrufKernel := hLrufKernel)
    ∧ quiescent_LrufKernelIdeal (hLrufKernelIdeal := hLrufKernelIdeal)
    ∧ quiescent_LrufKernelIdeal_pre_lru_decays (hLrufKernelIdeal := hLrufKernelIdeal) (hPre_lru_decays := hPre_lru_decays)
    ∧ quiescent_LrufReferenceIdeal (hLrufReferenceIdeal := hLrufReferenceIdeal)
    ∧ quiescent_LrufReferenceIdeal_pre_lru_decays (hLrufReferenceIdeal := hLrufReferenceIdeal) (hPre_lru_decays := hPre_lru_decays)
    ∧ quiescent_S5fKernel (hS5fKernel := hS5fKernel)
    ∧ quiescent_S5fKernelIdeal (hS5fKernelIdeal := hS5fKernelIdeal)
    ∧ quiescent_DwinKernel (hDwinKernel := hDwinKernel)
    ∧ quiescent_DwinKernelIdeal (hDwinKernelIdeal := hDwinKernelIdeal)
    ∧ quiescent_DwinReferenceIdeal (hDwinReferenceIdeal := hDwinReferenceIdeal)
    ∧ preserves_GluKernel_GluKernelIdeal
    ∧ algebraic_GluKernelIdeal_GluReferenceIdeal (hGluKernelIdeal := hGluKernelIdeal) (hGluReferenceIdeal := hGluReferenceIdeal)
    ∧ preserves_SbKernel_SbKernelIdeal
    ∧ algebraic_SbKernelIdeal_SbReferenceIdeal_pre_sb_finite (hSbKernelIdeal := hSbKernelIdeal) (hSbReferenceIdeal := hSbReferenceIdeal) (hPre_sb_finite := hPre_sb_finite)
    ∧ preserves_DguKernel_DguKernelIdeal
    ∧ algebraic_DguKernelIdeal_DguReferenceIdeal (hDguKernelIdeal := hDguKernelIdeal) (hDguReferenceIdeal := hDguReferenceIdeal)
    ∧ preserves_MixKernel_MixKernelIdeal
    ∧ algebraic_MixKernelIdeal_MixReferenceIdeal (hMixKernelIdeal := hMixKernelIdeal) (hMixReferenceIdeal := hMixReferenceIdeal)
    ∧ preserves_DhnKernel_DhnKernelIdeal
    ∧ algebraic_DhnKernelIdeal_DhnReferenceIdeal (hDhnKernelIdeal := hDhnKernelIdeal) (hDhnReferenceIdeal := hDhnReferenceIdeal)
    ∧ preserves_LossKernel_LossKernelIdeal
    ∧ algebraic_LossKernelIdeal_LossReferenceIdeal (hLossKernelIdeal := hLossKernelIdeal) (hLossReferenceIdeal := hLossReferenceIdeal)
    ∧ preserves_DiscKernel_DiscKernelIdeal
    ∧ algebraic_DiscKernelIdeal_DiscReferenceIdeal_pre_disc_regular (hDiscKernelIdeal := hDiscKernelIdeal) (hDiscReferenceIdeal := hDiscReferenceIdeal) (hPre_disc_regular := hPre_disc_regular)
    ∧ preserves_GlufKernel_GlufKernelIdeal
    ∧ algebraic_GlufKernelIdeal_GlufReferenceIdeal (hGlufKernelIdeal := hGlufKernelIdeal) (hGlufReferenceIdeal := hGlufReferenceIdeal)
    ∧ preserves_NormKernel_NormKernelIdeal
    ∧ algebraic_NormKernelIdeal_NormReferenceIdeal (hNormKernelIdeal := hNormKernelIdeal) (hNormReferenceIdeal := hNormReferenceIdeal)
    ∧ preserves_DiscfKernel_DiscfKernelIdeal
    ∧ algebraic_DiscfKernelIdeal_DiscfReferenceIdeal_pre_disc_forward_regular (hDiscfKernelIdeal := hDiscfKernelIdeal) (hDiscfReferenceIdeal := hDiscfReferenceIdeal) (hPre_disc_forward_regular := hPre_disc_forward_regular)
    ∧ preserves_OutKernel_OutKernelIdeal
    ∧ algebraic_OutKernelIdeal_OutReferenceIdeal (hOutKernelIdeal := hOutKernelIdeal) (hOutReferenceIdeal := hOutReferenceIdeal)
    ∧ preserves_SumcKernel_SumcKernelIdeal
    ∧ algebraic_SumcKernelIdeal_SumcReferenceIdeal (hSumcKernelIdeal := hSumcKernelIdeal) (hSumcReferenceIdeal := hSumcReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_RepKernel_RepKernelIdeal
    ∧ algebraic_RepKernelIdeal_RepReferenceIdeal (hRepKernelIdeal := hRepKernelIdeal) (hRepReferenceIdeal := hRepReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_LrufKernel_LrufKernelIdeal
    ∧ algebraic_LrufKernelIdeal_LrufReferenceIdeal_pre_lru_decays (hLrufKernelIdeal := hLrufKernelIdeal) (hLrufReferenceIdeal := hLrufReferenceIdeal) (hPre_lru_decays := hPre_lru_decays)
    ∧ preserves_S5fKernel_S5fKernelIdeal
    ∧ preserves_DwinKernel_DwinKernelIdeal
    ∧ algebraic_DwinKernelIdeal_DwinReferenceIdeal (hDwinKernelIdeal := hDwinKernelIdeal) (hDwinReferenceIdeal := hDwinReferenceIdeal)
-- ==== Pre_disc_forward_regular.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)

variable [Facts]

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) : IVec S64x64 1 :=
  let main_v0 : FVec F S64x64 .f32 := mulf main_arg0 main_arg0
  let main_v1 : FVec F S64x64 .f32 := mulf main_arg1 main_arg1
  let main_v2 : FVec F S64x64 .f32 := addf main_v0 main_v1
  let main_cst : FVec F S_ .f32 := constant S_ .f32 0x3F800000#32
  let main_v3 : FVec F S64x64 .f32 := broadcastInDim S64x64 ![] bcast_S_S64x64 main_cst
  let main_v4 : FVec F S64x64 .f32 := Host.divf main_v3 main_v2
  let main_v5 : FVec F S64x64 .f32 := Host.absf main_v4
  let main_cst_0 : FVec F S_ .f32 := constant S_ .f32 0x7F800000#32
  let main_v6 : FVec F S64x64 .f32 := broadcastInDim S64x64 ![] bcast_S_S64x64 main_cst_0
  let main_v7 : IVec S64x64 1 := cmpf .olt main_v5 main_v6
  main_v7
-- ==== Pre_disc_regular.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x64x68 : Shape := ⟨3, ![64, 64, 68]⟩

class Facts : Prop where
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  concatenates_S64x64x1_S64x64x1_S64x64x1_S64x64x1_S64x64x16_S64x64x16_S64x64x16_S64x64x16_S64x64x68_d2 : Shape.Concatenates [S64x64x1, S64x64x1, S64x64x1, S64x64x1, S64x64x16, S64x64x16, S64x64x16, S64x64x16] S64x64x68 2
  bcast_S_S64x64x68 : S_.BroadcastsInDim S64x64x68 (![] : Fin 0 → Fin S64x64x68.rank)

variable [Facts]

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x64 .f32) (main_arg6 : FVec F S64x64 .f32) (main_arg7 : FVec F S64x64x16 .f32) (main_arg8 : FVec F S64x64x16 .f32) : IVec S64x64x68 1 :=
  let main_v0 : FVec F S64x1 .f32 := broadcastInDim S64x1 ![0] bcast_S64_S64x1_0 main_arg2
  let main_v1 : FVec F S64x64 .f32 := broadcastInDim S64x64 ![0, 1] bcast_S64x1_S64x64_0_1 main_v0
  let main_v2 : FVec F S64x64 .f32 := mulf main_arg0 main_arg0
  let main_v3 : FVec F S64x64 .f32 := mulf main_arg1 main_arg1
  let main_v4 : FVec F S64x64 .f32 := addf main_v2 main_v3
  let main_cst : FVec F S_ .f32 := constant S_ .f32 0x3F800000#32
  let main_v5 : FVec F S64x64 .f32 := broadcastInDim S64x64 ![] bcast_S_S64x64 main_cst
  let main_v6 : FVec F S64x64 .f32 := Host.divf main_v5 main_v4
  let main_v7 : FVec F S64x64x1 .f32 := broadcastInDim S64x64x1 ![0, 1] bcast_S64x64_S64x64x1_0_1 main_arg0
  let main_v8 : FVec F S64x64x1 .f32 := broadcastInDim S64x64x1 ![0, 1] bcast_S64x64_S64x64x1_0_1 main_arg1
  let main_v9 : FVec F S64x64x1 .f32 := broadcastInDim S64x64x1 ![0, 1] bcast_S64x64_S64x64x1_0_1 main_v1
  let main_v10 : FVec F S64x64x1 .f32 := broadcastInDim S64x64x1 ![0, 1] bcast_S64x64_S64x64x1_0_1 main_v6
  let main_v11 : FVec F S64x64x68 .f32 := concatenate S64x64x68 2 [⟨S64x64x1, main_v7⟩, ⟨S64x64x1, main_v8⟩, ⟨S64x64x1, main_v9⟩, ⟨S64x64x1, main_v10⟩, ⟨S64x64x16, main_arg3⟩, ⟨S64x64x16, main_arg4⟩, ⟨S64x64x16, main_arg7⟩, ⟨S64x64x16, main_arg8⟩] concatenates_S64x64x1_S64x64x1_S64x64x1_S64x64x1_S64x64x16_S64x64x16_S64x64x16_S64x64x16_S64x64x68_d2
  let main_v12 : FVec F S64x64x68 .f32 := Host.absf main_v11
  let main_cst_0 : FVec F S_ .f32 := constant S_ .f32 0x7F800000#32
  let main_v13 : FVec F S64x64x68 .f32 := broadcastInDim S64x64x68 ![] bcast_S_S64x64x68 main_cst_0
  let main_v14 : IVec S64x64x68 1 := cmpf .olt main_v12 main_v13
  main_v14
-- ==== Pre_lru_decays.lean ====
abbrev S8192x2048 : Shape := ⟨2, ![8192, 2048]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S8192x1024 : Shape := ⟨2, ![8192, 1024]⟩
abbrev S1x1024 : Shape := ⟨2, ![1, 1024]⟩
abbrev S_ : Shape := ⟨0, ![]⟩
abbrev S3x1024 : Shape := ⟨2, ![3, 1024]⟩
abbrev S8189x1024 : Shape := ⟨2, ![8189, 1024]⟩
abbrev S2x1024 : Shape := ⟨2, ![2, 1024]⟩
abbrev S8190x1024 : Shape := ⟨2, ![8190, 1024]⟩
abbrev S8191x1024 : Shape := ⟨2, ![8191, 1024]⟩
abbrev S8192x4x256 : Shape := ⟨3, ![8192, 4, 256]⟩
abbrev S4x256x8192 : Shape := ⟨3, ![4, 256, 8192]⟩
abbrev S1x4x256 : Shape := ⟨3, ![1, 4, 256]⟩

class Facts : Prop where
  slices_S8192x2048_S8192x1024_0_1024 : S8192x2048.Slices ![0, 1024] S8192x1024
  slices_S4x1024_S1x1024_0_0 : S4x1024.Slices ![0, 0] S1x1024
  shapeCasts_S1x1024_S1024 : S1x1024.ShapeCasts S1024
  bcast_S_S3x1024 : S_.BroadcastsInDim S3x1024 (![] : Fin 0 → Fin S3x1024.rank)
  slices_S8192x1024_S8189x1024_0_0 : S8192x1024.Slices ![0, 0] S8189x1024
  concatenates_S3x1024_S8189x1024_S8192x1024_d0 : Shape.Concatenates [S3x1024, S8189x1024] S8192x1024 0
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S4x1024_S1x1024_1_0 : S4x1024.Slices ![1, 0] S1x1024
  bcast_S_S2x1024 : S_.BroadcastsInDim S2x1024 (![] : Fin 0 → Fin S2x1024.rank)
  slices_S8192x1024_S8190x1024_0_0 : S8192x1024.Slices ![0, 0] S8190x1024
  concatenates_S2x1024_S8190x1024_S8192x1024_d0 : Shape.Concatenates [S2x1024, S8190x1024] S8192x1024 0
  slices_S4x1024_S1x1024_2_0 : S4x1024.Slices ![2, 0] S1x1024
  bcast_S_S1x1024 : S_.BroadcastsInDim S1x1024 (![] : Fin 0 → Fin S1x1024.rank)
  slices_S8192x1024_S8191x1024_0_0 : S8192x1024.Slices ![0, 0] S8191x1024
  concatenates_S1x1024_S8191x1024_S8192x1024_d0 : Shape.Concatenates [S1x1024, S8191x1024] S8192x1024 0
  slices_S4x1024_S1x1024_3_0 : S4x1024.Slices ![3, 0] S1x1024
  shapeCasts_S8192x1024_S8192x4x256 : S8192x1024.ShapeCasts S8192x4x256
  transposes_S4x256x8192_S8192x4x256_2_0_1 : S4x256x8192.Transposes [2, 0, 1] S8192x4x256
  bcast_S4x256_S1x4x256_1_2 : S4x256.BroadcastsInDim S1x4x256 (![1, 2] : Fin 2 → Fin S1x4x256.rank)
  bcast_S1x4x256_S8192x4x256_0_1_2 : S1x4x256.BroadcastsInDim S8192x4x256 (![0, 1, 2] : Fin 3 → Fin S8192x4x256.rank)
  bcast_S_S8192x4x256 : S_.BroadcastsInDim S8192x4x256 (![] : Fin 0 → Fin S8192x4x256.rank)
  shapeCasts_S8192x4x256_S8192x1024 : S8192x4x256.ShapeCasts S8192x1024
  bcast_S_S8192x1024 : S_.BroadcastsInDim S8192x1024 (![] : Fin 0 → Fin S8192x1024.rank)
  bcast_S_S1024 : S_.BroadcastsInDim S1024 (![] : Fin 0 → Fin S1024.rank)
  dot_S4x256x256_S8192x4x256_S4x256x8192_1_2_2_0_0_1_wf : DotDims.WF S4x256x256 S8192x4x256 S4x256x8192 [1] [2] [2] [0] [0] [1]

variable [Facts]

def dot_S4x256x256_S8192x4x256_S4x256x8192_1_2_2_0_0_1 : DotDims S4x256x256 S8192x4x256 S4x256x8192 where
  lhsContracting := [1]
  rhsContracting := [2]
  lhsNonContracting := [2]
  rhsNonContracting := [0]
  lhsBatch := [0]
  rhsBatch := [1]
  wf := dot_S4x256x256_S8192x4x256_S4x256x8192_1_2_2_0_0_1_wf
def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_part3 {F : FTy → Type} [FloatOps F] (main_v62 : FVec F S8192x1024 .f32) (main_v63 : FVec F S1024 .f32) : IVec S8192x1024 1 :=
  let main_v64 : FVec F S1024 .f32 := fn_softplus (F := F) main_v63
  let main_v65 : FVec F S1x1024 .f32 := broadcastInDim S1x1024 ![1] bcast_S1024_S1x1024_1 main_v64
  let main_v66 : FVec F S8192x1024 .f32 := broadcastInDim S8192x1024 ![0, 1] bcast_S1x1024_S8192x1024_0_1 main_v65
  let main_v67 : FVec F S8192x1024 .f32 := mulf main_v62 main_v66
  let main_cst_7 : FVec F S_ .f32 := constant S_ .f32 0x40000000#32
  let main_v68 : FVec F S8192x1024 .f32 := broadcastInDim S8192x1024 ![] bcast_S_S8192x1024 main_cst_7
  let main_v69 : FVec F S8192x1024 .f32 := mulf main_v68 main_v67
  let main_cst_8 : FVec F S_ .f32 := constant S_ .f32 0xBC23D70A#32
  let main_v70 : FVec F S8192x1024 .f32 := broadcastInDim S8192x1024 ![] bcast_S_S8192x1024 main_cst_8
  let main_v71 : IVec S8192x1024 1 := cmpf .ole main_v69 main_v70
  main_v71

def fn_part2 {F : FTy → Type} [FloatOps F] (main_arg5 : FVec F S4x256x256 .f32) (main_arg6 : FVec F S4x256 .f32) (main_arg7 : FVec F S1024 .f32) (main_v36 : FVec F S8192x4x256 .f32) (main_v43 : FVec F S8192x4x256 .f32) (main_cst_2 : FVec F S_ .f32) : IVec S8192x1024 1 :=
  let main_v44 : FVec F S8192x4x256 .f32 := broadcastInDim S8192x4x256 ![] bcast_S_S8192x4x256 main_cst_2
  let main_v45 : FVec F S8192x4x256 .f32 := addf main_v44 main_v43
  let main_cst_3 : FVec F S_ .f32 := constant S_ .f32 0x3F800000#32
  let main_v46 : FVec F S8192x4x256 .f32 := broadcastInDim S8192x4x256 ![] bcast_S_S8192x4x256 main_cst_3
  let main_v47 : FVec F S8192x4x256 .f32 := Host.divf main_v46 main_v45
  let main_v48 : FVec F S8192x1024 .f32 := shapeCast S8192x1024 main_v47 shapeCasts_S8192x4x256_S8192x1024
  let main_v49 : FVec F S4x256x8192 .f32 := (fun l r => Host.dotGeneral dot_S4x256x256_S8192x4x256_S4x256x8192_1_2_2_0_0_1 none l r) main_arg5 main_v36
  let main_v50 : FVec F S8192x4x256 .f32 := (transpose S8192x4x256 [2, 0, 1] · transposes_S4x256x8192_S8192x4x256_2_0_1) main_v49
  let main_v51 : FVec F S1x4x256 .f32 := broadcastInDim S1x4x256 ![1, 2] bcast_S4x256_S1x4x256_1_2 main_arg6
  let main_v52 : FVec F S8192x4x256 .f32 := broadcastInDim S8192x4x256 ![0, 1, 2] bcast_S1x4x256_S8192x4x256_0_1_2 main_v51
  let main_v53 : FVec F S8192x4x256 .f32 := addf main_v50 main_v52
  let main_v54 : FVec F S8192x4x256 .f32 := Host.negf main_v53
  let main_v55 : FVec F S8192x4x256 .f32 := Host.exp main_v54
  let main_cst_4 : FVec F S_ .f32 := constant S_ .f32 0x3F800000#32
  let main_v56 : FVec F S8192x4x256 .f32 := broadcastInDim S8192x4x256 ![] bcast_S_S8192x4x256 main_cst_4
  let main_v57 : FVec F S8192x4x256 .f32 := addf main_v56 main_v55
  let main_cst_5 : FVec F S_ .f32 := constant S_ .f32 0x3F800000#32
  let main_v58 : FVec F S8192x4x256 .f32 := broadcastInDim S8192x4x256 ![] bcast_S_S8192x4x256 main_cst_5
  let main_v59 : FVec F S8192x4x256 .f32 := Host.divf main_v58 main_v57
  let main_v60 : FVec F S8192x1024 .f32 := shapeCast S8192x1024 main_v59 shapeCasts_S8192x4x256_S8192x1024
  let main_cst_6 : FVec F S_ .f32 := constant S_ .f32 0xC1000000#32
  let main_v61 : FVec F S8192x1024 .f32 := broadcastInDim S8192x1024 ![] bcast_S_S8192x1024 main_cst_6
  let main_v62 : FVec F S8192x1024 .f32 := mulf main_v61 main_v48
  let main_v63 : FVec F S1024 .f32 := Host.negf main_arg7
  fn_part3 (F := F) main_v62 main_v63

def fn_part1 {F : FTy → Type} [FloatOps F] (main_arg1 : FVec F S4x1024 .f32) (main_arg2 : FVec F S1024 .f32) (main_arg3 : FVec F S4x256x256 .f32) (main_arg4 : FVec F S4x256 .f32) (main_arg5 : FVec F S4x256x256 .f32) (main_arg6 : FVec F S4x256 .f32) (main_arg7 : FVec F S1024 .f32) (main_v0 : FVec F S8192x1024 .f32) (main_v17 : FVec F S8192x1024 .f32) (main_v19 : FVec F S1024 .f32) (main_v20 : FVec F S1x1024 .f32) : IVec S8192x1024 1 :=
  let main_v21 : FVec F S8191x1024 .f32 := (extractStridedSlice S8191x1024 ![0, 0] · slices_S8192x1024_S8191x1024_0_0) main_v0
  let main_v22 : FVec F S8192x1024 .f32 := (fun a b => concatenate S8192x1024 0 [⟨S1x1024, a⟩, ⟨S8191x1024, b⟩] concatenates_S1x1024_S8191x1024_S8192x1024_d0) main_v20 main_v21
  let main_v23 : FVec F S1x1024 .f32 := broadcastInDim S1x1024 ![1] bcast_S1024_S1x1024_1 main_v19
  let main_v24 : FVec F S8192x1024 .f32 := broadcastInDim S8192x1024 ![0, 1] bcast_S1x1024_S8192x1024_0_1 main_v23
  let main_v25 : FVec F S8192x1024 .f32 := mulf main_v24 main_v22
  let main_v26 : FVec F S8192x1024 .f32 := addf main_v17 main_v25
  let main_v27 : FVec F S1x1024 .f32 := (extractStridedSlice S1x1024 ![3, 0] · slices_S4x1024_S1x1024_3_0) main_arg1
  let main_v28 : FVec F S1024 .f32 := shapeCast S1024 main_v27 shapeCasts_S1x1024_S1024
  let main_v29 : FVec F S1x1024 .f32 := broadcastInDim S1x1024 ![1] bcast_S1024_S1x1024_1 main_v28
  let main_v30 : FVec F S8192x1024 .f32 := broadcastInDim S8192x1024 ![0, 1] bcast_S1x1024_S8192x1024_0_1 main_v29
  let main_v31 : FVec F S8192x1024 .f32 := mulf main_v30 main_v0
  let main_v32 : FVec F S8192x1024 .f32 := addf main_v26 main_v31
  let main_v33 : FVec F S1x1024 .f32 := broadcastInDim S1x1024 ![1] bcast_S1024_S1x1024_1 main_arg2
  let main_v34 : FVec F S8192x1024 .f32 := broadcastInDim S8192x1024 ![0, 1] bcast_S1x1024_S8192x1024_0_1 main_v33
  let main_v35 : FVec F S8192x1024 .f32 := addf main_v32 main_v34
  let main_v36 : FVec F S8192x4x256 .f32 := shapeCast S8192x4x256 main_v35 shapeCasts_S8192x1024_S8192x4x256
  let main_v37 : FVec F S4x256x8192 .f32 := (fun l r => Host.dotGeneral dot_S4x256x256_S8192x4x256_S4x256x8192_1_2_2_0_0_1 none l r) main_arg3 main_v36
  let main_v38 : FVec F S8192x4x256 .f32 := (transpose S8192x4x256 [2, 0, 1] · transposes_S4x256x8192_S8192x4x256_2_0_1) main_v37
  let main_v39 : FVec F S1x4x256 .f32 := broadcastInDim S1x4x256 ![1, 2] bcast_S4x256_S1x4x256_1_2 main_arg4
  let main_v40 : FVec F S8192x4x256 .f32 := broadcastInDim S8192x4x256 ![0, 1, 2] bcast_S1x4x256_S8192x4x256_0_1_2 main_v39
  let main_v41 : FVec F S8192x4x256 .f32 := addf main_v38 main_v40
  let main_v42 : FVec F S8192x4x256 .f32 := Host.negf main_v41
  let main_v43 : FVec F S8192x4x256 .f32 := Host.exp main_v42
  let main_cst_2 : FVec F S_ .f32 := constant S_ .f32 0x3F800000#32
  fn_part2 (F := F) main_arg5 main_arg6 main_arg7 main_v36 main_v43 main_cst_2

def fn {F : FTy → Type} [FloatOps F] (main_arg0 : FVec F S8192x2048 .f32) (main_arg1 : FVec F S4x1024 .f32) (main_arg2 : FVec F S1024 .f32) (main_arg3 : FVec F S4x256x256 .f32) (main_arg4 : FVec F S4x256 .f32) (main_arg5 : FVec F S4x256x256 .f32) (main_arg6 : FVec F S4x256 .f32) (main_arg7 : FVec F S1024 .f32) : IVec S8192x1024 1 :=
  let main_v0 : FVec F S8192x1024 .f32 := (extractStridedSlice S8192x1024 ![0, 1024] · slices_S8192x2048_S8192x1024_0_1024) main_arg0
  let main_v1 : FVec F S1x1024 .f32 := (extractStridedSlice S1x1024 ![0, 0] · slices_S4x1024_S1x1024_0_0) main_arg1
  let main_v2 : FVec F S1024 .f32 := shapeCast S1024 main_v1 shapeCasts_S1x1024_S1024
  let main_cst : FVec F S_ .f32 := constant S_ .f32 0x00000000#32
  let main_v3 : FVec F S3x1024 .f32 := broadcastInDim S3x1024 ![] bcast_S_S3x1024 main_cst
  let main_v4 : FVec F S8189x1024 .f32 := (extractStridedSlice S8189x1024 ![0, 0] · slices_S8192x1024_S8189x1024_0_0) main_v0
  let main_v5 : FVec F S8192x1024 .f32 := (fun a b => concatenate S8192x1024 0 [⟨S3x1024, a⟩, ⟨S8189x1024, b⟩] concatenates_S3x1024_S8189x1024_S8192x1024_d0) main_v3 main_v4
  let main_v6 : FVec F S1x1024 .f32 := broadcastInDim S1x1024 ![1] bcast_S1024_S1x1024_1 main_v2
  let main_v7 : FVec F S8192x1024 .f32 := broadcastInDim S8192x1024 ![0, 1] bcast_S1x1024_S8192x1024_0_1 main_v6
  let main_v8 : FVec F S8192x1024 .f32 := mulf main_v7 main_v5
  let main_v9 : FVec F S1x1024 .f32 := (extractStridedSlice S1x1024 ![1, 0] · slices_S4x1024_S1x1024_1_0) main_arg1
  let main_v10 : FVec F S1024 .f32 := shapeCast S1024 main_v9 shapeCasts_S1x1024_S1024
  let main_cst_0 : FVec F S_ .f32 := constant S_ .f32 0x00000000#32
  let main_v11 : FVec F S2x1024 .f32 := broadcastInDim S2x1024 ![] bcast_S_S2x1024 main_cst_0
  let main_v12 : FVec F S8190x1024 .f32 := (extractStridedSlice S8190x1024 ![0, 0] · slices_S8192x1024_S8190x1024_0_0) main_v0
  let main_v13 : FVec F S8192x1024 .f32 := (fun a b => concatenate S8192x1024 0 [⟨S2x1024, a⟩, ⟨S8190x1024, b⟩] concatenates_S2x1024_S8190x1024_S8192x1024_d0) main_v11 main_v12
  let main_v14 : FVec F S1x1024 .f32 := broadcastInDim S1x1024 ![1] bcast_S1024_S1x1024_1 main_v10
  let main_v15 : FVec F S8192x1024 .f32 := broadcastInDim S8192x1024 ![0, 1] bcast_S1x1024_S8192x1024_0_1 main_v14
  let main_v16 : FVec F S8192x1024 .f32 := mulf main_v15 main_v13
  let main_v17 : FVec F S8192x1024 .f32 := addf main_v8 main_v16
  let main_v18 : FVec F S1x1024 .f32 := (extractStridedSlice S1x1024 ![2, 0] · slices_S4x1024_S1x1024_2_0) main_arg1
  let main_v19 : FVec F S1024 .f32 := shapeCast S1024 main_v18 shapeCasts_S1x1024_S1024
  let main_cst_1 : FVec F S_ .f32 := constant S_ .f32 0x00000000#32
  let main_v20 : FVec F S1x1024 .f32 := broadcastInDim S1x1024 ![] bcast_S_S1x1024 main_cst_1
  fn_part1 (F := F) main_arg1 main_arg2 main_arg3 main_arg4 main_arg5 main_arg6 main_arg7 main_v0 main_v17 main_v19 main_v20
-- ==== Pre_sb_finite.lean ====
abbrev S8192x3072 : Shape := ⟨2, ![8192, 3072]⟩
abbrev S8192x1024 : Shape := ⟨2, ![8192, 1024]⟩
abbrev S8192x4096 : Shape := ⟨2, ![8192, 4096]⟩
abbrev S_ : Shape := ⟨0, ![]⟩

class Facts : Prop where
  concatenates_S8192x3072_S8192x1024_S8192x4096_d1 : Shape.Concatenates [S8192x3072, S8192x1024] S8192x4096 1
  bcast_S_S8192x4096 : S_.BroadcastsInDim S8192x4096 (![] : Fin 0 → Fin S8192x4096.rank)

variable [Facts]

def fn {F : FTy → Type} [FloatOps F] (main_arg0 : FVec F S8192x3072 .f32) (main_arg1 : FVec F S8192x1024 .f32) : IVec S8192x4096 1 :=
  let main_v0 : FVec F S8192x4096 .f32 := (fun a b => concatenate S8192x4096 1 [⟨S8192x3072, a⟩, ⟨S8192x1024, b⟩] concatenates_S8192x3072_S8192x1024_S8192x4096_d1) main_arg0 main_arg1
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  main_v3
-- ==== GluKernel.lean ====
abbrev S8192x2048 : Shape := ⟨2, ![8192, 2048]⟩
abbrev S8192x1024 : Shape := ⟨2, ![8192, 1024]⟩
abbrev S256x2048 : Shape := ⟨2, ![256, 2048]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluReferenceIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== SbKernel.lean ====
abbrev S8192x3072 : Shape := ⟨2, ![8192, 3072]⟩
abbrev S8192x1024 : Shape := ⟨2, ![8192, 1024]⟩
abbrev S256x256 : Shape := ⟨2, ![256, 256]⟩
abbrev S8x8192x2 : Shape := ⟨3, ![8, 8192, 2]⟩
abbrev S1024x128 : Shape := ⟨2, ![1024, 128]⟩
abbrev S8192x128 : Shape := ⟨2, ![8192, 128]⟩
abbrev S1x1024x2 : Shape := ⟨3, ![1, 1024, 2]⟩
abbrev S1024x1 : Shape := ⟨2, ![1024, 1]⟩
abbrev S256x128 : Shape := ⟨2, ![256, 128]⟩
abbrev S256x1 : Shape := ⟨2, ![256, 1]⟩
abbrev S768x1 : Shape := ⟨2, ![768, 1]⟩
abbrev S768x128 : Shape := ⟨2, ![768, 128]⟩
abbrev S512x128 : Shape := ⟨2, ![512, 128]⟩
abbrev S512x256 : Shape := ⟨2, ![512, 256]⟩
abbrev S512x1 : Shape := ⟨2, ![512, 1]⟩
abbrev S768x256 : Shape := ⟨2, ![768, 256]⟩
abbrev S1024x256 : Shape := ⟨2, ![1024, 256]⟩
abbrev S1024x2 : Shape := ⟨2, ![1024, 2]⟩

abbrev nBuf : Space → Nat
  | .hbm => 25
  | .vmem => 29
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .bf16⟩
  | .hbm, ⟨7, _⟩ => ⟨S8192x1024, .bf16⟩
  | .hbm, ⟨8, _⟩ => ⟨S8x8192x2, .f32⟩
  | .hbm, ⟨9, _⟩ => ⟨S8192x1024, .bf16⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .bf16⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S256x256, .bf16⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x3072, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S1024x128, .bf16⟩
  | .local _ .vmem, ⟨8, _⟩ => ⟨S1024x128, .bf16⟩
  | .local _ .vmem, ⟨9, _⟩ => ⟨S1x1024x2, .f32⟩
  | .local _ .vmem, ⟨10, _⟩ => ⟨S1x1024x2, .f32⟩
  | .local _ .vmem, ⟨11, _⟩ => ⟨S1024x128, .bf16⟩
  | .local _ .vmem, ⟨12, _⟩ => ⟨S1024x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S1024x128, .bf16⟩
  | .local _ .vmem, ⟨18, _⟩ => ⟨S1024x128, .bf16⟩
  | .local _ .vmem, ⟨19, _⟩ => ⟨S1x1024x2, .f32⟩
  | .local _ .vmem, ⟨20, _⟩ => ⟨S1x1024x2, .f32⟩
  | .local _ .vmem, ⟨21, _⟩ => ⟨S256x256, .bf16⟩
  | .local _ .vmem, ⟨22, _⟩ => ⟨S256x256, .bf16⟩
  | .local _ .vmem, ⟨23, _⟩ => ⟨S1024x128, .f32⟩
  | .local _ .vmem, ⟨24, _⟩ => ⟨S1024x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | .local _ .vmem, ⟨28, _⟩ => ⟨S8192x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4_i32 : BitVec 32 := 4#32
  let v18 : BitVec 32 := Scalar.muli arg1 c4_i32
  let c3_i32 : BitVec 32 := 3#32
  let v19 : BitVec 32 := Scalar.addi v18 c3_i32
  let c256_i32 : BitVec 32 := 256#32
  let v20 : BitVec 32 := Scalar.muli v19 c256_i32
  v20
def k0_off1 (i : grid0.Coords) (c3_i32 : BitVec 32) : Fin 2 → Nat :=
  let arg1 : BitVec 32 := BitVec.ofNat 32 (i 1).val
  let c4_i32 : BitVec 32 := 4#32
  let v18 : BitVec 32 := Scalar.muli arg1 c4_i32
  let v19 : BitVec 32 := Scalar.addi v18 c3_i32
  let c256_i32 : BitVec 32 := 256#32
  let v20 : BitVec 32 := Scalar.muli v19 c256_i32
  let v21 : BitVec 32 := v20
  let v22 : Index := Scalar.indexCast v21
  let c0_8 : Index := 0#32
  ![v22.toNat, 0]
def k0_mult2 (i : grid0.Coords) : BitVec 32 :=
  let arg1 : BitVec 32 := BitVec.ofNat 32 (i 1).val
  let c4_i32_32 : BitVec 32 := 4#32
  let v128 : BitVec 32 := Scalar.muli arg1 c4_i32_32
  let c2_i32 : BitVec 32 := 2#32
  let v129 : BitVec 32 := Scalar.addi v128 c2_i32
  let c256_i32_33 : BitVec 32 := 256#32
  let v130 : BitVec 32 := Scalar.muli v129 c256_i32_33
  v130
def k0_mult3 (i : grid0.Coords) : BitVec 32 :=
  let arg1 : BitVec 32 := BitVec.ofNat 32 (i 1).val
  let c4_i32_59 : BitVec 32 := 4#32
  let v238 : BitVec 32 := Scalar.muli arg1 c4_i32_59
  let c1_i32 : BitVec 32 := 1#32
  let v239 : BitVec 32 := Scalar.addi v238 c1_i32
  let c256_i32_60 : BitVec 32 := 256#32
  let v240 : BitVec 32 := Scalar.muli v239 c256_i32_60
  v240
def k0_mult4 (i : grid0.Coords) : BitVec 32 :=
  let arg1 : BitVec 32 := BitVec.ofNat 32 (i 1).val
  let c4_i32_87 : BitVec 32 := 4#32
  let v348 : BitVec 32 := Scalar.muli arg1 c4_i32_87
  let c0_i32 : BitVec 32 := 0#32
  let v349 : BitVec 32 := Scalar.addi v348 c0_i32
  let c256_i32_88 : BitVec 32 := 256#32
  let v350 : BitVec 32 := Scalar.muli v349 c256_i32_88
  v350
@[reducible] def k0_t1_loop (i : grid0.Coords) : Scf.Loop 32 :=
  let c0_i32_116 : BitVec 32 := 0#32
  let arg1 : BitVec 32 := BitVec.ofNat 32 (i 1).val
  let c4_i32_115 : BitVec 32 := 4#32
  let v442 : BitVec 32 := Scalar.muli arg1 c4_i32_115
  let v443 : BitVec 32 := Scalar.subi v442 c0_i32_116
  let c1_i32_117 : BitVec 32 := 1#32
  let v445 : BitVec 32 := Scalar.divsi v443 c1_i32_117
  let v446 : BitVec 32 := Scalar.muli v445 c1_i32_117
  let v447 : BitVec 32 := Scalar.addi c0_i32_116 v446
  let c1_i32_118 : BitVec 32 := 1#32
  ⟨c0_i32_116, v447, c1_i32_118⟩
def k0_mult5 (i : grid0.Coords) (k0_t1 : Fin (k0_t1_loop i).trips) : BitVec 32 :=
  let arg1 : BitVec 32 := BitVec.ofNat 32 (i 1).val
  let c4_i32_127 : BitVec 32 := 4#32
  let v467 : BitVec 32 := Scalar.muli arg1 c4_i32_127
  let c1_i32_128 : BitVec 32 := 1#32
  let v468 : BitVec 32 := Scalar.subi v467 c1_i32_128
  let c0_i32_116 : BitVec 32 := 0#32
  let c1_i32_118 : BitVec 32 := 1#32
  let arg8 : BitVec 32 := Scf.iv c0_i32_116 c1_i32_118 k0_t1
  let v469 : BitVec 32 := Scalar.subi v468 arg8
  let c256_i32_129 : BitVec 32 := 256#32
  let v470 : BitVec 32 := Scalar.muli v469 c256_i32_129
  v470
def k0_off2 (i : grid0.Coords) (k0_t1 : Fin (k0_t1_loop i).trips) : Fin 2 → Nat :=
  let arg1 : BitVec 32 := BitVec.ofNat 32 (i 1).val
  let c4_i32_127 : BitVec 32 := 4#32
  let v467 : BitVec 32 := Scalar.muli arg1 c4_i32_127
  let c1_i32_128 : BitVec 32 := 1#32
  let v468 : BitVec 32 := Scalar.subi v467 c1_i32_128
  let c0_i32_116 : BitVec 32 := 0#32
  let c1_i32_118 : BitVec 32 := 1#32
  let arg8 : BitVec 32 := Scf.iv c0_i32_116 c1_i32_118 k0_t1
  let v469 : BitVec 32 := Scalar.subi v468 arg8
  let c256_i32_129 : BitVec 32 := 256#32
  let v470 : BitVec 32 := Scalar.muli v469 c256_i32_129
  let v471 : BitVec 32 := v470
  let v472 : Index := Scalar.indexCast v471
  let c0_130 : Index := 0#32
  ![v472.toNat, 0]
@[reducible] def k0_t2_loop (i : grid0.Coords) : Scf.Loop 32 :=
  let c0_i32_116 : BitVec 32 := 0#32
  let arg1 : BitVec 32 := BitVec.ofNat 32 (i 1).val
  let c4_i32_115 : BitVec 32 := 4#32
  let v442 : BitVec 32 := Scalar.muli arg1 c4_i32_115
  let v443 : BitVec 32 := Scalar.subi v442 c0_i32_116
  let c1_i32_117 : BitVec 32 := 1#32
  let v445 : BitVec 32 := Scalar.divsi v443 c1_i32_117
  let v446 : BitVec 32 := Scalar.muli v445 c1_i32_117
  let v447 : BitVec 32 := Scalar.addi c0_i32_116 v446
  let v444 : BitVec 32 := Scalar.addi c0_i32_116 v443
  let c1_i32_119 : BitVec 32 := 1#32
  ⟨v447, v444, c1_i32_119⟩
def k0_mult6 (i : grid0.Coords) (k0_t2 : Fin (k0_t2_loop i).trips) : BitVec 32 :=
  let arg1 : BitVec 32 := BitVec.ofNat 32 (i 1).val
  let c4_i32_127 : BitVec 32 := 4#32
  let v467 : BitVec 32 := Scalar.muli arg1 c4_i32_127
  let c1_i32_128 : BitVec 32 := 1#32
  let v468 : BitVec 32 := Scalar.subi v467 c1_i32_128
  let c0_i32_116 : BitVec 32 := 0#32
  let c4_i32_115 : BitVec 32 := 4#32
  let v442 : BitVec 32 := Scalar.muli arg1 c4_i32_115
  let v443 : BitVec 32 := Scalar.subi v442 c0_i32_116
  let c1_i32_117 : BitVec 32 := 1#32
  let v445 : BitVec 32 := Scalar.divsi v443 c1_i32_117
  let v446 : BitVec 32 := Scalar.muli v445 c1_i32_117
  let v447 : BitVec 32 := Scalar.addi c0_i32_116 v446
  let c1_i32_119 : BitVec 32 := 1#32
  let arg8 : BitVec 32 := Scf.iv v447 c1_i32_119 k0_t2
  let v469 : BitVec 32 := Scalar.subi v468 arg8
  let c256_i32_129 : BitVec 32 := 256#32
  let v470 : BitVec 32 := Scalar.muli v469 c256_i32_129
  v470
def k0_off3 (i : grid0.Coords) (k0_t2 : Fin (k0_t2_loop i).trips) : Fin 2 → Nat :=
  let arg1 : BitVec 32 := BitVec.ofNat 32 (i 1).val
  let c4_i32_127 : BitVec 32 := 4#32
  let v467 : BitVec 32 := Scalar.muli arg1 c4_i32_127
  let c1_i32_128 : BitVec 32 := 1#32
  let v468 : BitVec 32 := Scalar.subi v467 c1_i32_128
  let c0_i32_116 : BitVec 32 := 0#32
  let c4_i32_115 : BitVec 32 := 4#32
  let v442 : BitVec 32 := Scalar.muli arg1 c4_i32_115
  let v443 : BitVec 32 := Scalar.subi v442 c0_i32_116
  let c1_i32_117 : BitVec 32 := 1#32
  let v445 : BitVec 32 := Scalar.divsi v443 c1_i32_117
  let v446 : BitVec 32 := Scalar.muli v445 c1_i32_117
  let v447 : BitVec 32 := Scalar.addi c0_i32_116 v446
  let c1_i32_119 : BitVec 32 := 1#32
  let arg8 : BitVec 32 := Scf.iv v447 c1_i32_119 k0_t2
  let v469 : BitVec 32 := Scalar.subi v468 arg8
  let c256_i32_129 : BitVec 32 := 256#32
  let v470 : BitVec 32 := Scalar.muli v469 c256_i32_129
  let v471 : BitVec 32 := v470
  let v472 : Index := Scalar.indexCast v471
  let c0_130 : Index := 0#32
  ![v472.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

@[reducible] def k1_t1_loop (i : grid1.Coords) : Scf.Loop 32 :=
  let c0_i32_19 : BitVec 32 := 0#32
  let arg1 : BitVec 32 := BitVec.ofNat 32 (i 1).val
  let c4_i32 : BitVec 32 := 4#32
  let v37 : BitVec 32 := Scalar.muli arg1 c4_i32
  let v38 : BitVec 32 := Scalar.subi v37 c0_i32_19
  let c1_i32 : BitVec 32 := 1#32
  let v40 : BitVec 32 := Scalar.divsi v38 c1_i32
  let v41 : BitVec 32 := Scalar.muli v40 c1_i32
  let v42 : BitVec 32 := Scalar.addi c0_i32_19 v41
  let c1_i32_20 : BitVec 32 := 1#32
  ⟨c0_i32_19, v42, c1_i32_20⟩
def k1_mult1 (i : grid1.Coords) (k1_t1 : Fin (k1_t1_loop i).trips) : BitVec 32 :=
  let c0_i32_19 : BitVec 32 := 0#32
  let c1_i32_20 : BitVec 32 := 1#32
  let arg12 : BitVec 32 := Scf.iv c0_i32_19 c1_i32_20 k1_t1
  let c256_i32_192 : BitVec 32 := 256#32
  let v686 : BitVec 32 := Scalar.muli arg12 c256_i32_192
  v686
def k1_off1 (i : grid1.Coords) (k1_t1 : Fin (k1_t1_loop i).trips) : Fin 2 → Nat :=
  let c0_i32_19 : BitVec 32 := 0#32
  let c1_i32_20 : BitVec 32 := 1#32
  let arg12 : BitVec 32 := Scf.iv c0_i32_19 c1_i32_20 k1_t1
  let c256_i32_192 : BitVec 32 := 256#32
  let v686 : BitVec 32 := Scalar.muli arg12 c256_i32_192
  let v687 : BitVec 32 := v686
  let v688 : Index := Scalar.indexCast v687
  let c0_193 : Index := 0#32
  ![v688.toNat, 0]
@[reducible] def k1_t2_loop (i : grid1.Coords) : Scf.Loop 32 :=
  let c0_i32_19 : BitVec 32 := 0#32
  let arg1 : BitVec 32 := BitVec.ofNat 32 (i 1).val
  let c4_i32 : BitVec 32 := 4#32
  let v37 : BitVec 32 := Scalar.muli arg1 c4_i32
  let v38 : BitVec 32 := Scalar.subi v37 c0_i32_19
  let c1_i32 : BitVec 32 := 1#32
  let v40 : BitVec 32 := Scalar.divsi v38 c1_i32
  let v41 : BitVec 32 := Scalar.muli v40 c1_i32
  let v42 : BitVec 32 := Scalar.addi c0_i32_19 v41
  let v39 : BitVec 32 := Scalar.addi c0_i32_19 v38
  let c1_i32_21 : BitVec 32 := 1#32
  ⟨v42, v39, c1_i32_21⟩
def k1_mult2 (i : grid1.Coords) (k1_t2 : Fin (k1_t2_loop i).trips) : BitVec 32 :=
  let c0_i32_19 : BitVec 32 := 0#32
  let arg1 : BitVec 32 := BitVec.ofNat 32 (i 1).val
  let c4_i32 : BitVec 32 := 4#32
  let v37 : BitVec 32 := Scalar.muli arg1 c4_i32
  let v38 : BitVec 32 := Scalar.subi v37 c0_i32_19
  let c1_i32 : BitVec 32 := 1#32
  let v40 : BitVec 32 := Scalar.divsi v38 c1_i32
  let v41 : BitVec 32 := Scalar.muli v40 c1_i32
  let v42 : BitVec 32 := Scalar.addi c0_i32_19 v41
  let c1_i32_21 : BitVec 32 := 1#32
  let arg12 : BitVec 32 := Scf.iv v42 c1_i32_21 k1_t2
  let c256_i32_192 : BitVec 32 := 256#32
  let v686 : BitVec 32 := Scalar.muli arg12 c256_i32_192
  v686
def k1_off2 (i : grid1.Coords) (k1_t2 : Fin (k1_t2_loop i).trips) : Fin 2 → Nat :=
  let c0_i32_19 : BitVec 32 := 0#32
  let arg1 : BitVec 32 := BitVec.ofNat 32 (i 1).val
  let c4_i32 : BitVec 32 := 4#32
  let v37 : BitVec 32 := Scalar.muli arg1 c4_i32
  let v38 : BitVec 32 := Scalar.subi v37 c0_i32_19
  let c1_i32 : BitVec 32 := 1#32
  let v40 : BitVec 32 := Scalar.divsi v38 c1_i32
  let v41 : BitVec 32 := Scalar.muli v40 c1_i32
  let v42 : BitVec 32 := Scalar.addi c0_i32_19 v41
  let c1_i32_21 : BitVec 32 := 1#32
  let arg12 : BitVec 32 := Scf.iv v42 c1_i32_21 k1_t2
  let c256_i32_192 : BitVec 32 := 256#32
  let v686 : BitVec 32 := Scalar.muli arg12 c256_i32_192
  let v687 : BitVec 32 := v686
  let v688 : Index := Scalar.indexCast v687
  let c0_193 : Index := 0#32
  ![v688.toNat, 0]
def k1_mult3 (i : grid1.Coords) : BitVec 32 :=
  let arg1 : BitVec 32 := BitVec.ofNat 32 (i 1).val
  let c4_i32_22 : BitVec 32 := 4#32
  let v45 : BitVec 32 := Scalar.muli arg1 c4_i32_22
  let c0_i32_23 : BitVec 32 := 0#32
  let v46 : BitVec 32 := Scalar.addi v45 c0_i32_23
  let c256_i32 : BitVec 32 := 256#32
  let v47 : BitVec 32 := Scalar.muli v46 c256_i32
  v47
def k1_off3 (i : grid1.Coords) (c0_i32_23 : BitVec 32) : Fin 2 → Nat :=
  let arg1 : BitVec 32 := BitVec.ofNat 32 (i 1).val
  let c4_i32_22 : BitVec 32 := 4#32
  let v45 : BitVec 32 := Scalar.muli arg1 c4_i32_22
  let v46 : BitVec 32 := Scalar.addi v45 c0_i32_23
  let c256_i32 : BitVec 32 := 256#32
  let v47 : BitVec 32 := Scalar.muli v46 c256_i32
  let v48 : BitVec 32 := v47
  let v49 : Index := Scalar.indexCast v48
  let c0_24 : Index := 0#32
  ![v49.toNat, 0]
def k1_mult4 (i : grid1.Coords) : BitVec 32 :=
  let arg1 : BitVec 32 := BitVec.ofNat 32 (i 1).val
  let c4_i32_63 : BitVec 32 := 4#32
  let v189 : BitVec 32 := Scalar.muli arg1 c4_i32_63
  let c1_i32_64 : BitVec 32 := 1#32
  let v190 : BitVec 32 := Scalar.addi v189 c1_i32_64
  let c256_i32_65 : BitVec 32 := 256#32
  let v191 : BitVec 32 := Scalar.muli v190 c256_i32_65
  v191
def k1_mult5 (i : grid1.Coords) : BitVec 32 :=
  let arg1 : BitVec 32 := BitVec.ofNat 32 (i 1).val
  let c4_i32_106 : BitVec 32 := 4#32
  let v361 : BitVec 32 := Scalar.muli arg1 c4_i32_106
  let c2_i32 : BitVec 32 := 2#32
  let v362 : BitVec 32 := Scalar.addi v361 c2_i32
  let c256_i32_107 : BitVec 32 := 256#32
  let v363 : BitVec 32 := Scalar.muli v362 c256_i32_107
  v363
def k1_mult6 (i : grid1.Coords) : BitVec 32 :=
  let arg1 : BitVec 32 := BitVec.ofNat 32 (i 1).val
  let c4_i32_147 : BitVec 32 := 4#32
  let v533 : BitVec 32 := Scalar.muli arg1 c4_i32_147
  let c3_i32 : BitVec 32 := 3#32
  let v534 : BitVec 32 := Scalar.addi v533 c3_i32
  let c256_i32_148 : BitVec 32 := 256#32
  let v535 : BitVec 32 := Scalar.muli v534 c256_i32_148
  v535
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S8192x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== SbReferenceIdeal.lean ====
abbrev S8192x3072 : Shape := ⟨2, ![8192, 3072]⟩
abbrev S8192x1024 : Shape := ⟨2, ![8192, 1024]⟩
abbrev S8192x3x16x64 : Shape := ⟨4, ![8192, 3, 16, 64]⟩
abbrev S8192x1x16x64 : Shape := ⟨4, ![8192, 1, 16, 64]⟩
abbrev S8192x16x64 : Shape := ⟨3, ![8192, 16, 64]⟩
abbrev S_ : Shape := ⟨0, ![]⟩
abbrev S8192 : Shape := ⟨1, ![8192]⟩
abbrev S16x8192x8192 : Shape := ⟨3, ![16, 8192, 8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192 : Shape := ⟨2, ![16, 8192]⟩
abbrev S8x2x8192 : Shape := ⟨3, ![8, 2, 8192]⟩
abbrev S8x8192x2 : Shape := ⟨3, ![8, 8192, 2]⟩
abbrev S16x8192x64 : Shape := ⟨3, ![16, 8192, 64]⟩

abbrev nBuf : Space → Nat
  | .hbm => 189
  | .vmem => 0
  | .smem => 0
  | _ => 0

abbrev hbmTy0_0 (i : Nat) : BufTy := match i % 128 with
  | 0 => ⟨S8192x3072, .f32⟩
  | 1 => ⟨S8192x1024, .f32⟩
  | 2 => ⟨S8192x3x16x64, .f32⟩
  | 3 => ⟨S8192x1x16x64, .f32⟩
  | 4 => ⟨S8192x16x64, .f32⟩
  | 5 => ⟨S_, .f32⟩
  | 6 => ⟨S8192x16x64, .f32⟩
  | 7 => ⟨S8192x16x64, .f32⟩
  | 8 => ⟨S8192x1x16x64, .f32⟩
  | 9 => ⟨S8192x16x64, .f32⟩
  | 10 => ⟨S8192x1x16x64, .f32⟩
  | 11 => ⟨S8192x16x64, .f32⟩
  | 12 => ⟨S8192, .i32⟩
  | 13 => ⟨S16x8192x8192, .f32⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S16x8192x8192, .f32⟩
  | 20 => ⟨S16x8192x8192, .f32⟩
  | 21 => ⟨S_, .f32⟩
  | 22 => ⟨S16x8192x8192, .f32⟩
  | 23 => ⟨S16x8192x8192, .f32⟩
  | 24 => ⟨S16x8192x8192, .f32⟩
  | 25 => ⟨S16x8192x8192, .f32⟩
  | 26 => ⟨S16x8192x8192, .i1⟩
  | 27 => ⟨S16x8192x8192, .f32⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S_, .f32⟩
  | 36 => ⟨S16x8192x8192, .f32⟩
  | 37 => ⟨S16x8192x8192, .i1⟩
  | 38 => ⟨S_, .f32⟩
  | 39 => ⟨S16x8192x8192, .f32⟩
  | 40 => ⟨S16x8192x8192, .f32⟩
  | 41 => ⟨S_, .f32⟩
  | 42 => ⟨S16x8192x8192, .f32⟩
  | 43 => ⟨S16x8192x8192, .i1⟩
  | 44 => ⟨S_, .f32⟩
  | 45 => ⟨S16x8192x8192, .f32⟩
  | 46 => ⟨S16x8192x8192, .f32⟩
  | 47 => ⟨S16x8192x8192, .f32⟩
  | 48 => ⟨S16x8192x8192, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S16x8192x8192, .f32⟩
  | 57 => ⟨S16x8192x8192, .i1⟩
  | 58 => ⟨S_, .f32⟩
  | 59 => ⟨S16x8192x8192, .f32⟩
  | 60 => ⟨S16x8192x8192, .f32⟩
  | 61 => ⟨S16x8192x8192, .f32⟩
  | 62 => ⟨S16x8192x8192, .f32⟩
  | 63 => ⟨S16x8192x8192, .f32⟩
  | 64 => ⟨S_, .f32⟩
  | 65 => ⟨S16x8192x8192, .f32⟩
  | 66 => ⟨S16x8192x8192, .f32⟩
  | 67 => ⟨S16x8192x8192, .f32⟩
  | 68 => ⟨S_, .f32⟩
  | 69 => ⟨S_, .f32⟩
  | 70 => ⟨S16x8192x8192, .i1⟩
  | 71 => ⟨S16x8192x8192, .f32⟩
  | 72 => ⟨S16x8192x8192, .f32⟩
  | 73 => ⟨S_, .f32⟩
  | 74 => ⟨S16x8192x8192, .f32⟩
  | 75 => ⟨S_, .f32⟩
  | 76 => ⟨S_, .f32⟩
  | 77 => ⟨S16x8192x8192, .f32⟩
  | 78 => ⟨S16x8192x8192, .f32⟩
  | 79 => ⟨S16x8192x8192, .f32⟩
  | 80 => ⟨S_, .f32⟩
  | 81 => ⟨S16x8192x8192, .f32⟩
  | 82 => ⟨S16x8192x8192, .f32⟩
  | 83 => ⟨S16x8192x8192, .f32⟩
  | 84 => ⟨S16x8192x8192, .f32⟩
  | 85 => ⟨S16x8192x8192, .i1⟩
  | 86 => ⟨S16x8192x8192, .f32⟩
  | 87 => ⟨S16x8192x8192, .f32⟩
  | 88 => ⟨S16x8192x8192, .f32⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S_, .f32⟩
  | 95 => ⟨S16x8192x8192, .f32⟩
  | 96 => ⟨S16x8192x8192, .i1⟩
  | 97 => ⟨S_, .f32⟩
  | 98 => ⟨S16x8192x8192, .f32⟩
  | 99 => ⟨S16x8192x8192, .f32⟩
  | 100 => ⟨S_, .f32⟩
  | 101 => ⟨S16x8192x8192, .f32⟩
  | 102 => ⟨S16x8192x8192, .i1⟩
  | 103 => ⟨S_, .f32⟩
  | 104 => ⟨S16x8192x8192, .f32⟩
  | 105 => ⟨S16x8192x8192, .f32⟩
  | 106 => ⟨S16x8192x8192, .f32⟩
  | 107 => ⟨S16x8192x8192, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S16x8192x8192, .f32⟩
  | 116 => ⟨S16x8192x8192, .i1⟩
  | 117 => ⟨S_, .f32⟩
  | 118 => ⟨S16x8192x8192, .f32⟩
  | 119 => ⟨S16x8192x8192, .f32⟩
  | 120 => ⟨S16x8192x8192, .f32⟩
  | 121 => ⟨S16x8192x8192, .f32⟩
  | 122 => ⟨S16x8192x8192, .f32⟩
  | 123 => ⟨S_, .f32⟩
  | 124 => ⟨S16x8192x8192, .f32⟩
  | 125 => ⟨S16x8192x8192, .f32⟩
  | 126 => ⟨S16x8192x8192, .f32⟩
  | 127 => ⟨S16x8192x8192, .f32⟩
  | _ => ⟨S8192x3072, .f32⟩

abbrev hbmTy0_1 (i : Nat) : BufTy := match i % 128 with
  | 0 => ⟨S16x8192x8192, .f32⟩
  | 1 => ⟨S_, .f32⟩
  | 2 => ⟨S_, .f32⟩
  | 3 => ⟨S16x8192x8192, .i1⟩
  | 4 => ⟨S16x8192x8192, .f32⟩
  | 5 => ⟨S16x8192x8192, .f32⟩
  | 6 => ⟨S_, .f32⟩
  | 7 => ⟨S16x8192x8192, .f32⟩
  | 8 => ⟨S16x64x8192, .f32⟩
  | 9 => ⟨S8192x16x64, .f32⟩
  | 10 => ⟨S8192x1024, .f32⟩
  | 11 => ⟨S_, .f32⟩
  | 12 => ⟨S16x8192, .f32⟩
  | 13 => ⟨S8192x1024, .bf16⟩
  | 14 => ⟨S8x2x8192, .f32⟩
  | 15 => ⟨S8x8192x2, .f32⟩
  | 16 => ⟨S8192x16x64, .f32⟩
  | 17 => ⟨S16x64x8192, .f32⟩
  | 18 => ⟨S16x8192x8192, .f32⟩
  | 19 => ⟨S16x64x8192, .f32⟩
  | 20 => ⟨S8192x16x64, .f32⟩
  | 21 => ⟨S_, .f32⟩
  | 22 => ⟨S16x8192x8192, .f32⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .f32⟩
  | 29 => ⟨S_, .f32⟩
  | 30 => ⟨S_, .f32⟩
  | 31 => ⟨S16x8192x8192, .f32⟩
  | 32 => ⟨S16x8192x8192, .f32⟩
  | 33 => ⟨S_, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x8192, .f32⟩
  | 41 => ⟨S16x8192x64, .f32⟩
  | 42 => ⟨S8192x16x64, .f32⟩
  | 43 => ⟨S16x8192x64, .f32⟩
  | 44 => ⟨S8192x16x64, .f32⟩
  | 45 => ⟨S8192x1x16x64, .f32⟩
  | 46 => ⟨S_, .f32⟩
  | 47 => ⟨S8192x3x16x64, .f32⟩
  | 48 => ⟨S8192x1x16x64, .f32⟩
  | 49 => ⟨S_, .f32⟩
  | 50 => ⟨S8192x3x16x64, .f32⟩
  | 51 => ⟨S8192x3x16x64, .f32⟩
  | 52 => ⟨S_, .f32⟩
  | 53 => ⟨S8192x16x64, .f32⟩
  | 54 => ⟨S8192x16x64, .f32⟩
  | 55 => ⟨S8192x1x16x64, .f32⟩
  | 56 => ⟨S_, .f32⟩
  | 57 => ⟨S8192x3x16x64, .f32⟩
  | 58 => ⟨S8192x3x16x64, .f32⟩
  | 59 => ⟨S8192x3072, .f32⟩
  | 60 => ⟨S8192x3072, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_cst_2 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_call5_cst : Ref sig .tc := ⟨.hbm, 149, rfl⟩
abbrev main_call5_v0 : Ref sig .tc := ⟨.hbm, 150, rfl⟩
abbrev main_v37 : Ref sig .tc := ⟨.hbm, 151, rfl⟩
abbrev main_v38 : Ref sig .tc := ⟨.hbm, 152, rfl⟩
abbrev main_call6_v0 : Ref sig .tc := ⟨.hbm, 153, rfl⟩
abbrev main_call6_v1 : Ref sig .tc := ⟨.hbm, 154, rfl⟩
abbrev main_v39 : Ref sig .tc := ⟨.hbm, 155, rfl⟩
abbrev main_v40 : Ref sig .tc := ⟨.hbm, 156, rfl⟩
abbrev main_call7_cst : Ref sig .tc := ⟨.hbm, 157, rfl⟩
abbrev main_call7_v0 : Ref sig .tc := ⟨.hbm, 158, rfl⟩
abbrev main_v41 : Ref sig .tc := ⟨.hbm, 159, rfl⟩
abbrev main_v42 : Ref sig .tc := ⟨.hbm, 160, rfl⟩
abbrev main_call8_cst : Ref sig .tc := ⟨.hbm, 161, rfl⟩
abbrev main_call8_v0 : Ref sig .tc := ⟨.hbm, 162, rfl⟩
abbrev main_v43 : Ref sig .tc := ⟨.hbm, 163, rfl⟩
abbrev main_call9_v0 : Ref sig .tc := ⟨.hbm, 164, rfl⟩
abbrev main_call9_v1 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_cst_3 : Ref sig .tc := ⟨.hbm, 174, rfl⟩
abbrev main_v52 : Ref sig .tc := ⟨.hbm, 175, rfl⟩
abbrev main_v53 : Ref sig .tc := ⟨.hbm, 176, rfl⟩
abbrev main_cst_4 : Ref sig .tc := ⟨.hbm, 177, rfl⟩
abbrev main_v54 : Ref sig .tc := ⟨.hbm, 178, rfl⟩
abbrev main_v55 : Ref sig .tc := ⟨.hbm, 179, rfl⟩
abbrev main_cst_5 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_cst_6 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_v62 : Ref sig .tc := ⟨.hbm, 188, rfl⟩

abbrev nD : Nat := 1
abbrev τ : Topo := Topo.v7x

variable {F : FTy → Type} [FloatOps F]
-- ==== DguKernel.lean ====
abbrev S8192x2816 : Shape := ⟨2, ![8192, 2816]⟩
abbrev S2816x1024 : Shape := ⟨2, ![2816, 1024]⟩
abbrev S8192x1024 : Shape := ⟨2, ![8192, 1024]⟩
abbrev S1x8192x2816 : Shape := ⟨3, ![1, 8192, 2816]⟩
abbrev S2x8192x2816 : Shape := ⟨3, ![2, 8192, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 10
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S1x8192x2816, .f32⟩
  | .hbm, ⟨5, _⟩ => ⟨S1x8192x2816, .f32⟩
  | .hbm, ⟨6, _⟩ => ⟨S2x8192x2816, .f32⟩
  | .hbm, ⟨7, _⟩ => ⟨S2x8192x2816, .bf16⟩
  | .hbm, ⟨8, _⟩ => ⟨S2816x1024, .bf16⟩
  | .hbm, ⟨9, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DguReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x8192x2816, .f32⟩
  | .hbm, ⟨33, _⟩ => ⟨S1x8192x2816, .f32⟩
  | .hbm, ⟨34, _⟩ => ⟨S2x8192x2816, .f32⟩
  | .hbm, ⟨35, _⟩ => ⟨S2x8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== MixKernel.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x3072, .bf16⟩
  | .hbm, ⟨6, _⟩ => ⟨S1024x3072, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v11 : BitVec 1 := Scalar.cmpi .eq arg1 c0_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MixReferenceIdeal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== DhnKernel.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S1x8192x2816 : Shape := ⟨3, ![1, 8192, 2816]⟩
abbrev S2x8192x2816 : Shape := ⟨3, ![2, 8192, 2816]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x5632, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x8192x2816, .f32⟩
  | .hbm, ⟨7, _⟩ => ⟨S1x8192x2816, .f32⟩
  | .hbm, ⟨8, _⟩ => ⟨S2x8192x2816, .f32⟩
  | .hbm, ⟨9, _⟩ => ⟨S2x8192x2816, .bf16⟩
  | .hbm, ⟨10, _⟩ => ⟨S1024x5632, .bf16⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_26 : BitVec 32 := 0#32
  let v54 : BitVec 1 := Scalar.cmpi .eq arg0 c0_i32_26
  let v55 : BitVec 32 := Scalar.extui v54
  let c0_i32_27 : BitVec 32 := 0#32
  let v56 : BitVec 1 := Scalar.cmpi .ne v55 c0_i32_27
  v56

def k0_cond5 (i : grid0.Coords) : BitVec 1 :=
  let arg0 : BitVec 32 := BitVec.ofNat 32 (i 0).val
  let c0_i32_28 : BitVec 32 := 0#32
  let v57 : BitVec 1 := Scalar.cmpi .sgt arg0 c0_i32_28
  let v58 : BitVec 32 := Scalar.extui v57
  let c0_i32_29 : BitVec 32 := 0#32
  let v59 : BitVec 1 := Scalar.cmpi .ne v58 c0_i32_29
  v59

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhnReferenceIdeal.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x5632, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== LossKernel.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_19 : BitVec 32 := 0#32
  let v56 : BitVec 1 := Scalar.cmpi .ne v55 c0_i32_19
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_20 : BitVec 32 := 0#32
  let v59 : BitVec 1 := Scalar.cmpi .ne v58 c0_i32_20
  v59

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== DiscKernel.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S4096x1 : Shape := ⟨2, ![4096, 1]⟩
abbrev S4096x16 : Shape := ⟨2, ![4096, 16]⟩
abbrev S512x1 : Shape := ⟨2, ![512, 1]⟩
abbrev S512x16 : Shape := ⟨2, ![512, 16]⟩
abbrev S512 : Shape := ⟨1, ![512]⟩
abbrev S_ : Shape := ⟨0, ![]⟩

abbrev nBuf : Space → Nat
  | .hbm => 32
  | .vmem => 28
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1, .f32⟩
  | .hbm, ⟨10, _⟩ => ⟨S64x64, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S4096x1, .f32⟩
  | .hbm, ⟨17, _⟩ => ⟨S4096x1, .f32⟩
  | .hbm, ⟨18, _⟩ => ⟨S4096x16, .f32⟩
  | .hbm, ⟨19, _⟩ => ⟨S4096x16, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x16, .f32⟩
  | .hbm, ⟨24, _⟩ => ⟨S4096x16, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64, .f32⟩
  | .hbm, ⟨30, _⟩ => ⟨S64x64x16, .f32⟩
  | .hbm, ⟨31, _⟩ => ⟨S64x64x16, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x16, .f32⟩
  | .local _ .vmem, ⟨15, _⟩ => ⟨S512x16, .f32⟩
  | .local _ .vmem, ⟨16, _⟩ => ⟨S512x16, .f32⟩
  | .local _ .vmem, ⟨17, _⟩ => ⟨S512x16, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x16, .f32⟩
  | .local _ .vmem, ⟨25, _⟩ => ⟨S512x16, .f32⟩
  | .local _ .vmem, ⟨26, _⟩ => ⟨S512x16, .f32⟩
  | .local _ .vmem, ⟨27, _⟩ => ⟨S512x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DiscReferenceIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩

abbrev nBuf : Space → Nat
  | .hbm => 164
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64x1, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64x1, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S64x64x16, .f32⟩
  | 66 => ⟨S_, .f32⟩
  | 67 => ⟨S64x64, .f32⟩
  | 68 => ⟨S64x64x1, .f32⟩
  | 69 => ⟨S64x64x16, .f32⟩
  | 70 => ⟨S64x64x16, .f32⟩
  | 71 => ⟨S64x64x16, .f32⟩
  | 72 => ⟨S_, .f32⟩
  | 73 => ⟨S64x64, .f32⟩
  | 74 => ⟨S64x64x1, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S64x64x16, .f32⟩
  | 81 => ⟨S_, .f32⟩
  | 82 => ⟨S64x64, .f32⟩
  | 83 => ⟨S64x64x1, .f32⟩
  | 84 => ⟨S64x64x1, .f32⟩
  | 85 => ⟨S64x64x16, .f32⟩
  | 86 => ⟨S64x64x16, .f32⟩
  | 87 => ⟨S64x64x16, .f32⟩
  | 88 => ⟨S64x64x16, .f32⟩
  | 89 => ⟨S_, .f32⟩
  | 90 => ⟨S64x64, .f32⟩
  | 91 => ⟨S64x64x1, .f32⟩
  | 92 => ⟨S64x64x1, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64, .f32⟩
  | 7 => ⟨S64x1, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S_, .f32⟩
  | 18 => ⟨S64, .f32⟩
  | 19 => ⟨S64x1, .f32⟩
  | 20 => ⟨S64x1, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64, .f32⟩
  | 28 => ⟨S64x1, .f32⟩
  | 29 => ⟨S64x1, .f32⟩
  | 30 => ⟨S64x64, .f32⟩
  | 31 => ⟨S64x64, .f32⟩
  | 32 => ⟨S64x64, .f32⟩
  | 33 => ⟨S_, .f32⟩
  | 34 => ⟨S64, .f32⟩
  | 35 => ⟨S64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩

abbrev nD : Nat := 1
abbrev τ : Topo := Topo.v7x

variable {F : FTy → Type} [FloatOps F]
-- ==== GlufKernel.lean ====
abbrev S8192x2048 : Shape := ⟨2, ![8192, 2048]⟩
abbrev S8192x1024 : Shape := ⟨2, ![8192, 1024]⟩
abbrev S256x2048 : Shape := ⟨2, ![256, 2048]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GlufReferenceIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== NormKernel.lean ====
abbrev S8192x1024 : Shape := ⟨2, ![8192, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DiscfKernel.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S4096x1 : Shape := ⟨2, ![4096, 1]⟩
abbrev S4096x16 : Shape := ⟨2, ![4096, 16]⟩
abbrev S512x1 : Shape := ⟨2, ![512, 1]⟩
abbrev S512x16 : Shape := ⟨2, ![512, 16]⟩

abbrev nBuf : Space → Nat
  | .hbm => 16
  | .vmem => 18
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S4096x1, .f32⟩
  | .hbm, ⟨13, _⟩ => ⟨S4096x1, .f32⟩
  | .hbm, ⟨14, _⟩ => ⟨S4096x16, .f32⟩
  | .hbm, ⟨15, _⟩ => ⟨S4096x16, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x16, .f32⟩
  | .local _ .vmem, ⟨15, _⟩ => ⟨S512x16, .f32⟩
  | .local _ .vmem, ⟨16, _⟩ => ⟨S512x16, .f32⟩
  | .local _ .vmem, ⟨17, _⟩ => ⟨S512x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DiscfReferenceIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S4096x1 : Shape := ⟨2, ![4096, 1]⟩
abbrev S4096x16 : Shape := ⟨2, ![4096, 16]⟩

abbrev nBuf : Space → Nat
  | .hbm => 51
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64x1, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S4096x1, .f32⟩
  | .hbm, ⟨48, _⟩ => ⟨S4096x1, .f32⟩
  | .hbm, ⟨49, _⟩ => ⟨S4096x16, .f32⟩
  | .hbm, ⟨50, _⟩ => ⟨S4096x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== OutKernel.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SumcKernel.lean ====
abbrev S1x1024x768 : Shape := ⟨3, ![1, 1024, 768]⟩
abbrev S3x1x1024x768 : Shape := ⟨4, ![3, 1, 1024, 768]⟩
abbrev S1024x768 : Shape := ⟨2, ![1024, 768]⟩
abbrev S3x1024x768 : Shape := ⟨3, ![3, 1024, 768]⟩
abbrev S256x768 : Shape := ⟨2, ![256, 768]⟩
abbrev S3x256x768 : Shape := ⟨3, ![3, 256, 768]⟩
abbrev S1x256x768 : Shape := ⟨3, ![1, 256, 768]⟩

abbrev nBuf : Space → Nat
  | .hbm => 5
  | .vmem => 6
  | .smem => 0
  | _ => 0

abbrev bufTy : (tb : Table) → Fin (tcTables nBuf tb) → BufTy
  | .hbm, ⟨0, _⟩ => ⟨S1x1024x768, .f32⟩
  | .hbm, ⟨1, _⟩ => ⟨S3x1x1024x768, .bf16⟩
  | .hbm, ⟨2, _⟩ => ⟨S1024x768, .f32⟩
  | .hbm, ⟨3, _⟩ => ⟨S3x1024x768, .bf16⟩
  | .hbm, ⟨4, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S3x256x768, .bf16⟩
  | .local _ .vmem, ⟨3, _⟩ => ⟨S3x256x768, .bf16⟩
  | .local _ .vmem, ⟨4, _⟩ => ⟨S256x768, .f32⟩
  | .local _ .vmem, ⟨5, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumcReferenceIdeal.lean ====
abbrev S1x1024x768 : Shape := ⟨3, ![1, 1024, 768]⟩
abbrev S3x1x1024x768 : Shape := ⟨4, ![3, 1, 1024, 768]⟩
abbrev S_ : Shape := ⟨0, ![]⟩
abbrev S1024x768 : Shape := ⟨2, ![1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S3x1x1024x768, .bf16⟩
  | .hbm, ⟨2, _⟩ => ⟨S3x1x1024x768, .f32⟩
  | .hbm, ⟨3, _⟩ => ⟨S_, .f32⟩
  | .hbm, ⟨4, _⟩ => ⟨S1x1024x768, .f32⟩
  | .hbm, ⟨5, _⟩ => ⟨S1x1024x768, .f32⟩
  | .hbm, ⟨6, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamKernel.lean ====
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 12
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamReferenceIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== RepKernel.lean ====
abbrev S4352x128 : Shape := ⟨2, ![4352, 128]⟩
abbrev S8x4352x128 : Shape := ⟨3, ![8, 4352, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4352x128, .f32⟩
  | .hbm, ⟨1, _⟩ => ⟨S8x4352x128, .f32⟩
  | .hbm, ⟨2, _⟩ => ⟨S4352x128, .f32⟩
  | .hbm, ⟨3, _⟩ => ⟨S4352x128, .f32⟩
  | .hbm, ⟨4, _⟩ => ⟨S4352x128, .f32⟩
  | .hbm, ⟨5, _⟩ => ⟨S4352x128, .f32⟩
  | .hbm, ⟨6, _⟩ => ⟨S4352x128, .f32⟩
  | .hbm, ⟨7, _⟩ => ⟨S4352x128, .f32⟩
  | .local _ .vmem, ⟨0, _⟩ => ⟨S256x128, .f32⟩
  | .local _ .vmem, ⟨1, _⟩ => ⟨S256x128, .f32⟩
  | .local _ .vmem, ⟨2, _⟩ => ⟨S8x256x128, .f32⟩
  | .local _ .vmem, ⟨3, _⟩ => ⟨S8x256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RepReferenceIdeal.lean ====
abbrev S4352x128 : Shape := ⟨2, ![4352, 128]⟩
abbrev S8x4352x128 : Shape := ⟨3, ![8, 4352, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S8x4352x128, .f32⟩
  | .hbm, ⟨2, _⟩ => ⟨S4352x128, .f32⟩
  | .hbm, ⟨3, _⟩ => ⟨S4352x128, .f32⟩
  | .hbm, ⟨4, _⟩ => ⟨S_, .f32⟩
  | .hbm, ⟨5, _⟩ => ⟨S4352x128, .f32⟩
  | .hbm, ⟨6, _⟩ => ⟨S_, .f32⟩
  | .hbm, ⟨7, _⟩ => ⟨S4352x128, .f32⟩
  | .hbm, ⟨8, _⟩ => ⟨S4352x128, .f32⟩
  | .hbm, ⟨9, _⟩ => ⟨S_, .f32⟩
  | .hbm, ⟨10, _⟩ => ⟨S4352x128, .f32⟩
  | .hbm, ⟨11, _⟩ => ⟨S4352x128, .f32⟩
  | .hbm, ⟨12, _⟩ => ⟨S4352x128, .f32⟩
  | .hbm, ⟨13, _⟩ => ⟨S_, .f32⟩
  | .hbm, ⟨14, _⟩ => ⟨S4352x128, .f32⟩
  | .hbm, ⟨15, _⟩ => ⟨S4352x128, .f32⟩
  | .hbm, ⟨16, _⟩ => ⟨S4352x128, .f32⟩
  | .hbm, ⟨17, _⟩ => ⟨S_, .f32⟩
  | .hbm, ⟨18, _⟩ => ⟨S4352x128, .f32⟩
  | .hbm, ⟨19, _⟩ => ⟨S4352x128, .f32⟩
  | .hbm, ⟨20, _⟩ => ⟨S4352x128, .f32⟩
  | .hbm, ⟨21, _⟩ => ⟨S_, .f32⟩
  | .hbm, ⟨22, _⟩ => ⟨S4352x128, .f32⟩
  | .hbm, ⟨23, _⟩ => ⟨S4352x128, .f32⟩
  | .hbm, ⟨24, _⟩ => ⟨S_, .f32⟩
  | .hbm, ⟨25, _⟩ => ⟨S4352x128, .f32⟩
  | .hbm, ⟨26, _⟩ => ⟨S4352x128, .f32⟩
  | .hbm, ⟨27, _⟩ => ⟨S4352x128, .f32⟩
  | .hbm, ⟨28, _⟩ => ⟨S_, .f32⟩
  | .hbm, ⟨29, _⟩ => ⟨S4352x128, .f32⟩
  | .hbm, ⟨30, _⟩ => ⟨S4352x128, .f32⟩
  | .hbm, ⟨31, _⟩ => ⟨S4352x128, .f32⟩
  | .hbm, ⟨32, _⟩ => ⟨S_, .f32⟩
  | .hbm, ⟨33, _⟩ => ⟨S4352x128, .f32⟩
  | .hbm, ⟨34, _⟩ => ⟨S4352x128, .f32⟩
  | .hbm, ⟨35, _⟩ => ⟨S4352x128, .f32⟩
  | .hbm, ⟨36, _⟩ => ⟨S_, .f32⟩
  | .hbm, ⟨37, _⟩ => ⟨S4352x128, .f32⟩
  | .hbm, ⟨38, _⟩ => ⟨S4352x128, .f32⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x512x1408 : Shape := ⟨3, ![1, 512, 1408]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S8192x1024, .bf16⟩
  | .hbm, ⟨6, _⟩ => ⟨S2x8192x2816, .bf16⟩
  | .hbm, ⟨7, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S512x1024, .bf16⟩
  | .local _ .vmem, ⟨8, _⟩ => ⟨S512x1024, .bf16⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .bf16⟩
  | .hbm, ⟨33, _⟩ => ⟨S1x8192x2816, .f32⟩
  | .hbm, ⟨34, _⟩ => ⟨S1x8192x2816, .f32⟩
  | .hbm, ⟨35, _⟩ => ⟨S2x8192x2816, .f32⟩
  | .hbm, ⟨36, _⟩ => ⟨S2x8192x2816, .bf16⟩
  | .hbm, ⟨37, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== LrufKernel.lean ====
abbrev S8192x2048 : Shape := ⟨2, ![8192, 2048]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S1x1024 : Shape := ⟨2, ![1, 1024]⟩
abbrev S8192x1024 : Shape := ⟨2, ![8192, 1024]⟩
abbrev S256x1024 : Shape := ⟨2, ![256, 1024]⟩
abbrev S8x1024 : Shape := ⟨2, ![8, 1024]⟩
abbrev S248x1024 : Shape := ⟨2, ![248, 1024]⟩
abbrev S256x256 : Shape := ⟨2, ![256, 256]⟩
abbrev S1x256x256 : Shape := ⟨3, ![1, 256, 256]⟩

abbrev nBuf : Space → Nat
  | .hbm => 16
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S1024, .f32⟩
  | .hbm, ⟨8, _⟩ => ⟨S1x1024, .f32⟩
  | .hbm, ⟨9, _⟩ => ⟨S4x256x256, .bf16⟩
  | .hbm, ⟨10, _⟩ => ⟨S1x1024, .f32⟩
  | .hbm, ⟨11, _⟩ => ⟨S4x256x256, .bf16⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S8x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LrufReferenceIdeal.lean ====
abbrev S8192x2048 : Shape := ⟨2, ![8192, 2048]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S8192x1024 : Shape := ⟨2, ![8192, 1024]⟩
abbrev S1x1024 : Shape := ⟨2, ![1, 1024]⟩
abbrev S_ : Shape := ⟨0, ![]⟩
abbrev S3x1024 : Shape := ⟨2, ![3, 1024]⟩
abbrev S8189x1024 : Shape := ⟨2, ![8189, 1024]⟩
abbrev S2x1024 : Shape := ⟨2, ![2, 1024]⟩
abbrev S8190x1024 : Shape := ⟨2, ![8190, 1024]⟩
abbrev S8191x1024 : Shape := ⟨2, ![8191, 1024]⟩
abbrev S8192x4x256 : Shape := ⟨3, ![8192, 4, 256]⟩
abbrev S4x256x8192 : Shape := ⟨3, ![4, 256, 8192]⟩
abbrev S1x4x256 : Shape := ⟨3, ![1, 4, 256]⟩

abbrev nBuf : Space → Nat
  | .hbm => 151
  | .vmem => 0
  | .smem => 0
  | _ => 0

abbrev hbmTy0_0 (i : Nat) : BufTy := match i % 128 with
  | 0 => ⟨S8192x2048, .f32⟩
  | 1 => ⟨S4x1024, .f32⟩
  | 2 => ⟨S1024, .f32⟩
  | 3 => ⟨S4x256x256, .f32⟩
  | 4 => ⟨S4x256, .f32⟩
  | 5 => ⟨S4x256x256, .f32⟩
  | 6 => ⟨S4x256, .f32⟩
  | 7 => ⟨S1024, .f32⟩
  | 8 => ⟨S8192x1024, .f32⟩
  | 9 => ⟨S1x1024, .f32⟩
  | 10 => ⟨S1024, .f32⟩
  | 11 => ⟨S_, .f32⟩
  | 12 => ⟨S3x1024, .f32⟩
  | 13 => ⟨S8189x1024, .f32⟩
  | 14 => ⟨S8192x1024, .f32⟩
  | 15 => ⟨S1x1024, .f32⟩
  | 16 => ⟨S8192x1024, .f32⟩
  | 17 => ⟨S8192x1024, .f32⟩
  | 18 => ⟨S1x1024, .f32⟩
  | 19 => ⟨S1024, .f32⟩
  | 20 => ⟨S_, .f32⟩
  | 21 => ⟨S2x1024, .f32⟩
  | 22 => ⟨S8190x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S1x1024, .f32⟩
  | 29 => ⟨S1024, .f32⟩
  | 30 => ⟨S_, .f32⟩
  | 31 => ⟨S1x1024, .f32⟩
  | 32 => ⟨S8191x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S1x1024, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S8192x4x256, .f32⟩
  | 48 => ⟨S4x256x8192, .f32⟩
  | 49 => ⟨S8192x4x256, .f32⟩
  | 50 => ⟨S1x4x256, .f32⟩
  | 51 => ⟨S8192x4x256, .f32⟩
  | 52 => ⟨S8192x4x256, .f32⟩
  | 53 => ⟨S8192x4x256, .f32⟩
  | 54 => ⟨S8192x4x256, .f32⟩
  | 55 => ⟨S_, .f32⟩
  | 56 => ⟨S8192x4x256, .f32⟩
  | 57 => ⟨S8192x4x256, .f32⟩
  | 58 => ⟨S_, .f32⟩
  | 59 => ⟨S8192x4x256, .f32⟩
  | 60 => ⟨S8192x4x256, .f32⟩
  | 61 => ⟨S8192x1024, .f32⟩
  | 62 => ⟨S4x256x8192, .f32⟩
  | 63 => ⟨S8192x4x256, .f32⟩
  | 64 => ⟨S1x4x256, .f32⟩
  | 65 => ⟨S8192x4x256, .f32⟩
  | 66 => ⟨S8192x4x256, .f32⟩
  | 67 => ⟨S8192x4x256, .f32⟩
  | 68 => ⟨S8192x4x256, .f32⟩
  | 69 => ⟨S_, .f32⟩
  | 70 => ⟨S8192x4x256, .f32⟩
  | 71 => ⟨S8192x4x256, .f32⟩
  | 72 => ⟨S_, .f32⟩
  | 73 => ⟨S8192x4x256, .f32⟩
  | 74 => ⟨S8192x4x256, .f32⟩
  | 75 => ⟨S8192x1024, .f32⟩
  | 76 => ⟨S_, .f32⟩
  | 77 => ⟨S8192x1024, .f32⟩
  | 78 => ⟨S8192x1024, .f32⟩
  | 79 => ⟨S1024, .f32⟩
  | 80 => ⟨S_, .f32⟩
  | 81 => ⟨S1024, .f32⟩
  | 82 => ⟨S1024, .f32⟩
  | 83 => ⟨S1024, .f32⟩
  | 84 => ⟨S1024, .f32⟩
  | 85 => ⟨S1024, .i1⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S1024, .f32⟩
  | 108 => ⟨S_, .f32⟩
  | 109 => ⟨S8192x1024, .f32⟩
  | 110 => ⟨S_, .i32⟩
  | 111 => ⟨S8192x1024, .f32⟩
  | 112 => ⟨S8192x1024, .f32⟩
  | 113 => ⟨S_, .i32⟩
  | 114 => ⟨S1024, .f32⟩
  | 115 => ⟨S8192x1024, .f32⟩
  | 116 => ⟨S_, .i32⟩
  | 117 => ⟨S_, .i1⟩
  | 118 => ⟨S_, .i32⟩
  | 119 => ⟨S1x1024, .f32⟩
  | 120 => ⟨S1024, .f32⟩
  | 121 => ⟨S_, .i32⟩
  | 122 => ⟨S1x1024, .f32⟩
  | 123 => ⟨S1024, .f32⟩
  | 124 => ⟨S1024, .f32⟩
  | 125 => ⟨S1024, .f32⟩
  | 126 => ⟨S1x1024, .f32⟩
  | 127 => ⟨S_, .i32⟩
  | _ => ⟨S8192x2048, .f32⟩

abbrev hbmTy0_1 (i : Nat) : BufTy := match i % 128 with
  | 0 => ⟨S8192x1024, .f32⟩
  | 1 => ⟨S_, .i32⟩
  | 2 => ⟨S_, .i32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_4 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_8 : Ref sig .tc := ⟨.hbm, 106, rfl⟩
abbrev main_v76 : Ref sig .tc := ⟨.hbm, 107, rfl⟩
abbrev main_cst_9 : Ref sig .tc := ⟨.hbm, 108, rfl⟩
abbrev main_v77 : Ref sig .tc := ⟨.hbm, 109, rfl⟩
abbrev main_c : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_18 : Ref sig .tc := ⟨.hbm, 116, rfl⟩
abbrev main_while0c_v95 : Ref sig .tc := ⟨.hbm, 117, rfl⟩
abbrev main_while0b_call1_c : Ref sig .tc := ⟨.hbm, 118, rfl⟩
abbrev main_while0b_call1_v0 : Ref sig .tc := ⟨.hbm, 119, rfl⟩
abbrev main_while0b_v95 : Ref sig .tc := ⟨.hbm, 120, rfl⟩
abbrev main_while0b_call2_c : Ref sig .tc := ⟨.hbm, 121, rfl⟩
abbrev main_while0b_call2_v0 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_v99 : Ref sig .tc := ⟨.hbm, 128, rfl⟩
abbrev main_while0b_c_18 : Ref sig .tc := ⟨.hbm, 129, rfl⟩
abbrev main_while0b_v100 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_10 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_11 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_12 : Ref sig .tc := ⟨.hbm, 142, rfl⟩
abbrev main_v88 : Ref sig .tc := ⟨.hbm, 143, rfl⟩
abbrev main_v89 : Ref sig .tc := ⟨.hbm, 144, rfl⟩
abbrev main_cst_13 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩

abbrev nD : Nat := 1
abbrev τ : Topo := Topo.v7x

variable {F : FTy → Type} [FloatOps F]

abbrev main_while0_count : Scf.Loop 32 := ⟨0#32, 8192#32, 1#32⟩
-- ==== S5fKernel.lean ====
abbrev S8192x1024 : Shape := ⟨2, ![8192, 1024]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S1x4096 : Shape := ⟨2, ![1, 4096]⟩
abbrev S4096x16 : Shape := ⟨2, ![4096, 16]⟩
abbrev S8x8x64x16 : Shape := ⟨4, ![8, 8, 64, 16]⟩
abbrev S8x8 : Shape := ⟨2, ![8, 8]⟩
abbrev S1x8x1x8x1 : Shape := ⟨5, ![1, 8, 1, 8, 1]⟩
abbrev S8x8x16x64 : Shape := ⟨4, ![8, 8, 16, 64]⟩
abbrev S8x8x16x1x64 : Shape := ⟨5, ![8, 8, 16, 1, 64]⟩
abbrev S_ : Shape := ⟨0, ![]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩
abbrev S32x4096 : Shape := ⟨2, ![32, 4096]⟩
abbrev S32x256x128 : Shape := ⟨3, ![32, 256, 128]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S1x256x128 : Shape := ⟨3, ![1, 256, 128]⟩
abbrev S1x128 : Shape := ⟨2, ![1, 128]⟩
abbrev S32x128 : Shape := ⟨2, ![32, 128]⟩
abbrev S1x512x128 : Shape := ⟨3, ![1, 512, 128]⟩
abbrev S512x128 : Shape := ⟨2, ![512, 128]⟩

abbrev nBuf : Space → Nat
  | .hbm => 78
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S1024, .f32⟩
  | .hbm, ⟨8, _⟩ => ⟨S1x4096, .f32⟩
  | .hbm, ⟨9, _⟩ => ⟨S1x4096, .f32⟩
  | .hbm, ⟨10, _⟩ => ⟨S4096x16, .f32⟩
  | .hbm, ⟨11, _⟩ => ⟨S8x8x64x16, .f32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S1x8x1x8x1, .i1⟩
  | .hbm, ⟨16, _⟩ => ⟨S8x8x16x64, .f32⟩
  | .hbm, ⟨17, _⟩ => ⟨S8x8x16x1x64, .f32⟩
  | .hbm, ⟨18, _⟩ => ⟨S_, .f32⟩
  | .hbm, ⟨19, _⟩ => ⟨S_, .f32⟩
  | .hbm, ⟨20, _⟩ => ⟨S8x8x16x8x64, .i1⟩
  | .hbm, ⟨21, _⟩ => ⟨S8x8x16x8x64, .f32⟩
  | .hbm, ⟨22, _⟩ => ⟨S8x8x16x8x64, .f32⟩
  | .hbm, ⟨23, _⟩ => ⟨S8x8x16x8x64, .f32⟩
  | .hbm, ⟨24, _⟩ => ⟨S8x128x512, .f32⟩
  | .hbm, ⟨25, _⟩ => ⟨S8x128x512, .bf16⟩
  | .hbm, ⟨26, _⟩ => ⟨S4096x16, .f32⟩
  | .hbm, ⟨27, _⟩ => ⟨S8x8x64x16, .f32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S1x8x1x8x1, .i1⟩
  | .hbm, ⟨32, _⟩ => ⟨S8x8x16x64, .f32⟩
  | .hbm, ⟨33, _⟩ => ⟨S8x8x16x1x64, .f32⟩
  | .hbm, ⟨34, _⟩ => ⟨S_, .f32⟩
  | .hbm, ⟨35, _⟩ => ⟨S_, .f32⟩
  | .hbm, ⟨36, _⟩ => ⟨S8x8x16x8x64, .i1⟩
  | .hbm, ⟨37, _⟩ => ⟨S8x8x16x8x64, .f32⟩
  | .hbm, ⟨38, _⟩ => ⟨S8x8x16x8x64, .f32⟩
  | .hbm, ⟨39, _⟩ => ⟨S8x8x16x8x64, .f32⟩
  | .hbm, ⟨40, _⟩ => ⟨S8x128x512, .f32⟩
  | .hbm, ⟨41, _⟩ => ⟨S8x128x512, .bf16⟩
  | .hbm, ⟨42, _⟩ => ⟨S8x8x16x64, .f32⟩
  | .hbm, ⟨43, _⟩ => ⟨S8x8, .i32⟩
  | .hbm, ⟨44, _⟩ => ⟨S8x8, .i32⟩
  | .hbm, ⟨45, _⟩ => ⟨S8x8, .i1⟩
  | .hbm, ⟨46, _⟩ => ⟨S1x8x1x8x1, .i1⟩
  | .hbm, ⟨47, _⟩ => ⟨S8x8x64x16, .f32⟩
  | .hbm, ⟨48, _⟩ => ⟨S8x8x64x1x16, .f32⟩
  | .hbm, ⟨49, _⟩ => ⟨S_, .f32⟩
  | .hbm, ⟨50, _⟩ => ⟨S_, .f32⟩
  | .hbm, ⟨51, _⟩ => ⟨S8x8x64x8x16, .i1⟩
  | .hbm, ⟨52, _⟩ => ⟨S8x8x64x8x16, .f32⟩
  | .hbm, ⟨53, _⟩ => ⟨S8x8x64x8x16, .f32⟩
  | .hbm, ⟨54, _⟩ => ⟨S8x8x64x8x16, .f32⟩
  | .hbm, ⟨55, _⟩ => ⟨S8x512x128, .f32⟩
  | .hbm, ⟨56, _⟩ => ⟨S8x512x128, .bf16⟩
  | .hbm, ⟨57, _⟩ => ⟨S64x16x64, .f32⟩
  | .hbm, ⟨58, _⟩ => ⟨S8x8x16x64, .f32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S1x8x1x8x1, .i1⟩
  | .hbm, ⟨63, _⟩ => ⟨S8x8x64x16, .f32⟩
  | .hbm, ⟨64, _⟩ => ⟨S8x8x64x1x16, .f32⟩
  | .hbm, ⟨65, _⟩ => ⟨S_, .f32⟩
  | .hbm, ⟨66, _⟩ => ⟨S_, .f32⟩
  | .hbm, ⟨67, _⟩ => ⟨S8x8x64x8x16, .i1⟩
  | .hbm, ⟨68, _⟩ => ⟨S8x8x64x8x16, .f32⟩
  | .hbm, ⟨69, _⟩ => ⟨S8x8x64x8x16, .f32⟩
  | .hbm, ⟨70, _⟩ => ⟨S8x8x64x8x16, .f32⟩
  | .hbm, ⟨71, _⟩ => ⟨S8x512x128, .f32⟩
  | .hbm, ⟨72, _⟩ => ⟨S8x512x128, .bf16⟩
  | .hbm, ⟨73, _⟩ => ⟨S1x1024, .f32⟩
  | .hbm, ⟨74, _⟩ => ⟨S8192x4096, .f32⟩
  | .hbm, ⟨75, _⟩ => ⟨S8192x4096, .f32⟩
  | .hbm, ⟨76, _⟩ => ⟨S8192x1024, .f32⟩
  | .hbm, ⟨77, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x4096, .f32⟩
  | .local _ .vmem, ⟨3, _⟩ => ⟨S1x4096, .f32⟩
  | .local _ .vmem, ⟨4, _⟩ => ⟨S8x128x512, .bf16⟩
  | .local _ .vmem, ⟨5, _⟩ => ⟨S8x128x512, .bf16⟩
  | .local _ .vmem, ⟨6, _⟩ => ⟨S8x512x128, .bf16⟩
  | .local _ .vmem, ⟨7, _⟩ => ⟨S8x512x128, .bf16⟩
  | .local _ .vmem, ⟨8, _⟩ => ⟨S1x1024, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S32x4096, .f32⟩
  | .local _ .vmem, ⟨18, _⟩ => ⟨S32x4096, .f32⟩
  | .local _ .vmem, ⟨19, _⟩ => ⟨S32x256x128, .f32⟩
  | .local _ .vmem, ⟨20, _⟩ => ⟨S32x256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_2 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev main_v46_2 : Ref sig .tc := ⟨.hbm, 76, rfl⟩
abbrev main_v46_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DwinKernel.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x2816 : Shape := ⟨3, ![1, 8192, 2816]⟩
abbrev S2x8192x2816 : Shape := ⟨3, ![2, 8192, 2816]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 27
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1x8192x2816, .f32⟩
  | .hbm, ⟨23, _⟩ => ⟨S1x8192x2816, .f32⟩
  | .hbm, ⟨24, _⟩ => ⟨S2x8192x2816, .f32⟩
  | .hbm, ⟨25, _⟩ => ⟨S2x8192x2816, .bf16⟩
  | .hbm, ⟨26, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwinReferenceIdeal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S5632x1024 : Shape := ⟨2, ![5632, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x5632, .f32⟩
  | .hbm, ⟨25, _⟩ => ⟨S5632x1024, .f32⟩
  | .hbm, ⟨26, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.GluValue.lean ====
/- The gradient of the gated product of the S5 layers, block by block: what the kernel stores is the plain gradient. -/
module

public import proofs.«01_k».proof.Proof.Gen.GluKernelIdeal.Value
public import proofs.«01_k».proof.Proof.Gen.GluReferenceIdeal.Run
public import proofs.«01_k».proof.Proof.Gen.GluReferenceIdeal.Read
public import Idealize.ShloMosaic.Lib.Pipeline.ValueKit
public import Idealize.ShloMosaic.Lib.Pointwise

@[expose] public section

set_option maxRecDepth 16384

noncomputable section

namespace Cert.Proof.GluValue

open Idealize.ShloMosaic Idealize.ShloMosaic.TcCoe Idealize.SL.Sem
open Cert.GluKernelIdeal Cert.GluKernelIdeal.Gen

/-- The logistic function's derivative in the two spellings, at every extended real. -/
theorem gate_slope (a g : EReal) :
    0 - (0 - a * Ideal.div 1 ((1 + Ideal.exp (0 - g)) * (1 + Ideal.exp (0 - g)))) * Ideal.exp (0 - g)
      = a * (Ideal.div 1 (1 + Ideal.exp (-g)) * (1 - Ideal.div 1 (1 + Ideal.exp (-g)))) := by
  rw [zero_sub, zero_sub, zero_sub, neg_mul, neg_neg, mul_assoc]
  congr 1
  induction g using EReal.rec with
  | bot =>
    have e : (1 : EReal) + ⊤ = ⊤ := EReal.add_top_of_ne_bot (EReal.coe_ne_bot 1)
    simp [Ideal.div, e]
  | top =>
    have h : (1 : EReal) - 1 = 0 := EReal.sub_self (EReal.coe_ne_top 1) (EReal.coe_ne_bot 1)
    simp [Ideal.div, h]
  | coe r =>
    have h : (1 + Real.exp (-r)) ≠ 0 := by positivity
    have h2 : (1 + Real.exp (-r)) * (1 + Real.exp (-r)) ≠ 0 := mul_ne_zero h h
    rw [← EReal.coe_neg, Ideal.exp_coe, ← EReal.coe_one, ← EReal.coe_add, ← EReal.coe_mul, Ideal.div_coe h, Ideal.div_coe h2]
    norm_cast
    field_simp
    ring

/-- The reference's result as a function of the two arguments. -/
def REF (x : FVec Ideal S8192x2048 .f32) (d : FVec Ideal S8192x1024 .f32) : FVec Ideal S8192x2048 .bf16 :=
  Cert.GluReferenceIdeal.Read.val_main_v16 (F := Ideal) x d

variable (m : (ℓ : Loc nD τ sig) → Buf (Elt Ideal) ℓ)

theorem idx : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-- The gradient at one column: of the value half below 1024, of the gate half from there on. -/
def CELL (k : Fin 2048) (x : Fin 2048 → EReal) (d : Fin 1024 → EReal) : EReal :=
  if h : k.val < 1024 then d ⟨k.val, h⟩ * Ideal.div 1 (1 + Ideal.exp (-x ⟨1024 + k.val, by omega⟩))
  else x ⟨k.val - 1024, by omega⟩ * d ⟨k.val - 1024, by omega⟩
    * (Ideal.div 1 (1 + Ideal.exp (-x ⟨1024 + (k.val - 1024), by omega⟩)) * (1 - Ideal.div 1 (1 + Ideal.exp (-x ⟨1024 + (k.val - 1024), by omega⟩))))

section
open Cert.GluReferenceIdeal.Read

theorem ref_apply (x : FVec Ideal S8192x2048 .f32) (d : FVec Ideal S8192x1024 .f32) (r : Fin 8192) (k : Fin 2048) :
    REF x d (ix2 r k) = CELL k (fun l => x (ix2 r l)) (fun l => d (ix2 r l)) := by
  pointwise [REF, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
end

theorem pay_apply (x : Vec Ideal S256x2048 .bf16) (d : Vec Ideal S256x1024 .f32) (r : Fin 256) (k : Fin 2048) :
    k0_pay1 (F := Ideal) x d (ix2 r k) = CELL k (fun l => x (ix2 r l)) (fun l => d (ix2 r l)) := by
  pointwise [k0_pay1]
  unfold CELL
  by_cases h : k.val < 1024
  · simp [h]
  · simp only [h, dif_neg, not_false_iff, gate_slope, add_zero]

theorem point (c : Dev nD) (t : Fin cfg0.N) (y : S256x2048.Idx) :
    k0_pay1 (iblk m c 0 t) (iblk m c 1 t) y
      = REF (m ((c : Thread nD τ).loc main_arg0)) (m ((c : Thread nD τ).loc main_arg1)) (((cfg0.win 2).blk t).view.emb y) := by
  have ht : t.val < 32 := t.isLt
  idx_vars y
  have e : ((cfg0.win 2).blk t).view.emb (ix2 y0 y1) = (ix2 ⟨t.val * 256 + y0.val, by omega⟩ y1 : S8192x2048.Idx) := by
    blk_ext [idx t]
  have ex : ∀ l : Fin 2048, iblk m c 0 t (ix2 y0 l) = m ((c : Thread nD τ).loc main_arg0) (ix2 ⟨t.val * 256 + y0.val, by omega⟩ l) := by
    intro l
    blk_point [iblk, V, idx t]
  have ed : ∀ l : Fin 1024, iblk m c 1 t (ix2 y0 l) = m ((c : Thread nD τ).loc main_arg1) (ix2 ⟨t.val * 256 + y0.val, by omega⟩ l) := by
    intro l
    blk_point [iblk, V, idx t]
  rw [e, ref_apply, pay_apply]
  exact congrArg₂ (CELL y1) (funext ex) (funext ed)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Proof.GluValue

end
-- ==== Proof.SbMath.lean ====
/- Stick-breaking attention of one row, over the reals, and the tile a kernel computes of it over the extended reals. -/
module

public import proofs.«01_k».proof.Proof.Gen.SbKernelIdeal.Frame
public import Idealize.ShloMosaic.Lib.Pipeline.ValueKit
public import Idealize.ShloMosaic.Lib.Pointwise

@[expose] public section

set_option maxRecDepth 16384

noncomputable section

namespace Cert.Proof.Sb

open Idealize.ShloMosaic Idealize.ShloMosaic.TcCoe

/-! The real functions of one row `t`: its query `q`, its cotangent `o`, all keys `k` and values `v`. -/

/-- Softplus, as the kernels spell it. -/
def sp (x : ℝ) : ℝ := max x 0 + Real.log (1 + Real.exp (-|x|))

section
variable (t : ℕ) (q o : Fin 128 → ℝ) (k v : ℕ → Fin 128 → ℝ)

/-- The logit of a key. -/
def zr (j : ℕ) : ℝ := ∑ x, q x * k j x
/-- The logarithm of what the key leaves of the stick. -/
def Lr (j : ℕ) : ℝ := if j < t then -sp (zr q k j) else 0
/-- The sum of the first `n` logarithms. -/
def Sr (n : ℕ) : ℝ := ∑ r ∈ Finset.range n, Lr t q k r
/-- The weight of a key. -/
def Wr (j : ℕ) : ℝ := if j < t then Real.exp (zr q k j + Lr t q k j + (Sr t q k 8192 - Sr t q k (j + 1))) else 0
/-- The weight times its own gradient. -/
def Gr (j : ℕ) : ℝ := Wr t q k j * ∑ x, o x * v j x
/-- The sum of the first `n` of these. -/
def Pr (n : ℕ) : ℝ := ∑ r ∈ Finset.range n, Gr t q o k v r
/-- The gradient of a logit. -/
def Zr (j : ℕ) : ℝ := if j < t then Gr t q o k v j - Real.exp (zr q k j + Lr t q k j) * Pr t q o k v (j + 1) else 0
end

/-! The tile of one row, over the extended reals: the mask's bits, the row's query and cotangent, the tile of keys and values, the two triangles
and what is carried. -/

/-- The logarithm of what a key leaves, of its logit. -/
def lkU (z : EReal) : EReal := 0 - (max z 0 + Ideal.log (1 + Ideal.exp (0 - FloatOps.absf (F := Ideal) (φ := .f32) z)))

section
variable (m : Fin 256 → BitVec 1) (q o : Fin 128 → EReal) (K V : Fin 256 → Fin 128 → EReal)
  (T T' : Fin 256 → Fin 256 → EReal) (lt cl cp : EReal)

def zR (j : Fin 256) : EReal := ∑ x, q x * K j x
def lkR (j : Fin 256) : EReal := Scalar.select (m j) (lkU (zR q K j)) 0
def upR (j : Fin 256) : EReal := ∑ x, lkR m q K x * T x j
def wR (j : Fin 256) : EReal := Scalar.select (m j) (Ideal.exp (zR q K j + lkR m q K j + (lt - cl) - upR m q K T j)) 0
def gR (j : Fin 256) : EReal := wR m q K T lt cl j * ∑ x, o x * V j x
def beR (j : Fin 256) : EReal := ∑ x, gR m q o K V T lt cl x * T' x j
def dzR (j : Fin 256) : EReal :=
  Scalar.select (m j) (gR m q o K V T lt cl j - Ideal.exp (zR q K j + lkR m q K j) * (gR m q o K V T lt cl j + cp + beR m q o K V T T' lt cl j)) 0
def wF (j : Fin 256) : EReal := Scalar.select (m j) (Ideal.exp (zR q K j + lkR m q K j + cl + upR m q K T j)) 0
end

theorem coe_sum {n : ℕ} (f : Fin n → ℝ) : ((∑ x, f x : ℝ) : EReal) = ∑ x, (f x : EReal) := by
  induction n with
  | zero => simp
  | succ n ih => rw [Fin.sum_univ_succ, Fin.sum_univ_succ, EReal.coe_add, ih]

theorem lkU_coe (z : ℝ) : lkU (z : EReal) = ((-sp z : ℝ) : EReal) := by
  have ha : FloatOps.absf (F := Ideal) (φ := .f32) (z : EReal) = ((|z| : ℝ) : EReal) := by
    show max (z : EReal) (-(z : EReal)) = _
    rw [← EReal.coe_neg]; exact (EReal.coe_strictMono.monotone.map_max).symm
  have h : (0:ℝ) < 1 + Real.exp (0 - |z|) := by positivity
  rw [lkU, ha, sp, show (0 : EReal) = ((0 : ℝ) : EReal) from rfl, ← EReal.coe_sub, Ideal.exp_coe,
    show (1 : EReal) = ((1 : ℝ) : EReal) from rfl, ← EReal.coe_add, Ideal.log_coe, if_neg (not_le.mpr h), ← EReal.coe_strictMono.monotone.map_max, ← EReal.coe_add, ← EReal.coe_sub]
  simp only [zero_sub]

theorem sum_le {n : ℕ} (f : ℕ → ℝ) (j : Fin n) :
    ∑ x : Fin n, f x.val * (if x.val ≤ j.val then 1 else 0) = ∑ x ∈ Finset.range (j.val + 1), f x := by
  rw [Fin.sum_univ_eq_sum_range (fun x => f x * (if x ≤ j.val then 1 else 0)) n]
  simp only [mul_ite, mul_one, mul_zero, ← Finset.sum_filter]
  refine Finset.sum_congr ?_ fun _ _ => rfl
  ext x; have := j.isLt; simp only [Finset.mem_filter, Finset.mem_range]; omega

theorem sum_lt {n : ℕ} (f : ℕ → ℝ) (j : Fin n) :
    ∑ x : Fin n, f x.val * (if x.val < j.val then 1 else 0) = ∑ x ∈ Finset.range j.val, f x := by
  rw [Fin.sum_univ_eq_sum_range (fun x => f x * (if x < j.val then 1 else 0)) n]
  simp only [mul_ite, mul_one, mul_zero, ← Finset.sum_filter]
  refine Finset.sum_congr ?_ fun _ _ => rfl
  ext x; have := j.isLt; simp only [Finset.mem_filter, Finset.mem_range]; omega

theorem sum_gt {n : ℕ} (f : ℕ → ℝ) (j : Fin n) :
    ∑ x : Fin n, f x.val * (if j.val < x.val then 1 else 0) = ∑ x ∈ Finset.range n, f x - ∑ x ∈ Finset.range (j.val + 1), f x := by
  rw [← sum_le f j, ← Fin.sum_univ_eq_sum_range f n, ← Finset.sum_sub_distrib]
  refine Finset.sum_congr rfl fun x _ => ?_
  by_cases h : j.val < x.val
  · rw [if_pos h, if_neg (by omega)]; ring
  · rw [if_neg h, if_pos (by omega)]; ring

/-- A triangle's entries as extended reals. -/
def tri (p : ℕ → ℕ → Prop) [DecidableRel p] : Fin 256 → Fin 256 → EReal := fun x y => (((if p x.val y.val then 1 else 0 : ℝ)) : EReal)

section
variable {t b : ℕ} {q o : Fin 128 → ℝ} {k v : ℕ → Fin 128 → ℝ} {m : Fin 256 → BitVec 1}
  (hm : ∀ j : Fin 256, m j = if b + j.val < t then 1#1 else 0#1)

/-- The row of a vector of reals. -/
abbrev up (q : Fin 128 → ℝ) : Fin 128 → EReal := fun x => (q x : EReal)
/-- The tile of keys (or values) from index `b` on. -/
abbrev tile (k : ℕ → Fin 128 → ℝ) (b : ℕ) : Fin 256 → Fin 128 → EReal := fun j x => (k (b + j.val) x : EReal)

theorem zR_coe (j : Fin 256) : zR (up q) (tile k b) j = ((zr q k (b + j.val) : ℝ) : EReal) := by
  rw [zR, zr, coe_sum]; simp only [EReal.coe_mul]

theorem select_coe (p : Prop) [Decidable p] (x : ℝ) (y : EReal) (h : p → y = (x : EReal)) :
    Scalar.select (if p then 1#1 else 0#1) y (0 : EReal) = ((if p then x else 0 : ℝ) : EReal) := by
  by_cases hp : p
  · rw [if_pos hp, if_pos hp, ← h hp]; rfl
  · rw [if_neg hp, if_neg hp]; rfl

include hm

theorem lkR_coe (j : Fin 256) : lkR m (up q) (tile k b) j = ((Lr t q k (b + j.val) : ℝ) : EReal) := by
  rw [lkR, hm, zR_coe, lkU_coe, Lr]; exact select_coe _ _ _ fun _ => rfl

theorem sum_tri (f : ℕ → ℝ) (p : ℕ → ℕ → Prop) [DecidableRel p] (j : Fin 256) :
    ∑ x : Fin 256, ((f (b + x.val) : ℝ) : EReal) * tri p x j = ((∑ x : Fin 256, f (b + x.val) * (if p x.val j.val then 1 else 0) : ℝ) : EReal) := by
  rw [coe_sum]; simp only [EReal.coe_mul, tri]

theorem up_inc (j : Fin 256) : upR m (up q) (tile k b) (tri (· ≤ ·)) j = ((Sr t q k (b + (j.val + 1)) - Sr t q k b : ℝ) : EReal) := by
  rw [upR]; simp only [lkR_coe hm]
  rw [sum_tri hm, sum_le (fun x => Lr t q k (b + x)) j, Sr, Sr, Finset.sum_range_add _ b, add_sub_cancel_left]

theorem up_suf (j : Fin 256) : upR m (up q) (tile k b) (tri (· > ·)) j = ((Sr t q k (b + 256) - Sr t q k (b + (j.val + 1)) : ℝ) : EReal) := by
  rw [upR]; simp only [lkR_coe hm]
  rw [sum_tri hm]
  refine congrArg _ ((sum_gt (fun x => Lr t q k (b + x)) j).trans ?_)
  rw [Sr, Sr, Finset.sum_range_add _ b, Finset.sum_range_add _ b, add_sub_add_left_eq_sub]

theorem wR_coe (j : Fin 256) : wR m (up q) (tile k b) (tri (· ≤ ·)) ((Sr t q k 8192 : ℝ) : EReal) ((Sr t q k b : ℝ) : EReal) j
    = ((Wr t q k (b + j.val) : ℝ) : EReal) := by
  rw [wR, hm, zR_coe, lkR_coe hm, up_inc hm, Wr]
  refine select_coe _ _ _ fun _ => ?_
  rw [← EReal.coe_sub, ← EReal.coe_add, ← EReal.coe_add, ← EReal.coe_sub, Ideal.exp_coe]
  congr 2; rw [add_assoc b]; ring

theorem gR_coe (j : Fin 256) : gR m (up q) (up o) (tile k b) (tile v b) (tri (· ≤ ·)) ((Sr t q k 8192 : ℝ) : EReal) ((Sr t q k b : ℝ) : EReal) j
    = ((Gr t q o k v (b + j.val) : ℝ) : EReal) := by
  rw [gR, wR_coe hm, Gr, EReal.coe_mul, coe_sum]; simp only [EReal.coe_mul]

theorem be_exc (j : Fin 256) :
    beR m (up q) (up o) (tile k b) (tile v b) (tri (· ≤ ·)) (tri (· < ·)) ((Sr t q k 8192 : ℝ) : EReal) ((Sr t q k b : ℝ) : EReal) j
      = ((Pr t q o k v (b + j.val) - Pr t q o k v b : ℝ) : EReal) := by
  rw [beR]; simp only [gR_coe hm]
  rw [sum_tri hm, sum_lt (fun x => Gr t q o k v (b + x)) j, Pr, Pr, Finset.sum_range_add _ b, add_sub_cancel_left]

theorem dzR_coe (j : Fin 256) :
    dzR m (up q) (up o) (tile k b) (tile v b) (tri (· ≤ ·)) (tri (· < ·)) ((Sr t q k 8192 : ℝ) : EReal) ((Sr t q k b : ℝ) : EReal)
      ((Pr t q o k v b : ℝ) : EReal) j = ((Zr t q o k v (b + j.val) : ℝ) : EReal) := by
  rw [dzR, hm, gR_coe hm, be_exc hm, zR_coe, lkR_coe hm, Zr]
  refine select_coe _ _ _ fun _ => ?_
  rw [← EReal.coe_add, Ideal.exp_coe, ← EReal.coe_add, ← EReal.coe_add, ← EReal.coe_mul, ← EReal.coe_sub]
  congr 2; congr 1
  rw [Pr, Pr, Pr, Finset.sum_range_succ]; ring

theorem wF_coe (j : Fin 256) : wF m (up q) (tile k b) (tri (· > ·)) ((Sr t q k 8192 - Sr t q k (b + 256) : ℝ) : EReal) j
    = ((Wr t q k (b + j.val) : ℝ) : EReal) := by
  rw [wF, hm, zR_coe, lkR_coe hm, up_suf hm, Wr]
  refine select_coe _ _ _ fun _ => ?_
  rw [← EReal.coe_add, ← EReal.coe_add, ← EReal.coe_add, Ideal.exp_coe]
  congr 2; rw [add_assoc b]; ring

/-! What a tile carries on. -/

theorem cl_step : ((Sr t q k b : ℝ) : EReal) + upR m (up q) (tile k b) (tri (· ≤ ·)) 255 = ((Sr t q k (b + 256) : ℝ) : EReal) := by
  rw [up_inc hm, ← EReal.coe_add]; congr 1
  exact add_sub_cancel _ _

theorem cp_step : ((Pr t q o k v b : ℝ) : EReal)
      + beR m (up q) (up o) (tile k b) (tile v b) (tri (· ≤ ·)) (tri (· < ·)) ((Sr t q k 8192 : ℝ) : EReal) ((Sr t q k b : ℝ) : EReal) 255
      + gR m (up q) (up o) (tile k b) (tile v b) (tri (· ≤ ·)) ((Sr t q k 8192 : ℝ) : EReal) ((Sr t q k b : ℝ) : EReal) 255
    = ((Pr t q o k v (b + 256) : ℝ) : EReal) := by
  rw [be_exc hm, gR_coe hm, ← EReal.coe_add, ← EReal.coe_add]; congr 1
  rw [show b + 256 = (b + 255) + 1 from rfl, Pr, Pr, Pr, Finset.sum_range_succ]
  show _ + (∑ r ∈ Finset.range (b + 255), _ - _) + Gr t q o k v (b + 255) = _
  ring

theorem c_step : ((Sr t q k 8192 - Sr t q k (b + 256) : ℝ) : EReal) + upR m (up q) (tile k b) (tri (· > ·)) 0 + lkR m (up q) (tile k b) 0
    = ((Sr t q k 8192 - Sr t q k b : ℝ) : EReal) := by
  rw [up_suf hm, lkR_coe hm, ← EReal.coe_add, ← EReal.coe_add]; congr 1
  show _ + (_ - Sr t q k (b + 1)) + Lr t q k (b + 0) = _
  rw [add_zero, Sr, Sr, Sr, Sr, Finset.sum_range_succ _ b]; ring

end

end Cert.Proof.Sb
-- ==== Proof.SbTile.lean ====
/- What one tile of the two kernels does to a block of rows: the carried columns, the gradient of the queries, and what it adds to the
gradients of its keys and values. -/
module

public import proofs.«01_k».proof.Proof.SbMath

@[expose] public section

set_option maxRecDepth 16384

noncomputable section

namespace Cert.Proof.Sb

open Idealize.ShloMosaic Idealize.ShloMosaic.TcCoe
open Cert.SbKernelIdeal Cert.SbKernelIdeal.Gen

/-- A block of queries, or of cotangents. -/
abbrev Q := Vec Ideal S1024x128 .bf16
/-- A tile of keys, or of values. -/
abbrev KV := Vec Ideal S256x128 .bf16
/-- A triangle. -/
abbrev M := Vec Ideal S256x256 .bf16
/-- A carried column. -/
abbrev C := Vec Ideal S1024x1 .f32
/-- A carried block. -/
abbrev D := Vec Ideal S1024x128 .f32

def row (q : Q) (r : Fin 1024) : Fin 128 → EReal := fun x => q (ix2 r x)
def mat (K : KV) : Fin 256 → Fin 128 → EReal := fun j x => K (ix2 j x)
def mat2 (T : M) : Fin 256 → Fin 256 → EReal := fun j x => T (ix2 j x)

/-- The mask's bit of a row and a key, as the kernel spells it: `a` the block of queries, `d` the tile in it, `r0` the tile's first row. -/
def mw (a d r0 : BitVec 32) (s : ℕ) (j : Fin 256) : BitVec 1 :=
  IntOp.cmpi .slt (IntOp.addi (BitVec.ofNat 32 j.val) (Scalar.muli (Scalar.addi (Scalar.muli a 4#32) d) 256#32))
    (IntOp.addi (BitVec.ofNat 32 s) (Scalar.addi (Scalar.muli a 1024#32) r0))
def mt {n : ℕ} (a d r0 : BitVec 32) (s : Fin n) (j : Fin 256) : BitVec 1 := mw a d r0 s.val j
/-- The mask of a tile below the diagonal. -/
def m1 (_ : Fin 1024) (_ : Fin 256) : BitVec 1 := 1#1

/-! The rows a diagonal tile works on. -/
def rr1 (s : Fin 768) : Fin 1024 := ⟨256 + s.val, by omega⟩
def rr2 (s : Fin 512) : Fin 1024 := ⟨512 + s.val, by omega⟩
def rr3 (s : Fin 256) : Fin 1024 := ⟨768 + s.val, by omega⟩

theorem select_one (x y : EReal) : Scalar.select 1#1 x y = x := rfl

section
variable {n : ℕ} (rr : Fin n → Fin 1024) (mk : Fin n → Fin 256 → BitVec 1) (q o : Q) (K V : KV) (T U : M) (l c p : C) (d : D)

def CHi (c' : C) : Prop := ∀ s, c' (ix2 (rr s) 0) = c (ix2 (rr s) 0) + upR (mk s) (row q (rr s)) (mat K) (mat2 T) 255
def PHi (p' : C) : Prop := ∀ s, p' (ix2 (rr s) 0) = p (ix2 (rr s) 0)
    + beR (mk s) (row q (rr s)) (row o (rr s)) (mat K) (mat V) (mat2 T) (mat2 U) (l (ix2 (rr s) 0)) (c (ix2 (rr s) 0)) 255
    + gR (mk s) (row q (rr s)) (row o (rr s)) (mat K) (mat V) (mat2 T) (l (ix2 (rr s) 0)) (c (ix2 (rr s) 0)) 255
/-- What a tile adds to the gradient of a row's query. -/
def dSum (s : Fin n) (x : Fin 128) : EReal := ∑ j : Fin 256,
    dzR (mk s) (row q (rr s)) (row o (rr s)) (mat K) (mat V) (mat2 T) (mat2 U) (l (ix2 (rr s) 0)) (c (ix2 (rr s) 0)) (p (ix2 (rr s) 0)) j * K (ix2 j x)
def DHi (d' : D) : Prop := ∀ s x, d' (ix2 (rr s) x) = d (ix2 (rr s) x) + dSum rr mk q o K V T U l c p s x
/-- What a head's rows add to a key's gradient. -/
def kHead (j : Fin 256) (x : Fin 128) : EReal := ∑ s : Fin n,
    dzR (mk s) (row q (rr s)) (row o (rr s)) (mat K) (mat V) (mat2 T) (mat2 U) (l (ix2 (rr s) 0)) (c (ix2 (rr s) 0)) (p (ix2 (rr s) 0)) j * q (ix2 (rr s) x)
/-- What a head's rows add to a value's gradient. -/
def vHead (j : Fin 256) (x : Fin 128) : EReal := ∑ s : Fin n,
    wR (mk s) (row q (rr s)) (mat K) (mat2 T) (l (ix2 (rr s) 0)) (c (ix2 (rr s) 0)) j * o (ix2 (rr s) x)
/-- The forward kernel's carried column. -/
def FHi (c' : C) : Prop := ∀ s, c' (ix2 (rr s) 0) = c (ix2 (rr s) 0) + upR (mk s) (row q (rr s)) (mat K) (mat2 T) 0 + lkR (mk s) (row q (rr s)) (mat K) 0
/-- The forward kernel's accumulated output. -/
def EHi (d' : D) : Prop := ∀ s x, d' (ix2 (rr s) x) = d (ix2 (rr s) x) + ∑ j : Fin 256,
    wF (mk s) (row q (rr s)) (mat K) (mat2 T) (c (ix2 (rr s) 0)) j * V (ix2 j x)
end

/-! The rows before the tile's first are kept. -/
def CLo (r0 : ℕ) (c c' : C) : Prop := ∀ r : Fin 1024, r.val < r0 → c' (ix2 r 0) = c (ix2 r 0)
def DLo (r0 : ℕ) (d d' : D) : Prop := ∀ (r : Fin 1024) (x : Fin 128), r.val < r0 → d' (ix2 r x) = d (ix2 r x)

end Cert.Proof.Sb
-- ==== Proof.SbBwd.lean ====
/- The backward kernel's tiles, row by row: `u` is a tile below the diagonal block, `0` to `3` are the tiles of the diagonal block. -/
module

public import proofs.«01_k».proof.Proof.SbTile
@[expose] public section

set_option maxRecDepth 16384
set_option maxHeartbeats 1000000
noncomputable section

namespace Cert.Proof.Sb

open Idealize.ShloMosaic Idealize.ShloMosaic.TcCoe Idealize.ShloMosaic.Tactic
open Cert.SbKernelIdeal Cert.SbKernelIdeal.Gen
variable (a : BitVec 32) (x0 qa qb oa ob : Q) (la lb ca pa cb pb : C) (da db : D) (T U : M) (K V : KV) (old : Vec Ideal S256x128 .f32)

theorem tu_ca : CHi (fun s => s) m1 qa K T ca (k1_pay15 qa T ca K) := by
  unfold CHi; intro s
  pointwise [k1_pay1, k1_pay3, k1_pay4, k1_pay6, k1_pay15, CHi, m1, row, mat, mat2, mw, zR, lkU, lkR, upR, wR, gR, beR, dzR, wF, select_one]

theorem tu_pa : PHi (fun s => s) m1 qa oa K V T U la ca pa (k1_pay16 pa (k1_pay9 qa oa la T ca K V) (k1_pay11 qa oa la T U ca K V)) := by
  unfold PHi; intro s
  pointwise [k1_pay1, k1_pay2, k1_pay3, k1_pay4, k1_pay5, k1_pay6, k1_pay7, k1_pay8, k1_pay9, k1_pay10, k1_pay11, k1_pay16, PHi, m1, row, mat, mat2, mw, zR, lkU, lkR, upR, wR, gR, beR, dzR, wF, select_one]

theorem tu_da : DHi (fun s => s) m1 qa oa K V T U la ca pa da (k1_pay17 da (k1_pay1 K) (k1_pay12 qa oa la T U ca pa K V)) := by
  unfold DHi dSum; intro s x
  pointwise [k1_pay1, k1_pay2, k1_pay3, k1_pay4, k1_pay5, k1_pay6, k1_pay7, k1_pay8, k1_pay9, k1_pay10, k1_pay12, k1_pay17, DHi, m1, row, mat, mat2, mw, zR, lkU, lkR, upR, wR, gR, beR, dzR, wF, select_one]

theorem tu_cb : CHi (fun s => s) m1 qb K T cb (k1_pay29 qb T cb (k1_pay1 K)) := by
  unfold CHi; intro s
  pointwise [k1_pay1, k1_pay18, k1_pay19, k1_pay21, k1_pay29, CHi, m1, row, mat, mat2, mw, zR, lkU, lkR, upR, wR, gR, beR, dzR, wF, select_one]

theorem tu_pb : PHi (fun s => s) m1 qb ob K V T U lb cb pb (k1_pay80 (k1_pay30 qb ob lb T U cb pb (k1_pay1 K) (k1_pay2 V)) (k1_pay31 qb ob lb T cb (k1_pay1 K) (k1_pay2 V))) := by
  unfold PHi; intro s
  pointwise [k1_pay1, k1_pay2, k1_pay18, k1_pay19, k1_pay20, k1_pay21, k1_pay22, k1_pay23, k1_pay24, k1_pay25, k1_pay30, k1_pay31, k1_pay80, PHi, m1, row, mat, mat2, mw, zR, lkU, lkR, upR, wR, gR, beR, dzR, wF, select_one]

theorem tu_db : DHi (fun s => s) m1 qb ob K V T U lb cb pb db (k1_pay81 db (k1_pay1 K) (k1_pay26 qb ob lb T U cb pb (k1_pay1 K) (k1_pay2 V))) := by
  unfold DHi dSum; intro s x
  pointwise [k1_pay1, k1_pay2, k1_pay18, k1_pay19, k1_pay20, k1_pay21, k1_pay22, k1_pay23, k1_pay24, k1_pay25, k1_pay26, k1_pay81, DHi, m1, row, mat, mat2, mw, zR, lkU, lkR, upR, wR, gR, beR, dzR, wF, select_one]

theorem tu_dk (j : Fin 256) (x : Fin 128) : (k1_pay82 (k1_pay27 qb ob lb T U cb pb (k1_pay1 K) (k1_pay2 V) (k1_pay13 qa oa la T U ca pa K V)) old) (ix2 j x) = old (ix2 j x) + (kHead (fun s => s) m1 qa oa K V T U la ca pa j x + kHead (fun s => s) m1 qb ob K V T U lb cb pb j x) := by
  pointwise [k1_pay1, k1_pay2, k1_pay3, k1_pay4, k1_pay5, k1_pay6, k1_pay7, k1_pay8, k1_pay9, k1_pay10, k1_pay12, k1_pay13, k1_pay18, k1_pay19, k1_pay20, k1_pay21, k1_pay22, k1_pay23, k1_pay24, k1_pay25, k1_pay26, k1_pay27, k1_pay82, kHead, m1, row, mat, mat2, mw, zR, lkU, lkR, upR, wR, gR, beR, dzR, wF, select_one]

theorem tu_dv (j : Fin 256) (x : Fin 128) : (k1_pay83 (k1_pay28 qb ob lb T cb (k1_pay1 K) (k1_pay14 qa oa la T ca K)) old) (ix2 j x) = old (ix2 j x) + (vHead (fun s => s) m1 qa oa K T la ca j x + vHead (fun s => s) m1 qb ob K T lb cb j x) := by
  pointwise [k1_pay1, k1_pay3, k1_pay4, k1_pay5, k1_pay6, k1_pay7, k1_pay14, k1_pay18, k1_pay19, k1_pay20, k1_pay21, k1_pay22, k1_pay28, k1_pay83, vHead, m1, row, mat, mat2, mw, zR, lkU, lkR, upR, wR, gR, beR, dzR, wF, select_one]

theorem t0_ca : CHi (fun s => s) (mt a 0#32 0#32) qa K T ca (k1_pay105 T ca (k1_pay91 qa K) (k1_pay92 a) (iota .tc S1024x256 32 [0] iota_S1024x256_d0_w32) (k1_pay93 a)) := by
  unfold CHi; intro s
  pointwise [k1_pay88, k1_pay90, k1_pay91, k1_pay92, k1_pay93, k1_pay94, k1_pay95, k1_pay97, k1_pay105, CHi, mt, row, mat, mat2, mw, zR, lkU, lkR, upR, wR, gR, beR, dzR, wF, select_one]

theorem t0_pa : PHi (fun s => s) (mt a 0#32 0#32) qa oa K V T U la ca pa (k1_pay106 oa la T U ca pa (k1_pay89 V) (k1_pay90 qa K) (k1_pay91 qa K) (k1_pay92 a) (iota .tc S1024x256 32 [0] iota_S1024x256_d0_w32) (k1_pay93 a)) := by
  unfold PHi; intro s
  pointwise [k1_pay88, k1_pay89, k1_pay90, k1_pay91, k1_pay92, k1_pay93, k1_pay94, k1_pay95, k1_pay96, k1_pay97, k1_pay98, k1_pay99, k1_pay100, k1_pay101, k1_pay106, PHi, mt, row, mat, mat2, mw, zR, lkU, lkR, upR, wR, gR, beR, dzR, wF, select_one]

theorem t0_da : DHi (fun s => s) (mt a 0#32 0#32) qa oa K V T U la ca pa da (k1_pay107 oa la T U ca pa da (k1_pay88 K) (k1_pay89 V) (k1_pay90 qa K) (k1_pay91 qa K) (k1_pay92 a) (iota .tc S1024x256 32 [0] iota_S1024x256_d0_w32) (k1_pay93 a)) := by
  unfold DHi dSum; intro s x
  pointwise [k1_pay88, k1_pay89, k1_pay90, k1_pay91, k1_pay92, k1_pay93, k1_pay94, k1_pay95, k1_pay96, k1_pay97, k1_pay98, k1_pay99, k1_pay100, k1_pay101, k1_pay102, k1_pay107, DHi, mt, row, mat, mat2, mw, zR, lkU, lkR, upR, wR, gR, beR, dzR, wF, select_one]

theorem t0_cb : CHi (fun s => s) (mt a 0#32 0#32) qb K T cb (k1_pay124 a T cb (Scalar.addi (Scalar.muli a 4#32) 0#32) (k1_pay109 qb (k1_pay88 K)) (k1_pay110 qb (k1_pay88 K)) (k1_pay111 (F := Ideal))) := by
  unfold CHi; intro s
  pointwise [k1_pay88, k1_pay108, k1_pay109, k1_pay110, k1_pay111, k1_pay112, k1_pay113, k1_pay115, k1_pay124, CHi, mt, row, mat, mat2, mw, zR, lkU, lkR, upR, wR, gR, beR, dzR, wF, select_one]

theorem t0_pb : PHi (fun s => s) (mt a 0#32 0#32) qb ob K V T U lb cb pb (k1_pay125 pb (k1_pay118 a ob lb T cb (Scalar.addi (Scalar.muli a 4#32) 0#32) (k1_pay89 V) (k1_pay108 qb (k1_pay88 K)) (k1_pay109 qb (k1_pay88 K)) (k1_pay110 qb (k1_pay88 K)) (k1_pay111 (F := Ideal))) (k1_pay120 a ob lb T U cb (Scalar.addi (Scalar.muli a 4#32) 0#32) (k1_pay89 V) (k1_pay108 qb (k1_pay88 K)) (k1_pay109 qb (k1_pay88 K)) (k1_pay110 qb (k1_pay88 K)) (k1_pay111 (F := Ideal)))) := by
  unfold PHi; intro s
  pointwise [k1_pay88, k1_pay89, k1_pay108, k1_pay109, k1_pay110, k1_pay111, k1_pay112, k1_pay113, k1_pay114, k1_pay115, k1_pay116, k1_pay117, k1_pay118, k1_pay119, k1_pay120, k1_pay125, PHi, mt, row, mat, mat2, mw, zR, lkU, lkR, upR, wR, gR, beR, dzR, wF, select_one]

theorem t0_db : DHi (fun s => s) (mt a 0#32 0#32) qb ob K V T U lb cb pb db (k1_pay126 db (k1_pay88 K) (k1_pay121 a ob lb T U cb pb (Scalar.addi (Scalar.muli a 4#32) 0#32) (k1_pay89 V) (k1_pay108 qb (k1_pay88 K)) (k1_pay109 qb (k1_pay88 K)) (k1_pay110 qb (k1_pay88 K)) (k1_pay111 (F := Ideal)))) := by
  unfold DHi dSum; intro s x
  pointwise [k1_pay88, k1_pay89, k1_pay108, k1_pay109, k1_pay110, k1_pay111, k1_pay112, k1_pay113, k1_pay114, k1_pay115, k1_pay116, k1_pay117, k1_pay118, k1_pay119, k1_pay121, k1_pay126, DHi, mt, row, mat, mat2, mw, zR, lkU, lkR, upR, wR, gR, beR, dzR, wF, select_one]

theorem t0_dk (j : Fin 256) (x : Fin 128) : (k1_pay127 (k1_pay122 a qb ob lb T U cb pb (Scalar.addi (Scalar.muli a 4#32) 0#32) (k1_pay89 V) (k1_pay103 qa oa la T U ca pa (k1_pay89 V) (k1_pay90 qa K) (k1_pay91 qa K) (k1_pay92 a) (iota .tc S1024x256 32 [0] iota_S1024x256_d0_w32) (k1_pay93 a)) (k1_pay108 qb (k1_pay88 K)) (k1_pay109 qb (k1_pay88 K)) (k1_pay110 qb (k1_pay88 K)) (k1_pay111 (F := Ideal))) old) (ix2 j x) = old (ix2 j x) + (kHead (fun s => s) (mt a 0#32 0#32) qa oa K V T U la ca pa j x + kHead (fun s => s) (mt a 0#32 0#32) qb ob K V T U lb cb pb j x) := by
  pointwise [k1_pay88, k1_pay89, k1_pay90, k1_pay91, k1_pay92, k1_pay93, k1_pay94, k1_pay95, k1_pay96, k1_pay97, k1_pay98, k1_pay99, k1_pay100, k1_pay101, k1_pay102, k1_pay103, k1_pay108, k1_pay109, k1_pay110, k1_pay111, k1_pay112, k1_pay113, k1_pay114, k1_pay115, k1_pay116, k1_pay117, k1_pay118, k1_pay119, k1_pay121, k1_pay122, k1_pay127, kHead, mt, row, mat, mat2, mw, zR, lkU, lkR, upR, wR, gR, beR, dzR, wF, select_one]

theorem t0_dv (j : Fin 256) (x : Fin 128) : (k1_pay128 (k1_pay123 a ob lb T cb (Scalar.addi (Scalar.muli a 4#32) 0#32) (k1_pay104 oa la T ca (k1_pay90 qa K) (k1_pay91 qa K) (k1_pay92 a) (iota .tc S1024x256 32 [0] iota_S1024x256_d0_w32) (k1_pay93 a)) (k1_pay108 qb (k1_pay88 K)) (k1_pay109 qb (k1_pay88 K)) (k1_pay110 qb (k1_pay88 K)) (k1_pay111 (F := Ideal))) old) (ix2 j x) = old (ix2 j x) + (vHead (fun s => s) (mt a 0#32 0#32) qa oa K T la ca j x + vHead (fun s => s) (mt a 0#32 0#32) qb ob K T lb cb j x) := by
  pointwise [k1_pay88, k1_pay90, k1_pay91, k1_pay92, k1_pay93, k1_pay94, k1_pay95, k1_pay96, k1_pay97, k1_pay98, k1_pay104, k1_pay108, k1_pay109, k1_pay110, k1_pay111, k1_pay112, k1_pay113, k1_pay114, k1_pay115, k1_pay116, k1_pay123, k1_pay128, vHead, mt, row, mat, mat2, mw, zR, lkU, lkR, upR, wR, gR, beR, dzR, wF, select_one]

theorem t1_ca : CHi rr1 (mt a 1#32 256#32) qa K T ca (k1_pay149 ca (k1_pay146 a T ca (Scalar.addi (Scalar.muli a 4#32) 1#32) (k1_pay134 qa K))) := by
  unfold CHi; intro s
  pointwise [k1_pay129, k1_pay131, k1_pay133, k1_pay134, k1_pay135, k1_pay136, k1_pay138, k1_pay146, k1_pay149, CHi, rr1, mt, row, mat, mat2, mw, zR, lkU, lkR, upR, wR, gR, beR, dzR, wF, select_one]

theorem l1_ca : CLo 256 ca (k1_pay149 ca (k1_pay146 a T ca (Scalar.addi (Scalar.muli a 4#32) 1#32) (k1_pay134 qa K))) := by
  unfold CLo; intro r hr
  pointwise [k1_pay129, k1_pay131, k1_pay133, k1_pay134, k1_pay135, k1_pay136, k1_pay138, k1_pay146, k1_pay149, dif_pos hr]

theorem t1_pa : PHi rr1 (mt a 1#32 256#32) qa oa K V T U la ca pa (k1_pay150 pa (k1_pay147 a la T U ca pa (Scalar.addi (Scalar.muli a 4#32) 1#32) (k1_pay130 V) (k1_pay132 oa) (k1_pay133 qa K) (k1_pay134 qa K)) (k1_pay148 a la T ca (Scalar.addi (Scalar.muli a 4#32) 1#32) (k1_pay130 V) (k1_pay132 oa) (k1_pay133 qa K) (k1_pay134 qa K))) := by
  unfold PHi; intro s
  pointwise [k1_pay129, k1_pay130, k1_pay131, k1_pay132, k1_pay133, k1_pay134, k1_pay135, k1_pay136, k1_pay137, k1_pay138, k1_pay139, k1_pay140, k1_pay141, k1_pay142, k1_pay147, k1_pay148, k1_pay150, PHi, rr1, mt, row, mat, mat2, mw, zR, lkU, lkR, upR, wR, gR, beR, dzR, wF, select_one]

theorem l1_pa : CLo 256 pa (k1_pay150 pa (k1_pay147 a la T U ca pa (Scalar.addi (Scalar.muli a 4#32) 1#32) (k1_pay130 V) (k1_pay132 oa) (k1_pay133 qa K) (k1_pay134 qa K)) (k1_pay148 a la T ca (Scalar.addi (Scalar.muli a 4#32) 1#32) (k1_pay130 V) (k1_pay132 oa) (k1_pay133 qa K) (k1_pay134 qa K))) := by
  unfold CLo; intro r hr
  pointwise [k1_pay129, k1_pay130, k1_pay131, k1_pay132, k1_pay133, k1_pay134, k1_pay135, k1_pay136, k1_pay137, k1_pay138, k1_pay139, k1_pay140, k1_pay141, k1_pay142, k1_pay147, k1_pay148, k1_pay150, dif_pos hr]

theorem t1_da : DHi rr1 (mt a 1#32 256#32) qa oa K V T U la ca pa da (k1_pay151 da (k1_pay129 K) (k1_pay143 a la T U ca pa (Scalar.addi (Scalar.muli a 4#32) 1#32) (k1_pay130 V) (k1_pay132 oa) (k1_pay133 qa K) (k1_pay134 qa K))) := by
  unfold DHi dSum; intro s x
  pointwise [k1_pay129, k1_pay130, k1_pay131, k1_pay132, k1_pay133, k1_pay134, k1_pay135, k1_pay136, k1_pay137, k1_pay138, k1_pay139, k1_pay140, k1_pay141, k1_pay142, k1_pay143, k1_pay151, DHi, rr1, mt, row, mat, mat2, mw, zR, lkU, lkR, upR, wR, gR, beR, dzR, wF, select_one]

theorem l1_da : DLo 256 da (k1_pay151 da (k1_pay129 K) (k1_pay143 a la T U ca pa (Scalar.addi (Scalar.muli a 4#32) 1#32) (k1_pay130 V) (k1_pay132 oa) (k1_pay133 qa K) (k1_pay134 qa K))) := by
  unfold DLo; intro r x hr
  pointwise [k1_pay129, k1_pay130, k1_pay131, k1_pay132, k1_pay133, k1_pay134, k1_pay135, k1_pay136, k1_pay137, k1_pay138, k1_pay139, k1_pay140, k1_pay141, k1_pay142, k1_pay143, k1_pay151, dif_pos hr]

theorem t1_cb : CHi rr1 (mt a 1#32 256#32) qb K T cb (k1_pay166 cb (k1_pay159 a qb T (Scalar.addi (Scalar.muli a 4#32) 1#32) (k1_pay129 K))) := by
  unfold CHi; intro s
  pointwise [k1_pay129, k1_pay152, k1_pay154, k1_pay155, k1_pay156, k1_pay158, k1_pay159, k1_pay166, CHi, rr1, mt, row, mat, mat2, mw, zR, lkU, lkR, upR, wR, gR, beR, dzR, wF, select_one]

theorem l1_cb : CLo 256 cb (k1_pay166 cb (k1_pay159 a qb T (Scalar.addi (Scalar.muli a 4#32) 1#32) (k1_pay129 K))) := by
  unfold CLo; intro r hr
  pointwise [k1_pay129, k1_pay152, k1_pay154, k1_pay155, k1_pay156, k1_pay158, k1_pay159, k1_pay166, dif_pos hr]

theorem t1_pb : PHi rr1 (mt a 1#32 256#32) qb ob K V T U lb cb pb (k1_pay167 U pb (k1_pay130 V) (k1_pay153 ob) (k1_pay155 a (Scalar.addi (Scalar.muli a 4#32) 1#32)) (k1_pay160 a qb lb T cb (Scalar.addi (Scalar.muli a 4#32) 1#32) (k1_pay129 K)) (FloatOps.ofBits (F := Ideal) .f32 0#32)) := by
  unfold PHi; intro s
  pointwise [k1_pay129, k1_pay130, k1_pay152, k1_pay153, k1_pay154, k1_pay155, k1_pay156, k1_pay157, k1_pay158, k1_pay160, k1_pay161, k1_pay162, k1_pay163, k1_pay164, k1_pay167, PHi, rr1, mt, row, mat, mat2, mw, zR, lkU, lkR, upR, wR, gR, beR, dzR, wF, select_one]

theorem l1_pb : CLo 256 pb (k1_pay167 U pb (k1_pay130 V) (k1_pay153 ob) (k1_pay155 a (Scalar.addi (Scalar.muli a 4#32) 1#32)) (k1_pay160 a qb lb T cb (Scalar.addi (Scalar.muli a 4#32) 1#32) (k1_pay129 K)) (FloatOps.ofBits (F := Ideal) .f32 0#32)) := by
  unfold CLo; intro r hr
  pointwise [k1_pay129, k1_pay130, k1_pay152, k1_pay153, k1_pay154, k1_pay155, k1_pay156, k1_pay157, k1_pay158, k1_pay160, k1_pay161, k1_pay162, k1_pay163, k1_pay164, k1_pay167, dif_pos hr]

theorem t1_db : DHi rr1 (mt a 1#32 256#32) qb ob K V T U lb cb pb db (k1_pay168 U pb db (k1_pay129 K) (k1_pay130 V) (k1_pay153 ob) (k1_pay155 a (Scalar.addi (Scalar.muli a 4#32) 1#32)) (k1_pay157 a qb (Scalar.addi (Scalar.muli a 4#32) 1#32) (k1_pay129 K)) (k1_pay160 a qb lb T cb (Scalar.addi (Scalar.muli a 4#32) 1#32) (k1_pay129 K)) (FloatOps.ofBits (F := Ideal) .f32 0#32)) := by
  unfold DHi dSum; intro s x
  pointwise [k1_pay129, k1_pay130, k1_pay152, k1_pay153, k1_pay154, k1_pay155, k1_pay156, k1_pay157, k1_pay158, k1_pay160, k1_pay161, k1_pay162, k1_pay163, k1_pay164, k1_pay165, k1_pay168, DHi, rr1, mt, row, mat, mat2, mw, zR, lkU, lkR, upR, wR, gR, beR, dzR, wF, select_one]

theorem l1_db : DLo 256 db (k1_pay168 U pb db (k1_pay129 K) (k1_pay130 V) (k1_pay153 ob) (k1_pay155 a (Scalar.addi (Scalar.muli a 4#32) 1#32)) (k1_pay157 a qb (Scalar.addi (Scalar.muli a 4#32) 1#32) (k1_pay129 K)) (k1_pay160 a qb lb T cb (Scalar.addi (Scalar.muli a 4#32) 1#32) (k1_pay129 K)) (FloatOps.ofBits (F := Ideal) .f32 0#32)) := by
  unfold DLo; intro r x hr
  pointwise [k1_pay129, k1_pay130, k1_pay152, k1_pay153, k1_pay154, k1_pay155, k1_pay156, k1_pay157, k1_pay158, k1_pay160, k1_pay161, k1_pay162, k1_pay163, k1_pay164, k1_pay165, k1_pay168, dif_pos hr]

theorem t1_dk (j : Fin 256) (x : Fin 128) : (k1_pay169 U pb (k1_pay130 V) (k1_pay144 a la T U ca pa (Scalar.addi (Scalar.muli a 4#32) 1#32) (k1_pay130 V) (k1_pay131 qa) (k1_pay132 oa) (k1_pay133 qa K) (k1_pay134 qa K)) (k1_pay152 qb) (k1_pay153 ob) (k1_pay155 a (Scalar.addi (Scalar.muli a 4#32) 1#32)) (k1_pay157 a qb (Scalar.addi (Scalar.muli a 4#32) 1#32) (k1_pay129 K)) (k1_pay160 a qb lb T cb (Scalar.addi (Scalar.muli a 4#32) 1#32) (k1_pay129 K)) (FloatOps.ofBits (F := Ideal) .f32 0#32) old) (ix2 j x) = old (ix2 j x) + (kHead rr1 (mt a 1#32 256#32) qa oa K V T U la ca pa j x + kHead rr1 (mt a 1#32 256#32) qb ob K V T U lb cb pb j x) := by
  pointwise [k1_pay129, k1_pay130, k1_pay131, k1_pay132, k1_pay133, k1_pay134, k1_pay135, k1_pay136, k1_pay137, k1_pay138, k1_pay139, k1_pay140, k1_pay141, k1_pay142, k1_pay143, k1_pay144, k1_pay152, k1_pay153, k1_pay154, k1_pay155, k1_pay156, k1_pay157, k1_pay158, k1_pay160, k1_pay161, k1_pay162, k1_pay163, k1_pay164, k1_pay165, k1_pay169, kHead, rr1, mt, row, mat, mat2, mw, zR, lkU, lkR, upR, wR, gR, beR, dzR, wF, select_one]

theorem t1_dv (j : Fin 256) (x : Fin 128) : (k1_pay170 (k1_pay145 a la T ca (Scalar.addi (Scalar.muli a 4#32) 1#32) (k1_pay132 oa) (k1_pay133 qa K) (k1_pay134 qa K)) (k1_pay153 ob) (k1_pay155 a (Scalar.addi (Scalar.muli a 4#32) 1#32)) (k1_pay160 a qb lb T cb (Scalar.addi (Scalar.muli a 4#32) 1#32) (k1_pay129 K)) (FloatOps.ofBits (F := Ideal) .f32 0#32) old) (ix2 j x) = old (ix2 j x) + (vHead rr1 (mt a 1#32 256#32) qa oa K T la ca j x + vHead rr1 (mt a 1#32 256#32) qb ob K T lb cb j x) := by
  pointwise [k1_pay129, k1_pay131, k1_pay132, k1_pay133, k1_pay134, k1_pay135, k1_pay136, k1_pay137, k1_pay138, k1_pay139, k1_pay145, k1_pay152, k1_pay153, k1_pay154, k1_pay155, k1_pay156, k1_pay157, k1_pay158, k1_pay160, k1_pay161, k1_pay170, vHead, rr1, mt, row, mat, mat2, mw, zR, lkU, lkR, upR, wR, gR, beR, dzR, wF, select_one]

theorem t2_ca : CHi rr2 (mt a 2#32 512#32) qa K T ca (k1_pay190 ca (k1_pay180 a qa T K)) := by
  unfold CHi; intro s
  pointwise [k1_pay171, k1_pay173, k1_pay175, k1_pay176, k1_pay177, k1_pay179, k1_pay180, k1_pay190, CHi, rr2, mt, row, mat, mat2, mw, zR, lkU, lkR, upR, wR, gR, beR, dzR, wF, select_one]

theorem l2_ca : CLo 512 ca (k1_pay190 ca (k1_pay180 a qa T K)) := by
  unfold CLo; intro r hr
  pointwise [k1_pay171, k1_pay173, k1_pay175, k1_pay176, k1_pay177, k1_pay179, k1_pay180, k1_pay190, dif_pos hr]

theorem t2_pa : PHi rr2 (mt a 2#32 512#32) qa oa K V T U la ca pa (k1_pay191 U pa (k1_pay172 V) (k1_pay174 oa) (k1_pay176 a) (k1_pay178 a qa K) (k1_pay179 a qa T K) (k1_pay181 la) (k1_pay182 ca)) := by
  unfold PHi; intro s
  pointwise [k1_pay171, k1_pay172, k1_pay173, k1_pay174, k1_pay175, k1_pay176, k1_pay177, k1_pay178, k1_pay179, k1_pay181, k1_pay182, k1_pay183, k1_pay184, k1_pay185, k1_pay186, k1_pay191, PHi, rr2, mt, row, mat, mat2, mw, zR, lkU, lkR, upR, wR, gR, beR, dzR, wF, select_one]

theorem l2_pa : CLo 512 pa (k1_pay191 U pa (k1_pay172 V) (k1_pay174 oa) (k1_pay176 a) (k1_pay178 a qa K) (k1_pay179 a qa T K) (k1_pay181 la) (k1_pay182 ca)) := by
  unfold CLo; intro r hr
  pointwise [k1_pay171, k1_pay172, k1_pay173, k1_pay174, k1_pay175, k1_pay176, k1_pay177, k1_pay178, k1_pay179, k1_pay181, k1_pay182, k1_pay183, k1_pay184, k1_pay185, k1_pay186, k1_pay191, dif_pos hr]

theorem t2_da : DHi rr2 (mt a 2#32 512#32) qa oa K V T U la ca pa da (k1_pay192 U pa da (k1_pay171 K) (k1_pay172 V) (k1_pay174 oa) (k1_pay176 a) (k1_pay178 a qa K) (k1_pay179 a qa T K) (k1_pay181 la) (k1_pay182 ca)) := by
  unfold DHi dSum; intro s x
  pointwise [k1_pay171, k1_pay172, k1_pay173, k1_pay174, k1_pay175, k1_pay176, k1_pay177, k1_pay178, k1_pay179, k1_pay181, k1_pay182, k1_pay183, k1_pay184, k1_pay185, k1_pay186, k1_pay187, k1_pay192, DHi, rr2, mt, row, mat, mat2, mw, zR, lkU, lkR, upR, wR, gR, beR, dzR, wF, select_one]

theorem l2_da : DLo 512 da (k1_pay192 U pa da (k1_pay171 K) (k1_pay172 V) (k1_pay174 oa) (k1_pay176 a) (k1_pay178 a qa K) (k1_pay179 a qa T K) (k1_pay181 la) (k1_pay182 ca)) := by
  unfold DLo; intro r x hr
  pointwise [k1_pay171, k1_pay172, k1_pay173, k1_pay174, k1_pay175, k1_pay176, k1_pay177, k1_pay178, k1_pay179, k1_pay181, k1_pay182, k1_pay183, k1_pay184, k1_pay185, k1_pay186, k1_pay187, k1_pay192, dif_pos hr]

theorem t2_cb : CHi rr2 (mt a 2#32 512#32) qb K T cb (k1_pay211 cb (k1_pay202 a T (Scalar.addi (Scalar.muli a 4#32) 2#32) (k1_pay196 qb (k1_pay171 K)) (k1_pay197 qb (k1_pay171 K)))) := by
  unfold CHi; intro s
  pointwise [k1_pay171, k1_pay193, k1_pay195, k1_pay196, k1_pay197, k1_pay198, k1_pay199, k1_pay201, k1_pay202, k1_pay211, CHi, rr2, mt, row, mat, mat2, mw, zR, lkU, lkR, upR, wR, gR, beR, dzR, wF, select_one]

theorem l2_cb : CLo 512 cb (k1_pay211 cb (k1_pay202 a T (Scalar.addi (Scalar.muli a 4#32) 2#32) (k1_pay196 qb (k1_pay171 K)) (k1_pay197 qb (k1_pay171 K)))) := by
  unfold CLo; intro r hr
  pointwise [k1_pay171, k1_pay193, k1_pay195, k1_pay196, k1_pay197, k1_pay198, k1_pay199, k1_pay201, k1_pay202, k1_pay211, dif_pos hr]

theorem t2_pb : PHi rr2 (mt a 2#32 512#32) qb ob K V T U lb cb pb (k1_pay212 pb (k1_pay205 a lb T cb (Scalar.addi (Scalar.muli a 4#32) 2#32) (k1_pay172 V) (k1_pay194 ob) (k1_pay195 qb (k1_pay171 K)) (k1_pay196 qb (k1_pay171 K)) (k1_pay197 qb (k1_pay171 K))) (k1_pay207 a lb T U cb (Scalar.addi (Scalar.muli a 4#32) 2#32) (k1_pay172 V) (k1_pay194 ob) (k1_pay195 qb (k1_pay171 K)) (k1_pay196 qb (k1_pay171 K)) (k1_pay197 qb (k1_pay171 K)))) := by
  unfold PHi; intro s
  pointwise [k1_pay171, k1_pay172, k1_pay193, k1_pay194, k1_pay195, k1_pay196, k1_pay197, k1_pay198, k1_pay199, k1_pay200, k1_pay201, k1_pay203, k1_pay204, k1_pay205, k1_pay206, k1_pay207, k1_pay212, PHi, rr2, mt, row, mat, mat2, mw, zR, lkU, lkR, upR, wR, gR, beR, dzR, wF, select_one]

theorem l2_pb : CLo 512 pb (k1_pay212 pb (k1_pay205 a lb T cb (Scalar.addi (Scalar.muli a 4#32) 2#32) (k1_pay172 V) (k1_pay194 ob) (k1_pay195 qb (k1_pay171 K)) (k1_pay196 qb (k1_pay171 K)) (k1_pay197 qb (k1_pay171 K))) (k1_pay207 a lb T U cb (Scalar.addi (Scalar.muli a 4#32) 2#32) (k1_pay172 V) (k1_pay194 ob) (k1_pay195 qb (k1_pay171 K)) (k1_pay196 qb (k1_pay171 K)) (k1_pay197 qb (k1_pay171 K)))) := by
  unfold CLo; intro r hr
  pointwise [k1_pay171, k1_pay172, k1_pay193, k1_pay194, k1_pay195, k1_pay196, k1_pay197, k1_pay198, k1_pay199, k1_pay200, k1_pay201, k1_pay203, k1_pay204, k1_pay205, k1_pay206, k1_pay207, k1_pay212, dif_pos hr]

theorem t2_db : DHi rr2 (mt a 2#32 512#32) qb ob K V T U lb cb pb db (k1_pay213 db (k1_pay171 K) (k1_pay208 a lb T U cb pb (Scalar.addi (Scalar.muli a 4#32) 2#32) (k1_pay172 V) (k1_pay194 ob) (k1_pay195 qb (k1_pay171 K)) (k1_pay196 qb (k1_pay171 K)) (k1_pay197 qb (k1_pay171 K)))) := by
  unfold DHi dSum; intro s x
  pointwise [k1_pay171, k1_pay172, k1_pay193, k1_pay194, k1_pay195, k1_pay196, k1_pay197, k1_pay198, k1_pay199, k1_pay200, k1_pay201, k1_pay203, k1_pay204, k1_pay205, k1_pay206, k1_pay208, k1_pay213, DHi, rr2, mt, row, mat, mat2, mw, zR, lkU, lkR, upR, wR, gR, beR, dzR, wF, select_one]

theorem l2_db : DLo 512 db (k1_pay213 db (k1_pay171 K) (k1_pay208 a lb T U cb pb (Scalar.addi (Scalar.muli a 4#32) 2#32) (k1_pay172 V) (k1_pay194 ob) (k1_pay195 qb (k1_pay171 K)) (k1_pay196 qb (k1_pay171 K)) (k1_pay197 qb (k1_pay171 K)))) := by
  unfold DLo; intro r x hr
  pointwise [k1_pay171, k1_pay172, k1_pay193, k1_pay194, k1_pay195, k1_pay196, k1_pay197, k1_pay198, k1_pay199, k1_pay200, k1_pay201, k1_pay203, k1_pay204, k1_pay205, k1_pay206, k1_pay208, k1_pay213, dif_pos hr]

theorem t2_dk (j : Fin 256) (x : Fin 128) : (k1_pay214 (k1_pay188 U pa (k1_pay172 V) (k1_pay173 qa) (k1_pay174 oa) (k1_pay176 a) (k1_pay178 a qa K) (k1_pay179 a qa T K) (k1_pay181 la) (k1_pay182 ca)) (k1_pay209 a lb T U cb pb (Scalar.addi (Scalar.muli a 4#32) 2#32) (k1_pay172 V) (k1_pay193 qb) (k1_pay194 ob) (k1_pay195 qb (k1_pay171 K)) (k1_pay196 qb (k1_pay171 K)) (k1_pay197 qb (k1_pay171 K))) old) (ix2 j x) = old (ix2 j x) + (kHead rr2 (mt a 2#32 512#32) qa oa K V T U la ca pa j x + kHead rr2 (mt a 2#32 512#32) qb ob K V T U lb cb pb j x) := by
  pointwise [k1_pay171, k1_pay172, k1_pay173, k1_pay174, k1_pay175, k1_pay176, k1_pay177, k1_pay178, k1_pay179, k1_pay181, k1_pay182, k1_pay183, k1_pay184, k1_pay185, k1_pay186, k1_pay187, k1_pay188, k1_pay193, k1_pay194, k1_pay195, k1_pay196, k1_pay197, k1_pay198, k1_pay199, k1_pay200, k1_pay201, k1_pay203, k1_pay204, k1_pay205, k1_pay206, k1_pay208, k1_pay209, k1_pay214, kHead, rr2, mt, row, mat, mat2, mw, zR, lkU, lkR, upR, wR, gR, beR, dzR, wF, select_one]

theorem t2_dv (j : Fin 256) (x : Fin 128) : (k1_pay215 (k1_pay189 (k1_pay174 oa) (k1_pay176 a) (k1_pay178 a qa K) (k1_pay179 a qa T K) (k1_pay181 la) (k1_pay182 ca)) (k1_pay194 ob) (k1_pay210 a lb T cb (Scalar.addi (Scalar.muli a 4#32) 2#32) (k1_pay195 qb (k1_pay171 K)) (k1_pay196 qb (k1_pay171 K)) (k1_pay197 qb (k1_pay171 K))) old) (ix2 j x) = old (ix2 j x) + (vHead rr2 (mt a 2#32 512#32) qa oa K T la ca j x + vHead rr2 (mt a 2#32 512#32) qb ob K T lb cb j x) := by
  pointwise [k1_pay171, k1_pay173, k1_pay174, k1_pay175, k1_pay176, k1_pay177, k1_pay178, k1_pay179, k1_pay181, k1_pay182, k1_pay183, k1_pay189, k1_pay193, k1_pay194, k1_pay195, k1_pay196, k1_pay197, k1_pay198, k1_pay199, k1_pay200, k1_pay201, k1_pay203, k1_pay210, k1_pay215, vHead, rr2, mt, row, mat, mat2, mw, zR, lkU, lkR, upR, wR, gR, beR, dzR, wF, select_one]

theorem t3_dk (j : Fin 256) (x : Fin 128) : (k1_pay240 U pb (k1_pay217 V) (k1_pay228 (k1_pay218 qa) (k1_pay226 a la T U ca pa (Scalar.addi (Scalar.muli a 4#32) 3#32) (k1_pay217 V) (k1_pay219 oa) (k1_pay220 qa K) (k1_pay221 (F := Ideal)))) (k1_pay231 qb) (k1_pay232 ob) (k1_pay234 a (Scalar.addi (Scalar.muli a 4#32) 3#32)) (k1_pay236 a qb (Scalar.addi (Scalar.muli a 4#32) 3#32) (k1_pay216 K)) (k1_pay237 a qb lb T cb (Scalar.addi (Scalar.muli a 4#32) 3#32) (k1_pay216 K)) (FloatOps.ofBits (F := Ideal) .f32 0#32) old) (ix2 j x) = old (ix2 j x) + (kHead rr3 (mt a 3#32 768#32) qa oa K V T U la ca pa j x + kHead rr3 (mt a 3#32 768#32) qb ob K V T U lb cb pb j x) := by
  pointwise [k1_pay216, k1_pay217, k1_pay218, k1_pay219, k1_pay220, k1_pay221, k1_pay222, k1_pay223, k1_pay224, k1_pay225, k1_pay226, k1_pay227, k1_pay228, k1_pay231, k1_pay232, k1_pay233, k1_pay234, k1_pay235, k1_pay236, k1_pay237, k1_pay238, k1_pay239, k1_pay240, kHead, rr3, mt, row, mat, mat2, mw, zR, lkU, lkR, upR, wR, gR, beR, dzR, wF, select_one]

theorem t3_dv (j : Fin 256) (x : Fin 128) : (k1_pay241 (k1_pay229 (k1_pay219 oa) (k1_pay225 a la T ca (Scalar.addi (Scalar.muli a 4#32) 3#32) (k1_pay220 qa K) (k1_pay221 (F := Ideal)))) (k1_pay232 ob) (k1_pay234 a (Scalar.addi (Scalar.muli a 4#32) 3#32)) (k1_pay237 a qb lb T cb (Scalar.addi (Scalar.muli a 4#32) 3#32) (k1_pay216 K)) (FloatOps.ofBits (F := Ideal) .f32 0#32) old) (ix2 j x) = old (ix2 j x) + (vHead rr3 (mt a 3#32 768#32) qa oa K T la ca j x + vHead rr3 (mt a 3#32 768#32) qb ob K T lb cb j x) := by
  pointwise [k1_pay216, k1_pay218, k1_pay219, k1_pay220, k1_pay221, k1_pay222, k1_pay223, k1_pay224, k1_pay225, k1_pay229, k1_pay231, k1_pay232, k1_pay233, k1_pay234, k1_pay235, k1_pay236, k1_pay237, k1_pay238, k1_pay241, vHead, rr3, mt, row, mat, mat2, mw, zR, lkU, lkR, upR, wR, gR, beR, dzR, wF, select_one]

section
variable {F : FTy → Type} [FloatOps F] (v34 : FVec F S256x256 .bf16) (v518 : FVec F S1024x1 .f32) (v520 : FVec F S1024x128 .f32) (v539 : FVec F S256x128 .bf16)
    (v542 : FVec F S256x128 .bf16) (v603 : FVec F S1024x128 .f32) (v605 : FVec F S256x128 .bf16) (v628 : IVec S256x256 1) (v631 : FVec F S256x256 .f32)
    (v640 : FVec F S256x256 .f32) (z : F .f32)

/-- What the last tile adds to the gradient of the second head's queries. -/
def t3dz : FVec F S256x128 .f32 :=
  matmul dot_S256x256_S256x128_S256x128_1_0_0_1_n_n none (k1_pay239 v34 v518 v542 v605 v628 v631 v640 z) v539 (constant S256x128 .f32 0x00000000#32)
/-- The gradient of the second head's queries, from what the last tile adds to it. -/
def t3db (w : FVec F S256x128 .f32) : FVec F S1024x128 .f32 :=
  concatenate S1024x128 0 [⟨S768x128, extractStridedSlice S768x128 ![0, 0] v520 slices_S1024x128_o0_0_S768x128⟩,
    ⟨S256x128, addf (extractStridedSlice S256x128 ![768, 0] v520 slices_S1024x128_o768_0_S256x128) w⟩]
    concatenates_S768x128_S256x128_S1024x128_d0
/-- The gradient of the queries, of its two heads. -/
def t3sel (a b : FVec F S1024x128 .f32) : FVec F S1024x128 .f32 :=
  mulf (select (cmpi .slt (iota .tc S1024x128 32 [1] iota_S1024x128_d1_w32) (broadcast S1024x128 64#32)) a b) (broadcast S1024x128 (Scalar.ofBits .f32 0x3E000000#32))

theorem k1_pay242_eq : k1_pay242 v34 v518 v520 v539 v542 v603 v605 v628 v631 v640 z
    = t3sel v603 (t3db v520 (t3dz v34 v518 v539 v542 v605 v628 v631 v640 z)) := rfl
end

theorem t3sel_apply (r : Fin 1024) (x : Fin 128) :
    t3sel (F := Ideal) da db (ix2 r x) = Scalar.select (IntOp.cmpi .slt (BitVec.ofNat 32 x.val) 64#32) (da (ix2 r x)) (db (ix2 r x)) * FloatOps.ofBits (F := Ideal) .f32 0x3E000000#32 := by
  pointwise [t3sel]

theorem t3db_hi (w : Vec Ideal S256x128 .f32) (s : Fin 256) (x : Fin 128) : t3db (F := Ideal) db w (ix2 (rr3 s) x) = db (ix2 (rr3 s) x) + w (ix2 s x) := by
  pointwise [t3db, rr3]

theorem t3db_lo (w : Vec Ideal S256x128 .f32) (r : Fin 1024) (x : Fin 128) (hr : r.val < 768) : t3db (F := Ideal) db w (ix2 r x) = db (ix2 r x) := by
  pointwise [t3db, dif_pos hr]

theorem t3_da : DHi rr3 (mt a 3#32 768#32) qa oa K V T U la ca pa da (k1_pay230 da (k1_pay216 K) (k1_pay226 a la T U ca pa (Scalar.addi (Scalar.muli a 4#32) 3#32) (k1_pay217 V) (k1_pay219 oa) (k1_pay220 qa K) (k1_pay221 (F := Ideal)))) := by
  unfold DHi dSum; intro s x
  pointwise [k1_pay230, k1_pay227, k1_pay216, k1_pay226, k1_pay225, k1_pay223, k1_pay222, k1_pay224, k1_pay217, k1_pay219, k1_pay220, k1_pay218, k1_pay221, DHi, rr3, mt, row, mat, mat2, mw, zR, lkU, lkR, upR, wR, gR, beR, dzR, wF, select_one]

theorem l3_da : DLo 768 da (k1_pay230 da (k1_pay216 K) (k1_pay226 a la T U ca pa (Scalar.addi (Scalar.muli a 4#32) 3#32) (k1_pay217 V) (k1_pay219 oa) (k1_pay220 qa K) (k1_pay221 (F := Ideal)))) := by
  unfold DLo; intro r x hr
  pointwise [k1_pay230, k1_pay227, k1_pay216, k1_pay226, k1_pay225, k1_pay223, k1_pay222, k1_pay224, k1_pay217, k1_pay219, k1_pay220, k1_pay218, k1_pay221, dif_pos hr]

theorem t3dz_apply (s : Fin 256) (x : Fin 128) : (t3dz U pb (k1_pay216 K) (k1_pay217 V) (k1_pay232 ob) (k1_pay234 a (Scalar.addi (Scalar.muli a 4#32) 3#32)) (k1_pay236 a qb (Scalar.addi (Scalar.muli a 4#32) 3#32) (k1_pay216 K)) (k1_pay237 a qb lb T cb (Scalar.addi (Scalar.muli a 4#32) 3#32) (k1_pay216 K)) (FloatOps.ofBits (F := Ideal) .f32 0#32)) (ix2 s x) = dSum rr3 (mt a 3#32 768#32) qb ob K V T U lb cb pb s x := by
  unfold dSum
  pointwise [t3dz, k1_pay239, k1_pay238, k1_pay216, k1_pay217, k1_pay232, k1_pay234, k1_pay236, k1_pay233, k1_pay231, k1_pay235, k1_pay237, rr3, mt, row, mat, mat2, mw, zR, lkU, lkR, upR, wR, gR, beR, dzR, wF, select_one]

theorem t3_db : DHi rr3 (mt a 3#32 768#32) qb ob K V T U lb cb pb db (t3db (F := Ideal) db (t3dz U pb (k1_pay216 K) (k1_pay217 V) (k1_pay232 ob) (k1_pay234 a (Scalar.addi (Scalar.muli a 4#32) 3#32)) (k1_pay236 a qb (Scalar.addi (Scalar.muli a 4#32) 3#32) (k1_pay216 K)) (k1_pay237 a qb lb T cb (Scalar.addi (Scalar.muli a 4#32) 3#32) (k1_pay216 K)) (FloatOps.ofBits (F := Ideal) .f32 0#32))) :=
  fun s x => (t3db_hi _ _ s x).trans (congrArg _ (t3dz_apply a qb ob lb cb pb T U K V s x))

theorem l3_db : DLo 768 db (t3db (F := Ideal) db (t3dz U pb (k1_pay216 K) (k1_pay217 V) (k1_pay232 ob) (k1_pay234 a (Scalar.addi (Scalar.muli a 4#32) 3#32)) (k1_pay236 a qb (Scalar.addi (Scalar.muli a 4#32) 3#32) (k1_pay216 K)) (k1_pay237 a qb lb T cb (Scalar.addi (Scalar.muli a 4#32) 3#32) (k1_pay216 K)) (FloatOps.ofBits (F := Ideal) .f32 0#32))) := fun r x hr => t3db_lo _ _ r x hr

theorem k1_pay67_apply (r : Fin 1024) (x : Fin 128) : (k1_pay67 x0) (ix2 r x) = Scalar.select (IntOp.cmpi .slt (BitVec.ofNat 32 x.val) 64#32) (x0 (ix2 r x)) 0 * FloatOps.ofBits (F := Ideal) .bf16 0x3E00#16 := by
  pointwise [k1_pay67, k1_pay65, k1_pay66]

theorem k1_pay68_apply (r : Fin 1024) (x : Fin 128) : (k1_pay68 x0) (ix2 r x) = Scalar.select (IntOp.cmpi .sge (BitVec.ofNat 32 x.val) 64#32) (x0 (ix2 r x)) 0 * FloatOps.ofBits (F := Ideal) .bf16 0x3E00#16 := by
  pointwise [k1_pay68, k1_pay65, k1_pay66]

theorem k1_pay71_apply (r : Fin 1024) (x : Fin 128) : (k1_pay71 x0) (ix2 r x) = Scalar.select (IntOp.cmpi .slt (BitVec.ofNat 32 x.val) 64#32) (x0 (ix2 r x)) 0 := by
  pointwise [k1_pay71, k1_pay69, k1_pay70]

theorem k1_pay72_apply (r : Fin 1024) (x : Fin 128) : (k1_pay72 x0) (ix2 r x) = Scalar.select (IntOp.cmpi .sge (BitVec.ofNat 32 x.val) 64#32) (x0 (ix2 r x)) 0 := by
  pointwise [k1_pay72, k1_pay69, k1_pay70]

theorem k1_pay74_apply (X : Vec Ideal S1x1024x2 .f32) (r : Fin 1024) : (k1_pay74 X) (ix2 r 0) = X (ix3 0 r 0) := by
  pointwise [k1_pay74, k1_pay73]

theorem k1_pay75_apply (X : Vec Ideal S1x1024x2 .f32) (r : Fin 1024) : (k1_pay75 X) (ix2 r 0) = X (ix3 0 r 1) := by
  pointwise [k1_pay75, k1_pay73]

end Cert.Proof.Sb
-- ==== Proof.SbStep.lean ====
/- What a tile leaves, once everything it reads is real: the carried columns go on by 256 keys, and the gradients of the tile's keys and values
grow by what the block's rows give them. -/
module

public import proofs.«01_k».proof.Proof.SbTile
public import Idealize.ShloMosaic.Lib.WritesUnit

@[expose] public section

set_option maxRecDepth 16384

noncomputable section

namespace Cert.Proof.Sb

open Idealize.ShloMosaic Idealize.ShloMosaic.TcCoe
open Cert.SbKernelIdeal Cert.SbKernelIdeal.Gen

section
variable (i : ℕ) (q o k v : ℕ → Fin 128 → ℝ)

/-- What the rows of block `i` give key `y`'s gradient, of one head. -/
def CK (y : ℕ) (x : Fin 128) : ℝ := ∑ r ∈ Finset.range 1024, Zr (1024 * i + r) (q (1024 * i + r)) (o (1024 * i + r)) k v y * q (1024 * i + r) x
/-- What they give value `y`'s gradient. -/
def CV (y : ℕ) (x : Fin 128) : ℝ := ∑ r ∈ Finset.range 1024, Wr (1024 * i + r) (q (1024 * i + r)) k y * o (1024 * i + r) x
/-- What the first `n` keys give the gradient of query `t`. -/
def DQ (t n : ℕ) (x : Fin 128) : ℝ := ∑ j ∈ Finset.range n, Zr t (q t) (o t) k v j * k j x
/-- What the keys from `n` on give the output of row `t`. -/
def DO (t n : ℕ) (x : Fin 128) : ℝ := ∑ j ∈ Finset.range 8192, Wr t (q t) k j * v j x - ∑ j ∈ Finset.range n, Wr t (q t) k j * v j x

/-- A head's arrays, read as real functions. -/
structure Head (Qb Ob : Q) (l : C) : Prop where
  hq : ∀ r, row Qb r = up (q (1024 * i + r.val))
  ho : ∀ r, row Ob r = up (o (1024 * i + r.val))
  hl : ∀ r : Fin 1024, l (ix2 r 0) = ((Sr (1024 * i + r.val) (q (1024 * i + r.val)) k 8192 : ℝ) : EReal)
/-- What a head carries before key `n`. -/
structure Carry (n : ℕ) (c p : C) (d : D) : Prop where
  hc : ∀ r : Fin 1024, c (ix2 r 0) = ((Sr (1024 * i + r.val) (q (1024 * i + r.val)) k n : ℝ) : EReal)
  hp : ∀ r : Fin 1024, p (ix2 r 0) = ((Pr (1024 * i + r.val) (q (1024 * i + r.val)) (o (1024 * i + r.val)) k v n : ℝ) : EReal)
  hd : ∀ (r : Fin 1024) (x : Fin 128), d (ix2 r x) = ((DQ q o k v (1024 * i + r.val) n x : ℝ) : EReal)
/-- What the forward kernel's head carries when the keys from `n` on are done. -/
structure FCarry (n : ℕ) (c : C) (d : D) : Prop where
  hc : ∀ r : Fin 1024, c (ix2 r 0) = ((Sr (1024 * i + r.val) (q (1024 * i + r.val)) k 8192 - Sr (1024 * i + r.val) (q (1024 * i + r.val)) k n : ℝ) : EReal)
  hd : ∀ (r : Fin 1024) (x : Fin 128), d (ix2 r x) = ((DO q k v (1024 * i + r.val) n x : ℝ) : EReal)
end

/-- A tile of keys and values, read as real functions. -/
structure Keys (k v : ℕ → Fin 128 → ℝ) (b : ℕ) (K V : KV) : Prop where
  hk : mat K = tile k b
  hv : mat V = tile v b
/-- The rows a tile works on and its mask. -/
structure Mask (i b r0 : ℕ) {n : ℕ} (rr : Fin n → Fin 1024) (mk : Fin n → Fin 256 → BitVec 1) : Prop where
  hn : r0 + n = 1024
  hr : ∀ s, (rr s).val = r0 + s.val
  hb : ∀ r, r < r0 → 1024 * i + r ≤ b
  hm : ∀ s j, mk s j = if b + j.val < 1024 * i + (rr s).val then 1#1 else 0#1
/-- The backward kernel's two triangles. -/
structure Tri (T U : M) : Prop where
  hT : mat2 T = tri (· ≤ ·)
  hU : mat2 U = tri (· < ·)

/-! Beyond its own row every function of a row stands still. -/
section
variable {t b : ℕ} {q o : Fin 128 → ℝ} {k v : ℕ → Fin 128 → ℝ} (h : t ≤ b)
include h
theorem Wr_of_le : Wr t q k b = 0 := if_neg (by omega)
theorem Zr_of_le : Zr t q o k v b = 0 := if_neg (by omega)
theorem Gr_of_le : Gr t q o k v b = 0 := by rw [Gr, Wr_of_le h, zero_mul]
theorem range_of_le (f : ℕ → ℝ) (hf : ∀ j, t ≤ j → f j = 0) (n : ℕ) : ∑ j ∈ Finset.range (b + n), f j = ∑ j ∈ Finset.range b, f j := by
  rw [Finset.sum_range_add _ b, Finset.sum_eq_zero (s := Finset.range n) fun j _ => hf _ (by omega), add_zero]
theorem Sr_of_le (n : ℕ) : Sr t q k (b + n) = Sr t q k b := range_of_le h _ (fun j hj => if_neg (by omega)) n
theorem Pr_of_le (n : ℕ) : Pr t q o k v (b + n) = Pr t q o k v b := range_of_le h _ (fun j hj => Gr_of_le hj) n
end

section
variable {i b r0 n : ℕ} {q o k v : ℕ → Fin 128 → ℝ} {rr : Fin n → Fin 1024} {mk : Fin n → Fin 256 → BitVec 1}
  {Qb Ob : Q} {l c p c' p' : C} {d d' : D} {K V : KV} {T U : M}

theorem Mask.row_cases (hM : Mask i b r0 rr mk) (r : Fin 1024) : r.val < r0 ∨ ∃ s, rr s = r := by
  by_cases h : r.val < r0
  · exact Or.inl h
  · have h1 := hM.hn; have h2 := r.isLt
    exact Or.inr ⟨⟨r.val - r0, by omega⟩, Fin.ext (by rw [hM.hr]; show r0 + (r.val - r0) = _; omega)⟩

theorem tile_sum (f : ℕ → ℝ) (b : ℕ) : ∑ j : Fin 256, ((f (b + j.val) : ℝ) : EReal) = ((∑ j ∈ Finset.range 256, f (b + j) : ℝ) : EReal) := by
  rw [← coe_sum (fun j : Fin 256 => f (b + j.val)), Fin.sum_univ_eq_sum_range (fun j => f (b + j)) 256]

theorem Carry.dq (hC : Carry i q o k v b c p d) (hH : Head i q o k Qb Ob l) (hK : Keys k v b K V) (hT : Tri T U) (hM : Mask i b r0 rr mk)
    (h3 : DHi rr mk Qb Ob K V T U l c p d d') (l3 : DLo r0 d d') (r : Fin 1024) (x : Fin 128) :
    d' (ix2 r x) = ((DQ q o k v (1024 * i + r.val) (b + 256) x : ℝ) : EReal) := by
  rcases hM.row_cases r with h | ⟨s, rfl⟩
  · rw [l3 r x h, hC.hd, DQ, DQ, range_of_le (hM.hb _ h) _ fun j hj => by rw [Zr_of_le hj, zero_mul]]
  · rw [h3 s x, dSum, hC.hd, hC.hp, hC.hc, hH.hl, hH.hq, hH.ho, hK.hk, hK.hv, hT.hT, hT.hU, DQ, DQ, Finset.sum_range_add, EReal.coe_add,
      ← tile_sum (fun j => Zr _ _ _ k v j * k j x)]
    congr 1
    refine Finset.sum_congr rfl fun j _ => ?_
    rw [dzR_coe (hM.hm s), EReal.coe_mul]
    exact congrArg (_ * ·) (congrFun (congrFun hK.hk j) x)

theorem Carry.step (hC : Carry i q o k v b c p d) (hH : Head i q o k Qb Ob l) (hK : Keys k v b K V) (hT : Tri T U) (hM : Mask i b r0 rr mk)
    (h1 : CHi rr mk Qb K T c c') (h2 : PHi rr mk Qb Ob K V T U l c p p') (h3 : DHi rr mk Qb Ob K V T U l c p d d')
    (l1 : CLo r0 c c') (l2 : CLo r0 p p') (l3 : DLo r0 d d') : Carry i q o k v (b + 256) c' p' d' := by
  refine ⟨fun r => ?_, fun r => ?_, fun r x => ?_⟩
  · rcases hM.row_cases r with h | ⟨s, rfl⟩
    · rw [l1 r h, hC.hc, Sr_of_le (hM.hb _ h)]
    · rw [h1 s, hC.hc, hH.hq, hK.hk, hT.hT]; exact cl_step (hM.hm s)
  · rcases hM.row_cases r with h | ⟨s, rfl⟩
    · rw [l2 r h, hC.hp, Pr_of_le (hM.hb _ h)]
    · rw [h2 s, hC.hp, hC.hc, hH.hl, hH.hq, hH.ho, hK.hk, hK.hv, hT.hT, hT.hU]; exact cp_step (hM.hm s)
  · exact hC.dq hH hK hT hM h3 l3 r x

theorem FCarry.step (hC : FCarry i q k v (b + 256) c d) (hq : ∀ r, row Qb r = up (q (1024 * i + r.val))) (hK : Keys k v b K V)
    (hT : mat2 T = tri (· > ·)) (hM : Mask i b r0 rr mk)
    (h1 : FHi rr mk Qb K T c c') (h3 : EHi rr mk Qb K V T c d d') (l1 : CLo r0 c c') (l3 : DLo r0 d d') : FCarry i q k v b c' d' := by
  refine ⟨fun r => ?_, fun r x => ?_⟩
  · rcases hM.row_cases r with h | ⟨s, rfl⟩
    · rw [l1 r h, hC.hc, Sr_of_le (hM.hb _ h)]
    · rw [h1 s, hC.hc, hq, hK.hk, hT]; exact c_step (hM.hm s)
  · rcases hM.row_cases r with h | ⟨s, rfl⟩
    · rw [l3 r x h, hC.hd, DO, DO, range_of_le (hM.hb _ h) _ fun j hj => by rw [Wr_of_le hj, zero_mul]]
    · rw [h3 s x, hC.hd, hC.hc, hq, hK.hk, hT, DO, DO, Finset.sum_range_add _ b]
      have e : ∀ j : Fin 256, wF (mk s) (up (q (1024 * i + (rr s).val))) (tile k b) (tri (· > ·))
          ((Sr (1024 * i + (rr s).val) (q (1024 * i + (rr s).val)) k 8192 - Sr (1024 * i + (rr s).val) (q (1024 * i + (rr s).val)) k (b + 256) : ℝ) : EReal) j
          * V (ix2 j x) = ((Wr (1024 * i + (rr s).val) (q (1024 * i + (rr s).val)) k (b + j.val) * v (b + j.val) x : ℝ) : EReal) := fun j => by
        rw [wF_coe (hM.hm s), EReal.coe_mul]; exact congrArg (_ * ·) (congrFun (congrFun hK.hv j) x)
      rw [Finset.sum_congr rfl fun j _ => e j, tile_sum (fun j => Wr _ _ k j * v j x), ← EReal.coe_add]
      congr 1; ring

theorem rows_sum (hM : Mask i b r0 rr mk) (f : ℕ → ℝ) (hf : ∀ r, r < r0 → f r = 0) :
    ∑ s : Fin n, ((f (rr s).val : ℝ) : EReal) = ((∑ r ∈ Finset.range 1024, f r : ℝ) : EReal) := by
  have e : Finset.range 1024 = Finset.range (r0 + n) := by rw [hM.hn]
  rw [e, Finset.sum_range_add, Finset.sum_eq_zero (s := Finset.range r0) fun r hr => hf r (Finset.mem_range.mp hr), zero_add,
    ← Fin.sum_univ_eq_sum_range (fun r => f (r0 + r)) n, coe_sum]
  simp only [hM.hr]

theorem kHead_coe (hC : Carry i q o k v b c p d) (hH : Head i q o k Qb Ob l) (hK : Keys k v b K V) (hT : Tri T U) (hM : Mask i b r0 rr mk)
    (j : Fin 256) (x : Fin 128) : kHead rr mk Qb Ob K V T U l c p j x = ((CK i q o k v (b + j.val) x : ℝ) : EReal) := by
  rw [kHead, CK, ← rows_sum hM (fun r => Zr (1024 * i + r) (q (1024 * i + r)) (o (1024 * i + r)) k v (b + j.val) * q (1024 * i + r) x)
    fun r hr => by rw [Zr_of_le (by have := hM.hb r hr; omega), zero_mul]]
  refine Finset.sum_congr rfl fun s _ => ?_
  rw [hC.hp, hC.hc, hH.hl, hH.hq, hH.ho, hK.hk, hK.hv, hT.hT, hT.hU, dzR_coe (hM.hm s), EReal.coe_mul]
  exact congrArg (_ * ·) (congrFun (hH.hq (rr s)) x)

theorem vHead_coe (hC : Carry i q o k v b c p d) (hH : Head i q o k Qb Ob l) (hK : Keys k v b K V) (hT : Tri T U) (hM : Mask i b r0 rr mk)
    (j : Fin 256) (x : Fin 128) : vHead rr mk Qb Ob K T l c j x = ((CV i q o k (b + j.val) x : ℝ) : EReal) := by
  rw [vHead, CV, ← rows_sum hM (fun r => Wr (1024 * i + r) (q (1024 * i + r)) k (b + j.val) * o (1024 * i + r) x)
    fun r hr => by rw [Wr_of_le (by have := hM.hb r hr; omega), zero_mul]]
  refine Finset.sum_congr rfl fun s _ => ?_
  rw [hC.hc, hH.hl, hH.hq, hK.hk, hT.hT, wR_coe (hM.hm s), EReal.coe_mul]
  exact congrArg (_ * ·) (congrFun (hH.ho (rr s)) x)
end

/-! The buffer of the keys' (or the values') gradient. -/

/-- The pieces written so far have added `f` to the rows before `n`. -/
def Mem {sp : Space} (w : View sig .tc sp S8192x128 .f32) (G : w.ty.Contents (Elt Ideal)) (L : List (View.Piece (Elt Ideal) S8192x128 .f32))
    (X : Fin 8192 → Fin 128 → EReal) (f : ℕ → Fin 128 → ℝ) (n : ℕ) : Prop :=
  ∀ (y : Fin 8192) (x : Fin 128), w.read (Elt Ideal) (w.writes (Elt Ideal) G L) (ix2 y x) = X y x + ((if y.val < n then f y.val x else 0 : ℝ) : EReal)

theorem Mem.step {sp : Space} {w : View sig .tc sp S8192x128 .f32} {G : w.ty.Contents (Elt Ideal)} {L : List (View.Piece (Elt Ideal) S8192x128 .f32)}
    {X : Fin 8192 → Fin 128 → EReal} {f : ℕ → Fin 128 → ℝ} {b : ℕ} (hL : Mem w G L X f b) {off : Fin 2 → ℕ}
    (inb : ∀ a, off a + S256x128.size a ≤ S8192x128.size a) (ho : off = ![b, 0]) (pay : Vec Ideal S256x128 .f32)
    (hp : ∀ (j : Fin 256) (x : Fin 128), pay (ix2 j x)
      = w.readAt (Elt Ideal) (Rect.unit (s := S8192x128) off S256x128.size inb).toLoadRect (w.writes (Elt Ideal) G L) (ix2 j x) + ((f (b + j.val) x : ℝ) : EReal)) :
    Mem w G ((⟨Rect.unit (s := S8192x128) off S256x128.size inb, pay⟩ : View.Piece (Elt Ideal) S8192x128 .f32) :: L) X f (b + 256) := by
  subst ho
  have hb : b + 256 ≤ 8192 := inb 0
  intro y x
  by_cases h : b ≤ y.val ∧ y.val < b + 256
  · have e : y = ⟨b + (⟨y.val - b, by omega⟩ : Fin 256).val, by show b + (y.val - b) < 8192; omega⟩ := Fin.ext (by show _ = b + (y.val - b); omega)
    rw [View.read_writes_cons_unit_of_mem w G inb pay L (ix2 y x) (ix2 (⟨y.val - b, by omega⟩ : Fin 256) x) rfl
      (fun a => by fin_cases a <;> [exact congrArg Fin.val e; exact (Nat.zero_add _).symm]), hp, View.readAt_apply]
    have e2 : (Rect.unit (s := S8192x128) ![b, 0] S256x128.size inb).toLoadRect.idx (ix2 (⟨y.val - b, by omega⟩ : Fin 256) x) = ix2 y x :=
      funext fun a => Fin.ext (by fin_cases a <;> [(show b + 1 * (y.val - b) = y.val; omega); (show 0 + 1 * x.val = x.val; omega)])
    rw [e2, hL, if_neg (by omega), if_pos h.2, EReal.coe_zero, add_zero]
    congr 3; show b + (y.val - b) = _; omega
  · rw [View.read_writes_cons_unit_of_not_mem w G inb pay L (ix2 y x) rfl (0 : Fin 2) (by show y.val < b ∨ b + 256 ≤ y.val; omega), hL]
    by_cases h' : y.val < b
    · rw [if_pos h', if_pos (by omega)]
    · rw [if_neg h', if_neg (by omega)]

end Cert.Proof.Sb
-- ==== Proof.SbWord.lean ====
/- The words the two kernels compute: the rows their tiles start at, how often their loops run, and the masks' bits. -/
module

public import proofs.«01_k».proof.Proof.SbStep
public import Idealize.ShloMosaic.Lib.LoopRemainder

@[expose] public section

set_option maxRecDepth 16384

noncomputable section

namespace Cert.Proof.Sb

open Idealize.ShloMosaic Idealize.ShloMosaic.TcCoe Idealize.ShloMosaic.Tactic
open Cert.SbKernelIdeal Cert.SbKernelIdeal.Gen

section
variable (i : grid1.Coords)

theorem lt1 : (i 1).val < 8 := (i 1).isLt

theorem off3_word : ∀ n < 8, ∀ d < 4, (Scalar.indexCast (Scalar.muli (Scalar.addi (Scalar.muli (BitVec.ofNat 32 n) 4#32) (BitVec.ofNat 32 d)) 256#32) : BitVec 32).toNat = 256 * (4 * n + d) := by
  decide +kernel

theorem off3 (d : ℕ) (hd : d < 4) : k1_off3 i (BitVec.ofNat 32 d) = ![256 * (4 * (i 1).val + d), 0] := by
  rw [← off3_word _ (lt1 i) d hd]; rfl

theorem trips_word : ∀ n < 8, Scf.trips 0#32 (Scalar.addi 0#32 (Scalar.muli (Scalar.divsi (Scalar.subi (Scalar.muli (BitVec.ofNat 32 n) 4#32) 0#32) 1#32) 1#32)) 1#32 = 4 * n := by
  decide +kernel

theorem trips1 : (k1_t1_loop i).trips = 4 * (i 1).val := trips_word _ (lt1 i)
theorem trips2 : (k1_t2_loop i).trips = 0 := Scf.rem_trips _ _

theorem off1_word : ∀ k < 28, (Scalar.indexCast (Scalar.muli (Scf.iv 0#32 1#32 k) 256#32) : BitVec 32).toNat = 256 * k := by
  decide +kernel

theorem off1 (k : Fin (k1_t1_loop i).trips) : k1_off1 i k = ![256 * k.val, 0] := by
  have h1 := k.isLt; have h2 := trips1 i; have h3 := lt1 i
  rw [← off1_word k.val (by omega)]; rfl
end

section
variable (i : grid0.Coords)

theorem flt1 : (i 1).val < 8 := (i 1).isLt

theorem foff1 (d : ℕ) (hd : d < 4) : k0_off1 i (BitVec.ofNat 32 d) = ![256 * (4 * (i 1).val + d), 0] := by
  rw [← off3_word _ (flt1 i) d hd]; rfl

theorem ftrips1 : (k0_t1_loop i).trips = 4 * (i 1).val := trips_word _ (flt1 i)
theorem ftrips2 : (k0_t2_loop i).trips = 0 := Scf.rem_trips _ _

theorem foff2_word : ∀ n < 8, ∀ k < 28, k < 4 * n → (Scalar.indexCast (Scalar.muli (Scalar.subi (Scalar.subi (Scalar.muli (BitVec.ofNat 32 n) 4#32) 1#32) (Scf.iv 0#32 1#32 k)) 256#32) : BitVec 32).toNat
    = 256 * (4 * n - 1 - k) := by
  decide +kernel

theorem foff2 (k : Fin (k0_t1_loop i).trips) : k0_off2 i k = ![256 * (4 * (i 1).val - 1 - k.val), 0] := by
  have h1 := k.isLt; have h2 := ftrips1 i; have h3 := flt1 i
  rw [← foff2_word _ h3 k.val (by omega) (by omega)]; rfl
end

theorem base_word : ∀ n < 8, ∀ d < 4, Scalar.muli (Scalar.addi (Scalar.muli (BitVec.ofNat 32 n) 4#32) (BitVec.ofNat 32 d)) 256#32 = BitVec.ofNat 32 (256 * (4 * n + d))
    ∧ Scalar.addi (Scalar.muli (BitVec.ofNat 32 n) 1024#32) (BitVec.ofNat 32 (256 * d)) = BitVec.ofNat 32 (1024 * n + 256 * d) := by
  decide +kernel

theorem mw_eq (n d : ℕ) (hn : n < 8) (hd : d < 4) (s : ℕ) (hs : s < 1024) (j : Fin 256) :
    mw (BitVec.ofNat 32 n) (BitVec.ofNat 32 d) (BitVec.ofNat 32 (256 * d)) s j = if 256 * (4 * n + d) + j.val < 1024 * n + (256 * d + s) then 1#1 else 0#1 := by
  have hj := j.isLt
  rw [mw, (base_word n hn d hd).1, (base_word n hn d hd).2,
    show IntOp.addi (BitVec.ofNat 32 j.val) (BitVec.ofNat 32 (256 * (4 * n + d))) = BitVec.ofNat 32 (j.val + 256 * (4 * n + d)) from (BitVec.ofNat_add _ _).symm,
    show IntOp.addi (BitVec.ofNat 32 s) (BitVec.ofNat 32 (1024 * n + 256 * d)) = BitVec.ofNat 32 (s + (1024 * n + 256 * d)) from (BitVec.ofNat_add _ _).symm]
  have h1 : j.val + 256 * (4 * n + d) < 2 ^ (32 - 1) := by omega
  have h2 : s + (1024 * n + 256 * d) < 2 ^ (32 - 1) := by omega
  by_cases h : 256 * (4 * n + d) + j.val < 1024 * n + (256 * d + s)
  · rw [if_pos h]; exact (WordCmp.cmpi_slt_ofNat_eq_one_iff h1 h2).mpr (by omega)
  · rw [if_neg h]; exact (WordCmp.cmpi_slt_ofNat_eq_zero_iff h1 h2).mpr (by omega)

/-- A diagonal tile's mask. -/
theorem Mask.diag (n d : ℕ) (hn : n < 8) (hd : d < 4) {N : ℕ} (hN : 256 * d + N = 1024) {rr : Fin N → Fin 1024} (hr : ∀ s, (rr s).val = 256 * d + s.val) :
    Mask n (256 * (4 * n + d)) (256 * d) rr (mt (BitVec.ofNat 32 n) (BitVec.ofNat 32 d) (BitVec.ofNat 32 (256 * d))) := by
  refine ⟨hN, hr, fun r hr => by omega, fun s j => ?_⟩
  rw [hr]; exact mw_eq n d hn hd s.val (by have := s.isLt; omega) j

/-- The mask below the diagonal. -/
theorem Mask.below (n b : ℕ) (hb : b + 256 ≤ 1024 * n) : Mask n b 0 (fun s => s) m1 := by
  refine ⟨rfl, fun s => (Nat.zero_add _).symm, fun r hr => by omega, fun s j => ?_⟩
  have := j.isLt
  exact (if_pos (by omega)).symm

end Cert.Proof.Sb
-- ==== Proof.SbDiag.lean ====
/- The diagonal block of the backward kernel: four tiles in a row, each on fewer rows, from real carries to real carries. -/
module

public import proofs.«01_k».proof.Proof.SbBwd
public import proofs.«01_k».proof.Proof.SbWord
@[expose] public section

set_option maxRecDepth 16384
set_option maxHeartbeats 1000000
noncomputable section

namespace Cert.Proof.Sb

open Idealize.ShloMosaic Idealize.ShloMosaic.TcCoe Idealize.ShloMosaic.Tactic
open Cert.SbKernelIdeal Cert.SbKernelIdeal.Gen

/-- What the two heads carry. -/
abbrev St := C × C × D × C × C × D

section
variable (a : BitVec 32) (qa qb oa ob : Q) (la lb : C) (T U : M) (K V : KV) (s : St) (old : Vec Ideal S256x128 .f32)

def tileu : St :=
  (k1_pay15 qa T s.1 K,
   k1_pay16 s.2.1 (k1_pay9 qa oa la T s.1 K V) (k1_pay11 qa oa la T U s.1 K V),
   k1_pay17 s.2.2.1 (k1_pay1 K) (k1_pay12 qa oa la T U s.1 s.2.1 K V),
   k1_pay29 qb T s.2.2.2.1 (k1_pay1 K),
   k1_pay80 (k1_pay30 qb ob lb T U s.2.2.2.1 s.2.2.2.2.1 (k1_pay1 K) (k1_pay2 V)) (k1_pay31 qb ob lb T s.2.2.2.1 (k1_pay1 K) (k1_pay2 V)),
   k1_pay81 s.2.2.2.2.2 (k1_pay1 K) (k1_pay26 qb ob lb T U s.2.2.2.1 s.2.2.2.2.1 (k1_pay1 K) (k1_pay2 V)))

def tileuk : Vec Ideal S256x128 .f32 := k1_pay82 (k1_pay27 qb ob lb T U s.2.2.2.1 s.2.2.2.2.1 (k1_pay1 K) (k1_pay2 V) (k1_pay13 qa oa la T U s.1 s.2.1 K V)) old

def tileuv : Vec Ideal S256x128 .f32 := k1_pay83 (k1_pay28 qb ob lb T s.2.2.2.1 (k1_pay1 K) (k1_pay14 qa oa la T s.1 K)) old

def tile0 : St :=
  (k1_pay105 T s.1 (k1_pay91 qa K) (k1_pay92 a) (iota .tc S1024x256 32 [0] iota_S1024x256_d0_w32) (k1_pay93 a),
   k1_pay106 oa la T U s.1 s.2.1 (k1_pay89 V) (k1_pay90 qa K) (k1_pay91 qa K) (k1_pay92 a) (iota .tc S1024x256 32 [0] iota_S1024x256_d0_w32) (k1_pay93 a),
   k1_pay107 oa la T U s.1 s.2.1 s.2.2.1 (k1_pay88 K) (k1_pay89 V) (k1_pay90 qa K) (k1_pay91 qa K) (k1_pay92 a) (iota .tc S1024x256 32 [0] iota_S1024x256_d0_w32) (k1_pay93 a),
   k1_pay124 a T s.2.2.2.1 (Scalar.addi (Scalar.muli a 4#32) 0#32) (k1_pay109 qb (k1_pay88 K)) (k1_pay110 qb (k1_pay88 K)) (k1_pay111 (F := Ideal)),
   k1_pay125 s.2.2.2.2.1 (k1_pay118 a ob lb T s.2.2.2.1 (Scalar.addi (Scalar.muli a 4#32) 0#32) (k1_pay89 V) (k1_pay108 qb (k1_pay88 K)) (k1_pay109 qb (k1_pay88 K)) (k1_pay110 qb (k1_pay88 K)) (k1_pay111 (F := Ideal))) (k1_pay120 a ob lb T U s.2.2.2.1 (Scalar.addi (Scalar.muli a 4#32) 0#32) (k1_pay89 V) (k1_pay108 qb (k1_pay88 K)) (k1_pay109 qb (k1_pay88 K)) (k1_pay110 qb (k1_pay88 K)) (k1_pay111 (F := Ideal))),
   k1_pay126 s.2.2.2.2.2 (k1_pay88 K) (k1_pay121 a ob lb T U s.2.2.2.1 s.2.2.2.2.1 (Scalar.addi (Scalar.muli a 4#32) 0#32) (k1_pay89 V) (k1_pay108 qb (k1_pay88 K)) (k1_pay109 qb (k1_pay88 K)) (k1_pay110 qb (k1_pay88 K)) (k1_pay111 (F := Ideal))))

def tile0k : Vec Ideal S256x128 .f32 := k1_pay127 (k1_pay122 a qb ob lb T U s.2.2.2.1 s.2.2.2.2.1 (Scalar.addi (Scalar.muli a 4#32) 0#32) (k1_pay89 V) (k1_pay103 qa oa la T U s.1 s.2.1 (k1_pay89 V) (k1_pay90 qa K) (k1_pay91 qa K) (k1_pay92 a) (iota .tc S1024x256 32 [0] iota_S1024x256_d0_w32) (k1_pay93 a)) (k1_pay108 qb (k1_pay88 K)) (k1_pay109 qb (k1_pay88 K)) (k1_pay110 qb (k1_pay88 K)) (k1_pay111 (F := Ideal))) old

def tile0v : Vec Ideal S256x128 .f32 := k1_pay128 (k1_pay123 a ob lb T s.2.2.2.1 (Scalar.addi (Scalar.muli a 4#32) 0#32) (k1_pay104 oa la T s.1 (k1_pay90 qa K) (k1_pay91 qa K) (k1_pay92 a) (iota .tc S1024x256 32 [0] iota_S1024x256_d0_w32) (k1_pay93 a)) (k1_pay108 qb (k1_pay88 K)) (k1_pay109 qb (k1_pay88 K)) (k1_pay110 qb (k1_pay88 K)) (k1_pay111 (F := Ideal))) old

def tile1 : St :=
  (k1_pay149 s.1 (k1_pay146 a T s.1 (Scalar.addi (Scalar.muli a 4#32) 1#32) (k1_pay134 qa K)),
   k1_pay150 s.2.1 (k1_pay147 a la T U s.1 s.2.1 (Scalar.addi (Scalar.muli a 4#32) 1#32) (k1_pay130 V) (k1_pay132 oa) (k1_pay133 qa K) (k1_pay134 qa K)) (k1_pay148 a la T s.1 (Scalar.addi (Scalar.muli a 4#32) 1#32) (k1_pay130 V) (k1_pay132 oa) (k1_pay133 qa K) (k1_pay134 qa K)),
   k1_pay151 s.2.2.1 (k1_pay129 K) (k1_pay143 a la T U s.1 s.2.1 (Scalar.addi (Scalar.muli a 4#32) 1#32) (k1_pay130 V) (k1_pay132 oa) (k1_pay133 qa K) (k1_pay134 qa K)),
   k1_pay166 s.2.2.2.1 (k1_pay159 a qb T (Scalar.addi (Scalar.muli a 4#32) 1#32) (k1_pay129 K)),
   k1_pay167 U s.2.2.2.2.1 (k1_pay130 V) (k1_pay153 ob) (k1_pay155 a (Scalar.addi (Scalar.muli a 4#32) 1#32)) (k1_pay160 a qb lb T s.2.2.2.1 (Scalar.addi (Scalar.muli a 4#32) 1#32) (k1_pay129 K)) (FloatOps.ofBits (F := Ideal) .f32 0#32),
   k1_pay168 U s.2.2.2.2.1 s.2.2.2.2.2 (k1_pay129 K) (k1_pay130 V) (k1_pay153 ob) (k1_pay155 a (Scalar.addi (Scalar.muli a 4#32) 1#32)) (k1_pay157 a qb (Scalar.addi (Scalar.muli a 4#32) 1#32) (k1_pay129 K)) (k1_pay160 a qb lb T s.2.2.2.1 (Scalar.addi (Scalar.muli a 4#32) 1#32) (k1_pay129 K)) (FloatOps.ofBits (F := Ideal) .f32 0#32))

def tile1k : Vec Ideal S256x128 .f32 := k1_pay169 U s.2.2.2.2.1 (k1_pay130 V) (k1_pay144 a la T U s.1 s.2.1 (Scalar.addi (Scalar.muli a 4#32) 1#32) (k1_pay130 V) (k1_pay131 qa) (k1_pay132 oa) (k1_pay133 qa K) (k1_pay134 qa K)) (k1_pay152 qb) (k1_pay153 ob) (k1_pay155 a (Scalar.addi (Scalar.muli a 4#32) 1#32)) (k1_pay157 a qb (Scalar.addi (Scalar.muli a 4#32) 1#32) (k1_pay129 K)) (k1_pay160 a qb lb T s.2.2.2.1 (Scalar.addi (Scalar.muli a 4#32) 1#32) (k1_pay129 K)) (FloatOps.ofBits (F := Ideal) .f32 0#32) old

def tile1v : Vec Ideal S256x128 .f32 := k1_pay170 (k1_pay145 a la T s.1 (Scalar.addi (Scalar.muli a 4#32) 1#32) (k1_pay132 oa) (k1_pay133 qa K) (k1_pay134 qa K)) (k1_pay153 ob) (k1_pay155 a (Scalar.addi (Scalar.muli a 4#32) 1#32)) (k1_pay160 a qb lb T s.2.2.2.1 (Scalar.addi (Scalar.muli a 4#32) 1#32) (k1_pay129 K)) (FloatOps.ofBits (F := Ideal) .f32 0#32) old

def tile2 : St :=
  (k1_pay190 s.1 (k1_pay180 a qa T K),
   k1_pay191 U s.2.1 (k1_pay172 V) (k1_pay174 oa) (k1_pay176 a) (k1_pay178 a qa K) (k1_pay179 a qa T K) (k1_pay181 la) (k1_pay182 s.1),
   k1_pay192 U s.2.1 s.2.2.1 (k1_pay171 K) (k1_pay172 V) (k1_pay174 oa) (k1_pay176 a) (k1_pay178 a qa K) (k1_pay179 a qa T K) (k1_pay181 la) (k1_pay182 s.1),
   k1_pay211 s.2.2.2.1 (k1_pay202 a T (Scalar.addi (Scalar.muli a 4#32) 2#32) (k1_pay196 qb (k1_pay171 K)) (k1_pay197 qb (k1_pay171 K))),
   k1_pay212 s.2.2.2.2.1 (k1_pay205 a lb T s.2.2.2.1 (Scalar.addi (Scalar.muli a 4#32) 2#32) (k1_pay172 V) (k1_pay194 ob) (k1_pay195 qb (k1_pay171 K)) (k1_pay196 qb (k1_pay171 K)) (k1_pay197 qb (k1_pay171 K))) (k1_pay207 a lb T U s.2.2.2.1 (Scalar.addi (Scalar.muli a 4#32) 2#32) (k1_pay172 V) (k1_pay194 ob) (k1_pay195 qb (k1_pay171 K)) (k1_pay196 qb (k1_pay171 K)) (k1_pay197 qb (k1_pay171 K))),
   k1_pay213 s.2.2.2.2.2 (k1_pay171 K) (k1_pay208 a lb T U s.2.2.2.1 s.2.2.2.2.1 (Scalar.addi (Scalar.muli a 4#32) 2#32) (k1_pay172 V) (k1_pay194 ob) (k1_pay195 qb (k1_pay171 K)) (k1_pay196 qb (k1_pay171 K)) (k1_pay197 qb (k1_pay171 K))))

def tile2k : Vec Ideal S256x128 .f32 := k1_pay214 (k1_pay188 U s.2.1 (k1_pay172 V) (k1_pay173 qa) (k1_pay174 oa) (k1_pay176 a) (k1_pay178 a qa K) (k1_pay179 a qa T K) (k1_pay181 la) (k1_pay182 s.1)) (k1_pay209 a lb T U s.2.2.2.1 s.2.2.2.2.1 (Scalar.addi (Scalar.muli a 4#32) 2#32) (k1_pay172 V) (k1_pay193 qb) (k1_pay194 ob) (k1_pay195 qb (k1_pay171 K)) (k1_pay196 qb (k1_pay171 K)) (k1_pay197 qb (k1_pay171 K))) old

def tile2v : Vec Ideal S256x128 .f32 := k1_pay215 (k1_pay189 (k1_pay174 oa) (k1_pay176 a) (k1_pay178 a qa K) (k1_pay179 a qa T K) (k1_pay181 la) (k1_pay182 s.1)) (k1_pay194 ob) (k1_pay210 a lb T s.2.2.2.1 (Scalar.addi (Scalar.muli a 4#32) 2#32) (k1_pay195 qb (k1_pay171 K)) (k1_pay196 qb (k1_pay171 K)) (k1_pay197 qb (k1_pay171 K))) old

def tile3o : D := t3sel (k1_pay230 s.2.2.1 (k1_pay216 K) (k1_pay226 a la T U s.1 s.2.1 (Scalar.addi (Scalar.muli a 4#32) 3#32) (k1_pay217 V) (k1_pay219 oa) (k1_pay220 qa K) (k1_pay221 (F := Ideal)))) (t3db s.2.2.2.2.2 (t3dz U s.2.2.2.2.1 (k1_pay216 K) (k1_pay217 V) (k1_pay232 ob) (k1_pay234 a (Scalar.addi (Scalar.muli a 4#32) 3#32)) (k1_pay236 a qb (Scalar.addi (Scalar.muli a 4#32) 3#32) (k1_pay216 K)) (k1_pay237 a qb lb T s.2.2.2.1 (Scalar.addi (Scalar.muli a 4#32) 3#32) (k1_pay216 K)) (FloatOps.ofBits (F := Ideal) .f32 0#32)))

def tile3k : Vec Ideal S256x128 .f32 := k1_pay240 U s.2.2.2.2.1 (k1_pay217 V) (k1_pay228 (k1_pay218 qa) (k1_pay226 a la T U s.1 s.2.1 (Scalar.addi (Scalar.muli a 4#32) 3#32) (k1_pay217 V) (k1_pay219 oa) (k1_pay220 qa K) (k1_pay221 (F := Ideal)))) (k1_pay231 qb) (k1_pay232 ob) (k1_pay234 a (Scalar.addi (Scalar.muli a 4#32) 3#32)) (k1_pay236 a qb (Scalar.addi (Scalar.muli a 4#32) 3#32) (k1_pay216 K)) (k1_pay237 a qb lb T s.2.2.2.1 (Scalar.addi (Scalar.muli a 4#32) 3#32) (k1_pay216 K)) (FloatOps.ofBits (F := Ideal) .f32 0#32) old

def tile3v : Vec Ideal S256x128 .f32 := k1_pay241 (k1_pay229 (k1_pay219 oa) (k1_pay225 a la T s.1 (Scalar.addi (Scalar.muli a 4#32) 3#32) (k1_pay220 qa K) (k1_pay221 (F := Ideal)))) (k1_pay232 ob) (k1_pay234 a (Scalar.addi (Scalar.muli a 4#32) 3#32)) (k1_pay237 a qb lb T s.2.2.2.1 (Scalar.addi (Scalar.muli a 4#32) 3#32) (k1_pay216 K)) (FloatOps.ofBits (F := Ideal) .f32 0#32) old

end

section
variable (i : ℕ) (q1 q2 o1 o2 k v : ℕ → Fin 128 → ℝ)

/-- The two heads' carries before key `n`. -/
structure StOK (n : ℕ) (s : St) : Prop where
  A : Carry i q1 o1 k v n s.1 s.2.1 s.2.2.1
  B : Carry i q2 o2 k v n s.2.2.2.1 s.2.2.2.2.1 s.2.2.2.2.2
/-- The block's arrays, read as real functions. -/
structure Blk (qa qb oa ob : Q) (la lb : C) (T U : M) : Prop where
  A : Head i q1 o1 k qa oa la
  B : Head i q2 o2 k qb ob lb
  T : Tri T U

/-- What the block's rows give a key's gradient, of both heads. -/
def CK2 (y : ℕ) (x : Fin 128) : ℝ := CK i q1 o1 k v y x + CK i q2 o2 k v y x
/-- What they give a value's gradient. -/
def CV2 (y : ℕ) (x : Fin 128) : ℝ := CV i q1 o1 k y x + CV i q2 o2 k y x
end

section
variable {i : ℕ} {q1 q2 o1 o2 k v : ℕ → Fin 128 → ℝ} {qa qb oa ob : Q} {la lb : C} {T U : M} {K V : KV} {s : St}
  (hi : i < 8) (hB : Blk i q1 q2 o1 o2 k qa qb oa ob la lb T U)
include hi hB

theorem tileu_ok {b : ℕ} (hb : b + 256 ≤ 1024 * i) (hS : StOK i q1 q2 o1 o2 k v b s) (hK : Keys k v b K V) : StOK i q1 q2 o1 o2 k v (b + 256) (tileu qa qb oa ob la lb T U K V s) := by
  exact ⟨hS.A.step hB.A hK hB.T (Mask.below i b hb) (tu_ca _ _ _ _) (tu_pa _ _ _ _ _ _ _ _ _) (tu_da _ _ _ _ _ _ _ _ _ _) (fun _ h => absurd h (Nat.not_lt_zero _)) (fun _ h => absurd h (Nat.not_lt_zero _)) (fun _ _ h => absurd h (Nat.not_lt_zero _)),
    hS.B.step hB.B hK hB.T (Mask.below i b hb) (tu_cb _ _ _ _) (tu_pb _ _ _ _ _ _ _ _ _) (tu_db _ _ _ _ _ _ _ _ _ _) (fun _ h => absurd h (Nat.not_lt_zero _)) (fun _ h => absurd h (Nat.not_lt_zero _)) (fun _ _ h => absurd h (Nat.not_lt_zero _))⟩

theorem tileuk_ok {b : ℕ} (hb : b + 256 ≤ 1024 * i) (hS : StOK i q1 q2 o1 o2 k v b s) (hK : Keys k v b K V) (old : Vec Ideal S256x128 .f32) (j : Fin 256) (x : Fin 128) :
    tileuk qa qb oa ob la lb T U K V s old (ix2 j x) = old (ix2 j x) + ((CK2 i q1 q2 o1 o2 k v (b + j.val) x : ℝ) : EReal) := by
  refine (tu_dk _ _ _ _ _ _ _ _ _ _ _ _ _ _ _ j x).trans ?_
  rw [kHead_coe hS.A hB.A hK hB.T (Mask.below i b hb), kHead_coe hS.B hB.B hK hB.T (Mask.below i b hb), CK2, EReal.coe_add]

theorem tileuv_ok {b : ℕ} (hb : b + 256 ≤ 1024 * i) (hS : StOK i q1 q2 o1 o2 k v b s) (hK : Keys k v b K V) (old : Vec Ideal S256x128 .f32) (j : Fin 256) (x : Fin 128) :
    tileuv qa qb oa ob la lb T K s old (ix2 j x) = old (ix2 j x) + ((CV2 i q1 q2 o1 o2 k (b + j.val) x : ℝ) : EReal) := by
  refine (tu_dv _ _ _ _ _ _ _ _ _ _ _ j x).trans ?_
  rw [vHead_coe hS.A hB.A hK hB.T (Mask.below i b hb), vHead_coe hS.B hB.B hK hB.T (Mask.below i b hb), CV2, EReal.coe_add]

theorem tile0_ok (hS : StOK i q1 q2 o1 o2 k v (256 * (4 * i + 0)) s) (hK : Keys k v (256 * (4 * i + 0)) K V) : StOK i q1 q2 o1 o2 k v (256 * (4 * i + 1)) (tile0 (BitVec.ofNat 32 i) qa qb oa ob la lb T U K V s) := by
  rw [show 256 * (4 * i + 1) = (256 * (4 * i + 0)) + 256 by ring]
  exact ⟨hS.A.step hB.A hK hB.T (Mask.diag (rr := fun s => s) i 0 hi (by decide) rfl fun s => (Nat.zero_add _).symm) (t0_ca _ _ _ _ _) (t0_pa _ _ _ _ _ _ _ _ _ _) (t0_da _ _ _ _ _ _ _ _ _ _ _) (fun _ h => absurd h (Nat.not_lt_zero _)) (fun _ h => absurd h (Nat.not_lt_zero _)) (fun _ _ h => absurd h (Nat.not_lt_zero _)),
    hS.B.step hB.B hK hB.T (Mask.diag (rr := fun s => s) i 0 hi (by decide) rfl fun s => (Nat.zero_add _).symm) (t0_cb _ _ _ _ _) (t0_pb _ _ _ _ _ _ _ _ _ _) (t0_db _ _ _ _ _ _ _ _ _ _ _) (fun _ h => absurd h (Nat.not_lt_zero _)) (fun _ h => absurd h (Nat.not_lt_zero _)) (fun _ _ h => absurd h (Nat.not_lt_zero _))⟩

theorem tile0k_ok (hS : StOK i q1 q2 o1 o2 k v (256 * (4 * i + 0)) s) (hK : Keys k v (256 * (4 * i + 0)) K V) (old : Vec Ideal S256x128 .f32) (j : Fin 256) (x : Fin 128) :
    tile0k (BitVec.ofNat 32 i) qa qb oa ob la lb T U K V s old (ix2 j x) = old (ix2 j x) + ((CK2 i q1 q2 o1 o2 k v ((256 * (4 * i + 0)) + j.val) x : ℝ) : EReal) := by
  refine (t0_dk _ _ _ _ _ _ _ _ _ _ _ _ _ _ _ _ j x).trans ?_
  rw [kHead_coe hS.A hB.A hK hB.T (Mask.diag (rr := fun s => s) i 0 hi (by decide) rfl fun s => (Nat.zero_add _).symm), kHead_coe hS.B hB.B hK hB.T (Mask.diag (rr := fun s => s) i 0 hi (by decide) rfl fun s => (Nat.zero_add _).symm), CK2, EReal.coe_add]

theorem tile0v_ok (hS : StOK i q1 q2 o1 o2 k v (256 * (4 * i + 0)) s) (hK : Keys k v (256 * (4 * i + 0)) K V) (old : Vec Ideal S256x128 .f32) (j : Fin 256) (x : Fin 128) :
    tile0v (BitVec.ofNat 32 i) qa qb oa ob la lb T K s old (ix2 j x) = old (ix2 j x) + ((CV2 i q1 q2 o1 o2 k ((256 * (4 * i + 0)) + j.val) x : ℝ) : EReal) := by
  refine (t0_dv _ _ _ _ _ _ _ _ _ _ _ _ j x).trans ?_
  rw [vHead_coe hS.A hB.A hK hB.T (Mask.diag (rr := fun s => s) i 0 hi (by decide) rfl fun s => (Nat.zero_add _).symm), vHead_coe hS.B hB.B hK hB.T (Mask.diag (rr := fun s => s) i 0 hi (by decide) rfl fun s => (Nat.zero_add _).symm), CV2, EReal.coe_add]

theorem tile1_ok (hS : StOK i q1 q2 o1 o2 k v (256 * (4 * i + 1)) s) (hK : Keys k v (256 * (4 * i + 1)) K V) : StOK i q1 q2 o1 o2 k v (256 * (4 * i + 2)) (tile1 (BitVec.ofNat 32 i) qa qb oa ob la lb T U K V s) := by
  rw [show 256 * (4 * i + 2) = (256 * (4 * i + 1)) + 256 by ring]
  exact ⟨hS.A.step hB.A hK hB.T (Mask.diag (rr := rr1) i 1 hi (by decide) rfl fun s => rfl) (t1_ca _ _ _ _ _) (t1_pa _ _ _ _ _ _ _ _ _ _) (t1_da _ _ _ _ _ _ _ _ _ _ _) (l1_ca _ _ _ _ _) (l1_pa _ _ _ _ _ _ _ _ _ _) (l1_da _ _ _ _ _ _ _ _ _ _ _),
    hS.B.step hB.B hK hB.T (Mask.diag (rr := rr1) i 1 hi (by decide) rfl fun s => rfl) (t1_cb _ _ _ _ _) (t1_pb _ _ _ _ _ _ _ _ _ _) (t1_db _ _ _ _ _ _ _ _ _ _ _) (l1_cb _ _ _ _ _) (l1_pb _ _ _ _ _ _ _ _ _ _) (l1_db _ _ _ _ _ _ _ _ _ _ _)⟩

theorem tile1k_ok (hS : StOK i q1 q2 o1 o2 k v (256 * (4 * i + 1)) s) (hK : Keys k v (256 * (4 * i + 1)) K V) (old : Vec Ideal S256x128 .f32) (j : Fin 256) (x : Fin 128) :
    tile1k (BitVec.ofNat 32 i) qa qb oa ob la lb T U K V s old (ix2 j x) = old (ix2 j x) + ((CK2 i q1 q2 o1 o2 k v ((256 * (4 * i + 1)) + j.val) x : ℝ) : EReal) := by
  refine (t1_dk _ _ _ _ _ _ _ _ _ _ _ _ _ _ _ _ j x).trans ?_
  rw [kHead_coe hS.A hB.A hK hB.T (Mask.diag (rr := rr1) i 1 hi (by decide) rfl fun s => rfl), kHead_coe hS.B hB.B hK hB.T (Mask.diag (rr := rr1) i 1 hi (by decide) rfl fun s => rfl), CK2, EReal.coe_add]

theorem tile1v_ok (hS : StOK i q1 q2 o1 o2 k v (256 * (4 * i + 1)) s) (hK : Keys k v (256 * (4 * i + 1)) K V) (old : Vec Ideal S256x128 .f32) (j : Fin 256) (x : Fin 128) :
    tile1v (BitVec.ofNat 32 i) qa qb oa ob la lb T K s old (ix2 j x) = old (ix2 j x) + ((CV2 i q1 q2 o1 o2 k ((256 * (4 * i + 1)) + j.val) x : ℝ) : EReal) := by
  refine (t1_dv _ _ _ _ _ _ _ _ _ _ _ _ j x).trans ?_
  rw [vHead_coe hS.A hB.A hK hB.T (Mask.diag (rr := rr1) i 1 hi (by decide) rfl fun s => rfl), vHead_coe hS.B hB.B hK hB.T (Mask.diag (rr := rr1) i 1 hi (by decide) rfl fun s => rfl), CV2, EReal.coe_add]

theorem tile2_ok (hS : StOK i q1 q2 o1 o2 k v (256 * (4 * i + 2)) s) (hK : Keys k v (256 * (4 * i + 2)) K V) : StOK i q1 q2 o1 o2 k v (256 * (4 * i + 3)) (tile2 (BitVec.ofNat 32 i) qa qb oa ob la lb T U K V s) := by
  rw [show 256 * (4 * i + 3) = (256 * (4 * i + 2)) + 256 by ring]
  exact ⟨hS.A.step hB.A hK hB.T (Mask.diag (rr := rr2) i 2 hi (by decide) rfl fun s => rfl) (t2_ca _ _ _ _ _) (t2_pa _ _ _ _ _ _ _ _ _ _) (t2_da _ _ _ _ _ _ _ _ _ _ _) (l2_ca _ _ _ _ _) (l2_pa _ _ _ _ _ _ _ _ _ _) (l2_da _ _ _ _ _ _ _ _ _ _ _),
    hS.B.step hB.B hK hB.T (Mask.diag (rr := rr2) i 2 hi (by decide) rfl fun s => rfl) (t2_cb _ _ _ _ _) (t2_pb _ _ _ _ _ _ _ _ _ _) (t2_db _ _ _ _ _ _ _ _ _ _ _) (l2_cb _ _ _ _ _) (l2_pb _ _ _ _ _ _ _ _ _ _) (l2_db _ _ _ _ _ _ _ _ _ _ _)⟩

theorem tile2k_ok (hS : StOK i q1 q2 o1 o2 k v (256 * (4 * i + 2)) s) (hK : Keys k v (256 * (4 * i + 2)) K V) (old : Vec Ideal S256x128 .f32) (j : Fin 256) (x : Fin 128) :
    tile2k (BitVec.ofNat 32 i) qa qb oa ob la lb T U K V s old (ix2 j x) = old (ix2 j x) + ((CK2 i q1 q2 o1 o2 k v ((256 * (4 * i + 2)) + j.val) x : ℝ) : EReal) := by
  refine (t2_dk _ _ _ _ _ _ _ _ _ _ _ _ _ _ _ _ j x).trans ?_
  rw [kHead_coe hS.A hB.A hK hB.T (Mask.diag (rr := rr2) i 2 hi (by decide) rfl fun s => rfl), kHead_coe hS.B hB.B hK hB.T (Mask.diag (rr := rr2) i 2 hi (by decide) rfl fun s => rfl), CK2, EReal.coe_add]

theorem tile2v_ok (hS : StOK i q1 q2 o1 o2 k v (256 * (4 * i + 2)) s) (hK : Keys k v (256 * (4 * i + 2)) K V) (old : Vec Ideal S256x128 .f32) (j : Fin 256) (x : Fin 128) :
    tile2v (BitVec.ofNat 32 i) qa qb oa ob la lb T K s old (ix2 j x) = old (ix2 j x) + ((CV2 i q1 q2 o1 o2 k ((256 * (4 * i + 2)) + j.val) x : ℝ) : EReal) := by
  refine (t2_dv _ _ _ _ _ _ _ _ _ _ _ _ j x).trans ?_
  rw [vHead_coe hS.A hB.A hK hB.T (Mask.diag (rr := rr2) i 2 hi (by decide) rfl fun s => rfl), vHead_coe hS.B hB.B hK hB.T (Mask.diag (rr := rr2) i 2 hi (by decide) rfl fun s => rfl), CV2, EReal.coe_add]

theorem tile3k_ok (hS : StOK i q1 q2 o1 o2 k v (256 * (4 * i + 3)) s) (hK : Keys k v (256 * (4 * i + 3)) K V) (old : Vec Ideal S256x128 .f32) (j : Fin 256) (x : Fin 128) :
    tile3k (BitVec.ofNat 32 i) qa qb oa ob la lb T U K V s old (ix2 j x) = old (ix2 j x) + ((CK2 i q1 q2 o1 o2 k v ((256 * (4 * i + 3)) + j.val) x : ℝ) : EReal) := by
  refine (t3_dk _ _ _ _ _ _ _ _ _ _ _ _ _ _ _ _ j x).trans ?_
  rw [kHead_coe hS.A hB.A hK hB.T (Mask.diag (rr := rr3) i 3 hi (by decide) rfl fun s => rfl), kHead_coe hS.B hB.B hK hB.T (Mask.diag (rr := rr3) i 3 hi (by decide) rfl fun s => rfl), CK2, EReal.coe_add]

theorem tile3v_ok (hS : StOK i q1 q2 o1 o2 k v (256 * (4 * i + 3)) s) (hK : Keys k v (256 * (4 * i + 3)) K V) (old : Vec Ideal S256x128 .f32) (j : Fin 256) (x : Fin 128) :
    tile3v (BitVec.ofNat 32 i) qa qb oa ob la lb T K s old (ix2 j x) = old (ix2 j x) + ((CV2 i q1 q2 o1 o2 k ((256 * (4 * i + 3)) + j.val) x : ℝ) : EReal) := by
  refine (t3_dv _ _ _ _ _ _ _ _ _ _ _ _ j x).trans ?_
  rw [vHead_coe hS.A hB.A hK hB.T (Mask.diag (rr := rr3) i 3 hi (by decide) rfl fun s => rfl), vHead_coe hS.B hB.B hK hB.T (Mask.diag (rr := rr3) i 3 hi (by decide) rfl fun s => rfl), CV2, EReal.coe_add]

theorem tile3o_ok (hS : StOK i q1 q2 o1 o2 k v (256 * (4 * i + 3)) s) (hK : Keys k v (256 * (4 * i + 3)) K V) (r : Fin 1024) (x : Fin 128) :
    tile3o (BitVec.ofNat 32 i) qa qb oa ob la lb T U K V s (ix2 r x) = Scalar.select (IntOp.cmpi .slt (BitVec.ofNat 32 x.val) 64#32)
      ((DQ q1 o1 k v (1024 * i + r.val) (256 * (4 * i + 4)) x : ℝ) : EReal) ((DQ q2 o2 k v (1024 * i + r.val) (256 * (4 * i + 4)) x : ℝ) : EReal)
        * FloatOps.ofBits (F := Ideal) .f32 0x3E000000#32 := by
  refine (t3sel_apply _ _ r x).trans ?_
  rw [show 256 * (4 * i + 4) = (256 * (4 * i + 3)) + 256 by ring, ← hS.A.dq hB.A hK hB.T (Mask.diag (rr := rr3) i 3 hi (by decide) rfl fun s => rfl) (t3_da _ _ _ _ _ _ _ _ _ _ _) (l3_da _ _ _ _ _ _ _ _ _ _ _) r x,
    ← hS.B.dq hB.B hK hB.T (Mask.diag (rr := rr3) i 3 hi (by decide) rfl fun s => rfl) (t3_db _ _ _ _ _ _ _ _ _ _ _) (l3_db _ _ _ _ _ _ _ _ _ _ _) r x]

end

end Cert.Proof.Sb
-- ==== Proof.SbRun.lean ====
/- What a block of the backward kernel leaves: the gradient of its queries, and the gradients of all keys and values grown by what its rows give. -/
module

public import proofs.«01_k».proof.Proof.SbDiag
public import Idealize.ShloMosaic.Lib.WholeRead

@[expose] public section

set_option maxRecDepth 16384
set_option maxHeartbeats 1000000

noncomputable section

namespace Cert.Proof.Sb

open Idealize.ShloMosaic Idealize.ShloMosaic.TcCoe
open Cert.SbKernelIdeal Cert.SbKernelIdeal.Gen

/-- A tile of the keys and of the values, loaded at its rows. -/
theorem keys_ok {k v : ℕ → Fin 128 → ℝ} {x1 x2 : Vec Ideal S8192x128 .bf16} (h1 : ∀ y x, x1 (ix2 y x) = ((k y.val x : ℝ) : EReal))
    (h2 : ∀ y x, x2 (ix2 y x) = ((v y.val x : ℝ) : EReal)) {m3 m4 : Memref sig .tc .vmem S8192x128 .bf16} (w3 : m3.IsWhole) (w4 : m4.IsWhole)
    {off : Fin 2 → ℕ} {b : ℕ} (ho : off = ![b, 0]) (inb : ∀ a, off a + S256x128.size a ≤ S8192x128.size a) :
    Keys k v b (m3.view.readAt (Elt Ideal) (Rect.unit (s := S8192x128) off S256x128.size inb).toLoadRect (w3.unread x1))
      (m4.view.readAt (Elt Ideal) (Rect.unit (s := S8192x128) off S256x128.size inb).toLoadRect (w4.unread x2)) := by
  subst ho
  have e : ∀ (j : Fin 256) (x : Fin 128), (Rect.unit (s := S8192x128) ![b, 0] S256x128.size inb).toLoadRect.idx (ix2 j x)
      = ix2 (⟨b + j.val, by have h : b + 256 ≤ 8192 := inb 0; omega⟩ : Fin 8192) x := fun j x =>
    funext fun a => Fin.ext (by fin_cases a <;> [(show b + 1 * j.val = b + j.val; omega); (show 0 + 1 * x.val = x.val; omega)])
  exact ⟨funext fun j => funext fun x => by rw [mat, w3.readAt_unread, e, h1], funext fun j => funext fun x => by rw [mat, w4.readAt_unread, e, h2]⟩

section
variable (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole)

section
variable {q1 q2 o1 o2 k v : ℕ → Fin 128 → ℝ} {x1 x2 : Vec Ideal S8192x128 .bf16} (h1 : ∀ y x, x1 (ix2 y x) = ((k y.val x : ℝ) : EReal))
  (h2 : ∀ y x, x2 (ix2 y x) = ((v y.val x : ℝ) : EReal)) (c : Dev nD) (qa qb oa ob : Q) (la lb : C) (T U : M) (z : Ideal .f32)
  (hB : Blk (i 1).val q1 q2 o1 o2 k qa qb oa ob la lb T U)
  (G10 : BufTy.Contents (Elt Ideal) arg10.view.ty) (G11 : BufTy.Contents (Elt Ideal) arg11.view.ty) (X10 X11 : Fin 8192 → Fin 128 → EReal)
  (g10 : ∀ y x, arg10.view.read (Elt Ideal) G10 (ix2 y x) = X10 y x) (g11 : ∀ y x, arg11.view.read (Elt Ideal) G11 (ix2 y x) = X11 y x)
  (s0 : St) (hs : StOK (i 1).val q1 q2 o1 o2 k v 0 s0)

theorem trip_eq (n : Fin (k1_t1_loop i).trips) (s : St) (f10 : BufTy.Contents (Elt Ideal) arg10.view.ty) (f11 : BufTy.Contents (Elt Ideal) arg11.view.ty) :
    tripR_k1_t1 (F := Ideal) Variants.none c none i arg2 harg2 arg3 harg3 arg4 harg4 arg5 harg5 arg6 harg6 arg7 harg7 arg8 harg8 arg9 harg9 arg10 harg10 arg11 harg11 (BitVec.ofNat 32 (i 1).val) qa qb oa ob la lb T U z (harg3.unread x1) (harg4.unread x2) n s f10 f11
      = tileu qa qb oa ob la lb T U (arg3.view.readAt (Elt Ideal) (Rect.unit (s := S8192x128) (k1_off1 i n) S256x128.size (k1_off1_inb i n)).toLoadRect (harg3.unread x1))
          (arg4.view.readAt (Elt Ideal) (Rect.unit (s := S8192x128) (k1_off1 i n) S256x128.size (k1_off1_inb i n)).toLoadRect (harg4.unread x2)) s
    ∧ tripL_k1_t1 (F := Ideal) Variants.none c none i arg2 harg2 arg3 harg3 arg4 harg4 arg5 harg5 arg6 harg6 arg7 harg7 arg8 harg8 arg9 harg9 arg10 harg10 arg11 harg11 (BitVec.ofNat 32 (i 1).val) qa qb oa ob la lb T U z (harg3.unread x1) (harg4.unread x2) n s f10 f11
      = ([⟨Rect.unit (s := S8192x128) (k1_off1 i n) S256x128.size (k1_off1_inb i n), tileuk qa qb oa ob la lb T U (arg3.view.readAt (Elt Ideal) (Rect.unit (s := S8192x128) (k1_off1 i n) S256x128.size (k1_off1_inb i n)).toLoadRect (harg3.unread x1))
          (arg4.view.readAt (Elt Ideal) (Rect.unit (s := S8192x128) (k1_off1 i n) S256x128.size (k1_off1_inb i n)).toLoadRect (harg4.unread x2)) s (arg10.view.readAt (Elt Ideal) (Rect.unit (s := S8192x128) (k1_off1 i n) S256x128.size (k1_off1_inb i n)).toLoadRect f10)⟩],
        [⟨Rect.unit (s := S8192x128) (k1_off1 i n) S256x128.size (k1_off1_inb i n), tileuv qa qb oa ob la lb T (arg3.view.readAt (Elt Ideal) (Rect.unit (s := S8192x128) (k1_off1 i n) S256x128.size (k1_off1_inb i n)).toLoadRect (harg3.unread x1))
          s (arg11.view.readAt (Elt Ideal) (Rect.unit (s := S8192x128) (k1_off1 i n) S256x128.size (k1_off1_inb i n)).toLoadRect f11)⟩]) := by
  unfold tripR_k1_t1 tripL_k1_t1 trip_k1_t1
  exact ⟨rfl, rfl⟩

include h1 h2 hB g10 g11 hs

/-- The loop over the tiles below the diagonal. -/
theorem loop_ok : ∀ n ≤ 4 * (i 1).val,
    StOK (i 1).val q1 q2 o1 o2 k v (256 * n) (st_k1_t1 (F := Ideal) Variants.none c none i arg2 harg2 arg3 harg3 arg4 harg4 arg5 harg5 arg6 harg6 arg7 harg7 arg8 harg8 arg9 harg9 arg10 harg10 arg11 harg11 (BitVec.ofNat 32 (i 1).val) qa qb oa ob la lb T U z (harg3.unread x1) (harg4.unread x2) G10 G11 s0 n).1
    ∧ Mem arg10.view G10 (st_k1_t1 (F := Ideal) Variants.none c none i arg2 harg2 arg3 harg3 arg4 harg4 arg5 harg5 arg6 harg6 arg7 harg7 arg8 harg8 arg9 harg9 arg10 harg10 arg11 harg11 (BitVec.ofNat 32 (i 1).val) qa qb oa ob la lb T U z (harg3.unread x1) (harg4.unread x2) G10 G11 s0 n).2.1 X10 (CK2 (i 1).val q1 q2 o1 o2 k v) (256 * n)
    ∧ Mem arg11.view G11 (st_k1_t1 (F := Ideal) Variants.none c none i arg2 harg2 arg3 harg3 arg4 harg4 arg5 harg5 arg6 harg6 arg7 harg7 arg8 harg8 arg9 harg9 arg10 harg10 arg11 harg11 (BitVec.ofNat 32 (i 1).val) qa qb oa ob la lb T U z (harg3.unread x1) (harg4.unread x2) G10 G11 s0 n).2.2 X11 (CV2 (i 1).val q1 q2 o1 o2 k) (256 * n) := by
  intro n
  induction n with
  | zero => exact fun _ => ⟨hs, fun y x => by rw [if_neg (Nat.not_lt_zero _), EReal.coe_zero, add_zero]; exact g10 y x,
      fun y x => by rw [if_neg (Nat.not_lt_zero _), EReal.coe_zero, add_zero]; exact g11 y x⟩
  | succ n ih =>
    intro hn
    obtain ⟨a1, a2, a3⟩ := ih (by omega)
    have hk : n < (k1_t1_loop i).trips := by rw [trips1]; omega
    have e := st_k1_t1_succ (F := Ideal) Variants.none c none i arg2 harg2 arg3 harg3 arg4 harg4 arg5 harg5 arg6 harg6 arg7 harg7 arg8 harg8 arg9 harg9 arg10 harg10 arg11 harg11 (BitVec.ofNat 32 (i 1).val) qa qb oa ob la lb T U z (harg3.unread x1) (harg4.unread x2) G10 G11 s0 ⟨n, hk⟩
    rw [(trip_eq i arg2 harg2 arg3 harg3 arg4 harg4 arg5 harg5 arg6 harg6 arg7 harg7 arg8 harg8 arg9 harg9 arg10 harg10 arg11 harg11 c qa qb oa ob la lb T U z ⟨n, hk⟩ _ _ _).1, (trip_eq i arg2 harg2 arg3 harg3 arg4 harg4 arg5 harg5 arg6 harg6 arg7 harg7 arg8 harg8 arg9 harg9 arg10 harg10 arg11 harg11 c qa qb oa ob la lb T U z ⟨n, hk⟩ _ _ _).2] at e
    rw [e, show 256 * (n + 1) = 256 * n + 256 by ring]
    have hK := keys_ok h1 h2 harg3 harg4 (off1 i ⟨n, hk⟩) (k1_off1_inb i ⟨n, hk⟩)
    have hb : 256 * n + 256 ≤ 1024 * (i 1).val := by omega
    exact ⟨tileu_ok (lt1 i) hB hb a1 hK, a2.step _ (off1 i ⟨n, hk⟩) _ fun j x => tileuk_ok (lt1 i) hB hb a1 hK _ j x,
      a3.step _ (off1 i ⟨n, hk⟩) _ fun j x => tileuv_ok (lt1 i) hB hb a1 hK _ j x⟩

end
end

end Cert.Proof.Sb
-- ==== Proof.SbBlock.lean ====
/- What a block of the backward kernel stores, from what it loads. -/
module

public import proofs.«01_k».proof.Proof.SbRun
public import Idealize.ShloMosaic.Lib.VecWindow

@[expose] public section

set_option maxRecDepth 16384
set_option maxHeartbeats 1000000

noncomputable section

namespace Cert.Proof.Sb

open Idealize.ShloMosaic Idealize.ShloMosaic.TcCoe
open Cert.SbKernelIdeal Cert.SbKernelIdeal.Gen

section
variable (a : BitVec 32) (qa qb oa ob : Q) (la lb : C) (T U : M) (K0 V0 K1 V1 K2 V2 K3 V3 : KV) (s : St)

def diag1 : St := tile0 a qa qb oa ob la lb T U K0 V0 s
def diag2 : St := tile1 a qa qb oa ob la lb T U K1 V1 (diag1 a qa qb oa ob la lb T U K0 V0 s)
def diag3 : St := tile2 a qa qb oa ob la lb T U K2 V2 (diag2 a qa qb oa ob la lb T U K0 V0 K1 V1 s)

variable (i : grid1.Coords) (w : Memref sig .tc .vmem S8192x128 .f32) (G : BufTy.Contents (Elt Ideal) w.view.ty) (L : List (View.Piece (Elt Ideal) S8192x128 .f32))

/-- One more tile added into what a list of pieces holds. -/
def push (d : Fin 4) (p : Vec Ideal S256x128 .f32 → Vec Ideal S256x128 .f32) (L : List (View.Piece (Elt Ideal) S8192x128 .f32)) : List (View.Piece (Elt Ideal) S8192x128 .f32) :=
  ⟨Rect.unit (s := S8192x128) (k1_off3 i (BitVec.ofNat 32 d.val)) S256x128.size (k1_off3_inb i d),
    p (w.view.readAt (Elt Ideal) (Rect.unit (s := S8192x128) (k1_off3 i (BitVec.ofNat 32 d.val)) S256x128.size (k1_off3_inb i d)).toLoadRect (w.view.writes (Elt Ideal) G L))⟩ :: L

theorem push_mem {X : Fin 8192 → Fin 128 → EReal} {f : ℕ → Fin 128 → ℝ} (d : Fin 4) {p : Vec Ideal S256x128 .f32 → Vec Ideal S256x128 .f32}
    (hp : ∀ old j x, p old (ix2 j x) = old (ix2 j x) + ((f (256 * (4 * (i 1).val + d.val) + j.val) x : ℝ) : EReal))
    (hL : Mem w.view G L X f (256 * (4 * (i 1).val + d.val))) : Mem w.view G (push i w G d p L) X f (256 * (4 * (i 1).val + d.val) + 256) :=
  hL.step (k1_off3_inb i d) (off3 i d.val d.isLt) _ fun j x => hp _ j x

/-- The pieces of the keys' gradient after the diagonal's four tiles. -/
def diagK : List (View.Piece (Elt Ideal) S8192x128 .f32) :=
  push i w G 3 (tile3k a qa qb oa ob la lb T U K3 V3 (diag3 a qa qb oa ob la lb T U K0 V0 K1 V1 K2 V2 s))
    (push i w G 2 (tile2k a qa qb oa ob la lb T U K2 V2 (diag2 a qa qb oa ob la lb T U K0 V0 K1 V1 s))
      (push i w G 1 (tile1k a qa qb oa ob la lb T U K1 V1 (diag1 a qa qb oa ob la lb T U K0 V0 s)) (push i w G 0 (tile0k a qa qb oa ob la lb T U K0 V0 s) L)))

/-- And of the values' gradient. -/
def diagV : List (View.Piece (Elt Ideal) S8192x128 .f32) :=
  push i w G 3 (tile3v a qa qb oa ob la lb T K3 (diag3 a qa qb oa ob la lb T U K0 V0 K1 V1 K2 V2 s))
    (push i w G 2 (tile2v a qa qb oa ob la lb T K2 (diag2 a qa qb oa ob la lb T U K0 V0 K1 V1 s))
      (push i w G 1 (tile1v a qa qb oa ob la lb T K1 (diag1 a qa qb oa ob la lb T U K0 V0 s)) (push i w G 0 (tile0v a qa qb oa ob la lb T K0 s) L)))

end

section
variable {q1 q2 o1 o2 k v : ℕ → Fin 128 → ℝ} {qa qb oa ob : Q} {la lb : C} {T U : M} {K0 V0 K1 V1 K2 V2 K3 V3 : KV} {s : St} (i : grid1.Coords)
  (hB : Blk (i 1).val q1 q2 o1 o2 k qa qb oa ob la lb T U) (hs : StOK (i 1).val q1 q2 o1 o2 k v (256 * (4 * (i 1).val + 0)) s)
  (hK0 : Keys k v (256 * (4 * (i 1).val + 0)) K0 V0) (hK1 : Keys k v (256 * (4 * (i 1).val + 1)) K1 V1) (hK2 : Keys k v (256 * (4 * (i 1).val + 2)) K2 V2)
include hB hs hK0

theorem diag1_ok : StOK (i 1).val q1 q2 o1 o2 k v (256 * (4 * (i 1).val + 1)) (diag1 (BitVec.ofNat 32 (i 1).val) qa qb oa ob la lb T U K0 V0 s) := tile0_ok (lt1 i) hB hs hK0
include hK1
theorem diag2_ok : StOK (i 1).val q1 q2 o1 o2 k v (256 * (4 * (i 1).val + 2)) (diag2 (BitVec.ofNat 32 (i 1).val) qa qb oa ob la lb T U K0 V0 K1 V1 s) :=
  tile1_ok (lt1 i) hB (diag1_ok i hB hs hK0) hK1
include hK2
theorem diag3_ok : StOK (i 1).val q1 q2 o1 o2 k v (256 * (4 * (i 1).val + 3)) (diag3 (BitVec.ofNat 32 (i 1).val) qa qb oa ob la lb T U K0 V0 K1 V1 K2 V2 s) :=
  tile2_ok (lt1 i) hB (diag2_ok i hB hs hK0 hK1) hK2

variable (hK3 : Keys k v (256 * (4 * (i 1).val + 3)) K3 V3) (w : Memref sig .tc .vmem S8192x128 .f32) (G : BufTy.Contents (Elt Ideal) w.view.ty)
  (L : List (View.Piece (Elt Ideal) S8192x128 .f32)) (X : Fin 8192 → Fin 128 → EReal)
include hK3

theorem diagK_ok (hL : Mem w.view G L X (CK2 (i 1).val q1 q2 o1 o2 k v) (256 * (4 * (i 1).val + 0))) :
    Mem w.view G (diagK (BitVec.ofNat 32 (i 1).val) qa qb oa ob la lb T U K0 V0 K1 V1 K2 V2 K3 V3 s i w G L) X (CK2 (i 1).val q1 q2 o1 o2 k v) (256 * (4 * (i 1).val + 3) + 256) :=
  push_mem i w G _ 3 (tile3k_ok (lt1 i) hB (diag3_ok i hB hs hK0 hK1 hK2) hK3)
    (push_mem i w G _ 2 (tile2k_ok (lt1 i) hB (diag2_ok i hB hs hK0 hK1) hK2)
      (push_mem i w G _ 1 (tile1k_ok (lt1 i) hB (diag1_ok i hB hs hK0) hK1) (push_mem i w G _ 0 (tile0k_ok (lt1 i) hB hs hK0) hL)))

theorem diagV_ok (hL : Mem w.view G L X (CV2 (i 1).val q1 q2 o1 o2 k) (256 * (4 * (i 1).val + 0))) :
    Mem w.view G (diagV (BitVec.ofNat 32 (i 1).val) qa qb oa ob la lb T U K0 V0 K1 V1 K2 V2 K3 s i w G L) X (CV2 (i 1).val q1 q2 o1 o2 k) (256 * (4 * (i 1).val + 3) + 256) :=
  push_mem i w G _ 3 (tile3v_ok (lt1 i) hB (diag3_ok i hB hs hK0 hK1 hK2) hK3)
    (push_mem i w G _ 2 (tile2v_ok (lt1 i) hB (diag2_ok i hB hs hK0 hK1) hK2)
      (push_mem i w G _ 1 (tile1v_ok (lt1 i) hB (diag1_ok i hB hs hK0) hK1) (push_mem i w G _ 0 (tile0v_ok (lt1 i) hB hs hK0) hL)))
end

/-! The heads of a pair, as real functions: the first has the lower lanes. -/

def qA (Q0 : ℕ → Fin 128 → ℝ) (t : ℕ) (x : Fin 128) : ℝ := if x.val < 64 then Q0 t x * (1 / 8) else 0
def qB (Q0 : ℕ → Fin 128 → ℝ) (t : ℕ) (x : Fin 128) : ℝ := if x.val < 64 then 0 else Q0 t x * (1 / 8)
def oA (O0 : ℕ → Fin 128 → ℝ) (t : ℕ) (x : Fin 128) : ℝ := if x.val < 64 then O0 t x else 0
def oB (O0 : ℕ → Fin 128 → ℝ) (t : ℕ) (x : Fin 128) : ℝ := if x.val < 64 then 0 else O0 t x

theorem lt64 (x : Fin 128) : IntOp.cmpi .slt (BitVec.ofNat 32 x.val) 64#32 = if x.val < 64 then 1#1 else 0#1 := by revert x; decide
theorem ge64 (x : Fin 128) : IntOp.cmpi .sge (BitVec.ofNat 32 x.val) 64#32 = if x.val < 64 then 0#1 else 1#1 := by revert x; decide
theorem eighth : (FloatOps.ofBits .bf16 0x3E00#16 : Ideal .bf16) = ((1 / 8 : ℝ) : EReal) := by
  show Ideal.ofBits .bf16 0x3E00#16 = _
  simp [Ideal.ofBits, Ideal.ieee, -EReal.coe_mul]; norm_num
theorem eighth' : (FloatOps.ofBits .f32 0x3E000000#32 : Ideal .f32) = ((1 / 8 : ℝ) : EReal) := by
  show Ideal.ofBits .f32 0x3E000000#32 = _
  simp [Ideal.ofBits, Ideal.ieee, -EReal.coe_mul]; norm_num

/-- What a block of the backward kernel is given. -/
structure In (i : ℕ) (Q0 O0 k v : ℕ → Fin 128 → ℝ) (x0 : Vec Ideal S1024x128 .bf16) (x1 x2 : Vec Ideal S8192x128 .bf16) (x3 : Vec Ideal S1024x128 .bf16)
    (x4 : Vec Ideal S1x1024x2 .f32) (x5 x6 : Vec Ideal S256x256 .bf16) : Prop where
  h0 : ∀ (r : Fin 1024) x, x0 (ix2 r x) = ((Q0 (1024 * i + r.val) x : ℝ) : EReal)
  h1 : ∀ y x, x1 (ix2 y x) = ((k y.val x : ℝ) : EReal)
  h2 : ∀ y x, x2 (ix2 y x) = ((v y.val x : ℝ) : EReal)
  h3 : ∀ (r : Fin 1024) x, x3 (ix2 r x) = ((O0 (1024 * i + r.val) x : ℝ) : EReal)
  ha : ∀ r : Fin 1024, x4 (ix3 0 r 0) = ((Sr (1024 * i + r.val) (qA Q0 (1024 * i + r.val)) k 8192 : ℝ) : EReal)
  hb : ∀ r : Fin 1024, x4 (ix3 0 r 1) = ((Sr (1024 * i + r.val) (qB Q0 (1024 * i + r.val)) k 8192 : ℝ) : EReal)
  h5 : mat2 x5 = tri (· ≤ ·)
  h6 : mat2 x6 = tri (· < ·)

theorem In.blk {i : ℕ} {Q0 O0 k v : ℕ → Fin 128 → ℝ} {x0 : Vec Ideal S1024x128 .bf16} {x1 x2 : Vec Ideal S8192x128 .bf16} {x3 : Vec Ideal S1024x128 .bf16}
    {x4 : Vec Ideal S1x1024x2 .f32} {x5 x6 : Vec Ideal S256x256 .bf16} (h : In i Q0 O0 k v x0 x1 x2 x3 x4 x5 x6) :
    Blk i (qA Q0) (qB Q0) (oA O0) (oB O0) k (k1_pay67 x0) (k1_pay68 x0) (k1_pay71 x3) (k1_pay72 x3) (k1_pay74 x4) (k1_pay75 x4) (k1_pay76 x5) (k1_pay77 x6) := by
  refine ⟨⟨fun r => funext fun x => ?_, fun r => funext fun x => ?_, fun r => ?_⟩, ⟨fun r => funext fun x => ?_, fun r => funext fun x => ?_, fun r => ?_⟩, ⟨?_, ?_⟩⟩
  · rw [row, k1_pay67_apply, lt64, h.h0, eighth, up, qA]; split <;> simp [Scalar.select, EReal.coe_mul]
  · rw [row, k1_pay71_apply, lt64, h.h3, up, oA]; split <;> simp [Scalar.select]
  · rw [k1_pay74_apply, h.ha]
  · rw [row, k1_pay68_apply, ge64, h.h0, eighth, up, qB]; split <;> simp [Scalar.select, EReal.coe_mul]
  · rw [row, k1_pay72_apply, ge64, h.h3, up, oB]; split <;> simp [Scalar.select]
  · rw [k1_pay75_apply, h.hb]
  · exact (congrArg mat2 (Idealize.ShloMosaic.shapeCast_self _ _)).trans h.h5
  · exact (congrArg mat2 (Idealize.ShloMosaic.shapeCast_self _ _)).trans h.h6

theorem zero_ok (i : ℕ) (q1 q2 o1 o2 k v : ℕ → Fin 128 → ℝ) :
    StOK i q1 q2 o1 o2 k v 0 (k1_pay78 (F := Ideal) (FloatOps.ofBits .f32 0#32), k1_pay78 (F := Ideal) (FloatOps.ofBits .f32 0#32), k1_pay79 (F := Ideal), k1_pay78 (F := Ideal) (FloatOps.ofBits .f32 0#32), k1_pay78 (F := Ideal) (FloatOps.ofBits .f32 0#32), k1_pay79 (F := Ideal)) := by
  have h : (Ideal.ofBits .f32 0#32 : EReal) = ((0 : ℝ) : EReal) := by rw [Ideal.ofBits_zero_f32, EReal.coe_zero]
  refine ⟨⟨fun r => ?_, fun r => ?_, fun r x => ?_⟩, ⟨fun r => ?_, fun r => ?_, fun r x => ?_⟩⟩ <;> simp only [Sr, Pr, DQ, Finset.range_zero, Finset.sum_empty] <;> exact h

/-- Keys at or past the block's last row get nothing of it. -/
theorem CK2_of_le {i : ℕ} {q1 q2 o1 o2 k v : ℕ → Fin 128 → ℝ} {y : ℕ} (h : 1024 * (i + 1) ≤ y) (x : Fin 128) : CK2 i q1 q2 o1 o2 k v y x = 0 := by
  have e : ∀ q o : ℕ → Fin 128 → ℝ, CK i q o k v y x = 0 := fun q o => Finset.sum_eq_zero fun r hr => by
    have := Finset.mem_range.1 hr
    rw [Zr_of_le (by omega), zero_mul]
  rw [CK2, e, e, add_zero]
theorem CV2_of_le {i : ℕ} {q1 q2 o1 o2 k : ℕ → Fin 128 → ℝ} {y : ℕ} (h : 1024 * (i + 1) ≤ y) (x : Fin 128) : CV2 i q1 q2 o1 o2 k y x = 0 := by
  have e : ∀ q o : ℕ → Fin 128 → ℝ, CV i q o k y x = 0 := fun q o => Finset.sum_eq_zero fun r hr => by
    have := Finset.mem_range.1 hr
    rw [Wr_of_le (by omega), zero_mul]
  rw [CV2, e, e, add_zero]

section
variable (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole)
  (x0 : Vec Ideal S1024x128 .bf16) (x1 : Vec Ideal S8192x128 .bf16) (x2 : Vec Ideal S8192x128 .bf16) (x3 : Vec Ideal S1024x128 .bf16) (x4 : Vec Ideal S1x1024x2 .f32) (x5 : Vec Ideal S256x256 .bf16) (x6 : Vec Ideal S256x256 .bf16)

section
variable (G10 : BufTy.Contents (Elt Ideal) arg10.view.ty) (G11 : BufTy.Contents (Elt Ideal) arg11.view.ty)

/-- The loop below the diagonal, of the block's loads. -/
def low := st_k1_t1 (F := Ideal) Variants.none c none i arg2 harg2 arg3 harg3 arg4 harg4 arg5 harg5 arg6 harg6 arg7 harg7 arg8 harg8 arg9 harg9 arg10 harg10 arg11 harg11 (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (FloatOps.ofBits (F := Ideal) .f32 0#32) (harg3.unread x1) (harg4.unread x2) G10 G11 (k1_pay78 (FloatOps.ofBits (F := Ideal) .f32 0#32), k1_pay78 (FloatOps.ofBits (F := Ideal) .f32 0#32), k1_pay79 (F := Ideal), k1_pay78 (FloatOps.ofBits (F := Ideal) .f32 0#32), k1_pay78 (FloatOps.ofBits (F := Ideal) .f32 0#32), k1_pay79 (F := Ideal)) (Scf.trips (k1_t1_loop i).lb (k1_t1_loop i).ub (k1_t1_loop i).st)

/-- The remainder loop after it. -/
def rest (H10 : BufTy.Contents (Elt Ideal) arg10.view.ty) (H11 : BufTy.Contents (Elt Ideal) arg11.view.ty) := st_k1_t2 (F := Ideal) Variants.none c none i arg2 harg2 arg3 harg3 arg4 harg4 arg5 harg5 arg6 harg6 arg7 harg7 arg8 harg8 arg9 harg9 arg10 harg10 arg11 harg11 (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (FloatOps.ofBits (F := Ideal) .f32 0#32) (kernelRun1_B.sl.v42 i) (harg3.unread x1) (harg4.unread x2) H10 H11 (low c i arg2 harg2 arg3 harg3 arg4 harg4 arg5 harg5 arg6 harg6 arg7 harg7 arg8 harg8 arg9 harg9 arg10 harg10 arg11 harg11 x0 x1 x2 x3 x4 x5 x6 G10 G11).1 (Scf.trips (k1_t2_loop i).lb (k1_t2_loop i).ub (k1_t2_loop i).st)

theorem rest_eq (H10 : BufTy.Contents (Elt Ideal) arg10.view.ty) (H11 : BufTy.Contents (Elt Ideal) arg11.view.ty) : rest c i arg2 harg2 arg3 harg3 arg4 harg4 arg5 harg5 arg6 harg6 arg7 harg7 arg8 harg8 arg9 harg9 arg10 harg10 arg11 harg11 x0 x1 x2 x3 x4 x5 x6 G10 G11 H10 H11 = ((low c i arg2 harg2 arg3 harg3 arg4 harg4 arg5 harg5 arg6 harg6 arg7 harg7 arg8 harg8 arg9 harg9 arg10 harg10 arg11 harg11 x0 x1 x2 x3 x4 x5 x6 G10 G11).1, [], []) := by
  have h : Scf.trips (k1_t2_loop i).lb (k1_t2_loop i).ub (k1_t2_loop i).st = 0 := trips2 i
  rw [rest, h]
  rfl
end

variable (xo8 xo9 : Vec Ideal S8192x128 .f32) (hc0 : ¬ cond1_0 i)

theorem runB_k (hc : ¬ cond1_0 i) (xo8 xo9 : Vec Ideal S8192x128 .f32) : (kernelRun1_B (F := Ideal) c i arg2 harg2 arg3 harg3 arg4 harg4 arg5 harg5 arg6 harg6 arg7 harg7 arg8 harg8 arg9 harg9 arg10 harg10 arg11 harg11 hc x0 x1 x2 x3 x4 x5 x6 xo8 xo9).2.1
    = diagK (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 0#32) S256x128.size (k1_off3_inb i 0)).toLoadRect (harg3.unread x1)) (View.readAt (Elt Ideal) arg4.view (Rect.unit (s := S8192x128) (k1_off3 i 0#32) S256x128.size (k1_off3_inb i 0)).toLoadRect (harg4.unread x2)) (View.readAt (Elt Ideal) arg3.view (Rect.unit (s := S8192x128) (k1_off3 i 1#32) S256x128.size (k1_off3_inb i 1)).toLoadRect (harg3.unread x1)) (View.readAt (Elt Ideal) arg4.view (Rect.unit (s := S8192x128) (k1_off3 i 1#32) S256x128.size (k1_off3_inb i 1)).toLoadRect (harg4.unread x2)) (View.readAt (Elt Ideal) arg3.view (Rect.unit (s := S8192x128) (k1_off3 i 2#32) S256x128.size (k1_off3_inb i 2)).toLoadRect (harg3.unread x1)) (View.readAt (Elt Ideal) arg4.view (Rect.unit (s := S8192x128) (k1_off3 i 2#32) S256x128.size (k1_off3_inb i 2)).toLoadRect (harg4.unread x2)) (View.readAt (Elt Ideal) arg3.view (Rect.unit (s := S8192x128) (k1_off3 i 3#32) S256x128.size (k1_off3_inb i 3)).toLoadRect (harg3.unread x1)) (View.readAt (Elt Ideal) arg4.view (Rect.unit (s := S8192x128) (k1_off3 i 3#32) S256x128.size (k1_off3_inb i 3)).toLoadRect (harg4.unread x2)) (rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).1
        i arg10 (harg10.unread xo8) ((rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).2.1 ++ (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) := by sl_kernel_rfl

theorem runB_v (hc : ¬ cond1_0 i) (xo8 xo9 : Vec Ideal S8192x128 .f32) : (kernelRun1_B (F := Ideal) c i arg2 harg2 arg3 harg3 arg4 harg4 arg5 harg5 arg6 harg6 arg7 harg7 arg8 harg8 arg9 harg9 arg10 harg10 arg11 harg11 hc x0 x1 x2 x3 x4 x5 x6 xo8 xo9).2.2.1
    = diagV (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 0#32) S256x128.size (k1_off3_inb i 0)).toLoadRect (harg3.unread x1)) (View.readAt (Elt Ideal) arg4.view (Rect.unit (s := S8192x128) (k1_off3 i 0#32) S256x128.size (k1_off3_inb i 0)).toLoadRect (harg4.unread x2)) (View.readAt (Elt Ideal) arg3.view (Rect.unit (s := S8192x128) (k1_off3 i 1#32) S256x128.size (k1_off3_inb i 1)).toLoadRect (harg3.unread x1)) (View.readAt (Elt Ideal) arg4.view (Rect.unit (s := S8192x128) (k1_off3 i 1#32) S256x128.size (k1_off3_inb i 1)).toLoadRect (harg4.unread x2)) (View.readAt (Elt Ideal) arg3.view (Rect.unit (s := S8192x128) (k1_off3 i 2#32) S256x128.size (k1_off3_inb i 2)).toLoadRect (harg3.unread x1)) (View.readAt (Elt Ideal) arg4.view (Rect.unit (s := S8192x128) (k1_off3 i 2#32) S256x128.size (k1_off3_inb i 2)).toLoadRect (harg4.unread x2)) (View.readAt (Elt Ideal) arg3.view (Rect.unit (s := S8192x128) (k1_off3 i 3#32) S256x128.size (k1_off3_inb i 3)).toLoadRect (harg3.unread x1)) (rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).1
        i arg11 (harg11.unread xo9) ((rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).2.2 ++ (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2) := by sl_kernel_rfl

theorem runB_q (hc : ¬ cond1_0 i) (xo8 xo9 : Vec Ideal S8192x128 .f32) : (kernelRun1_B (F := Ideal) c i arg2 harg2 arg3 harg3 arg4 harg4 arg5 harg5 arg6 harg6 arg7 harg7 arg8 harg8 arg9 harg9 arg10 harg10 arg11 harg11 hc x0 x1 x2 x3 x4 x5 x6 xo8 xo9).1
    = [⟨Rect.unit (s := S1024x128) ![0, 0] S1024x128.size inb_S1024x128_S1024x128_0_0, tile3o (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 3#32) S256x128.size (k1_off3_inb i 3)).toLoadRect (harg3.unread x1)) (View.readAt (Elt Ideal) arg4.view (Rect.unit (s := S8192x128) (k1_off3 i 3#32) S256x128.size (k1_off3_inb i 3)).toLoadRect (harg4.unread x2))
        (diag3 (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 0#32) S256x128.size (k1_off3_inb i 0)).toLoadRect (harg3.unread x1)) (View.readAt (Elt Ideal) arg4.view (Rect.unit (s := S8192x128) (k1_off3 i 0#32) S256x128.size (k1_off3_inb i 0)).toLoadRect (harg4.unread x2)) (View.readAt (Elt Ideal) arg3.view (Rect.unit (s := S8192x128) (k1_off3 i 1#32) S256x128.size (k1_off3_inb i 1)).toLoadRect (harg3.unread x1)) (View.readAt (Elt Ideal) arg4.view (Rect.unit (s := S8192x128) (k1_off3 i 1#32) S256x128.size (k1_off3_inb i 1)).toLoadRect (harg4.unread x2)) (View.readAt (Elt Ideal) arg3.view (Rect.unit (s := S8192x128) (k1_off3 i 2#32) S256x128.size (k1_off3_inb i 2)).toLoadRect (harg3.unread x1)) (View.readAt (Elt Ideal) arg4.view (Rect.unit (s := S8192x128) (k1_off3 i 2#32) S256x128.size (k1_off3_inb i 2)).toLoadRect (harg4.unread x2)) (rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).1)⟩] := by sl_kernel_rfl

theorem runA_k (hc : cond1_0 i) : (kernelRun1_A (F := Ideal) c i arg2 harg2 arg3 harg3 arg4 harg4 arg5 harg5 arg6 harg6 arg7 harg7 arg8 harg8 arg9 harg9 arg10 harg10 arg11 harg11 hc x0 x1 x2 x3 x4 x5 x6).2.1
    = diagK (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 0#32) S256x128.size (k1_off3_inb i 0)).toLoadRect (harg3.unread x1)) (View.readAt (Elt Ideal) arg4.view (Rect.unit (s := S8192x128) (k1_off3 i 0#32) S256x128.size (k1_off3_inb i 0)).toLoadRect (harg4.unread x2)) (View.readAt (Elt Ideal) arg3.view (Rect.unit (s := S8192x128) (k1_off3 i 1#32) S256x128.size (k1_off3_inb i 1)).toLoadRect (harg3.unread x1)) (View.readAt (Elt Ideal) arg4.view (Rect.unit (s := S8192x128) (k1_off3 i 1#32) S256x128.size (k1_off3_inb i 1)).toLoadRect (harg4.unread x2)) (View.readAt (Elt Ideal) arg3.view (Rect.unit (s := S8192x128) (k1_off3 i 2#32) S256x128.size (k1_off3_inb i 2)).toLoadRect (harg3.unread x1)) (View.readAt (Elt Ideal) arg4.view (Rect.unit (s := S8192x128) (k1_off3 i 2#32) S256x128.size (k1_off3_inb i 2)).toLoadRect (harg4.unread x2)) (View.readAt (Elt Ideal) arg3.view (Rect.unit (s := S8192x128) (k1_off3 i 3#32) S256x128.size (k1_off3_inb i 3)).toLoadRect (harg3.unread x1)) (View.readAt (Elt Ideal) arg4.view (Rect.unit (s := S8192x128) (k1_off3 i 3#32) S256x128.size (k1_off3_inb i 3)).toLoadRect (harg4.unread x2)) (rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).1
        i arg10 arg10.view.junk ((rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).2.1 ++ ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) := by sl_kernel_rfl

theorem runA_v (hc : cond1_0 i) : (kernelRun1_A (F := Ideal) c i arg2 harg2 arg3 harg3 arg4 harg4 arg5 harg5 arg6 harg6 arg7 harg7 arg8 harg8 arg9 harg9 arg10 harg10 arg11 harg11 hc x0 x1 x2 x3 x4 x5 x6).2.2.1
    = diagV (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 0#32) S256x128.size (k1_off3_inb i 0)).toLoadRect (harg3.unread x1)) (View.readAt (Elt Ideal) arg4.view (Rect.unit (s := S8192x128) (k1_off3 i 0#32) S256x128.size (k1_off3_inb i 0)).toLoadRect (harg4.unread x2)) (View.readAt (Elt Ideal) arg3.view (Rect.unit (s := S8192x128) (k1_off3 i 1#32) S256x128.size (k1_off3_inb i 1)).toLoadRect (harg3.unread x1)) (View.readAt (Elt Ideal) arg4.view (Rect.unit (s := S8192x128) (k1_off3 i 1#32) S256x128.size (k1_off3_inb i 1)).toLoadRect (harg4.unread x2)) (View.readAt (Elt Ideal) arg3.view (Rect.unit (s := S8192x128) (k1_off3 i 2#32) S256x128.size (k1_off3_inb i 2)).toLoadRect (harg3.unread x1)) (View.readAt (Elt Ideal) arg4.view (Rect.unit (s := S8192x128) (k1_off3 i 2#32) S256x128.size (k1_off3_inb i 2)).toLoadRect (harg4.unread x2)) (View.readAt (Elt Ideal) arg3.view (Rect.unit (s := S8192x128) (k1_off3 i 3#32) S256x128.size (k1_off3_inb i 3)).toLoadRect (harg3.unread x1)) (rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).1
        i arg11 arg11.view.junk ((rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).2.2 ++ ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩])) := by sl_kernel_rfl

theorem runA_q (hc : cond1_0 i) : (kernelRun1_A (F := Ideal) c i arg2 harg2 arg3 harg3 arg4 harg4 arg5 harg5 arg6 harg6 arg7 harg7 arg8 harg8 arg9 harg9 arg10 harg10 arg11 harg11 hc x0 x1 x2 x3 x4 x5 x6).1
    = [⟨Rect.unit (s := S1024x128) ![0, 0] S1024x128.size inb_S1024x128_S1024x128_0_0, tile3o (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 3#32) S256x128.size (k1_off3_inb i 3)).toLoadRect (harg3.unread x1)) (View.readAt (Elt Ideal) arg4.view (Rect.unit (s := S8192x128) (k1_off3 i 3#32) S256x128.size (k1_off3_inb i 3)).toLoadRect (harg4.unread x2))
        (diag3 (BitVec.ofNat 32 (i 1).val) (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) (View.readAt (Elt Ideal) arg3.view (Rect.unit (s := S8192x128) (k1_off3 i 0#32) S256x128.size (k1_off3_inb i 0)).toLoadRect (harg3.unread x1)) (View.readAt (Elt Ideal) arg4.view (Rect.unit (s := S8192x128) (k1_off3 i 0#32) S256x128.size (k1_off3_inb i 0)).toLoadRect (harg4.unread x2)) (View.readAt (Elt Ideal) arg3.view (Rect.unit (s := S8192x128) (k1_off3 i 1#32) S256x128.size (k1_off3_inb i 1)).toLoadRect (harg3.unread x1)) (View.readAt (Elt Ideal) arg4.view (Rect.unit (s := S8192x128) (k1_off3 i 1#32) S256x128.size (k1_off3_inb i 1)).toLoadRect (harg4.unread x2)) (View.readAt (Elt Ideal) arg3.view (Rect.unit (s := S8192x128) (k1_off3 i 2#32) S256x128.size (k1_off3_inb i 2)).toLoadRect (harg3.unread x1)) (View.readAt (Elt Ideal) arg4.view (Rect.unit (s := S8192x128) (k1_off3 i 2#32) S256x128.size (k1_off3_inb i 2)).toLoadRect (harg4.unread x2)) (rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).1)⟩] := by sl_kernel_rfl

variable {Q0 O0 k v : ℕ → Fin 128 → ℝ} (h : In (i 1).val Q0 O0 k v x0 x1 x2 x3 x4 x5 x6)
include h

theorem heads_ok : Blk (i 1).val (qA Q0) (qB Q0) (oA O0) (oB O0) k (k1_pay67 (View.readAt (Elt Ideal) arg2.view (Rect.unit (s := S1024x128) ![0, 0] S1024x128.size inb_S1024x128_S1024x128_0_0).toLoadRect (harg2.unread x0))) (k1_pay68 (View.readAt (Elt Ideal) arg2.view (Rect.unit (s := S1024x128) ![0, 0] S1024x128.size inb_S1024x128_S1024x128_0_0).toLoadRect (harg2.unread x0))) (k1_pay71 (View.readAt (Elt Ideal) arg5.view (Rect.unit (s := S1024x128) ![0, 0] S1024x128.size inb_S1024x128_S1024x128_0_0).toLoadRect (harg5.unread x3))) (k1_pay72 (View.readAt (Elt Ideal) arg5.view (Rect.unit (s := S1024x128) ![0, 0] S1024x128.size inb_S1024x128_S1024x128_0_0).toLoadRect (harg5.unread x3))) (k1_pay74 (View.readAt (Elt Ideal) arg6.view (Rect.unit (s := S1x1024x2) ![0, 0, 0] S1x1024x2.size inb_S1x1024x2_S1x1024x2_0_0_0).toLoadRect (harg6.unread x4))) (k1_pay75 (View.readAt (Elt Ideal) arg6.view (Rect.unit (s := S1x1024x2) ![0, 0, 0] S1x1024x2.size inb_S1x1024x2_S1x1024x2_0_0_0).toLoadRect (harg6.unread x4))) (k1_pay76 (View.readAt (Elt Ideal) arg7.view (Rect.unit (s := S256x256) ![0, 0] S256x256.size inb_S256x256_S256x256_0_0).toLoadRect (harg7.unread x5))) (k1_pay77 (View.readAt (Elt Ideal) arg8.view (Rect.unit (s := S256x256) ![0, 0] S256x256.size inb_S256x256_S256x256_0_0).toLoadRect (harg8.unread x6))) := by
  have e0 : (View.readAt (Elt Ideal) arg2.view (Rect.unit (s := S1024x128) ![0, 0] S1024x128.size inb_S1024x128_S1024x128_0_0).toLoadRect (harg2.unread x0)) = x0 := (View.readAt_full (Val := Elt Ideal) arg2.view (harg2.unread x0) inb_S1024x128_S1024x128_0_0).trans (harg2.read_unread x0)
  have e3 : (View.readAt (Elt Ideal) arg5.view (Rect.unit (s := S1024x128) ![0, 0] S1024x128.size inb_S1024x128_S1024x128_0_0).toLoadRect (harg5.unread x3)) = x3 := (View.readAt_full (Val := Elt Ideal) arg5.view (harg5.unread x3) inb_S1024x128_S1024x128_0_0).trans (harg5.read_unread x3)
  have e4 : (View.readAt (Elt Ideal) arg6.view (Rect.unit (s := S1x1024x2) ![0, 0, 0] S1x1024x2.size inb_S1x1024x2_S1x1024x2_0_0_0).toLoadRect (harg6.unread x4)) = x4 := (View.readAt_full (Val := Elt Ideal) arg6.view (harg6.unread x4) inb_S1x1024x2_S1x1024x2_0_0_0).trans (harg6.read_unread x4)
  have e5 : (View.readAt (Elt Ideal) arg7.view (Rect.unit (s := S256x256) ![0, 0] S256x256.size inb_S256x256_S256x256_0_0).toLoadRect (harg7.unread x5)) = x5 := (View.readAt_full (Val := Elt Ideal) arg7.view (harg7.unread x5) inb_S256x256_S256x256_0_0).trans (harg7.read_unread x5)
  have e6 : (View.readAt (Elt Ideal) arg8.view (Rect.unit (s := S256x256) ![0, 0] S256x256.size inb_S256x256_S256x256_0_0).toLoadRect (harg8.unread x6)) = x6 := (View.readAt_full (Val := Elt Ideal) arg8.view (harg8.unread x6) inb_S256x256_S256x256_0_0).trans (harg8.read_unread x6)
  rw [e0, e3, e4, e5, e6]
  exact h.blk

theorem low_ok (G10 : BufTy.Contents (Elt Ideal) arg10.view.ty) (G11 : BufTy.Contents (Elt Ideal) arg11.view.ty) (X10 X11 : Fin 8192 → Fin 128 → EReal)
    (g10 : ∀ y x, arg10.view.read (Elt Ideal) G10 (ix2 y x) = X10 y x) (g11 : ∀ y x, arg11.view.read (Elt Ideal) G11 (ix2 y x) = X11 y x) :
    StOK (i 1).val (qA Q0) (qB Q0) (oA O0) (oB O0) k v (256 * (4 * (i 1).val + 0)) (low c i arg2 harg2 arg3 harg3 arg4 harg4 arg5 harg5 arg6 harg6 arg7 harg7 arg8 harg8 arg9 harg9 arg10 harg10 arg11 harg11 x0 x1 x2 x3 x4 x5 x6 G10 G11).1
    ∧ Mem arg10.view G10 (low c i arg2 harg2 arg3 harg3 arg4 harg4 arg5 harg5 arg6 harg6 arg7 harg7 arg8 harg8 arg9 harg9 arg10 harg10 arg11 harg11 x0 x1 x2 x3 x4 x5 x6 G10 G11).2.1 X10 (CK2 (i 1).val (qA Q0) (qB Q0) (oA O0) (oB O0) k v) (256 * (4 * (i 1).val + 0))
    ∧ Mem arg11.view G11 (low c i arg2 harg2 arg3 harg3 arg4 harg4 arg5 harg5 arg6 harg6 arg7 harg7 arg8 harg8 arg9 harg9 arg10 harg10 arg11 harg11 x0 x1 x2 x3 x4 x5 x6 G10 G11).2.2 X11 (CV2 (i 1).val (qA Q0) (qB Q0) (oA O0) (oB O0) k) (256 * (4 * (i 1).val + 0)) := by
  have e : Scf.trips (k1_t1_loop i).lb (k1_t1_loop i).ub (k1_t1_loop i).st = 4 * (i 1).val := trips1 i
  rw [low, e]
  exact loop_ok i arg2 harg2 arg3 harg3 arg4 harg4 arg5 harg5 arg6 harg6 arg7 harg7 arg8 harg8 arg9 harg9 arg10 harg10 arg11 harg11 h.h1 h.h2 c _ _ _ _ _ _ _ _ _ (heads_ok i arg2 harg2 arg5 harg5 arg6 harg6 arg7 harg7 arg8 harg8 x0 x1 x2 x3 x4 x5 x6 h) G10 G11 X10 X11 g10 g11 _ (zero_ok _ _ _ _ _ _ _) _ le_rfl

theorem tiles_ok (d : ℕ) (hd : d < 4) (inb) : Keys k v (256 * (4 * (i 1).val + d)) (View.readAt (Elt Ideal) arg3.view (Rect.unit (s := S8192x128) (k1_off3 i (BitVec.ofNat 32 d)) S256x128.size inb).toLoadRect (harg3.unread x1))
    (View.readAt (Elt Ideal) arg4.view (Rect.unit (s := S8192x128) (k1_off3 i (BitVec.ofNat 32 d)) S256x128.size inb).toLoadRect (harg4.unread x2)) :=
  keys_ok h.h1 h.h2 harg3 harg4 (off3 i d hd) inb

theorem outB_8 (hc : ¬ cond1_0 i) (xo8 xo9 : Vec Ideal S8192x128 .f32) (y : Fin 8192) (x : Fin 128) :
    out1_B_8 (F := Ideal) c i arg2 harg2 arg3 harg3 arg4 harg4 arg5 harg5 arg6 harg6 arg7 harg7 arg8 harg8 arg9 harg9 arg10 harg10 arg11 harg11 hc x0 x1 x2 x3 x4 x5 x6 xo8 xo9 (ix2 y x) = xo8 (ix2 y x) + ((CK2 (i 1).val (qA Q0) (qB Q0) (oA O0) (oB O0) k v y.val x : ℝ) : EReal) := by
  obtain ⟨l1, l2, l3⟩ := low_ok c i arg2 harg2 arg3 harg3 arg4 harg4 arg5 harg5 arg6 harg6 arg7 harg7 arg8 harg8 arg9 harg9 arg10 harg10 arg11 harg11 x0 x1 x2 x3 x4 x5 x6 h (harg10.unread xo8) (harg11.unread xo9) (fun y x => xo8 (ix2 y x)) (fun y x => xo9 (ix2 y x)) (fun y x => congrFun (harg10.read_unread xo8) (ix2 y x)) (fun y x => congrFun (harg11.read_unread xo9) (ix2 y x))
  have hs : StOK (i 1).val (qA Q0) (qB Q0) (oA O0) (oB O0) k v (256 * (4 * (i 1).val + 0)) (rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).1 := by rw [rest_eq]; exact l1
  have e : Mem arg10.view (harg10.unread xo8) ((rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).2.1 ++ (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (fun y x => xo8 (ix2 y x)) (CK2 (i 1).val (qA Q0) (qB Q0) (oA O0) (oB O0) k v) (256 * (4 * (i 1).val + 0)) := by rw [rest_eq]; exact l2
  have hm := diagK_ok i (heads_ok i arg2 harg2 arg5 harg5 arg6 harg6 arg7 harg7 arg8 harg8 x0 x1 x2 x3 x4 x5 x6 h) hs (tiles_ok i arg3 harg3 arg4 harg4 x0 x1 x2 x3 x4 x5 x6 h 0 (by decide) (k1_off3_inb i 0)) (tiles_ok i arg3 harg3 arg4 harg4 x0 x1 x2 x3 x4 x5 x6 h 1 (by decide) (k1_off3_inb i 1)) (tiles_ok i arg3 harg3 arg4 harg4 x0 x1 x2 x3 x4 x5 x6 h 2 (by decide) (k1_off3_inb i 2)) (tiles_ok i arg3 harg3 arg4 harg4 x0 x1 x2 x3 x4 x5 x6 h 3 (by decide) (k1_off3_inb i 3)) arg10 (harg10.unread xo8) _ _ e
  unfold out1_B_8
  rw [runB_k c i arg2 harg2 arg3 harg3 arg4 harg4 arg5 harg5 arg6 harg6 arg7 harg7 arg8 harg8 arg9 harg9 arg10 harg10 arg11 harg11 x0 x1 x2 x3 x4 x5 x6 hc xo8 xo9]
  refine (hm y x).trans ?_
  congr 2
  split
  · rfl
  · exact (CK2_of_le (by omega) x).symm

theorem outB_9 (hc : ¬ cond1_0 i) (xo8 xo9 : Vec Ideal S8192x128 .f32) (y : Fin 8192) (x : Fin 128) :
    out1_B_9 (F := Ideal) c i arg2 harg2 arg3 harg3 arg4 harg4 arg5 harg5 arg6 harg6 arg7 harg7 arg8 harg8 arg9 harg9 arg10 harg10 arg11 harg11 hc x0 x1 x2 x3 x4 x5 x6 xo8 xo9 (ix2 y x) = xo9 (ix2 y x) + ((CV2 (i 1).val (qA Q0) (qB Q0) (oA O0) (oB O0) k y.val x : ℝ) : EReal) := by
  obtain ⟨l1, l2, l3⟩ := low_ok c i arg2 harg2 arg3 harg3 arg4 harg4 arg5 harg5 arg6 harg6 arg7 harg7 arg8 harg8 arg9 harg9 arg10 harg10 arg11 harg11 x0 x1 x2 x3 x4 x5 x6 h (harg10.unread xo8) (harg11.unread xo9) (fun y x => xo8 (ix2 y x)) (fun y x => xo9 (ix2 y x)) (fun y x => congrFun (harg10.read_unread xo8) (ix2 y x)) (fun y x => congrFun (harg11.read_unread xo9) (ix2 y x))
  have hs : StOK (i 1).val (qA Q0) (qB Q0) (oA O0) (oB O0) k v (256 * (4 * (i 1).val + 0)) (rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).1 := by rw [rest_eq]; exact l1
  have e : Mem arg11.view (harg11.unread xo9) ((rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).2.2 ++ (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2) (fun y x => xo9 (ix2 y x)) (CV2 (i 1).val (qA Q0) (qB Q0) (oA O0) (oB O0) k) (256 * (4 * (i 1).val + 0)) := by rw [rest_eq]; exact l3
  have hm := diagV_ok i (heads_ok i arg2 harg2 arg5 harg5 arg6 harg6 arg7 harg7 arg8 harg8 x0 x1 x2 x3 x4 x5 x6 h) hs (tiles_ok i arg3 harg3 arg4 harg4 x0 x1 x2 x3 x4 x5 x6 h 0 (by decide) (k1_off3_inb i 0)) (tiles_ok i arg3 harg3 arg4 harg4 x0 x1 x2 x3 x4 x5 x6 h 1 (by decide) (k1_off3_inb i 1)) (tiles_ok i arg3 harg3 arg4 harg4 x0 x1 x2 x3 x4 x5 x6 h 2 (by decide) (k1_off3_inb i 2)) (tiles_ok i arg3 harg3 arg4 harg4 x0 x1 x2 x3 x4 x5 x6 h 3 (by decide) (k1_off3_inb i 3)) arg11 (harg11.unread xo9) _ _ e
  unfold out1_B_9
  rw [runB_v c i arg2 harg2 arg3 harg3 arg4 harg4 arg5 harg5 arg6 harg6 arg7 harg7 arg8 harg8 arg9 harg9 arg10 harg10 arg11 harg11 x0 x1 x2 x3 x4 x5 x6 hc xo8 xo9]
  refine (hm y x).trans ?_
  congr 2
  split
  · rfl
  · exact (CV2_of_le (by omega) x).symm

theorem outB_7 (hc : ¬ cond1_0 i) (xo8 xo9 : Vec Ideal S8192x128 .f32) (r : Fin 1024) (x : Fin 128) :
    out1_B_7 (F := Ideal) c i arg2 harg2 arg3 harg3 arg4 harg4 arg5 harg5 arg6 harg6 arg7 harg7 arg8 harg8 arg9 harg9 arg10 harg10 arg11 harg11 hc x0 x1 x2 x3 x4 x5 x6 xo8 xo9 (ix2 r x) = ((if x.val < 64 then DQ (qA Q0) (oA O0) k v (1024 * (i 1).val + r.val) (1024 * ((i 1).val + 1)) x * (1 / 8)
      else DQ (qB Q0) (oB O0) k v (1024 * (i 1).val + r.val) (1024 * ((i 1).val + 1)) x * (1 / 8) : ℝ) : EReal) := by
  obtain ⟨l1, l2, l3⟩ := low_ok c i arg2 harg2 arg3 harg3 arg4 harg4 arg5 harg5 arg6 harg6 arg7 harg7 arg8 harg8 arg9 harg9 arg10 harg10 arg11 harg11 x0 x1 x2 x3 x4 x5 x6 h (harg10.unread xo8) (harg11.unread xo9) (fun y x => xo8 (ix2 y x)) (fun y x => xo9 (ix2 y x)) (fun y x => congrFun (harg10.read_unread xo8) (ix2 y x)) (fun y x => congrFun (harg11.read_unread xo9) (ix2 y x))
  have hs : StOK (i 1).val (qA Q0) (qB Q0) (oA O0) (oB O0) k v (256 * (4 * (i 1).val + 0)) (rest c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt Ideal) (harg10.unread xo8) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.1) (arg11.view.writes (Elt Ideal) (harg11.unread xo9) (low c i arg2 harg2 arg3 harg3 arg4 harg4 arg5 harg5 arg6 harg6 arg7 harg7 arg8 harg8 arg9 harg9 arg10 harg10 arg11 harg11 x0 x1 x2 x3 x4 x5 x6 (harg10.unread xo8) (harg11.unread xo9)).2.2)).1 := by rw [rest_eq]; exact l1
  have hm := tile3o_ok (lt1 i) (heads_ok i arg2 harg2 arg5 harg5 arg6 harg6 arg7 harg7 arg8 harg8 x0 x1 x2 x3 x4 x5 x6 h) (diag3_ok i (heads_ok i arg2 harg2 arg5 harg5 arg6 harg6 arg7 harg7 arg8 harg8 x0 x1 x2 x3 x4 x5 x6 h) hs (tiles_ok i arg3 harg3 arg4 harg4 x0 x1 x2 x3 x4 x5 x6 h 0 (by decide) (k1_off3_inb i 0)) (tiles_ok i arg3 harg3 arg4 harg4 x0 x1 x2 x3 x4 x5 x6 h 1 (by decide) (k1_off3_inb i 1)) (tiles_ok i arg3 harg3 arg4 harg4 x0 x1 x2 x3 x4 x5 x6 h 2 (by decide) (k1_off3_inb i 2))) (tiles_ok i arg3 harg3 arg4 harg4 x0 x1 x2 x3 x4 x5 x6 h 3 (by decide) (k1_off3_inb i 3)) r x
  unfold out1_B_7
  rw [runB_q c i arg2 harg2 arg3 harg3 arg4 harg4 arg5 harg5 arg6 harg6 arg7 harg7 arg8 harg8 arg9 harg9 arg10 harg10 arg11 harg11 x0 x1 x2 x3 x4 x5 x6 hc xo8 xo9, View.read_writes_cons_unit_of_mem VO1_7 VO1_7.junk inb_S1024x128_S1024x128_0_0 _ [] (ix2 r x) (ix2 r x) rfl (fun a => by fin_cases a <;> exact (Nat.zero_add _).symm)]
  refine hm.trans ?_
  rw [lt64, eighth', show 256 * (4 * (i 1).val + 4) = 1024 * ((i 1).val + 1) by ring]
  split <;> simp only [Scalar.select, EReal.coe_mul] <;> rfl

omit h in
theorem zero10 (m : Memref sig .tc .vmem S8192x128 .f32) (y : Fin 8192) (x : Fin 128) : m.view.read (Elt Ideal) (m.view.writes (Elt Ideal) m.view.junk [⟨Rect.unit (s := S8192x128) ![0, 0] S8192x128.size inb_S8192x128_S8192x128_0_0, k1_pay63 (F := Ideal)⟩]) (ix2 y x) = 0 := by
  exact (View.read_writes_cons_unit_of_mem (Val := Elt Ideal) m.view m.view.junk inb_S8192x128_S8192x128_0_0 (k1_pay63 (F := Ideal)) [] (ix2 y x) (ix2 y x) rfl
    (fun a => by fin_cases a <;> exact (Nat.zero_add _).symm)).trans Ideal.ofBits_zero_f32
omit h in
theorem zero11 (m : Memref sig .tc .vmem S8192x128 .f32) (y : Fin 8192) (x : Fin 128) : m.view.read (Elt Ideal) (m.view.writes (Elt Ideal) m.view.junk [⟨Rect.unit (s := S8192x128) ![0, 0] S8192x128.size inb_S8192x128_S8192x128_0_0, k1_pay64 (F := Ideal)⟩]) (ix2 y x) = 0 := by
  exact (View.read_writes_cons_unit_of_mem (Val := Elt Ideal) m.view m.view.junk inb_S8192x128_S8192x128_0_0 (k1_pay64 (F := Ideal)) [] (ix2 y x) (ix2 y x) rfl
    (fun a => by fin_cases a <;> exact (Nat.zero_add _).symm)).trans Ideal.ofBits_zero_f32

theorem outA_8 (hc : cond1_0 i) (y : Fin 8192) (x : Fin 128) :
    out1_A_8 (F := Ideal) c i arg2 harg2 arg3 harg3 arg4 harg4 arg5 harg5 arg6 harg6 arg7 harg7 arg8 harg8 arg9 harg9 arg10 harg10 arg11 harg11 hc x0 x1 x2 x3 x4 x5 x6 (ix2 y x) = 0 + ((CK2 (i 1).val (qA Q0) (qB Q0) (oA O0) (oB O0) k v y.val x : ℝ) : EReal) := by
  obtain ⟨l1, l2, l3⟩ := low_ok c i arg2 harg2 arg3 harg3 arg4 harg4 arg5 harg5 arg6 harg6 arg7 harg7 arg8 harg8 arg9 harg9 arg10 harg10 arg11 harg11 x0 x1 x2 x3 x4 x5 x6 h (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (fun _ _ => 0) (fun _ _ => 0) (zero10 arg10) (zero11 arg11)
  have hs : StOK (i 1).val (qA Q0) (qB Q0) (oA O0) (oB O0) k v (256 * (4 * (i 1).val + 0)) (rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).1 := by rw [rest_eq]; exact l1
  have e : Mem arg10.view arg10.view.junk ((rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).2.1 ++ ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (fun _ _ => 0) (CK2 (i 1).val (qA Q0) (qB Q0) (oA O0) (oB O0) k v) (256 * (4 * (i 1).val + 0)) := fun y x => by
    rw [rest_eq, List.nil_append, View.writes_append]; exact l2 y x
  have hm := diagK_ok i (heads_ok i arg2 harg2 arg5 harg5 arg6 harg6 arg7 harg7 arg8 harg8 x0 x1 x2 x3 x4 x5 x6 h) hs (tiles_ok i arg3 harg3 arg4 harg4 x0 x1 x2 x3 x4 x5 x6 h 0 (by decide) (k1_off3_inb i 0)) (tiles_ok i arg3 harg3 arg4 harg4 x0 x1 x2 x3 x4 x5 x6 h 1 (by decide) (k1_off3_inb i 1)) (tiles_ok i arg3 harg3 arg4 harg4 x0 x1 x2 x3 x4 x5 x6 h 2 (by decide) (k1_off3_inb i 2)) (tiles_ok i arg3 harg3 arg4 harg4 x0 x1 x2 x3 x4 x5 x6 h 3 (by decide) (k1_off3_inb i 3)) arg10 arg10.view.junk _ _ e
  unfold out1_A_8
  rw [View.read_writes_of_cover VO1_8 VO1_8.junk arg10.view arg10.view.junk _ (cover1_A_8 c i arg2 harg2 arg3 harg3 arg4 harg4 arg5 harg5 arg6 harg6 arg7 harg7 arg8 harg8 arg9 harg9 arg10 harg10 arg11 harg11 hc x0 x1 x2 x3 x4 x5 x6), runA_k c i arg2 harg2 arg3 harg3 arg4 harg4 arg5 harg5 arg6 harg6 arg7 harg7 arg8 harg8 arg9 harg9 arg10 harg10 arg11 harg11 x0 x1 x2 x3 x4 x5 x6 hc]
  refine (hm y x).trans ?_
  congr 2
  split
  · rfl
  · exact (CK2_of_le (by omega) x).symm

theorem outA_9 (hc : cond1_0 i) (y : Fin 8192) (x : Fin 128) :
    out1_A_9 (F := Ideal) c i arg2 harg2 arg3 harg3 arg4 harg4 arg5 harg5 arg6 harg6 arg7 harg7 arg8 harg8 arg9 harg9 arg10 harg10 arg11 harg11 hc x0 x1 x2 x3 x4 x5 x6 (ix2 y x) = 0 + ((CV2 (i 1).val (qA Q0) (qB Q0) (oA O0) (oB O0) k y.val x : ℝ) : EReal) := by
  obtain ⟨l1, l2, l3⟩ := low_ok c i arg2 harg2 arg3 harg3 arg4 harg4 arg5 harg5 arg6 harg6 arg7 harg7 arg8 harg8 arg9 harg9 arg10 harg10 arg11 harg11 x0 x1 x2 x3 x4 x5 x6 h (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (fun _ _ => 0) (fun _ _ => 0) (zero10 arg10) (zero11 arg11)
  have hs : StOK (i 1).val (qA Q0) (qB Q0) (oA O0) (oB O0) k v (256 * (4 * (i 1).val + 0)) (rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).1 := by rw [rest_eq]; exact l1
  have e : Mem arg11.view arg11.view.junk ((rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).2.2 ++ ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩])) (fun _ _ => 0) (CV2 (i 1).val (qA Q0) (qB Q0) (oA O0) (oB O0) k) (256 * (4 * (i 1).val + 0)) := fun y x => by
    rw [rest_eq, List.nil_append, View.writes_append]; exact l3 y x
  have hm := diagV_ok i (heads_ok i arg2 harg2 arg5 harg5 arg6 harg6 arg7 harg7 arg8 harg8 x0 x1 x2 x3 x4 x5 x6 h) hs (tiles_ok i arg3 harg3 arg4 harg4 x0 x1 x2 x3 x4 x5 x6 h 0 (by decide) (k1_off3_inb i 0)) (tiles_ok i arg3 harg3 arg4 harg4 x0 x1 x2 x3 x4 x5 x6 h 1 (by decide) (k1_off3_inb i 1)) (tiles_ok i arg3 harg3 arg4 harg4 x0 x1 x2 x3 x4 x5 x6 h 2 (by decide) (k1_off3_inb i 2)) (tiles_ok i arg3 harg3 arg4 harg4 x0 x1 x2 x3 x4 x5 x6 h 3 (by decide) (k1_off3_inb i 3)) arg11 arg11.view.junk _ _ e
  unfold out1_A_9
  rw [View.read_writes_of_cover VO1_9 VO1_9.junk arg11.view arg11.view.junk _ (cover1_A_9 c i arg2 harg2 arg3 harg3 arg4 harg4 arg5 harg5 arg6 harg6 arg7 harg7 arg8 harg8 arg9 harg9 arg10 harg10 arg11 harg11 hc x0 x1 x2 x3 x4 x5 x6), runA_v c i arg2 harg2 arg3 harg3 arg4 harg4 arg5 harg5 arg6 harg6 arg7 harg7 arg8 harg8 arg9 harg9 arg10 harg10 arg11 harg11 x0 x1 x2 x3 x4 x5 x6 hc]
  refine (hm y x).trans ?_
  congr 2
  split
  · rfl
  · exact (CV2_of_le (by omega) x).symm

theorem outA_7 (hc : cond1_0 i) (r : Fin 1024) (x : Fin 128) :
    out1_A_7 (F := Ideal) c i arg2 harg2 arg3 harg3 arg4 harg4 arg5 harg5 arg6 harg6 arg7 harg7 arg8 harg8 arg9 harg9 arg10 harg10 arg11 harg11 hc x0 x1 x2 x3 x4 x5 x6 (ix2 r x) = ((if x.val < 64 then DQ (qA Q0) (oA O0) k v (1024 * (i 1).val + r.val) (1024 * ((i 1).val + 1)) x * (1 / 8)
      else DQ (qB Q0) (oB O0) k v (1024 * (i 1).val + r.val) (1024 * ((i 1).val + 1)) x * (1 / 8) : ℝ) : EReal) := by
  obtain ⟨l1, l2, l3⟩ := low_ok c i arg2 harg2 arg3 harg3 arg4 harg4 arg5 harg5 arg6 harg6 arg7 harg7 arg8 harg8 arg9 harg9 arg10 harg10 arg11 harg11 x0 x1 x2 x3 x4 x5 x6 h (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (fun _ _ => 0) (fun _ _ => 0) (zero10 arg10) (zero11 arg11)
  have hs : StOK (i 1).val (qA Q0) (qB Q0) (oA O0) (oB O0) k v (256 * (4 * (i 1).val + 0)) (rest c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩]) (arg10.view.writes (Elt Ideal) arg10.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.1 ++ [⟨Rect.unit (s := S8192x128) ![0, 0] S8192x128.size inb_S8192x128_S8192x128_0_0, k1_pay63 (F := Ideal)⟩])) (arg11.view.writes (Elt Ideal) arg11.view.junk ((low c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S8192x128) ![0, 0] S8192x128.size inb_S8192x128_S8192x128_0_0, k1_pay63 (F := Ideal)⟩]) (arg11.view.writes (Elt Ideal) arg11.view.junk [⟨Rect.unit (s := S8192x128) ![0, 0] S8192x128.size inb_S8192x128_S8192x128_0_0, k1_pay64 (F := Ideal)⟩])).2.2 ++ [⟨Rect.unit (s := S8192x128) ![0, 0] S8192x128.size inb_S8192x128_S8192x128_0_0, k1_pay64 (F := Ideal)⟩]))).1 := by rw [rest_eq]; exact l1
  have hm := tile3o_ok (lt1 i) (heads_ok i arg2 harg2 arg5 harg5 arg6 harg6 arg7 harg7 arg8 harg8 x0 x1 x2 x3 x4 x5 x6 h) (diag3_ok i (heads_ok i arg2 harg2 arg5 harg5 arg6 harg6 arg7 harg7 arg8 harg8 x0 x1 x2 x3 x4 x5 x6 h) hs (tiles_ok i arg3 harg3 arg4 harg4 x0 x1 x2 x3 x4 x5 x6 h 0 (by decide) (k1_off3_inb i 0)) (tiles_ok i arg3 harg3 arg4 harg4 x0 x1 x2 x3 x4 x5 x6 h 1 (by decide) (k1_off3_inb i 1)) (tiles_ok i arg3 harg3 arg4 harg4 x0 x1 x2 x3 x4 x5 x6 h 2 (by decide) (k1_off3_inb i 2))) (tiles_ok i arg3 harg3 arg4 harg4 x0 x1 x2 x3 x4 x5 x6 h 3 (by decide) (k1_off3_inb i 3)) r x
  unfold out1_A_7
  rw [runA_q c i arg2 harg2 arg3 harg3 arg4 harg4 arg5 harg5 arg6 harg6 arg7 harg7 arg8 harg8 arg9 harg9 arg10 harg10 arg11 harg11 x0 x1 x2 x3 x4 x5 x6 hc, View.read_writes_cons_unit_of_mem VO1_7 VO1_7.junk inb_S1024x128_S1024x128_0_0 _ [] (ix2 r x) (ix2 r x) rfl (fun a => by fin_cases a <;> exact (Nat.zero_add _).symm)]
  refine hm.trans ?_
  rw [lt64, eighth', show 256 * (4 * (i 1).val + 4) = 1024 * ((i 1).val + 1) by ring]
  split <;> simp only [Scalar.select, EReal.coe_mul] <;> rfl

end

end Cert.Proof.Sb
-- ==== Proof.SbFwd.lean ====
/- The forward kernel's tiles, row by row: `g` is a tile below the diagonal block, `3` to `0` are the tiles of the diagonal block. -/
module

public import proofs.«01_k».proof.Proof.SbTile
@[expose] public section

set_option maxRecDepth 16384
set_option maxHeartbeats 1000000
noncomputable section

namespace Cert.Proof.Sb

open Idealize.ShloMosaic Idealize.ShloMosaic.TcCoe Idealize.ShloMosaic.Tactic
open Cert.SbKernelIdeal Cert.SbKernelIdeal.Gen
variable (a : BitVec 32) (x0 qa qb oa ob : Q) (la lb ca pa cb pb : C) (da db : D) (T U : M) (K V : KV) (old : Vec Ideal S256x128 .f32)

theorem fg_ca : FHi (fun s => s) m1 qa K T ca (k0_pay8 qa T ca K) := by
  unfold FHi; intro s
  pointwise [k0_pay2, k0_pay4, k0_pay5, k0_pay6, k0_pay7, k0_pay8, FHi, m1, row, mat, mat2, mw, zR, lkU, lkR, upR, wR, gR, beR, dzR, wF, select_one]

theorem fg_da : EHi (fun s => s) m1 qa K V T ca da (k0_pay9 qa T ca da K V) := by
  unfold EHi; intro s x
  pointwise [k0_pay2, k0_pay3, k0_pay4, k0_pay5, k0_pay6, k0_pay7, k0_pay9, EHi, m1, row, mat, mat2, mw, zR, lkU, lkR, upR, wR, gR, beR, dzR, wF, select_one]

theorem fg_cb : FHi (fun s => s) m1 qb K T cb (k0_pay114 T cb (k0_pay11 qb K) (k0_pay12 qb K) (k0_pay13 (F := Ideal))) := by
  unfold FHi; intro s
  pointwise [k0_pay2, k0_pay10, k0_pay11, k0_pay12, k0_pay13, k0_pay111, k0_pay112, k0_pay113, k0_pay114, FHi, m1, row, mat, mat2, mw, zR, lkU, lkR, upR, wR, gR, beR, dzR, wF, select_one]

theorem fg_db : EHi (fun s => s) m1 qb K V T cb db (k0_pay115 T cb db (k0_pay3 V) (k0_pay10 qb K) (k0_pay11 qb K) (k0_pay12 qb K) (k0_pay13 (F := Ideal))) := by
  unfold EHi; intro s x
  pointwise [k0_pay2, k0_pay3, k0_pay10, k0_pay11, k0_pay12, k0_pay13, k0_pay111, k0_pay112, k0_pay113, k0_pay115, EHi, m1, row, mat, mat2, mw, zR, lkU, lkR, upR, wR, gR, beR, dzR, wF, select_one]

theorem f3_ca : FHi rr3 (mt a 3#32 768#32) (k0_pay28 x0) K T ca (k0_pay42 a T ca (Scalar.addi (Scalar.muli a 4#32) 3#32) (k0_pay36 x0 K) (k0_pay37 x0 K)) := by
  unfold FHi; intro s
  pointwise [k0_pay26, k0_pay27, k0_pay28, k0_pay33, k0_pay35, k0_pay36, k0_pay37, k0_pay38, k0_pay39, k0_pay40, k0_pay41, k0_pay42, k0_pay28, FHi, rr3, mt, row, mat, mat2, mw, zR, lkU, lkR, upR, wR, gR, beR, dzR, wF, select_one]

theorem g3_ca : CLo 768 ca (k0_pay42 a T ca (Scalar.addi (Scalar.muli a 4#32) 3#32) (k0_pay36 x0 K) (k0_pay37 x0 K)) := by
  unfold CLo; intro r hr
  pointwise [k0_pay26, k0_pay27, k0_pay28, k0_pay33, k0_pay35, k0_pay36, k0_pay37, k0_pay38, k0_pay39, k0_pay40, k0_pay41, k0_pay42, dif_pos hr]

theorem f3_da : EHi rr3 (mt a 3#32 768#32) (k0_pay28 x0) K V T ca da (k0_pay43 a T ca da (Scalar.addi (Scalar.muli a 4#32) 3#32) (k0_pay34 V) (k0_pay35 x0 K) (k0_pay36 x0 K) (k0_pay37 x0 K)) := by
  unfold EHi; intro s x
  pointwise [k0_pay26, k0_pay27, k0_pay28, k0_pay33, k0_pay34, k0_pay35, k0_pay36, k0_pay37, k0_pay38, k0_pay39, k0_pay40, k0_pay41, k0_pay43, k0_pay28, EHi, rr3, mt, row, mat, mat2, mw, zR, lkU, lkR, upR, wR, gR, beR, dzR, wF, select_one]

theorem g3_da : DLo 768 da (k0_pay43 a T ca da (Scalar.addi (Scalar.muli a 4#32) 3#32) (k0_pay34 V) (k0_pay35 x0 K) (k0_pay36 x0 K) (k0_pay37 x0 K)) := by
  unfold DLo; intro r x hr
  pointwise [k0_pay26, k0_pay27, k0_pay28, k0_pay33, k0_pay34, k0_pay35, k0_pay36, k0_pay37, k0_pay38, k0_pay39, k0_pay40, k0_pay41, k0_pay43, dif_pos hr]

theorem f3_cb : FHi rr3 (mt a 3#32 768#32) qb K T cb (k0_pay51 a T cb (Scalar.addi (Scalar.muli a 4#32) 3#32) (k0_pay45 qb (k0_pay33 K)) (k0_pay46 qb (k0_pay33 K)) (FloatOps.ofBits (F := Ideal) .f32 1065353216#32)) := by
  unfold FHi; intro s
  pointwise [k0_pay33, k0_pay44, k0_pay45, k0_pay46, k0_pay47, k0_pay48, k0_pay49, k0_pay50, k0_pay51, FHi, rr3, mt, row, mat, mat2, mw, zR, lkU, lkR, upR, wR, gR, beR, dzR, wF, select_one]

theorem g3_cb : CLo 768 cb (k0_pay51 a T cb (Scalar.addi (Scalar.muli a 4#32) 3#32) (k0_pay45 qb (k0_pay33 K)) (k0_pay46 qb (k0_pay33 K)) (FloatOps.ofBits (F := Ideal) .f32 1065353216#32)) := by
  unfold CLo; intro r hr
  pointwise [k0_pay33, k0_pay44, k0_pay45, k0_pay46, k0_pay47, k0_pay48, k0_pay49, k0_pay50, k0_pay51, dif_pos hr]

theorem f3_db : EHi rr3 (mt a 3#32 768#32) qb K V T cb db (k0_pay52 a T cb db (Scalar.addi (Scalar.muli a 4#32) 3#32) (k0_pay34 V) (k0_pay44 qb (k0_pay33 K)) (k0_pay45 qb (k0_pay33 K)) (k0_pay46 qb (k0_pay33 K)) (FloatOps.ofBits (F := Ideal) .f32 1065353216#32)) := by
  unfold EHi; intro s x
  pointwise [k0_pay33, k0_pay34, k0_pay44, k0_pay45, k0_pay46, k0_pay47, k0_pay48, k0_pay49, k0_pay50, k0_pay52, EHi, rr3, mt, row, mat, mat2, mw, zR, lkU, lkR, upR, wR, gR, beR, dzR, wF, select_one]

theorem g3_db : DLo 768 db (k0_pay52 a T cb db (Scalar.addi (Scalar.muli a 4#32) 3#32) (k0_pay34 V) (k0_pay44 qb (k0_pay33 K)) (k0_pay45 qb (k0_pay33 K)) (k0_pay46 qb (k0_pay33 K)) (FloatOps.ofBits (F := Ideal) .f32 1065353216#32)) := by
  unfold DLo; intro r x hr
  pointwise [k0_pay33, k0_pay34, k0_pay44, k0_pay45, k0_pay46, k0_pay47, k0_pay48, k0_pay49, k0_pay50, k0_pay52, dif_pos hr]

theorem f2_ca : FHi rr2 (mt a 2#32 512#32) qa K T ca (k0_pay63 ca (k0_pay60 a qa T ca (Scalar.addi (Scalar.muli a 4#32) 2#32) K)) := by
  unfold FHi; intro s
  pointwise [k0_pay53, k0_pay55, k0_pay56, k0_pay57, k0_pay58, k0_pay59, k0_pay60, k0_pay63, FHi, rr2, mt, row, mat, mat2, mw, zR, lkU, lkR, upR, wR, gR, beR, dzR, wF, select_one]

theorem g2_ca : CLo 512 ca (k0_pay63 ca (k0_pay60 a qa T ca (Scalar.addi (Scalar.muli a 4#32) 2#32) K)) := by
  unfold CLo; intro r hr
  pointwise [k0_pay53, k0_pay55, k0_pay56, k0_pay57, k0_pay58, k0_pay59, k0_pay60, k0_pay63, dif_pos hr]

theorem f2_da : EHi rr2 (mt a 2#32 512#32) qa K V T ca da (k0_pay64 da (k0_pay54 V) (k0_pay61 da) (k0_pay62 a qa T ca (Scalar.addi (Scalar.muli a 4#32) 2#32) K)) := by
  unfold EHi; intro s x
  pointwise [k0_pay53, k0_pay54, k0_pay55, k0_pay56, k0_pay57, k0_pay58, k0_pay59, k0_pay61, k0_pay62, k0_pay64, EHi, rr2, mt, row, mat, mat2, mw, zR, lkU, lkR, upR, wR, gR, beR, dzR, wF, select_one]

theorem g2_da : DLo 512 da (k0_pay64 da (k0_pay54 V) (k0_pay61 da) (k0_pay62 a qa T ca (Scalar.addi (Scalar.muli a 4#32) 2#32) K)) := by
  unfold DLo; intro r x hr
  pointwise [k0_pay53, k0_pay54, k0_pay55, k0_pay56, k0_pay57, k0_pay58, k0_pay59, k0_pay61, k0_pay62, k0_pay64, dif_pos hr]

theorem f2_cb : FHi rr2 (mt a 2#32 512#32) qb K T cb (k0_pay72 cb (k0_pay71 a qb T cb (Scalar.addi (Scalar.muli a 4#32) 2#32) (k0_pay53 K))) := by
  unfold FHi; intro s
  pointwise [k0_pay53, k0_pay65, k0_pay66, k0_pay67, k0_pay68, k0_pay69, k0_pay71, k0_pay72, FHi, rr2, mt, row, mat, mat2, mw, zR, lkU, lkR, upR, wR, gR, beR, dzR, wF, select_one]

theorem g2_cb : CLo 512 cb (k0_pay72 cb (k0_pay71 a qb T cb (Scalar.addi (Scalar.muli a 4#32) 2#32) (k0_pay53 K))) := by
  unfold CLo; intro r hr
  pointwise [k0_pay53, k0_pay65, k0_pay66, k0_pay67, k0_pay68, k0_pay69, k0_pay71, k0_pay72, dif_pos hr]

theorem f2_db : EHi rr2 (mt a 2#32 512#32) qb K V T cb db (k0_pay73 db (k0_pay54 V) (k0_pay70 a qb T cb (Scalar.addi (Scalar.muli a 4#32) 2#32) (k0_pay53 K))) := by
  unfold EHi; intro s x
  pointwise [k0_pay53, k0_pay54, k0_pay65, k0_pay66, k0_pay67, k0_pay68, k0_pay69, k0_pay70, k0_pay73, EHi, rr2, mt, row, mat, mat2, mw, zR, lkU, lkR, upR, wR, gR, beR, dzR, wF, select_one]

theorem g2_db : DLo 512 db (k0_pay73 db (k0_pay54 V) (k0_pay70 a qb T cb (Scalar.addi (Scalar.muli a 4#32) 2#32) (k0_pay53 K))) := by
  unfold DLo; intro r x hr
  pointwise [k0_pay53, k0_pay54, k0_pay65, k0_pay66, k0_pay67, k0_pay68, k0_pay69, k0_pay70, k0_pay73, dif_pos hr]

theorem f1_ca : FHi rr1 (mt a 1#32 256#32) qa K T ca (k0_pay81 T ca (k0_pay79 a qa K)) := by
  unfold FHi; intro s
  pointwise [k0_pay74, k0_pay76, k0_pay77, k0_pay78, k0_pay79, k0_pay80, k0_pay81, FHi, rr1, mt, row, mat, mat2, mw, zR, lkU, lkR, upR, wR, gR, beR, dzR, wF, select_one]

theorem g1_ca : CLo 256 ca (k0_pay81 T ca (k0_pay79 a qa K)) := by
  unfold CLo; intro r hr
  pointwise [k0_pay74, k0_pay76, k0_pay77, k0_pay78, k0_pay79, k0_pay80, k0_pay81, dif_pos hr]

theorem f1_da : EHi rr1 (mt a 1#32 256#32) qa K V T ca da (k0_pay82 T ca da (k0_pay75 V) (k0_pay76 qa K) (k0_pay77 a) (k0_pay78 a qa K) (k0_pay79 a qa K)) := by
  unfold EHi; intro s x
  pointwise [k0_pay74, k0_pay75, k0_pay76, k0_pay77, k0_pay78, k0_pay79, k0_pay80, k0_pay82, EHi, rr1, mt, row, mat, mat2, mw, zR, lkU, lkR, upR, wR, gR, beR, dzR, wF, select_one]

theorem g1_da : DLo 256 da (k0_pay82 T ca da (k0_pay75 V) (k0_pay76 qa K) (k0_pay77 a) (k0_pay78 a qa K) (k0_pay79 a qa K)) := by
  unfold DLo; intro r x hr
  pointwise [k0_pay74, k0_pay75, k0_pay76, k0_pay77, k0_pay78, k0_pay79, k0_pay80, k0_pay82, dif_pos hr]

theorem f1_cb : FHi rr1 (mt a 1#32 256#32) qb K T cb (k0_pay90 T cb (k0_pay84 qb (k0_pay74 K)) (k0_pay85 a (Scalar.addi (Scalar.muli a 4#32) 1#32)) (k0_pay86 (F := Ideal))) := by
  unfold FHi; intro s
  pointwise [k0_pay74, k0_pay83, k0_pay84, k0_pay85, k0_pay86, k0_pay87, k0_pay88, k0_pay89, k0_pay90, FHi, rr1, mt, row, mat, mat2, mw, zR, lkU, lkR, upR, wR, gR, beR, dzR, wF, select_one]

theorem g1_cb : CLo 256 cb (k0_pay90 T cb (k0_pay84 qb (k0_pay74 K)) (k0_pay85 a (Scalar.addi (Scalar.muli a 4#32) 1#32)) (k0_pay86 (F := Ideal))) := by
  unfold CLo; intro r hr
  pointwise [k0_pay74, k0_pay83, k0_pay84, k0_pay85, k0_pay86, k0_pay87, k0_pay88, k0_pay89, k0_pay90, dif_pos hr]

theorem f1_db : EHi rr1 (mt a 1#32 256#32) qb K V T cb db (k0_pay91 T cb db (k0_pay75 V) (k0_pay83 qb (k0_pay74 K)) (k0_pay84 qb (k0_pay74 K)) (k0_pay85 a (Scalar.addi (Scalar.muli a 4#32) 1#32)) (k0_pay86 (F := Ideal))) := by
  unfold EHi; intro s x
  pointwise [k0_pay74, k0_pay75, k0_pay83, k0_pay84, k0_pay85, k0_pay86, k0_pay87, k0_pay88, k0_pay89, k0_pay91, EHi, rr1, mt, row, mat, mat2, mw, zR, lkU, lkR, upR, wR, gR, beR, dzR, wF, select_one]

theorem g1_db : DLo 256 db (k0_pay91 T cb db (k0_pay75 V) (k0_pay83 qb (k0_pay74 K)) (k0_pay84 qb (k0_pay74 K)) (k0_pay85 a (Scalar.addi (Scalar.muli a 4#32) 1#32)) (k0_pay86 (F := Ideal))) := by
  unfold DLo; intro r x hr
  pointwise [k0_pay74, k0_pay75, k0_pay83, k0_pay84, k0_pay85, k0_pay86, k0_pay87, k0_pay88, k0_pay89, k0_pay91, dif_pos hr]

theorem f0_ca : FHi (fun s => s) (mt a 0#32 0#32) qa K T ca (k0_pay101 a T ca (Scalar.addi (Scalar.muli a 4#32) 0#32) (k0_pay95 qa K) (k0_pay96 (F := Ideal))) := by
  unfold FHi; intro s
  pointwise [k0_pay92, k0_pay94, k0_pay95, k0_pay96, k0_pay97, k0_pay98, k0_pay99, k0_pay100, k0_pay101, FHi, mt, row, mat, mat2, mw, zR, lkU, lkR, upR, wR, gR, beR, dzR, wF, select_one]

theorem f0_da : EHi (fun s => s) (mt a 0#32 0#32) qa K V T ca da (k0_pay102 a T ca da (Scalar.addi (Scalar.muli a 4#32) 0#32) (k0_pay93 V) (k0_pay94 qa K) (k0_pay95 qa K) (k0_pay96 (F := Ideal))) := by
  unfold EHi; intro s x
  pointwise [k0_pay92, k0_pay93, k0_pay94, k0_pay95, k0_pay96, k0_pay97, k0_pay98, k0_pay99, k0_pay100, k0_pay102, EHi, mt, row, mat, mat2, mw, zR, lkU, lkR, upR, wR, gR, beR, dzR, wF, select_one]

theorem f0_cb : FHi (fun s => s) (mt a 0#32 0#32) qb K T cb (k0_pay109 T cb (Scalar.addi (Scalar.muli a 4#32) 0#32) (k0_pay104 qb (k0_pay92 K)) (Scalar.addi (Scalar.muli a 1024#32) 0#32) 256#32) := by
  unfold FHi; intro s
  pointwise [k0_pay92, k0_pay103, k0_pay104, k0_pay105, k0_pay106, k0_pay107, k0_pay108, k0_pay109, FHi, mt, row, mat, mat2, mw, zR, lkU, lkR, upR, wR, gR, beR, dzR, wF, select_one]

theorem f0_db : EHi (fun s => s) (mt a 0#32 0#32) qb K V T cb db (k0_pay110 T cb db (Scalar.addi (Scalar.muli a 4#32) 0#32) (k0_pay93 V) (k0_pay103 qb (k0_pay92 K)) (k0_pay104 qb (k0_pay92 K)) (Scalar.addi (Scalar.muli a 1024#32) 0#32) 256#32) := by
  unfold EHi; intro s x
  pointwise [k0_pay92, k0_pay93, k0_pay103, k0_pay104, k0_pay105, k0_pay106, k0_pay107, k0_pay108, k0_pay110, EHi, mt, row, mat, mat2, mw, zR, lkU, lkR, upR, wR, gR, beR, dzR, wF, select_one]

theorem k0_pay28_apply (r : Fin 1024) (x : Fin 128) : (k0_pay28 x0) (ix2 r x) = Scalar.select (IntOp.cmpi .slt (BitVec.ofNat 32 x.val) 64#32) (x0 (ix2 r x)) 0 * FloatOps.ofBits (F := Ideal) .bf16 0x3E00#16 := by
  pointwise [k0_pay28, k0_pay26, k0_pay27]

theorem k0_pay29_apply (r : Fin 1024) (x : Fin 128) : (k0_pay29 x0) (ix2 r x) = Scalar.select (IntOp.cmpi .sge (BitVec.ofNat 32 x.val) 64#32) (x0 (ix2 r x)) 0 * FloatOps.ofBits (F := Ideal) .bf16 0x3E00#16 := by
  pointwise [k0_pay29, k0_pay26, k0_pay27]

theorem k0_pay121_apply (r : Fin 1024) (x : Fin 128) : (k0_pay121 (F := Ideal) da db) (ix2 r x) = Scalar.select (IntOp.cmpi .slt (BitVec.ofNat 32 x.val) 64#32) (da (ix2 r x)) (db (ix2 r x)) := by
  pointwise [k0_pay121]

theorem k0_pay1_apply (r : Fin 1024) (e : Fin 2) : (k0_pay1 (F := Ideal) cb k0_pay122 (k0_pay123 ca)) (ix3 0 r e) = Scalar.select (IntOp.cmpi .eq (BitVec.ofNat 32 e.val) 0#32) (ca (ix2 r 0)) (cb (ix2 r 0)) := by
  pointwise [k0_pay1, k0_pay122, k0_pay123]

end Cert.Proof.Sb
-- ==== Proof.SbFBlock.lean ====
/- What a block of the forward kernel leaves: its rows' outputs and the sums of their logarithms. -/
module

public import proofs.«01_k».proof.Proof.SbFwd
public import proofs.«01_k».proof.Proof.SbBlock

@[expose] public section

set_option maxRecDepth 16384
set_option maxHeartbeats 1000000

noncomputable section

namespace Cert.Proof.Sb

open Idealize.ShloMosaic Idealize.ShloMosaic.TcCoe
open Cert.SbKernelIdeal Cert.SbKernelIdeal.Gen

/-- What the two heads of the forward kernel carry. -/
abbrev SF := C × D × C × D

section
variable (a : BitVec 32) (x0 qa qb : Q) (T : M) (K V : KV) (s : SF)

def ftileg : SF :=
  ((k0_pay8 qa T s.1 K),
   (k0_pay9 qa T s.1 s.2.1 K V),
   (k0_pay114 T s.2.2.1 (k0_pay11 qb K) (k0_pay12 qb K) (k0_pay13 (F := Ideal))),
   (k0_pay115 T s.2.2.1 s.2.2.2 (k0_pay3 V) (k0_pay10 qb K) (k0_pay11 qb K) (k0_pay12 qb K) (k0_pay13 (F := Ideal))))

def ftile3 : SF :=
  ((k0_pay42 a T s.1 (Scalar.addi (Scalar.muli a 4#32) 3#32) (k0_pay36 x0 K) (k0_pay37 x0 K)),
   (k0_pay43 a T s.1 s.2.1 (Scalar.addi (Scalar.muli a 4#32) 3#32) (k0_pay34 V) (k0_pay35 x0 K) (k0_pay36 x0 K) (k0_pay37 x0 K)),
   (k0_pay51 a T s.2.2.1 (Scalar.addi (Scalar.muli a 4#32) 3#32) (k0_pay45 qb (k0_pay33 K)) (k0_pay46 qb (k0_pay33 K)) (FloatOps.ofBits (F := Ideal) .f32 1065353216#32)),
   (k0_pay52 a T s.2.2.1 s.2.2.2 (Scalar.addi (Scalar.muli a 4#32) 3#32) (k0_pay34 V) (k0_pay44 qb (k0_pay33 K)) (k0_pay45 qb (k0_pay33 K)) (k0_pay46 qb (k0_pay33 K)) (FloatOps.ofBits (F := Ideal) .f32 1065353216#32)))

def ftile2 : SF :=
  ((k0_pay63 s.1 (k0_pay60 a qa T s.1 (Scalar.addi (Scalar.muli a 4#32) 2#32) K)),
   (k0_pay64 s.2.1 (k0_pay54 V) (k0_pay61 s.2.1) (k0_pay62 a qa T s.1 (Scalar.addi (Scalar.muli a 4#32) 2#32) K)),
   (k0_pay72 s.2.2.1 (k0_pay71 a qb T s.2.2.1 (Scalar.addi (Scalar.muli a 4#32) 2#32) (k0_pay53 K))),
   (k0_pay73 s.2.2.2 (k0_pay54 V) (k0_pay70 a qb T s.2.2.1 (Scalar.addi (Scalar.muli a 4#32) 2#32) (k0_pay53 K))))

def ftile1 : SF :=
  ((k0_pay81 T s.1 (k0_pay79 a qa K)),
   (k0_pay82 T s.1 s.2.1 (k0_pay75 V) (k0_pay76 qa K) (k0_pay77 a) (k0_pay78 a qa K) (k0_pay79 a qa K)),
   (k0_pay90 T s.2.2.1 (k0_pay84 qb (k0_pay74 K)) (k0_pay85 a (Scalar.addi (Scalar.muli a 4#32) 1#32)) (k0_pay86 (F := Ideal))),
   (k0_pay91 T s.2.2.1 s.2.2.2 (k0_pay75 V) (k0_pay83 qb (k0_pay74 K)) (k0_pay84 qb (k0_pay74 K)) (k0_pay85 a (Scalar.addi (Scalar.muli a 4#32) 1#32)) (k0_pay86 (F := Ideal))))

def ftile0 : SF :=
  ((k0_pay101 a T s.1 (Scalar.addi (Scalar.muli a 4#32) 0#32) (k0_pay95 qa K) (k0_pay96 (F := Ideal))),
   (k0_pay102 a T s.1 s.2.1 (Scalar.addi (Scalar.muli a 4#32) 0#32) (k0_pay93 V) (k0_pay94 qa K) (k0_pay95 qa K) (k0_pay96 (F := Ideal))),
   (k0_pay109 T s.2.2.1 (Scalar.addi (Scalar.muli a 4#32) 0#32) (k0_pay104 qb (k0_pay92 K)) (Scalar.addi (Scalar.muli a 1024#32) 0#32) 256#32),
   (k0_pay110 T s.2.2.1 s.2.2.2 (Scalar.addi (Scalar.muli a 4#32) 0#32) (k0_pay93 V) (k0_pay103 qb (k0_pay92 K)) (k0_pay104 qb (k0_pay92 K)) (Scalar.addi (Scalar.muli a 1024#32) 0#32) 256#32))
end

section
variable (i : ℕ) (q1 q2 k v : ℕ → Fin 128 → ℝ)

/-- The two heads' carries when the keys from `n` on are done. -/
structure FOK (n : ℕ) (s : SF) : Prop where
  A : FCarry i q1 k v n s.1 s.2.1
  B : FCarry i q2 k v n s.2.2.1 s.2.2.2
/-- The block's arrays, read as real functions. -/
structure FBlk (qa qb : Q) (T : M) : Prop where
  A : ∀ r : Fin 1024, row qa r = up (q1 (1024 * i + r.val))
  B : ∀ r : Fin 1024, row qb r = up (q2 (1024 * i + r.val))
  T : mat2 T = tri (· > ·)
end

section
variable {i : ℕ} {q1 q2 k v : ℕ → Fin 128 → ℝ} {x0 qa qb : Q} {T : M} {K V : KV} {s : SF} (hi : i < 8)
include hi

theorem ftileg_ok (hB : FBlk i q1 q2 qa qb T) {b : ℕ} (hb : b + 256 ≤ 1024 * i) (hS : FOK i q1 q2 k v (b + 256) s) (hK : Keys k v b K V) : FOK i q1 q2 k v b (ftileg qa qb T K V s) := by
  exact ⟨hS.A.step hB.A hK hB.T (Mask.below i b hb) (fg_ca _ _ _ _) (fg_da _ _ _ _ _ _) (fun _ h => absurd h (Nat.not_lt_zero _)) (fun _ _ h => absurd h (Nat.not_lt_zero _)),
    hS.B.step hB.B hK hB.T (Mask.below i b hb) (fg_cb _ _ _ _) (fg_db _ _ _ _ _ _) (fun _ h => absurd h (Nat.not_lt_zero _)) (fun _ _ h => absurd h (Nat.not_lt_zero _))⟩

theorem ftile3_ok (hB : FBlk i q1 q2 (k0_pay28 x0) qb T) (hS : FOK i q1 q2 k v (256 * (4 * i + 4)) s) (hK : Keys k v (256 * (4 * i + 3)) K V) : FOK i q1 q2 k v (256 * (4 * i + 3)) (ftile3 (BitVec.ofNat 32 i) x0 qb T K V s) := by
  rw [show 256 * (4 * i + 4) = (256 * (4 * i + 3)) + 256 by ring] at hS
  exact ⟨hS.A.step hB.A hK hB.T (Mask.diag (rr := rr3) i 3 hi (by decide) rfl fun s => rfl) (f3_ca _ _ _ _ _) (f3_da _ _ _ _ _ _ _) (g3_ca _ _ _ _ _) (g3_da _ _ _ _ _ _ _),
    hS.B.step hB.B hK hB.T (Mask.diag (rr := rr3) i 3 hi (by decide) rfl fun s => rfl) (f3_cb _ _ _ _ _) (f3_db _ _ _ _ _ _ _) (g3_cb _ _ _ _ _) (g3_db _ _ _ _ _ _ _)⟩

theorem ftile2_ok (hB : FBlk i q1 q2 qa qb T) (hS : FOK i q1 q2 k v (256 * (4 * i + 3)) s) (hK : Keys k v (256 * (4 * i + 2)) K V) : FOK i q1 q2 k v (256 * (4 * i + 2)) (ftile2 (BitVec.ofNat 32 i) qa qb T K V s) := by
  rw [show 256 * (4 * i + 3) = (256 * (4 * i + 2)) + 256 by ring] at hS
  exact ⟨hS.A.step hB.A hK hB.T (Mask.diag (rr := rr2) i 2 hi (by decide) rfl fun s => rfl) (f2_ca _ _ _ _ _) (f2_da _ _ _ _ _ _ _) (g2_ca _ _ _ _ _) (g2_da _ _ _ _ _ _ _),
    hS.B.step hB.B hK hB.T (Mask.diag (rr := rr2) i 2 hi (by decide) rfl fun s => rfl) (f2_cb _ _ _ _ _) (f2_db _ _ _ _ _ _ _) (g2_cb _ _ _ _ _) (g2_db _ _ _ _ _ _ _)⟩

theorem ftile1_ok (hB : FBlk i q1 q2 qa qb T) (hS : FOK i q1 q2 k v (256 * (4 * i + 2)) s) (hK : Keys k v (256 * (4 * i + 1)) K V) : FOK i q1 q2 k v (256 * (4 * i + 1)) (ftile1 (BitVec.ofNat 32 i) qa qb T K V s) := by
  rw [show 256 * (4 * i + 2) = (256 * (4 * i + 1)) + 256 by ring] at hS
  exact ⟨hS.A.step hB.A hK hB.T (Mask.diag (rr := rr1) i 1 hi (by decide) rfl fun s => rfl) (f1_ca _ _ _ _ _) (f1_da _ _ _ _ _ _ _) (g1_ca _ _ _ _ _) (g1_da _ _ _ _ _ _ _),
    hS.B.step hB.B hK hB.T (Mask.diag (rr := rr1) i 1 hi (by decide) rfl fun s => rfl) (f1_cb _ _ _ _ _) (f1_db _ _ _ _ _ _ _) (g1_cb _ _ _ _ _) (g1_db _ _ _ _ _ _ _)⟩

theorem ftile0_ok (hB : FBlk i q1 q2 qa qb T) (hS : FOK i q1 q2 k v (256 * (4 * i + 1)) s) (hK : Keys k v (256 * (4 * i + 0)) K V) : FOK i q1 q2 k v (256 * (4 * i + 0)) (ftile0 (BitVec.ofNat 32 i) qa qb T K V s) := by
  rw [show 256 * (4 * i + 1) = (256 * (4 * i + 0)) + 256 by ring] at hS
  exact ⟨hS.A.step hB.A hK hB.T (Mask.diag (rr := fun s => s) i 0 hi (by decide) rfl fun s => (Nat.zero_add _).symm) (f0_ca _ _ _ _ _) (f0_da _ _ _ _ _ _ _) (fun _ h => absurd h (Nat.not_lt_zero _)) (fun _ _ h => absurd h (Nat.not_lt_zero _)),
    hS.B.step hB.B hK hB.T (Mask.diag (rr := fun s => s) i 0 hi (by decide) rfl fun s => (Nat.zero_add _).symm) (f0_cb _ _ _ _ _) (f0_db _ _ _ _ _ _ _) (fun _ h => absurd h (Nat.not_lt_zero _)) (fun _ _ h => absurd h (Nat.not_lt_zero _))⟩

end

theorem fzero_ok {i : ℕ} (hi : i < 8) (q1 q2 k v : ℕ → Fin 128 → ℝ) : FOK i q1 q2 k v (256 * (4 * i + 4)) (k0_pay31 (F := Ideal), k0_pay32 (F := Ideal), k0_pay31 (F := Ideal), k0_pay32 (F := Ideal)) := by
  have h : (Ideal.ofBits .f32 0#32 : EReal) = ((0 : ℝ) : EReal) := by rw [Ideal.ofBits_zero_f32, EReal.coe_zero]
  have e1 : ∀ (q : ℕ → Fin 128 → ℝ) (r : Fin 1024), Sr (1024 * i + r.val) (q (1024 * i + r.val)) k 8192 - Sr (1024 * i + r.val) (q (1024 * i + r.val)) k (256 * (4 * i + 4)) = 0 := fun q r => by
    rw [show 8192 = 256 * (4 * i + 4) + (8192 - 256 * (4 * i + 4)) by omega, Sr_of_le (by omega), sub_self]
  have e2 : ∀ (q : ℕ → Fin 128 → ℝ) (r : Fin 1024) (x : Fin 128), DO q k v (1024 * i + r.val) (256 * (4 * i + 4)) x = 0 := fun q r x => by
    rw [DO, show 8192 = 256 * (4 * i + 4) + (8192 - 256 * (4 * i + 4)) by omega,
      range_of_le (t := 1024 * i + r.val) (by omega) _ (fun j hj => by rw [Wr_of_le hj, zero_mul]), sub_self]
  refine ⟨⟨fun r => ?_, fun r x => ?_⟩, ⟨fun r => ?_, fun r x => ?_⟩⟩ <;> simp only [e1, e2] <;> exact h

/-- What a block of the forward kernel is given. -/
structure FIn (i : ℕ) (Q0 k v : ℕ → Fin 128 → ℝ) (x0 : Vec Ideal S1024x128 .bf16) (x1 x2 : Vec Ideal S8192x128 .bf16) (x3 : Vec Ideal S256x256 .bf16) : Prop where
  h0 : ∀ (r : Fin 1024) x, x0 (ix2 r x) = ((Q0 (1024 * i + r.val) x : ℝ) : EReal)
  h1 : ∀ y x, x1 (ix2 y x) = ((k y.val x : ℝ) : EReal)
  h2 : ∀ y x, x2 (ix2 y x) = ((v y.val x : ℝ) : EReal)
  h3 : mat2 x3 = tri (· > ·)

theorem FIn.blk {i : ℕ} {Q0 k v : ℕ → Fin 128 → ℝ} {x0 : Vec Ideal S1024x128 .bf16} {x1 x2 : Vec Ideal S8192x128 .bf16} {x3 : Vec Ideal S256x256 .bf16} (h : FIn i Q0 k v x0 x1 x2 x3) :
    FBlk i (qA Q0) (qB Q0) (k0_pay28 x0) (k0_pay29 x0) (k0_pay30 x3) := by
  refine ⟨fun r => funext fun x => ?_, fun r => funext fun x => ?_, ?_⟩
  · rw [row, k0_pay28_apply, lt64, h.h0, eighth, up, qA]; split <;> simp [Scalar.select, EReal.coe_mul]
  · rw [row, k0_pay29_apply, ge64, h.h0, eighth, up, qB]; split <;> simp [Scalar.select, EReal.coe_mul]
  · exact (congrArg mat2 (Idealize.ShloMosaic.shapeCast_self _ _)).trans h.h3

section
variable (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole)
  (arg6 : Memref sig .tc .vmem S1024x128 .bf16) (harg6 : arg6.IsWhole) (arg7 : Memref sig .tc .vmem S1x1024x2 .f32) (harg7 : arg7.IsWhole)

section
variable {q1 q2 k v : ℕ → Fin 128 → ℝ} {x1 x2 : Vec Ideal S8192x128 .bf16} (h1 : ∀ y x, x1 (ix2 y x) = ((k y.val x : ℝ) : EReal))
  (h2 : ∀ y x, x2 (ix2 y x) = ((v y.val x : ℝ) : EReal)) (c : Dev nD) (qa qb : Q) (T : M) (v345 : FVec Ideal S1024x1 .f32) (v347 : FVec Ideal S1024x128 .f32) (v349 : BitVec 32) (v357 : FVec Ideal S256x128 .bf16) (v396 : FVec Ideal S1024x1 .f32) (v399 : FVec Ideal S1024x128 .f32) (v400 : FVec Ideal S1024x256 .f32) (v412 : FVec Ideal S1024x256 .f32) (v414 w : BitVec 32) (hB : FBlk (i 1).val q1 q2 qa qb T)
  (s0 : SF) (hs : FOK (i 1).val q1 q2 k v (256 * (4 * (i 1).val + 0)) s0)

theorem ftrip_eq (n : Fin (k0_t1_loop i).trips) (s : SF) :
    tripR_k0_t1 (F := Ideal) Variants.none c none i arg2 harg2 arg3 harg3 arg4 harg4 arg5 harg5 arg6 harg6 arg7 harg7 (BitVec.ofNat 32 (i 1).val) qa qb T v345 v347 v349 v357 v396 v399 v400 v412 v414 w (harg3.unread x1) (harg4.unread x2) n s
      = ftileg qa qb T (arg3.view.readAt (Elt Ideal) (Rect.unit (s := S8192x128) (k0_off2 i n) S256x128.size (k0_off2_inb i n)).toLoadRect (harg3.unread x1)) (arg4.view.readAt (Elt Ideal) (Rect.unit (s := S8192x128) (k0_off2 i n) S256x128.size (k0_off2_inb i n)).toLoadRect (harg4.unread x2)) s := by
  unfold tripR_k0_t1 trip_k0_t1
  rfl

include h1 h2 hB hs

/-- The loop over the tiles below the diagonal, from the last to the first. -/
theorem floop_ok : ∀ n ≤ 4 * (i 1).val, FOK (i 1).val q1 q2 k v (256 * (4 * (i 1).val - n)) (st_k0_t1 (F := Ideal) Variants.none c none i arg2 harg2 arg3 harg3 arg4 harg4 arg5 harg5 arg6 harg6 arg7 harg7 (BitVec.ofNat 32 (i 1).val) qa qb T v345 v347 v349 v357 v396 v399 v400 v412 v414 w (harg3.unread x1) (harg4.unread x2) s0 n) := by
  intro n
  induction n with
  | zero => exact fun _ => hs
  | succ n ih =>
    intro hn
    have a1 := ih (by omega)
    have hk : n < (k0_t1_loop i).trips := by rw [ftrips1]; omega
    have e := st_k0_t1_succ (F := Ideal) Variants.none c none i arg2 harg2 arg3 harg3 arg4 harg4 arg5 harg5 arg6 harg6 arg7 harg7 (BitVec.ofNat 32 (i 1).val) qa qb T v345 v347 v349 v357 v396 v399 v400 v412 v414 w (harg3.unread x1) (harg4.unread x2) s0 ⟨n, hk⟩
    rw [ftrip_eq i arg2 harg2 arg3 harg3 arg4 harg4 arg5 harg5 arg6 harg6 arg7 harg7 c qa qb T v345 v347 v349 v357 v396 v399 v400 v412 v414 w ⟨n, hk⟩] at e
    rw [e]
    have hK := keys_ok h1 h2 harg3 harg4 (foff2 i ⟨n, hk⟩) (k0_off2_inb i ⟨n, hk⟩)
    have e3 : 256 * (4 * (i 1).val - (n + 1)) = 256 * (4 * (i 1).val - 1 - n) := by omega
    have e4 : 256 * (4 * (i 1).val - n) = 256 * (4 * (i 1).val - 1 - n) + 256 := by omega
    rw [e4] at a1
    rw [e3]
    exact ftileg_ok (flt1 i) hB (by omega) a1 hK
end

section
variable (c : Dev nD) (x0 : Vec Ideal S1024x128 .bf16) (x1 : Vec Ideal S8192x128 .bf16) (x2 : Vec Ideal S8192x128 .bf16) (x3 : Vec Ideal S256x256 .bf16)

def fdiag3 : SF := ftile3 (BitVec.ofNat 32 (i 1).val) (View.readAt (Elt Ideal) arg2.view (Rect.unit (s := S1024x128) ![0, 0] S1024x128.size inb_S1024x128_S1024x128_0_0).toLoadRect (harg2.unread x0)) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (arg3.view.readAt (Elt Ideal) (Rect.unit (s := S8192x128) (k0_off1 i 3#32) S256x128.size (k0_off1_inb i 3)).toLoadRect (harg3.unread x1)) (arg4.view.readAt (Elt Ideal) (Rect.unit (s := S8192x128) (k0_off1 i 3#32) S256x128.size (k0_off1_inb i 3)).toLoadRect (harg4.unread x2)) (k0_pay31 (F := Ideal), k0_pay32 (F := Ideal), k0_pay31 (F := Ideal), k0_pay32 (F := Ideal))
def fdiag2 : SF := ftile2 (BitVec.ofNat 32 (i 1).val) (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (arg3.view.readAt (Elt Ideal) (Rect.unit (s := S8192x128) (k0_off1 i 2#32) S256x128.size (k0_off1_inb i 2)).toLoadRect (harg3.unread x1)) (arg4.view.readAt (Elt Ideal) (Rect.unit (s := S8192x128) (k0_off1 i 2#32) S256x128.size (k0_off1_inb i 2)).toLoadRect (harg4.unread x2)) (fdiag3 i arg2 harg2 arg3 harg3 arg4 harg4 arg5 harg5 x0 x1 x2 x3)
def fdiag1 : SF := ftile1 (BitVec.ofNat 32 (i 1).val) (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (arg3.view.readAt (Elt Ideal) (Rect.unit (s := S8192x128) (k0_off1 i 1#32) S256x128.size (k0_off1_inb i 1)).toLoadRect (harg3.unread x1)) (arg4.view.readAt (Elt Ideal) (Rect.unit (s := S8192x128) (k0_off1 i 1#32) S256x128.size (k0_off1_inb i 1)).toLoadRect (harg4.unread x2)) (fdiag2 i arg2 harg2 arg3 harg3 arg4 harg4 arg5 harg5 x0 x1 x2 x3)
def fdiag0 : SF := ftile0 (BitVec.ofNat 32 (i 1).val) (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (arg3.view.readAt (Elt Ideal) (Rect.unit (s := S8192x128) (k0_off1 i 0#32) S256x128.size (k0_off1_inb i 0)).toLoadRect (harg3.unread x1)) (arg4.view.readAt (Elt Ideal) (Rect.unit (s := S8192x128) (k0_off1 i 0#32) S256x128.size (k0_off1_inb i 0)).toLoadRect (harg4.unread x2)) (fdiag1 i arg2 harg2 arg3 harg3 arg4 harg4 arg5 harg5 x0 x1 x2 x3)

/-- The loop below the diagonal, of the block's loads. -/
def flow : SF := st_k0_t1 (F := Ideal) Variants.none c none i arg2 harg2 arg3 harg3 arg4 harg4 arg5 harg5 arg6 harg6 arg7 harg7 (BitVec.ofNat 32 (i 1).val) (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (fdiag1 i arg2 harg2 arg3 harg3 arg4 harg4 arg5 harg5 x0 x1 x2 x3).2.2.1 (fdiag1 i arg2 harg2 arg3 harg3 arg4 harg4 arg5 harg5 x0 x1 x2 x3).2.2.2 (Scalar.addi (Scalar.muli (BitVec.ofNat 32 (i 1).val) 4#32) 0#32) (k0_pay93 (arg4.view.readAt (Elt Ideal) (Rect.unit (s := S8192x128) (k0_off1 i 0#32) S256x128.size (k0_off1_inb i 0)).toLoadRect (harg4.unread x2))) (fdiag0 i arg2 harg2 arg3 harg3 arg4 harg4 arg5 harg5 x0 x1 x2 x3).1 (fdiag0 i arg2 harg2 arg3 harg3 arg4 harg4 arg5 harg5 x0 x1 x2 x3).2.1 (k0_pay103 (k0_pay29 (View.readAt (Elt Ideal) arg2.view (Rect.unit (s := S1024x128) ![0, 0] S1024x128.size inb_S1024x128_S1024x128_0_0).toLoadRect (harg2.unread x0))) (k0_pay92 (arg3.view.readAt (Elt Ideal) (Rect.unit (s := S8192x128) (k0_off1 i 0#32) S256x128.size (k0_off1_inb i 0)).toLoadRect (harg3.unread x1)))) (k0_pay104 (k0_pay29 (View.readAt (Elt Ideal) arg2.view (Rect.unit (s := S1024x128) ![0, 0] S1024x128.size inb_S1024x128_S1024x128_0_0).toLoadRect (harg2.unread x0))) (k0_pay92 (arg3.view.readAt (Elt Ideal) (Rect.unit (s := S8192x128) (k0_off1 i 0#32) S256x128.size (k0_off1_inb i 0)).toLoadRect (harg3.unread x1)))) (Scalar.addi (Scalar.muli (BitVec.ofNat 32 (i 1).val) 1024#32) 0#32) 256#32 (harg3.unread x1) (harg4.unread x2) (fdiag0 i arg2 harg2 arg3 harg3 arg4 harg4 arg5 harg5 x0 x1 x2 x3) (Scf.trips (k0_t1_loop i).lb (k0_t1_loop i).ub (k0_t1_loop i).st)

/-- The remainder loop after it. -/
def frest : SF := st_k0_t2 (F := Ideal) Variants.none c none i arg2 harg2 arg3 harg3 arg4 harg4 arg5 harg5 arg6 harg6 arg7 harg7 (BitVec.ofNat 32 (i 1).val) (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (fdiag1 i arg2 harg2 arg3 harg3 arg4 harg4 arg5 harg5 x0 x1 x2 x3).2.2.1 (fdiag1 i arg2 harg2 arg3 harg3 arg4 harg4 arg5 harg5 x0 x1 x2 x3).2.2.2 (Scalar.addi (Scalar.muli (BitVec.ofNat 32 (i 1).val) 4#32) 0#32) (k0_pay93 (arg4.view.readAt (Elt Ideal) (Rect.unit (s := S8192x128) (k0_off1 i 0#32) S256x128.size (k0_off1_inb i 0)).toLoadRect (harg4.unread x2))) (fdiag0 i arg2 harg2 arg3 harg3 arg4 harg4 arg5 harg5 x0 x1 x2 x3).1 (fdiag0 i arg2 harg2 arg3 harg3 arg4 harg4 arg5 harg5 x0 x1 x2 x3).2.1 (k0_pay103 (k0_pay29 (View.readAt (Elt Ideal) arg2.view (Rect.unit (s := S1024x128) ![0, 0] S1024x128.size inb_S1024x128_S1024x128_0_0).toLoadRect (harg2.unread x0))) (k0_pay92 (arg3.view.readAt (Elt Ideal) (Rect.unit (s := S8192x128) (k0_off1 i 0#32) S256x128.size (k0_off1_inb i 0)).toLoadRect (harg3.unread x1)))) (k0_pay104 (k0_pay29 (View.readAt (Elt Ideal) arg2.view (Rect.unit (s := S1024x128) ![0, 0] S1024x128.size inb_S1024x128_S1024x128_0_0).toLoadRect (harg2.unread x0))) (k0_pay92 (arg3.view.readAt (Elt Ideal) (Rect.unit (s := S8192x128) (k0_off1 i 0#32) S256x128.size (k0_off1_inb i 0)).toLoadRect (harg3.unread x1)))) (Scalar.addi (Scalar.muli (BitVec.ofNat 32 (i 1).val) 1024#32) 0#32) 256#32 (kernelRun0_A.sl.v447 i) (harg3.unread x1) (harg4.unread x2) (flow i arg2 harg2 arg3 harg3 arg4 harg4 arg5 harg5 arg6 harg6 arg7 harg7 c x0 x1 x2 x3) (Scf.trips (k0_t2_loop i).lb (k0_t2_loop i).ub (k0_t2_loop i).st)

theorem frest_eq : frest i arg2 harg2 arg3 harg3 arg4 harg4 arg5 harg5 arg6 harg6 arg7 harg7 c x0 x1 x2 x3 = flow i arg2 harg2 arg3 harg3 arg4 harg4 arg5 harg5 arg6 harg6 arg7 harg7 c x0 x1 x2 x3 := by
  have h : Scf.trips (k0_t2_loop i).lb (k0_t2_loop i).ub (k0_t2_loop i).st = 0 := ftrips2 i
  rw [frest, h]
  rfl

theorem runF_o : (kernelRun0_A (F := Ideal) c i arg2 harg2 arg3 harg3 arg4 harg4 arg5 harg5 arg6 harg6 arg7 harg7 x0 x1 x2 x3).1
    = [⟨Rect.unit (s := S1024x128) ![0, 0] S1024x128.size inb_S1024x128_S1024x128_0_0, k0_pay121 (F := Ideal) (frest i arg2 harg2 arg3 harg3 arg4 harg4 arg5 harg5 arg6 harg6 arg7 harg7 c x0 x1 x2 x3).2.1 (frest i arg2 harg2 arg3 harg3 arg4 harg4 arg5 harg5 arg6 harg6 arg7 harg7 c x0 x1 x2 x3).2.2.2⟩] := by sl_kernel_rfl

theorem runF_l : (kernelRun0_A (F := Ideal) c i arg2 harg2 arg3 harg3 arg4 harg4 arg5 harg5 arg6 harg6 arg7 harg7 x0 x1 x2 x3).2.1
    = [⟨Rect.unit (s := S1x1024x2) ![0, 0, 0] S1x1024x2.size inb_S1x1024x2_S1x1024x2_0_0_0, k0_pay1 (F := Ideal) (frest i arg2 harg2 arg3 harg3 arg4 harg4 arg5 harg5 arg6 harg6 arg7 harg7 c x0 x1 x2 x3).2.2.1 k0_pay122 (k0_pay123 (F := Ideal) (frest i arg2 harg2 arg3 harg3 arg4 harg4 arg5 harg5 arg6 harg6 arg7 harg7 c x0 x1 x2 x3).1)⟩] := by sl_kernel_rfl

variable {Q0 k v : ℕ → Fin 128 → ℝ} (h : FIn (i 1).val Q0 k v x0 x1 x2 x3)
include h

theorem fheads_ok : FBlk (i 1).val (qA Q0) (qB Q0) (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) := by
  have e0 : (View.readAt (Elt Ideal) arg2.view (Rect.unit (s := S1024x128) ![0, 0] S1024x128.size inb_S1024x128_S1024x128_0_0).toLoadRect (harg2.unread x0)) = x0 := (View.readAt_full (Val := Elt Ideal) arg2.view (harg2.unread x0) inb_S1024x128_S1024x128_0_0).trans (harg2.read_unread x0)
  have e3 : (View.readAt (Elt Ideal) arg5.view (Rect.unit (s := S256x256) ![0, 0] S256x256.size inb_S256x256_S256x256_0_0).toLoadRect (harg5.unread x3)) = x3 := (View.readAt_full (Val := Elt Ideal) arg5.view (harg5.unread x3) inb_S256x256_S256x256_0_0).trans (harg5.read_unread x3)
  rw [e0, e3]
  exact h.blk

theorem ftiles_ok (d : ℕ) (hd : d < 4) (inb) : Keys k v (256 * (4 * (i 1).val + d)) (View.readAt (Elt Ideal) arg3.view (Rect.unit (s := S8192x128) (k0_off1 i (BitVec.ofNat 32 d)) S256x128.size inb).toLoadRect (harg3.unread x1))
    (View.readAt (Elt Ideal) arg4.view (Rect.unit (s := S8192x128) (k0_off1 i (BitVec.ofNat 32 d)) S256x128.size inb).toLoadRect (harg4.unread x2)) :=
  keys_ok h.h1 h.h2 harg3 harg4 (foff1 i d hd) inb

theorem frest_ok : FOK (i 1).val (qA Q0) (qB Q0) k v 0 (frest i arg2 harg2 arg3 harg3 arg4 harg4 arg5 harg5 arg6 harg6 arg7 harg7 c x0 x1 x2 x3) := by
  have e : Scf.trips (k0_t1_loop i).lb (k0_t1_loop i).ub (k0_t1_loop i).st = 4 * (i 1).val := ftrips1 i
  have hB := fheads_ok i arg2 harg2 arg5 harg5 x0 x1 x2 x3 h
  have s3 := ftile3_ok (flt1 i) hB (fzero_ok (flt1 i) (qA Q0) (qB Q0) k v) (ftiles_ok i arg3 harg3 arg4 harg4 x0 x1 x2 x3 h 3 (by decide) (k0_off1_inb i 3))
  have s2 := ftile2_ok (flt1 i) hB s3 (ftiles_ok i arg3 harg3 arg4 harg4 x0 x1 x2 x3 h 2 (by decide) (k0_off1_inb i 2))
  have s1 := ftile1_ok (flt1 i) hB s2 (ftiles_ok i arg3 harg3 arg4 harg4 x0 x1 x2 x3 h 1 (by decide) (k0_off1_inb i 1))
  have s0 := ftile0_ok (flt1 i) hB s1 (ftiles_ok i arg3 harg3 arg4 harg4 x0 x1 x2 x3 h 0 (by decide) (k0_off1_inb i 0))
  rw [frest_eq, flow, e]
  have hl := floop_ok i arg2 harg2 arg3 harg3 arg4 harg4 arg5 harg5 arg6 harg6 arg7 harg7 h.h1 h.h2 c (k0_pay28 (View.readAt (Elt Ideal) arg2.view (Rect.unit (s := S1024x128) ![0, 0] S1024x128.size inb_S1024x128_S1024x128_0_0).toLoadRect (harg2.unread x0))) (k0_pay29 (View.readAt (Elt Ideal) arg2.view (Rect.unit (s := S1024x128) ![0, 0] S1024x128.size inb_S1024x128_S1024x128_0_0).toLoadRect (harg2.unread x0))) (k0_pay30 (View.readAt (Elt Ideal) arg5.view (Rect.unit (s := S256x256) ![0, 0] S256x256.size inb_S256x256_S256x256_0_0).toLoadRect (harg5.unread x3))) (fdiag1 i arg2 harg2 arg3 harg3 arg4 harg4 arg5 harg5 x0 x1 x2 x3).2.2.1 (fdiag1 i arg2 harg2 arg3 harg3 arg4 harg4 arg5 harg5 x0 x1 x2 x3).2.2.2 (Scalar.addi (Scalar.muli (BitVec.ofNat 32 (i 1).val) 4#32) 0#32) (k0_pay93 (arg4.view.readAt (Elt Ideal) (Rect.unit (s := S8192x128) (k0_off1 i 0#32) S256x128.size (k0_off1_inb i 0)).toLoadRect (harg4.unread x2))) (fdiag0 i arg2 harg2 arg3 harg3 arg4 harg4 arg5 harg5 x0 x1 x2 x3).1 (fdiag0 i arg2 harg2 arg3 harg3 arg4 harg4 arg5 harg5 x0 x1 x2 x3).2.1 (k0_pay103 (k0_pay29 (View.readAt (Elt Ideal) arg2.view (Rect.unit (s := S1024x128) ![0, 0] S1024x128.size inb_S1024x128_S1024x128_0_0).toLoadRect (harg2.unread x0))) (k0_pay92 (arg3.view.readAt (Elt Ideal) (Rect.unit (s := S8192x128) (k0_off1 i 0#32) S256x128.size (k0_off1_inb i 0)).toLoadRect (harg3.unread x1)))) (k0_pay104 (k0_pay29 (View.readAt (Elt Ideal) arg2.view (Rect.unit (s := S1024x128) ![0, 0] S1024x128.size inb_S1024x128_S1024x128_0_0).toLoadRect (harg2.unread x0))) (k0_pay92 (arg3.view.readAt (Elt Ideal) (Rect.unit (s := S8192x128) (k0_off1 i 0#32) S256x128.size (k0_off1_inb i 0)).toLoadRect (harg3.unread x1)))) (Scalar.addi (Scalar.muli (BitVec.ofNat 32 (i 1).val) 1024#32) 0#32) 256#32 hB (fdiag0 i arg2 harg2 arg3 harg3 arg4 harg4 arg5 harg5 x0 x1 x2 x3) s0 _ le_rfl
  rw [Nat.sub_self, Nat.mul_zero] at hl
  exact hl

/-- A row's output, of the head its lane belongs to. -/
theorem outF_4 (r : Fin 1024) (x : Fin 128) : out0_A_4 (F := Ideal) c i arg2 harg2 arg3 harg3 arg4 harg4 arg5 harg5 arg6 harg6 arg7 harg7 x0 x1 x2 x3 (ix2 r x)
    = ((if x.val < 64 then DO (qA Q0) k v (1024 * (i 1).val + r.val) 0 x else DO (qB Q0) k v (1024 * (i 1).val + r.val) 0 x : ℝ) : EReal) := by
  have hm := frest_ok i arg2 harg2 arg3 harg3 arg4 harg4 arg5 harg5 arg6 harg6 arg7 harg7 c x0 x1 x2 x3 h
  unfold out0_A_4
  rw [runF_o i arg2 harg2 arg3 harg3 arg4 harg4 arg5 harg5 arg6 harg6 arg7 harg7 c x0 x1 x2 x3, View.read_writes_cons_unit_of_mem VO0_4 VO0_4.junk inb_S1024x128_S1024x128_0_0 _ [] (ix2 r x) (ix2 r x) rfl (fun a => by fin_cases a <;> exact (Nat.zero_add _).symm)]
  rw [k0_pay121_apply, hm.A.hd, hm.B.hd, lt64]
  split <;> simp only [Scalar.select] <;> rfl

/-- A row's sum of logarithms, of each head. -/
theorem outF_5 (r : Fin 1024) (e : Fin 2) : out0_A_5 (F := Ideal) c i arg2 harg2 arg3 harg3 arg4 harg4 arg5 harg5 arg6 harg6 arg7 harg7 x0 x1 x2 x3 (ix3 0 r e)
    = ((if e.val = 0 then Sr (1024 * (i 1).val + r.val) (qA Q0 (1024 * (i 1).val + r.val)) k 8192 else Sr (1024 * (i 1).val + r.val) (qB Q0 (1024 * (i 1).val + r.val)) k 8192 : ℝ) : EReal) := by
  have hm := frest_ok i arg2 harg2 arg3 harg3 arg4 harg4 arg5 harg5 arg6 harg6 arg7 harg7 c x0 x1 x2 x3 h
  unfold out0_A_5
  rw [runF_l i arg2 harg2 arg3 harg3 arg4 harg4 arg5 harg5 arg6 harg6 arg7 harg7 c x0 x1 x2 x3, View.read_writes_cons_unit_of_mem VO0_5 VO0_5.junk inb_S1x1024x2_S1x1024x2_0_0_0 _ [] (ix3 0 r e) (ix3 0 r e) rfl (fun a => by fin_cases a <;> exact (Nat.zero_add _).symm)]
  rw [k0_pay1_apply, hm.A.hc, hm.B.hc]
  fin_cases e <;> simp [Scalar.select, IntOp.cmpi, Sr]
end
end

end Cert.Proof.Sb
-- ==== Proof.SbArrays.lean ====
/- The arrays of the stick-breaking attention's two kernels, from their blocks. -/
module

public import proofs.«01_k».proof.Proof.SbBlock
public import proofs.«01_k».proof.Proof.SbFBlock
public import Idealize.ShloMosaic.Lib.Pipeline.ValueKit
public import Idealize.ShloMosaic.Lib.Pointwise

@[expose] public section

set_option maxRecDepth 16384
set_option maxHeartbeats 1000000

noncomputable section

namespace Cert.Proof.Sb

open Idealize.ShloMosaic Idealize.ShloMosaic.TcCoe Idealize.SL.Sem
open Cert.SbKernelIdeal Cert.SbKernelIdeal.Gen

/-- The queries, keys and values of a pair of heads, and the pair's cotangent. -/
def Qp (X : ℕ → ℕ → ℝ) (p t : ℕ) (x : Fin 128) : ℝ := X t (128 * p + x.val)
def Kp (X : ℕ → ℕ → ℝ) (p t : ℕ) (x : Fin 128) : ℝ := X t (1024 + 128 * p + x.val)
def Vp (X : ℕ → ℕ → ℝ) (p t : ℕ) (x : Fin 128) : ℝ := X t (2048 + 128 * p + x.val)

theorem idx0 : ∀ t : Fin cfg0.N, win0_0.index t = ![t.val % 8, t.val / 8] ∧ win0_1.index t = ![0, 8 + t.val / 8]
    ∧ win0_2.index t = ![0, 16 + t.val / 8] ∧ win0_3.index t = ![0, 0] ∧ win0_4.index t = ![t.val % 8, t.val / 8]
    ∧ win0_5.index t = ![t.val / 8, t.val % 8, 0] ∧ (grid0.coords t 1).val = t.val % 8 :=
  (by decide +kernel : ∀ t : Fin grid0.N, win0_0.index t = ![t.val % 8, t.val / 8] ∧ win0_1.index t = ![0, 8 + t.val / 8]
    ∧ win0_2.index t = ![0, 16 + t.val / 8] ∧ win0_3.index t = ![0, 0] ∧ win0_4.index t = ![t.val % 8, t.val / 8]
    ∧ win0_5.index t = ![t.val / 8, t.val % 8, 0] ∧ (grid0.coords t 1).val = t.val % 8)

theorem idx1 : ∀ t : Fin cfg1.N, win1_0.index t = ![t.val % 8, t.val / 8] ∧ win1_1.index t = ![0, 8 + t.val / 8]
    ∧ win1_2.index t = ![0, 16 + t.val / 8] ∧ win1_3.index t = ![t.val % 8, t.val / 8] ∧ win1_4.index t = ![t.val / 8, t.val % 8, 0]
    ∧ win1_5.index t = ![0, 0] ∧ win1_6.index t = ![0, 0] ∧ win1_7.index t = ![t.val % 8, t.val / 8]
    ∧ win1_8.index t = ![0, t.val / 8] ∧ win1_9.index t = ![0, t.val / 8] ∧ (grid1.coords t 1).val = t.val % 8 :=
  (by decide +kernel : ∀ t : Fin grid1.N, win1_0.index t = ![t.val % 8, t.val / 8] ∧ win1_1.index t = ![0, 8 + t.val / 8]
    ∧ win1_2.index t = ![0, 16 + t.val / 8] ∧ win1_3.index t = ![t.val % 8, t.val / 8] ∧ win1_4.index t = ![t.val / 8, t.val % 8, 0]
    ∧ win1_5.index t = ![0, 0] ∧ win1_6.index t = ![0, 0] ∧ win1_7.index t = ![t.val % 8, t.val / 8]
    ∧ win1_8.index t = ![0, t.val / 8] ∧ win1_9.index t = ![0, t.val / 8] ∧ (grid1.coords t 1).val = t.val % 8)

/-- An array of 8 pairs of heads from its values by pair, row and lane. -/
def pairs {φ : FTy} (f : ℕ → ℕ → Fin 128 → ℝ) : FVec Ideal S8192x1024 φ := fun j =>
  ((f ((j 1).val / 128) (j 0).val ⟨(j 1).val % 128, Nat.mod_lt _ (by decide)⟩ : ℝ) : EReal)

theorem pairs_blk {φ : FTy} (f : ℕ → ℕ → Fin 128 → ℝ) (p : ℕ) (hp : p < 8) (r : Fin 8192) (x : Fin 128) :
    pairs (φ := φ) f (ix2 r ⟨128 * p + x.val, by omega⟩) = ((f p r.val x : ℝ) : EReal) := by
  have e1 : (128 * p + x.val) / 128 = p := by omega
  have e2 : (⟨(128 * p + x.val) % 128, Nat.mod_lt _ (by decide)⟩ : Fin 128) = x := Fin.ext (by show (128 * p + x.val) % 128 = x.val; omega)
  show ((f ((128 * p + x.val) / 128) r.val ⟨(128 * p + x.val) % 128, _⟩ : ℝ) : EReal) = _
  rw [e1, e2]

/-- The attention's output, and the gradients of the queries, the keys and the values: by pair, row and lane. -/
def ATT (X : ℕ → ℕ → ℝ) (p t : ℕ) (x : Fin 128) : ℝ :=
  if x.val < 64 then DO (qA (Qp X p)) (Kp X p) (Vp X p) t 0 x else DO (qB (Qp X p)) (Kp X p) (Vp X p) t 0 x
def GQ (X D : ℕ → ℕ → ℝ) (p t : ℕ) (x : Fin 128) : ℝ :=
  if x.val < 64 then DQ (qA (Qp X p)) (oA (Qp D p)) (Kp X p) (Vp X p) t (1024 * (t / 1024 + 1)) x * (1 / 8)
  else DQ (qB (Qp X p)) (oB (Qp D p)) (Kp X p) (Vp X p) t (1024 * (t / 1024 + 1)) x * (1 / 8)
def GK (X D : ℕ → ℕ → ℝ) (p y : ℕ) (x : Fin 128) : ℝ :=
  ∑ i ∈ Finset.range 8, CK2 i (qA (Qp X p)) (qB (Qp X p)) (oA (Qp D p)) (oB (Qp D p)) (Kp X p) (Vp X p) y x
def GV (X D : ℕ → ℕ → ℝ) (p y : ℕ) (x : Fin 128) : ℝ :=
  ∑ i ∈ Finset.range 8, CV2 i (qA (Qp X p)) (qB (Qp X p)) (oA (Qp D p)) (oB (Qp D p)) (Kp X p) y x

section region0
variable (V : (c : Dev nD) → (b : Ref sig .tc) → Buf (Elt Ideal) ((c : Thread nD τ).loc b)) (c : Dev nD) (X : ℕ → ℕ → ℝ)
  (hx : ∀ (r : Fin 8192) (l : Fin 3072), (V c main_v0 : Vec Ideal S8192x3072 .bf16) (ix2 r l) = ((X r.val l.val : ℝ) : EReal))
  (h4 : mat2 (V c main_v4 : Vec Ideal S256x256 .bf16) = tri (· > ·))
include hx h4

theorem fin0 (t : Fin cfg0.N) : FIn (t.val % 8) (Qp X (t.val / 8)) (Kp X (t.val / 8)) (Vp X (t.val / 8))
    (iblk0 V c 0 t) (iblk0 V c 1 t) (iblk0 V c 2 t) (iblk0 V c 3 t) := by
  have ht : t.val < 64 := t.isLt
  refine ⟨fun r x => ?_, fun y x => ?_, fun y x => ?_, ?_⟩
  · have e : iblk0 V c 0 t (ix2 r x) = (V c main_v0 : Vec Ideal S8192x3072 .bf16) (ix2 ⟨1024 * (t.val % 8) + r.val, by omega⟩ ⟨128 * (t.val / 8) + x.val, by omega⟩) := by
      blk_point [iblk0, idx0 t]
    exact e.trans (hx _ _)
  · have e : iblk0 V c 1 t (ix2 y x) = (V c main_v0 : Vec Ideal S8192x3072 .bf16) (ix2 y ⟨1024 + 128 * (t.val / 8) + x.val, by omega⟩) := by
      blk_point [iblk0, idx0 t]
    exact e.trans (hx _ _)
  · have e : iblk0 V c 2 t (ix2 y x) = (V c main_v0 : Vec Ideal S8192x3072 .bf16) (ix2 y ⟨2048 + 128 * (t.val / 8) + x.val, by omega⟩) := by
      blk_point [iblk0, idx0 t]
    exact e.trans (hx _ _)
  · rw [← h4]
    funext a b
    have e : iblk0 V c 3 t (ix2 a b) = (V c main_v4 : Vec Ideal S256x256 .bf16) (ix2 a b) := by
      blk_point [iblk0, idx0 t]
    exact e

/-- The sum of the log-keeps of a row, of each head. -/
def LTOT : FVec Ideal S8x8192x2 .f32 := fun j =>
  ((if (j 2).val = 0 then Sr (j 1).val (qA (Qp X (j 0).val) (j 1).val) (Kp X (j 0).val) 8192
    else Sr (j 1).val (qB (Qp X (j 0).val) (j 1).val) (Kp X (j 0).val) 8192 : ℝ) : EReal)

theorem outs0_5 (t : Fin cfg0.N) (r : Fin 1024) (e : Fin 2) : (outsAt0 V c t).2 (ix3 0 r e)
    = LTOT X (ix3 ⟨t.val / 8, Nat.div_lt_of_lt_mul t.isLt⟩ ⟨1024 * (t.val % 8) + r.val, by omega⟩ e) := by
  have hi := (idx0 t).2.2.2.2.2.2
  have hf : FIn (grid0.coords t 1).val _ _ _ _ _ _ _ := hi ▸ fin0 V c X hx h4 t
  have e1 : (outsAt0 V c t).2 = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) := by
    rw [outsAt0]
  have e2 := outF_5 (grid0.coords t) (ms0_0 t) (hs0_0 t) (ms0_1 t) (hs0_1 t) (ms0_2 t) (hs0_2 t) (ms0_3 t) (hs0_3 t) (ms0_4 t) (hs0_4 t) (ms0_5 t) (hs0_5 t) c (iblk0 V c 0 t) (iblk0 V c 1 t) (iblk0 V c 2 t) (iblk0 V c 3 t) hf r e
  rw [e1, e2, hi, LTOT]
  rfl

theorem arr0_5 : (dat0 V c).arrAt 5 cfg0.N = LTOT X := by
  refine (dat0 V c).arrAt_eq_of_covers 5 _ (by decide +kernel) fun t _ y => ?_
  have ht : t.val < 64 := t.isLt
  blk_simp
  rw [after0_5]
  idx_vars y
  have e : ((cfg0.win 5).blk t).view.emb (ix3 y0 y1 y2) = (ix3 ⟨t.val / 8, by omega⟩ ⟨1024 * (t.val % 8) + y1.val, by omega⟩ y2 : S8x8192x2.Idx) := by
    blk_ext [idx0 t]
  rw [e]
  obtain rfl : y0 = 0 := Subsingleton.elim _ _
  exact outs0_5 V c X hx h4 t y1 y2

theorem outs0_4 (t : Fin cfg0.N) (r : Fin 1024) (x : Fin 128) : (outsAt0 V c t).1 (ix2 r x)
    = ((ATT X (t.val / 8) (1024 * (t.val % 8) + r.val) x : ℝ) : EReal) := by
  have hi := (idx0 t).2.2.2.2.2.2
  have hf : FIn (grid0.coords t 1).val _ _ _ _ _ _ _ := hi ▸ fin0 V c X hx h4 t
  have e1 : (outsAt0 V c t).1 = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) := by
    rw [outsAt0]
  have e2 := outF_4 (grid0.coords t) (ms0_0 t) (hs0_0 t) (ms0_1 t) (hs0_1 t) (ms0_2 t) (hs0_2 t) (ms0_3 t) (hs0_3 t) (ms0_4 t) (hs0_4 t) (ms0_5 t) (hs0_5 t) c (iblk0 V c 0 t) (iblk0 V c 1 t) (iblk0 V c 2 t) (iblk0 V c 3 t) hf r x
  rw [e1, e2, hi, ATT]

theorem arr0_4 : (dat0 V c).arrAt 4 cfg0.N = pairs (φ := .bf16) (ATT X) := by
  refine (dat0 V c).arrAt_eq_of_covers 4 _ (by decide +kernel) fun t _ y => ?_
  have ht : t.val < 64 := t.isLt
  blk_simp
  rw [after0_4]
  idx_vars y
  have e : ((cfg0.win 4).blk t).view.emb (ix2 y0 y1) = (ix2 ⟨1024 * (t.val % 8) + y0.val, by omega⟩ ⟨128 * (t.val / 8) + y1.val, by omega⟩ : S8192x1024.Idx) := by
    blk_ext [idx0 t]
  rw [e]
  exact (outs0_4 V c X hx h4 t y0 y1).trans (pairs_blk (ATT X) (t.val / 8) (by omega) ⟨1024 * (t.val % 8) + y0.val, by omega⟩ y1).symm

end region0

section region1
variable (V : (c : Dev nD) → (b : Ref sig .tc) → Buf (Elt Ideal) ((c : Thread nD τ).loc b)) (c : Dev nD) (X D : ℕ → ℕ → ℝ)
  (hx : ∀ (r : Fin 8192) (l : Fin 3072), (V c main_v0 : Vec Ideal S8192x3072 .bf16) (ix2 r l) = ((X r.val l.val : ℝ) : EReal))
  (hd : ∀ (r : Fin 8192) (l : Fin 1024), (V c main_v6 : Vec Ideal S8192x1024 .bf16) (ix2 r l) = ((D r.val l.val : ℝ) : EReal))
  (hl : (V c main_v5_1 : Vec Ideal S8x8192x2 .f32) = LTOT X)
  (h10 : mat2 (V c main_v10 : Vec Ideal S256x256 .bf16) = tri (· ≤ ·)) (h14 : mat2 (V c main_v14 : Vec Ideal S256x256 .bf16) = tri (· < ·))
include hx hd hl h10 h14

theorem in1 (t : Fin cfg1.N) : In (t.val % 8) (Qp X (t.val / 8)) (Qp D (t.val / 8)) (Kp X (t.val / 8)) (Vp X (t.val / 8))
    (iblk1 V c 0 t) (iblk1 V c 1 t) (iblk1 V c 2 t) (iblk1 V c 3 t) (iblk1 V c 4 t) (iblk1 V c 5 t) (iblk1 V c 6 t) := by
  have ht : t.val < 64 := t.isLt
  refine ⟨fun r x => ?_, fun y x => ?_, fun y x => ?_, fun r x => ?_, fun r => ?_, fun r => ?_, ?_, ?_⟩
  · have e : iblk1 V c 0 t (ix2 r x) = (V c main_v0 : Vec Ideal S8192x3072 .bf16) (ix2 ⟨1024 * (t.val % 8) + r.val, by omega⟩ ⟨128 * (t.val / 8) + x.val, by omega⟩) := by
      blk_point [iblk1, idx1 t]
    exact e.trans (hx _ _)
  · have e : iblk1 V c 1 t (ix2 y x) = (V c main_v0 : Vec Ideal S8192x3072 .bf16) (ix2 y ⟨1024 + 128 * (t.val / 8) + x.val, by omega⟩) := by
      blk_point [iblk1, idx1 t]
    exact e.trans (hx _ _)
  · have e : iblk1 V c 2 t (ix2 y x) = (V c main_v0 : Vec Ideal S8192x3072 .bf16) (ix2 y ⟨2048 + 128 * (t.val / 8) + x.val, by omega⟩) := by
      blk_point [iblk1, idx1 t]
    exact e.trans (hx _ _)
  · have e : iblk1 V c 3 t (ix2 r x) = (V c main_v6 : Vec Ideal S8192x1024 .bf16) (ix2 ⟨1024 * (t.val % 8) + r.val, by omega⟩ ⟨128 * (t.val / 8) + x.val, by omega⟩) := by
      blk_point [iblk1, idx1 t]
    exact e.trans (hd _ _)
  · have e : iblk1 V c 4 t (ix3 0 r 0) = (V c main_v5_1 : Vec Ideal S8x8192x2 .f32) (ix3 ⟨t.val / 8, by omega⟩ ⟨1024 * (t.val % 8) + r.val, by omega⟩ 0) := by
      blk_point [iblk1, idx1 t]
    rw [e, hl]
    rfl
  · have e : iblk1 V c 4 t (ix3 0 r 1) = (V c main_v5_1 : Vec Ideal S8x8192x2 .f32) (ix3 ⟨t.val / 8, by omega⟩ ⟨1024 * (t.val % 8) + r.val, by omega⟩ 1) := by
      blk_point [iblk1, idx1 t]
    rw [e, hl]
    rfl
  · rw [← h10]
    funext a b
    have e : iblk1 V c 5 t (ix2 a b) = (V c main_v10 : Vec Ideal S256x256 .bf16) (ix2 a b) := by
      blk_point [iblk1, idx1 t]
    exact e
  · rw [← h14]
    funext a b
    have e : iblk1 V c 6 t (ix2 a b) = (V c main_v14 : Vec Ideal S256x256 .bf16) (ix2 a b) := by
      blk_point [iblk1, idx1 t]
    exact e

theorem outs1_7 (t : Fin cfg1.N) (r : Fin 1024) (x : Fin 128) : (outsAt1 V c t.val t.isLt).1 (ix2 r x)
    = ((GQ X D (t.val / 8) (1024 * (t.val % 8) + r.val) x : ℝ) : EReal) := by
  have hi := (idx1 t).2.2.2.2.2.2.2.2.2.2
  have hf : In (grid1.coords t 1).val _ _ _ _ _ _ _ _ _ _ _ := hi ▸ in1 V c X D hx hd hl h10 h14 t
  have hr : (1024 * (t.val % 8) + r.val) / 1024 = t.val % 8 := by omega
  by_cases h0 : t.val % 8 = 0
  · have e2 := outA_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) hf ((hcond1_0 t).mpr h0) r x
    rw [outsAt1_A V c t h0]
    dsimp only
    rw [e2, hi, GQ, hr]
  · have e2 := outB_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) hf (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2 r x
    rw [outsAt1_B V c t h0]
    dsimp only
    rw [e2, hi, GQ, hr]

theorem arr1_7 : (dat1 V c).arrAt 7 cfg1.N = pairs (φ := .f32) (GQ X D) := by
  refine (dat1 V c).arrAt_eq_of_covers 7 _ (by decide +kernel) fun t _ y => ?_
  have ht : t.val < 64 := t.isLt
  blk_simp
  rw [after1_7]
  idx_vars y
  have e : ((cfg1.win 7).blk t).view.emb (ix2 y0 y1) = (ix2 ⟨1024 * (t.val % 8) + y0.val, by omega⟩ ⟨128 * (t.val / 8) + y1.val, by omega⟩ : S8192x1024.Idx) := by
    blk_ext [idx1 t]
  rw [e]
  exact (outs1_7 V c X D hx hd hl h10 h14 t y0 y1).trans (pairs_blk (GQ X D) (t.val / 8) (by omega) ⟨1024 * (t.val % 8) + y0.val, by omega⟩ y1).symm

theorem first1_8 (t : Fin cfg1.N) (h0 : t.val % 8 = 0) (y : Fin 8192) (x : Fin 128) : (outsAt1 V c t.val t.isLt).2.1 (ix2 y x)
    = ((CK2 (t.val % 8) (qA (Qp X (t.val / 8))) (qB (Qp X (t.val / 8))) (oA (Qp D (t.val / 8))) (oB (Qp D (t.val / 8))) (Kp X (t.val / 8)) (Vp X (t.val / 8)) y.val x : ℝ) : EReal) := by
  have hi := (idx1 t).2.2.2.2.2.2.2.2.2.2
  have hf : In (grid1.coords t 1).val _ _ _ _ _ _ _ _ _ _ _ := hi ▸ in1 V c X D hx hd hl h10 h14 t
  have e2 := outA_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) hf ((hcond1_0 t).mpr h0) y x
  rw [outsAt1_A V c t h0]
  dsimp only
  rw [e2, hi, zero_add]

theorem next1_8 (t : Fin cfg1.N) (h0 : ¬ t.val % 8 = 0) (y : Fin 8192) (x : Fin 128) : (outsAt1 V c t.val t.isLt).2.1 (ix2 y x)
    = (outsAt1 V c (t.val - 1) (Nat.lt_of_le_of_lt (Nat.sub_le _ _) t.isLt)).2.1 (ix2 y x) + ((CK2 (t.val % 8) (qA (Qp X (t.val / 8))) (qB (Qp X (t.val / 8))) (oA (Qp D (t.val / 8))) (oB (Qp D (t.val / 8))) (Kp X (t.val / 8)) (Vp X (t.val / 8)) y.val x : ℝ) : EReal) := by
  have hi := (idx1 t).2.2.2.2.2.2.2.2.2.2
  have hf : In (grid1.coords t 1).val _ _ _ _ _ _ _ _ _ _ _ := hi ▸ in1 V c X D hx hd hl h10 h14 t
  have e2 := outB_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) hf (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2 y x
  rw [outsAt1_B V c t h0]
  dsimp only
  rw [e2, hi]

/-- What the rows of a pair's blocks up to point `n` give a key's gradient. -/
theorem outs1_8 : ∀ (n : ℕ) (hn : n < cfg1.N) (y : Fin 8192) (x : Fin 128), (outsAt1 V c n hn).2.1 (ix2 y x)
    = ((∑ i ∈ Finset.range (n % 8 + 1), CK2 i (qA (Qp X (n / 8))) (qB (Qp X (n / 8))) (oA (Qp D (n / 8))) (oB (Qp D (n / 8))) (Kp X (n / 8)) (Vp X (n / 8)) y.val x : ℝ) : EReal) := by
  intro n
  induction n with
  | zero =>
    intro hn y x
    rw [first1_8 V c X D hx hd hl h10 h14 ⟨0, hn⟩ (Nat.zero_mod 8) y x]
    simp
  | succ n ih =>
    intro hn y x
    by_cases h0 : (n + 1) % 8 = 0
    · rw [first1_8 V c X D hx hd hl h10 h14 ⟨n + 1, hn⟩ h0 y x, h0, Finset.sum_range_one]
    · have e1 : (n + 1) / 8 = n / 8 := by omega
      have e2 : (n + 1) % 8 = n % 8 + 1 := by omega
      refine (next1_8 V c X D hx hd hl h10 h14 ⟨n + 1, hn⟩ h0 y x).trans ?_
      refine (congrArg (· + _) (ih (Nat.lt_of_succ_lt hn) y x)).trans ?_
      rw [← EReal.coe_add, e1, e2, Finset.sum_range_succ _ (n % 8 + 1)]

theorem arr1_8 : (dat1 V c).arrAt 8 cfg1.N = pairs (φ := .f32) (GK X D) := by
  refine (dat1 V c).arrAt_eq_of_covers 8 _ (by decide +kernel) fun t hf y => ?_
  have ht : t.val < 64 := t.isLt
  have h7 : t.val % 8 = 7 := (by decide +kernel : ∀ t : Fin grid1.N, win1_8.flush t = true → t.val % 8 = 7) t hf
  blk_simp
  rw [after1_8]
  idx_vars y
  have e : ((cfg1.win 8).blk t).view.emb (ix2 y0 y1) = (ix2 y0 ⟨128 * (t.val / 8) + y1.val, by omega⟩ : S8192x1024.Idx) := by
    blk_ext [idx1 t]
  rw [e]
  refine (outs1_8 V c X D hx hd hl h10 h14 t.val t.isLt y0 y1).trans ?_
  rw [h7]
  exact (pairs_blk (GK X D) (t.val / 8) (by omega) y0 y1).symm

theorem first1_9 (t : Fin cfg1.N) (h0 : t.val % 8 = 0) (y : Fin 8192) (x : Fin 128) : (outsAt1 V c t.val t.isLt).2.2 (ix2 y x)
    = ((CV2 (t.val % 8) (qA (Qp X (t.val / 8))) (qB (Qp X (t.val / 8))) (oA (Qp D (t.val / 8))) (oB (Qp D (t.val / 8))) (Kp X (t.val / 8)) y.val x : ℝ) : EReal) := by
  have hi := (idx1 t).2.2.2.2.2.2.2.2.2.2
  have hf : In (grid1.coords t 1).val _ _ _ _ _ _ _ _ _ _ _ := hi ▸ in1 V c X D hx hd hl h10 h14 t
  have e2 := outA_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) hf ((hcond1_0 t).mpr h0) y x
  rw [outsAt1_A V c t h0]
  dsimp only
  rw [e2, hi, zero_add]

theorem next1_9 (t : Fin cfg1.N) (h0 : ¬ t.val % 8 = 0) (y : Fin 8192) (x : Fin 128) : (outsAt1 V c t.val t.isLt).2.2 (ix2 y x)
    = (outsAt1 V c (t.val - 1) (Nat.lt_of_le_of_lt (Nat.sub_le _ _) t.isLt)).2.2 (ix2 y x) + ((CV2 (t.val % 8) (qA (Qp X (t.val / 8))) (qB (Qp X (t.val / 8))) (oA (Qp D (t.val / 8))) (oB (Qp D (t.val / 8))) (Kp X (t.val / 8)) y.val x : ℝ) : EReal) := by
  have hi := (idx1 t).2.2.2.2.2.2.2.2.2.2
  have hf : In (grid1.coords t 1).val _ _ _ _ _ _ _ _ _ _ _ := hi ▸ in1 V c X D hx hd hl h10 h14 t
  have e2 := outB_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) hf (fun h => h0 ((hcond1_0 t).mp h)) (outsAt1 V c (t.val - 1) (Nat.lt_of_le_of_lt (Nat.sub_le _ _) t.isLt)).2.1 (outsAt1 V c (t.val - 1) (Nat.lt_of_le_of_lt (Nat.sub_le _ _) t.isLt)).2.2 y x
  rw [outsAt1_B V c t h0]
  dsimp only
  rw [e2, hi]

/-- What the rows of a pair's blocks up to point `n` give a value's gradient. -/
theorem outs1_9 : ∀ (n : ℕ) (hn : n < cfg1.N) (y : Fin 8192) (x : Fin 128), (outsAt1 V c n hn).2.2 (ix2 y x)
    = ((∑ i ∈ Finset.range (n % 8 + 1), CV2 i (qA (Qp X (n / 8))) (qB (Qp X (n / 8))) (oA (Qp D (n / 8))) (oB (Qp D (n / 8))) (Kp X (n / 8)) y.val x : ℝ) : EReal) := by
  intro n
  induction n with
  | zero =>
    intro hn y x
    rw [first1_9 V c X D hx hd hl h10 h14 ⟨0, hn⟩ (Nat.zero_mod 8) y x]
    simp
  | succ n ih =>
    intro hn y x
    by_cases h0 : (n + 1) % 8 = 0
    · rw [first1_9 V c X D hx hd hl h10 h14 ⟨n + 1, hn⟩ h0 y x, h0, Finset.sum_range_one]
    · have e1 : (n + 1) / 8 = n / 8 := by omega
      have e2 : (n + 1) % 8 = n % 8 + 1 := by omega
      refine (next1_9 V c X D hx hd hl h10 h14 ⟨n + 1, hn⟩ h0 y x).trans ?_
      refine (congrArg (· + _) (ih (Nat.lt_of_succ_lt hn) y x)).trans ?_
      rw [← EReal.coe_add, e1, e2, Finset.sum_range_succ _ (n % 8 + 1)]

theorem arr1_9 : (dat1 V c).arrAt 9 cfg1.N = pairs (φ := .f32) (GV X D) := by
  refine (dat1 V c).arrAt_eq_of_covers 9 _ (by decide +kernel) fun t hf y => ?_
  have ht : t.val < 64 := t.isLt
  have h7 : t.val % 8 = 7 := (by decide +kernel : ∀ t : Fin grid1.N, win1_9.flush t = true → t.val % 8 = 7) t hf
  blk_simp
  rw [after1_9]
  idx_vars y
  have e : ((cfg1.win 9).blk t).view.emb (ix2 y0 y1) = (ix2 y0 ⟨128 * (t.val / 8) + y1.val, by omega⟩ : S8192x1024.Idx) := by
    blk_ext [idx1 t]
  rw [e]
  refine (outs1_9 V c X D hx hd hl h10 h14 t.val t.isLt y0 y1).trans ?_
  rw [h7]
  exact (pairs_blk (GV X D) (t.val / 8) (by omega) y0 y1).symm

end region1

end Cert.Proof.Sb

end
-- ==== Proof.SbLaunch.lean ====
/- The run of the stick-breaking attention's gradient, and what its result holds. -/
module

public import proofs.«01_k».proof.Proof.SbArrays

@[expose] public section

set_option maxRecDepth 16384
set_option maxHeartbeats 1000000

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbKernelIdeal Cert.SbKernelIdeal.Gen

theorem bit {P : Prop} [Decidable P] {w : BitVec 1} (h1 : w = 1#1 ↔ P) : w = if P then 1#1 else 0#1 := by
  by_cases h : P
  · rw [if_pos h, h1.mpr h]
  · rw [if_neg h]
    exact (BitVec.eq_zero_or_eq_one w).resolve_right fun e => h (h1.mp e)

theorem triangle {P : ℕ → ℕ → Prop} [DecidableRel P] (T : FVec Ideal S256x256 .bf16) (b : Fin 256 → Fin 256 → BitVec 1)
    (hT : ∀ x y, T (ix2 x y) = FloatOps.uitofp .bf16 (b x y)) (hb : ∀ x y, b x y = 1#1 ↔ P x.val y.val) : mat2 T = tri P := by
  funext x y
  rw [mat2, hT, bit (hb x y), tri]
  split <;> simp [FloatOps.uitofp]

/-- The gradient of the packed queries, keys and values, by row and column. -/
def CAT (X D : ℕ → ℕ → ℝ) (r l : ℕ) : ℝ :=
  if l < 1024 then GQ X D (l / 128) r ⟨l % 128, Nat.mod_lt _ (by decide)⟩
  else if l < 2048 then GK X D ((l - 1024) / 128) r ⟨(l - 1024) % 128, Nat.mod_lt _ (by decide)⟩
  else GV X D ((l - 1024 - 1024) / 128) r ⟨(l - 1024 - 1024) % 128, Nat.mod_lt _ (by decide)⟩

theorem cat_apply (X D : ℕ → ℕ → ℝ) (r : Fin 8192) (l : Fin 3072) :
    concatenate S8192x3072 1 [⟨S8192x1024, pairs (φ := .bf16) (GQ X D)⟩, ⟨S8192x1024, pairs (φ := .bf16) (GK X D)⟩, ⟨S8192x1024, pairs (φ := .bf16) (GV X D)⟩] concatenates_S8192x1024_S8192x1024_S8192x1024_S8192x3072_d1 (ix2 r l)
      = ((CAT X D r.val l.val : ℝ) : EReal) := by
  pointwise
  unfold CAT pairs
  by_cases h1 : l.val < 1024
  · simp only [h1, dif_pos, if_pos]
    rfl
  · by_cases h2 : l.val < 2048
    · have h3 : l.val - 1024 < 1024 := by omega
      simp [h1, h2, h3]
    · have h3 : ¬ l.val - 1024 < 1024 := by omega
      simp [h1, h2, h3]

variable (m : (ℓ : Loc nD τ sig) → Buf (Elt Ideal) ℓ) (ρ : Dev nD → PrngReg)

section launch
set_option backward.isDefEq.respectTransparency.types false in
/-- Every run ends with the result as the launch's last contents have it, and the arguments as they were. -/
theorem run : θ_run defs (onTc (τ := τ) (main (F := Ideal))) ⟨m, fun _ => 0, ρ⟩ (fun r => ∀ c : Dev nD,
      r.2.mem ((c.tc : Thread nD τ).loc main_v5_0) = W5 m ρ c (Proc.devRef .tc main_v5_0)
      ∧ r.2.mem ((c.tc : Thread nD τ).loc main_v5_1) = W5 m ρ c (Proc.devRef .tc main_v5_1)
      ∧ r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v5_0 (by decide)), h c _ (mem_uc main_v5_1 (by decide)), h c _ (mem_uc main_v19 (by decide)), (h c _ (mem_uc main_arg0 (by decide))).trans (W5_main_arg0 m ρ c),
       (h c _ (mem_uc main_arg1 (by decide))).trans (W5_main_arg1 m ρ c)⟩)

end launch

section values
variable (c : Dev nD) (X D : ℕ → ℕ → ℝ)
  (hx : ∀ (r : Fin 8192) (l : Fin 3072), (m ((c : Thread nD τ).loc main_arg0) : Vec Ideal S8192x3072 .f32) (ix2 r l) = ((X r.val l.val : ℝ) : EReal))
  (hd : ∀ (r : Fin 8192) (l : Fin 1024), (m ((c : Thread nD τ).loc main_arg1) : Vec Ideal S8192x1024 .f32) (ix2 r l) = ((D r.val l.val : ℝ) : EReal))

theorem v0_1 : W1 m ρ c (Proc.devRef .tc main_v0) = m ((c : Thread nD τ).loc main_arg0) := by
  after_results
  rfl

theorem v0_3 : W3 m ρ c (Proc.devRef .tc main_v0) = m ((c : Thread nD τ).loc main_arg0) :=
  ((W3_of m ρ c main_v0 (by decide)).trans (W2_of m ρ c main_v0 (by decide))).trans (v0_1 m ρ c)

theorem v6_3 : W3 m ρ c (Proc.devRef .tc main_v6) = m ((c : Thread nD τ).loc main_arg1) := by
  have e : W3 m ρ c (Proc.devRef .tc main_v6) = W2 m ρ c (Proc.devRef .tc main_arg1) := by
    after_results
    rfl
  exact e.trans (W2_args m ρ c main_arg1 (by decide))

theorem v4_1 : mat2 (W1 m ρ c (Proc.devRef .tc main_v4) : Vec Ideal S256x256 .bf16) = tri (· > ·) := by
  refine triangle _ (fun x y => IntOp.cmpi .sgt (BitVec.ofNat 32 x.val) (BitVec.ofNat 32 y.val)) (fun x y => ?_) fun x y =>
    WordCmp.cmpi_sgt_ofNat_eq_one_iff (by omega) (by omega)
  have e : W1 m ρ c (Proc.devRef .tc main_v4) = (uitofp .bf16 (cmpi .sgt (iotaInDim S256x256 32 0) (iotaInDim S256x256 32 1)) : FVec Ideal S256x256 .bf16) := by
    after_results
  rw [e]
  rfl

theorem v10_3 : mat2 (W3 m ρ c (Proc.devRef .tc main_v10) : Vec Ideal S256x256 .bf16) = tri (· ≤ ·) := by
  refine triangle _ (fun x y => IntOp.cmpi .sle (BitVec.ofNat 32 x.val) (BitVec.ofNat 32 y.val)) (fun x y => ?_) fun x y =>
    WordCmp.cmpi_sle_ofNat_eq_one_iff (by omega) (by omega)
  have e : W3 m ρ c (Proc.devRef .tc main_v10) = (uitofp .bf16 (cmpi .sle (iotaInDim S256x256 32 0) (iotaInDim S256x256 32 1)) : FVec Ideal S256x256 .bf16) := by
    after_results
  rw [e]
  rfl

theorem v14_3 : mat2 (W3 m ρ c (Proc.devRef .tc main_v14) : Vec Ideal S256x256 .bf16) = tri (· < ·) := by
  refine triangle _ (fun x y => IntOp.cmpi .slt (BitVec.ofNat 32 x.val) (BitVec.ofNat 32 y.val)) (fun x y => ?_) fun x y =>
    WordCmp.cmpi_slt_ofNat_eq_one_iff (by omega) (by omega)
  have e : W3 m ρ c (Proc.devRef .tc main_v14) = (uitofp .bf16 (cmpi .slt (iotaInDim S256x256 32 0) (iotaInDim S256x256 32 1)) : FVec Ideal S256x256 .bf16) := by
    after_results
  rw [e]
  rfl

section
include hx

theorem x_1 (r : Fin 8192) (l : Fin 3072) : (V1 m ρ c main_v0 : Vec Ideal S8192x3072 .bf16) (ix2 r l) = ((X r.val l.val : ℝ) : EReal) :=
  (congrFun (v0_1 m ρ c) (ix2 r l)).trans (hx r l)

theorem x_3 (r : Fin 8192) (l : Fin 3072) : (V3 m ρ c main_v0 : Vec Ideal S8192x3072 .bf16) (ix2 r l) = ((X r.val l.val : ℝ) : EReal) :=
  (congrFun (v0_3 m ρ c) (ix2 r l)).trans (hx r l)

theorem l_3 : (V3 m ρ c main_v5_1 : Vec Ideal S8x8192x2 .f32) = LTOT X :=
  ((W3_of m ρ c main_v5_1 (by decide)).trans (W2_arr m ρ c 5)).trans (arr0_5 (V1 m ρ) c X (x_1 m ρ c X hx) (v4_1 m ρ c))

/-- The attention's output in the last contents. -/
theorem attn_5 : W5 m ρ c (Proc.devRef .tc main_v5_0) = pairs (φ := .bf16) (ATT X) :=
  ((W5_of m ρ c main_v5_0 (by decide)).trans ((W4_of m ρ c main_v5_0 (by decide)).trans (W3_of m ρ c main_v5_0 (by decide)))).trans
    ((W2_arr m ρ c 4).trans (arr0_4 (V1 m ρ) c X (x_1 m ρ c X hx) (v4_1 m ρ c)))

/-- The saved log-sums in the last contents. -/
theorem kept_5 : W5 m ρ c (Proc.devRef .tc main_v5_1) = LTOT X :=
  ((W5_of m ρ c main_v5_1 (by decide)).trans (W4_of m ρ c main_v5_1 (by decide))).trans (l_3 m ρ c X hx)

include hd

theorem d_3 (r : Fin 8192) (l : Fin 1024) : (V3 m ρ c main_v6 : Vec Ideal S8192x1024 .bf16) (ix2 r l) = ((D r.val l.val : ℝ) : EReal) :=
  (congrFun (v6_3 m ρ c) (ix2 r l)).trans (hd r l)

/-- The kernel's result at an index. -/
theorem result (r : Fin 8192) (l : Fin 3072) :
    (W5 m ρ c (Proc.devRef .tc main_v19) : Vec Ideal S8192x3072 .bf16) (ix2 r l) = ((CAT X D r.val l.val : ℝ) : EReal) := by
  have h7 : W4 m ρ c (Proc.devRef .tc main_v15_0) = pairs (φ := .f32) (GQ X D) := (W4_arr m ρ c 7).trans
    (arr1_7 (V3 m ρ) c X D (x_3 m ρ c X hx) (d_3 m ρ c X D hx hd) (l_3 m ρ c X hx) (v10_3 m ρ c) (v14_3 m ρ c))
  have h8 : W4 m ρ c (Proc.devRef .tc main_v15_1) = pairs (φ := .f32) (GK X D) := (W4_arr m ρ c 8).trans
    (arr1_8 (V3 m ρ) c X D (x_3 m ρ c X hx) (d_3 m ρ c X D hx hd) (l_3 m ρ c X hx) (v10_3 m ρ c) (v14_3 m ρ c))
  have h9 : W4 m ρ c (Proc.devRef .tc main_v15_2) = pairs (φ := .f32) (GV X D) := (W4_arr m ρ c 9).trans
    (arr1_9 (V3 m ρ) c X D (x_3 m ρ c X hx) (d_3 m ρ c X D hx hd) (l_3 m ρ c X hx) (v10_3 m ρ c) (v14_3 m ρ c))
  have e : W5 m ρ c (Proc.devRef .tc main_v19) = (concatenate S8192x3072 1 [⟨S8192x1024, (truncf .bf16 (W4 m ρ c (Proc.devRef .tc main_v15_0) : FVec Ideal S8192x1024 .f32) bitsLt_bf16_f32 : FVec Ideal S8192x1024 .bf16)⟩, ⟨S8192x1024, (truncf .bf16 (W4 m ρ c (Proc.devRef .tc main_v15_1) : FVec Ideal S8192x1024 .f32) bitsLt_bf16_f32 : FVec Ideal S8192x1024 .bf16)⟩, ⟨S8192x1024, (truncf .bf16 (W4 m ρ c (Proc.devRef .tc main_v15_2) : FVec Ideal S8192x1024 .f32) bitsLt_bf16_f32 : FVec Ideal S8192x1024 .bf16)⟩] concatenates_S8192x1024_S8192x1024_S8192x1024_S8192x3072_d1 : FVec Ideal S8192x3072 .bf16) := by
    after_results
    rfl
  rw [e, h7, h8, h9]
  exact cat_apply X D r l
end

end values

end Cert.Proof.Sb

end
-- ==== Proof.SbRef.lean ====
/- The stick-breaking attention's gradient, as differentiation of its forward lines gives it: each array in the terms of the mathematics. -/
module

public import proofs.«01_k».proof.Proof.SbLaunch
public import proofs.«01_k».proof.Proof.Gen.SbReferenceIdeal.Run
public import proofs.«01_k».proof.Proof.Gen.SbReferenceIdeal.Read
public import Idealize.ShloMosaic.Lib.Pointwise

@[expose] public section

set_option maxRecDepth 16384
set_option maxHeartbeats 1000000

noncomputable section

namespace Cert.Proof.Sb

open Idealize.ShloMosaic Idealize.ShloMosaic.TcCoe Idealize.SL.Sem
open Cert.SbReferenceIdeal Cert.SbReferenceIdeal.Gen Cert.SbReferenceIdeal.Read

/-- A head's query row and cotangent row, in the lanes of its pair. -/
def qe (X : ℕ → ℕ → ℝ) (h t : ℕ) : Fin 128 → ℝ := if h % 2 = 0 then qA (Qp X (h / 2)) t else qB (Qp X (h / 2)) t
def oe (D : ℕ → ℕ → ℝ) (h t : ℕ) : Fin 128 → ℝ := if h % 2 = 0 then oA (Qp D (h / 2)) t else oB (Qp D (h / 2)) t

theorem halves (f : Fin 128 → ℝ) : ∑ x, f x = (∑ x : Fin 64, f ⟨x.val, by omega⟩) + ∑ x : Fin 64, f ⟨64 + x.val, by omega⟩ :=
  Fin.sum_univ_add (a := 64) (b := 64) f

/-- A head's inner product with a row of its pair, in its own 64 lanes. -/
theorem qe_dot (X : ℕ → ℕ → ℝ) (h t : ℕ) (g : ℕ → ℝ) :
    ∑ x : Fin 128, qe X h t x * g (128 * (h / 2) + x.val) = ∑ x : Fin 64, X t (64 * h + x.val) * (1 / 8) * g (64 * h + x.val) := by
  rw [halves]
  by_cases hp : h % 2 = 0
  · have e : 128 * (h / 2) = 64 * h := by omega
    simp [qe, hp, qA, Qp, e]
  · have e : ∀ x, 128 * (h / 2) + (64 + x) = 64 * h + x := by omega
    simp [qe, hp, qB, Qp, e]

theorem oe_dot (D : ℕ → ℕ → ℝ) (h t : ℕ) (g : ℕ → ℝ) :
    ∑ x : Fin 128, oe D h t x * g (128 * (h / 2) + x.val) = ∑ x : Fin 64, D t (64 * h + x.val) * g (64 * h + x.val) := by
  rw [halves]
  by_cases hp : h % 2 = 0
  · have e : 128 * (h / 2) = 64 * h := by omega
    simp [oe, hp, oA, Qp, e]
  · have e : ∀ x, 128 * (h / 2) + (64 + x) = 64 * h + x := by omega
    simp [oe, hp, oB, Qp, e]

/-- The softplus of a real number as the host spells it, and its derivative. -/
theorem sp_val (y : ℝ) : Scalar.select (FloatOps.cmpf (F := Ideal) (φ := .f32) .une ((y : EReal) - 0) ((y : EReal) - 0)) ((y : EReal) + 0)
    (max (y : EReal) 0 + Ideal.log1p (Ideal.exp (-(max ((y : EReal) - 0) (-((y : EReal) - 0)))))) = ((sp y : ℝ) : EReal) := by
  have e : FloatOps.cmpf (F := Ideal) (φ := .f32) .une ((y : EReal) - 0) ((y : EReal) - 0) = 0#1 := by simp [FloatOps.cmpf, Ideal.cmp]
  have h := lkU_coe y
  rw [lkU, zero_sub, zero_sub, EReal.coe_neg, neg_inj] at h
  rw [e, sub_zero]
  exact h

theorem sp_slope (y : ℝ) : Ideal.exp (Scalar.select (FloatOps.cmpf (F := Ideal) (φ := .f32) .oeq (y : EReal) ⊤) (0 : EReal) (y : EReal)
    - Scalar.select (FloatOps.cmpf (F := Ideal) (φ := .f32) .oeq ((sp y : ℝ) : EReal) ⊤) (0 : EReal) ((sp y : ℝ) : EReal)) = ((Real.exp (y - sp y) : ℝ) : EReal) := by
  have e : ∀ r : ℝ, FloatOps.cmpf (F := Ideal) (φ := .f32) .oeq (r : EReal) ⊤ = 0#1 := fun r => by simp [FloatOps.cmpf, Ideal.cmp]
  rw [e, e]
  show Ideal.exp ((y : EReal) - ((sp y : ℝ) : EReal)) = _
  rw [← EReal.coe_sub, Ideal.exp_coe]

/-- `x - sp x = -sp (-x)`. -/
theorem sp_neg (x : ℝ) : -sp (-x) = x - sp x := by
  unfold sp
  rw [abs_neg]
  rcases le_total x 0 with h | h
  · rw [max_eq_left (by linarith : 0 ≤ -x) , max_eq_right h]; ring
  · rw [max_eq_right (by linarith : -x ≤ 0) , max_eq_left h]; ring

theorem exp_sp (x : ℝ) : Real.exp (sp x) = 1 + Real.exp x := by
  unfold sp
  have hp : 0 < 1 + Real.exp (-|x|) := by positivity
  rw [Real.exp_add, Real.exp_log hp]
  rcases le_total x 0 with h | h
  · rw [max_eq_right h, abs_of_nonpos h, Real.exp_zero, neg_neg]; ring
  · rw [max_eq_left h, abs_of_nonneg h, mul_add, ← Real.exp_add]; simp [add_comm]

/-- The two slopes sum to one. -/
theorem slopes (x : ℝ) : Real.exp (-x - sp (-x)) = 1 - Real.exp (x - sp x) := by
  have h : -x - sp (-x) = -sp x := by rw [sub_eq_add_neg, sp_neg]; ring
  rw [h, Real.exp_sub, Real.exp_neg, exp_sp]
  have hp : 0 < 1 + Real.exp x := by positivity
  field_simp
  ring

theorem top_bits : (FloatOps.ofBits .f32 0x7F800000#32 : Ideal .f32) = (⊤ : EReal) := by
  show Ideal.ofBits .f32 0x7F800000#32 = _
  simp [Ideal.ofBits, Ideal.ieee]

theorem zero_bits : (FloatOps.ofBits .f32 0x00000000#32 : Ideal .f32) = (0 : EReal) := Ideal.ofBits_zero_f32

theorem foldl_add {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, Fin.sum_univ_def]

/-- The window of a running sum: a row's places. -/
def rowPlaces (L : ℕ) : (⟨3, ![1, 1, L]⟩ : Shape).Idx ≃ Fin L where
  toFun i := i 2
  invFun k := ix3 (0 : Fin 1) (0 : Fin 1) k
  left_inv i := by
    funext a
    fin_cases a
    · exact Subsingleton.elim (α := Fin 1) _ _
    · exact Subsingleton.elim (α := Fin 1) _ _
    · rfl
  right_inv k := rfl

theorem window_fold {A B C L : ℕ} (lo hi : Fin 3 → ℕ) (hw : (⟨3, ![A, B, C]⟩ : Shape).ReduceWindows ![1, 1, L] ![1, 1, 1] lo hi ⟨3, ![A, B, C]⟩)
    (x : FVec Ideal ⟨3, ![A, B, C]⟩ .f32) (v : FVec Ideal S_ .f32) (hv : v (Shape.Idx.first h_S_) = (0 : EReal)) (i : (⟨3, ![A, B, C]⟩ : Shape).Idx) :
    Host.reduceWindowAdd ![1, 1, L] ![1, 1, 1] lo hi x v hw h_S_ i
      = ∑ k : Fin L, if hin : ∀ a : Fin 3, lo a ≤ (i a).val * (![1, 1, 1] : Fin 3 → ℕ) a + (ix3 (0 : Fin 1) (0 : Fin 1) k a).val
            ∧ (i a).val * (![1, 1, 1] : Fin 3 → ℕ) a + (ix3 (0 : Fin 1) (0 : Fin 1) k a).val - lo a < (⟨3, ![A, B, C]⟩ : Shape).size a
        then x (fun a => ⟨(i a).val * (![1, 1, 1] : Fin 3 → ℕ) a + (ix3 (0 : Fin 1) (0 : Fin 1) k a).val - lo a, (hin a).2⟩) else (0 : EReal) := by
  unfold Host.reduceWindowAdd
  rw [hv]
  refine (foldl_add _ _).trans ?_
  rw [zero_add]
  refine (Equiv.sum_comp ((rowPlaces L).symm.trans (⟨3, ![1, 1, L]⟩ : Shape).rowMajor) _).symm.trans (Finset.sum_congr rfl fun k _ => ?_)
  simp only [Equiv.trans_apply, Equiv.symm_apply_apply]
  rfl

/-- A running sum along the last axis read at one place: the window's place `j + k - l` where it lies in the row. -/
theorem window_sum {l u : ℕ} (hw : S16x8192x8192.ReduceWindows ![1, 1, 8192] ![1, 1, 1] ![0, 0, l] ![0, 0, u] S16x8192x8192) (x : FVec Ideal S16x8192x8192 .f32)
    (v : FVec Ideal S_ .f32) (hv : v (Shape.Idx.first h_S_) = (0 : EReal)) (h : Fin 16) (t j : Fin 8192) (g : ℕ → ℝ)
    (hg : ∀ j' : Fin 8192, x (ix3 h t j') = ((g j'.val : ℝ) : EReal)) :
    Host.reduceWindowAdd ![1, 1, 8192] ![1, 1, 1] ![0, 0, l] ![0, 0, u] x v hw h_S_ (ix3 h t j)
      = ((∑ k : Fin 8192, if l ≤ j.val + k.val ∧ j.val + k.val - l < 8192 then g (j.val + k.val - l) else 0 : ℝ) : EReal) := by
  rw [coe_sum, window_fold _ _ hw x v hv]
  refine Finset.sum_congr rfl fun k _ => ?_
  by_cases hc : l ≤ j.val + k.val ∧ j.val + k.val - l < 8192
  · have hin : ∀ a : Fin 3, (![0, 0, l] : Fin 3 → ℕ) a ≤ ((ix3 h t j) a).val * (![1, 1, 1] : Fin 3 → ℕ) a + (ix3 (0 : Fin 1) (0 : Fin 1) k a).val
        ∧ ((ix3 h t j) a).val * (![1, 1, 1] : Fin 3 → ℕ) a + (ix3 (0 : Fin 1) (0 : Fin 1) k a).val - (![0, 0, l] : Fin 3 → ℕ) a < (⟨3, ![16, 8192, 8192]⟩ : Shape).size a := by
      intro a
      match a with
      | ⟨0, _⟩ => exact ⟨Nat.zero_le _, by show h.val * 1 + 0 - 0 < 16; omega⟩
      | ⟨1, _⟩ => exact ⟨Nat.zero_le _, by show t.val * 1 + 0 - 0 < 8192; omega⟩
      | ⟨2, _⟩ => exact ⟨by show l ≤ j.val * 1 + k.val; omega, by show j.val * 1 + k.val - l < 8192; omega⟩
    rw [dif_pos hin, if_pos hc, ← hg ⟨j.val + k.val - l, hc.2⟩]
    congr 1
    funext a
    apply Fin.ext
    match a with
    | ⟨0, _⟩ => show h.val * 1 + 0 - 0 = h.val; omega
    | ⟨1, _⟩ => show t.val * 1 + 0 - 0 = t.val; omega
    | ⟨2, _⟩ => show j.val * 1 + k.val - l = j.val + k.val - l; omega
  · rw [dif_neg, if_neg hc, EReal.coe_zero]
    intro hin
    have h2 := hin 2
    exact hc ⟨by have := h2.1; change l ≤ j.val * 1 + k.val at this; omega, by have := h2.2; change j.val * 1 + k.val - l < 8192 at this; omega⟩

theorem later_sum (f : ℕ → ℝ) (j : ℕ) (hj : j < 8192) :
    (∑ k : Fin 8192, if j + k.val < 8192 then f (j + k.val) else 0) = ∑ r ∈ Finset.range 8192, f r - ∑ r ∈ Finset.range j, f r := by
  rw [← Finset.sum_Ico_eq_sub f hj.le, Finset.sum_Ico_eq_sum_range, ← Finset.sum_range (fun k => if j + k < 8192 then f (j + k) else 0)]
  symm
  refine (Finset.sum_congr rfl fun k hk => ?_).trans (Finset.sum_subset (Finset.range_subset_range.mpr (Nat.sub_le 8192 j)) fun k _ hk => ?_)
  · exact (if_pos (by have := Finset.mem_range.mp hk; omega)).symm
  · exact if_neg fun h => hk (Finset.mem_range.mpr (by omega))

theorem earlier_sum (f : ℕ → ℝ) (j : ℕ) (hj : j < 8192) :
    (∑ k : Fin 8192, if 8191 ≤ j + k.val then f (j + k.val - 8191) else 0) = ∑ r ∈ Finset.range (j + 1), f r := by
  have e : Finset.range 8192 = Finset.range ((8191 - j) + (j + 1)) := by congr 1; omega
  rw [← Finset.sum_range (fun k => if 8191 ≤ j + k then f (j + k - 8191) else 0), e, Finset.sum_range_add,
    Finset.sum_eq_zero (s := Finset.range (8191 - j)), zero_add]
  · refine Finset.sum_congr rfl fun r _ => ?_
    have h1 : 8191 ≤ j + (8191 - j + r) := by omega
    have h2 : j + (8191 - j + r) - 8191 = r := by omega
    rw [if_pos h1, h2]
  · intro k hk
    exact if_neg (by have := Finset.mem_range.mp hk; omega)

section
variable (x0 : FVec Ideal S8192x3072 .f32) (x1 : FVec Ideal S8192x1024 .f32) (X D : ℕ → ℕ → ℝ)
  (hx : ∀ (r : Fin 8192) (l : Fin 3072), x0 (ix2 r l) = ((X r.val l.val : ℝ) : EReal))
  (hd : ∀ (r : Fin 8192) (l : Fin 1024), x1 (ix2 r l) = ((D r.val l.val : ℝ) : EReal))
include hx

theorem r4 (t : Fin 8192) (h : Fin 16) (x : Fin 64) : val_main_v4 (F := Ideal) x0 (ix3 t h x) = ((X t.val (64 * h.val + x.val) * (1 / 8) : ℝ) : EReal) := by
  rw [EReal.coe_mul, ← eighth', ← hx t ⟨64 * h.val + x.val, by omega⟩]
  pointwise [val_main_v4, val_main_v3, val_main_v2, val_main_v1, val_main_v0, val_main_cst]
  simp only [Nat.mul_comm h.val 64]

theorem r6 (t : Fin 8192) (h : Fin 16) (x : Fin 64) : val_main_v6 (F := Ideal) x0 (ix3 t h x) = ((X t.val (1024 + 64 * h.val + x.val) : ℝ) : EReal) := by
  rw [← hx t ⟨1024 + 64 * h.val + x.val, by omega⟩]
  pointwise [val_main_v6, val_main_v5, val_main_v0]
  simp only [Nat.mul_comm h.val 64]

theorem r8 (t : Fin 8192) (h : Fin 16) (x : Fin 64) : val_main_v8 (F := Ideal) x0 (ix3 t h x) = ((X t.val (2048 + 64 * h.val + x.val) : ℝ) : EReal) := by
  rw [← hx t ⟨2048 + 64 * h.val + x.val, by omega⟩]
  pointwise [val_main_v8, val_main_v7, val_main_v0]
  simp only [Nat.mul_comm h.val 64]

theorem r10 (h : Fin 16) (t j : Fin 8192) : val_main_v10 (F := Ideal) x0 (ix3 h t j) = ((zr (qe X h.val t.val) (Kp X (h.val / 2)) j.val : ℝ) : EReal) := by
  have e : zr (qe X h.val t.val) (Kp X (h.val / 2)) j.val = ∑ x : Fin 64, X t.val (64 * h.val + x.val) * (1 / 8) * X j.val (1024 + 64 * h.val + x.val) := by
    have e := qe_dot X h.val t.val (fun n => X j.val (1024 + n))
    simp only [← Nat.add_assoc] at e
    exact e
  rw [e, coe_sum, val_main_v10_apply]
  refine Finset.sum_congr rfl fun x _ => ?_
  have el : lidx_main_v10 (ix3 h t j) x = ix3 t h x := by funext a; fin_cases a <;> rfl
  have er : ridx_main_v10 (ix3 h t j) x = ix3 j h x := by funext a; fin_cases a <;> rfl
  rw [el, er, r4 x0 X hx, r6 x0 X hx, ← EReal.coe_mul]

theorem arg0 (h : Fin 16) (t j : Fin 8192) : val_main_call0_v0 (F := Ideal) x0 (ix3 h t j) = ((zr (qe X h.val t.val) (Kp X (h.val / 2)) j.val : ℝ) : EReal) := by
  rw [val_main_call0_v0_apply, val_main_v16_apply, r10 x0 X hx]
  exact neg_neg _

theorem arg3 (h : Fin 16) (t j : Fin 8192) : val_main_call3_v0 (F := Ideal) x0 (ix3 h t j) = ((-zr (qe X h.val t.val) (Kp X (h.val / 2)) j.val : ℝ) : EReal) := by
  rw [val_main_call3_v0_apply, r10 x0 X hx, EReal.coe_neg]
  rfl

theorem sp0 (h : Fin 16) (t j : Fin 8192) : val_main_call0_v1_0 (F := Ideal) x0 (ix3 h t j) = ((sp (zr (qe X h.val t.val) (Kp X (h.val / 2)) j.val) : ℝ) : EReal) := by
  have e := arg0 x0 X hx h t j
  simp only [val_main_call0_v1_0_apply, val_main_call0_call0_v4_apply, val_main_call0_call0_v3_apply, val_main_call0_call0_v2_apply, val_main_call0_call0_cst_apply,
    val_main_call0_call0_v6_apply, val_main_call0_call0_v5_apply, val_main_call0_call0_v11_apply, val_main_call0_call0_v1_apply, val_main_call0_call0_v0_apply,
    val_main_call0_call0_v10_apply, val_main_call0_call0_v9_apply, val_main_call0_call0_v8_apply, val_main_call0_call0_v7_apply, zero_bits, e]
  exact sp_val _

theorem sp3 (h : Fin 16) (t j : Fin 8192) : val_main_call3_v1_0 (F := Ideal) x0 (ix3 h t j) = ((sp (-zr (qe X h.val t.val) (Kp X (h.val / 2)) j.val) : ℝ) : EReal) := by
  have e := arg3 x0 X hx h t j
  simp only [val_main_call3_v1_0_apply, val_main_call3_call0_v4_apply, val_main_call3_call0_v3_apply, val_main_call3_call0_v2_apply, val_main_call3_call0_cst_apply,
    val_main_call3_call0_v6_apply, val_main_call3_call0_v5_apply, val_main_call3_call0_v11_apply, val_main_call3_call0_v1_apply, val_main_call3_call0_v0_apply,
    val_main_call3_call0_v10_apply, val_main_call3_call0_v9_apply, val_main_call3_call0_v8_apply, val_main_call3_call0_v7_apply, zero_bits, e]
  exact sp_val _

theorem slope0 (h : Fin 16) (t j : Fin 8192) : val_main_v17_1 (F := Ideal) x0 (ix3 h t j)
    = ((Real.exp (zr (qe X h.val t.val) (Kp X (h.val / 2)) j.val - sp (zr (qe X h.val t.val) (Kp X (h.val / 2)) j.val)) : ℝ) : EReal) := by
  have e := arg0 x0 X hx h t j
  have e2 := sp0 x0 X hx h t j
  simp only [val_main_v17_1_apply, val_main_call0_call0_v21_apply, val_main_call0_call0_v16_apply, val_main_call0_call0_v14_apply, val_main_call0_call0_v13_apply, val_main_call0_call0_cst_0_apply,
    val_main_call0_call0_v15_apply, val_main_call0_call0_cst_1_apply, val_main_call0_call0_v20_apply, val_main_call0_call0_v18_apply, val_main_call0_call0_v17_apply, val_main_call0_call0_cst_2_apply,
    val_main_call0_call0_v19_apply, val_main_call0_call0_cst_3_apply, zero_bits, top_bits, e, e2]
  exact sp_slope _

theorem slope3 (h : Fin 16) (t j : Fin 8192) : val_main_v21_1 (F := Ideal) x0 (ix3 h t j)
    = ((Real.exp (-zr (qe X h.val t.val) (Kp X (h.val / 2)) j.val - sp (-zr (qe X h.val t.val) (Kp X (h.val / 2)) j.val)) : ℝ) : EReal) := by
  have e := arg3 x0 X hx h t j
  have e2 := sp3 x0 X hx h t j
  simp only [val_main_v21_1_apply, val_main_call3_call0_v21_apply, val_main_call3_call0_v16_apply, val_main_call3_call0_v14_apply, val_main_call3_call0_v13_apply, val_main_call3_call0_cst_0_apply,
    val_main_call3_call0_v15_apply, val_main_call3_call0_cst_1_apply, val_main_call3_call0_v20_apply, val_main_call3_call0_v18_apply, val_main_call3_call0_v17_apply, val_main_call3_call0_cst_2_apply,
    val_main_call3_call0_v19_apply, val_main_call3_call0_cst_3_apply, zero_bits, top_bits, e, e2]
  exact sp_slope _

omit hx in
theorem causal (h : Fin 16) (t j : Fin 8192) : val_main_v18_1 (F := Ideal) (ix3 h t j) = if j.val < t.val then 1#1 else 0#1 := by
  refine Eq.trans ?_ (bit (WordCmp.cmpi_slt_ofNat_eq_one_iff (w := 32) (a := j.val) (b := t.val) (by omega) (by omega)))
  pointwise [val_main_v18_1, val_main_v15, val_main_v14, val_main_v13, val_main_v12, val_main_v11, val_main_v9]

theorem r18 (h : Fin 16) (t j : Fin 8192) : val_main_v18_0 (F := Ideal) x0 (ix3 h t j) = ((Lr t.val (qe X h.val t.val) (Kp X (h.val / 2)) j.val : ℝ) : EReal) := by
  rw [val_main_v18_0_apply, causal, val_main_v17_0_apply, sp0 x0 X hx, val_main_call1_v2_apply]
  rw [Lr]
  split
  · rw [EReal.coe_neg]; rfl
  · exact zero_bits

theorem r19 (h : Fin 16) (t j : Fin 8192) : val_main_v19 (F := Ideal) x0 (ix3 h t j)
    = ((Sr t.val (qe X h.val t.val) (Kp X (h.val / 2)) 8192 - Sr t.val (qe X h.val t.val) (Kp X (h.val / 2)) j.val : ℝ) : EReal) := by
  rw [val_main_v19, window_sum _ _ _ zero_bits h t j _ (r18 x0 X hx h t), Sr, Sr, ← later_sum _ _ j.isLt]
  congr 1
  exact Finset.sum_congr rfl fun k _ => if_congr ⟨fun h => h.2, fun h => ⟨Nat.zero_le _, h⟩⟩ rfl rfl

theorem r23 (h : Fin 16) (t j : Fin 8192) : val_main_v23 (F := Ideal) x0 (ix3 h t j)
    = ((Real.exp (zr (qe X h.val t.val) (Kp X (h.val / 2)) j.val - sp (zr (qe X h.val t.val) (Kp X (h.val / 2)) j.val)
        + (Sr t.val (qe X h.val t.val) (Kp X (h.val / 2)) 8192 - Sr t.val (qe X h.val t.val) (Kp X (h.val / 2)) (j.val + 1))) : ℝ) : EReal) := by
  rw [val_main_v23_apply, val_main_v22_apply, val_main_v21_0_apply, val_main_v20_apply, sp3 x0 X hx, r19 x0 X hx, r18 x0 X hx, ← sp_neg]
  show Ideal.exp (-((_ : ℝ) : EReal) + (((_ : ℝ) : EReal) - ((_ : ℝ) : EReal))) = _
  rw [← EReal.coe_neg, ← EReal.coe_sub, ← EReal.coe_add, Ideal.exp_coe]
  congr 3
  have e := Finset.sum_range_succ (Lr t.val (qe X h.val t.val) (Kp X (h.val / 2))) j.val
  rw [Sr, Sr, Sr, e]
  ring

omit hx in
theorem causal' (h : Fin 16) (t j : Fin 8192) : val_main_v24_1 (F := Ideal) (ix3 h t j) = if j.val < t.val then 1#1 else 0#1 := causal h t j

theorem r24 (h : Fin 16) (t j : Fin 8192) : val_main_v24_0 (F := Ideal) x0 (ix3 h t j) = ((Wr t.val (qe X h.val t.val) (Kp X (h.val / 2)) j.val : ℝ) : EReal) := by
  rw [val_main_v24_0_apply, causal', r23 x0 X hx, val_main_call4_v2_apply, Wr]
  split
  · rename_i hlt
    rw [Lr, if_pos hlt, ← sub_eq_add_neg]; rfl
  · exact zero_bits

omit hx in
/-- Lane `e` of head `h` among its pair's 128 lanes. -/
def lane (h : Fin 16) (e : Fin 64) : Fin 128 := ⟨(64 * h.val + e.val) % 128, Nat.mod_lt _ (by decide)⟩

omit hx in
theorem lane_lt (h : Fin 16) (e : Fin 64) : (lane h e).val < 64 ↔ h.val % 2 = 0 := by
  show (64 * h.val + e.val) % 128 < 64 ↔ _
  omega

omit hx in
theorem lane_at (h : Fin 16) (e : Fin 64) : 128 * (h.val / 2) + (lane h e).val = 64 * h.val + e.val := by
  show 128 * (h.val / 2) + (64 * h.val + e.val) % 128 = _
  omega

theorem r25 (h : Fin 16) (x : Fin 64) (t : Fin 8192) : val_main_v25 (F := Ideal) x0 (ix3 h x t)
    = ((∑ j ∈ Finset.range 8192, Wr t.val (qe X h.val t.val) (Kp X (h.val / 2)) j * X j (2048 + 64 * h.val + x.val) : ℝ) : EReal) := by
  rw [Finset.sum_range, coe_sum, val_main_v25_apply]
  refine Finset.sum_congr rfl fun j _ => ?_
  have el : lidx_main_v25 (ix3 h x t) j = ix3 j h x := by funext a; fin_cases a <;> rfl
  have er : ridx_main_v25 (ix3 h x t) j = ix3 h t j := by funext a; fin_cases a <;> rfl
  rw [el, er, r8 x0 X hx, r24 x0 X hx, ← EReal.coe_mul, mul_comm]

omit hx in
theorem att_lane (t : ℕ) (h : Fin 16) (e : Fin 64) : ATT X (h.val / 2) t (lane h e)
    = ∑ j ∈ Finset.range 8192, Wr t (qe X h.val t) (Kp X (h.val / 2)) j * X j (2048 + 64 * h.val + e.val) := by
  have hv : ∀ j, Vp X (h.val / 2) j (lane h e) = X j (2048 + 64 * h.val + e.val) := fun j => by rw [Vp, Nat.add_assoc, lane_at, Nat.add_assoc]
  rw [ATT, DO, DO, Finset.sum_range_zero, Finset.sum_range_zero, sub_zero, sub_zero]
  simp only [lane_lt, hv, qe]
  split <;> rfl

/-- The reference's attention output, entry by entry: the kernel's. -/
theorem ref_attn (r : Fin 8192) (l : Fin 1024) : val_main_v29 (F := Ideal) x0 (ix2 r l) = pairs (φ := .bf16) (ATT X) (ix2 r l) := by
  have hh : l.val / 64 < 16 := by omega
  have he : l.val % 64 < 64 := by omega
  have ei : idx_main_v26 (idx_main_v27 (ix2 r l)) = ix3 (⟨l.val / 64, hh⟩ : Fin 16) (⟨l.val % 64, he⟩ : Fin 64) r := by
    funext a
    apply Fin.ext
    match a with
    | ⟨0, _⟩ => show (r.val * 1024 + l.val) / 64 % 16 = l.val / 64; omega
    | ⟨1, _⟩ => show (r.val * 1024 + l.val) % 64 = l.val % 64; omega
    | ⟨2, _⟩ => show (r.val * 1024 + l.val) / 1024 = r.val; omega
  have ep : pairs (φ := .bf16) (ATT X) (ix2 r l) = ((ATT X (l.val / 64 / 2) r.val (lane ⟨l.val / 64, hh⟩ ⟨l.val % 64, he⟩) : ℝ) : EReal) := by
    have e1 : l.val / 128 = l.val / 64 / 2 := by omega
    have e2 : 64 * (l.val / 64) + l.val % 64 = l.val := by omega
    unfold pairs lane
    simp only [e2, ← e1]
    rfl
  rw [ep, val_main_v29_apply, val_main_v27_apply, val_main_v26_apply, ei]
  exact (r25 x0 X hx _ _ r).trans (congrArg _ (att_lane X r.val ⟨l.val / 64, hh⟩ ⟨l.val % 64, he⟩).symm)

/-- The reference's sums of the log-probabilities of staying, entry by entry: the kernel's saved ones. -/
theorem ref_kept (p : Fin 8) (t : Fin 8192) (s : Fin 2) : val_main_v31 (F := Ideal) x0 (ix3 p t s) = LTOT X (ix3 p t s) := by
  have hh : 2 * p.val + s.val < 16 := by omega
  have ei : idx_main_v30 (idx_main_v31 (ix3 p t s)) = ix2 (⟨2 * p.val + s.val, hh⟩ : Fin 16) t := by
    funext a
    apply Fin.ext
    match a with
    | ⟨0, _⟩ => show ((p.val * 2 + s.val) * 8192 + t.val) / 8192 = 2 * p.val + s.val; omega
    | ⟨1, _⟩ => show ((p.val * 2 + s.val) * 8192 + t.val) % 8192 = t.val; omega
  have ek : val_main_v28 (F := Ideal) x0 (ix2 (⟨2 * p.val + s.val, hh⟩ : Fin 16) t)
      = ((Sr t.val (qe X (2 * p.val + s.val) t.val) (Kp X ((2 * p.val + s.val) / 2)) 8192 : ℝ) : EReal) := by
    rw [val_main_v28_apply, Sr, Finset.sum_range, coe_sum]
    refine (congrArg (· + _) zero_bits).trans ((zero_add _).trans (Finset.sum_congr rfl fun k _ => ?_))
    have el : idx_main_v28 (ix2 (⟨2 * p.val + s.val, hh⟩ : Fin 16) t) k = ix3 (⟨2 * p.val + s.val, hh⟩ : Fin 16) t k := by funext a; fin_cases a <;> rfl
    rw [el]
    exact r18 x0 X hx _ t k
  have e2 : (2 * p.val + s.val) / 2 = p.val := by omega
  rw [val_main_v31_apply, val_main_v30_apply, ei, ek, e2, qe, e2]
  refine congrArg (fun x : ℝ => (x : EReal)) ?_
  by_cases hs : s.val = 0
  · rw [if_pos (by omega)]
    exact (if_pos hs).symm
  · rw [if_neg (by omega)]
    exact (if_neg hs).symm

omit hx in
include hd in
theorem r29 (h : Fin 16) (x : Fin 64) (t : Fin 8192) : val_main_v33 (F := Ideal) x1 (ix3 h x t) = ((D t.val (64 * h.val + x.val) : ℝ) : EReal) := by
  rw [← hd t ⟨64 * h.val + x.val, by omega⟩]
  pointwise [val_main_v33, val_main_v32]
  simp only [Nat.mul_comm h.val 64]

include hd
theorem r30 (h : Fin 16) (t j : Fin 8192) : val_main_v34 (F := Ideal) x0 x1 (ix3 h t j) = ((∑ x, oe D h.val t.val x * Vp X (h.val / 2) j.val x : ℝ) : EReal) := by
  have e : ∑ x, oe D h.val t.val x * Vp X (h.val / 2) j.val x = ∑ x : Fin 64, D t.val (64 * h.val + x.val) * X j.val (2048 + 64 * h.val + x.val) := by
    have e := oe_dot D h.val t.val (fun n => X j.val (2048 + n))
    simp only [← Nat.add_assoc] at e
    exact e
  rw [e, coe_sum, val_main_v34_apply]
  refine Finset.sum_congr rfl fun x _ => ?_
  have el : lidx_main_v34 (ix3 h t j) x = ix3 h x t := by funext a; fin_cases a <;> rfl
  have er : ridx_main_v34 (ix3 h t j) x = ix3 j h x := by funext a; fin_cases a <;> rfl
  rw [el, er, r29 x1 D hd, r8 x0 X hx, ← EReal.coe_mul]

theorem r34 (h : Fin 16) (t j : Fin 8192) : val_main_v38 (F := Ideal) x0 x1 (ix3 h t j) = ((Gr t.val (qe X h.val t.val) (oe D h.val t.val) (Kp X (h.val / 2)) (Vp X (h.val / 2)) j.val : ℝ) : EReal) := by
  rw [val_main_v38_apply, val_main_v37_apply, causal', r30 x0 x1 X D hx hd, r23 x0 X hx, val_main_call5_v0_apply, val_main_call5_cst_apply, zero_bits, Gr, Wr]
  split
  · rename_i hlt
    rw [Lr, if_pos hlt, ← sub_eq_add_neg, mul_comm, EReal.coe_mul]; rfl
  · rw [zero_mul, EReal.coe_zero]
    exact zero_mul _

theorem r37 (h : Fin 16) (t j : Fin 8192) : val_main_v41 (F := Ideal) x0 x1 (ix3 h t j) = ((Pr t.val (qe X h.val t.val) (oe D h.val t.val) (Kp X (h.val / 2)) (Vp X (h.val / 2)) (j.val + 1) : ℝ) : EReal) := by
  rw [val_main_v41, window_sum _ _ _ zero_bits h t j _ (r34 x0 x1 X D hx hd h t), Pr, ← earlier_sum _ _ j.isLt]
  congr 1
  exact Finset.sum_congr rfl fun k _ => if_congr ⟨fun h => h.1, fun h => ⟨h, by omega⟩⟩ rfl rfl

theorem r42 (h : Fin 16) (t j : Fin 8192) : val_main_v46 (F := Ideal) x0 x1 (ix3 h t j) = ((Zr t.val (qe X h.val t.val) (oe D h.val t.val) (Kp X (h.val / 2)) (Vp X (h.val / 2)) j.val : ℝ) : EReal) := by
  rw [val_main_v46_apply, val_main_v39_apply, val_main_call6_v1_apply, val_main_call6_v0_apply, val_main_v45_apply, val_main_v44_apply, val_main_call9_v1_apply,
    val_main_call9_v0_apply, val_main_v43_apply, causal, val_main_v42_apply, val_main_v40_apply, r34 x0 x1 X D hx hd, r37 x0 x1 X D hx hd, slope0 x0 X hx, slope3 x0 X hx,
    val_main_call8_v0_apply, val_main_call8_cst_apply, zero_bits, slopes, Zr, Pr, Finset.sum_range_succ]
  split
  · rename_i hlt
    rw [Lr, if_pos hlt, ← sub_eq_add_neg]
    generalize Gr t.val (qe X h.val t.val) (oe D h.val t.val) (Kp X (h.val / 2)) (Vp X (h.val / 2)) j.val = g
    generalize Real.exp ((zr (qe X h.val t.val) (Kp X (h.val / 2)) j.val) - sp (zr (qe X h.val t.val) (Kp X (h.val / 2)) j.val)) = s
    generalize ∑ r ∈ Finset.range j.val, Gr t.val (qe X h.val t.val) (oe D h.val t.val) (Kp X (h.val / 2)) (Vp X (h.val / 2)) r = w
    show -(-((g : ℝ) : EReal) * ((1 - s : ℝ) : EReal)) + -(-(-(-((g : ℝ) : EReal) + ((w + g : ℝ) : EReal)) * ((s : ℝ) : EReal))) = _
    rw [← EReal.coe_neg, ← EReal.coe_mul, ← EReal.coe_neg, ← EReal.coe_add, ← EReal.coe_neg, ← EReal.coe_mul, ← EReal.coe_neg, ← EReal.coe_neg, ← EReal.coe_add]
    congr 1
    ring
  · rename_i hlt
    rw [Gr, Wr, if_neg hlt, zero_mul]
    generalize Real.exp ((zr (qe X h.val t.val) (Kp X (h.val / 2)) j.val) - sp (zr (qe X h.val t.val) (Kp X (h.val / 2)) j.val)) = s
    show -(-((0 : ℝ) : EReal) * ((1 - s : ℝ) : EReal)) + -(-(-(0 : EReal) * ((s : ℝ) : EReal))) = _
    simp

theorem r45 (h : Fin 16) (t : Fin 8192) (x : Fin 64) : val_main_v49 (F := Ideal) x0 x1 (ix3 h t x)
    = ((∑ j ∈ Finset.range 8192, Zr t.val (qe X h.val t.val) (oe D h.val t.val) (Kp X (h.val / 2)) (Vp X (h.val / 2)) j * X j (1024 + 64 * h.val + x.val) : ℝ) : EReal) := by
  rw [Finset.sum_range, coe_sum, val_main_v49_apply]
  refine Finset.sum_congr rfl fun j _ => ?_
  have el : lidx_main_v49 (ix3 h t x) j = ix3 h t j := by funext a; fin_cases a <;> rfl
  have er : ridx_main_v49 (ix3 h t x) j = ix3 j h x := by funext a; fin_cases a <;> rfl
  rw [el, er, r42 x0 x1 X D hx hd, r6 x0 X hx, ← EReal.coe_mul]

theorem r43 (h : Fin 16) (j : Fin 8192) (x : Fin 64) : val_main_v47 (F := Ideal) x0 x1 (ix3 h j x)
    = ((∑ t ∈ Finset.range 8192, Zr t (qe X h.val t) (oe D h.val t) (Kp X (h.val / 2)) (Vp X (h.val / 2)) j.val * (X t (64 * h.val + x.val) * (1 / 8)) : ℝ) : EReal) := by
  rw [Finset.sum_range, coe_sum, val_main_v47_apply]
  refine Finset.sum_congr rfl fun t _ => ?_
  have el : lidx_main_v47 (ix3 h j x) t = ix3 h t j := by funext a; fin_cases a <;> rfl
  have er : ridx_main_v47 (ix3 h j x) t = ix3 t h x := by funext a; fin_cases a <;> rfl
  rw [el, er, r42 x0 x1 X D hx hd, r4 x0 X hx, ← EReal.coe_mul]

theorem r31 (h : Fin 16) (x : Fin 64) (j : Fin 8192) : val_main_v35 (F := Ideal) x0 x1 (ix3 h x j)
    = ((∑ t ∈ Finset.range 8192, Wr t (qe X h.val t) (Kp X (h.val / 2)) j.val * D t (64 * h.val + x.val) : ℝ) : EReal) := by
  rw [Finset.sum_range, coe_sum, val_main_v35_apply]
  refine Finset.sum_congr rfl fun t _ => ?_
  have el : lidx_main_v35 (ix3 h x j) t = ix3 h x t := by funext a; fin_cases a <;> rfl
  have er : ridx_main_v35 (ix3 h x j) t = ix3 h t j := by funext a; fin_cases a <;> rfl
  rw [el, er, r29 x1 D hd, r24 x0 X hx, ← EReal.coe_mul, mul_comm]

omit hx hd in
/-- One of the three slots of the joined gradient: the padded array at its own place, zero at the others. -/
theorem slot (l u : ℕ) (hl : l < 3) (hp : S8192x1x16x64.Pads ![0, l, 0, 0] ![0, u, 0, 0] ![0, 0, 0, 0] S8192x3x16x64) (x : FVec Ideal S8192x1x16x64 .f32) (v : FVec Ideal S_ .f32)
    (hv : v (Shape.Idx.first h_S_) = (0 : EReal)) (r : Fin 8192) (s : Fin 3) (h : Fin 16) (e : Fin 64) :
    pad S8192x3x16x64 ![0, l, 0, 0] ![0, u, 0, 0] ![0, 0, 0, 0] x v hp h_S_ (ix4 r s h e) = if s.val = l then x (ix4 r (0 : Fin 1) h e) else (0 : EReal) := by
  unfold pad
  by_cases hs : s.val = l
  · have hin : ∀ a : Fin 4, (![0, l, 0, 0] : Fin 4 → ℕ) a ≤ ((ix4 r s h e) a).val ∧ (((ix4 r s h e) a).val - (![0, l, 0, 0] : Fin 4 → ℕ) a) % ((![0, 0, 0, 0] : Fin 4 → ℕ) a + 1) = 0
        ∧ (((ix4 r s h e) a).val - (![0, l, 0, 0] : Fin 4 → ℕ) a) / ((![0, 0, 0, 0] : Fin 4 → ℕ) a + 1) < S8192x1x16x64.size a := by
      intro a
      match a with
      | ⟨0, _⟩ => exact ⟨Nat.zero_le _, Nat.mod_one _, by show (r.val - 0) / 1 < 8192; omega⟩
      | ⟨1, _⟩ => exact ⟨by show l ≤ s.val; omega, Nat.mod_one _, by show (s.val - l) / 1 < 1; omega⟩
      | ⟨2, _⟩ => exact ⟨Nat.zero_le _, Nat.mod_one _, by show (h.val - 0) / 1 < 16; omega⟩
      | ⟨3, _⟩ => exact ⟨Nat.zero_le _, Nat.mod_one _, by show (e.val - 0) / 1 < 64; omega⟩
    rw [if_pos hs]
    refine (dif_pos hin).trans (congrArg x ?_)
    funext a
    apply Fin.ext
    match a with
    | ⟨0, _⟩ => show (r.val - 0) / 1 = r.val; omega
    | ⟨1, _⟩ => show (s.val - l) / 1 = 0; omega
    | ⟨2, _⟩ => show (h.val - 0) / 1 = h.val; omega
    | ⟨3, _⟩ => show (e.val - 0) / 1 = e.val; omega
  · rw [if_neg hs]
    refine (dif_neg fun hin => ?_).trans hv
    have h2 := hin (1 : Fin 4)
    have a := h2.1
    have b := h2.2.2
    change l ≤ s.val at a
    change (s.val - l) / 1 < 1 at b
    omega

/-- The reference's joined gradient by slot, head and lane. -/
theorem r56 (r : Fin 8192) (s : Fin 3) (h : Fin 16) (e : Fin 64) : val_main_v60 (F := Ideal) x0 x1 (ix4 r s h e)
    = ((if s.val = 0 then (∑ j ∈ Finset.range 8192, Zr r.val (qe X h.val r.val) (oe D h.val r.val) (Kp X (h.val / 2)) (Vp X (h.val / 2)) j * X j (1024 + 64 * h.val + e.val)) * (1 / 8)
        else if s.val = 1 then ∑ t ∈ Finset.range 8192, Zr t (qe X h.val t) (oe D h.val t) (Kp X (h.val / 2)) (Vp X (h.val / 2)) r.val * (X t (64 * h.val + e.val) * (1 / 8))
        else ∑ t ∈ Finset.range 8192, Wr t (qe X h.val t) (Kp X (h.val / 2)) r.val * D t (64 * h.val + e.val) : ℝ) : EReal) := by
  have e47 : val_main_v51 (F := Ideal) x0 x1 (ix4 r (0 : Fin 1) h e) = ((∑ t ∈ Finset.range 8192, Wr t (qe X h.val t) (Kp X (h.val / 2)) r.val * D t (64 * h.val + e.val) : ℝ) : EReal) := by
    have ei : idx_main_v36 (idx_main_v51 (ix4 r (0 : Fin 1) h e)) = ix3 h e r := by funext a; fin_cases a <;> rfl
    rw [val_main_v51_apply, val_main_v36_apply, ei, r31 x0 x1 X D hx hd]
  have e49 : val_main_v53 (F := Ideal) x0 x1 (ix4 r (0 : Fin 1) h e)
      = ((∑ t ∈ Finset.range 8192, Zr t (qe X h.val t) (oe D h.val t) (Kp X (h.val / 2)) (Vp X (h.val / 2)) r.val * (X t (64 * h.val + e.val) * (1 / 8)) : ℝ) : EReal) := by
    have ei : idx_main_v48 (idx_main_v53 (ix4 r (0 : Fin 1) h e)) = ix3 h r e := by funext a; fin_cases a <;> rfl
    rw [val_main_v53_apply, val_main_v48_apply, ei, r43 x0 x1 X D hx hd]
  have e54 : val_main_v58 (F := Ideal) x0 x1 (ix4 r (0 : Fin 1) h e)
      = (((∑ j ∈ Finset.range 8192, Zr r.val (qe X h.val r.val) (oe D h.val r.val) (Kp X (h.val / 2)) (Vp X (h.val / 2)) j * X j (1024 + 64 * h.val + e.val)) * (1 / 8) : ℝ) : EReal) := by
    have ei : idx_main_v58 (ix4 r (0 : Fin 1) h e) = ix3 r h e := by funext a; fin_cases a <;> rfl
    have ej : idx_main_v50 (ix3 r h e) = ix3 h r e := by funext a; fin_cases a <;> rfl
    rw [val_main_v58_apply, ei, val_main_v57_apply, val_main_v50_apply, ej, r45 x0 x1 X D hx hd, val_main_v56_apply, val_main_cst_5_apply, EReal.coe_mul, ← eighth']
    rfl
  rw [val_main_v60_apply, val_main_v55_apply, val_main_v52, val_main_v54, val_main_v59, slot 2 0 (by decide) _ _ _ zero_bits, slot 1 1 (by decide) _ _ _ zero_bits,
    slot 0 2 (by decide) _ _ _ zero_bits, e47, e49, e54]
  match s with
  | ⟨0, _⟩ => show ((0 : EReal) + 0) + _ = _; rw [add_zero, zero_add]; rfl
  | ⟨1, _⟩ => show ((0 : EReal) + _) + 0 = _; rw [add_zero, zero_add]; rfl
  | ⟨2, _⟩ => show (_ + (0 : EReal)) + 0 = _; rw [add_zero, add_zero]; rfl

omit hx hd in
theorem blocks_sum (f : ℕ → ℝ) (m n : ℕ) : ∑ i ∈ Finset.range n, ∑ r ∈ Finset.range m, f (m * i + r) = ∑ t ∈ Finset.range (m * n), f t := by
  induction n with
  | zero => simp
  | succ n ih => rw [Finset.sum_range_succ, ih, Nat.mul_succ, Finset.sum_range_add]

omit hx hd in
theorem dq_all (q o : ℕ → Fin 128 → ℝ) (k v : ℕ → Fin 128 → ℝ) (t n : ℕ) (hn : t ≤ n) (hn2 : n ≤ 8192) (x : Fin 128) :
    DQ q o k v t n x = ∑ j ∈ Finset.range 8192, Zr t (q t) (o t) k v j * k j x := by
  refine Finset.sum_subset (Finset.range_subset_range.mpr hn2) fun j _ hj => ?_
  have hj : ¬j < n := fun h => hj (Finset.mem_range.mpr h)
  rw [Zr, if_neg (by omega), zero_mul]

omit hx hd in
theorem ck_all (q o : ℕ → Fin 128 → ℝ) (k v : ℕ → Fin 128 → ℝ) (y : ℕ) (x : Fin 128) :
    ∑ i ∈ Finset.range 8, CK i q o k v y x = ∑ t ∈ Finset.range 8192, Zr t (q t) (o t) k v y * q t x :=
  blocks_sum (fun t => Zr t (q t) (o t) k v y * q t x) 1024 8

omit hx hd in
theorem cv_all (q o : ℕ → Fin 128 → ℝ) (k : ℕ → Fin 128 → ℝ) (y : ℕ) (x : Fin 128) :
    ∑ i ∈ Finset.range 8, CV i q o k y x = ∑ t ∈ Finset.range 8192, Wr t (q t) k y * o t x :=
  blocks_sum (fun t => Wr t (q t) k y * o t x) 1024 8

omit hx hd in
/-- The kernel's joined gradient at slot `s`, head `h` and lane `e` is the reference's. -/
theorem cat_slot (r : Fin 8192) (s : Fin 3) (h : Fin 16) (e : Fin 64) : CAT X D r.val (1024 * s.val + 64 * h.val + e.val)
    = if s.val = 0 then (∑ j ∈ Finset.range 8192, Zr r.val (qe X h.val r.val) (oe D h.val r.val) (Kp X (h.val / 2)) (Vp X (h.val / 2)) j * X j (1024 + 64 * h.val + e.val)) * (1 / 8)
        else if s.val = 1 then ∑ t ∈ Finset.range 8192, Zr t (qe X h.val t) (oe D h.val t) (Kp X (h.val / 2)) (Vp X (h.val / 2)) r.val * (X t (64 * h.val + e.val) * (1 / 8))
        else ∑ t ∈ Finset.range 8192, Wr t (qe X h.val t) (Kp X (h.val / 2)) r.val * D t (64 * h.val + e.val) := by
  have hp : ∀ c, (64 * h.val + e.val) / 128 = c → c = h.val / 2 := by omega
  have hl := lane_at h e
  have hk : ∀ j, Kp X (h.val / 2) j (lane h e) = X j (1024 + 64 * h.val + e.val) := fun j => by rw [Kp, Nat.add_assoc, hl, Nat.add_assoc]
  have hq : ∀ (Y : ℕ → ℕ → ℝ) t, Qp Y (h.val / 2) t (lane h e) = Y t (64 * h.val + e.val) := fun Y t => by rw [Qp, hl]
  match s with
  | ⟨0, _⟩ =>
    have e1 : 1024 * 0 + 64 * h.val + e.val = 64 * h.val + e.val := by omega
    show CAT X D r.val (1024 * 0 + 64 * h.val + e.val) = _
    rw [e1, CAT, if_pos (by omega), if_pos rfl, hp _ rfl]
    show GQ X D (h.val / 2) r.val (lane h e) = _
    rw [GQ, dq_all _ _ _ _ _ _ (by omega) (by omega), dq_all _ _ _ _ _ _ (by omega) (by omega)]
    simp only [lane_lt, hk, qe, oe]
    split <;> rfl
  | ⟨1, _⟩ =>
    have e1 : 1024 * 1 + 64 * h.val + e.val - 1024 = 64 * h.val + e.val := by omega
    show CAT X D r.val (1024 * 1 + 64 * h.val + e.val) = if 1 = 0 then _ else if 1 = 1 then _ else _
    rw [CAT, if_neg (by omega), if_pos (by omega), if_neg (by decide), if_pos rfl]
    simp only [e1]
    rw [hp _ rfl]
    show GK X D (h.val / 2) r.val (lane h e) = _
    rw [GK]
    simp only [CK2]
    rw [Finset.sum_add_distrib, ck_all, ck_all]
    by_cases h0 : h.val % 2 = 0
    · simp [qA, qB, qe, oe, lane_lt, h0, hq]
    · simp [qA, qB, qe, oe, lane_lt, h0, hq]
  | ⟨2, _⟩ =>
    have e1 : 1024 * 2 + 64 * h.val + e.val - 1024 - 1024 = 64 * h.val + e.val := by omega
    show CAT X D r.val (1024 * 2 + 64 * h.val + e.val) = if 2 = 0 then _ else if 2 = 1 then _ else _
    rw [CAT, if_neg (by omega), if_neg (by omega), if_neg (by decide), if_neg (by decide)]
    simp only [e1]
    rw [hp _ rfl]
    show GV X D (h.val / 2) r.val (lane h e) = _
    rw [GV]
    simp only [CV2]
    rw [Finset.sum_add_distrib, cv_all, cv_all]
    by_cases h0 : h.val % 2 = 0
    · simp [oA, oB, qe, lane_lt, h0, hq]
    · simp [oA, oB, qe, lane_lt, h0, hq]

/-- The reference's result, entry by entry: the kernel's. -/
theorem ref_value (r : Fin 8192) (l : Fin 3072) : val_main_v62 (F := Ideal) x0 x1 (ix2 r l) = ((CAT X D r.val l.val : ℝ) : EReal) := by
  have hs : l.val / 1024 < 3 := by omega
  have hh : l.val % 1024 / 64 < 16 := by omega
  have he : l.val % 64 < 64 := by omega
  have ei : idx_main_v61 (ix2 r l) = ix4 r (⟨l.val / 1024, hs⟩ : Fin 3) (⟨l.val % 1024 / 64, hh⟩ : Fin 16) (⟨l.val % 64, he⟩ : Fin 64) := by
    funext a
    apply Fin.ext
    match a with
    | ⟨0, _⟩ => show (r.val * 3072 + l.val) / 3072 = r.val; omega
    | ⟨1, _⟩ => show (r.val * 3072 + l.val) / 1024 % 3 = l.val / 1024; omega
    | ⟨2, _⟩ => show (r.val * 3072 + l.val) / 64 % 16 = l.val % 1024 / 64; omega
    | ⟨3, _⟩ => show (r.val * 3072 + l.val) % 64 = l.val % 64; omega
  have el : 1024 * (⟨l.val / 1024, hs⟩ : Fin 3).val + 64 * (⟨l.val % 1024 / 64, hh⟩ : Fin 16).val + (⟨l.val % 64, he⟩ : Fin 64).val = l.val := by
    show 1024 * (l.val / 1024) + 64 * (l.val % 1024 / 64) + l.val % 64 = l.val
    omega
  have hc := cat_slot X D r ⟨l.val / 1024, hs⟩ ⟨l.val % 1024 / 64, hh⟩ ⟨l.val % 64, he⟩
  rw [el] at hc
  rw [hc, val_main_v62_apply, val_main_v61_apply, ei]
  exact r56 x0 x1 X D hx hd r _ _ _

end

end Cert.Proof.Sb

end
-- ==== Proof.SbFinal.lean ====
/- The claims about the attention's backward call: what the finiteness of the arguments gives, the value and the frames. -/
module

public import proofs.«01_k».proof.Defs
public import proofs.«01_k».proof.Proof.SbRef
public import proofs.«01_k».proof.Proof.Gen.SbKernel.Frame

@[expose] public section

set_option maxRecDepth 16384

noncomputable section

namespace Cert.Proof.Sb

open Idealize.ShloMosaic Idealize.SL.Sem

theorem pre_facts : Cert.Pre_sb_finite.Facts where
  concatenates_S8192x3072_S8192x1024_S8192x4096_d1 := by decide
  bcast_S_S8192x4096 := by decide

/-- An extended real below infinity in absolute value is a real. -/
theorem real_of_lt (a : EReal) (h : FloatOps.cmpf (F := Ideal) (φ := .f32) .olt (FloatOps.hostAbsf (F := Ideal) (φ := .f32) a) (FloatOps.ofBits (F := Ideal) .f32 0x7F800000#32) = 1#1) :
    a = ((a.toReal : ℝ) : EReal) := by
  rw [top_bits] at h
  induction a with
  | bot => simp [FloatOps.cmpf, FloatOps.hostAbsf, Ideal.cmp] at h
  | top => simp [FloatOps.cmpf, FloatOps.hostAbsf, Ideal.cmp] at h
  | coe r => simp

section
variable [Cert.Pre_sb_finite.Facts] (x0 : FVec Ideal Cert.Pre_sb_finite.S8192x3072 .f32) (x1 : FVec Ideal Cert.Pre_sb_finite.S8192x1024 .f32)
  (h : Cert.Pre_sb_finite.fn x0 x1 = fun _ => 1#1)
include h

theorem finite0 (r : Fin 8192) (l : Fin 3072) : x0 (ix2 r l) = (((x0 (ix2 r l)).toReal : ℝ) : EReal) := by
  refine real_of_lt _ (Eq.trans ?_ (congrFun h (ix2 r (⟨l.val, by omega⟩ : Fin 4096))))
  symm
  pointwise [Cert.Pre_sb_finite.fn]

theorem finite1 (r : Fin 8192) (l : Fin 1024) : x1 (ix2 r l) = (((x1 (ix2 r l)).toReal : ℝ) : EReal) := by
  refine real_of_lt _ (Eq.trans ?_ (congrFun h (ix2 r (⟨3072 + l.val, by omega⟩ : Fin 4096))))
  symm
  pointwise [Cert.Pre_sb_finite.fn]
end

/-- An array of reals as a function of two numbers. -/
def reals {a b : ℕ} (x : (⟨2, ![a, b]⟩ : Shape).Idx → EReal) (r l : ℕ) : ℝ := if h : r < a ∧ l < b then (x (ix2 ⟨r, h.1⟩ ⟨l, h.2⟩)).toReal else 0

theorem reals_at {a b : ℕ} (x : (⟨2, ![a, b]⟩ : Shape).Idx → EReal) (hx : ∀ r l, x (ix2 r l) = (((x (ix2 r l)).toReal : ℝ) : EReal)) (r : Fin a) (l : Fin b) :
    x (ix2 r l) = ((reals x r.val l.val : ℝ) : EReal) := by
  rw [reals, dif_pos ⟨r.isLt, l.isLt⟩]
  exact hx r l

theorem algebraic : Cert.algebraic_SbKernelIdeal_SbReferenceIdeal_pre_sb_finite (hSbKernelIdeal := Cert.SbKernelIdeal.Gen.facts)
    (hSbReferenceIdeal := Cert.SbReferenceIdeal.Gen.facts) (hPre_sb_finite := pre_facts) := by
  intro m g m' g' hp hag
  refine ⟨_, _, _, run m g, (θ_run _ _ _).mono (fun r h c => ?_) (Cert.SbReferenceIdeal.Value.run (F := Ideal) m' g')⟩
  have h0 := reals_at _ (@finite0 pre_facts _ _ (hp c))
  have h1 := reals_at _ (@finite1 pre_facts _ _ (hp c))
  refine ⟨(h c).1.trans ?_, (h c).2.1.trans ?_, (h c).2.2.1.trans ?_, (h c).2.2.2⟩
  · refine (Cert.SbReferenceIdeal.Read.val_main_v29_eq _).trans ((congrArg Cert.SbReferenceIdeal.Read.val_main_v29 (hag c).1).trans ?_)
    funext i
    rw [← ix2_eta i]
    exact (ref_attn _ _ h0 _ _).trans (congrFun (attn_5 m g c _ h0) _).symm
  · refine (Cert.SbReferenceIdeal.Read.val_main_v31_eq _).trans ((congrArg Cert.SbReferenceIdeal.Read.val_main_v31 (hag c).1).trans ?_)
    funext i
    rw [← ix3_eta i]
    exact (ref_kept _ _ h0 _ _ _).trans (congrFun (kept_5 m g c _ h0) _).symm
  · refine (Cert.SbReferenceIdeal.Read.val_main_v62_eq _).trans ((congrArg₂ Cert.SbReferenceIdeal.Read.val_main_v62 (hag c).1 (hag c).2).trans ?_)
    funext i
    rw [← ix2_eta i]
    exact (ref_value _ _ _ _ h0 h1 _ _).trans (result m g c _ _ h0 h1 _ _).symm

theorem reference_frame : Cert.quiescent_SbReferenceIdeal (hSbReferenceIdeal := Cert.SbReferenceIdeal.Gen.facts) := fun m ρ _ =>
  (θ_run Cert.SbReferenceIdeal.defs _ _).mono (fun r h => ⟨fun c => (h c).2.2.2, Idealize.ShloMosaic.sem_eq_zero_of_no_sems (by decide) r.2⟩)
    (Cert.SbReferenceIdeal.Value.run (F := Ideal) m ρ)

end Cert.Proof.Sb

end
-- ==== Proof.DguValue.lean ====
/- The gradient of the gated unit behind the feed-forward block's second product, block by block: what the kernel
   stores is the plain gradient. -/
module

public import proofs.«01_k».proof.Proof.GluValue
public import proofs.«01_k».proof.Proof.Gen.DguKernelIdeal.Value
public import proofs.«01_k».proof.Proof.Gen.DguReferenceIdeal.Run
public import proofs.«01_k».proof.Proof.Gen.DguReferenceIdeal.Read

@[expose] public section

set_option maxRecDepth 16384

noncomputable section

namespace Cert.Proof.DguValue

open Idealize.ShloMosaic Idealize.ShloMosaic.TcCoe Idealize.SL.Sem
open Cert.DguKernelIdeal Cert.DguKernelIdeal.Gen

/-- The reference's result as a function of the four arguments. -/
def REF (g u : FVec Ideal S8192x2816 .f32) (w : FVec Ideal S2816x1024 .f32) (d : FVec Ideal S8192x1024 .f32) :
    FVec Ideal S2x8192x2816 .bf16 :=
  Cert.DguReferenceIdeal.Read.val_main_v14 (F := Ideal) g u w d

/-- A finite factor that is not negative goes into a sum, whatever the summands. -/
theorem scale_sum {n : ℕ} {c : EReal} (h0 : 0 ≤ c) (ht : c ≠ ⊤) (f : Fin n → EReal) : c * ∑ k, f k = ∑ k, c * f k := by
  induction (Finset.univ : Finset (Fin n)) using Finset.cons_induction with
  | empty => simp
  | cons a s h ih => rw [Finset.sum_cons, Finset.sum_cons, EReal.left_distrib_of_nonneg_of_ne_top h0 ht, ih]

theorem half : Ideal.ofBits FTy.f32 1056964608#32 = ((1 / 2 : ℝ) : EReal) := by
  simp [Ideal.ofBits, Ideal.ieee]
  rw [← EReal.coe_mul]
  norm_num

/-- The gradient's cell: of the gate in the first plane, of the plain half in the second. -/
def CELL (s : Fin 2) (y g u : EReal) : EReal :=
  if s.val < 1 then y * u * Ideal.div 1 (1 + Ideal.exp (-g)) + g * (y * u) * (Ideal.div 1 (1 + Ideal.exp (-g)) * (1 - Ideal.div 1 (1 + Ideal.exp (-g))))
  else g * Ideal.div 1 (1 + Ideal.exp (-g)) * y

/-- Half the product's cell. -/
def DOT (d w : Fin 1024 → EReal) : EReal := Ideal.ofBits FTy.f32 1056964608#32 * ∑ k, d k * w k

variable (m : (ℓ : Loc nD τ sig) → Buf (Elt Ideal) ℓ)

theorem idx : ∀ t : Fin cfg0.N, win0_0.index t = ![t.val / 2, 0] ∧ win0_1.index t = ![t.val % 2, 0]
      ∧ win0_2.index t = ![0, t.val / 2, t.val % 2] ∧ win0_3.index t = ![0, t.val / 2, t.val % 2] :=
  (by decide +kernel : ∀ t : Fin grid0.N, win0_0.index t = ![t.val / 2, 0] ∧ win0_1.index t = ![t.val % 2, 0]
      ∧ win0_2.index t = ![0, t.val / 2, t.val % 2] ∧ win0_3.index t = ![0, t.val / 2, t.val % 2])

section
open Cert.DguReferenceIdeal.Read

theorem ref_dot (w : FVec Ideal S2816x1024 .f32) (d : FVec Ideal S8192x1024 .f32) (r : Fin 8192) (k : Fin 2816) :
    val_main_v7 (F := Ideal) w d (ix2 r k) = DOT (fun l => d (ix2 r l)) (fun l => w (ix2 k l)) := by
  rw [val_main_v7_apply]
  have e1 : ∀ q, lidx_main_v7 (ix2 r k) q = ix2 r q := fun q => by funext a; fin_cases a <;> rfl
  have e2 : ∀ q, ridx_main_v7 (ix2 r k) q = ix2 k q := fun q => by funext a; fin_cases a <;> rfl
  simp only [e1, e2]
  pointwise [val_main_v6, val_main_v5, val_main_cst_0]
  rw [DOT, scale_sum (by rw [half]; exact_mod_cast (by norm_num : (0 : ℝ) ≤ 1 / 2)) (by rw [half]; exact EReal.coe_ne_top _)]
  exact Finset.sum_congr rfl fun x _ => mul_assoc _ _ _

theorem ref_apply (g u : FVec Ideal S8192x2816 .f32) (w : FVec Ideal S2816x1024 .f32) (d : FVec Ideal S8192x1024 .f32) (s : Fin 2) (r : Fin 8192) (k : Fin 2816) :
    REF g u w d (ix3 s r k) = CELL s (DOT (fun l => d (ix2 r l)) (fun l => w (ix2 k l))) (g (ix2 r k)) (u (ix2 r k)) := by
  rw [← ref_dot]
  unfold REF val_main_v14 val_main_v13 val_main_v12 val_main_v11 val_main_v10 val_main_v8 val_main_call1_v2 val_main_call1_v1 val_main_call1_v0 val_main_v9
  generalize val_main_v7 (F := Ideal) w d = y
  pointwise [val_main_v0_0, val_main_v0_1, val_main_v0_2, val_main_call0_v7, val_main_call0_v6, val_main_call0_v4, val_main_call0_v3, val_main_call0_v2, val_main_call0_v1, val_main_call0_v0, val_main_call0_cst, val_main_call0_cst_0, val_main_call0_cst_1]
  rfl
end

theorem pay_apply (d : Vec Ideal S512x1024 .f32) (w : Vec Ideal S1408x1024 .bf16) (gu : Vec Ideal S2x512x1408 .bf16) (s : Fin 2) (r : Fin 512) (k : Fin 1408) :
    k0_pay4 (F := Ideal) (k0_pay2 d w) gu (ix3 s r k)
      = CELL s (DOT (fun l => d (ix2 r l)) (fun l => w (ix2 k l))) (gu (ix3 0 r k)) (gu (ix3 1 r k)) := by
  have hd : k0_pay2 (F := Ideal) d w (ix2 r k) = ∑ l, d (ix2 r l) * w (ix2 k l) := by
    pointwise [k0_pay2, k0_pay1]
  unfold DOT
  rw [← hd]
  generalize k0_pay2 (F := Ideal) d w = z
  pointwise [k0_pay4]
  unfold CELL
  by_cases h : s.val < 1
  · simp only [h, dif_pos, if_pos, GluValue.gate_slope, zero_sub]
    simp only [← zero_sub, GluValue.gate_slope]
  · simp only [h, dif_neg, if_neg, not_false_iff, zero_sub]

/-- What the launch stages of the gate and the plain half: the two, one behind the other. -/
theorem stacked (c : Dev nD) : V m c main_v3
    = truncf .bf16 (concatenate S2x8192x2816 0 [⟨S1x8192x2816, broadcastInDim S1x8192x2816 ![1, 2] bcast_S8192x2816_S1x8192x2816_1_2 (m ((c : Thread nD τ).loc main_arg0))⟩,
        ⟨S1x8192x2816, broadcastInDim S1x8192x2816 ![1, 2] bcast_S8192x2816_S1x8192x2816_1_2 (m ((c : Thread nD τ).loc main_arg1))⟩] concatenates_S1x8192x2816_S1x8192x2816_S2x8192x2816_d0 : FVec Ideal S2x8192x2816 .f32) bitsLt_bf16_f32 := rfl

theorem point (c : Dev nD) (t : Fin cfg0.N) (y : S2x512x1408.Idx) :
    k0_pay4 (F := Ideal) (k0_pay2 (iblk m c 0 t) (iblk m c 1 t)) (iblk m c 2 t) y
      = REF (m ((c : Thread nD τ).loc main_arg0)) (m ((c : Thread nD τ).loc main_arg1)) (m ((c : Thread nD τ).loc main_arg2)) (m ((c : Thread nD τ).loc main_arg3)) (((cfg0.win 3).blk t).view.emb y) := by
  have ht : t.val < 32 := t.isLt
  idx_vars y
  have e : ((cfg0.win 3).blk t).view.emb (ix3 y0 y1 y2) = (ix3 y0 ⟨t.val / 2 * 512 + y1.val, by omega⟩ ⟨t.val % 2 * 1408 + y2.val, by omega⟩ : S2x8192x2816.Idx) := by
    blk_ext [idx t]
  have ed : ∀ l : Fin 1024, iblk m c 0 t (ix2 y1 l) = m ((c : Thread nD τ).loc main_arg3) (ix2 ⟨t.val / 2 * 512 + y1.val, by omega⟩ l) := by
    intro l
    blk_point [iblk, V, idx t]
  have ew : ∀ l : Fin 1024, iblk m c 1 t (ix2 y2 l) = m ((c : Thread nD τ).loc main_arg2) (ix2 ⟨t.val % 2 * 1408 + y2.val, by omega⟩ l) := by
    intro l
    blk_point [iblk, V, idx t]
  have eg : ∀ s : Fin 2, iblk m c 2 t (ix3 s y1 y2)
      = if h : s.val < 1 then m ((c : Thread nD τ).loc main_arg0) (ix2 ⟨t.val / 2 * 512 + y1.val, by omega⟩ ⟨t.val % 2 * 1408 + y2.val, by omega⟩)
        else m ((c : Thread nD τ).loc main_arg1) (ix2 ⟨t.val / 2 * 512 + y1.val, by omega⟩ ⟨t.val % 2 * 1408 + y2.val, by omega⟩) := by
    intro s
    have e : ((cfg0.win 2).blk t).view.emb (ix3 s y1 y2) = (ix3 s ⟨t.val / 2 * 512 + y1.val, by omega⟩ ⟨t.val % 2 * 1408 + y2.val, by omega⟩ : S2x8192x2816.Idx) := by
      blk_ext [idx t]
    refine (congrArg (V m c main_v3) e).trans ?_
    rw [stacked]
    pointwise
  rw [e, ref_apply, pay_apply, funext ed, funext ew, eg 0, eg 1]
  rfl

theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  refine (congrFun (Value.flushed3_A m c t) y).trans ?_
  blk_simp
  frame_out
  exact point m c t y

end Cert.Proof.DguValue

end
-- ==== Proof.Norm.lean ====
/- The gradient of the norm, by row and column, and the sum of a column block by block. -/
module

public import Idealize.ShloMosaic.Lib.Pipeline.ValueKit
public import Idealize.ShloMosaic.Lib.Pointwise

@[expose] public section

noncomputable section

namespace Cert.Proof.Norm

open Idealize.ShloMosaic

/-- A row's mean square, with the small number under the root. -/
def MEAN (h : Fin 1024 → EReal) : EReal :=
  Ideal.div (∑ x, h x * h x) (Ideal.ofBits FTy.f32 1149239296#32) + Ideal.ofBits FTy.f32 897988541#32

/-- What the row's mean square is changed by, for one column of the row. -/
def TURN (h g a : Fin 1024 → EReal) : EReal :=
  Ideal.div ((∑ x, h x * (a x * g x)) * (Ideal.ofBits FTy.f32 3204448256#32 * Ideal.div (Ideal.rsqrt (MEAN h)) (MEAN h)))
    (Ideal.ofBits FTy.f32 1149239296#32)

/-- The row's gradient at one column. -/
def DX (h g a : Fin 1024 → EReal) (l : Fin 1024) : EReal :=
  a l * g l * Ideal.rsqrt (MEAN h) + h l * TURN h g a + TURN h g a * h l

/-- What a row adds to the gradient of the norm's factor at one column. -/
def DG (h a : Fin 1024 → EReal) (l : Fin 1024) : EReal := h l * Ideal.rsqrt (MEAN h) * a l

/-- A column of 8192 entries, continued by 0. -/
def pad (f : Fin 8192 → EReal) (r : ℕ) : EReal := if h : r < 8192 then f ⟨r, h⟩ else 0

theorem pad_of {f : Fin 8192 → EReal} {r : ℕ} (h : r < 8192) : pad f r = f ⟨r, h⟩ := dif_pos h

theorem sum_pad (f : Fin 8192 → EReal) : ∑ r ∈ Finset.range 8192, pad f r = ∑ r, f r := by
  rw [← Fin.sum_univ_eq_sum_range]
  exact Finset.sum_congr rfl fun r _ => pad_of r.isLt

/-- One more block of `s` rows. -/
theorem sum_block (F : ℕ → EReal) (n s : ℕ) :
    ∑ r ∈ Finset.range ((n + 1) * s), F r = ∑ r ∈ Finset.range (n * s), F r + ∑ r : Fin s, F (n * s + r.val) := by
  rw [Nat.add_mul, Nat.one_mul, Finset.sum_range_add, Fin.sum_univ_eq_sum_range (fun r => F (n * s + r))]

end Cert.Proof.Norm

end
-- ==== Proof.MixValue.lean ====
/- The gradient through the norm before the mixer, block by block: what the kernel stores is the plain gradient. -/
module

public import proofs.«01_k».proof.Proof.Norm
public import proofs.«01_k».proof.Proof.Gen.MixKernelIdeal.Value
public import proofs.«01_k».proof.Proof.Gen.MixReferenceIdeal.Run
public import proofs.«01_k».proof.Proof.Gen.MixReferenceIdeal.Read

@[expose] public section

set_option maxRecDepth 16384

noncomputable section

namespace Cert.Proof.MixValue

open Idealize.ShloMosaic Idealize.ShloMosaic.TcCoe Idealize.SL.Sem
open Cert.MixKernelIdeal Cert.MixKernelIdeal.Gen
open Cert.Proof.Norm

/-- A cell of the product's gradient. -/
def DOT (d w : Fin 3072 → EReal) : EReal := ∑ k, d k * w k

section
open Cert.MixReferenceIdeal.Read

variable (d : FVec Ideal S8192x3072 .f32) (w : FVec Ideal S1024x3072 .f32) (x : FVec Ideal S8192x1024 .f32) (g : FVec Ideal S1024 .f32) (e : FVec Ideal S8192x1024 .f32)

/-- A row of the product's gradient. -/
def ACC (r : Fin 8192) (k : Fin 1024) : EReal := DOT (fun l => d (ix2 r l)) (fun l => w (ix2 k l))

theorem ref_dot (r : Fin 8192) (k : Fin 1024) : val_main_v17 (F := Ideal) d w (ix2 r k) = ACC d w r k := by
  rw [val_main_v17_apply]
  have e1 : ∀ q, lidx_main_v17 (ix2 r k) q = ix2 r q := fun q => by funext a; fin_cases a <;> rfl
  have e2 : ∀ q, ridx_main_v17 (ix2 r k) q = ix2 k q := fun q => by funext a; fin_cases a <;> rfl
  simp only [e1, e2]
  rfl

theorem ref_apply (r : Fin 8192) (k : Fin 1024) :
    val_main_v38 (F := Ideal) d w x g e (ix2 r k) = e (ix2 r k) + DX (fun l => x (ix2 r l)) (fun l => g (ix1 l)) (ACC d w r) k := by
  have hd : ACC d w r = fun k => val_main_v17 (F := Ideal) d w (ix2 r k) := funext fun k => (ref_dot d w r k).symm
  rw [hd]
  unfold val_main_v38 val_main_v37 val_main_v36 val_main_v35 val_main_v34 val_main_v33 val_main_v32 val_main_v30 val_main_v29 val_main_v28 val_main_v26 val_main_v25 val_main_v24 val_main_v22
  generalize val_main_v17 (F := Ideal) d w = a
  pointwise [val_main_v31, val_main_v27, val_main_v21, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  unfold DX TURN MEAN
  simp [add_assoc]

theorem ref_sum (k : Fin 1024) :
    val_main_v39 (F := Ideal) d w x (ix2 0 k) = ∑ r, DG (fun l => x (ix2 r l)) (ACC d w r) k := by
  have hd : ∀ r, ACC d w r = fun k => val_main_v17 (F := Ideal) d w (ix2 r k) := fun r => funext fun k => (ref_dot d w r k).symm
  simp only [hd]
  unfold val_main_v39 val_main_v23 val_main_v20 val_main_v19 val_main_v18
  generalize val_main_v17 (F := Ideal) d w = a
  pointwise [val_main_v12, val_main_v11, val_main_v7, val_main_v6, val_main_v5, val_main_v4, val_main_v3, val_main_v2, val_main_v1, val_main_v0, val_main_cst, val_main_cst_0, val_main_cst_1, val_main_cst_3, val_main_cst_4]
  unfold DG MEAN
  simp
end

theorem dot_apply (d : Vec Ideal S512x3072 .bf16) (w : Vec Ideal S1024x3072 .bf16) (r : Fin 512) (k : Fin 1024) :
    k0_pay2 (F := Ideal) d w (ix2 r k) = DOT (fun l => d (ix2 r l)) (fun l => w (ix2 k l)) := by
  pointwise [k0_pay2, k0_pay1]
  rfl

theorem sum_apply (h a : Vec Ideal S512x1024 .f32) (k : Fin 1024) :
    k0_pay7 (F := Ideal) h a (ix2 0 k) = ∑ r, DG (fun l => h (ix2 r l)) (fun l => a (ix2 r l)) k := by
  pointwise [k0_pay7, k0_pay6, k0_pay5]
  rfl

theorem row_apply (h : Vec Ideal S512x1024 .f32) (g : Vec Ideal S1x1024 .f32) (a e : Vec Ideal S512x1024 .f32) (r : Fin 512) (k : Fin 1024) :
    k0_pay8 (F := Ideal) h g a e (ix2 r k)
      = e (ix2 r k) + DX (fun l => h (ix2 r l)) (fun l => g (ix2 0 l)) (fun l => a (ix2 r l)) k := by
  pointwise [k0_pay8, k0_pay6, k0_pay5]
  unfold DX TURN MEAN
  simp

variable (m : (ℓ : Loc nD τ sig) → Buf (Elt Ideal) ℓ)

theorem idx : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![0, 0])

theorem last : ∀ t : Fin cfg0.N, (cfg0.win 6).flush t = true → t.val = 15 :=
  (by decide +kernel : ∀ t : Fin grid0.N, (cfg0.win 6).flush t = true → t.val = 15)

section
variable (c : Dev nD) (t : Fin cfg0.N)

theorem acc_at (r : Fin 512) (h : t.val * 512 + r.val < 8192) :
    (fun k => k0_pay2 (F := Ideal) (iblk m c 0 t) (iblk m c 1 t) (ix2 r k))
      = ACC (m ((c : Thread nD τ).loc main_arg0)) (m ((c : Thread nD τ).loc main_arg1)) ⟨t.val * 512 + r.val, h⟩ := by
  funext k
  rw [dot_apply]
  have ht : t.val < 16 := t.isLt
  have ed : ∀ l : Fin 3072, iblk m c 0 t (ix2 r l) = m ((c : Thread nD τ).loc main_arg0) (ix2 ⟨t.val * 512 + r.val, h⟩ l) := by
    intro l
    blk_point [iblk, V, idx t]
  have ew : ∀ l : Fin 3072, iblk m c 1 t (ix2 k l) = m ((c : Thread nD τ).loc main_arg1) (ix2 k l) := by
    intro l
    blk_point [iblk, V, idx t]
  rw [funext ed, funext ew, ACC]

theorem h_at (r : Fin 512) (h : t.val * 512 + r.val < 8192) :
    (fun l => iblk m c 2 t (ix2 r l)) = fun l => m ((c : Thread nD τ).loc main_arg2) (ix2 ⟨t.val * 512 + r.val, h⟩ l) := by
  have ht : t.val < 16 := t.isLt
  funext l
  blk_point [iblk, V, idx t]

theorem g_at : (fun l => iblk m c 3 t (ix2 0 l)) = fun l => m ((c : Thread nD τ).loc main_arg3) (ix1 l) := by
  have ht : t.val < 16 := t.isLt
  funext l
  blk_point [iblk, V, idx t]

theorem point (y : S512x1024.Idx) :
    k0_pay8 (F := Ideal) (iblk m c 2 t) (iblk m c 3 t) (k0_pay2 (iblk m c 0 t) (iblk m c 1 t)) (iblk m c 4 t) y
      = Cert.MixReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 16 := t.isLt
  idx_vars y
  have hr : t.val * 512 + y0.val < 8192 := by omega
  have e : ((cfg0.win 5).blk t).view.emb (ix2 y0 y1) = (ix2 ⟨t.val * 512 + y0.val, hr⟩ y1 : S8192x1024.Idx) := by
    blk_ext [idx t]
  have ee : iblk m c 4 t (ix2 y0 y1) = m ((c : Thread nD τ).loc main_arg4) (ix2 ⟨t.val * 512 + y0.val, hr⟩ y1) := by
    blk_point [iblk, V, idx t]
  rw [e, row_apply, acc_at m c t y0 hr, h_at m c t y0 hr, g_at, ee]
  exact (ref_apply _ _ _ _ _ _ _).symm
end

theorem first_point {t : Fin cfg0.N} (h4 : ¬ 1 ≤ t.val) : t.val % 16 = 0 := by omega

theorem later_point {t : Fin cfg0.N} (h4 : 1 ≤ t.val) : ¬ t.val % 16 = 0 := by
  have ht : t.val < 16 := t.isLt
  omega

theorem final (c : Dev nD) : (dats m 0 c).arrAt 5 (cfgs 0).N
    = Cert.MixReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  by_cases h4 : 1 ≤ t.val
  · refine (congrFun (Value.flushed5_B m c t (later_point h4) h4) y).trans ?_
    blk_simp
    frame_out
    exact point m c t y
  · refine (congrFun (Value.flushed5_A m c t (first_point h4) h4) y).trans ?_
    blk_simp
    frame_out
    exact point m c t y

/-- What a row adds at column `k`. -/
def PART (c : Dev nD) (k : Fin 1024) (r : Fin 8192) : EReal :=
  DG (fun l => m ((c : Thread nD τ).loc main_arg2) (ix2 r l)) (ACC (m ((c : Thread nD τ).loc main_arg0)) (m ((c : Thread nD τ).loc main_arg1)) r) k

theorem block_sum (c : Dev nD) (t : Fin cfg0.N) (k : Fin 1024) :
    k0_pay7 (F := Ideal) (iblk m c 2 t) (k0_pay2 (iblk m c 0 t) (iblk m c 1 t)) (ix2 0 k)
      = ∑ r : Fin 512, pad (PART m c k) (t.val * 512 + r.val) := by
  have ht : t.val < 16 := t.isLt
  rw [sum_apply]
  refine Finset.sum_congr rfl fun r _ => ?_
  have hr : t.val * 512 + r.val < 8192 := by omega
  rw [acc_at m c t r hr, h_at m c t r hr, pad_of hr, PART]

theorem step_apply (u v : Vec Ideal S1x1024 .f32) (k : Fin 1024) : k0_pay4 (F := Ideal) u v (ix2 0 k) = v (ix2 0 k) + u (ix2 0 k) := by
  pointwise [k0_pay4]

theorem kept (c : Dev nD) (k : Fin 1024) : ∀ (n : ℕ) (hn : n < cfg0.N),
    (outsAt0 m c n hn).2 (ix2 0 k) = ∑ r ∈ Finset.range ((n + 1) * 512), pad (PART m c k) r := by
  intro n
  induction n with
  | zero =>
    intro hn
    rw [sum_block, Nat.zero_mul, Finset.range_zero, Finset.sum_empty, zero_add]
    refine Eq.trans ?_ ((block_sum m c ⟨0, hn⟩ k).trans (by simp))
    rw [outsAt0]
    frame_out
  | succ n ih =>
    intro hn
    have hm : ¬ (n + 1) % 16 = 0 := later_point (t := ⟨n + 1, hn⟩) (Nat.le_add_left 1 n)
    rw [sum_block, ← ih (Nat.lt_of_succ_lt hn), ← block_sum m c ⟨n + 1, hn⟩ k]
    rw [outsAt0, dif_neg hm, dif_pos (Nat.le_add_left 1 n)]
    frame_out
    exact step_apply _ _ k

theorem final6 (c : Dev nD) : (dats m 0 c).arrAt 6 (cfgs 0).N
    = Cert.MixReferenceIdeal.Read.val_main_v39 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := last t hf
  refine (congrFun (Value.flushed6 m c t) y).trans ?_
  blk_simp
  refine (show _ = (outsAt0 m c t.val t.isLt).2 y from rfl).trans ?_
  change S1x1024.Idx at y
  idx_vars y
  have h0 : y0 = 0 := Subsingleton.elim _ _
  subst h0
  have e : ((cfg0.win 6).blk t).view.emb (ix2 0 y1) = (ix2 0 y1 : S1x1024.Idx) := by
    blk_ext [idx t]
  refine (kept m c y1 t.val t.isLt).trans ?_
  rw [ht]
  refine (sum_pad _).trans ?_
  refine ((ref_sum _ _ _ y1).symm).trans ?_
  exact congrArg _ e.symm

end Cert.Proof.MixValue

end
-- ==== Proof.DhnValue.lean ====
/- The gradient through the norm before the feed-forward block: each block of rows is gathered at two points, one
   for each half of the product's columns, and what the kernel stores is the plain gradient. -/
module

public import proofs.«01_k».proof.Proof.Norm
public import proofs.«01_k».proof.Proof.Gen.DhnKernelIdeal.Value
public import proofs.«01_k».proof.Proof.Gen.DhnReferenceIdeal.Run
public import proofs.«01_k».proof.Proof.Gen.DhnReferenceIdeal.Read

@[expose] public section

set_option maxRecDepth 16384
set_option maxHeartbeats 1000000

noncomputable section

namespace Cert.Proof.DhnValue

open Idealize.ShloMosaic Idealize.ShloMosaic.TcCoe Idealize.SL.Sem
open Cert.DhnKernelIdeal Cert.DhnKernelIdeal.Gen
open Cert.Proof.Norm

/-- One half of a cell of the product's gradient. -/
def HALF (d1 d2 : Fin 2816 → EReal) (w : Fin 5632 → EReal) (s : Fin 2) : EReal :=
  ∑ k : Fin 2816, (if s.val < 1 then d1 k else d2 k) * w ⟨s.val * 2816 + k.val, by omega⟩

section
open Cert.DhnReferenceIdeal.Read

variable (d u : FVec Ideal S8192x2816 .f32) (w : FVec Ideal S1024x5632 .f32) (x : FVec Ideal S8192x1024 .f32) (g : FVec Ideal S1024 .f32) (e : FVec Ideal S8192x1024 .f32)

/-- One half of a row of the product's gradient. -/
def ROW (s : Fin 2) (r : Fin 8192) (k : Fin 1024) : EReal := HALF (fun l => d (ix2 r l)) (fun l => u (ix2 r l)) (fun l => w (ix2 k l)) s

/-- A row of the product's gradient. -/
def ACC (r : Fin 8192) (k : Fin 1024) : EReal := ROW d u w 0 r k + ROW d u w 1 r k

theorem cat_apply (r : Fin 8192) (l : Fin 5632) :
    val_main_v19 (F := Ideal) d u (ix2 r l) = if h : l.val < 2816 then d (ix2 r ⟨l.val, h⟩) else u (ix2 r ⟨l.val - 2816, by omega⟩) := by
  pointwise [val_main_v19]

theorem ref_dot (r : Fin 8192) (k : Fin 1024) : val_main_v20 (F := Ideal) d u w (ix2 r k) = ACC d u w r k := by
  rw [val_main_v20_apply]
  have e1 : ∀ q, lidx_main_v20 (ix2 r k) q = ix2 r q := fun q => by funext a; fin_cases a <;> rfl
  have e2 : ∀ q, ridx_main_v20 (ix2 r k) q = ix2 k q := fun q => by funext a; fin_cases a <;> rfl
  simp only [e1, e2, cat_apply]
  unfold ACC ROW HALF
  refine (Fin.sum_univ_add (a := 2816) (b := 2816) _).trans ?_
  refine congrArg₂ (· + ·) (Finset.sum_congr rfl fun q _ => ?_) (Finset.sum_congr rfl fun q _ => ?_)
  · rw [dif_pos (show (Fin.castAdd 2816 q).val < 2816 from q.isLt), if_pos (by decide)]
    refine congrArg₂ (· * ·) rfl (congrArg w (congrArg (ix2 k) (Fin.ext ?_)))
    simp
  · rw [dif_neg (show ¬ (Fin.natAdd 2816 q).val < 2816 by simp), if_neg (by decide)]
    refine congrArg₂ (· * ·) (congrArg u (congrArg (ix2 r) (Fin.ext ?_))) (congrArg w (congrArg (ix2 k) (Fin.ext ?_)))
    · simp
    · simp [add_comm]

theorem ref_apply (r : Fin 8192) (k : Fin 1024) :
    val_main_v41 (F := Ideal) d u w x g e (ix2 r k) = e (ix2 r k) + DX (fun l => x (ix2 r l)) (fun l => g (ix1 l)) (ACC d u w r) k := by
  have hd : ACC d u w r = fun k => val_main_v20 (F := Ideal) d u w (ix2 r k) := funext fun k => (ref_dot d u w r k).symm
  rw [hd]
  unfold val_main_v41 val_main_v40 val_main_v39 val_main_v38 val_main_v37 val_main_v36 val_main_v35 val_main_v33 val_main_v32 val_main_v31 val_main_v29 val_main_v28 val_main_v27 val_main_v25
  generalize val_main_v20 (F := Ideal) d u w = a
  pointwise [val_main_v34, val_main_v30, val_main_v24, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  unfold DX TURN MEAN
  simp [add_assoc]

theorem ref_sum (k : Fin 1024) :
    val_main_v42 (F := Ideal) d u w x (ix2 0 k) = ∑ r, DG (fun l => x (ix2 r l)) (ACC d u w r) k := by
  have hd : ∀ r, ACC d u w r = fun k => val_main_v20 (F := Ideal) d u w (ix2 r k) := fun r => funext fun k => (ref_dot d u w r k).symm
  simp only [hd]
  unfold val_main_v42 val_main_v26 val_main_v23 val_main_v22 val_main_v21
  generalize val_main_v20 (F := Ideal) d u w = a
  pointwise [val_main_v12, val_main_v11, val_main_v7, val_main_v6, val_main_v5, val_main_v4, val_main_v3, val_main_v2, val_main_v1, val_main_v0, val_main_cst, val_main_cst_0, val_main_cst_1, val_main_cst_3, val_main_cst_4]
  unfold DG MEAN
  simp
end

theorem part_apply (d : Vec Ideal S1x512x2816 .bf16) (w : Vec Ideal S1024x2816 .bf16) (r : Fin 512) (k : Fin 1024) :
    k0_pay2 (F := Ideal) d w (ix2 r k) = ∑ l, d (ix3 0 r l) * w (ix2 k l) := by
  pointwise [k0_pay2, k0_pay1]

theorem both_apply (d : Vec Ideal S1x512x2816 .bf16) (w : Vec Ideal S1024x2816 .bf16) (z : Vec Ideal S512x1024 .f32) (r : Fin 512) (k : Fin 1024) :
    k0_pay3 (F := Ideal) d w z (ix2 r k) = z (ix2 r k) + k0_pay2 (F := Ideal) d w (ix2 r k) := by
  rw [part_apply]
  pointwise [k0_pay3, k0_pay1]

theorem sum_apply (h a : Vec Ideal S512x1024 .f32) (k : Fin 1024) :
    k0_pay7 (F := Ideal) h a (ix2 0 k) = ∑ r, DG (fun l => h (ix2 r l)) (fun l => a (ix2 r l)) k := by
  pointwise [k0_pay7, k0_pay6, k0_pay5]
  rfl

theorem row_apply (h : Vec Ideal S512x1024 .f32) (g : Vec Ideal S1x1024 .f32) (a e : Vec Ideal S512x1024 .f32) (r : Fin 512) (k : Fin 1024) :
    k0_pay8 (F := Ideal) h g a e (ix2 r k)
      = e (ix2 r k) + DX (fun l => h (ix2 r l)) (fun l => g (ix2 0 l)) (fun l => a (ix2 r l)) k := by
  pointwise [k0_pay8, k0_pay6, k0_pay5]
  unfold DX TURN MEAN
  simp

variable (m : (ℓ : Loc nD τ sig) → Buf (Elt Ideal) ℓ)

theorem idx : ∀ t : Fin cfg0.N, win0_0.index t = ![t.val % 2, t.val / 2, 0] ∧ win0_1.index t = ![0, t.val % 2] ∧ win0_2.index t = ![t.val / 2, 0]
      ∧ win0_3.index t = ![0, 0] ∧ win0_4.index t = ![t.val / 2, 0] ∧ win0_5.index t = ![t.val / 2, 0] ∧ win0_6.index t = ![0, 0] :=
  (by decide +kernel : ∀ t : Fin grid0.N, win0_0.index t = ![t.val % 2, t.val / 2, 0] ∧ win0_1.index t = ![0, t.val % 2] ∧ win0_2.index t = ![t.val / 2, 0]
      ∧ win0_3.index t = ![0, 0] ∧ win0_4.index t = ![t.val / 2, 0] ∧ win0_5.index t = ![t.val / 2, 0] ∧ win0_6.index t = ![0, 0])

theorem last : ∀ t : Fin cfg0.N, (cfg0.win 6).flush t = true → t.val = 31 :=
  (by decide +kernel : ∀ t : Fin grid0.N, (cfg0.win 6).flush t = true → t.val = 31)

theorem odd : ∀ t : Fin cfg0.N, (cfg0.win 5).flush t = true → t.val % 2 = 1 :=
  (by decide +kernel : ∀ t : Fin grid0.N, (cfg0.win 5).flush t = true → t.val % 2 = 1)

section
variable (c : Dev nD) (t : Fin cfg0.N)

/-- What the launch stages of the two halves' cotangents: the two, one behind the other. -/
theorem stacked : V m c main_v3
    = truncf .bf16 (concatenate S2x8192x2816 0 [⟨S1x8192x2816, broadcastInDim S1x8192x2816 ![1, 2] bcast_S8192x2816_S1x8192x2816_1_2 (m ((c : Thread nD τ).loc main_arg0))⟩,
        ⟨S1x8192x2816, broadcastInDim S1x8192x2816 ![1, 2] bcast_S8192x2816_S1x8192x2816_1_2 (m ((c : Thread nD τ).loc main_arg1))⟩] concatenates_S1x8192x2816_S1x8192x2816_S2x8192x2816_d0 : FVec Ideal S2x8192x2816 .f32) bitsLt_bf16_f32 := rfl

theorem part_at (r : Fin 512) (k : Fin 1024) (h : t.val / 2 * 512 + r.val < 8192) (s : Fin 2) (hs : t.val % 2 = s.val) :
    k0_pay2 (F := Ideal) (iblk m c 0 t) (iblk m c 1 t) (ix2 r k)
      = ROW (m ((c : Thread nD τ).loc main_arg0)) (m ((c : Thread nD τ).loc main_arg1)) (m ((c : Thread nD τ).loc main_arg2)) s ⟨t.val / 2 * 512 + r.val, h⟩ k := by
  rw [part_apply, ROW, HALF]
  have ht : t.val < 32 := t.isLt
  refine Finset.sum_congr rfl fun l _ => congrArg₂ (· * ·) ?_ ?_
  · have e : ((cfg0.win 0).blk t).view.emb (ix3 0 r l) = (ix3 s ⟨t.val / 2 * 512 + r.val, h⟩ l : S2x8192x2816.Idx) := by
      blk_ext [idx t]
    refine (congrArg (V m c main_v3) e).trans ?_
    rw [stacked]
    pointwise
    by_cases h1 : s.val < 1
    · rw [dif_pos h1, if_pos h1]
    · rw [dif_neg h1, if_neg h1]
  · blk_point [iblk, V, idx t]

theorem h_at (r : Fin 512) (h : t.val / 2 * 512 + r.val < 8192) :
    (fun l => iblk m c 2 t (ix2 r l)) = fun l => m ((c : Thread nD τ).loc main_arg3) (ix2 ⟨t.val / 2 * 512 + r.val, h⟩ l) := by
  have ht : t.val < 32 := t.isLt
  funext l
  blk_point [iblk, V, idx t]

theorem g_at : (fun l => iblk m c 3 t (ix2 0 l)) = fun l => m ((c : Thread nD τ).loc main_arg4) (ix1 l) := by
  have ht : t.val < 32 := t.isLt
  funext l
  blk_point [iblk, V, idx t]

variable {t}

/-- What the scratch holds after the first of a block's two points. -/
theorem held (h0 : t.val % 2 = 0) : (outsAt0 m c t.val t.isLt).2.2 = k0_pay2 (iblk m c 0 t) (iblk m c 1 t) := by
  rw [outsAt0_A m c t h0 (by omega) (by omega)]
  frame_out

/-- What the scratch holds before the second of a block's two points. -/
def PRE (ht : t.val % 2 = 1) : Vec Ideal S512x1024 .f32 := (outsAt0 m c (t.val - 1) (Nat.lt_of_le_of_lt (Nat.sub_le _ _) t.isLt)).2.2

theorem acc_at (h1 : t.val % 2 = 1) (r : Fin 512) (h : t.val / 2 * 512 + r.val < 8192) :
    (fun k => k0_pay3 (F := Ideal) (iblk m c 0 t) (iblk m c 1 t) (PRE m c h1) (ix2 r k))
      = ACC (m ((c : Thread nD τ).loc main_arg0)) (m ((c : Thread nD τ).loc main_arg1)) (m ((c : Thread nD τ).loc main_arg2)) ⟨t.val / 2 * 512 + r.val, h⟩ := by
  funext k
  have hl : t.val - 1 < cfg0.N := Nat.lt_of_le_of_lt (Nat.sub_le _ _) t.isLt
  have h0 : (⟨t.val - 1, hl⟩ : Fin cfg0.N).val % 2 = 0 := by
    show (t.val - 1) % 2 = 0
    omega
  have hd : (t.val - 1) / 2 = t.val / 2 := by omega
  rw [both_apply, PRE, held m c h0, part_at m c t r k h 1 h1, part_at m c ⟨t.val - 1, hl⟩ r k (by rw [hd]; exact h) 0 h0, ACC]
  simp only [hd]

theorem point (h1 : t.val % 2 = 1) (y : S512x1024.Idx) :
    k0_pay8 (F := Ideal) (iblk m c 2 t) (iblk m c 3 t) (k0_pay3 (iblk m c 0 t) (iblk m c 1 t) (PRE m c h1)) (iblk m c 4 t) y
      = Cert.DhnReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 5).blk t).view.emb y) := by
  have ht : t.val < 32 := t.isLt
  idx_vars y
  have hr : t.val / 2 * 512 + y0.val < 8192 := by omega
  have e : ((cfg0.win 5).blk t).view.emb (ix2 y0 y1) = (ix2 ⟨t.val / 2 * 512 + y0.val, hr⟩ y1 : S8192x1024.Idx) := by
    blk_ext [idx t]
  have ee : iblk m c 4 t (ix2 y0 y1) = m ((c : Thread nD τ).loc main_arg5) (ix2 ⟨t.val / 2 * 512 + y0.val, hr⟩ y1) := by
    blk_point [iblk, V, idx t]
  rw [e, row_apply, acc_at m c h1 y0 hr, h_at m c t y0 hr, g_at, ee]
  exact (ref_apply _ _ _ _ _ _ _ _).symm

theorem final : (dats m 0 c).arrAt 5 (cfgs 0).N
    = Cert.DhnReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  have h1 := odd t hf
  by_cases h4 : 2 ≤ t.val
  · refine (congrFun (Value.flushed5_C m c t (by omega) h1 h1 (by omega) h4) y).trans ?_
    blk_simp
    frame_out
    rw [(Memref.isWhole_whole cc0_scratch0).read_unread]
    exact point m c h1 y
  · refine (congrFun (Value.flushed5_B m c t (by omega) h1 h1 (by omega) h4) y).trans ?_
    blk_simp
    frame_out
    rw [(Memref.isWhole_whole cc0_scratch0).read_unread]
    exact point m c h1 y

/-- What a row adds at column `k`. -/
def PART (k : Fin 1024) (r : Fin 8192) : EReal :=
  DG (fun l => m ((c : Thread nD τ).loc main_arg3) (ix2 r l)) (ACC (m ((c : Thread nD τ).loc main_arg0)) (m ((c : Thread nD τ).loc main_arg1)) (m ((c : Thread nD τ).loc main_arg2)) r) k

theorem block_sum (h1 : t.val % 2 = 1) (k : Fin 1024) :
    k0_pay7 (F := Ideal) (iblk m c 2 t) (k0_pay3 (iblk m c 0 t) (iblk m c 1 t) (PRE m c h1)) (ix2 0 k)
      = ∑ r : Fin 512, pad (PART m c k) (t.val / 2 * 512 + r.val) := by
  have ht : t.val < 32 := t.isLt
  rw [sum_apply]
  refine Finset.sum_congr rfl fun r _ => ?_
  have hr : t.val / 2 * 512 + r.val < 8192 := by omega
  rw [acc_at m c h1 r hr, h_at m c t r hr, pad_of hr, PART]

theorem step_apply (u v : Vec Ideal S1x1024 .f32) (k : Fin 1024) : k0_pay4 (F := Ideal) u v (ix2 0 k) = v (ix2 0 k) + u (ix2 0 k) := by
  pointwise [k0_pay4]

/-- The first of a block's two points leaves the sum alone. -/
theorem passed (h0 : t.val % 2 = 0) : (outsAt0 m c t.val t.isLt).2.1 = (outsAt0 m c (t.val - 1) (Nat.lt_of_le_of_lt (Nat.sub_le _ _) t.isLt)).2.1 := by
  rw [outsAt0_A m c t h0 (by omega) (by omega)]
  rfl

theorem kept (k : Fin 1024) : ∀ (n : ℕ) (hn : 2 * n + 1 < cfg0.N),
    (outsAt0 m c (2 * n + 1) hn).2.1 (ix2 0 k) = ∑ r ∈ Finset.range ((n + 1) * 512), pad (PART m c k) r := by
  intro n
  induction n with
  | zero =>
    intro hn
    rw [sum_block, Nat.zero_mul, Finset.range_zero, Finset.sum_empty, zero_add]
    have h1 : (⟨1, hn⟩ : Fin cfg0.N).val % 2 = 1 := rfl
    refine Eq.trans ?_ ((block_sum m c h1 k).trans (by simp))
    refine (congrArg (fun p => p.2.1 (ix2 0 k)) (outsAt0_B m c ⟨1, hn⟩ (by simp) h1 h1 (by simp) (by simp))).trans ?_
    frame_out
    rw [(Memref.isWhole_whole cc0_scratch0).read_unread]
    rfl
  | succ n ih =>
    intro hn
    have hn0 : 2 * n + 1 < cfg0.N := by omega
    have hn1 : 2 * n + 2 < cfg0.N := by omega
    have hm : (⟨2 * (n + 1) + 1, hn⟩ : Fin cfg0.N).val % 2 = 1 := by
      show (2 * (n + 1) + 1) % 2 = 1
      omega
    have hd : (⟨2 * (n + 1) + 1, hn⟩ : Fin cfg0.N).val / 2 = n + 1 := by
      show (2 * (n + 1) + 1) / 2 = n + 1
      omega
    have hs := block_sum m c hm k
    rw [hd] at hs
    have hp : (outsAt0 m c (2 * n + 2) hn1).2.1 = (outsAt0 m c (2 * n + 1) hn0).2.1 :=
      passed m c (t := ⟨2 * n + 2, hn1⟩) (by show (2 * n + 2) % 2 = 0; omega)
    rw [sum_block, ← ih hn0, ← hs, ← hp]
    refine (congrArg (fun p => p.2.1 (ix2 0 k)) (outsAt0_C m c ⟨2 * (n + 1) + 1, hn⟩ (by simp) hm hm (by show ¬ 2 * (n + 1) + 1 < 2; omega) (by show 2 ≤ 2 * (n + 1) + 1; omega))).trans ?_
    frame_out
    rw [(Memref.isWhole_whole cc0_scratch0).read_unread]
    exact step_apply _ _ k

theorem final6 : (dats m 0 c).arrAt 6 (cfgs 0).N
    = Cert.DhnReferenceIdeal.Read.val_main_v42 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht := last t hf
  refine (congrFun (Value.flushed6 m c t) y).trans ?_
  blk_simp
  refine (show _ = (outsAt0 m c t.val t.isLt).2.1 y from rfl).trans ?_
  change S1x1024.Idx at y
  idx_vars y
  have h0 : y0 = 0 := Subsingleton.elim _ _
  subst h0
  have e : ((cfg0.win 6).blk t).view.emb (ix2 0 y1) = (ix2 0 y1 : S1x1024.Idx) := by
    blk_ext [idx t]
  obtain ⟨t, hl⟩ := t
  change t = 31 at ht
  subst ht
  refine (kept m c y1 15 hl).trans ?_
  refine (sum_pad _).trans ?_
  refine ((ref_sum _ _ _ _ y1).symm).trans ?_
  exact congrArg _ e.symm
end

end Cert.Proof.DhnValue

end
-- ==== Proof.LossValue.lean ====
/- The loss with the gradient through the last norm, block by block: what the kernel stores is the plain loss and its gradient. -/
module

public import proofs.«01_k».proof.Proof.Norm
public import proofs.«01_k».proof.Proof.DguValue
public import proofs.«01_k».proof.Proof.Gen.LossKernelIdeal.Frame
public import proofs.«01_k».proof.Proof.Gen.LossReferenceIdeal.Run
public import proofs.«01_k».proof.Proof.Gen.LossReferenceIdeal.Read

@[expose] public section

set_option maxRecDepth 16384

noncomputable section

namespace Cert.Proof.LossValue

open Idealize.ShloMosaic Idealize.ShloMosaic.TcCoe Idealize.SL.Sem
open Cert.LossKernelIdeal Cert.LossKernelIdeal.Gen
open Cert.Proof.Norm
open Cert.Proof.DguValue (scale_sum half)

theorem width : Ideal.ofBits FTy.f32 1149239296#32 = ((1024 : ℝ) : EReal) := by
  simp [Ideal.ofBits, Ideal.ieee]
  rw [← EReal.coe_mul]
  norm_num

theorem per_width : Ideal.ofBits FTy.f32 981467136#32 = ((1 / 1024 : ℝ) : EReal) := by
  simp [Ideal.ofBits, Ideal.ieee]
  rw [← EReal.coe_mul]
  norm_num

theorem two : Ideal.ofBits FTy.f32 1073741824#32 = ((2 : ℝ) : EReal) := by
  simp [Ideal.ofBits, Ideal.ieee]
  rw [← EReal.coe_mul]
  norm_num

theorem one : Ideal.ofBits FTy.f32 1065353216#32 = ((1 : ℝ) : EReal) := by
  simp [Ideal.ofBits, Ideal.ieee]
  rw [← EReal.coe_mul]
  norm_num

/-- How far a row's normed entry is from its target. -/
def ERR (h g t : Fin 1024 → EReal) (k : Fin 1024) : EReal := h k * Ideal.rsqrt (MEAN h) * g k - t k

/-- The loss's gradient at one entry of the normed row. -/
def TOP (h g t : Fin 1024 → EReal) (k : Fin 1024) : EReal := ERR h g t k * Ideal.ofBits FTy.f32 981467136#32

/-- What a row adds to the loss. -/
def LOSS (h g t : Fin 1024 → EReal) : EReal :=
  Ideal.ofBits FTy.f32 1056964608#32 * (∑ k, ERR h g t k * ERR h g t k) * Ideal.ofBits FTy.f32 981467136#32

theorem slope (e : EReal) :
    Ideal.div (Ideal.ofBits FTy.f32 1056964608#32 * Ideal.ofBits FTy.f32 1065353216#32) (Ideal.ofBits FTy.f32 1149239296#32)
        * (Ideal.ofBits FTy.f32 1073741824#32 * e)
      = e * Ideal.ofBits FTy.f32 981467136#32 := by
  rw [half, one, two, width, per_width, Ideal.div_coe (by norm_num), ← EReal.coe_mul, ← EReal.coe_mul, ← mul_assoc, ← EReal.coe_mul,
    mul_comm]
  norm_num

theorem scale_both {n : ℕ} (f : Fin n → EReal) :
    Ideal.ofBits FTy.f32 1056964608#32 * (∑ r, f r) * Ideal.ofBits FTy.f32 981467136#32
      = ∑ r, Ideal.ofBits FTy.f32 1056964608#32 * f r * Ideal.ofBits FTy.f32 981467136#32 := by
  have e : ∀ p : ℝ, 0 ≤ p → (0 : EReal) ≤ (p : EReal) := fun p hp => by exact_mod_cast hp
  rw [half, per_width, scale_sum (e _ (by norm_num)) (EReal.coe_ne_top _), mul_comm, scale_sum (e _ (by norm_num)) (EReal.coe_ne_top _)]
  exact Finset.sum_congr rfl fun r _ => mul_comm _ _

section
open Cert.LossReferenceIdeal.Read

variable (x : FVec Ideal S8192x1024 .f32) (g : FVec Ideal S1024 .f32) (t : FVec Ideal S8192x1024 .f32)

theorem ref_err (r : Fin 8192) (k : Fin 1024) :
    val_main_v16 (F := Ideal) x g t (ix2 r k) = ERR (fun l => x (ix2 r l)) (fun l => g (ix1 l)) (fun l => t (ix2 r l)) k := by
  pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  unfold ERR MEAN
  simp

theorem ref_top (r : Fin 8192) (k : Fin 1024) :
    val_main_v30 (F := Ideal) x g t (ix2 r k) = TOP (fun l => x (ix2 r l)) (fun l => g (ix1 l)) (fun l => t (ix2 r l)) k := by
  rw [TOP, ← ref_err, ← slope]
  unfold val_main_v30 val_main_v29 val_main_v28 val_main_v27 val_main_v26 val_main_v25 val_main_v19 val_main_v18
  generalize val_main_v16 (F := Ideal) x g t = a
  pointwise [val_main_cst_3, val_main_cst_8, val_main_cst_9, val_main_cst_10]

theorem ref_apply (r : Fin 8192) (k : Fin 1024) :
    val_main_v50 (F := Ideal) x g t (ix2 r k)
      = DX (fun l => x (ix2 r l)) (fun l => g (ix1 l)) (TOP (fun l => x (ix2 r l)) (fun l => g (ix1 l)) (fun l => t (ix2 r l))) k := by
  have hd : TOP (fun l => x (ix2 r l)) (fun l => g (ix1 l)) (fun l => t (ix2 r l)) = fun k => val_main_v30 (F := Ideal) x g t (ix2 r k) :=
    funext fun k => (ref_top x g t r k).symm
  rw [hd]
  unfold val_main_v50 val_main_v49 val_main_v48 val_main_v47 val_main_v46 val_main_v45 val_main_v44 val_main_v42 val_main_v41 val_main_v39 val_main_v38 val_main_v37 val_main_v35
  generalize val_main_v30 (F := Ideal) x g t = a
  pointwise [val_main_v43, val_main_v40, val_main_v34, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  unfold DX TURN MEAN
  simp

theorem ref_sum (k : Fin 1024) :
    val_main_v36 (F := Ideal) x g t (ix1 k)
      = ∑ r, DG (fun l => x (ix2 r l)) (TOP (fun l => x (ix2 r l)) (fun l => g (ix1 l)) (fun l => t (ix2 r l))) k := by
  have hd : ∀ r, TOP (fun l => x (ix2 r l)) (fun l => g (ix1 l)) (fun l => t (ix2 r l)) = fun k => val_main_v30 (F := Ideal) x g t (ix2 r k) :=
    fun r => funext fun k => (ref_top x g t r k).symm
  simp only [hd]
  unfold val_main_v36 val_main_v33 val_main_v32 val_main_v31
  generalize val_main_v30 (F := Ideal) x g t = a
  pointwise [val_main_v12, val_main_v11, val_main_v7, val_main_v6, val_main_v5, val_main_v4, val_main_v3, val_main_v2, val_main_v1, val_main_v0, val_main_cst, val_main_cst_0, val_main_cst_1, val_main_cst_11, val_main_cst_12]
  unfold DG MEAN
  simp

theorem ref_loss (i : S_.Idx) :
    val_main_v24 (F := Ideal) x g t i = ∑ r, LOSS (fun l => x (ix2 r l)) (fun l => g (ix1 l)) (fun l => t (ix2 r l)) := by
  have hd : ∀ r, ERR (fun l => x (ix2 r l)) (fun l => g (ix1 l)) (fun l => t (ix2 r l)) = fun k => val_main_v16 (F := Ideal) x g t (ix2 r k) :=
    fun r => funext fun k => (ref_err x g t r k).symm
  unfold LOSS
  simp only [hd]
  unfold val_main_v24 val_main_v23 val_main_v22 val_main_v20 val_main_v17
  generalize val_main_v16 (F := Ideal) x g t = a
  pointwise [val_main_v21, val_main_cst_4, val_main_cst_5, val_main_cst_6, val_main_cst_7]
  rw [← scale_both, width, per_width, mul_assoc, mul_comm (∑ r, _)]
  congr 1
  rw [scale_sum (by exact_mod_cast (by norm_num : (0 : ℝ) ≤ 1 / 1024)) (EReal.coe_ne_top _)]
  exact Finset.sum_congr rfl fun r _ => (Ideal.div_coe (by norm_num) _).trans (mul_comm _ _)
end

theorem top_apply (h t : Vec Ideal S256x1024 .f32) (g : Vec Ideal S1x1024 .f32) (r : Fin 256) (k : Fin 1024) :
    k0_pay9 (F := Ideal) h t g (ix2 r k) = TOP (fun l => h (ix2 r l)) (fun l => g (ix2 0 l)) (fun l => t (ix2 r l)) k := by
  pointwise [k0_pay9, k0_pay8, k0_pay7, k0_pay6, k0_pay5, k0_pay4]
  unfold TOP ERR MEAN
  simp

theorem row_apply (h t : Vec Ideal S256x1024 .f32) (g : Vec Ideal S1x1024 .f32) (r : Fin 256) (k : Fin 1024) :
    k0_pay11 (F := Ideal) h t g (ix2 r k)
      = DX (fun l => h (ix2 r l)) (fun l => g (ix2 0 l)) (TOP (fun l => h (ix2 r l)) (fun l => g (ix2 0 l)) (fun l => t (ix2 r l))) k := by
  have hd : TOP (fun l => h (ix2 r l)) (fun l => g (ix2 0 l)) (fun l => t (ix2 r l)) = fun k => k0_pay9 (F := Ideal) h t g (ix2 r k) :=
    funext fun k => (top_apply h t g r k).symm
  rw [hd]
  unfold k0_pay11
  generalize k0_pay9 (F := Ideal) h t g = a
  pointwise [k0_pay6, k0_pay5, k0_pay4]
  unfold DX TURN MEAN
  simp

theorem sum_apply (h t : Vec Ideal S256x1024 .f32) (g : Vec Ideal S1x1024 .f32) (k : Fin 1024) :
    k0_pay10 (F := Ideal) h t g (ix2 0 k)
      = ∑ r, DG (fun l => h (ix2 r l)) (TOP (fun l => h (ix2 r l)) (fun l => g (ix2 0 l)) (fun l => t (ix2 r l))) k := by
  have hd : ∀ r, TOP (fun l => h (ix2 r l)) (fun l => g (ix2 0 l)) (fun l => t (ix2 r l)) = fun k => k0_pay9 (F := Ideal) h t g (ix2 r k) :=
    fun r => funext fun k => (top_apply h t g r k).symm
  simp only [hd]
  unfold k0_pay10
  generalize k0_pay9 (F := Ideal) h t g = a
  pointwise [k0_pay7, k0_pay6, k0_pay5]
  rfl

theorem loss_apply (h t : Vec Ideal S256x1024 .f32) (g : Vec Ideal S1x1024 .f32) (k : Fin 128) :
    k0_pay1 (F := Ideal) (k0_pay12 h t g) (ix2 0 k) = ∑ r, LOSS (fun l => h (ix2 r l)) (fun l => g (ix2 0 l)) (fun l => t (ix2 r l)) := by
  unfold LOSS
  rw [← scale_both]
  pointwise [k0_pay1, k0_pay12, k0_pay8, k0_pay7, k0_pay6, k0_pay5, k0_pay4]
  unfold ERR MEAN
  rfl

variable (m : (ℓ : Loc nD τ sig) → Buf (Elt Ideal) ℓ)

theorem idx : ∀ t : Fin cfg0.N, win0_0.index t = ![t.val, 0] ∧ win0_1.index t = ![t.val, 0] ∧ win0_2.index t = ![0, 0]
      ∧ win0_3.index t = ![t.val, 0] ∧ win0_4.index t = ![0, 0] ∧ win0_5.index t = ![0, 0] :=
  (by decide +kernel : ∀ t : Fin grid0.N, win0_0.index t = ![t.val, 0] ∧ win0_1.index t = ![t.val, 0] ∧ win0_2.index t = ![0, 0]
      ∧ win0_3.index t = ![t.val, 0] ∧ win0_4.index t = ![0, 0] ∧ win0_5.index t = ![0, 0])

theorem last : ∀ t : Fin cfg0.N, (cfg0.win 4).flush t = true → t.val = 31 :=
  (by decide +kernel : ∀ t : Fin grid0.N, (cfg0.win 4).flush t = true → t.val = 31)

theorem last' : ∀ t : Fin cfg0.N, (cfg0.win 5).flush t = true → t.val = 31 :=
  (by decide +kernel : ∀ t : Fin grid0.N, (cfg0.win 5).flush t = true → t.val = 31)

/-- The rows the kernel is given, by row and column. -/
def HROW (c : Dev nD) (r : Fin 8192) : Fin 1024 → EReal := fun l => m ((c : Thread nD τ).loc main_arg0) (ix2 r l)

/-- The norm's factor. -/
def GROW (c : Dev nD) : Fin 1024 → EReal := fun l => m ((c : Thread nD τ).loc main_arg1) (ix1 l)

/-- The targets, by row and column. -/
def TROW (c : Dev nD) (r : Fin 8192) : Fin 1024 → EReal := fun l => m ((c : Thread nD τ).loc main_arg2) (ix2 r l)

section
variable (c : Dev nD) (t : Fin cfg0.N)

theorem h_at (r : Fin 256) (h : t.val * 256 + r.val < 8192) :
    (fun l => iblk m c 0 t (ix2 r l)) = HROW m c ⟨t.val * 256 + r.val, h⟩ := by
  have ht : t.val < 32 := t.isLt
  funext l
  unfold HROW
  blk_point [iblk, V, idx t]

theorem t_at (r : Fin 256) (h : t.val * 256 + r.val < 8192) :
    (fun l => iblk m c 1 t (ix2 r l)) = TROW m c ⟨t.val * 256 + r.val, h⟩ := by
  have ht : t.val < 32 := t.isLt
  funext l
  unfold TROW
  blk_point [iblk, V, idx t]

theorem factor : V m c main_v0 = shapeCast S1x1024 (m ((c : Thread nD τ).loc main_arg1)) shapeCasts_S1024_S1x1024 := rfl

theorem g_at : (fun l => iblk m c 2 t (ix2 0 l)) = GROW m c := by
  have ht : t.val < 32 := t.isLt
  funext l
  have e : ((cfg0.win 2).blk t).view.emb (ix2 0 l) = (ix2 0 l : S1x1024.Idx) := by
    blk_ext [idx t]
  refine (congrArg (V m c main_v0) e).trans ?_
  rw [factor]
  pointwise
  rfl

theorem point (y : S256x1024.Idx) :
    k0_pay11 (F := Ideal) (iblk m c 0 t) (iblk m c 1 t) (iblk m c 2 t) y
      = Cert.LossReferenceIdeal.Read.val_main_v50 (F := Ideal) (m ((c : Thread nD τ).loc main_arg0)) (m ((c : Thread nD τ).loc main_arg1)) (m ((c : Thread nD τ).loc main_arg2)) (((cfg0.win 3).blk t).view.emb y) := by
  have ht : t.val < 32 := t.isLt
  idx_vars y
  have hr : t.val * 256 + y0.val < 8192 := by omega
  have e : ((cfg0.win 3).blk t).view.emb (ix2 y0 y1) = (ix2 ⟨t.val * 256 + y0.val, hr⟩ y1 : S8192x1024.Idx) := by
    blk_ext [idx t]
  rw [e, row_apply, h_at m c t y0 hr, t_at m c t y0 hr, g_at]
  exact (ref_apply _ _ _ _ _).symm
end

theorem first_point {t : Fin cfg0.N} (h4 : ¬ 1 ≤ t.val) : t.val % 32 = 0 := by omega

theorem later_point {t : Fin cfg0.N} (h4 : 1 ≤ t.val) : ¬ t.val % 32 = 0 := by
  have ht : t.val < 32 := t.isLt
  omega

theorem final (c : Dev nD) : (dats m 0 c).arrAt 3 (cfgs 0).N
    = Cert.LossReferenceIdeal.Read.val_main_v50 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  refine (show _ = (cfg0.win 3).cut (grid0.coords t) ((dats m 0 c).after 3 t) y from rfl).trans ?_
  rw [after0_3]
  by_cases h4 : 1 ≤ t.val
  · rw [outsAt0_B m c t (later_point h4) h4]
    blk_simp
    frame_out
    exact point m c t y
  · rw [outsAt0_A m c t (first_point h4) h4]
    blk_simp
    frame_out
    exact point m c t y

/-- What a row adds to the factor's gradient at column `k`. -/
def PART (c : Dev nD) (k : Fin 1024) (r : Fin 8192) : EReal := DG (HROW m c r) (TOP (HROW m c r) (GROW m c) (TROW m c r)) k

/-- What a row adds to the loss. -/
def LPART (c : Dev nD) (r : Fin 8192) : EReal := LOSS (HROW m c r) (GROW m c) (TROW m c r)

theorem block_sum (c : Dev nD) (t : Fin cfg0.N) (k : Fin 1024) :
    k0_pay10 (F := Ideal) (iblk m c 0 t) (iblk m c 1 t) (iblk m c 2 t) (ix2 0 k) = ∑ r : Fin 256, pad (PART m c k) (t.val * 256 + r.val) := by
  have ht : t.val < 32 := t.isLt
  rw [sum_apply]
  refine Finset.sum_congr rfl fun r _ => ?_
  have hr : t.val * 256 + r.val < 8192 := by omega
  rw [h_at m c t r hr, t_at m c t r hr, g_at, pad_of hr, PART]

theorem block_loss (c : Dev nD) (t : Fin cfg0.N) (k : Fin 128) :
    k0_pay1 (F := Ideal) (k0_pay12 (iblk m c 0 t) (iblk m c 1 t) (iblk m c 2 t)) (ix2 0 k) = ∑ r : Fin 256, pad (LPART m c) (t.val * 256 + r.val) := by
  have ht : t.val < 32 := t.isLt
  rw [loss_apply]
  refine Finset.sum_congr rfl fun r _ => ?_
  have hr : t.val * 256 + r.val < 8192 := by omega
  rw [h_at m c t r hr, t_at m c t r hr, g_at, pad_of hr, LPART]

theorem step_apply (u v : Vec Ideal S1x1024 .f32) (k : Fin 1024) : k0_pay2 (F := Ideal) u v (ix2 0 k) = v (ix2 0 k) + u (ix2 0 k) := by
  pointwise [k0_pay2]

theorem loss_step (u : FVec Ideal S256x1024 .f32) (v : Vec Ideal S1x128 .f32) (k : Fin 128) :
    k0_pay3 (F := Ideal) u v (ix2 0 k) = v (ix2 0 k) + k0_pay1 u (ix2 0 k) := by
  unfold k0_pay3
  generalize k0_pay1 (F := Ideal) u = a
  pointwise []

theorem kept (c : Dev nD) (k : Fin 1024) : ∀ (n : ℕ) (hn : n < cfg0.N),
    (outsAt0 m c n hn).2.1 (ix2 0 k) = ∑ r ∈ Finset.range ((n + 1) * 256), pad (PART m c k) r := by
  intro n
  induction n with
  | zero =>
    intro hn
    rw [sum_block, Nat.zero_mul, Finset.range_zero, Finset.sum_empty, zero_add]
    refine Eq.trans ?_ ((block_sum m c ⟨0, hn⟩ k).trans (by simp))
    rw [outsAt0]
    frame_out
  | succ n ih =>
    intro hn
    have hm : ¬ (n + 1) % 32 = 0 := later_point (t := ⟨n + 1, hn⟩) (Nat.le_add_left 1 n)
    rw [sum_block, ← ih (Nat.lt_of_succ_lt hn), ← block_sum m c ⟨n + 1, hn⟩ k]
    rw [outsAt0, dif_neg hm, dif_pos (Nat.le_add_left 1 n)]
    frame_out
    exact step_apply _ _ k

theorem kept_loss (c : Dev nD) (k : Fin 128) : ∀ (n : ℕ) (hn : n < cfg0.N),
    (outsAt0 m c n hn).2.2 (ix2 0 k) = ∑ r ∈ Finset.range ((n + 1) * 256), pad (LPART m c) r := by
  intro n
  induction n with
  | zero =>
    intro hn
    rw [sum_block, Nat.zero_mul, Finset.range_zero, Finset.sum_empty, zero_add]
    refine Eq.trans ?_ ((block_loss m c ⟨0, hn⟩ k).trans (by simp))
    rw [outsAt0]
    frame_out
  | succ n ih =>
    intro hn
    have hm : ¬ (n + 1) % 32 = 0 := later_point (t := ⟨n + 1, hn⟩) (Nat.le_add_left 1 n)
    rw [sum_block, ← ih (Nat.lt_of_succ_lt hn), ← block_loss m c ⟨n + 1, hn⟩ k]
    rw [outsAt0, dif_neg hm, dif_pos (Nat.le_add_left 1 n)]
    frame_out
    exact loss_step _ _ k

theorem final4 (c : Dev nD) : (dats m 0 c).arrAt 4 (cfgs 0).N = fun i => ∑ r, PART m c (i 1) r := by
  refine (dats m 0 c).arrAt_eq_of_covers 4 _ (by decide +kernel) fun t hf y => ?_
  have ht := last t hf
  refine (show _ = (cfg0.win 4).cut (grid0.coords t) ((dats m 0 c).after 4 t) y from rfl).trans ?_
  rw [after0_4]
  blk_simp
  change S1x1024.Idx at y
  idx_vars y
  have h0 : y0 = 0 := Subsingleton.elim _ _
  subst h0
  have e : ((cfg0.win 4).blk t).view.emb (ix2 0 y1) = (ix2 0 y1 : S1x1024.Idx) := by
    blk_ext [idx t]
  refine (kept m c y1 t.val t.isLt).trans ?_
  rw [ht, e]
  exact sum_pad _

theorem final5 (c : Dev nD) : (dats m 0 c).arrAt 5 (cfgs 0).N = fun _ => ∑ r, LPART m c r := by
  refine (dats m 0 c).arrAt_eq_of_covers 5 _ (by decide +kernel) fun t hf y => ?_
  have ht := last' t hf
  refine (show _ = (cfg0.win 5).cut (grid0.coords t) ((dats m 0 c).after 5 t) y from rfl).trans ?_
  rw [after0_5]
  change S1x128.Idx at y
  idx_vars y
  have h0 : y0 = 0 := Subsingleton.elim _ _
  subst h0
  refine (kept_loss m c y1 t.val t.isLt).trans ?_
  rw [ht]
  exact sum_pad _

theorem arr_inj : Function.Injective (Pipeline.arrRef (cfgs (0 : Fin 1)).spec) :=
  (by decide : Function.Injective (Pipeline.arrRef spec0))

/-- What the host lines after the kernel's region start from: each result of the kernel as it was left. -/
theorem left (c : Dev nD) (w : Fin 6) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr _ arr_inj c _ _ w

theorem tail_loss (c : Dev nD) : Pipeline.afterTail₀ cfgs (dats m) 0 (V0 m) [hostOps1] c main_v3
    = Cert.LossReferenceIdeal.Read.val_main_v24 (F := Ideal) (m ((c : Thread nD τ).loc main_arg0)) (m ((c : Thread nD τ).loc main_arg1)) (m ((c : Thread nD τ).loc main_arg2)) := by
  refine (show _ = StableHlo.after hostOps1 (Pipeline.withArrays (cfgs 0).spec c (V0 m c) fun w => (dats m 0 c).arrAt w (cfgs 0).N) (Proc.devRef .tc main_v3) from rfl).trans ?_
  have h5 := (left m c 5).trans (final5 m c)
  generalize (Pipeline.withArrays (cfgs 0).spec c (V0 m c) fun w => (dats m 0 c).arrAt w (cfgs 0).N) = W at h5 ⊢
  after_results_simp
  refine funext fun i => ?_
  refine Eq.trans ?_ (ref_loss _ _ _ i).symm
  exact congrFun h5 _

theorem tail_dg (c : Dev nD) : Pipeline.afterTail₀ cfgs (dats m) 0 (V0 m) [hostOps1] c main_v4
    = Cert.LossReferenceIdeal.Read.val_main_v36 (F := Ideal) (m ((c : Thread nD τ).loc main_arg0)) (m ((c : Thread nD τ).loc main_arg1)) (m ((c : Thread nD τ).loc main_arg2)) := by
  refine (show _ = StableHlo.after hostOps1 (Pipeline.withArrays (cfgs 0).spec c (V0 m c) fun w => (dats m 0 c).arrAt w (cfgs 0).N) (Proc.devRef .tc main_v4) from rfl).trans ?_
  have h4 := (left m c 4).trans (final4 m c)
  generalize (Pipeline.withArrays (cfgs 0).spec c (V0 m c) fun w => (dats m 0 c).arrAt w (cfgs 0).N) = W at h4 ⊢
  after_results_simp
  refine funext fun i => ?_
  idx_vars i
  refine Eq.trans ?_ (ref_sum _ _ _ i0).symm
  rw [show W (Proc.devRef .tc main_v1_1) = fun i => ∑ r, PART m c (i 1) r from h4]
  pointwise
  rfl

/-- The kernel's run, its results those of the plain loss, its arguments as they were. -/
theorem run (ρ : Dev nD → PrngReg) : θ_run defs (onTc (τ := τ) (main (F := Ideal))) ⟨m, fun _ => 0, ρ⟩ fun r => ∀ c : Dev nD,
      r.2.mem ((c : Thread nD τ).loc main_v3) = Cert.LossReferenceIdeal.Read.val_main_v24 (F := Ideal) (m ((c : Thread nD τ).loc main_arg0)) (m ((c : Thread nD τ).loc main_arg1)) (m ((c : Thread nD τ).loc main_arg2))
      ∧ r.2.mem ((c : Thread nD τ).loc main_v1_0) = Cert.LossReferenceIdeal.Read.val_main_v50 (F := Ideal) (m ((c : Thread nD τ).loc main_arg0)) (m ((c : Thread nD τ).loc main_arg1)) (m ((c : Thread nD τ).loc main_arg2))
      ∧ r.2.mem ((c : Thread nD τ).loc main_v4) = Cert.LossReferenceIdeal.Read.val_main_v36 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v3 (Pipeline.mem_restRefs_of main_v3 (by decide) (by decide))).trans (tail_loss m c),
        ((h.1 c).1 3).trans (final m c),
        ((h.1 c).2 main_v4 (Pipeline.mem_restRefs_of main_v4 (by decide) (by decide))).trans (tail_dg m c), h.2 c⟩)
    (θ_run_and (run_main m ρ) (unchanged m ρ))

end Cert.Proof.LossValue

end
-- ==== Proof.DiscValue.lean ====
/- The gradient of the discretisation, block by block: what the kernel stores is the plain gradient. -/
module

public import proofs.«01_k».proof.Proof.DguValue
public import proofs.«01_k».proof.Proof.SbFinal
public import proofs.«01_k».proof.Proof.LossValue
public import proofs.«01_k».proof.Proof.Gen.DiscKernelIdeal.Frame
public import proofs.«01_k».proof.Proof.Gen.DiscReferenceIdeal.Run
public import proofs.«01_k».proof.Proof.Gen.DiscReferenceIdeal.Read

@[expose] public section

set_option maxRecDepth 16384

noncomputable section

namespace Cert.Proof.DiscValue

open Idealize.ShloMosaic Idealize.ShloMosaic.TcCoe Idealize.SL.Sem
open Cert.DiscKernelIdeal Cert.DiscKernelIdeal.Gen
open Cert.Proof.DguValue (scale_sum)

section
variable (lr li w : EReal)

/-- The size of the discretised eigenvalue, and its two parts. -/
def MAG : EReal := Ideal.exp (lr * Ideal.exp w)
def BR : EReal := MAG lr w * Ideal.cos (li * Ideal.exp w)
def BI : EReal := MAG lr w * Ideal.sin (li * Ideal.exp w)

/-- The eigenvalue's squared size. -/
def SQ : EReal := lr * lr + li * li

/-- The quotient's numerator, its two parts. -/
def X : EReal := (BR lr li w - 1) * lr + BI lr li w * li
def Y : EReal := BI lr li w * lr - (BR lr li w - 1) * li

variable (p q d g5 g6 : EReal)

/-- The gradient of the discretised eigenvalue's two parts. -/
def GR : EReal := g5 + -p * li + q * lr
def GI : EReal := g6 + p * lr + q * li

/-- The gradient of the angle and of the logarithm of the size. -/
def ANG : EReal := MAG lr w * GI lr li p q g6 * Ideal.cos (li * Ideal.exp w)
def ANG' : EReal := -(MAG lr w * GR lr li p q g5) * Ideal.sin (li * Ideal.exp w)
def LOGS : EReal := (GI lr li p q g6 * Ideal.sin (li * Ideal.exp w) + GR lr li p q g5 * Ideal.cos (li * Ideal.exp w)) * MAG lr w

/-- The three gradients by eigenvalue: of its real part, its imaginary part, and the step. -/
def DLR : EReal :=
  BI lr li w * p + (BR lr li w - 1) * q + lr * d + d * lr + LOGS lr li w p q g5 g6 * Ideal.exp w
def DLI : EReal :=
  (BR lr li w - 1) * -p + BI lr li w * q + li * d + d * li + ANG lr li w p q g6 * Ideal.exp w
    + ANG' lr li w p q g5 * Ideal.exp w
def DSTEP : EReal := li * ANG lr li w p q g6 + li * ANG' lr li w p q g5 + lr * LOGS lr li w p q g5 g6
end

/-- The gradients of the quotient's two parts. -/
def SR (br bi g7 g8 : Fin 16 → EReal) : EReal := ∑ h, g8 h * br h + ∑ h, -g7 h * bi h
def SI (br bi g7 g8 : Fin 16 → EReal) : EReal := ∑ h, g8 h * bi h + ∑ h, g7 h * br h

section
open Cert.DiscReferenceIdeal.Read

variable (x0 x1 : FVec Ideal S64x64 .f32) (x2 : FVec Ideal S64 .f32) (x3 x4 : FVec Ideal S64x64x16 .f32) (x5 x6 : FVec Ideal S64x64 .f32) (x7 x8 : FVec Ideal S64x64x16 .f32)

theorem ref_sr (g p : Fin 64) :
    val_main_v76 (F := Ideal) x3 x4 x7 x8 (ix2 g p) = SR (fun h => x3 (ix3 g p h)) (fun h => x4 (ix3 g p h)) (fun h => x7 (ix3 g p h)) (fun h => x8 (ix3 g p h)) := by
  pointwise [val_main_v76, val_main_v68, val_main_v67, val_main_v66, val_main_v65, val_main_v61, val_main_v54, val_main_v53, val_main_v52, val_main_v49, val_main_cst_3, val_main_cst_5, val_main_cst_7]
  exact Fin.sum_univ_one _

theorem ref_si (g p : Fin 64) :
    val_main_v88 (F := Ideal) x3 x4 x7 x8 (ix2 g p) = SI (fun h => x3 (ix3 g p h)) (fun h => x4 (ix3 g p h)) (fun h => x7 (ix3 g p h)) (fun h => x8 (ix3 g p h)) := by
  pointwise [val_main_v88, val_main_v75, val_main_v74, val_main_v73, val_main_v72, val_main_v60, val_main_v59, val_main_v58, val_main_v57, val_main_v48, val_main_cst_4, val_main_cst_6, val_main_cst_8]
  exact Fin.sum_univ_one _

/-- The gradients of the quotient before and after its division, and of the squared size, in the plain program. -/
def AP (g p : Fin 64) : EReal := val_main_v80 (F := Ideal) x0 x1 x3 x4 x7 x8 (ix2 g p)
def AQ (g p : Fin 64) : EReal := val_main_v93 (F := Ideal) x0 x1 x3 x4 x7 x8 (ix2 g p)
def AD (g p : Fin 64) : EReal := val_main_v92 (F := Ideal) x0 x1 x2 x3 x4 x7 x8 (ix2 g p)

theorem ref_p (g p : Fin 64) : AP x0 x1 x3 x4 x7 x8 g p
    = Ideal.div (SR (fun h => x3 (ix3 g p h)) (fun h => x4 (ix3 g p h)) (fun h => x7 (ix3 g p h)) (fun h => x8 (ix3 g p h))) (SQ (x0 (ix2 g p)) (x1 (ix2 g p))) := by
  rw [← ref_sr]
  unfold AP val_main_v80
  generalize val_main_v76 (F := Ideal) x3 x4 x7 x8 = a
  pointwise [val_main_v17, val_main_v16, val_main_v15]
  rfl

theorem ref_q (g p : Fin 64) : AQ x0 x1 x3 x4 x7 x8 g p
    = Ideal.div (SI (fun h => x3 (ix3 g p h)) (fun h => x4 (ix3 g p h)) (fun h => x7 (ix3 g p h)) (fun h => x8 (ix3 g p h))) (SQ (x0 (ix2 g p)) (x1 (ix2 g p))) := by
  rw [← ref_si]
  unfold AQ val_main_v93
  generalize val_main_v88 (F := Ideal) x3 x4 x7 x8 = a
  pointwise [val_main_v17, val_main_v16, val_main_v15]
  rfl

theorem ref_d (g p : Fin 64) : AD x0 x1 x2 x3 x4 x7 x8 g p
    = -(SR (fun h => x3 (ix3 g p h)) (fun h => x4 (ix3 g p h)) (fun h => x7 (ix3 g p h)) (fun h => x8 (ix3 g p h))
          * Ideal.div (1) (SQ (x0 (ix2 g p)) (x1 (ix2 g p)) * SQ (x0 (ix2 g p)) (x1 (ix2 g p))) * Y (x0 (ix2 g p)) (x1 (ix2 g p)) (x2 (ix1 g)))
      + -(SI (fun h => x3 (ix3 g p h)) (fun h => x4 (ix3 g p h)) (fun h => x7 (ix3 g p h)) (fun h => x8 (ix3 g p h))
          * Ideal.div (1) (SQ (x0 (ix2 g p)) (x1 (ix2 g p)) * SQ (x0 (ix2 g p)) (x1 (ix2 g p))) * X (x0 (ix2 g p)) (x1 (ix2 g p)) (x2 (ix1 g))) := by
  rw [← ref_sr, ← ref_si]
  unfold AD val_main_v92 val_main_v91 val_main_v90 val_main_v89 val_main_v79 val_main_v78 val_main_v77
  generalize val_main_v76 (F := Ideal) x3 x4 x7 x8 = a
  generalize val_main_v88 (F := Ideal) x3 x4 x7 x8 = b
  pointwise [val_main_v36, val_main_v35, val_main_cst_2, val_main_v34, val_main_v32, val_main_v31, val_main_v30, val_main_v29, val_main_cst_1, val_main_v28, val_main_v26, val_main_v25, val_main_cst_0, val_main_v24, val_main_v22, val_main_v21, val_main_v20, val_main_v19, val_main_v18, val_main_cst, val_main_v17, val_main_v16, val_main_v15, val_main_v14, val_main_v12, val_main_v11, val_main_v10, val_main_v9, val_main_v7, val_main_v6, val_main_v5, val_main_v4, val_main_v3, val_main_v2, val_main_v1, val_main_v0]
  rfl

theorem ref_dlr (g p : Fin 64) :
    val_main_v138 (F := Ideal) x0 x1 x2 x3 x4 x5 x6 x7 x8 (ix2 g p)
      = DLR (x0 (ix2 g p)) (x1 (ix2 g p)) (x2 (ix1 g)) (AP x0 x1 x3 x4 x7 x8 g p) (AQ x0 x1 x3 x4 x7 x8 g p) (AD x0 x1 x2 x3 x4 x7 x8 g p) (x5 (ix2 g p)) (x6 (ix2 g p)) := by
  unfold AP AQ AD val_main_v138 val_main_v109 val_main_v137 val_main_v108 val_main_v107 val_main_v106 val_main_v99 val_main_v98 val_main_v85 val_main_v131 val_main_v121 val_main_v111 val_main_v120 val_main_v97 val_main_v101 val_main_v87 val_main_v86 val_main_v96 val_main_v84 val_main_v83 val_main_v81 val_main_v100
  generalize val_main_v80 (F := Ideal) x0 x1 x3 x4 x7 x8 = a
  generalize val_main_v93 (F := Ideal) x0 x1 x3 x4 x7 x8 = b
  generalize val_main_v92 (F := Ideal) x0 x1 x2 x3 x4 x7 x8 = d
  pointwise [val_main_v136, val_main_v19, val_main_v18, val_main_cst, val_main_v14, val_main_v12, val_main_v11, val_main_v10, val_main_v9, val_main_v8, val_main_v7, val_main_v6, val_main_v5, val_main_v4, val_main_v3, val_main_v2, val_main_v1, val_main_v0]
  rfl

theorem ref_dli (g p : Fin 64) :
    val_main_v130 (F := Ideal) x0 x1 x2 x3 x4 x5 x6 x7 x8 (ix2 g p)
      = DLI (x0 (ix2 g p)) (x1 (ix2 g p)) (x2 (ix1 g)) (AP x0 x1 x3 x4 x7 x8 g p) (AQ x0 x1 x3 x4 x7 x8 g p) (AD x0 x1 x2 x3 x4 x7 x8 g p) (x5 (ix2 g p)) (x6 (ix2 g p)) := by
  unfold AP AQ AD val_main_v130 val_main_v129 val_main_v118 val_main_v117 val_main_v105 val_main_v104 val_main_v103 val_main_v102 val_main_v95 val_main_v94 val_main_v82 val_main_v123 val_main_v122 val_main_v119 val_main_v112 val_main_v110 val_main_v97 val_main_v101 val_main_v87 val_main_v86 val_main_v96 val_main_v84 val_main_v83 val_main_v81 val_main_v100
  generalize val_main_v80 (F := Ideal) x0 x1 x3 x4 x7 x8 = a
  generalize val_main_v93 (F := Ideal) x0 x1 x3 x4 x7 x8 = b
  generalize val_main_v92 (F := Ideal) x0 x1 x2 x3 x4 x7 x8 = d
  pointwise [val_main_v128, val_main_v116, val_main_v30, val_main_v29, val_main_cst_1, val_main_v14, val_main_v13, val_main_v12, val_main_v11, val_main_v10, val_main_v9, val_main_v8, val_main_v7, val_main_v6, val_main_v5, val_main_v4, val_main_v3, val_main_v2, val_main_v1, val_main_v0]
  rfl

theorem ref_step (g : Fin 64) :
    val_main_v140 (F := Ideal) x0 x1 x2 x3 x4 x5 x6 x7 x8 (ix1 g)
      = (∑ p, x1 (ix2 g p) * ANG (x0 (ix2 g p)) (x1 (ix2 g p)) (x2 (ix1 g)) (AP x0 x1 x3 x4 x7 x8 g p) (AQ x0 x1 x3 x4 x7 x8 g p) (x6 (ix2 g p))
          + ∑ p, x1 (ix2 g p) * ANG' (x0 (ix2 g p)) (x1 (ix2 g p)) (x2 (ix1 g)) (AP x0 x1 x3 x4 x7 x8 g p) (AQ x0 x1 x3 x4 x7 x8 g p) (x5 (ix2 g p))
          + ∑ p, x0 (ix2 g p) * LOGS (x0 (ix2 g p)) (x1 (ix2 g p)) (x2 (ix1 g)) (AP x0 x1 x3 x4 x7 x8 g p) (AQ x0 x1 x3 x4 x7 x8 g p) (x5 (ix2 g p)) (x6 (ix2 g p)))
        * Ideal.exp (x2 (ix1 g)) := by
  unfold AP AQ val_main_v140 val_main_v139 val_main_v135 val_main_v134 val_main_v133 val_main_v132 val_main_v127 val_main_v126 val_main_v125 val_main_v124 val_main_v115 val_main_v114 val_main_v113 val_main_v131 val_main_v121 val_main_v120 val_main_v111 val_main_v123 val_main_v122 val_main_v119 val_main_v112 val_main_v110 val_main_v97 val_main_v101 val_main_v87 val_main_v86 val_main_v96 val_main_v84 val_main_v83 val_main_v81 val_main_v100
  generalize val_main_v80 (F := Ideal) x0 x1 x3 x4 x7 x8 = a
  generalize val_main_v93 (F := Ideal) x0 x1 x3 x4 x7 x8 = b
  pointwise [val_main_cst_9, val_main_cst_10, val_main_cst_11, val_main_cst_12, val_main_v13, val_main_v12, val_main_v11, val_main_v10, val_main_v9, val_main_v8, val_main_v7, val_main_v6, val_main_v5, val_main_v4, val_main_v3, val_main_v2, val_main_v1, val_main_v0]
  refine (congrArg (· * _) (Fin.sum_univ_one _)).trans ?_
  rfl

theorem ref_dbr (g p : Fin 64) (h : Fin 16) :
    val_main_v71 (F := Ideal) x0 x1 x2 x7 x8 (ix3 g p h)
      = Ideal.div (Y (x0 (ix2 g p)) (x1 (ix2 g p)) (x2 (ix1 g))) (SQ (x0 (ix2 g p)) (x1 (ix2 g p))) * x8 (ix3 g p h)
        + Ideal.div (X (x0 (ix2 g p)) (x1 (ix2 g p)) (x2 (ix1 g))) (SQ (x0 (ix2 g p)) (x1 (ix2 g p))) * x7 (ix3 g p h) := by
  pointwise [val_main_v71, val_main_v70, val_main_v69, val_main_v60, val_main_v51, val_main_v50, val_main_v49, val_main_v37, val_main_v33, val_main_v27, val_main_v23, val_main_v32, val_main_v31, val_main_v30, val_main_v29, val_main_cst_1, val_main_v28, val_main_v22, val_main_v21, val_main_v20, val_main_v19, val_main_v18, val_main_cst, val_main_v17, val_main_v16, val_main_v15, val_main_v14, val_main_v12, val_main_v11, val_main_v10, val_main_v9, val_main_v7, val_main_v6, val_main_v5, val_main_v4, val_main_v3, val_main_v2, val_main_v1, val_main_v0]
  rfl

theorem ref_dbi (g p : Fin 64) (h : Fin 16) :
    val_main_v64 (F := Ideal) x0 x1 x2 x7 x8 (ix3 g p h)
      = Ideal.div (X (x0 (ix2 g p)) (x1 (ix2 g p)) (x2 (ix1 g))) (SQ (x0 (ix2 g p)) (x1 (ix2 g p))) * x8 (ix3 g p h)
        + Ideal.div (Y (x0 (ix2 g p)) (x1 (ix2 g p)) (x2 (ix1 g))) (SQ (x0 (ix2 g p)) (x1 (ix2 g p))) * -x7 (ix3 g p h) := by
  pointwise [val_main_v64, val_main_v63, val_main_v62, val_main_v61, val_main_v56, val_main_v55, val_main_v48, val_main_v37, val_main_v33, val_main_v27, val_main_v23, val_main_v32, val_main_v31, val_main_v30, val_main_v29, val_main_cst_1, val_main_v28, val_main_v22, val_main_v21, val_main_v20, val_main_v19, val_main_v18, val_main_cst, val_main_v17, val_main_v16, val_main_v15, val_main_v14, val_main_v12, val_main_v11, val_main_v10, val_main_v9, val_main_v7, val_main_v6, val_main_v5, val_main_v4, val_main_v3, val_main_v2, val_main_v1, val_main_v0]
  rfl
end

/-- The same three in the kernel, which multiplies by the inverse of the squared size. -/
def KP (lr li a : EReal) : EReal := a * Ideal.div (1) (SQ lr li)
def KD (lr li w a b : EReal) : EReal :=
  -((Y lr li w * a + X lr li w * b) * Ideal.div 1 (SQ lr li * SQ lr li))

section
variable (x0 x1 x2 : Vec Ideal S512x1 .f32) (x3 x4 : Vec Ideal S512x16 .f32) (x5 x6 : Vec Ideal S512x1 .f32) (x7 x8 : Vec Ideal S512x16 .f32)

/-- The kernel's gradients of the quotient's two parts. -/
def KR (r : Fin 512) : EReal := SR (fun h => x3 (ix2 r h)) (fun h => x4 (ix2 r h)) (fun h => x7 (ix2 r h)) (fun h => x8 (ix2 r h))
def KI (r : Fin 512) : EReal := SI (fun h => x3 (ix2 r h)) (fun h => x4 (ix2 r h)) (fun h => x7 (ix2 r h)) (fun h => x8 (ix2 r h))

theorem ker_dlr (r : Fin 512) : out0_9 (F := Ideal) x0 x1 x2 x3 x4 x5 x6 x7 x8 (ix2 r 0)
    = DLR (x0 (ix2 r 0)) (x1 (ix2 r 0)) (x2 (ix2 r 0)) (KP (x0 (ix2 r 0)) (x1 (ix2 r 0)) (KR x3 x4 x7 x8 r))
        (KP (x0 (ix2 r 0)) (x1 (ix2 r 0)) (KI x3 x4 x7 x8 r)) (KD (x0 (ix2 r 0)) (x1 (ix2 r 0)) (x2 (ix2 r 0)) (KR x3 x4 x7 x8 r) (KI x3 x4 x7 x8 r)) (x5 (ix2 r 0)) (x6 (ix2 r 0)) := by
  unfold_out out0_9
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
  simp only [zero_sub]
  rfl

theorem ker_dli (r : Fin 512) : out0_10 (F := Ideal) x0 x1 x2 x3 x4 x5 x6 x7 x8 (ix2 r 0)
    = DLI (x0 (ix2 r 0)) (x1 (ix2 r 0)) (x2 (ix2 r 0)) (KP (x0 (ix2 r 0)) (x1 (ix2 r 0)) (KR x3 x4 x7 x8 r))
        (KP (x0 (ix2 r 0)) (x1 (ix2 r 0)) (KI x3 x4 x7 x8 r)) (KD (x0 (ix2 r 0)) (x1 (ix2 r 0)) (x2 (ix2 r 0)) (KR x3 x4 x7 x8 r) (KI x3 x4 x7 x8 r)) (x5 (ix2 r 0)) (x6 (ix2 r 0)) := by
  unfold_out out0_10
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
  simp only [zero_sub]
  rfl

theorem ker_step (r : Fin 512) : out0_11 (F := Ideal) x0 x1 x2 x3 x4 x5 x6 x7 x8 (ix2 r 0)
    = DSTEP (x0 (ix2 r 0)) (x1 (ix2 r 0)) (x2 (ix2 r 0)) (KP (x0 (ix2 r 0)) (x1 (ix2 r 0)) (KR x3 x4 x7 x8 r))
        (KP (x0 (ix2 r 0)) (x1 (ix2 r 0)) (KI x3 x4 x7 x8 r)) (x5 (ix2 r 0)) (x6 (ix2 r 0)) * Ideal.exp (x2 (ix2 r 0)) := by
  unfold_out out0_11
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
  simp only [zero_sub]
  rfl

theorem ker_dbr (r : Fin 512) (h : Fin 16) : out0_12 (F := Ideal) x0 x1 x2 x3 x4 x5 x6 x7 x8 (ix2 r h)
    = KP (x0 (ix2 r 0)) (x1 (ix2 r 0)) (Y (x0 (ix2 r 0)) (x1 (ix2 r 0)) (x2 (ix2 r 0))) * x8 (ix2 r h)
      + KP (x0 (ix2 r 0)) (x1 (ix2 r 0)) (X (x0 (ix2 r 0)) (x1 (ix2 r 0)) (x2 (ix2 r 0))) * x7 (ix2 r h) := by
  unfold_out out0_12
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
  rfl

theorem ker_dbi (r : Fin 512) (h : Fin 16) : out0_13 (F := Ideal) x0 x1 x2 x3 x4 x5 x6 x7 x8 (ix2 r h)
    = KP (x0 (ix2 r 0)) (x1 (ix2 r 0)) (X (x0 (ix2 r 0)) (x1 (ix2 r 0)) (x2 (ix2 r 0))) * x8 (ix2 r h)
      + KP (x0 (ix2 r 0)) (x1 (ix2 r 0)) (Y (x0 (ix2 r 0)) (x1 (ix2 r 0)) (x2 (ix2 r 0))) * -x7 (ix2 r h) := by
  unfold_out out0_13
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
  simp only [zero_sub]
  rfl
end

theorem narrow_at (a : FVec Ideal S64x64 .f32) (t : Fin 4096) : shapeCast S4096x1 a shapeCasts_S64x64_S4096x1 (ix2 t 0) = a (ix2 ⟨t.val / 64, by omega⟩ ⟨t.val % 64, by omega⟩) := by
  pointwise

theorem wide_at (a : FVec Ideal S64x64x16 .f32) (t : Fin 4096) (h : Fin 16) : shapeCast S4096x16 a shapeCasts_S64x64x16_S4096x16 (ix2 t h) = a (ix3 ⟨t.val / 64, by omega⟩ ⟨t.val % 64, by omega⟩ h) := by
  refine shapeCast_apply _ _ _ _ ?_
  refine (Shape.rowMajor_val_three _).trans (Eq.trans ?_ (Shape.rowMajor_val_two _).symm)
  show (t.val / 64 * 64 + t.val % 64) * 16 + h.val = t.val * 16 + h.val
  omega

/-! On reals, with an eigenvalue that is not zero, the kernel's forms are the plain ones. -/

theorem div_inv {n : ℝ} (h : n ≠ 0) (a : EReal) : a * Ideal.div 1 (n : EReal) = Ideal.div a (n : EReal) := by
  rw [Ideal.div_coe h, Ideal.div_coe h, one_mul]

theorem sq_coe (a b : ℝ) : SQ (a : EReal) (b : EReal) = ((a * a + b * b : ℝ) : EReal) := by
  rw [SQ]; push_cast; rfl

theorem sq_ne {a b : ℝ} {r : ℝ} (h : Ideal.div 1 (SQ (a : EReal) (b : EReal)) = (r : EReal)) : a * a + b * b ≠ 0 := by
  intro h0
  rw [sq_coe, h0] at h
  simp [Ideal.div] at h

theorem x_coe (a b w : ℝ) : ∃ r : ℝ, X (a : EReal) (b : EReal) (w : EReal) = (r : EReal) := by
  refine ⟨(Real.exp (a * Real.exp w) * Real.cos (b * Real.exp w) - 1) * a + Real.exp (a * Real.exp w) * Real.sin (b * Real.exp w) * b, ?_⟩
  simp only [X, BR, BI, MAG, Ideal.exp_coe, ← EReal.coe_mul, Ideal.cos_coe, Ideal.sin_coe]
  norm_cast

theorem y_coe (a b w : ℝ) : ∃ r : ℝ, Y (a : EReal) (b : EReal) (w : EReal) = (r : EReal) := by
  refine ⟨Real.exp (a * Real.exp w) * Real.sin (b * Real.exp w) * a - (Real.exp (a * Real.exp w) * Real.cos (b * Real.exp w) - 1) * b, ?_⟩
  simp only [Y, BR, BI, MAG, Ideal.exp_coe, ← EReal.coe_mul, Ideal.cos_coe, Ideal.sin_coe]
  norm_cast

theorem sr_coe (a b g h : Fin 16 → ℝ) : SR (fun k => (a k : EReal)) (fun k => (b k : EReal)) (fun k => (g k : EReal)) (fun k => (h k : EReal))
    = ((∑ k, h k * a k + ∑ k, -g k * b k : ℝ) : EReal) := by
  rw [SR, EReal.coe_add, Sb.coe_sum, Sb.coe_sum]
  norm_cast

theorem si_coe (a b g h : Fin 16 → ℝ) : SI (fun k => (a k : EReal)) (fun k => (b k : EReal)) (fun k => (g k : EReal)) (fun k => (h k : EReal))
    = ((∑ k, h k * b k + ∑ k, g k * a k : ℝ) : EReal) := by
  rw [SI, EReal.coe_add, Sb.coe_sum, Sb.coe_sum]
  norm_cast

theorem kd_eq (lr li w a b : ℝ) (h : lr * lr + li * li ≠ 0) :
    KD (lr : EReal) (li : EReal) (w : EReal) (a : EReal) (b : EReal)
      = -((a : EReal) * Ideal.div 1 (SQ (lr : EReal) (li : EReal) * SQ (lr : EReal) (li : EReal)) * Y (lr : EReal) (li : EReal) (w : EReal))
        + -((b : EReal) * Ideal.div 1 (SQ (lr : EReal) (li : EReal) * SQ (lr : EReal) (li : EReal)) * X (lr : EReal) (li : EReal) (w : EReal)) := by
  obtain ⟨x, hx⟩ := x_coe lr li w
  obtain ⟨y, hy⟩ := y_coe lr li w
  rw [KD, hx, hy, sq_coe, ← EReal.coe_mul (lr * lr + li * li), Ideal.div_coe (mul_ne_zero h h), one_mul]
  norm_cast
  ring

/-- What the precondition gives: every array it names is of reals, and no eigenvalue is zero. -/
structure Regular (a0 a1 : FVec Ideal S64x64 .f32) (a2 : FVec Ideal S64 .f32) (a3 a4 a7 a8 : FVec Ideal S64x64x16 .f32) : Prop where
  lr : ∀ g p, a0 (ix2 g p) = (((a0 (ix2 g p)).toReal : ℝ) : EReal)
  li : ∀ g p, a1 (ix2 g p) = (((a1 (ix2 g p)).toReal : ℝ) : EReal)
  step : ∀ g, a2 (ix1 g) = (((a2 (ix1 g)).toReal : ℝ) : EReal)
  inv : ∀ g p, Ideal.div 1 (SQ (a0 (ix2 g p)) (a1 (ix2 g p))) = (((Ideal.div 1 (SQ (a0 (ix2 g p)) (a1 (ix2 g p)))).toReal : ℝ) : EReal)
  br : ∀ g p h, a3 (ix3 g p h) = (((a3 (ix3 g p h)).toReal : ℝ) : EReal)
  bi : ∀ g p h, a4 (ix3 g p h) = (((a4 (ix3 g p h)).toReal : ℝ) : EReal)
  dr : ∀ g p h, a7 (ix3 g p h) = (((a7 (ix3 g p h)).toReal : ℝ) : EReal)
  di : ∀ g p h, a8 (ix3 g p h) = (((a8 (ix3 g p h)).toReal : ℝ) : EReal)

section
variable {a0 a1 : FVec Ideal S64x64 .f32} {a2 : FVec Ideal S64 .f32} {a3 a4 a7 a8 : FVec Ideal S64x64x16 .f32} (R : Regular a0 a1 a2 a3 a4 a7 a8) (a5 a6 : FVec Ideal S64x64 .f32) (g p : Fin 64)
include R

theorem inv_at (a : EReal) : KP (a0 (ix2 g p)) (a1 (ix2 g p)) a = Ideal.div a (SQ (a0 (ix2 g p)) (a1 (ix2 g p))) := by
  have h := R.inv g p
  rw [KP]
  rw [R.lr g p, R.li g p] at h ⊢
  have hn := sq_ne h
  rw [sq_coe, div_inv hn]

theorem p_at : KP (a0 (ix2 g p)) (a1 (ix2 g p)) (SR (fun h => a3 (ix3 g p h)) (fun h => a4 (ix3 g p h)) (fun h => a7 (ix3 g p h)) (fun h => a8 (ix3 g p h))) = AP a0 a1 a3 a4 a7 a8 g p :=
  (inv_at R g p _).trans (ref_p _ _ _ _ _ _ _ _).symm

theorem q_at : KP (a0 (ix2 g p)) (a1 (ix2 g p)) (SI (fun h => a3 (ix3 g p h)) (fun h => a4 (ix3 g p h)) (fun h => a7 (ix3 g p h)) (fun h => a8 (ix3 g p h))) = AQ a0 a1 a3 a4 a7 a8 g p :=
  (inv_at R g p _).trans (ref_q _ _ _ _ _ _ _ _).symm

theorem d_at : KD (a0 (ix2 g p)) (a1 (ix2 g p)) (a2 (ix1 g)) (SR (fun h => a3 (ix3 g p h)) (fun h => a4 (ix3 g p h)) (fun h => a7 (ix3 g p h)) (fun h => a8 (ix3 g p h)))
    (SI (fun h => a3 (ix3 g p h)) (fun h => a4 (ix3 g p h)) (fun h => a7 (ix3 g p h)) (fun h => a8 (ix3 g p h))) = AD a0 a1 a2 a3 a4 a7 a8 g p := by
  have h := R.inv g p
  rw [ref_d, funext (R.br g p), funext (R.bi g p), funext (R.dr g p), funext (R.di g p), sr_coe, si_coe]
  rw [R.lr g p, R.li g p] at h
  rw [R.lr g p, R.li g p, R.step g]
  exact kd_eq _ _ _ _ _ (sq_ne h)

/-- The step's gradient, before its sum over a group's eigenvalues. -/
def STEP (a0 a1 : FVec Ideal S64x64 .f32) (a2 : FVec Ideal S64 .f32) (a3 a4 : FVec Ideal S64x64x16 .f32) (a5 a6 : FVec Ideal S64x64 .f32) (a7 a8 : FVec Ideal S64x64x16 .f32) : FVec Ideal S64x64 .f32 := fun i =>
  DSTEP (a0 (ix2 (i 0) (i 1))) (a1 (ix2 (i 0) (i 1))) (a2 (ix1 (i 0))) (AP a0 a1 a3 a4 a7 a8 (i 0) (i 1)) (AQ a0 a1 a3 a4 a7 a8 (i 0) (i 1)) (a5 (ix2 (i 0) (i 1))) (a6 (ix2 (i 0) (i 1)))
    * Ideal.exp (a2 (ix1 (i 0)))

theorem sum_step : ∑ k, STEP a0 a1 a2 a3 a4 a5 a6 a7 a8 (ix2 g k) = Cert.DiscReferenceIdeal.Read.val_main_v140 (F := Ideal) a0 a1 a2 a3 a4 a5 a6 a7 a8 (ix1 g) := by
  have h0 : 0 ≤ Ideal.exp (a2 (ix1 g)) := by
    rw [R.step g, Ideal.exp_coe]; exact_mod_cast (Real.exp_pos _).le
  have ht : Ideal.exp (a2 (ix1 g)) ≠ ⊤ := by
    rw [R.step g, Ideal.exp_coe]; exact EReal.coe_ne_top _
  rw [ref_step, mul_comm, ← Finset.sum_add_distrib, ← Finset.sum_add_distrib, scale_sum h0 ht]
  exact Finset.sum_congr rfl fun k _ => mul_comm _ _
end

theorem pre_facts : Cert.Pre_disc_regular.Facts where
  bcast_S64_S64x1_0 := by decide
  bcast_S64x1_S64x64_0_1 := by decide
  bcast_S_S64x64 := by decide
  bcast_S64x64_S64x64x1_0_1 := by decide
  concatenates_S64x64x1_S64x64x1_S64x64x1_S64x64x1_S64x64x16_S64x64x16_S64x64x16_S64x64x16_S64x64x68_d2 := by decide
  bcast_S_S64x64x68 := by decide

section
variable [Cert.Pre_disc_regular.Facts] {a0 a1 : FVec Ideal S64x64 .f32} {a2 : FVec Ideal S64 .f32} {a3 a4 : FVec Ideal S64x64x16 .f32} {a5 a6 : FVec Ideal S64x64 .f32} {a7 a8 : FVec Ideal S64x64x16 .f32}
  (h : Cert.Pre_disc_regular.fn (F := Ideal) a0 a1 a2 a3 a4 a5 a6 a7 a8 = fun _ => 1#1)
include h

theorem regular : Regular a0 a1 a2 a3 a4 a7 a8 where
  lr g p := by
    refine Sb.real_of_lt _ (Eq.trans (Eq.symm ?_) (congrFun h (ix3 g p (⟨0, by omega⟩ : Fin 68))))
    pointwise [Cert.Pre_disc_regular.fn]
  li g p := by
    refine Sb.real_of_lt _ (Eq.trans (Eq.symm ?_) (congrFun h (ix3 g p (⟨1, by omega⟩ : Fin 68))))
    pointwise [Cert.Pre_disc_regular.fn]
  step g := by
    refine Sb.real_of_lt _ (Eq.trans (Eq.symm ?_) (congrFun h (ix3 g 0 (⟨2, by omega⟩ : Fin 68))))
    pointwise [Cert.Pre_disc_regular.fn]
  inv g p := by
    refine Sb.real_of_lt _ (Eq.trans (Eq.symm ?_) (congrFun h (ix3 g p (⟨3, by omega⟩ : Fin 68))))
    pointwise [Cert.Pre_disc_regular.fn]
    rfl
  br g p k := by
    refine Sb.real_of_lt _ (Eq.trans (Eq.symm ?_) (congrFun h (ix3 g p (⟨4 + k.val, by omega⟩ : Fin 68))))
    pointwise [Cert.Pre_disc_regular.fn]
    rw [dif_neg (by omega), dif_neg (by omega), dif_neg (by omega), dif_neg (by omega), dif_pos (by omega)]
    simp only [show 4 + k.val - 1 - 1 - 1 - 1 = k.val by omega]
  bi g p k := by
    refine Sb.real_of_lt _ (Eq.trans (Eq.symm ?_) (congrFun h (ix3 g p (⟨20 + k.val, by omega⟩ : Fin 68))))
    pointwise [Cert.Pre_disc_regular.fn]
    rw [dif_neg (by omega), dif_neg (by omega), dif_neg (by omega), dif_neg (by omega), dif_neg (by omega), dif_pos (by omega)]
    simp only [show 20 + k.val - 1 - 1 - 1 - 1 - 16 = k.val by omega]
  dr g p k := by
    refine Sb.real_of_lt _ (Eq.trans (Eq.symm ?_) (congrFun h (ix3 g p (⟨36 + k.val, by omega⟩ : Fin 68))))
    pointwise [Cert.Pre_disc_regular.fn]
    rw [dif_neg (by omega), dif_neg (by omega), dif_neg (by omega), dif_neg (by omega), dif_neg (by omega), dif_neg (by omega), dif_pos (by omega)]
    simp only [show 36 + k.val - 1 - 1 - 1 - 1 - 16 - 16 = k.val by omega]
  di g p k := by
    refine Sb.real_of_lt _ (Eq.trans (Eq.symm ?_) (congrFun h (ix3 g p (⟨52 + k.val, by omega⟩ : Fin 68))))
    pointwise [Cert.Pre_disc_regular.fn]
    rw [dif_neg (by omega), dif_neg (by omega), dif_neg (by omega), dif_neg (by omega), dif_neg (by omega), dif_neg (by omega), dif_neg (by omega)]
    simp only [show 52 + k.val - 1 - 1 - 1 - 1 - 16 - 16 - 16 = k.val by omega]
end

variable (m : (ℓ : Loc nD τ sig) → Buf (Elt Ideal) ℓ) (c : Dev nD)

theorem idx : ∀ t : Fin cfg0.N, win0_0.index t = ![t.val, 0]
      ∧ win0_1.index t = ![t.val, 0]
      ∧ win0_2.index t = ![t.val, 0]
      ∧ win0_3.index t = ![t.val, 0]
      ∧ win0_4.index t = ![t.val, 0]
      ∧ win0_5.index t = ![t.val, 0]
      ∧ win0_6.index t = ![t.val, 0]
      ∧ win0_7.index t = ![t.val, 0]
      ∧ win0_8.index t = ![t.val, 0]
      ∧ win0_9.index t = ![t.val, 0]
      ∧ win0_10.index t = ![t.val, 0]
      ∧ win0_11.index t = ![t.val, 0]
      ∧ win0_12.index t = ![t.val, 0]
      ∧ win0_13.index t = ![t.val, 0] :=
  (by decide +kernel : ∀ t : Fin grid0.N, win0_0.index t = ![t.val, 0]
      ∧ win0_1.index t = ![t.val, 0]
      ∧ win0_2.index t = ![t.val, 0]
      ∧ win0_3.index t = ![t.val, 0]
      ∧ win0_4.index t = ![t.val, 0]
      ∧ win0_5.index t = ![t.val, 0]
      ∧ win0_6.index t = ![t.val, 0]
      ∧ win0_7.index t = ![t.val, 0]
      ∧ win0_8.index t = ![t.val, 0]
      ∧ win0_9.index t = ![t.val, 0]
      ∧ win0_10.index t = ![t.val, 0]
      ∧ win0_11.index t = ![t.val, 0]
      ∧ win0_12.index t = ![t.val, 0]
      ∧ win0_13.index t = ![t.val, 0])

section
variable (t : Fin cfg0.N) (r : Fin 512)

/-- The row of the whole array that row `r` of block `t` is, and its group and eigenvalue. -/
def ROW : Fin 4096 := ⟨t.val * 512 + r.val, by have ht : t.val < 8 := t.isLt; omega⟩
def GRP : Fin 64 := ⟨(ROW t r).val / 64, by omega⟩
def EIG : Fin 64 := ⟨(ROW t r).val % 64, by omega⟩

theorem b0 : iblk m c 0 t (ix2 r 0) = m ((c : Thread nD τ).loc main_arg0) (ix2 (GRP t r) (EIG t r)) := by
  have e : ((cfg0.win 0).blk t).view.emb (ix2 r 0) = (ix2 (ROW t r) 0 : S4096x1.Idx) := by
    blk_ext [idx t, ROW]
  refine (congrArg (V m c main_v2) e).trans ?_
  exact narrow_at _ (ROW t r)

theorem b1 : iblk m c 1 t (ix2 r 0) = m ((c : Thread nD τ).loc main_arg1) (ix2 (GRP t r) (EIG t r)) := by
  have e : ((cfg0.win 1).blk t).view.emb (ix2 r 0) = (ix2 (ROW t r) 0 : S4096x1.Idx) := by
    blk_ext [idx t, ROW]
  refine (congrArg (V m c main_v3) e).trans ?_
  exact narrow_at _ (ROW t r)

theorem b2 : iblk m c 2 t (ix2 r 0) = m ((c : Thread nD τ).loc main_arg2) (ix1 (GRP t r)) := by
  have e : ((cfg0.win 2).blk t).view.emb (ix2 r 0) = (ix2 (ROW t r) 0 : S4096x1.Idx) := by
    blk_ext [idx t, ROW]
  refine (congrArg (V m c main_v4) e).trans ?_
  refine (show _ = shapeCast S4096x1 (broadcastInDim S64x64 ![0, 1] bcast_S64x1_S64x64_0_1 (broadcastInDim S64x1 ![0] bcast_S64_S64x1_0 (m ((c : Thread nD τ).loc main_arg2)))) shapeCasts_S64x64_S4096x1 (ix2 (ROW t r) 0) from rfl).trans ?_
  rw [narrow_at]
  pointwise
  rfl

theorem b3 (h : Fin 16) : iblk m c 3 t (ix2 r h) = m ((c : Thread nD τ).loc main_arg3) (ix3 (GRP t r) (EIG t r) h) := by
  have e : ((cfg0.win 3).blk t).view.emb (ix2 r h) = (ix2 (ROW t r) h : S4096x16.Idx) := by
    blk_ext [idx t, ROW]
  refine (congrArg (V m c main_v5) e).trans ?_
  exact wide_at _ (ROW t r) h

theorem b4 (h : Fin 16) : iblk m c 4 t (ix2 r h) = m ((c : Thread nD τ).loc main_arg4) (ix3 (GRP t r) (EIG t r) h) := by
  have e : ((cfg0.win 4).blk t).view.emb (ix2 r h) = (ix2 (ROW t r) h : S4096x16.Idx) := by
    blk_ext [idx t, ROW]
  refine (congrArg (V m c main_v6) e).trans ?_
  exact wide_at _ (ROW t r) h

theorem b5 : iblk m c 5 t (ix2 r 0) = m ((c : Thread nD τ).loc main_arg5) (ix2 (GRP t r) (EIG t r)) := by
  have e : ((cfg0.win 5).blk t).view.emb (ix2 r 0) = (ix2 (ROW t r) 0 : S4096x1.Idx) := by
    blk_ext [idx t, ROW]
  refine (congrArg (V m c main_v7) e).trans ?_
  exact narrow_at _ (ROW t r)

theorem b6 : iblk m c 6 t (ix2 r 0) = m ((c : Thread nD τ).loc main_arg6) (ix2 (GRP t r) (EIG t r)) := by
  have e : ((cfg0.win 6).blk t).view.emb (ix2 r 0) = (ix2 (ROW t r) 0 : S4096x1.Idx) := by
    blk_ext [idx t, ROW]
  refine (congrArg (V m c main_v8) e).trans ?_
  exact narrow_at _ (ROW t r)

theorem b7 (h : Fin 16) : iblk m c 7 t (ix2 r h) = m ((c : Thread nD τ).loc main_arg7) (ix3 (GRP t r) (EIG t r) h) := by
  have e : ((cfg0.win 7).blk t).view.emb (ix2 r h) = (ix2 (ROW t r) h : S4096x16.Idx) := by
    blk_ext [idx t, ROW]
  refine (congrArg (V m c main_v9) e).trans ?_
  exact wide_at _ (ROW t r) h

theorem b8 (h : Fin 16) : iblk m c 8 t (ix2 r h) = m ((c : Thread nD τ).loc main_arg8) (ix3 (GRP t r) (EIG t r) h) := by
  have e : ((cfg0.win 8).blk t).view.emb (ix2 r h) = (ix2 (ROW t r) h : S4096x16.Idx) := by
    blk_ext [idx t, ROW]
  refine (congrArg (V m c main_v10) e).trans ?_
  exact wide_at _ (ROW t r) h

theorem kr_at : KR (iblk m c 3 t) (iblk m c 4 t) (iblk m c 7 t) (iblk m c 8 t) r
    = SR (fun h => m ((c : Thread nD τ).loc main_arg3) (ix3 (GRP t r) (EIG t r) h)) (fun h => m ((c : Thread nD τ).loc main_arg4) (ix3 (GRP t r) (EIG t r) h))
        (fun h => m ((c : Thread nD τ).loc main_arg7) (ix3 (GRP t r) (EIG t r) h)) (fun h => m ((c : Thread nD τ).loc main_arg8) (ix3 (GRP t r) (EIG t r) h)) := by
  rw [KR, funext (b3 m c t r), funext (b4 m c t r), funext (b7 m c t r), funext (b8 m c t r)]

theorem ki_at : KI (iblk m c 3 t) (iblk m c 4 t) (iblk m c 7 t) (iblk m c 8 t) r
    = SI (fun h => m ((c : Thread nD τ).loc main_arg3) (ix3 (GRP t r) (EIG t r) h)) (fun h => m ((c : Thread nD τ).loc main_arg4) (ix3 (GRP t r) (EIG t r) h))
        (fun h => m ((c : Thread nD τ).loc main_arg7) (ix3 (GRP t r) (EIG t r) h)) (fun h => m ((c : Thread nD τ).loc main_arg8) (ix3 (GRP t r) (EIG t r) h)) := by
  rw [KI, funext (b3 m c t r), funext (b4 m c t r), funext (b7 m c t r), funext (b8 m c t r)]
end

variable (R : Regular (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)))
include R

theorem final9 : (dats m 0 c).arrAt 9 (cfgs 0).N = shapeCast S4096x1 (Cert.DiscReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 := by
  refine (dats m 0 c).arrAt_eq_of_covers 9 _ (by decide +kernel) fun t _ y => ?_
  refine (show _ = (cfg0.win 9).cut (grid0.coords t) ((dats m 0 c).after 9 t) y from rfl).trans ?_
  rw [after0_9]
  blk_simp
  change S512x1.Idx at y
  idx_vars y
  have h0 : y1 = 0 := Subsingleton.elim _ _
  subst h0
  have e : ((cfg0.win 9).blk t).view.emb (ix2 y0 0) = (ix2 (ROW t y0) 0 : S4096x1.Idx) := by
    blk_ext [idx t, ROW]
  rw [e]
  refine (ker_dlr _ _ _ _ _ _ _ _ _ y0).trans (Eq.trans ?_ (narrow_at _ (ROW t y0)).symm)
  refine Eq.trans ?_ (ref_dlr _ _ _ _ _ _ _ _ _ (GRP t y0) (EIG t y0)).symm
  rw [b0, b1, b2, b5, b6, kr_at, ki_at, p_at R, q_at R, d_at R]

theorem final10 : (dats m 0 c).arrAt 10 (cfgs 0).N = shapeCast S4096x1 (Cert.DiscReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 := by
  refine (dats m 0 c).arrAt_eq_of_covers 10 _ (by decide +kernel) fun t _ y => ?_
  refine (show _ = (cfg0.win 10).cut (grid0.coords t) ((dats m 0 c).after 10 t) y from rfl).trans ?_
  rw [after0_10]
  blk_simp
  change S512x1.Idx at y
  idx_vars y
  have h0 : y1 = 0 := Subsingleton.elim _ _
  subst h0
  have e : ((cfg0.win 10).blk t).view.emb (ix2 y0 0) = (ix2 (ROW t y0) 0 : S4096x1.Idx) := by
    blk_ext [idx t, ROW]
  rw [e]
  refine (ker_dli _ _ _ _ _ _ _ _ _ y0).trans (Eq.trans ?_ (narrow_at _ (ROW t y0)).symm)
  refine Eq.trans ?_ (ref_dli _ _ _ _ _ _ _ _ _ (GRP t y0) (EIG t y0)).symm
  rw [b0, b1, b2, b5, b6, kr_at, ki_at, p_at R, q_at R, d_at R]

theorem final11 : (dats m 0 c).arrAt 11 (cfgs 0).N = shapeCast S4096x1 (STEP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 := by
  refine (dats m 0 c).arrAt_eq_of_covers 11 _ (by decide +kernel) fun t _ y => ?_
  refine (show _ = (cfg0.win 11).cut (grid0.coords t) ((dats m 0 c).after 11 t) y from rfl).trans ?_
  rw [after0_11]
  blk_simp
  change S512x1.Idx at y
  idx_vars y
  have h0 : y1 = 0 := Subsingleton.elim _ _
  subst h0
  have e : ((cfg0.win 11).blk t).view.emb (ix2 y0 0) = (ix2 (ROW t y0) 0 : S4096x1.Idx) := by
    blk_ext [idx t, ROW]
  rw [e]
  refine (ker_step _ _ _ _ _ _ _ _ _ y0).trans (Eq.trans ?_ (narrow_at _ (ROW t y0)).symm)
  rw [b0, b1, b2, b5, b6, kr_at, ki_at, p_at R, q_at R]
  rfl

theorem final12 : (dats m 0 c).arrAt 12 (cfgs 0).N = shapeCast S4096x16 (Cert.DiscReferenceIdeal.Read.val_main_v71 (F := Ideal) (m ((c : Thread nD τ).loc main_arg0)) (m ((c : Thread nD τ).loc main_arg1)) (m ((c : Thread nD τ).loc main_arg2)) (m ((c : Thread nD τ).loc main_arg7)) (m ((c : Thread nD τ).loc main_arg8))) shapeCasts_S64x64x16_S4096x16 := by
  refine (dats m 0 c).arrAt_eq_of_covers 12 _ (by decide +kernel) fun t _ y => ?_
  refine (show _ = (cfg0.win 12).cut (grid0.coords t) ((dats m 0 c).after 12 t) y from rfl).trans ?_
  rw [after0_12]
  blk_simp
  change S512x16.Idx at y
  idx_vars y
  have e : ((cfg0.win 12).blk t).view.emb (ix2 y0 y1) = (ix2 (ROW t y0) y1 : S4096x16.Idx) := by
    blk_ext [idx t, ROW]
  rw [e]
  refine (ker_dbr _ _ _ _ _ _ _ _ _ y0 y1).trans (Eq.trans ?_ (wide_at _ (ROW t y0) y1).symm)
  refine Eq.trans ?_ (ref_dbr _ _ _ _ _ (GRP t y0) (EIG t y0) y1).symm
  rw [b0, b1, b2, b7, b8, inv_at R, inv_at R]

theorem final13 : (dats m 0 c).arrAt 13 (cfgs 0).N = shapeCast S4096x16 (Cert.DiscReferenceIdeal.Read.val_main_v64 (F := Ideal) (m ((c : Thread nD τ).loc main_arg0)) (m ((c : Thread nD τ).loc main_arg1)) (m ((c : Thread nD τ).loc main_arg2)) (m ((c : Thread nD τ).loc main_arg7)) (m ((c : Thread nD τ).loc main_arg8))) shapeCasts_S64x64x16_S4096x16 := by
  refine (dats m 0 c).arrAt_eq_of_covers 13 _ (by decide +kernel) fun t _ y => ?_
  refine (show _ = (cfg0.win 13).cut (grid0.coords t) ((dats m 0 c).after 13 t) y from rfl).trans ?_
  rw [after0_13]
  blk_simp
  change S512x16.Idx at y
  idx_vars y
  have e : ((cfg0.win 13).blk t).view.emb (ix2 y0 y1) = (ix2 (ROW t y0) y1 : S4096x16.Idx) := by
    blk_ext [idx t, ROW]
  rw [e]
  refine (ker_dbi _ _ _ _ _ _ _ _ _ y0 y1).trans (Eq.trans ?_ (wide_at _ (ROW t y0) y1).symm)
  refine Eq.trans ?_ (ref_dbi _ _ _ _ _ (GRP t y0) (EIG t y0) y1).symm
  rw [b0, b1, b2, b7, b8, inv_at R, inv_at R]

omit R in
theorem arr_inj : Function.Injective (Pipeline.arrRef (cfgs (0 : Fin 1)).spec) :=
  (by decide : Function.Injective (Pipeline.arrRef spec0))

omit R in
/-- What the host lines after the kernel's region start from: each result of the kernel as it was left. -/
theorem left (w : Fin 14) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr _ arr_inj c _ _ w

theorem tail9 : Pipeline.afterTail₀ cfgs (dats m) 0 (V0 m) [hostOps1] c main_v12 = Cert.DiscReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (show _ = StableHlo.after hostOps1 (Pipeline.withArrays (cfgs 0).spec c (V0 m c) fun w => (dats m 0 c).arrAt w (cfgs 0).N) (Proc.devRef .tc main_v12) from rfl).trans ?_
  have h := (left m c 9).trans (final9 m c R)
  generalize (Pipeline.withArrays (cfgs 0).spec c (V0 m c) fun w => (dats m 0 c).arrAt w (cfgs 0).N) = W at h ⊢
  after_results_simp
  rw [show W (Proc.devRef .tc main_v11_0) = shapeCast S4096x1 (Cert.DiscReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 from h]
  exact shapeCast_shapeCast _ _ _

theorem tail10 : Pipeline.afterTail₀ cfgs (dats m) 0 (V0 m) [hostOps1] c main_v13 = Cert.DiscReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (show _ = StableHlo.after hostOps1 (Pipeline.withArrays (cfgs 0).spec c (V0 m c) fun w => (dats m 0 c).arrAt w (cfgs 0).N) (Proc.devRef .tc main_v13) from rfl).trans ?_
  have h := (left m c 10).trans (final10 m c R)
  generalize (Pipeline.withArrays (cfgs 0).spec c (V0 m c) fun w => (dats m 0 c).arrAt w (cfgs 0).N) = W at h ⊢
  after_results_simp
  rw [show W (Proc.devRef .tc main_v11_1) = shapeCast S4096x1 (Cert.DiscReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 from h]
  exact shapeCast_shapeCast _ _ _

theorem tail12 : Pipeline.afterTail₀ cfgs (dats m) 0 (V0 m) [hostOps1] c main_v16 = Cert.DiscReferenceIdeal.Read.val_main_v71 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (show _ = StableHlo.after hostOps1 (Pipeline.withArrays (cfgs 0).spec c (V0 m c) fun w => (dats m 0 c).arrAt w (cfgs 0).N) (Proc.devRef .tc main_v16) from rfl).trans ?_
  have h := (left m c 12).trans (final12 m c R)
  generalize (Pipeline.withArrays (cfgs 0).spec c (V0 m c) fun w => (dats m 0 c).arrAt w (cfgs 0).N) = W at h ⊢
  after_results_simp
  rw [show W (Proc.devRef .tc main_v11_3) = shapeCast S4096x16 (Cert.DiscReferenceIdeal.Read.val_main_v71 (F := Ideal) (m ((c : Thread nD τ).loc main_arg0)) (m ((c : Thread nD τ).loc main_arg1)) (m ((c : Thread nD τ).loc main_arg2)) (m ((c : Thread nD τ).loc main_arg7)) (m ((c : Thread nD τ).loc main_arg8))) shapeCasts_S64x64x16_S4096x16 from h]
  exact shapeCast_shapeCast _ _ _

theorem tail13 : Pipeline.afterTail₀ cfgs (dats m) 0 (V0 m) [hostOps1] c main_v17 = Cert.DiscReferenceIdeal.Read.val_main_v64 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (show _ = StableHlo.after hostOps1 (Pipeline.withArrays (cfgs 0).spec c (V0 m c) fun w => (dats m 0 c).arrAt w (cfgs 0).N) (Proc.devRef .tc main_v17) from rfl).trans ?_
  have h := (left m c 13).trans (final13 m c R)
  generalize (Pipeline.withArrays (cfgs 0).spec c (V0 m c) fun w => (dats m 0 c).arrAt w (cfgs 0).N) = W at h ⊢
  after_results_simp
  rw [show W (Proc.devRef .tc main_v11_4) = shapeCast S4096x16 (Cert.DiscReferenceIdeal.Read.val_main_v64 (F := Ideal) (m ((c : Thread nD τ).loc main_arg0)) (m ((c : Thread nD τ).loc main_arg1)) (m ((c : Thread nD τ).loc main_arg2)) (m ((c : Thread nD τ).loc main_arg7)) (m ((c : Thread nD τ).loc main_arg8))) shapeCasts_S64x64x16_S4096x16 from h]
  exact shapeCast_shapeCast _ _ _

theorem tail11 : Pipeline.afterTail₀ cfgs (dats m) 0 (V0 m) [hostOps1] c main_v15 = Cert.DiscReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (show _ = StableHlo.after hostOps1 (Pipeline.withArrays (cfgs 0).spec c (V0 m c) fun w => (dats m 0 c).arrAt w (cfgs 0).N) (Proc.devRef .tc main_v15) from rfl).trans ?_
  have h := (left m c 11).trans (final11 m c R)
  generalize (Pipeline.withArrays (cfgs 0).spec c (V0 m c) fun w => (dats m 0 c).arrAt w (cfgs 0).N) = W at h ⊢
  after_results_simp
  rw [show W (Proc.devRef .tc main_v11_2) = shapeCast S4096x1 (STEP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 from h]
  refine (congrArg (fun z => Host.reduceAdd z (constant S_ .f32 0#32) reducesTo_S64x64_S64_d1 h_S_)
    (shapeCast_shapeCast (STEP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64x64_S4096x1 shapeCasts_S4096x1_S64x64)).trans ?_
  refine funext fun i => ?_
  idx_vars i
  refine Eq.trans ?_ (sum_step R _ _ i0)
  generalize STEP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = z
  pointwise

omit R in
/-- The kernel's run, its results those of the plain gradient, its arguments as they were. -/
theorem run (hR : ∀ c : Dev nD, Regular (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (ρ : Dev nD → PrngReg) :
    θ_run defs (onTc (τ := τ) (main (F := Ideal))) ⟨m, fun _ => 0, ρ⟩ fun r => ∀ c : Dev nD,
      r.2.mem ((c : Thread nD τ).loc main_v12) = Cert.DiscReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v13) = Cert.DiscReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v15) = Cert.DiscReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v16) = Cert.DiscReferenceIdeal.Read.val_main_v71 (F := Ideal) (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_v17) = Cert.DiscReferenceIdeal.Read.val_main_v64 (F := Ideal) (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
      ⟨((h.1 c).2 main_v12 (Pipeline.mem_restRefs_of main_v12 (by decide) (by decide))).trans (tail9 m c (hR c)),
        ((h.1 c).2 main_v13 (Pipeline.mem_restRefs_of main_v13 (by decide) (by decide))).trans (tail10 m c (hR c)),
        ((h.1 c).2 main_v15 (Pipeline.mem_restRefs_of main_v15 (by decide) (by decide))).trans (tail11 m c (hR c)),
        ((h.1 c).2 main_v16 (Pipeline.mem_restRefs_of main_v16 (by decide) (by decide))).trans (tail12 m c (hR c)),
        ((h.1 c).2 main_v17 (Pipeline.mem_restRefs_of main_v17 (by decide) (by decide))).trans (tail13 m c (hR c)), h.2 c⟩)
    (θ_run_and (run_main m ρ) (unchanged m ρ))

omit R in
theorem algebraic : Cert.algebraic_DiscKernelIdeal_DiscReferenceIdeal_pre_disc_regular (hDiscKernelIdeal := Cert.DiscKernelIdeal.Gen.facts)
    (hDiscReferenceIdeal := Cert.DiscReferenceIdeal.Gen.facts) (hPre_disc_regular := pre_facts) := by
  intro m g m' g' hp hag
  refine ⟨_, _, _, _, _, run m (fun c => @regular pre_facts _ _ _ _ _ _ _ _ _ (hp c)) g, (θ_run _ _ _).mono (fun r h c => ?_) (Cert.DiscReferenceIdeal.Value.run (F := Ideal) m' g')⟩
  obtain ⟨h0, h1, h2, h3, h4, h5, h6, h7, h8⟩ := hag c
  refine ⟨(h c).1.trans ?_, (h c).2.1.trans ?_, (h c).2.2.1.trans ?_, (h c).2.2.2.1.trans ?_, (h c).2.2.2.2.1.trans ?_, (h c).2.2.2.2.2⟩
  · refine (Cert.DiscReferenceIdeal.Read.val_main_v138_eq m' c).trans ?_
    rw [h0, h1, h2, h3, h4, h5, h6, h7, h8]
  · refine (Cert.DiscReferenceIdeal.Read.val_main_v130_eq m' c).trans ?_
    rw [h0, h1, h2, h3, h4, h5, h6, h7, h8]
  · refine (Cert.DiscReferenceIdeal.Read.val_main_v140_eq m' c).trans ?_
    rw [h0, h1, h2, h3, h4, h5, h6, h7, h8]
  · refine (Cert.DiscReferenceIdeal.Read.val_main_v71_eq _ _ _ _ _).trans ?_
    rw [h0, h1, h2, h7, h8]
  · refine (Cert.DiscReferenceIdeal.Read.val_main_v64_eq _ _ _ _ _).trans ?_
    rw [h0, h1, h2, h7, h8]

omit R in
theorem reference_frame : Cert.quiescent_DiscReferenceIdeal := fun m ρ _ =>
  (θ_run Cert.DiscReferenceIdeal.defs _ _).mono (fun r h => ⟨fun c => (h c).2.2.2.2.2, Idealize.ShloMosaic.sem_eq_zero_of_no_sems (by decide) r.2⟩)
    (Cert.DiscReferenceIdeal.Value.run (F := Ideal) m ρ)

end Cert.Proof.DiscValue

end
-- ==== Proof.GlufValue.lean ====
/- The gated product of the S5 layers added to the residual, block by block: what the kernel stores is the plain product. -/
module

public import proofs.«01_k».proof.Proof.Gen.GlufKernelIdeal.Frame
public import proofs.«01_k».proof.Proof.Gen.GlufReferenceIdeal.Run
public import proofs.«01_k».proof.Proof.Gen.GlufReferenceIdeal.Read
public import proofs.«01_k».proof.Defs
public import Idealize.ShloMosaic.Lib.Claim
public import Idealize.ShloMosaic.Adequacy
public import Idealize.ShloMosaic.Lib.Pipeline.ValueKit
public import Idealize.ShloMosaic.Lib.Pointwise

@[expose] public section

set_option maxRecDepth 16384

noncomputable section

namespace Cert.Proof.GlufValue

open Idealize.ShloMosaic Idealize.ShloMosaic.TcCoe Idealize.SL.Sem
open Cert.GlufKernelIdeal Cert.GlufKernelIdeal.Gen

/-- The result at one column, of its residual, its value and its gate. -/
def CELL (h v g : EReal) : EReal := h + v * Ideal.div 1 (1 + Ideal.exp (-g))

section
open Cert.GlufReferenceIdeal.Read

theorem ref_apply (x : FVec Ideal S8192x2048 .f32) (h : FVec Ideal S8192x1024 .f32) (r : Fin 8192) (k : Fin 1024) :
    val_main_v9 (F := Ideal) x h (ix2 r k) = CELL (h (ix2 r k)) (x (ix2 r ⟨k.val, by omega⟩)) (x (ix2 r ⟨1024 + k.val, by omega⟩)) := by
  pointwise [val_main_v9, val_main_v8, val_main_v7, val_main_v6, val_main_v5, val_main_v4, val_main_v3, val_main_v2, val_main_v1, val_main_v0, val_main_cst, val_main_cst_0]
  rfl
end

theorem pay_apply (x : Vec Ideal S256x2048 .bf16) (h : Vec Ideal S256x1024 .f32) (r : Fin 256) (k : Fin 1024) :
    k0_pay1 (F := Ideal) x h (ix2 r k) = CELL (h (ix2 r k)) (x (ix2 r ⟨k.val, by omega⟩)) (x (ix2 r ⟨1024 + k.val, by omega⟩)) := by
  pointwise [k0_pay1]
  simp only [zero_sub]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

theorem point (c : Dev nD) (t : Fin cfg0.N) (y : S256x1024.Idx) :
    k0_pay1 (iblk m c 0 t) (iblk m c 1 t) y
      = Cert.GlufReferenceIdeal.Read.val_main_v9 (F := Ideal) (m ((c : Thread nD τ).loc main_arg0)) (m ((c : Thread nD τ).loc main_arg1)) (((cfg0.win 2).blk t).view.emb y) := by
  have ht : t.val < 32 := t.isLt
  idx_vars y
  have e : ((cfg0.win 2).blk t).view.emb (ix2 y0 y1) = (ix2 ⟨t.val * 256 + y0.val, by omega⟩ y1 : S8192x1024.Idx) := by
    blk_ext [idx t]
  have ex : ∀ l : Fin 2048, iblk m c 0 t (ix2 y0 l) = m ((c : Thread nD τ).loc main_arg0) (ix2 ⟨t.val * 256 + y0.val, by omega⟩ l) := by
    intro l
    blk_point [iblk, V, idx t]
  have eh : iblk m c 1 t (ix2 y0 y1) = m ((c : Thread nD τ).loc main_arg1) (ix2 ⟨t.val * 256 + y0.val, by omega⟩ y1) := by
    blk_point [iblk, V, idx t]
  rw [e, ref_apply, pay_apply, ex, ex, eh]

theorem final (c : Dev nD) : (dats m 0 c).arrAt 2 (cfgs 0).N
    = Cert.GlufReferenceIdeal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

theorem algebraic : Cert.algebraic_GlufKernelIdeal_GlufReferenceIdeal := by
  intro m g m' g' _ hag
  refine ⟨_, (θ_run _ _ _).mono (fun _ h c => ⟨((h.1 c).1 2).trans (final m c), h.2 c⟩) (θ_run_and (run_main m g) (unchanged m g)),
    (θ_run _ _ _).mono (fun r h c => ?_) (Cert.GlufReferenceIdeal.Value.run (F := Ideal) m' g')⟩
  refine ⟨(h c).1.trans ?_, (h c).2⟩
  refine (Cert.GlufReferenceIdeal.Read.val_main_v9_eq _ _).trans ?_
  rw [(hag c).1, (hag c).2]

theorem reference_frame : Cert.quiescent_GlufReferenceIdeal := fun m ρ _ =>
  (θ_run Cert.GlufReferenceIdeal.defs _ _).mono (fun r h => ⟨fun c => (h c).2, Idealize.ShloMosaic.sem_eq_zero_of_no_sems (by decide) r.2⟩)
    (Cert.GlufReferenceIdeal.Value.run (F := Ideal) m ρ)

end Cert.Proof.GlufValue

end
-- ==== Proof.NormValue.lean ====
/- The norm of the rows, block by block: what the kernel stores is the plain norm. -/
module

public import proofs.«01_k».proof.Proof.Gen.NormKernelIdeal.Value
public import proofs.«01_k».proof.Proof.Gen.NormReferenceIdeal.Run
public import proofs.«01_k».proof.Proof.Gen.NormReferenceIdeal.Read
public import proofs.«01_k».proof.Defs
public import proofs.«01_k».proof.Proof.Norm
public import Idealize.ShloMosaic.Lib.Claim
public import Idealize.ShloMosaic.Adequacy
public import Idealize.ShloMosaic.Lib.Pipeline.ValueKit
public import Idealize.ShloMosaic.Lib.Pointwise

@[expose] public section

set_option maxRecDepth 16384

noncomputable section

namespace Cert.Proof.NormValue

open Idealize.ShloMosaic Idealize.ShloMosaic.TcCoe Idealize.SL.Sem
open Cert.Proof.Norm (MEAN)
open Cert.NormKernelIdeal Cert.NormKernelIdeal.Gen

/-- The normed row at one column. -/
def CELL (h : Fin 1024 → EReal) (g : EReal) (k : Fin 1024) : EReal := h k * Ideal.rsqrt (MEAN h) * g

section
open Cert.NormReferenceIdeal.Read

theorem ref_apply (x : FVec Ideal S8192x1024 .f32) (g : FVec Ideal S1024 .f32) (r : Fin 8192) (k : Fin 1024) :
    val_main_v13 (F := Ideal) x g (ix2 r k) = CELL (fun l => x (ix2 r l)) (g (ix1 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold CELL MEAN
  simp
end

theorem pay_apply (x : Vec Ideal S256x1024 .f32) (g : Vec Ideal S1x1024 .f32) (r : Fin 256) (k : Fin 1024) :
    k0_pay1 (F := Ideal) x g (ix2 r k) = CELL (fun l => x (ix2 r l)) (g (ix2 0 k)) k := by
  pointwise [k0_pay1]
  rfl

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem point (c : Dev nD) (t : Fin cfg0.N) (y : S256x1024.Idx) :
    k0_pay1 (iblk m c 0 t) (iblk m c 1 t) y
      = Cert.NormReferenceIdeal.Read.val_main_v13 (F := Ideal) (m ((c : Thread nD τ).loc main_arg0)) (m ((c : Thread nD τ).loc main_arg1)) (((cfg0.win 2).blk t).view.emb y) := by
  have ht : t.val < 32 := t.isLt
  idx_vars y
  have e : ((cfg0.win 2).blk t).view.emb (ix2 y0 y1) = (ix2 ⟨t.val * 256 + y0.val, by omega⟩ y1 : S8192x1024.Idx) := by
    blk_ext [idx t]
  have ex : ∀ l : Fin 1024, iblk m c 0 t (ix2 y0 l) = m ((c : Thread nD τ).loc main_arg0) (ix2 ⟨t.val * 256 + y0.val, by omega⟩ l) := by
    intro l
    blk_point [iblk, V, idx t]
  have eg : iblk m c 1 t (ix2 0 y1) = m ((c : Thread nD τ).loc main_arg1) (ix1 y1) := by
    blk_point [iblk, V, idx t]
  rw [e, ref_apply, pay_apply, eg, funext ex]

theorem final (c : Dev nD) : (dats m 0 c).arrAt 2 (cfgs 0).N
    = Cert.NormReferenceIdeal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

theorem algebraic : Cert.algebraic_NormKernelIdeal_NormReferenceIdeal := by
  intro m g m' g' _ hag
  refine ⟨_, (θ_run _ _ _).mono (fun _ h => h) (Cert.NormKernelIdeal.Value.run_blocks m g),
    (θ_run _ _ _).mono (fun r h c => ?_) (Cert.NormReferenceIdeal.Value.run (F := Ideal) m' g')⟩
  refine ⟨(h c).1.trans ?_, (h c).2⟩
  refine (Cert.NormReferenceIdeal.Read.val_main_v13_eq _ _).trans ?_
  rw [(hag c).1, (hag c).2]
  exact (final m c).symm

theorem reference_frame : Cert.quiescent_NormReferenceIdeal := fun m ρ _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m ρ)

end Cert.Proof.NormValue

end
-- ==== Proof.DiscfValue.lean ====
/- The discretisation of the S5 layers, block by block: what the kernel stores is the plain discretisation. -/
module

public import proofs.«01_k».proof.Proof.Gen.DiscfKernelIdeal.Frame
public import proofs.«01_k».proof.Proof.Gen.DiscfReferenceIdeal.Run
public import proofs.«01_k».proof.Proof.Gen.DiscfReferenceIdeal.Read
public import proofs.«01_k».proof.Defs
public import proofs.«01_k».proof.Proof.DiscValue
public import Idealize.ShloMosaic.Lib.Claim
public import Idealize.ShloMosaic.Adequacy
public import Idealize.ShloMosaic.Lib.Pipeline.ValueKit
public import Idealize.ShloMosaic.Lib.Pointwise
public import Idealize.ShloMosaic.Lib.Pipeline.FrameBody

@[expose] public section

set_option maxRecDepth 16384

noncomputable section

namespace Cert.Proof.DiscfValue

open Idealize.ShloMosaic Idealize.ShloMosaic.TcCoe Idealize.SL.Sem
open Cert.DiscfKernelIdeal Cert.DiscfKernelIdeal.Gen
open Cert.Proof.DiscValue (BR BI X Y SQ KP narrow_at wide_at)

/-- The discretised input matrix, of the two parts of its factor. -/
def RE (p q br bi : EReal) : EReal := p * br - q * bi
def IM (p q br bi : EReal) : EReal := p * bi + q * br

/-- The factor by a division and by the inverse are one, unless the eigenvalue is zero. -/
theorem div_inv {n : EReal} (h : n ≠ 0) (a : EReal) : a * Ideal.div 1 n = Ideal.div a n := by
  simp [Ideal.div, h]

section
open Cert.DiscfReferenceIdeal.Read
variable (x0 x1 : FVec Ideal S64x64 .f32) (x2 : FVec Ideal S64 .f32) (x3 x4 : FVec Ideal S64x64x16 .f32)

theorem ref_br (g p : Fin 64) : val_main_v8 (F := Ideal) x0 x1 x2 (ix2 g p) = BR (x0 (ix2 g p)) (x1 (ix2 g p)) (x2 (ix1 g)) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

theorem ref_bi (g p : Fin 64) : val_main_v12 (F := Ideal) x0 x1 x2 (ix2 g p) = BI (x0 (ix2 g p)) (x1 (ix2 g p)) (x2 (ix1 g)) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

theorem ref_re (g p : Fin 64) (h : Fin 16) : val_main_v34 (F := Ideal) x0 x1 x2 x3 x4 (ix3 g p h)
    = RE (Ideal.div (X (x0 (ix2 g p)) (x1 (ix2 g p)) (x2 (ix1 g))) (SQ (x0 (ix2 g p)) (x1 (ix2 g p))))
        (Ideal.div (Y (x0 (ix2 g p)) (x1 (ix2 g p)) (x2 (ix1 g))) (SQ (x0 (ix2 g p)) (x1 (ix2 g p)))) (x3 (ix3 g p h)) (x4 (ix3 g p h)) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

theorem ref_im (g p : Fin 64) (h : Fin 16) : val_main_v39 (F := Ideal) x0 x1 x2 x3 x4 (ix3 g p h)
    = IM (Ideal.div (X (x0 (ix2 g p)) (x1 (ix2 g p)) (x2 (ix1 g))) (SQ (x0 (ix2 g p)) (x1 (ix2 g p))))
        (Ideal.div (Y (x0 (ix2 g p)) (x1 (ix2 g p)) (x2 (ix1 g))) (SQ (x0 (ix2 g p)) (x1 (ix2 g p)))) (x3 (ix3 g p h)) (x4 (ix3 g p h)) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl
end

section
variable (x0 x1 x2 : Vec Ideal S512x1 .f32) (x3 x4 : Vec Ideal S512x16 .f32)

theorem ker_br (r : Fin 512) : out0_5 (F := Ideal) x0 x1 x2 x3 x4 (ix2 r 0) = BR (x0 (ix2 r 0)) (x1 (ix2 r 0)) (x2 (ix2 r 0)) := by
  unfold out0_5
  frame_out
  pointwise [k0_pay1, k0_pay2, k0_pay3, k0_pay4, k0_pay5, k0_pay6, k0_pay7, k0_pay8, k0_pay9, k0_pay10, k0_pay11, k0_pay12, k0_pay13]
  rfl

theorem ker_bi (r : Fin 512) : out0_6 (F := Ideal) x0 x1 x2 x3 x4 (ix2 r 0) = BI (x0 (ix2 r 0)) (x1 (ix2 r 0)) (x2 (ix2 r 0)) := by
  unfold out0_6
  frame_out
  pointwise [k0_pay1, k0_pay2, k0_pay3, k0_pay4, k0_pay5, k0_pay6, k0_pay7, k0_pay8, k0_pay9, k0_pay10, k0_pay11, k0_pay12, k0_pay13]
  rfl

theorem ker_re (r : Fin 512) (h : Fin 16) : out0_7 (F := Ideal) x0 x1 x2 x3 x4 (ix2 r h)
    = RE (KP (x0 (ix2 r 0)) (x1 (ix2 r 0)) (X (x0 (ix2 r 0)) (x1 (ix2 r 0)) (x2 (ix2 r 0))))
        (KP (x0 (ix2 r 0)) (x1 (ix2 r 0)) (Y (x0 (ix2 r 0)) (x1 (ix2 r 0)) (x2 (ix2 r 0)))) (x3 (ix2 r h)) (x4 (ix2 r h)) := by
  unfold out0_7
  frame_out
  pointwise [k0_pay1, k0_pay2, k0_pay3, k0_pay4, k0_pay5, k0_pay6, k0_pay7, k0_pay8, k0_pay9, k0_pay10, k0_pay11, k0_pay12, k0_pay13]
  rfl

theorem ker_im (r : Fin 512) (h : Fin 16) : out0_8 (F := Ideal) x0 x1 x2 x3 x4 (ix2 r h)
    = IM (KP (x0 (ix2 r 0)) (x1 (ix2 r 0)) (X (x0 (ix2 r 0)) (x1 (ix2 r 0)) (x2 (ix2 r 0))))
        (KP (x0 (ix2 r 0)) (x1 (ix2 r 0)) (Y (x0 (ix2 r 0)) (x1 (ix2 r 0)) (x2 (ix2 r 0)))) (x3 (ix2 r h)) (x4 (ix2 r h)) := by
  unfold out0_8
  frame_out
  pointwise [k0_pay1, k0_pay2, k0_pay3, k0_pay4, k0_pay5, k0_pay6, k0_pay7, k0_pay8, k0_pay9, k0_pay10, k0_pay11, k0_pay12, k0_pay13]
  rfl
end

variable (m : (ℓ : Loc nD τ sig) → Buf (Elt Ideal) ℓ) (c : Dev nD)

theorem idx : ∀ t : Fin cfg0.N, win0_0.index t = ![t.val, 0]
      ∧ win0_1.index t = ![t.val, 0]
      ∧ win0_2.index t = ![t.val, 0]
      ∧ win0_3.index t = ![t.val, 0]
      ∧ win0_4.index t = ![t.val, 0]
      ∧ win0_5.index t = ![t.val, 0]
      ∧ win0_6.index t = ![t.val, 0]
      ∧ win0_7.index t = ![t.val, 0]
      ∧ win0_8.index t = ![t.val, 0] :=
  (by decide +kernel : ∀ t : Fin grid0.N, win0_0.index t = ![t.val, 0]
      ∧ win0_1.index t = ![t.val, 0]
      ∧ win0_2.index t = ![t.val, 0]
      ∧ win0_3.index t = ![t.val, 0]
      ∧ win0_4.index t = ![t.val, 0]
      ∧ win0_5.index t = ![t.val, 0]
      ∧ win0_6.index t = ![t.val, 0]
      ∧ win0_7.index t = ![t.val, 0]
      ∧ win0_8.index t = ![t.val, 0])

section
variable (t : Fin cfg0.N) (r : Fin 512)

/-- The row of the whole array that row `r` of block `t` is, and its group and eigenvalue. -/
def ROW : Fin 4096 := ⟨t.val * 512 + r.val, by have ht : t.val < 8 := t.isLt; omega⟩
def GRP : Fin 64 := ⟨(ROW t r).val / 64, by omega⟩
def EIG : Fin 64 := ⟨(ROW t r).val % 64, by omega⟩

theorem b0 : iblk m c 0 t (ix2 r 0) = m ((c : Thread nD τ).loc main_arg0) (ix2 (GRP t r) (EIG t r)) := by
  have e : ((cfg0.win 0).blk t).view.emb (ix2 r 0) = (ix2 (ROW t r) 0 : S4096x1.Idx) := by
    blk_ext [idx t, ROW]
  exact (congrArg (V m c main_v2) e).trans (narrow_at _ (ROW t r))

theorem b1 : iblk m c 1 t (ix2 r 0) = m ((c : Thread nD τ).loc main_arg1) (ix2 (GRP t r) (EIG t r)) := by
  have e : ((cfg0.win 1).blk t).view.emb (ix2 r 0) = (ix2 (ROW t r) 0 : S4096x1.Idx) := by
    blk_ext [idx t, ROW]
  exact (congrArg (V m c main_v3) e).trans (narrow_at _ (ROW t r))

theorem b2 : iblk m c 2 t (ix2 r 0) = m ((c : Thread nD τ).loc main_arg2) (ix1 (GRP t r)) := by
  have e : ((cfg0.win 2).blk t).view.emb (ix2 r 0) = (ix2 (ROW t r) 0 : S4096x1.Idx) := by
    blk_ext [idx t, ROW]
  refine (congrArg (V m c main_v4) e).trans ?_
  refine (show _ = shapeCast S4096x1 (broadcastInDim S64x64 ![0, 1] bcast_S64x1_S64x64_0_1 (broadcastInDim S64x1 ![0] bcast_S64_S64x1_0 (m ((c : Thread nD τ).loc main_arg2)))) shapeCasts_S64x64_S4096x1 (ix2 (ROW t r) 0) from rfl).trans ?_
  rw [narrow_at]
  pointwise
  rfl

theorem b3 (h : Fin 16) : iblk m c 3 t (ix2 r h) = m ((c : Thread nD τ).loc main_arg3) (ix3 (GRP t r) (EIG t r) h) := by
  have e : ((cfg0.win 3).blk t).view.emb (ix2 r h) = (ix2 (ROW t r) h : S4096x16.Idx) := by
    blk_ext [idx t, ROW]
  exact (congrArg (V m c main_v5) e).trans (wide_at _ (ROW t r) h)

theorem b4 (h : Fin 16) : iblk m c 4 t (ix2 r h) = m ((c : Thread nD τ).loc main_arg4) (ix3 (GRP t r) (EIG t r) h) := by
  have e : ((cfg0.win 4).blk t).view.emb (ix2 r h) = (ix2 (ROW t r) h : S4096x16.Idx) := by
    blk_ext [idx t, ROW]
  exact (congrArg (V m c main_v6) e).trans (wide_at _ (ROW t r) h)
end

theorem final5 : (dats m 0 c).arrAt 5 (cfgs 0).N = Cert.DiscfReferenceIdeal.Read.val_main_v40 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  refine (show _ = (cfg0.win 5).cut (grid0.coords t) ((dats m 0 c).after 5 t) y from rfl).trans ?_
  rw [after0_5]
  blk_simp
  change S512x1.Idx at y
  idx_vars y
  have h0 : y1 = 0 := Subsingleton.elim _ _
  subst h0
  have e : ((cfg0.win 5).blk t).view.emb (ix2 y0 0) = (ix2 (ROW t y0) 0 : S4096x1.Idx) := by
    blk_ext [idx t, ROW]
  rw [e]
  refine (ker_br _ _ _ _ _ y0).trans (Eq.trans ?_ (narrow_at _ (ROW t y0)).symm)
  refine Eq.trans ?_ (ref_br _ _ _ (GRP t y0) (EIG t y0)).symm
  rw [b0, b1, b2]

theorem final6 : (dats m 0 c).arrAt 6 (cfgs 0).N = Cert.DiscfReferenceIdeal.Read.val_main_v41 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  refine (show _ = (cfg0.win 6).cut (grid0.coords t) ((dats m 0 c).after 6 t) y from rfl).trans ?_
  rw [after0_6]
  blk_simp
  change S512x1.Idx at y
  idx_vars y
  have h0 : y1 = 0 := Subsingleton.elim _ _
  subst h0
  have e : ((cfg0.win 6).blk t).view.emb (ix2 y0 0) = (ix2 (ROW t y0) 0 : S4096x1.Idx) := by
    blk_ext [idx t, ROW]
  rw [e]
  refine (ker_bi _ _ _ _ _ y0).trans (Eq.trans ?_ (narrow_at _ (ROW t y0)).symm)
  refine Eq.trans ?_ (ref_bi _ _ _ (GRP t y0) (EIG t y0)).symm
  rw [b0, b1, b2]

/-- No eigenvalue is zero. -/
def Regular (a0 a1 : FVec Ideal S64x64 .f32) : Prop := ∀ g p, SQ (a0 (ix2 g p)) (a1 (ix2 g p)) ≠ 0

variable (R : Regular (m ((c : Thread nD τ).loc main_arg0)) (m ((c : Thread nD τ).loc main_arg1)))
include R

theorem final7 : (dats m 0 c).arrAt 7 (cfgs 0).N = Cert.DiscfReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  refine (show _ = (cfg0.win 7).cut (grid0.coords t) ((dats m 0 c).after 7 t) y from rfl).trans ?_
  rw [after0_7]
  blk_simp
  change S512x16.Idx at y
  idx_vars y
  have e : ((cfg0.win 7).blk t).view.emb (ix2 y0 y1) = (ix2 (ROW t y0) y1 : S4096x16.Idx) := by
    blk_ext [idx t, ROW]
  rw [e]
  refine (ker_re _ _ _ _ _ y0 y1).trans (Eq.trans ?_ (wide_at _ (ROW t y0) y1).symm)
  refine Eq.trans ?_ (ref_re _ _ _ _ _ (GRP t y0) (EIG t y0) y1).symm
  rw [b0, b1, b2, b3, b4, KP, KP, div_inv (R _ _), div_inv (R _ _)]

theorem final8 : (dats m 0 c).arrAt 8 (cfgs 0).N = Cert.DiscfReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  refine (show _ = (cfg0.win 8).cut (grid0.coords t) ((dats m 0 c).after 8 t) y from rfl).trans ?_
  rw [after0_8]
  blk_simp
  change S512x16.Idx at y
  idx_vars y
  have e : ((cfg0.win 8).blk t).view.emb (ix2 y0 y1) = (ix2 (ROW t y0) y1 : S4096x16.Idx) := by
    blk_ext [idx t, ROW]
  rw [e]
  refine (ker_im _ _ _ _ _ y0 y1).trans (Eq.trans ?_ (wide_at _ (ROW t y0) y1).symm)
  refine Eq.trans ?_ (ref_im _ _ _ _ _ (GRP t y0) (EIG t y0) y1).symm
  rw [b0, b1, b2, b3, b4, KP, KP, div_inv (R _ _), div_inv (R _ _)]

omit R in
theorem pre_facts : Cert.Pre_disc_forward_regular.Facts where
  bcast_S_S64x64 := by decide

omit R in
theorem regular [Cert.Pre_disc_forward_regular.Facts] {a0 a1 : FVec Ideal S64x64 .f32} {a2 : FVec Ideal S64 .f32} {a3 a4 : FVec Ideal S64x64x16 .f32}
    (h : Cert.Pre_disc_forward_regular.fn (F := Ideal) a0 a1 a2 a3 a4 = fun _ => 1#1) : Regular a0 a1 := fun g p h0 => by
  have hr := Sb.real_of_lt (Ideal.div 1 (SQ (a0 (ix2 g p)) (a1 (ix2 g p)))) (Eq.trans (Eq.symm (by pointwise [Cert.Pre_disc_forward_regular.fn]; rfl)) (congrFun h (ix2 g p)))
  rw [h0] at hr
  simp [Ideal.div] at hr

omit R in
theorem algebraic : Cert.algebraic_DiscfKernelIdeal_DiscfReferenceIdeal_pre_disc_forward_regular (hDiscfKernelIdeal := Cert.DiscfKernelIdeal.Gen.facts)
    (hDiscfReferenceIdeal := Cert.DiscfReferenceIdeal.Gen.facts) (hPre_disc_forward_regular := pre_facts) := by
  intro m g m' g' hp hag
  have hR : ∀ c : Dev nD, Regular (m ((c : Thread nD τ).loc main_arg0)) (m ((c : Thread nD τ).loc main_arg1)) := fun c => @regular pre_facts _ _ _ _ _ (hp c)
  refine ⟨_, _, _, _, (θ_run _ _ _).mono (fun _ h c => ⟨((h.1 c).1 5).trans (final5 m c), ((h.1 c).1 6).trans (final6 m c),
      ((h.1 c).1 7).trans (final7 m c (hR c)), ((h.1 c).1 8).trans (final8 m c (hR c)), h.2 c⟩) (θ_run_and (run_main m g) (unchanged m g)),
    (θ_run _ _ _).mono (fun r h c => ?_) (Cert.DiscfReferenceIdeal.Value.run (F := Ideal) m' g')⟩
  obtain ⟨h0, h1, h2, h3, h4⟩ := hag c
  refine ⟨(h c).1.trans ?_, (h c).2.1.trans ?_, (h c).2.2.1.trans ?_, (h c).2.2.2.1.trans ?_, (h c).2.2.2.2⟩
  · refine (Cert.DiscfReferenceIdeal.Read.val_main_v40_eq _ _ _).trans ?_
    rw [h0, h1, h2]
  · refine (Cert.DiscfReferenceIdeal.Read.val_main_v41_eq _ _ _).trans ?_
    rw [h0, h1, h2]
  · refine (Cert.DiscfReferenceIdeal.Read.val_main_v42_eq _ _ _ _ _).trans ?_
    rw [h0, h1, h2, h3, h4]
  · refine (Cert.DiscfReferenceIdeal.Read.val_main_v43_eq _ _ _ _ _).trans ?_
    rw [h0, h1, h2, h3, h4]

omit R in
theorem reference_frame : Cert.quiescent_DiscfReferenceIdeal := fun m ρ _ =>
  (θ_run Cert.DiscfReferenceIdeal.defs _ _).mono (fun r h => ⟨fun c => (h c).2.2.2.2, Idealize.ShloMosaic.sem_eq_zero_of_no_sems (by decide) r.2⟩)
    (Cert.DiscfReferenceIdeal.Value.run (F := Ideal) m ρ)

end Cert.Proof.DiscfValue

end
-- ==== Proof.OutValue.lean ====
/- The feed-forward output product added to half the way, block by block: what the kernel stores is the plain sum. -/
module

public import proofs.«01_k».proof.Proof.Gen.OutKernelIdeal.Value
public import proofs.«01_k».proof.Proof.Gen.OutReferenceIdeal.Run
public import proofs.«01_k».proof.Proof.Gen.OutReferenceIdeal.Read
public import proofs.«01_k».proof.Defs
public import Idealize.ShloMosaic.Lib.Claim
public import Idealize.ShloMosaic.Adequacy
public import Idealize.ShloMosaic.Lib.Pipeline.ValueKit
public import Idealize.ShloMosaic.Lib.Pointwise

@[expose] public section

set_option maxRecDepth 16384

noncomputable section

namespace Cert.Proof.OutValue

open Idealize.ShloMosaic Idealize.ShloMosaic.TcCoe Idealize.SL.Sem
open Cert.OutKernelIdeal Cert.OutKernelIdeal.Gen

section
open Cert.OutReferenceIdeal.Read

theorem ref_apply (x : FVec Ideal S8192x2816 .f32) (w : FVec Ideal S2816x1024 .f32) (h : FVec Ideal S8192x1024 .f32) (r : Fin 8192) (k : Fin 1024) :
    val_main_v3 (F := Ideal) x w h (ix2 r k) = h (ix2 r k) + Ideal.ofBits .f32 0x3F000000#32 * ∑ l : Fin 2816, x (ix2 r l) * w (ix2 l k) := by
  have e1 : ∀ q, lidx_main_v0 (ix2 r k) q = ix2 r q := fun q => by funext a; fin_cases a <;> rfl
  have e2 : ∀ q, ridx_main_v0 (ix2 r k) q = ix2 q k := fun q => by funext a; fin_cases a <;> rfl
  have hd : val_main_v0 (F := Ideal) x w (ix2 r k) = ∑ l : Fin 2816, x (ix2 r l) * w (ix2 l k) := by
    rw [val_main_v0_apply]
    simp only [e1, e2]
  rw [← hd]
  unfold val_main_v3 val_main_v2
  generalize val_main_v0 (F := Ideal) x w = y
  pointwise [val_main_v1, val_main_cst]
end

theorem pay_apply (x : Vec Ideal S512x2816 .bf16) (w : Vec Ideal S2816x1024 .bf16) (h : Vec Ideal S512x1024 .f32) (r : Fin 512) (k : Fin 1024) :
    k0_pay4 (F := Ideal) (k0_pay2 x w) h (ix2 r k) = h (ix2 r k) + Ideal.ofBits .f32 0x3F000000#32 * ∑ l : Fin 2816, x (ix2 r l) * w (ix2 l k) := by
  have hd : k0_pay2 (F := Ideal) x w (ix2 r k) = ∑ l : Fin 2816, x (ix2 r l) * w (ix2 l k) := by
    pointwise [k0_pay2, k0_pay1]
  rw [← hd]
  generalize k0_pay2 (F := Ideal) x w = y
  pointwise [k0_pay4]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

theorem point (c : Dev nD) (t : Fin cfg0.N) (y : S512x1024.Idx) :
    k0_pay4 (F := Ideal) (k0_pay2 (iblk m c 0 t) (iblk m c 1 t)) (iblk m c 2 t) y
      = Cert.OutReferenceIdeal.Read.val_main_v3 (F := Ideal) (m ((c : Thread nD τ).loc main_arg0)) (m ((c : Thread nD τ).loc main_arg1)) (m ((c : Thread nD τ).loc main_arg2)) (((cfg0.win 3).blk t).view.emb y) := by
  have ht : t.val < 16 := t.isLt
  idx_vars y
  have e : ((cfg0.win 3).blk t).view.emb (ix2 y0 y1) = (ix2 ⟨t.val * 512 + y0.val, by omega⟩ y1 : S8192x1024.Idx) := by
    blk_ext [idx t]
  have ex : ∀ l : Fin 2816, iblk m c 0 t (ix2 y0 l) = m ((c : Thread nD τ).loc main_arg0) (ix2 ⟨t.val * 512 + y0.val, by omega⟩ l) := by
    intro l
    blk_point [iblk, V, idx t]
  have ew : ∀ l : Fin 2816, iblk m c 1 t (ix2 l y1) = m ((c : Thread nD τ).loc main_arg1) (ix2 l y1) := by
    intro l
    blk_point [iblk, V, idx t]
  have eh : iblk m c 2 t (ix2 y0 y1) = m ((c : Thread nD τ).loc main_arg2) (ix2 ⟨t.val * 512 + y0.val, by omega⟩ y1) := by
    blk_point [iblk, V, idx t]
  rw [e, ref_apply, pay_apply, eh]
  simp only [ex, ew]

theorem final (c : Dev nD) : (dats m 0 c).arrAt 3 (cfgs 0).N = Cert.OutReferenceIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  refine (congrFun (Value.flushed3_A m c t) y).trans ?_
  blk_simp
  frame_out
  exact point m c t y

theorem algebraic : Cert.algebraic_OutKernelIdeal_OutReferenceIdeal := by
  intro m g m' g' _ hag
  refine ⟨_, (θ_run _ _ _).mono (fun _ h => h) (Cert.OutKernelIdeal.Value.run_blocks m g),
    (θ_run _ _ _).mono (fun r h c => ?_) (Cert.OutReferenceIdeal.Value.run (F := Ideal) m' g')⟩
  obtain ⟨h0, h1, h2⟩ := hag c
  refine ⟨(h c).1.trans ?_, (h c).2⟩
  refine (Cert.OutReferenceIdeal.Read.val_main_v3_eq _ _ _).trans ?_
  rw [h0, h1, h2]
  exact (final m c).symm

theorem reference_frame : Cert.quiescent_OutReferenceIdeal := fun m ρ _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m ρ)

end Cert.Proof.OutValue

end
-- ==== Proof.SumcValue.lean ====
/- The sum over the chips, block by block: what the kernel stores is the plain sum. -/
module

public import proofs.«01_k».proof.Proof.Gen.SumcKernelIdeal.Value
public import proofs.«01_k».proof.Proof.Gen.SumcReferenceIdeal.Run
public import proofs.«01_k».proof.Proof.Gen.SumcReferenceIdeal.Read
public import proofs.«01_k».proof.Defs
public import Idealize.ShloMosaic.Lib.Claim
public import Idealize.ShloMosaic.Adequacy
public import Idealize.ShloMosaic.Lib.Pipeline.ValueKit
public import Idealize.ShloMosaic.Lib.Pointwise

@[expose] public section

set_option maxRecDepth 16384

noncomputable section

namespace Cert.Proof.SumcValue

open Idealize.ShloMosaic Idealize.ShloMosaic.TcCoe Idealize.SL.Sem
open Cert.SumcKernelIdeal Cert.SumcKernelIdeal.Gen

section
open Cert.SumcReferenceIdeal.Read

theorem ref_apply (x : FVec Ideal S1x1024x768 .f32) (y : FVec Ideal S3x1x1024x768 .bf16) (r : Fin 1024) (k : Fin 768) :
    val_main_v3 (F := Ideal) x y (ix2 r k) = x (ix3 0 r k) + (y (ix4 0 0 r k) + y (ix4 1 0 r k) + y (ix4 2 0 r k)) := by
  pointwise [val_main_v3, val_main_v2, val_main_v1, val_main_v0, val_main_cst]
  simp [Fin.sum_univ_three]
end

theorem pay_apply (x : Vec Ideal S256x768 .f32) (y : Vec Ideal S3x256x768 .bf16) (r : Fin 256) (k : Fin 768) :
    k0_pay1 (F := Ideal) x y (ix2 r k) = x (ix2 r k) + (y (ix3 0 r k) + y (ix3 1 r k) + y (ix3 2 r k)) := by
  pointwise [k0_pay1]
  simp only [add_assoc]

variable (m : (ℓ : Loc nD τ sig) → Buf (Elt Ideal) ℓ)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem point (c : Dev nD) (t : Fin cfg0.N) (y : S256x768.Idx) :
    k0_pay1 (F := Ideal) (iblk m c 0 t) (iblk m c 1 t) y = Cert.SumcReferenceIdeal.Read.val_main_v3 (F := Ideal) (m ((c : Thread nD τ).loc main_arg0)) (m ((c : Thread nD τ).loc main_arg1)) (((cfg0.win 2).blk t).view.emb y) := by
  have ht : t.val < 4 := t.isLt
  idx_vars y
  have e : ((cfg0.win 2).blk t).view.emb (ix2 y0 y1) = (ix2 ⟨t.val * 256 + y0.val, by omega⟩ y1 : S1024x768.Idx) := by
    blk_ext [idx t]
  have ex : iblk m c 0 t (ix2 y0 y1) = m ((c : Thread nD τ).loc main_arg0) (ix3 0 ⟨t.val * 256 + y0.val, by omega⟩ y1) := by
    blk_point [iblk, V, idx t]
  have ey : ∀ s : Fin 3, iblk m c 1 t (ix3 s y0 y1) = m ((c : Thread nD τ).loc main_arg1) (ix4 s 0 ⟨t.val * 256 + y0.val, by omega⟩ y1) := by
    intro s
    blk_point [iblk, V, idx t]
  rw [e, ref_apply, pay_apply, ex, ey, ey, ey]

theorem final (c : Dev nD) : (dats m 0 c).arrAt 2 (cfgs 0).N = Cert.SumcReferenceIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

theorem algebraic : Cert.algebraic_SumcKernelIdeal_SumcReferenceIdeal := by
  intro m g m' g' _ hag
  refine ⟨_, (θ_run _ _ _).mono (fun _ h => h) (Cert.SumcKernelIdeal.Value.run_blocks m g),
    (θ_run _ _ _).mono (fun r h c => ?_) (Cert.SumcReferenceIdeal.Value.run (F := Ideal) m' g')⟩
  refine ⟨(h c).1.trans ?_, (h c).2⟩
  refine (Cert.SumcReferenceIdeal.Read.val_main_v3_eq _ _).trans ?_
  rw [(hag c).1, (hag c).2]
  exact (final m c).symm

theorem reference_frame : Cert.quiescent_SumcReferenceIdeal := fun m ρ _ =>
  (θ_run Cert.SumcReferenceIdeal.defs _ _).mono (fun r h => ⟨fun c => (h c).2, Idealize.ShloMosaic.sem_eq_zero_of_no_sems (by decide) r.2⟩)
    (Cert.SumcReferenceIdeal.Value.run (F := Ideal) m ρ)

end Cert.Proof.SumcValue

end
-- ==== Proof.AdamValue.lean ====
/- One step of the optimiser, block by block: what the kernel stores is the plain step. -/
module

public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Defs
public import Idealize.ShloMosaic.Lib.Claim
public import Idealize.ShloMosaic.Adequacy
public import Idealize.ShloMosaic.Lib.Pipeline.ValueKit
public import Idealize.ShloMosaic.Lib.Pointwise

@[expose] public section

set_option maxRecDepth 16384

noncomputable section

namespace Cert.Proof.AdamValue

open Idealize.ShloMosaic Idealize.ShloMosaic.TcCoe Idealize.SL.Sem
open Cert.AdamKernelIdeal Cert.AdamKernelIdeal.Gen

/-- The running mean of the gradient. -/
def MOM (g m : EReal) : EReal := Ideal.ofBits .f32 0x3F666666#32 * m + Ideal.ofBits .f32 0x3DCCCCCD#32 * g

/-- The running mean of the gradient's square. -/
def SQR (g v : EReal) : EReal := Ideal.ofBits .f32 0x3F7FBE77#32 * v + Ideal.ofBits .f32 0x3A83126F#32 * (g * g)

/-- What the step adds to the weight. -/
def STEP (w g m v : EReal) : EReal :=
  Ideal.ofBits .f32 0xBA83126F#32 * (Ideal.div (Ideal.div (MOM g m) (Ideal.ofBits .f32 0x3F26BD02#32))
    (Ideal.sqrt (Ideal.div (SQR g v) (Ideal.ofBits .f32 0x3C231ACC#32)) + Ideal.ofBits .f32 0x322BCC77#32) + Ideal.ofBits .f32 0x3C23D70A#32 * w)

section
open Cert.AdamReferenceIdeal.Read
variable (x0 : FVec Ideal S1x1024x768 .f32) (x1 : FVec Ideal S1024x768 .f32) (x2 : FVec Ideal S1024x768 .f32) (x3 : FVec Ideal S1x1024x768 .f32) (x4 : FVec Ideal S1x1024x768 .f32) (r : Fin 1024) (k : Fin 768)

theorem ref_sum : val_main_v26 (F := Ideal) x1 x2 (ix2 r k) = x1 (ix2 r k) + x2 (ix2 r k) := by
  pointwise [val_main_v26, val_main_v1, val_main_v0]

theorem ref_step : val_main_v27 (F := Ideal) x0 x1 x2 x3 x4 (ix2 r k) = STEP (x0 (ix3 0 r k)) (x1 (ix2 r k) + x2 (ix2 r k)) (x3 (ix3 0 r k)) (x4 (ix3 0 r k)) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem ref_mom : val_main_v28 (F := Ideal) x1 x2 x3 (ix2 r k) = MOM (x1 (ix2 r k) + x2 (ix2 r k)) (x3 (ix3 0 r k)) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem ref_sqr : val_main_v29 (F := Ideal) x1 x2 x4 (ix2 r k) = SQR (x1 (ix2 r k) + x2 (ix2 r k)) (x4 (ix3 0 r k)) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl
end

section
variable (x0 : Vec Ideal S256x768 .f32) (x1 : Vec Ideal S256x768 .f32) (x2 : Vec Ideal S256x768 .f32) (x3 : Vec Ideal S256x768 .f32) (x4 : Vec Ideal S256x768 .f32) (r : Fin 256) (k : Fin 768)

theorem ker_sum : k0_pay1 (F := Ideal) x1 x2 (ix2 r k) = x1 (ix2 r k) + x2 (ix2 r k) := by
  pointwise [k0_pay1, k0_pay2, k0_pay3, k0_pay4, k0_pay5]

theorem ker_step : k0_pay5 (F := Ideal) x0 x1 x2 x3 x4 (ix2 r k) = STEP (x0 (ix2 r k)) (x1 (ix2 r k) + x2 (ix2 r k)) (x3 (ix2 r k)) (x4 (ix2 r k)) := by
  pointwise [k0_pay1, k0_pay2, k0_pay3, k0_pay4, k0_pay5]
  rfl

theorem ker_mom : k0_pay3 (F := Ideal) x1 x2 x3 (ix2 r k) = MOM (x1 (ix2 r k) + x2 (ix2 r k)) (x3 (ix2 r k)) := by
  pointwise [k0_pay1, k0_pay2, k0_pay3, k0_pay4, k0_pay5]
  rfl

theorem ker_sqr : k0_pay4 (F := Ideal) x1 x2 x4 (ix2 r k) = SQR (x1 (ix2 r k) + x2 (ix2 r k)) (x4 (ix2 r k)) := by
  pointwise [k0_pay1, k0_pay2, k0_pay3, k0_pay4, k0_pay5]
  rfl
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

section
variable (t : Fin cfg0.N) (r : Fin 256) (k : Fin 768)

omit k in
theorem hr : t.val * 256 + r.val < 1024 := by
  have ht : t.val < 4 := t.isLt
  omega

theorem in0 : iblk m c 0 t (ix2 r k) = m ((c : Thread nD τ).loc main_arg0) (ix3 0 ⟨t.val * 256 + r.val, hr t r⟩ k) := by
  blk_point [iblk, V, idx t]

theorem in1 : iblk m c 1 t (ix2 r k) = m ((c : Thread nD τ).loc main_arg1) (ix2 ⟨t.val * 256 + r.val, hr t r⟩ k) := by
  blk_point [iblk, V, idx t]

theorem in2 : iblk m c 2 t (ix2 r k) = m ((c : Thread nD τ).loc main_arg2) (ix2 ⟨t.val * 256 + r.val, hr t r⟩ k) := by
  blk_point [iblk, V, idx t]

theorem in3 : iblk m c 3 t (ix2 r k) = m ((c : Thread nD τ).loc main_arg3) (ix3 0 ⟨t.val * 256 + r.val, hr t r⟩ k) := by
  blk_point [iblk, V, idx t]

theorem in4 : iblk m c 4 t (ix2 r k) = m ((c : Thread nD τ).loc main_arg4) (ix3 0 ⟨t.val * 256 + r.val, hr t r⟩ k) := by
  blk_point [iblk, V, idx t]
end

theorem final5 : (dats m 0 c).arrAt 5 (cfgs 0).N = Cert.AdamReferenceIdeal.Read.val_main_v26 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  idx_vars y
  have e : ((cfg0.win 5).blk t).view.emb (ix2 y0 y1) = (ix2 ⟨t.val * 256 + y0.val, hr t y0⟩ y1 : S1024x768.Idx) := by
    blk_ext [idx t]
  rw [e]
  rw [ref_sum, ker_sum, in1, in2]

theorem final6 : (dats m 0 c).arrAt 6 (cfgs 0).N = Cert.AdamReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold out0_6
  frame_out
  idx_vars y
  have e : ((cfg0.win 6).blk t).view.emb (ix2 y0 y1) = (ix2 ⟨t.val * 256 + y0.val, hr t y0⟩ y1 : S1024x768.Idx) := by
    blk_ext [idx t]
  rw [e]
  rw [ref_step, ker_step, in0, in1, in2, in3, in4]

theorem final7 : (dats m 0 c).arrAt 7 (cfgs 0).N = Cert.AdamReferenceIdeal.Read.val_main_v28 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  frame_out
  idx_vars y
  have e : ((cfg0.win 7).blk t).view.emb (ix2 y0 y1) = (ix2 ⟨t.val * 256 + y0.val, hr t y0⟩ y1 : S1024x768.Idx) := by
    blk_ext [idx t]
  rw [e]
  rw [ref_mom, ker_mom, in1, in2, in3]

theorem final8 : (dats m 0 c).arrAt 8 (cfgs 0).N = Cert.AdamReferenceIdeal.Read.val_main_v29 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  unfold out0_8
  frame_out
  idx_vars y
  have e : ((cfg0.win 8).blk t).view.emb (ix2 y0 y1) = (ix2 ⟨t.val * 256 + y0.val, hr t y0⟩ y1 : S1024x768.Idx) := by
    blk_ext [idx t]
  rw [e]
  rw [ref_sqr, ker_sqr, in1, in2, in4]

omit m c in
theorem algebraic : Cert.algebraic_AdamKernelIdeal_AdamReferenceIdeal := by
  intro m g m' g' _ hag
  refine ⟨_, _, _, _, (θ_run _ _ _).mono (fun _ h => h) (Cert.AdamKernelIdeal.Value.run_blocks m g),
    (θ_run _ _ _).mono (fun r h c => ?_) (Cert.AdamReferenceIdeal.Value.run (F := Ideal) m' g')⟩
  obtain ⟨h0, h1, h2, h3, h4⟩ := hag c
  refine ⟨(h c).1.trans ?_, (h c).2.1.trans ?_, (h c).2.2.1.trans ?_, (h c).2.2.2.1.trans ?_, (h c).2.2.2.2⟩
  · refine (Cert.AdamReferenceIdeal.Read.val_main_v26_eq _ _).trans ?_
    rw [h1, h2]
    exact (final5 m c).symm
  · refine (Cert.AdamReferenceIdeal.Read.val_main_v27_eq _ _ _ _ _).trans ?_
    rw [h0, h1, h2, h3, h4]
    exact (final6 m c).symm
  · refine (Cert.AdamReferenceIdeal.Read.val_main_v28_eq _ _ _).trans ?_
    rw [h1, h2, h3]
    exact (final7 m c).symm
  · refine (Cert.AdamReferenceIdeal.Read.val_main_v29_eq _ _ _).trans ?_
    rw [h1, h2, h4]
    exact (final8 m c).symm

omit m c in
theorem reference_frame : Cert.quiescent_AdamReferenceIdeal := fun m ρ _ =>
  (θ_run Cert.AdamReferenceIdeal.defs _ _).mono (fun r h => ⟨fun c => (h c).2.2.2.2, Idealize.ShloMosaic.sem_eq_zero_of_no_sems (by decide) r.2⟩)
    (Cert.AdamReferenceIdeal.Value.run (F := Ideal) m ρ)

end Cert.Proof.AdamValue

end
-- ==== Proof.RepValue.lean ====
/- One step of the optimiser on the arrays every device holds: what the kernel stores is the plain step on the summed gradient. -/
module

public import proofs.«01_k».proof.Proof.Gen.RepKernelIdeal.Value
public import proofs.«01_k».proof.Proof.Gen.RepReferenceIdeal.Run
public import proofs.«01_k».proof.Proof.Gen.RepReferenceIdeal.Read
public import proofs.«01_k».proof.Defs
public import proofs.«01_k».proof.Proof.AdamValue
public import Idealize.ShloMosaic.Lib.Claim
public import Idealize.ShloMosaic.Adequacy
public import Idealize.ShloMosaic.Lib.Pipeline.ValueKit
public import Idealize.ShloMosaic.Lib.Pointwise

@[expose] public section

set_option maxRecDepth 16384

noncomputable section

namespace Cert.Proof.RepValue

open Idealize.ShloMosaic Idealize.ShloMosaic.TcCoe Idealize.SL.Sem
open Cert.RepKernelIdeal Cert.RepKernelIdeal.Gen
open Cert.Proof.AdamValue (MOM SQR STEP)

/-- A sum over the eight devices. -/
def SUM8 (g : Fin 8 → EReal) : EReal := ∑ s, g s

theorem sum8 (g : Fin 8 → EReal) : g 0 + g 1 + g 2 + g 3 + g 4 + g 5 + g 6 + g 7 = SUM8 g := (Fin.sum_univ_eight g).symm

section
open Cert.RepReferenceIdeal.Read
variable (x0 : FVec Ideal S4352x128 .f32) (x1 : FVec Ideal S8x4352x128 .f32) (x2 : FVec Ideal S4352x128 .f32) (x3 : FVec Ideal S4352x128 .f32) (r : Fin 4352) (k : Fin 128)

theorem ref_sum : val_main_v0 (F := Ideal) x1 (ix2 r k) = SUM8 fun s => x1 (ix3 s r k) := by
  pointwise [val_main_v0, val_main_cst]
  simp [SUM8]

theorem ref_step : val_main_v24 (F := Ideal) x0 x1 x2 x3 (ix2 r k) = STEP (x0 (ix2 r k)) (SUM8 fun s => x1 (ix3 s r k)) (x2 (ix2 r k)) (x3 (ix2 r k)) := by
  rw [← ref_sum]
  unfold val_main_v24 val_main_v22 val_main_v21 val_main_v19 val_main_v18 val_main_v16 val_main_v15 val_main_v13 val_main_v11 val_main_v10 val_main_v8 val_main_v7 val_main_v5 val_main_v4 val_main_v2
  generalize val_main_v0 (F := Ideal) x1 = y
  pointwise [val_main_v23, val_main_v20, val_main_v17, val_main_v14, val_main_v12, val_main_v9, val_main_v6, val_main_v3, val_main_v1, val_main_cst_0, val_main_cst_1, val_main_cst_2, val_main_cst_3, val_main_cst_4, val_main_cst_5, val_main_cst_6, val_main_cst_7, val_main_cst_8]
  rfl

theorem ref_mom : val_main_v5 (F := Ideal) x1 x2 (ix2 r k) = MOM (SUM8 fun s => x1 (ix3 s r k)) (x2 (ix2 r k)) := by
  rw [← ref_sum]
  unfold val_main_v5 val_main_v4 val_main_v2
  generalize val_main_v0 (F := Ideal) x1 = y
  pointwise [val_main_v3, val_main_v1, val_main_cst_0, val_main_cst_1, val_main_cst_2, val_main_cst_3, val_main_cst_4, val_main_cst_5, val_main_cst_6, val_main_cst_7, val_main_cst_8]
  rfl

theorem ref_sqr : val_main_v11 (F := Ideal) x1 x3 (ix2 r k) = SQR (SUM8 fun s => x1 (ix3 s r k)) (x3 (ix2 r k)) := by
  rw [← ref_sum]
  unfold val_main_v11 val_main_v10 val_main_v8 val_main_v7
  generalize val_main_v0 (F := Ideal) x1 = y
  pointwise [val_main_v9, val_main_v6, val_main_cst_0, val_main_cst_1, val_main_cst_2, val_main_cst_3, val_main_cst_4, val_main_cst_5, val_main_cst_6, val_main_cst_7, val_main_cst_8]
  rfl
end

section
variable (x0 : Vec Ideal S256x128 .f32) (x1 : Vec Ideal S8x256x128 .f32) (x2 : Vec Ideal S256x128 .f32) (x3 : Vec Ideal S256x128 .f32) (r : Fin 256) (k : Fin 128)

theorem ker_sum : k0_pay2 (F := Ideal) x1 (ix2 r k) = SUM8 fun s => x1 (ix3 s r k) := by
  pointwise [k0_pay2]
  exact sum8 fun s => x1 (ix3 s r k)

theorem ker_step : k0_pay1 (F := Ideal) x0 (k0_pay5 x1 x2) (k0_pay6 x1 x3) (Scalar.ofBits .f32 0x322BCC77#32) (ix2 r k) = STEP (x0 (ix2 r k)) (SUM8 fun s => x1 (ix3 s r k)) (x2 (ix2 r k)) (x3 (ix2 r k)) := by
  rw [← ker_sum]
  unfold k0_pay1 k0_pay5 k0_pay6 k0_pay3 k0_pay4
  generalize k0_pay2 (F := Ideal) x1 = y
  pointwise
  rfl

theorem ker_mom : k0_pay3 (F := Ideal) x1 x2 (ix2 r k) = MOM (SUM8 fun s => x1 (ix3 s r k)) (x2 (ix2 r k)) := by
  rw [← ker_sum]
  unfold k0_pay3
  generalize k0_pay2 (F := Ideal) x1 = y
  pointwise
  rfl

theorem ker_sqr : k0_pay4 (F := Ideal) x1 x3 (ix2 r k) = SQR (SUM8 fun s => x1 (ix3 s r k)) (x3 (ix2 r k)) := by
  rw [← ker_sum]
  unfold k0_pay4
  generalize k0_pay2 (F := Ideal) x1 = y
  pointwise
  rfl
end

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

section
variable (t : Fin cfg0.N) (r : Fin 256) (k : Fin 128)

omit k in
theorem hr : t.val * 256 + r.val < 4352 := by
  have ht : t.val < 17 := t.isLt
  omega

theorem in0 : iblk m c 0 t (ix2 r k) = m ((c : Thread nD τ).loc main_arg0) (ix2 ⟨t.val * 256 + r.val, hr t r⟩ k) := by
  blk_point [iblk, V, idx t]

theorem in1 (s : Fin 8) : iblk m c 1 t (ix3 s r k) = m ((c : Thread nD τ).loc main_arg1) (ix3 s ⟨t.val * 256 + r.val, hr t r⟩ k) := by
  blk_point [iblk, V, idx t]

theorem in2 : iblk m c 2 t (ix2 r k) = m ((c : Thread nD τ).loc main_arg2) (ix2 ⟨t.val * 256 + r.val, hr t r⟩ k) := by
  blk_point [iblk, V, idx t]

theorem in3 : iblk m c 3 t (ix2 r k) = m ((c : Thread nD τ).loc main_arg3) (ix2 ⟨t.val * 256 + r.val, hr t r⟩ k) := by
  blk_point [iblk, V, idx t]
end

theorem final4 : (dats m 0 c).arrAt 4 (cfgs 0).N = Cert.RepReferenceIdeal.Read.val_main_v0 (F := Ideal) (m ((c : Thread nD τ).loc main_arg1)) := by
  refine (dats m 0 c).arrAt_eq_of_covers 4 _ (by decide +kernel) fun t _ y => ?_
  blk_simp
  rw [after0_4]
  unfold out0_4
  frame_out
  idx_vars y
  have e : ((cfg0.win 4).blk t).view.emb (ix2 y0 y1) = (ix2 ⟨t.val * 256 + y0.val, hr t y0⟩ y1 : S4352x128.Idx) := by
    blk_ext [idx t]
  rw [e]
  rw [ref_sum, ker_sum, funext (in1 m c t y0 y1)]

theorem final5 : (dats m 0 c).arrAt 5 (cfgs 0).N = Cert.RepReferenceIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold out0_5
  frame_out
  idx_vars y
  have e : ((cfg0.win 5).blk t).view.emb (ix2 y0 y1) = (ix2 ⟨t.val * 256 + y0.val, hr t y0⟩ y1 : S4352x128.Idx) := by
    blk_ext [idx t]
  rw [e]
  rw [ref_step, ker_step, in0, funext (in1 m c t y0 y1), in2, in3]

theorem final6 : (dats m 0 c).arrAt 6 (cfgs 0).N = Cert.RepReferenceIdeal.Read.val_main_v5 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  unfold out0_6
  frame_out
  idx_vars y
  have e : ((cfg0.win 6).blk t).view.emb (ix2 y0 y1) = (ix2 ⟨t.val * 256 + y0.val, hr t y0⟩ y1 : S4352x128.Idx) := by
    blk_ext [idx t]
  rw [e]
  rw [ref_mom, ker_mom, funext (in1 m c t y0 y1), in2]

theorem final7 : (dats m 0 c).arrAt 7 (cfgs 0).N = Cert.RepReferenceIdeal.Read.val_main_v11 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  unfold out0_7
  frame_out
  idx_vars y
  have e : ((cfg0.win 7).blk t).view.emb (ix2 y0 y1) = (ix2 ⟨t.val * 256 + y0.val, hr t y0⟩ y1 : S4352x128.Idx) := by
    blk_ext [idx t]
  rw [e]
  rw [ref_sqr, ker_sqr, funext (in1 m c t y0 y1), in3]

omit m c in
theorem algebraic : Cert.algebraic_RepKernelIdeal_RepReferenceIdeal := by
  intro m g m' g' _ hag
  refine ⟨_, _, _, _, (θ_run _ _ _).mono (fun _ h => h) (Cert.RepKernelIdeal.Value.run_blocks m g),
    (θ_run _ _ _).mono (fun r h c => ?_) (Cert.RepReferenceIdeal.Value.run (F := Ideal) m' g')⟩
  obtain ⟨h0, h1, h2, h3⟩ := hag c
  refine ⟨(h c).1.trans ?_, (h c).2.1.trans ?_, (h c).2.2.1.trans ?_, (h c).2.2.2.1.trans ?_, (h c).2.2.2.2⟩
  · refine (Cert.RepReferenceIdeal.Read.val_main_v0_eq _).trans ?_
    rw [h1]
    exact (final4 m c).symm
  · refine (Cert.RepReferenceIdeal.Read.val_main_v24_eq _ _ _ _).trans ?_
    rw [h0, h1, h2, h3]
    exact (final5 m c).symm
  · refine (Cert.RepReferenceIdeal.Read.val_main_v5_eq _ _).trans ?_
    rw [h1, h2]
    exact (final6 m c).symm
  · refine (Cert.RepReferenceIdeal.Read.val_main_v11_eq _ _).trans ?_
    rw [h1, h3]
    exact (final7 m c).symm

omit m c in
theorem reference_frame : Cert.quiescent_RepReferenceIdeal := fun m ρ _ =>
  (θ_run Cert.RepReferenceIdeal.defs _ _).mono (fun r h => ⟨fun c => (h c).2.2.2.2, Idealize.ShloMosaic.sem_eq_zero_of_no_sems (by decide) r.2⟩)
    (Cert.RepReferenceIdeal.Value.run (F := Ideal) m ρ)

end Cert.Proof.RepValue

end
-- ==== Proof.FfnValue.lean ====
/- The feed-forward block's first half: the normed rows, the two halves of the product, and the gated product. -/
module

public import proofs.«01_k».proof.Defs
public import proofs.«01_k».proof.Proof.Norm
public import proofs.«01_k».proof.Proof.Gen.FfnKernelIdeal.Value
public import proofs.«01_k».proof.Proof.Gen.FfnReferenceIdeal.Run
public import proofs.«01_k».proof.Proof.Gen.FfnReferenceIdeal.Read
public import Idealize.ShloMosaic.Lib.Pipeline.ReadBack

@[expose] public section

set_option maxRecDepth 16384

noncomputable section

namespace Cert.Proof.FfnValue

open Idealize.ShloMosaic Idealize.ShloMosaic.TcCoe Idealize.SL.Sem
open Cert.Proof.Norm (MEAN)
open Cert.FfnKernelIdeal Cert.FfnKernelIdeal.Gen

/-- The normed row at one column. -/
def ROW (h g : Fin 1024 → EReal) (k : Fin 1024) : EReal := h k * Ideal.rsqrt (MEAN h) * g k

/-- A cell of the product. -/
def DOT (d w : Fin 1024 → EReal) : EReal := ∑ k, d k * w k

/-- The gated product's cell. -/
def ACT (g u : EReal) : EReal := g * Ideal.div 1 (1 + Ideal.exp (-g)) * u

section
open Cert.FfnReferenceIdeal.Read
variable (x : FVec Ideal S8192x1024 .f32) (g : FVec Ideal S1024 .f32) (w : FVec Ideal S1024x5632 .f32)

theorem ref_row (r : Fin 8192) (k : Fin 1024) :
    val_main_v12 (F := Ideal) x g (ix2 r k) = ROW (fun l => x (ix2 r l)) (fun l => g (ix1 l)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold ROW MEAN
  simp

/-- A cell of the reference's product. -/
def PROD (r : Fin 8192) (k : Fin 5632) : EReal :=
  DOT (ROW (fun l => x (ix2 r l)) (fun l => g (ix1 l))) (fun l => w (ix2 l k))

theorem ref_dot (r : Fin 8192) (k : Fin 5632) : val_main_v13 (F := Ideal) x g w (ix2 r k) = PROD x g w r k := by
  rw [val_main_v13_apply]
  have e1 : ∀ q, lidx_main_v13 (ix2 r k) q = ix2 r q := fun q => by funext a; fin_cases a <;> rfl
  have e2 : ∀ q, ridx_main_v13 (ix2 r k) q = ix2 q k := fun q => by funext a; fin_cases a <;> rfl
  simp only [e1, e2, ref_row]
  rfl

theorem ref_norm (r : Fin 8192) (k : Fin 1024) :
    val_main_v18 (F := Ideal) x g (ix2 r k) = ROW (fun l => x (ix2 r l)) (fun l => g (ix1 l)) k := ref_row x g r k

theorem ref_pair (s : Fin 2) (r : Fin 8192) (k : Fin 2816) :
    val_main_v22 (F := Ideal) x g w (ix3 s r k) = PROD x g w r ⟨s.val * 2816 + k.val, by omega⟩ := by
  rw [← ref_dot]
  unfold val_main_v22 val_main_v21 val_main_v20 val_main_v19 val_main_v15 val_main_v14
  generalize val_main_v13 (F := Ideal) x g w = y
  pointwise
  fin_cases s
  · simp
  · simp

theorem ref_act (r : Fin 8192) (k : Fin 2816) :
    val_main_v23 (F := Ideal) x g w (ix2 r k) = ACT (PROD x g w r ⟨k.val, by omega⟩) (PROD x g w r ⟨2816 + k.val, by omega⟩) := by
  rw [← ref_dot, ← ref_dot]
  unfold val_main_v23 val_main_v17 val_main_v16 val_main_call0_v5 val_main_call0_v3 val_main_call0_v1 val_main_call0_v0 val_main_v15 val_main_v14
  generalize val_main_v13 (F := Ideal) x g w = y
  pointwise [val_main_call0_v4, val_main_call0_v2, val_main_call0_cst, val_main_call0_cst_0]
  unfold ACT
  simp
end

theorem row_apply (h : Vec Ideal S512x1024 .f32) (g : Vec Ideal S1x1024 .f32) (r : Fin 512) (k : Fin 1024) :
    k0_pay1 (F := Ideal) h g (ix2 r k) = ROW (fun l => h (ix2 r l)) (fun l => g (ix2 0 l)) k := by
  pointwise [k0_pay1]
  rfl

theorem dot_apply (a : Vec Ideal S512x1024 .bf16) (w : Vec Ideal S1024x1408 .bf16) (r : Fin 512) (k : Fin 1408) :
    k0_pay2 (F := Ideal) a w (ix2 r k) = DOT (fun l => a (ix2 r l)) (fun l => w (ix2 l k)) := by
  pointwise [k0_pay2]
  rfl

theorem gate_apply (a : Vec Ideal S512x1024 .bf16) (w : Vec Ideal S1024x1408 .bf16) (r : Fin 512) (k : Fin 1408) :
    k0_pay4 (F := Ideal) a w (ix3 0 r k) = DOT (fun l => a (ix2 r l)) (fun l => w (ix2 l k)) := by
  rw [← dot_apply]
  unfold k0_pay4
  generalize k0_pay2 (F := Ideal) a w = z
  pointwise

theorem up_apply (a : Vec Ideal S512x1024 .bf16) (w : Vec Ideal S1024x1408 .bf16) (r : Fin 512) (k : Fin 1408) :
    k0_pay5 (F := Ideal) a w (ix3 0 r k) = DOT (fun l => a (ix2 r l)) (fun l => w (ix2 l k)) := gate_apply a w r k

theorem act_apply (a : Vec Ideal S512x1024 .bf16) (w v : Vec Ideal S1024x1408 .bf16) (r : Fin 512) (k : Fin 1408) :
    k0_pay6 (F := Ideal) a w v (ix2 r k)
      = ACT (DOT (fun l => a (ix2 r l)) (fun l => w (ix2 l k))) (DOT (fun l => a (ix2 r l)) (fun l => v (ix2 l k))) := by
  rw [← dot_apply, ← dot_apply]
  unfold k0_pay6
  rw [show k0_pay3 (F := Ideal) a v = k0_pay2 a v from rfl]
  generalize k0_pay2 (F := Ideal) a w = y
  generalize k0_pay2 (F := Ideal) a v = z
  pointwise
  unfold ACT
  simp

variable (m : (ℓ : Loc nD τ sig) → Buf (Elt Ideal) ℓ)

theorem idx : ∀ t : Fin cfg0.N, win0_0.index t = ![t.val / 2, 0] ∧ win0_1.index t = ![0, 0] ∧ win0_2.index t = ![0, t.val % 2]
      ∧ win0_3.index t = ![0, 2 + t.val % 2] ∧ win0_4.index t = ![t.val / 2, 0] ∧ win0_5.index t = ![0, t.val / 2, t.val % 2] ∧ win0_6.index t = ![t.val / 2, t.val % 2] :=
  (by decide +kernel : ∀ t : Fin grid0.N, win0_0.index t = ![t.val / 2, 0] ∧ win0_1.index t = ![0, 0] ∧ win0_2.index t = ![0, t.val % 2]
      ∧ win0_3.index t = ![0, 2 + t.val % 2] ∧ win0_4.index t = ![t.val / 2, 0] ∧ win0_5.index t = ![0, t.val / 2, t.val % 2] ∧ win0_6.index t = ![t.val / 2, t.val % 2])

/-- The scratch after a point: the normed rows of the point's block. -/
def KEPT (c : Dev nD) (t : Fin cfg0.N) : Vec Ideal S512x1024 .bf16 := k0_pay1 (F := Ideal) (iblk m c 0 t) (iblk m c 1 t)

section
variable (c : Dev nD) (t : Fin cfg0.N)

theorem kept_at (r : Fin 512) (h : t.val / 2 * 512 + r.val < 8192) : (fun k => KEPT m c t (ix2 r k))
    = ROW (fun l => m ((c : Thread nD τ).loc main_arg0) (ix2 ⟨t.val / 2 * 512 + r.val, h⟩ l)) (fun l => m ((c : Thread nD τ).loc main_arg1) (ix1 l)) := by
  have ht : t.val < 32 := t.isLt
  funext k
  rw [KEPT, row_apply]
  have ex : ∀ l : Fin 1024, iblk m c 0 t (ix2 r l) = m ((c : Thread nD τ).loc main_arg0) (ix2 ⟨t.val / 2 * 512 + r.val, h⟩ l) := by
    intro l
    blk_point [iblk, V, idx t]
  have eg : ∀ l : Fin 1024, iblk m c 1 t (ix2 0 l) = m ((c : Thread nD τ).loc main_arg1) (ix1 l) := by
    intro l
    blk_point [iblk, V, idx t]
  rw [funext ex, funext eg]

theorem gate_at (k : Fin 1408) (h : t.val % 2 * 1408 + k.val < 5632) :
    (fun l => iblk m c 2 t (ix2 l k)) = fun l => m ((c : Thread nD τ).loc main_arg2) (ix2 l ⟨t.val % 2 * 1408 + k.val, h⟩) := by
  have ht : t.val < 32 := t.isLt
  funext l
  blk_point [iblk, V, idx t]

theorem up_at (k : Fin 1408) (h : 2816 + (t.val % 2 * 1408 + k.val) < 5632) :
    (fun l => iblk m c 3 t (ix2 l k)) = fun l => m ((c : Thread nD τ).loc main_arg2) (ix2 l ⟨2816 + (t.val % 2 * 1408 + k.val), h⟩) := by
  have ht : t.val < 32 := t.isLt
  funext l
  blk_point [iblk, V, idx t]

theorem prev_kept (h : ¬ t.val % 2 = 0) : (outsAt0 m c (t.val - 1) (Nat.lt_of_le_of_lt (Nat.sub_le _ _) t.isLt)).2.2.2 = KEPT m c t := by
  obtain ⟨n, hn⟩ := t
  cases n with
  | zero => exact absurd rfl h
  | succ n =>
    have h0 : n % 2 = 0 := by simp only at h; omega
    have hn' : n < 32 := Nat.lt_of_succ_lt hn
    refine (congrArg (fun q => q.2.2.2) (outsAt0_A m c ⟨n, Nat.lt_of_succ_lt hn⟩ h0)).trans ?_
    unfold KEPT
    have e0 : iblk m c 0 ⟨n, Nat.lt_of_succ_lt hn⟩ = iblk m c 0 ⟨n + 1, hn⟩ := by
      funext y
      change S512x1024.Idx at y
      idx_vars y
      blk_point [iblk, V, idx ⟨n, Nat.lt_of_succ_lt hn⟩, idx ⟨n + 1, hn⟩]
    have e1 : iblk m c 1 ⟨n, Nat.lt_of_succ_lt hn⟩ = iblk m c 1 ⟨n + 1, hn⟩ := by
      funext y
      change S1x1024.Idx at y
      idx_vars y
      blk_point [iblk, V, idx ⟨n, Nat.lt_of_succ_lt hn⟩, idx ⟨n + 1, hn⟩]
    rw [← e0, ← e1]
    frame_out

theorem norm_point (y : S512x1024.Idx) : KEPT m c t y
    = Cert.FfnReferenceIdeal.Read.val_main_v18 (F := Ideal) (m ((c : Thread nD τ).loc main_arg0)) (m ((c : Thread nD τ).loc main_arg1)) (((cfg0.win 4).blk t).view.emb y) := by
  have ht : t.val < 32 := t.isLt
  idx_vars y
  have hr : t.val / 2 * 512 + y0.val < 8192 := by omega
  have e : ((cfg0.win 4).blk t).view.emb (ix2 y0 y1) = (ix2 ⟨t.val / 2 * 512 + y0.val, hr⟩ y1 : S8192x1024.Idx) := by
    blk_ext [idx t]
  rw [e, ref_norm, ← kept_at m c t y0 hr]

theorem act_point (y : S512x1408.Idx) : k0_pay6 (F := Ideal) (KEPT m c t) (iblk m c 2 t) (iblk m c 3 t) y
    = Cert.FfnReferenceIdeal.Read.val_main_v23 (F := Ideal) (m ((c : Thread nD τ).loc main_arg0)) (m ((c : Thread nD τ).loc main_arg1)) (m ((c : Thread nD τ).loc main_arg2)) (((cfg0.win 6).blk t).view.emb y) := by
  have ht : t.val < 32 := t.isLt
  idx_vars y
  have hr : t.val / 2 * 512 + y0.val < 8192 := by omega
  have e : ((cfg0.win 6).blk t).view.emb (ix2 y0 y1) = (ix2 ⟨t.val / 2 * 512 + y0.val, hr⟩ ⟨t.val % 2 * 1408 + y1.val, by omega⟩ : S8192x2816.Idx) := by
    blk_ext [idx t]
  rw [e, ref_act, act_apply, kept_at m c t y0 hr, gate_at m c t y1 (by omega), up_at m c t y1 (by omega)]
  rfl

theorem pair_point (y0 : Fin 2) (y1 : Fin 512) (y2 : Fin 1408) :
    (if y0 = 0 then k0_pay4 (F := Ideal) (KEPT m c t) (iblk m c 2 t) (ix3 0 y1 y2) else k0_pay5 (F := Ideal) (KEPT m c t) (iblk m c 3 t) (ix3 0 y1 y2))
    = Cert.FfnReferenceIdeal.Read.val_main_v22 (F := Ideal) (m ((c : Thread nD τ).loc main_arg0)) (m ((c : Thread nD τ).loc main_arg1)) (m ((c : Thread nD τ).loc main_arg2)) (((cfg0.win 5).blk t).view.emb (ix3 y0 y1 y2)) := by
  have ht : t.val < 32 := t.isLt
  have hr : t.val / 2 * 512 + y1.val < 8192 := by omega
  have e : ((cfg0.win 5).blk t).view.emb (ix3 y0 y1 y2) = (ix3 y0 ⟨t.val / 2 * 512 + y1.val, hr⟩ ⟨t.val % 2 * 1408 + y2.val, by omega⟩ : S2x8192x2816.Idx) := by
    blk_ext [idx t]
  rw [e, ref_pair]
  by_cases h0 : y0 = 0
  · subst h0
    rw [if_pos rfl, gate_apply, kept_at m c t y1 hr, gate_at m c t y2 (by omega)]
    simp [PROD]
  · have h1 : y0 = 1 := by omega
    subst h1
    rw [if_neg h0, up_apply, kept_at m c t y1 hr, up_at m c t y2 (by omega)]
    simp [PROD]
end

theorem final4 (c : Dev nD) : (dats m 0 c).arrAt 4 (cfgs 0).N
    = Cert.FfnReferenceIdeal.Read.val_main_v18 (F := Ideal) (m ((c : Thread nD τ).loc main_arg0)) (m ((c : Thread nD τ).loc main_arg1)) := by
  refine (dats m 0 c).arrAt_eq_of_covers 4 _ (by decide +kernel) fun t _ y => ?_
  by_cases h : t.val % 2 = 0
  · refine (congrFun (Value.flushed4_A m c t h) y).trans ?_
    refine Eq.trans ?_ (norm_point m c t y)
    unfold KEPT
    generalize iblk m c 0 t = x
    generalize iblk m c 1 t = g
    generalize iblk m c 2 t = w
    generalize iblk m c 3 t = v
    frame_out
  · refine (congrFun (Value.flushed4_B m c t h) y).trans ?_
    rw [prev_kept m c t h]
    refine Eq.trans ?_ (norm_point m c t y)
    unfold KEPT
    generalize iblk m c 0 t = x
    generalize iblk m c 1 t = g
    generalize iblk m c 2 t = w
    generalize iblk m c 3 t = v
    generalize k0_pay1 (F := Ideal) x g = a
    frame_out
    simp only [read_unread_whole]

theorem final6 (c : Dev nD) : (dats m 0 c).arrAt 6 (cfgs 0).N
    = Cert.FfnReferenceIdeal.Read.val_main_v23 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  by_cases h : t.val % 2 = 0
  · refine (congrFun (Value.flushed6_A m c t h) y).trans ?_
    refine Eq.trans ?_ (act_point m c t y)
    unfold KEPT
    generalize iblk m c 0 t = x
    generalize iblk m c 1 t = g
    generalize iblk m c 2 t = w
    generalize iblk m c 3 t = v
    frame_out
  · refine (congrFun (Value.flushed6_B m c t h) y).trans ?_
    rw [prev_kept m c t h]
    refine Eq.trans ?_ (act_point m c t y)
    unfold KEPT
    generalize iblk m c 0 t = x
    generalize iblk m c 1 t = g
    generalize iblk m c 2 t = w
    generalize iblk m c 3 t = v
    generalize k0_pay1 (F := Ideal) x g = a
    frame_out
    simp only [read_unread_whole]

/-- Two planes stored one after the other, read back at one cell. -/
theorem planes (p q : Vec Ideal S1x512x1408 .bf16) (y0 : Fin 2) (y1 : Fin 512) (y2 : Fin 1408) :
    View.canon (s := S2x512x1408) [⟨Rect.unit ![1, 0, 0] ![1, 512, 1408] inb_S2x512x1408_S1x512x1408_1_0_0, q⟩,
      ⟨Rect.unit ![0, 0, 0] ![1, 512, 1408] inb_S2x512x1408_S1x512x1408_0_0_0, p⟩] (ix3 y0 y1 y2)
      = if y0 = 0 then p (ix3 0 y1 y2) else q (ix3 0 y1 y2) := by
  refine View.canon_eq_of_allAt _ _ _ (View.cover_of_tiled_head _ _ _ rfl _)
    (View.allAt_cons_unit _ _ _ _ _ (fun x hx => ?_) (View.allAt_cons_unit _ _ _ _ _ (fun x hx => ?_) (View.allAt_nil _ _)))
  · change S1x512x1408.Idx at x
    idx_vars x
    have a0 : y0.val = 1 + x0.val := hx 0
    have a1 : y1.val = 0 + x1.val := hx 1
    have a2 : y2.val = 0 + x2.val := hx 2
    rw [if_neg (by rintro rfl; simp at a0)]
    exact congrArg q (by congr 1 <;> apply Fin.ext <;> omega)
  · change S1x512x1408.Idx at x
    idx_vars x
    have a0 : y0.val = 0 + x0.val := hx 0
    have a1 : y1.val = 0 + x1.val := hx 1
    have a2 : y2.val = 0 + x2.val := hx 2
    rw [if_pos (by apply Fin.ext; change y0.val = 0; omega)]
    exact congrArg p (by congr 1 <;> apply Fin.ext <;> omega)

theorem final5 (c : Dev nD) : (dats m 0 c).arrAt 5 (cfgs 0).N
    = Cert.FfnReferenceIdeal.Read.val_main_v22 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  change S2x512x1408.Idx at y
  idx_vars y
  by_cases h : t.val % 2 = 0
  · refine (congrFun (Value.flushed5_A m c t h) (ix3 y0 y1 y2)).trans ?_
    refine Eq.trans ?_ (pair_point m c t y0 y1 y2)
    unfold KEPT
    generalize iblk m c 0 t = x
    generalize iblk m c 1 t = g
    generalize iblk m c 2 t = w
    generalize iblk m c 3 t = v
    frame_out
    exact planes _ _ y0 y1 y2
  · refine (congrFun (Value.flushed5_B m c t h) (ix3 y0 y1 y2)).trans ?_
    rw [prev_kept m c t h]
    refine Eq.trans ?_ (pair_point m c t y0 y1 y2)
    unfold KEPT
    generalize iblk m c 0 t = x
    generalize iblk m c 1 t = g
    generalize iblk m c 2 t = w
    generalize iblk m c 3 t = v
    generalize k0_pay1 (F := Ideal) x g = a
    frame_out
    simp only [read_unread_whole]
    exact planes _ _ y0 y1 y2

theorem algebraic : Cert.algebraic_FfnKernelIdeal_FfnReferenceIdeal := by
  intro m g m' g' _ hag
  refine ⟨_, _, _, (θ_run _ _ _).mono (fun _ h => h) (Cert.FfnKernelIdeal.Value.run_blocks m g),
    (θ_run _ _ _).mono (fun r h c => ?_) (Cert.FfnReferenceIdeal.Value.run (F := Ideal) m' g')⟩
  refine ⟨(h c).1.trans ?_, (h c).2.1.trans ?_, (h c).2.2.1.trans ?_, (h c).2.2.2⟩
  · refine (Cert.FfnReferenceIdeal.Read.val_main_v18_eq _ _).trans ?_
    rw [(hag c).1, (hag c).2.1]
    exact (final4 m c).symm
  · refine (Cert.FfnReferenceIdeal.Read.val_main_v22_eq _ _ _).trans ?_
    rw [(hag c).1, (hag c).2.1, (hag c).2.2]
    exact (final5 m c).symm
  · refine (Cert.FfnReferenceIdeal.Read.val_main_v23_eq _ _ _).trans ?_
    rw [(hag c).1, (hag c).2.1, (hag c).2.2]
    exact (final6 m c).symm

theorem reference_frame : Cert.quiescent_FfnReferenceIdeal := fun m ρ _ =>
  (θ_run Cert.FfnReferenceIdeal.defs _ _).mono (fun r h => ⟨fun c => (h c).2.2.2, Idealize.ShloMosaic.sem_eq_zero_of_no_sems (by decide) r.2⟩)
    (Cert.FfnReferenceIdeal.Value.run (F := Ideal) m ρ)

end Cert.Proof.FfnValue

end
-- ==== Proof.LruScan.lean ====
/- The linear recurrence: doubling within a block of rows against one row at a time. -/
module

public import proofs.«01_k».proof.Proof.Gen.LrufKernelIdeal.Skeleton
public import Idealize.ShloMosaic.Lib.Pointwise
public import Idealize.ShloMosaic.Lib.WordCmp

@[expose] public section

set_option maxRecDepth 16384

noncomputable section

namespace Cert.Proof.LruScan

open Idealize.ShloMosaic Idealize.ShloMosaic.TcCoe
open Cert.LrufKernelIdeal Cert.LrufKernelIdeal.Gen

/-- The recurrence `h ↦ a h + x` over `n` rows from row `s`. -/
def FOLD (a x : ℕ → EReal) (s : ℕ) : ℕ → EReal → EReal
  | 0, h => h
  | n + 1, h => a (s + n) * FOLD a x s n h + x (s + n)

theorem fold_add (a x : ℕ → EReal) (s n m : ℕ) (h : EReal) : FOLD a x s (n + m) h = FOLD a x (s + n) m (FOLD a x s n h) := by
  induction m with
  | zero => rfl
  | succ m ih =>
    show a (s + (n + m)) * FOLD a x s (n + m) h + x (s + (n + m)) = a (s + n + m) * FOLD a x (s + n) m (FOLD a x s n h) + x (s + n + m)
    rw [ih, Nat.add_assoc]

theorem fold_congr (a x b y : ℕ → EReal) (s s' n : ℕ) (h : EReal) (e : ∀ i < n, a (s + i) = b (s' + i) ∧ x (s + i) = y (s' + i)) :
    FOLD a x s n h = FOLD b y s' n h := by
  induction n with
  | zero => rfl
  | succ n ih => simp only [FOLD, ih fun i hi => e i (by omega), (e n (by omega)).1, (e n (by omega)).2]

/-- One doubling of the sums. -/
def XST (d : ℕ) (a x : ℕ → EReal) (r : ℕ) : EReal := x r + a r * if r < d then 0 else x (r - d)

/-- One doubling of the factors. -/
def AST (d : ℕ) (a : ℕ → EReal) (r : ℕ) : EReal := a r * if r < d then 1 else a (r - d)

/-- The pair `A, X` is the recurrence over the last `d` rows. -/
def GOOD (a x : ℕ → EReal) (d : ℕ) (A X : ℕ → EReal) : Prop :=
  ∀ r, 0 ≤ A r ∧ A r ≤ 1 ∧ ∀ h, X r + A r * h = FOLD a x (r + 1 - min d (r + 1)) (min d (r + 1)) h

theorem good_one (a x : ℕ → EReal) (ha : ∀ r, 0 ≤ a r ∧ a r ≤ 1) : GOOD a x 1 a x := fun r =>
  ⟨(ha r).1, (ha r).2, fun h => by
    rw [show min 1 (r + 1) = 1 by omega, Nat.add_sub_cancel]
    exact add_comm _ _⟩

theorem good_step (a x A X : ℕ → EReal) (d : ℕ) (g : GOOD a x d A X) : GOOD a x (2 * d) (AST d A) (XST d A X) := by
  intro r
  obtain ⟨h0, h1, hr⟩ := g r
  by_cases hd : r < d
  · simp only [AST, XST, if_pos hd, mul_one, mul_zero, add_zero]
    refine ⟨h0, h1, fun h => ?_⟩
    rw [hr h, show min (2 * d) (r + 1) = min d (r + 1) by omega]
  · obtain ⟨k0, k1, kr⟩ := g (r - d)
    simp only [AST, XST, if_neg hd]
    refine ⟨mul_nonneg h0 k0, (mul_le_of_le_one_right h0 k1).trans h1, fun h => ?_⟩
    have hT : A r ≠ ⊤ := fun e => by rw [e] at h1; exact absurd h1 (by decide)
    rw [mul_assoc, add_assoc, ← EReal.left_distrib_of_nonneg_of_ne_top h0 hT, kr h, hr]
    rw [show min (2 * d) (r + 1) = min d (r - d + 1) + min d (r + 1) by omega, fold_add]
    congr 1
    · omega
    · congr 1
      omega

/-- Rows moved down by `d`, the rows before them filled with `c`. -/
def down (d : ℕ) (c : Ideal .f32) (v : FVec Ideal S256x1024 .f32) : FVec Ideal S256x1024 .f32 :=
  select (cmpi .slt (iota .tc S256x1024 32 [0] iota_S256x1024_d0_w32) (broadcast S256x1024 (BitVec.ofNat 32 d))) (broadcast S256x1024 c)
    (dynamicRotate 0 (BitVec.ofNat 32 d) none v rotates_S256x1024_d0)

theorem down_apply (d : ℕ) (hd : d < 256) (c : Ideal .f32) (v : FVec Ideal S256x1024 .f32) (r : Fin 256) (k : Fin 1024) :
    down d c v (ix2 r k) = if r.val < d then c else v (ix2 ⟨r.val - d, by omega⟩ k) := by
  pointwise [down]
  have hr := r.isLt
  have hn : (BitVec.ofNat 32 d).toNat = d := by rw [BitVec.toNat_ofNat]; omega
  rw [WordCmp.cmpi_slt_ofNat (by omega) (by omega)]
  by_cases h : r.val < d
  · rw [if_pos h, decide_eq_true h]; rfl
  · rw [if_neg h, decide_eq_false h]
    refine (show Scalar.select (BitVec.ofBool false) c _ = _ from rfl).trans ?_
    refine congrArg (fun i => v (ix2 i k)) (Fin.ext ?_)
    show (r.val + 256 - (BitVec.ofNat 32 d).toNat % 256) % 256 = r.val - d
    rw [hn]; omega

/-- A column of a block, zero past its last row. -/
def col (v : FVec Ideal S256x1024 .f32) (k : Fin 1024) (r : ℕ) : EReal := if h : r < 256 then v (ix2 ⟨r, h⟩ k) else 0

theorem col_fin (v : FVec Ideal S256x1024 .f32) (k : Fin 1024) (r : Fin 256) : col v k r.val = v (ix2 r k) := dif_pos r.isLt

/-- One doubling of the block of sums. -/
def DX (d : ℕ) (a x : FVec Ideal S256x1024 .f32) : FVec Ideal S256x1024 .f32 :=
  addf x (mulf a (down d (Scalar.ofBits .f32 0x00000000#32) x))

/-- One doubling of the block of factors. -/
def DA (d : ℕ) (a : FVec Ideal S256x1024 .f32) : FVec Ideal S256x1024 .f32 := mulf a (down d (Scalar.ofBits .f32 0x3F800000#32) a)

theorem col_DX (d : ℕ) (hd : d < 256) (a x : FVec Ideal S256x1024 .f32) (k : Fin 1024) : col (DX d a x) k = XST d (col a k) (col x k) := by
  funext r
  by_cases h : r < 256
  · have e : DX d a x (ix2 ⟨r, h⟩ k) = x (ix2 ⟨r, h⟩ k) + a (ix2 ⟨r, h⟩ k) * down d (Scalar.ofBits .f32 0x00000000#32) x (ix2 ⟨r, h⟩ k) := rfl
    have z : (Scalar.ofBits .f32 0x00000000#32 : Ideal .f32) = (0 : EReal) := by pointwise
    unfold XST col
    rw [dif_pos h, dif_pos h, dif_pos h, e, down_apply d hd, z, dif_pos (show r - d < 256 by omega)]
  · unfold XST col
    simp only [dif_neg h, zero_mul, add_zero]

theorem col_DA (d : ℕ) (hd : d < 256) (a : FVec Ideal S256x1024 .f32) (k : Fin 1024) : col (DA d a) k = AST d (col a k) := by
  funext r
  by_cases h : r < 256
  · have e : DA d a (ix2 ⟨r, h⟩ k) = a (ix2 ⟨r, h⟩ k) * down d (Scalar.ofBits .f32 0x3F800000#32) a (ix2 ⟨r, h⟩ k) := rfl
    have z : (Scalar.ofBits .f32 0x3F800000#32 : Ideal .f32) = (1 : EReal) := by pointwise
    unfold AST col
    rw [dif_pos h, dif_pos h, e, down_apply d hd, z, dif_pos (show r - d < 256 by omega)]
  · unfold AST col
    simp only [dif_neg h, zero_mul]

theorem pay21_eq (a : FVec Ideal S256x1024 .f32) : k0_pay21 a = DA 1 a := rfl
theorem pay22_eq (a : FVec Ideal S256x1024 .f32) : k0_pay22 a = DA 2 (k0_pay21 a) := rfl
theorem pay24_eq (a : FVec Ideal S256x1024 .f32) : k0_pay24 a = DA 4 (k0_pay22 a) := rfl
theorem pay28_eq (a : FVec Ideal S256x1024 .f32) : k0_pay28 a = DA 8 a := rfl
theorem pay29_eq (a : FVec Ideal S256x1024 .f32) : k0_pay29 a = DA 16 (k0_pay28 a) := rfl
theorem pay31_eq (a : FVec Ideal S256x1024 .f32) : k0_pay31 a = DA 32 (k0_pay29 a) := rfl
theorem pay23_eq (a x : FVec Ideal S256x1024 .f32) : k0_pay23 a x = DX 4 (k0_pay22 a) (DX 2 (k0_pay21 a) x) := rfl
theorem pay30_eq (a b x : FVec Ideal S256x1024 .f32) : k0_pay30 (k0_pay23 a x) b k0_pay25 (k0_pay26 a x) k0_pay27 =
    DX 32 (k0_pay29 b) (DX 16 (k0_pay28 b) (DX 8 b (k0_pay23 a x))) := rfl

/-- The rows of a block of states: the sums and the factor times the state before the block. -/
theorem pay33_apply (x a : FVec Ideal S256x1024 .f32) (h : Vec Ideal S1x1024 .f32) (r : Fin 256) (k : Fin 1024) :
    k0_pay33 x a k0_pay32 64#32 h (ix2 r k) =
      DX 128 (DA 64 a) (DX 64 a x) (ix2 r k) + DA 128 (DA 64 a) (ix2 r k) * h (ix2 0 k) := by
  have e : k0_pay33 x a k0_pay32 64#32 h = addf (DX 128 (DA 64 a) (DX 64 a x)) (mulf (DA 128 (DA 64 a)) (broadcastTo S256x1024 h broadcasts_S1x1024_S256x1024)) := rfl
  rw [e]
  generalize DX 128 (DA 64 a) (DX 64 a x) = X
  generalize DA 128 (DA 64 a) = A
  pointwise

/-- Eight doublings are the recurrence row by row. -/
theorem scan_apply (a x : FVec Ideal S256x1024 .f32) (h : Vec Ideal S1x1024 .f32) (r : Fin 256) (k : Fin 1024)
    (ha : ∀ r : Fin 256, 0 ≤ a (ix2 r k) ∧ a (ix2 r k) ≤ (1 : EReal)) :
    k0_pay33 (k0_pay30 (k0_pay23 a (DX 1 a x)) (k0_pay24 a) k0_pay25 (k0_pay26 a (DX 1 a x)) k0_pay27) (k0_pay31 (k0_pay24 a)) k0_pay32 64#32 h (ix2 r k) =
      FOLD (col a k) (col x k) 0 (r.val + 1) (h (ix2 0 k)) := by
  rw [pay33_apply, pay30_eq, pay31_eq, pay29_eq, pay28_eq, pay24_eq, pay23_eq, pay22_eq, pay21_eq, ← col_fin (DX _ _ _), ← col_fin (DA _ _)]
  simp only [col_DX, col_DA, Nat.reduceLT]
  have g0 := good_one (col a k) (col x k) fun r => by
    unfold col
    split
    · exact ha _
    · exact ⟨le_rfl, zero_le_one⟩
  have g := good_step _ _ _ _ _ (good_step _ _ _ _ _ (good_step _ _ _ _ _ (good_step _ _ _ _ _ (good_step _ _ _ _ _
    (good_step _ _ _ _ _ (good_step _ _ _ _ _ (good_step _ _ _ _ _ g0)))))))
  have e := (g r.val).2.2 (h (ix2 0 k))
  have hr := r.isLt
  rw [show min (2 * (2 * (2 * (2 * (2 * (2 * (2 * (2 * 1)))))))) (r.val + 1) = r.val + 1 by omega, Nat.sub_self] at e
  exact e

end Cert.Proof.LruScan

end
-- ==== Proof.LruGates.lean ====
/- The gates of the linear recurrence: a block's convolution, gate products and decays, entry by entry. -/
module

public import proofs.«01_k».proof.Proof.LruScan

@[expose] public section

set_option maxRecDepth 16384

noncomputable section

namespace Cert.Proof.LruGates

open Idealize.ShloMosaic Idealize.ShloMosaic.TcCoe
open Cert.LrufKernelIdeal Cert.LrufKernelIdeal.Gen Cert.Proof.LruScan

/-- The logistic function. -/
def SIG (p : EReal) : EReal := Ideal.div 1 (1 + Ideal.exp (-p))

/-- The softplus of the negated decay parameter. -/
def SP (l : EReal) : EReal := max (-l) 0 + Ideal.log (1 + Ideal.exp (-FloatOps.absf (F := Ideal) (φ := .f32) (-l)))

/-- The logarithm of the decay. -/
def LOGA (p l : EReal) : EReal := Ideal.ofBits .f32 3238002688#32 * SIG p * SP l

/-- The gated input of the recurrence. -/
def GX (i x la : EReal) : EReal := i * x * Ideal.sqrt (1 - Ideal.exp (Ideal.ofBits .f32 0x40000000#32 * la))

/-- The row `d` before row `r` of a block, the rows before the block taken from the eight rows `tl`. -/
def TAP (d : ℕ) (hd : d < 8) (br : Vec Ideal S256x1024 .f32) (tl : Vec Ideal S8x1024 .f32) (r : Fin 256) (k : Fin 1024) : EReal :=
  if h : r.val < d then tl (ix2 ⟨r.val + 8 - d, by omega⟩ k) else br (ix2 ⟨r.val - d, by omega⟩ k)

section
variable (br : Vec Ideal S256x1024 .f32) (tl : Vec Ideal S8x1024 .f32) (w : Vec Ideal S4x1024 .f32) (b : Vec Ideal S1x1024 .f32) (r : Fin 256) (k : Fin 1024)

/-- The rotated rows, the first eight chosen from two sources, are the shifted rows. -/
theorem tap_of (d : ℕ) (hd : d < 8) (h8 : r.val < 8 → (r.val + 8 - d) % 8 < 8) (h256 : (r.val + 256 - d) % 256 < 256)
    (h256' : ¬r.val < 8 → (8 + (r.val - 8) + 256 - d) % 256 < 256) :
    (if h : r.val < 8 then Scalar.select (IntOp.cmpi .slt (BitVec.ofNat 32 r.val) (BitVec.ofNat 32 d)) (tl (ix2 ⟨(r.val + 8 - d) % 8, h8 h⟩ k))
        (br (ix2 ⟨(r.val + 256 - d) % 256, h256⟩ k)) else br (ix2 ⟨(8 + (r.val - 8) + 256 - d) % 256, h256' h⟩ k)) = TAP d hd br tl r k := by
  have hr := r.isLt
  unfold TAP
  rw [WordCmp.cmpi_slt_ofNat (by omega) (by omega)]
  by_cases h : r.val < 8
  · rw [dif_pos h]
    by_cases g : r.val < d
    · rw [dif_pos g, decide_eq_true g]
      refine (show Scalar.select (BitVec.ofBool true) _ _ = _ from rfl).trans (congrArg (fun i => tl (ix2 i k)) (Fin.ext ?_))
      show (r.val + 8 - d) % 8 = r.val + 8 - d
      omega
    · rw [dif_neg g, decide_eq_false g]
      refine (show Scalar.select (BitVec.ofBool false) _ _ = _ from rfl).trans (congrArg (fun i => br (ix2 i k)) (Fin.ext ?_))
      show (r.val + 256 - d) % 256 = r.val - d
      omega
  · rw [dif_neg h, dif_neg (by omega)]
    refine congrArg (fun i => br (ix2 i k)) (Fin.ext ?_)
    show (8 + (r.val - 8) + 256 - d) % 256 = r.val - d
    omega

theorem pay6_apply : k0_pay6 br tl (ix2 r k) = TAP 1 (by decide) br tl r k := by
  refine Eq.trans ?_ (tap_of br tl r k 1 (by decide) (fun _ => by omega) (by omega) (fun _ => by omega))
  pointwise [k0_pay6]

theorem pay7_apply : k0_pay7 br tl (ix2 r k) = TAP 2 (by decide) br tl r k := by
  refine Eq.trans ?_ (tap_of br tl r k 2 (by decide) (fun _ => by omega) (by omega) (fun _ => by omega))
  pointwise [k0_pay7]

theorem pay8_apply : k0_pay8 br tl w (ix2 r k) = w (ix2 0 k) * TAP 3 (by decide) br tl r k := by
  refine Eq.trans ?_ (congrArg (w (ix2 0 k) * ·) (tap_of br tl r k 3 (by decide) (fun _ => by omega) (by omega) (fun _ => by omega)))
  pointwise [k0_pay8]

theorem last_first (p q r s t : EReal) : p + q + r + s + t = q + r + s + t + p := by
  rw [add_comm _ p]
  simp only [add_assoc]

/-- The convolved rows of a block. -/
abbrev XCB : FVec Ideal S256x1024 .f32 := k0_pay10 br w (k0_pay6 br tl) (k0_pay7 br tl) (k0_pay8 br tl w) (k0_pay9 b)

theorem xcb_apply : XCB br tl w b (ix2 r k) = w (ix2 0 k) * TAP 3 (by decide) br tl r k + w (ix2 1 k) * TAP 2 (by decide) br tl r k
    + w (ix2 2 k) * TAP 1 (by decide) br tl r k + w (ix2 3 k) * br (ix2 r k) + b (ix2 0 k) := by
  have h9 : k0_pay9 b (ix2 r k) = b (ix2 0 k) := by pointwise [k0_pay9]
  rw [← pay6_apply, ← pay7_apply, ← pay8_apply, ← h9]
  unfold XCB
  generalize k0_pay6 br tl = t1
  generalize k0_pay7 br tl = t2
  generalize k0_pay8 br tl w = t3
  generalize k0_pay9 b = t4
  pointwise [k0_pay10]
  exact last_first _ _ _ _ _
end

/-- The product of a row with the weights of its column's block. -/
def GATE (w : Fin 4 → Fin 256 → Fin 256 → EReal) (x : Fin 1024 → EReal) (k : Fin 1024) : EReal :=
  ∑ e : Fin 256, w ⟨k.val / 256, by omega⟩ e ⟨k.val % 256, by omega⟩ * x ⟨k.val / 256 * 256 + e.val, by omega⟩

theorem gate_of (w : Fin 4 → Fin 256 → Fin 256 → EReal) (x : Fin 1024 → EReal) (k : Fin 1024) :
    (if h : k.val < 256 then ∑ e : Fin 256, x ⟨e.val, by omega⟩ * w 0 e ⟨k.val, h⟩
      else if h : k.val - 256 < 256 then ∑ e : Fin 256, x ⟨256 + e.val, by omega⟩ * w 1 e ⟨k.val - 256, h⟩
      else if h : k.val - 256 - 256 < 256 then ∑ e : Fin 256, x ⟨512 + e.val, by omega⟩ * w 2 e ⟨k.val - 256 - 256, h⟩
      else ∑ e : Fin 256, x ⟨768 + e.val, by omega⟩ * w 3 e ⟨k.val - 256 - 256 - 256, by omega⟩) = GATE w x k := by
  have hk := k.isLt
  have key : ∀ (n : Fin 4) (q : Fin 256) (f : Fin 256 → Fin 1024), k.val = n.val * 256 + q.val → (∀ e, (f e).val = n.val * 256 + e.val) →
      ∑ e : Fin 256, x (f e) * w n e q = GATE w x k := by
    intro n q f hq hf
    refine Finset.sum_congr rfl fun e _ => ?_
    rw [mul_comm]
    have e1 : n = ⟨k.val / 256, by omega⟩ := Fin.ext (by show n.val = k.val / 256; omega)
    have e2 : q = ⟨k.val % 256, by omega⟩ := Fin.ext (by show q.val = k.val % 256; omega)
    have e3 : f e = ⟨k.val / 256 * 256 + e.val, by omega⟩ := Fin.ext (by rw [hf]; show n.val * 256 + e.val = k.val / 256 * 256 + e.val; omega)
    rw [e3]
    exact congrArg (· * _) (congrArg₂ (fun i j => w i e j) e1 e2)
  split_ifs with h0 h1 h2
  · exact key 0 _ _ (by simp) (by simp)
  · exact key 1 _ _ (by simp; omega) (by simp)
  · exact key 2 _ _ (by simp; omega) (by simp)
  · exact key 3 _ _ (by simp; omega) (by simp)

section
variable (a0 : Vec Ideal S256x1024 .f32) (a1 : Vec Ideal S4x1024 .f32) (a2 a3 a4 a5 : FVec Ideal S256x1024 .f32) (b : Vec Ideal S1x1024 .f32)
  (w0 w1 w2 w3 : Vec Ideal S1x256x256 .bf16) (w : Fin 4 → Fin 256 → Fin 256 → EReal) (r : Fin 256) (k : Fin 1024)
  (h0 : ∀ x y, w0 (ix3 0 x y) = w 0 x y) (h1 : ∀ x y, w1 (ix3 0 x y) = w 1 x y) (h2 : ∀ x y, w2 (ix3 0 x y) = w 2 x y) (h3 : ∀ x y, w3 (ix3 0 x y) = w 3 x y)
include h0 h1 h2 h3

theorem pay12_apply : k0_pay12 a0 a1 a2 a3 a4 a5 b w0 w1 w2 w3 (ix2 r k) = GATE w (fun j => k0_pay10 a0 a1 a2 a3 a4 a5 (ix2 r j)) k + b (ix2 0 k) := by
  rw [← gate_of]
  simp only [← h0, ← h1, ← h2, ← h3]
  pointwise [k0_pay12, k0_pay11]

theorem pay16_apply : k0_pay16 (k0_pay11 a0 a1 a2 a3 a4 a5) (k0_pay13 b) (k0_pay14 a0 a1 a2 a3 a4 a5) w0 w1 w2 w3 (ix2 r k)
    = SIG (GATE w (fun j => k0_pay10 a0 a1 a2 a3 a4 a5 (ix2 r j)) k + b (ix2 0 k)) := by
  rw [← gate_of]
  simp only [← h0, ← h1, ← h2, ← h3]
  unfold SIG
  pointwise [k0_pay16, k0_pay11, k0_pay13, k0_pay14]
  rw [zero_sub]
end

section
variable (p v51 v110 : FVec Ideal S256x1024 .f32) (l : Vec Ideal S1x1024 .f32) (r : Fin 256) (k : Fin 1024)

theorem pay18_apply : k0_pay18 (k0_pay15 l) (k0_pay17 p) (FloatOps.ofBits .f32 0#32) (ix2 r k) = LOGA (p (ix2 r k)) (l (ix2 0 k)) := by
  unfold LOGA SIG SP
  pointwise [k0_pay18, k0_pay17, k0_pay15]
  simp only [zero_sub]

theorem pay19_apply : k0_pay19 (k0_pay15 l) (k0_pay17 p) (FloatOps.ofBits .f32 0#32) (ix2 r k) = Ideal.exp (LOGA (p (ix2 r k)) (l (ix2 0 k))) := by
  rw [← pay18_apply]
  pointwise [k0_pay19]

/-- The gated input of a block. -/
def GXB (v51 v110 q : FVec Ideal S256x1024 .f32) : FVec Ideal S256x1024 .f32 :=
  have v130 := mulf (broadcast S256x1024 (Scalar.ofBits .f32 0x40000000#32)) q
  mulf (mulf v110 v51) (sqrt (select (cmpf .ogt v130 (broadcast S256x1024 (Scalar.ofBits .f32 0xBC23D70A#32)))
    (mulf (subf (broadcast S256x1024 (Scalar.ofBits .f32 0x00000000#32)) v130) (addf (broadcast S256x1024 (Scalar.ofBits .f32 0x3F800000#32))
      (mulf (mulf (broadcast S256x1024 (Scalar.ofBits .f32 0x3F000000#32)) v130) (addf (broadcast S256x1024 (Scalar.ofBits .f32 0x3F800000#32))
        (mulf v130 (broadcast S256x1024 (Scalar.ofBits .f32 0x3EAAAAAB#32)))))))
    (subf (broadcast S256x1024 (Scalar.ofBits .f32 0x3F800000#32)) (exp v130))))

theorem pay20_eq (q : FVec Ideal S256x1024 .f32) (c : Ideal .f32) : k0_pay20 v51 (k0_pay15 l) v110 q c = DX 1 (k0_pay19 (k0_pay15 l) q c) (GXB v51 v110 (k0_pay18 (k0_pay15 l) q c)) := rfl

theorem gxb_apply (q : FVec Ideal S256x1024 .f32) (h : Ideal.ofBits .f32 0x40000000#32 * q (ix2 r k) ≤ Ideal.ofBits .f32 0xBC23D70A#32) :
    GXB v51 v110 q (ix2 r k) = GX (v110 (ix2 r k)) (v51 (ix2 r k)) (q (ix2 r k)) := by
  unfold GX
  pointwise [GXB]
  rw [if_neg (not_lt.mpr h)]
end

end Cert.Proof.LruGates

end
-- ==== Proof.LruIter.lean ====
/- The reference's recurrence, row by row, and its gates entry by entry. -/
module

public import proofs.«01_k».proof.Proof.LruGates
public import proofs.«01_k».proof.Proof.Gen.LrufReferenceIdeal.Step

@[expose] public section

set_option maxRecDepth 16384

noncomputable section

namespace Cert.Proof.LruIter

open Idealize.ShloMosaic Idealize.ShloMosaic.TcCoe
open Cert.LrufReferenceIdeal Cert.LrufReferenceIdeal.Step Cert.Proof.LruScan Cert.Proof.LruGates

/-- Column `k` of an array of rows, zero past its last row. -/
def colR (v : FVec Ideal S8192x1024 .f32) (k : Fin 1024) (n : ℕ) : EReal := if h : n < 8192 then v (ix2 ⟨n, h⟩ k) else 0

/-- Where a trip's row begins. -/
abbrev AT (j : ℕ) : Fin 2 → Int := fun k =>
  BitVec.toInt ((![(constantI S_ 32 (BitVec.ofNat 32 j) : (⟨S_, .i32⟩ : BufTy).Contents (Elt Ideal)), constantI S_ 32 0#32] : Fin 2 → (⟨S_, .i32⟩ : BufTy).Contents (Elt Ideal)) k (Shape.Idx.first Gen.h_S_))

theorem start0 (j : ℕ) (hj : j < 8192) (h : S1x1024.rank = S8192x1024.rank) : Host.clampedStart S8192x1024 S1x1024 h (AT j) 0 = j := by
  have e : (BitVec.ofNat 32 j).toNat = j := by rw [BitVec.toNat_ofNat]; omega
  have e' : (BitVec.ofNat 32 j).toInt = j := by rw [WordCmp.toInt_eq_toNat_of_lt_half (by omega), e]
  show (min (max (BitVec.ofNat 32 j).toInt 0) ((8192 - 1 : ℕ) : Int)).toNat = j
  rw [e']; omega

theorem start1 (j : ℕ) (h : S1x1024.rank = S8192x1024.rank) : Host.clampedStart S8192x1024 S1x1024 h (AT j) 1 = 0 := by
  show (min (max (0#32).toInt 0) ((1024 - 1024 : ℕ) : Int)).toNat = 0
  decide

section
variable (s : State Ideal)

theorem row_at (v : FVec Ideal S8192x1024 .f32) (j : ℕ) (hj : j < 8192) (k : Fin 1024) (h : S1x1024.rank = S8192x1024.rank) (p) (q) :
    v (ix2 ⟨Host.clampedStart S8192x1024 S1x1024 h (AT j) 0, p⟩ ⟨Host.clampedStart S8192x1024 S1x1024 h (AT j) 1 + k.val, q⟩) = v (ix2 ⟨j, hj⟩ k) :=
  congrArg₂ (fun a b => v (ix2 a b)) (Fin.ext (start0 j hj h)) (Fin.ext ((congrArg (· + k.val) (start1 j h)).trans (Nat.zero_add _)))

theorem b7_apply (j : ℕ) (hj : j < 8192) (k : Fin 1024) :
    b7 j s (ix1 k) = colR s.main_v78_0 k j * s.main_v78_3 (ix1 k) + colR s.main_v78_1 k j := by
  unfold colR
  rw [dif_pos hj, dif_pos hj]
  pointwise [b7, b6, b5, b4, b3, b2, b1, b0]
  exact congrArg₂ (· + ·) (congrArg (· * _) (row_at s.main_v78_0 j hj k _ _ _)) (row_at s.main_v78_1 j hj k _ _ _)

theorem b10_apply (j : ℕ) (hj : j < 8192) (r : Fin 8192) (k : Fin 1024) :
    b10 j s (ix2 r k) = if r.val = j then b7 j s (ix1 k) else s.main_v78_4 (ix2 r k) := by
  pointwise [b10, b9, b8]
  have hr : r.val < 8192 := r.isLt
  have a0 := start0 j hj rfl
  have a1 := start1 j rfl
  by_cases h : r.val = j
  · rw [if_pos h, dif_pos ⟨⟨le_of_eq (a0.trans h.symm), (le_of_eq h).trans_lt (by rw [a0]; omega)⟩, by rw [a1]; exact Nat.zero_le _⟩]
    refine congrArg (fun i => b7 j s (ix1 i)) (Fin.ext ?_)
    show k.val - Host.clampedStart S8192x1024 S1x1024 rfl (AT j) 1 = k.val
    rw [a1, Nat.sub_zero]
  · rw [if_neg h, dif_neg]
    rintro ⟨⟨q0, q1⟩, _⟩
    rw [a0] at q0 q1
    omega
end

/-- The states of the recurrence. -/
def ITER (s : State Ideal) : ℕ → State Ideal
  | 0 => s
  | n + 1 => step n (ITER s n)

theorem iter_kept (s : State Ideal) (n : ℕ) : (ITER s n).main_v78_0 = s.main_v78_0 ∧ (ITER s n).main_v78_1 = s.main_v78_1 := by
  induction n with
  | zero => exact ⟨rfl, rfl⟩
  | succ n ih => exact ih

theorem iter_carry (s : State Ideal) (k : Fin 1024) (n : ℕ) (hn : n ≤ 8192) :
    (ITER s n).main_v78_3 (ix1 k) = FOLD (colR s.main_v78_0 k) (colR s.main_v78_1 k) 0 n (s.main_v78_3 (ix1 k)) := by
  induction n with
  | zero => rfl
  | succ n ih =>
    refine (show (ITER s (n + 1)).main_v78_3 (ix1 k) = b7 n (ITER s n) (ix1 k) from rfl).trans ?_
    rw [b7_apply _ n (by omega), (iter_kept s n).1, (iter_kept s n).2, ih (by omega)]
    show _ = colR s.main_v78_0 k (0 + n) * _ + colR s.main_v78_1 k (0 + n)
    rw [Nat.zero_add]

theorem iter_rows (s : State Ideal) (r : Fin 8192) (k : Fin 1024) (n : ℕ) (hn : n ≤ 8192) (hr : r.val < n) :
    (ITER s n).main_v78_4 (ix2 r k) = FOLD (colR s.main_v78_0 k) (colR s.main_v78_1 k) 0 (r.val + 1) (s.main_v78_3 (ix1 k)) := by
  induction n with
  | zero => exact absurd hr (Nat.not_lt_zero _)
  | succ n ih =>
    refine (show (ITER s (n + 1)).main_v78_4 (ix2 r k) = b10 n (ITER s n) (ix2 r k) from rfl).trans ?_
    rw [b10_apply _ n (by omega)]
    by_cases h : r.val = n
    · rw [if_pos h, h]
      exact iter_carry s k (n + 1) hn
    · rw [if_neg h, ih (by omega) (by omega)]

section
variable (x0 : FVec Ideal S8192x2048 .f32) (x1 : FVec Ideal S4x1024 .f32) (x2 : FVec Ideal S1024 .f32) (x3 : FVec Ideal S4x256x256 .f32)
  (x4 : FVec Ideal S4x256 .f32) (x5 : FVec Ideal S4x256x256 .f32) (x6 : FVec Ideal S4x256 .f32) (x7 : FVec Ideal S1024 .f32) (r : Fin 8192) (k : Fin 1024)

/-- The row `d` before row `r` of the right half, zero before the first row. -/
def BEF (d : ℕ) : EReal := if h : r.val < d then 0 else x0 (ix2 ⟨r.val - d, by omega⟩ ⟨1024 + k.val, by omega⟩)

/-- The convolved rows. -/
def XC : EReal := x1 (ix2 0 k) * BEF x0 r k 3 + x1 (ix2 1 k) * BEF x0 r k 2 + x1 (ix2 2 k) * BEF x0 r k 1
  + x1 (ix2 3 k) * x0 (ix2 r ⟨1024 + k.val, by omega⟩) + x2 (ix1 k)

theorem v35_apply : A_main_v35 (F := Ideal) x0 x1 x2 x3 x4 x5 x6 x7 (ix2 r k) = XC x0 x1 x2 r k := by
  unfold XC BEF
  pointwise [A_main_v0, A_main_v1, A_main_v2, A_main_v4, A_main_v5, A_main_v6, A_main_v7, A_main_v8, A_main_v9, A_main_v10, A_main_v12, A_main_v13, A_main_v14, A_main_v15, A_main_v16, A_main_v17, A_main_v18, A_main_v19, A_main_v21, A_main_v22, A_main_v23, A_main_v24, A_main_v25, A_main_v26, A_main_v27, A_main_v28, A_main_v29, A_main_v30, A_main_v31, A_main_v32, A_main_v33, A_main_v34, A_main_v35, K_main_cst, K_main_v3, K_main_cst_0, K_main_v11, K_main_cst_1, K_main_v20]

/-- The product of the convolved rows with a gate's weights and its bias. -/
def PRE (w : FVec Ideal S4x256x256 .f32) (b : FVec Ideal S4x256 .f32) : EReal :=
  GATE (fun n e f => w (ix3 n e f)) (fun j => XC x0 x1 x2 r j) k + b (ix2 ⟨k.val / 256, by omega⟩ ⟨k.val % 256, by omega⟩)

theorem v48_apply : A_main_v48 (F := Ideal) x0 x1 x2 x3 x4 x5 x6 x7 (ix2 r k) = SIG (PRE x0 x1 x2 r k x3 x4) := by
  unfold PRE GATE SIG
  simp only [← v35_apply x0 x1 x2 x3 x4 x5 x6 x7]
  pointwise [A_main_v36, A_main_v37, A_main_v38, A_main_v39, A_main_v40, A_main_v41, A_main_v42, A_main_v43, A_main_v45, A_main_v47, A_main_v48, K_main_cst_2, K_main_v44, K_main_cst_3, K_main_v46]

theorem v60_apply : A_main_v60 (F := Ideal) x0 x1 x2 x3 x4 x5 x6 x7 (ix2 r k) = SIG (PRE x0 x1 x2 r k x5 x6) := by
  unfold PRE GATE SIG
  simp only [← v35_apply x0 x1 x2 x3 x4 x5 x6 x7]
  pointwise [A_main_v36, A_main_v49, A_main_v50, A_main_v51, A_main_v52, A_main_v53, A_main_v54, A_main_v55, A_main_v57, A_main_v59, A_main_v60, K_main_cst_4, K_main_v56, K_main_cst_5, K_main_v58]

theorem v67_apply : A_main_v67 (F := Ideal) x0 x1 x2 x3 x4 x5 x6 x7 (ix2 r k) = LOGA (PRE x0 x1 x2 r k x3 x4) (x7 (ix1 k)) := by
  unfold LOGA SP
  rw [← v48_apply x0 x1 x2 x3 x4 x5 x6 x7]
  pointwise [A_main_v62, A_main_v63, A_main_v64, A_main_v65, A_main_v66, A_main_v67, K_main_cst_6, K_main_v61, K_main_call0_cst, K_main_call0_v0, K_main_call0_v2, K_main_call0_v5, A_main_call0_v1, A_main_call0_v3, A_main_call0_v4, A_main_call0_v6, A_main_call0_v7, A_main_call0_v8, A_main_call0_v9, A_main_call0_v10, A_main_call0_v11]
  rw [if_neg fun h => h rfl]
  rfl

theorem v68_apply : A_main_v68 (F := Ideal) x0 x1 x2 x3 x4 x5 x6 x7 (ix2 r k) = Ideal.exp (LOGA (PRE x0 x1 x2 r k x3 x4) (x7 (ix1 k))) := by
  rw [← v67_apply x0 x1 x2 x3 x4 x5 x6 x7]
  pointwise [A_main_v68]

theorem v75_apply : A_main_v75 (F := Ideal) x0 x1 x2 x3 x4 x5 x6 x7 (ix2 r k)
    = GX (SIG (PRE x0 x1 x2 r k x5 x6)) (XC x0 x1 x2 r k) (LOGA (PRE x0 x1 x2 r k x3 x4) (x7 (ix1 k))) := by
  unfold GX
  rw [← v67_apply x0 x1 x2 x3 x4 x5 x6 x7, ← v60_apply x0 x1 x2 x3 x4 x5 x6 x7, ← v35_apply x0 x1 x2 x3 x4 x5 x6 x7]
  pointwise [A_main_v69, A_main_v71, A_main_v72, A_main_v73, A_main_v74, A_main_v75, K_main_cst_7, K_main_v70]
  rw [EReal.neg_sub (.inr (by decide)) (.inr (by decide)), add_comm, ← sub_eq_add_neg]
end

end Cert.Proof.LruIter

end
-- ==== Proof.LruBlock.lean ====
/- One grid step of the gated recurrence: its block of the recurrence, given the rows before it and the state before it. -/
module

public import proofs.«01_k».proof.Proof.LruIter

@[expose] public section

set_option maxRecDepth 16384

noncomputable section

namespace Cert.Proof.LruBlock

open Idealize.ShloMosaic Idealize.ShloMosaic.TcCoe
open Cert.LrufKernelIdeal Cert.LrufKernelIdeal.Gen Cert.Proof.LruScan Cert.Proof.LruGates Cert.Proof.LruIter
open Cert.LrufReferenceIdeal.Step (A_main_v68 A_main_v75)

theorem two_pos : 0 < Ideal.ofBits .f32 0x40000000#32 := by
  have h : (0 : ℝ) < 8388608 * (2 ^ 22)⁻¹ := by positivity
  simp [Ideal.ofBits, Ideal.ieee]
  exact_mod_cast h

theorem cut_neg : Ideal.ofBits .f32 0xBC23D70A#32 < 0 := by
  have h : (0 : ℝ) < 10737418 * (2 ^ 30)⁻¹ := by positivity
  simp [Ideal.ofBits, Ideal.ieee]
  exact_mod_cast h

theorem exp_nonneg (x : EReal) : 0 ≤ Ideal.exp x := by
  induction x with
  | bot => exact le_refl _
  | top => exact le_top
  | coe r => exact EReal.coe_nonneg.mpr (Real.exp_nonneg r)

theorem exp_le_one (x : EReal) (h : x ≤ 0) : Ideal.exp x ≤ 1 := by
  induction x with
  | bot => exact zero_le_one
  | top => exact absurd h (by simp)
  | coe r => exact EReal.coe_le_coe_iff.mpr (Real.exp_le_one_iff.mpr (EReal.coe_nonpos.mp h))

theorem nonpos_of (x : EReal) (h : Ideal.ofBits .f32 0x40000000#32 * x ≤ Ideal.ofBits .f32 0xBC23D70A#32) : x ≤ 0 := by
  by_contra hx
  exact absurd (h.trans_lt cut_neg) (not_lt.mpr (mul_nonneg two_pos.le (not_le.mp hx).le))

/-- The place of a block's row in the whole array. -/
abbrev AT0 (t : ℕ) (ht : t < 32) (r : Fin 256) : Fin 8192 := ⟨256 * t + r.val, by omega⟩

section
variable (x0 : FVec Ideal S8192x2048 .f32) (x1 : FVec Ideal S4x1024 .f32) (x2 : FVec Ideal S1024 .f32) (x3 : FVec Ideal S4x256x256 .f32)
  (x4 : FVec Ideal S4x256 .f32) (x5 : FVec Ideal S4x256x256 .f32) (x6 : FVec Ideal S4x256 .f32) (x7 : FVec Ideal S1024 .f32)
  (i1 : Vec Ideal S256x1024 .f32) (i2 : Vec Ideal S4x1024 .f32) (i3 : Vec Ideal S1x1024 .f32) (i4 : Vec Ideal S4x256x256 .bf16)
  (i5 : Vec Ideal S1x1024 .f32) (i6 : Vec Ideal S4x256x256 .bf16) (i7 i8 : Vec Ideal S1x1024 .f32) (s0 : Vec Ideal S8x1024 .f32) (hr : Vec Ideal S1x1024 .f32)

/-- The decays stay below the point where the kernel changes its formula. -/
def Decays : Prop := ∀ r k, Ideal.ofBits .f32 0x40000000#32 * LOGA (PRE x0 x1 x2 r k x3 x4) (x7 (ix1 k)) ≤ Ideal.ofBits .f32 0xBC23D70A#32

/-- The row `r` of the recurrence started from zero. -/
def REC (n : ℕ) (k : Fin 1024) : EReal :=
  FOLD (colR (A_main_v68 (F := Ideal) x0 x1 x2 x3 x4 x5 x6 x7) k) (colR (A_main_v75 (F := Ideal) x0 x1 x2 x3 x4 x5 x6 x7) k) 0 n 0

/-- The eight rows a grid step keeps for the next one. -/
def Tail (t : ℕ) : Prop := ∀ (i : Fin 8) (k : Fin 1024) (h8 : 256 * t + i.val - 8 < 8192),
  s0 (ix2 i k) = if 256 * t + i.val < 8 then 0 else x0 (ix2 ⟨256 * t + i.val - 8, h8⟩ ⟨1024 + k.val, by omega⟩)

/-- The blocks of a grid step are the arguments' entries. -/
structure Blocks (t : ℕ) (ht : t < 32) : Prop where
  e1 : ∀ r k, i1 (ix2 r k) = x0 (ix2 (AT0 t ht r) ⟨1024 + k.val, by omega⟩)
  e2 : ∀ a k, i2 (ix2 a k) = x1 (ix2 a k)
  e3 : ∀ k, i3 (ix2 0 k) = x2 (ix1 k)
  e4 : ∀ n x y, i4 (ix3 n x y) = x3 (ix3 n x y)
  e5 : ∀ k : Fin 1024, i5 (ix2 0 k) = x4 (ix2 ⟨k.val / 256, by omega⟩ ⟨k.val % 256, by omega⟩)
  e6 : ∀ n x y, i6 (ix3 n x y) = x5 (ix3 n x y)
  e7 : ∀ k : Fin 1024, i7 (ix2 0 k) = x6 (ix2 ⟨k.val / 256, by omega⟩ ⟨k.val % 256, by omega⟩)
  e8 : ∀ k, i8 (ix2 0 k) = x7 (ix1 k)

/-- The recurrence gate's pre-activation. -/
abbrev PB : FVec Ideal S256x1024 .f32 := k0_pay12 i1 i2 (k0_pay6 i1 s0) (k0_pay7 i1 s0) (k0_pay8 i1 s0 i2) (k0_pay9 i3) i5
  (View.ld i4 (Rect.unit ![0, 0, 0] ![1, 256, 256] inb_S4x256x256_S1x256x256_0_0_0)) (View.ld i4 (Rect.unit ![1, 0, 0] ![1, 256, 256] inb_S4x256x256_S1x256x256_1_0_0))
  (View.ld i4 (Rect.unit ![2, 0, 0] ![1, 256, 256] inb_S4x256x256_S1x256x256_2_0_0)) (View.ld i4 (Rect.unit ![3, 0, 0] ![1, 256, 256] inb_S4x256x256_S1x256x256_3_0_0))

/-- The input gate. -/
abbrev IB : FVec Ideal S256x1024 .f32 := k0_pay16 (k0_pay11 i1 i2 (k0_pay6 i1 s0) (k0_pay7 i1 s0) (k0_pay8 i1 s0 i2) (k0_pay9 i3)) (k0_pay13 i7)
  (k0_pay14 i1 i2 (k0_pay6 i1 s0) (k0_pay7 i1 s0) (k0_pay8 i1 s0 i2) (k0_pay9 i3))
  (View.ld i6 (Rect.unit ![0, 0, 0] ![1, 256, 256] inb_S4x256x256_S1x256x256_0_0_0)) (View.ld i6 (Rect.unit ![1, 0, 0] ![1, 256, 256] inb_S4x256x256_S1x256x256_1_0_0))
  (View.ld i6 (Rect.unit ![2, 0, 0] ![1, 256, 256] inb_S4x256x256_S1x256x256_2_0_0)) (View.ld i6 (Rect.unit ![3, 0, 0] ![1, 256, 256] inb_S4x256x256_S1x256x256_3_0_0))

/-- The decays of the block. -/
abbrev AB : FVec Ideal S256x1024 .f32 := k0_pay19 (k0_pay15 i8) (k0_pay17 (PB i1 i2 i3 i4 i5 s0)) (FloatOps.ofBits .f32 0#32)

/-- The inputs of the block's recurrence, each row's state folded into its first step. -/
abbrev XB : FVec Ideal S256x1024 .f32 := k0_pay20 (XCB i1 s0 i2 i3) (k0_pay15 i8) (IB i1 i2 i3 i6 i7 s0) (k0_pay17 (PB i1 i2 i3 i4 i5 s0)) (FloatOps.ofBits .f32 0#32)

/-- The block's rows of the recurrence, from the blocks, the rows before it and the state before it. -/
abbrev HB : FVec Ideal S256x1024 .f32 :=
  k0_pay33 (k0_pay30 (k0_pay23 (AB i1 i2 i3 i4 i5 i8 s0) (XB i1 i2 i3 i4 i5 i6 i7 i8 s0)) (k0_pay24 (AB i1 i2 i3 i4 i5 i8 s0)) k0_pay25
      (k0_pay26 (AB i1 i2 i3 i4 i5 i8 s0) (XB i1 i2 i3 i4 i5 i6 i7 i8 s0)) k0_pay27)
    (k0_pay31 (k0_pay24 (AB i1 i2 i3 i4 i5 i8 s0))) k0_pay32 64#32 hr

variable {x0 x1 x2 x3 x4 x5 x6 x7 i1 i2 i3 i4 i5 i6 i7 i8 s0 hr} {t : ℕ} {ht : t < 32}

theorem tap_eq (b : Blocks x0 x1 x2 x3 x4 x5 x6 x7 i1 i2 i3 i4 i5 i6 i7 i8 t ht) (hs : Tail x0 s0 t) (d : ℕ) (hd : d < 8) (r : Fin 256) (k : Fin 1024) :
    TAP d hd i1 s0 r k = BEF x0 (AT0 t ht r) k d := by
  unfold TAP BEF
  by_cases h : r.val < d
  · rw [dif_pos h, hs _ _ (by show 256 * t + (r.val + 8 - d) - 8 < 8192; omega)]
    by_cases h' : 256 * t + r.val < d
    · rw [dif_pos h', if_pos (by show 256 * t + (r.val + 8 - d) < 8; omega)]
    · rw [dif_neg h', if_neg (by show ¬256 * t + (r.val + 8 - d) < 8; omega)]
      exact congrArg (fun i => x0 (ix2 i _)) (Fin.ext (by show 256 * t + (r.val + 8 - d) - 8 = 256 * t + r.val - d; omega))
  · rw [dif_neg h, dif_neg (by show ¬256 * t + r.val < d; omega), b.e1]
    exact congrArg (fun i => x0 (ix2 i _)) (Fin.ext (by show 256 * t + (r.val - d) = 256 * t + r.val - d; omega))

theorem xc_eq (b : Blocks x0 x1 x2 x3 x4 x5 x6 x7 i1 i2 i3 i4 i5 i6 i7 i8 t ht) (hs : Tail x0 s0 t) (r : Fin 256) (k : Fin 1024) :
    XCB i1 s0 i2 i3 (ix2 r k) = XC x0 x1 x2 (AT0 t ht r) k := by
  rw [xcb_apply, tap_eq b hs, tap_eq b hs, tap_eq b hs, b.e1, b.e2, b.e2, b.e2, b.e2, b.e3]
  rfl

theorem plane (v : Vec Ideal S4x256x256 .bf16) (x : FVec Ideal S4x256x256 .f32) (e : ∀ n p q, v (ix3 n p q) = x (ix3 n p q)) (p q : Fin 256) :
    View.ld v (Rect.unit ![0, 0, 0] ![1, 256, 256] inb_S4x256x256_S1x256x256_0_0_0) (ix3 0 p q) = x (ix3 0 p q)
    ∧ View.ld v (Rect.unit ![1, 0, 0] ![1, 256, 256] inb_S4x256x256_S1x256x256_1_0_0) (ix3 0 p q) = x (ix3 1 p q)
    ∧ View.ld v (Rect.unit ![2, 0, 0] ![1, 256, 256] inb_S4x256x256_S1x256x256_2_0_0) (ix3 0 p q) = x (ix3 2 p q)
    ∧ View.ld v (Rect.unit ![3, 0, 0] ![1, 256, 256] inb_S4x256x256_S1x256x256_3_0_0) (ix3 0 p q) = x (ix3 3 p q) := by
  simp only [← e]
  refine ⟨?_, ?_, ?_, ?_⟩ <;> pointwise

theorem pb_eq (b : Blocks x0 x1 x2 x3 x4 x5 x6 x7 i1 i2 i3 i4 i5 i6 i7 i8 t ht) (hs : Tail x0 s0 t) (r : Fin 256) (k : Fin 1024) :
    PB i1 i2 i3 i4 i5 s0 (ix2 r k) = PRE x0 x1 x2 (AT0 t ht r) k x3 x4 := by
  refine Eq.trans (pay12_apply _ _ _ _ _ _ _ _ _ _ _ (fun n e f => x3 (ix3 n e f)) r k (fun p q => (plane i4 x3 b.e4 p q).1) (fun p q => (plane i4 x3 b.e4 p q).2.1)
    (fun p q => (plane i4 x3 b.e4 p q).2.2.1) (fun p q => (plane i4 x3 b.e4 p q).2.2.2)) ?_
  rw [b.e5]
  simp only [show ∀ j, k0_pay10 i1 i2 (k0_pay6 i1 s0) (k0_pay7 i1 s0) (k0_pay8 i1 s0 i2) (k0_pay9 i3) (ix2 r j) = XC x0 x1 x2 (AT0 t ht r) j from xc_eq b hs r]
  rfl

theorem ib_eq (b : Blocks x0 x1 x2 x3 x4 x5 x6 x7 i1 i2 i3 i4 i5 i6 i7 i8 t ht) (hs : Tail x0 s0 t) (r : Fin 256) (k : Fin 1024) :
    IB i1 i2 i3 i6 i7 s0 (ix2 r k) = SIG (PRE x0 x1 x2 (AT0 t ht r) k x5 x6) := by
  refine Eq.trans (pay16_apply _ _ _ _ _ _ _ _ _ _ _ (fun n e f => x5 (ix3 n e f)) r k (fun p q => (plane i6 x5 b.e6 p q).1) (fun p q => (plane i6 x5 b.e6 p q).2.1)
    (fun p q => (plane i6 x5 b.e6 p q).2.2.1) (fun p q => (plane i6 x5 b.e6 p q).2.2.2)) ?_
  rw [b.e7]
  simp only [show ∀ j, k0_pay10 i1 i2 (k0_pay6 i1 s0) (k0_pay7 i1 s0) (k0_pay8 i1 s0 i2) (k0_pay9 i3) (ix2 r j) = XC x0 x1 x2 (AT0 t ht r) j from xc_eq b hs r]
  rfl

theorem ab_eq (b : Blocks x0 x1 x2 x3 x4 x5 x6 x7 i1 i2 i3 i4 i5 i6 i7 i8 t ht) (hs : Tail x0 s0 t) (r : Fin 256) (k : Fin 1024) :
    AB i1 i2 i3 i4 i5 i8 s0 (ix2 r k) = A_main_v68 (F := Ideal) x0 x1 x2 x3 x4 x5 x6 x7 (ix2 (AT0 t ht r) k) := by
  rw [v68_apply]
  refine (pay19_apply _ _ r k).trans ?_
  rw [pb_eq b hs, b.e8]

/-- The block's rows are the rows of the whole recurrence. -/
theorem hb_eq (b : Blocks x0 x1 x2 x3 x4 x5 x6 x7 i1 i2 i3 i4 i5 i6 i7 i8 t ht) (hs : Tail x0 s0 t) (hd : Decays x0 x1 x2 x3 x4 x7)
    (hh : ∀ k, hr (ix2 0 k) = REC x0 x1 x2 x3 x4 x5 x6 x7 (256 * t) k) (r : Fin 256) (k : Fin 1024) :
    HB i1 i2 i3 i4 i5 i6 i7 i8 s0 hr (ix2 r k) = REC x0 x1 x2 x3 x4 x5 x6 x7 (256 * t + (r.val + 1)) k := by
  have hq : ∀ r : Fin 256, k0_pay18 (k0_pay15 i8) (k0_pay17 (PB i1 i2 i3 i4 i5 s0)) (FloatOps.ofBits .f32 0#32) (ix2 r k)
      = LOGA (PRE x0 x1 x2 (AT0 t ht r) k x3 x4) (x7 (ix1 k)) := fun r => by rw [pay18_apply, pb_eq b hs, b.e8]
  have ha : ∀ r : Fin 256, 0 ≤ AB i1 i2 i3 i4 i5 i8 s0 (ix2 r k) ∧ AB i1 i2 i3 i4 i5 i8 s0 (ix2 r k) ≤ (1 : EReal) := fun r => by
    rw [ab_eq b hs, v68_apply]
    exact ⟨exp_nonneg _, exp_le_one _ (nonpos_of _ (hd _ _))⟩
  have hx : ∀ r : Fin 256, GXB (XCB i1 s0 i2 i3) (IB i1 i2 i3 i6 i7 s0) (k0_pay18 (k0_pay15 i8) (k0_pay17 (PB i1 i2 i3 i4 i5 s0)) (FloatOps.ofBits .f32 0#32)) (ix2 r k)
      = A_main_v75 (F := Ideal) x0 x1 x2 x3 x4 x5 x6 x7 (ix2 (AT0 t ht r) k) := fun r => by
    rw [gxb_apply _ _ _ _ _ (by rw [hq]; exact hd _ _), hq, ib_eq b hs, xc_eq b hs, v75_apply]
  unfold HB
  rw [show XB i1 i2 i3 i4 i5 i6 i7 i8 s0 = DX 1 (AB i1 i2 i3 i4 i5 i8 s0) (GXB (XCB i1 s0 i2 i3) (IB i1 i2 i3 i6 i7 s0)
      (k0_pay18 (k0_pay15 i8) (k0_pay17 (PB i1 i2 i3 i4 i5 s0)) (FloatOps.ofBits .f32 0#32))) from pay20_eq _ _ _ _ _, scan_apply _ _ _ r k ha, hh]
  unfold REC
  rw [fold_add _ _ 0 (256 * t) (r.val + 1)]
  refine fold_congr _ _ _ _ _ _ _ _ fun i hi => ?_
  have hi' : i < 256 := by have := r.isLt; omega
  rw [Nat.zero_add, Nat.zero_add]
  refine ⟨(col_fin _ k ⟨i, hi'⟩).trans ((ab_eq b hs ⟨i, hi'⟩ k).trans ?_), (col_fin _ k ⟨i, hi'⟩).trans ((hx ⟨i, hi'⟩).trans ?_)⟩
  all_goals
    unfold colR
    rw [dif_pos (show 256 * t + i < 8192 by omega)]
end

end Cert.Proof.LruBlock

end
-- ==== Proof.LruRun.lean ====
/- The reference of the gated recurrence ends with its scan's 8192 steps taken from the scan's first state. -/
module

public import proofs.«01_k».proof.Proof.LruIter
public import proofs.«01_k».proof.Proof.Gen.LrufReferenceIdeal.Run

@[expose] public section

set_option maxRecDepth 16384

noncomputable section

namespace Cert.Proof.LruRun

open Idealize.ShloMosaic Idealize.ShloMosaic.TcCoe Idealize.SL.Sem Idealize.ShloMosaic.StableHlo
open Cert.LrufReferenceIdeal Cert.LrufReferenceIdeal.Gen Cert.LrufReferenceIdeal.Value
open Cert.LrufReferenceIdeal.Step (State step init b7 b10 R_main_v94)
open Cert.Proof.LruIter (ITER)

/-- The loop's buffers hold a state of the scan and the number of the next step. -/
structure Reads (V : Valuation τ sig (Elt Ideal)) (s : State Ideal) (j : ℕ) : Prop where
  decay : V (Proc.devRef .tc main_v78_0) = s.main_v78_0
  input : V (Proc.devRef .tc main_v78_1) = s.main_v78_1
  count : V (Proc.devRef .tc main_v78_2) = constantI S_ 32 (BitVec.ofNat 32 j)
  carry : V (Proc.devRef .tc main_v78_3) = s.main_v78_3
  rows : V (Proc.devRef .tc main_v78_4) = s.main_v78_4

variable {V : Valuation τ sig (Elt Ideal)} {s : State Ideal} {j : ℕ} (h : Reads V s j)
include h

theorem next_carry : step_main_v78_3 V = b7 j s := by
  unfold step_main_v78_3 res_main_while0b_v98
  rw [h.decay, h.input, h.count, h.carry]
  rfl

theorem next_rows : step_main_v78_4 V = b10 j s := by
  have e : res_main_while0b_v98 V = b7 j s := next_carry h
  unfold step_main_v78_4
  rw [h.count, h.rows, e]
  rfl

theorem next_count : step_main_v78_2 V = constantI S_ 32 (BitVec.ofNat 32 (j + 1)) := by
  unfold step_main_v78_2
  rw [h.count]
  exact funext fun _ => (BitVec.ofNat_add j 1).symm

theorem reads_next : Reads (STEP V) (step j s) (j + 1) :=
  ⟨(STEP_main_v78_0 V).trans h.decay, (STEP_main_v78_1 V).trans h.input, (STEP_main_v78_2 V).trans (next_count h), (STEP_main_v78_3 V).trans (next_carry h),
    (STEP_main_v78_4 V).trans (next_rows h)⟩

theorem gated (x : FVec Ideal S8192x2048 .f32) (hx : V (Proc.devRef .tc main_arg0) = x) : out_main_v94 V = R_main_v94 s x := by
  unfold out_main_v94 R_main_v94
  rw [h.rows, hx]

omit h
variable (m : (ℓ : Loc nD τ sig) → Buf (Elt Ideal) ℓ) (ρ : Dev nD → PrngReg) (c : Dev nD)

/-- The scan's first state. -/
abbrev START : State Ideal := init (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7))

set_option maxRecDepth 65536 in
set_option maxHeartbeats 1000000 in
theorem reads_first : Reads (entryContents preI m c) (START m c) 0 := by
  constructor
  all_goals
    simp only [entryContents, afterL_cons, afterL_nil]
    after_reads_simp
    rfl

theorem reads_all (n : ℕ) : Reads (STEP^[n] (entryContents preI m c)) (ITER (START m c) n) n := by
  induction n with
  | zero => exact reads_first m c
  | succ n ih =>
    rw [Function.iterate_succ_apply']
    exact reads_next ih

/-- The reference's results. -/
theorem run : θ_run (defs (F := Ideal)) (onTc (τ := τ) (main (F := Ideal))) ⟨m, fun _ => 0, ρ⟩ fun r => ∀ c : Dev nD,
      r.2.mem ((c.tc : Thread nD τ).loc main_v94) = R_main_v94 (ITER (START m c) 8192) (m ((c.tc : Thread nD τ).loc main_arg0))
      ∧ r.2.mem ((c.tc : Thread nD τ).loc main_v78_4) = (ITER (START m c) 8192).main_v78_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (gated (reads_all m c 8192) _ (iter_main_arg0 m c 8192)), (h c).2.1.trans (reads_all m c 8192).rows, (h c).2.2⟩)
    (Value.run m ρ)

end Cert.Proof.LruRun

end
-- ==== Proof.LrufValue.lean ====
/- The gated recurrence's forward kernel computes the reference's scan: the grid carries the last rows and the last state from block to block. -/
module

public import proofs.«01_k».proof.Defs
public import proofs.«01_k».proof.Proof.LruBlock
public import proofs.«01_k».proof.Proof.Gen.LrufKernelIdeal.Value
public import proofs.«01_k».proof.Proof.LruRun
public import Idealize.ShloMosaic.Lib.Pipeline.ValueKit
public import Idealize.ShloMosaic.Lib.Pipeline.ReadBack

@[expose] public section

set_option maxRecDepth 16384

noncomputable section

namespace Cert.Proof.LrufValue

open Idealize.ShloMosaic Idealize.ShloMosaic.TcCoe Idealize.SL.Sem
open Cert.LrufKernelIdeal Cert.LrufKernelIdeal.Gen Cert.LrufKernelIdeal.Value
open Cert.Proof.LruScan Cert.Proof.LruGates Cert.Proof.LruIter Cert.Proof.LruBlock
open Cert.LrufReferenceIdeal.Step (R_main_v94 init step)

variable (m : (ℓ : Loc nD τ sig) → Buf (Elt Ideal) ℓ) (c : Dev nD) (t : Fin cfg0.N)

/-- What a grid step leaves: its block of the gated output, its block of the recurrence, its last rows and its last states. -/
def OUT (i0 i1 : Vec Ideal S256x1024 .f32) (i2 : Vec Ideal S4x1024 .f32) (i3 : Vec Ideal S1x1024 .f32) (i4 : Vec Ideal S4x256x256 .bf16)
    (i5 : Vec Ideal S1x1024 .f32) (i6 : Vec Ideal S4x256x256 .bf16) (i7 i8 : Vec Ideal S1x1024 .f32) (s0 : Vec Ideal S8x1024 .f32) (hr : Vec Ideal S1x1024 .f32) :
    Vec Ideal S256x1024 .bf16 × Vec Ideal S256x1024 .f32 × Vec Ideal S8x1024 .f32 × Vec Ideal S8x1024 .f32 :=
  ⟨k0_pay1 (HB i1 i2 i3 i4 i5 i6 i7 i8 s0 hr) (k0_pay34 i0) (k0_pay35 i0) (FloatOps.ofBits .f32 0x3F800000#32), HB i1 i2 i3 i4 i5 i6 i7 i8 s0 hr, k0_pay2 i1,
    k0_pay3 (HB i1 i2 i3 i4 i5 i6 i7 i8 s0 hr)⟩

/-- The last of the eight kept rows. -/
abbrev LASTROW (v : Vec Ideal S8x1024 .f32) : Vec Ideal S1x1024 .f32 := View.ld v (Rect.unit (s := S8x1024) ![7, 0] ![1, 1024] inb_S8x1024_S1x1024_7_0)

/-- The grid step's results from the rows `s0` before its block and the state `hr` before its first row. -/
abbrev OUTS (s0 : Vec Ideal S8x1024 .f32) (hr : Vec Ideal S1x1024 .f32) := OUT (iblk m c 0 t) (iblk m c 1 t) (iblk m c 2 t) (iblk m c 3 t) (iblk m c 4 t)
  (iblk m c 5 t) (iblk m c 6 t) (iblk m c 7 t) (iblk m c 8 t) s0 hr

theorem outs_B (h0 : ¬t.val % 32 = 0) : outsAt0 m c t.val t.isLt
    = OUTS m c t (outsAt0 m c (t.val - 1) (Nat.lt_of_le_of_lt (Nat.sub_le _ _) t.isLt)).2.2.1
      (LASTROW (outsAt0 m c (t.val - 1) (Nat.lt_of_le_of_lt (Nat.sub_le _ _) t.isLt)).2.2.2) := by
  refine (outsAt0_B m c t h0).trans ?_
  unfold OUTS
  generalize (outsAt0 m c (t.val - 1) (Nat.lt_of_le_of_lt (Nat.sub_le _ _) t.isLt)).2.2.1 = s0
  generalize (outsAt0 m c (t.val - 1) (Nat.lt_of_le_of_lt (Nat.sub_le _ _) t.isLt)).2.2.2 = s1
  generalize iblk m c 0 t = i0
  generalize iblk m c 1 t = i1
  generalize iblk m c 2 t = i2
  generalize iblk m c 3 t = i3
  generalize iblk m c 4 t = i4
  generalize iblk m c 5 t = i5
  generalize iblk m c 6 t = i6
  generalize iblk m c 7 t = i7
  generalize iblk m c 8 t = i8
  unfold OUT
  refine Prod.ext ?_ (Prod.ext ?_ (Prod.ext ?_ ?_))
  · frame_out
    simp only [read_unread_whole]
  · frame_out
    simp only [read_unread_whole]
  · frame_out
  · frame_out
    simp only [read_unread_whole]

/-- The zero row a first grid step reads. -/
def ZROW : Vec Ideal S1x1024 .f32 := LASTROW (k0_pay5 (F := Ideal))

theorem outs_A (h0 : t.val % 32 = 0) : outsAt0 m c t.val t.isLt = OUTS m c t (k0_pay4 (F := Ideal)) ZROW := by
  refine (outsAt0_A m c t h0).trans ?_
  unfold OUTS
  generalize iblk m c 0 t = i0
  generalize iblk m c 1 t = i1
  generalize iblk m c 2 t = i2
  generalize iblk m c 3 t = i3
  generalize iblk m c 4 t = i4
  generalize iblk m c 5 t = i5
  generalize iblk m c 6 t = i6
  generalize iblk m c 7 t = i7
  generalize iblk m c 8 t = i8
  unfold OUT ZROW
  refine Prod.ext ?_ (Prod.ext ?_ (Prod.ext ?_ ?_))
  · frame_out
    rw [View.readCov_fill _ _ _ _ _ (by decide)]
  · frame_out
    rw [View.readCov_fill _ _ _ _ _ (by decide)]
  · frame_out
  · frame_out
    rw [View.readCov_fill _ _ _ _ _ (by decide)]

theorem idx : ∀ t : Fin cfg0.N, win0_0.index t = ![t.val, 0] ∧ win0_1.index t = ![t.val, 1] ∧ win0_2.index t = ![0, 0] ∧ win0_3.index t = ![0, 0]
      ∧ win0_4.index t = ![0, 0, 0] ∧ win0_5.index t = ![0, 0] ∧ win0_6.index t = ![0, 0, 0] ∧ win0_7.index t = ![0, 0] ∧ win0_8.index t = ![0, 0]
      ∧ win0_9.index t = ![t.val, 0] ∧ win0_10.index t = ![t.val, 0] :=
  (by decide +kernel : ∀ t : Fin grid0.N, win0_0.index t = ![t.val, 0] ∧ win0_1.index t = ![t.val, 1] ∧ win0_2.index t = ![0, 0] ∧ win0_3.index t = ![0, 0]
      ∧ win0_4.index t = ![0, 0, 0] ∧ win0_5.index t = ![0, 0] ∧ win0_6.index t = ![0, 0, 0] ∧ win0_7.index t = ![0, 0] ∧ win0_8.index t = ![0, 0]
      ∧ win0_9.index t = ![t.val, 0] ∧ win0_10.index t = ![t.val, 0])

/-- A grid step's number. -/
theorem few : t.val < 32 := t.isLt

theorem left_at (r : Fin 256) (k : Fin 1024) : iblk m c 0 t (ix2 r k) = m ((c : Thread nD τ).loc main_arg0) (ix2 (AT0 t.val (few t) r) ⟨k.val, by omega⟩) := by
  have := few t
  blk_point [iblk, V, idx t]

theorem blocks : Blocks (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (iblk m c 1 t) (iblk m c 2 t) (iblk m c 3 t) (iblk m c 4 t) (iblk m c 5 t) (iblk m c 6 t) (iblk m c 7 t) (iblk m c 8 t) t.val (few t) := by
  have := few t
  constructor
  · intro r k
    blk_point [iblk, V, idx t]
  · intro a k
    blk_point [iblk, V, idx t]
  · intro k
    blk_point [iblk, V, idx t]
  · intro n x y
    blk_point [iblk, V, idx t]
  · intro k
    blk_point [iblk, V, idx t]
  · intro n x y
    blk_point [iblk, V, idx t]
  · intro k
    blk_point [iblk, V, idx t]
  · intro k
    blk_point [iblk, V, idx t]

/-- The recurrence's row over a core's arguments. -/
abbrev RECM (n : ℕ) (k : Fin 1024) : EReal := REC (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) n k

/-- The decays of a core's arguments stay below the point where the kernel changes its formula. -/
abbrev DEC : Prop := Decays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg7))

theorem last_rows (v : Vec Ideal S256x1024 .f32) (i : Fin 8) (k : Fin 1024) : k0_pay2 v (ix2 i k) = v (ix2 ⟨248 + i.val, by omega⟩ k) := by
  pointwise [k0_pay2]

theorem last_state (v : FVec Ideal S256x1024 .f32) (k : Fin 1024) :
    LASTROW (k0_pay3 v) (ix2 0 k) = v (ix2 255 k) := by
  pointwise [LASTROW, k0_pay3]

theorem zero_row (k : Fin 1024) : ZROW (ix2 0 k) = 0 := by
  pointwise [ZROW, LASTROW, k0_pay5]

theorem zero_rows (i : Fin 8) (k : Fin 1024) : k0_pay4 (F := Ideal) (ix2 i k) = 0 := by
  pointwise [k0_pay4]

section
variable (s0 : Vec Ideal S8x1024 .f32) (hr : Vec Ideal S1x1024 .f32) (o : Vec Ideal S256x1024 .bf16 × Vec Ideal S256x1024 .f32 × Vec Ideal S8x1024 .f32 × Vec Ideal S8x1024 .f32)
  (e : o = OUTS m c t s0 hr)
include e

theorem tail_next (i : Fin 8) (k : Fin 1024) (h8 : 256 * t.val + 256 + i.val - 8 < 8192) :
    o.2.2.1 (ix2 i k) = m ((c : Thread nD τ).loc main_arg0) (ix2 ⟨256 * t.val + 256 + i.val - 8, h8⟩ ⟨1024 + k.val, by omega⟩) := by
  have q : o.2.2.1 = k0_pay2 (iblk m c 1 t) := by rw [e]; rfl
  rw [q, last_rows, (blocks m c t).e1]
  exact congrArg (fun i => m ((c : Thread nD τ).loc main_arg0) (ix2 i _)) (Fin.ext (by show 256 * t.val + (248 + i.val) = 256 * t.val + 256 + i.val - 8; omega))

theorem state_next (hd : DEC m c) (hs : Tail (m ((c : Thread nD τ).loc main_arg0)) s0 t.val) (hh : ∀ k, hr (ix2 0 k) = RECM m c (256 * t.val) k) (k : Fin 1024) :
    LASTROW o.2.2.2 (ix2 0 k) = RECM m c (256 * (t.val + 1)) k := by
  have q : o.2.2.2 = k0_pay3 (HB (iblk m c 1 t) (iblk m c 2 t) (iblk m c 3 t) (iblk m c 4 t) (iblk m c 5 t) (iblk m c 6 t) (iblk m c 7 t) (iblk m c 8 t) s0 hr) := by
    rw [e]; rfl
  rw [q, last_state]
  exact hb_eq (blocks m c t) hs hd hh 255 k
end

/-- Every grid step starts from the rows before its block and the recurrence's state there. -/
theorem starts (hd : DEC m c) : ∀ (n : ℕ) (hn : n < cfg0.N), ∃ s0 hr, outsAt0 m c n hn = OUTS m c ⟨n, hn⟩ s0 hr
    ∧ Tail (m ((c : Thread nD τ).loc main_arg0)) s0 n ∧ ∀ k, hr (ix2 0 k) = RECM m c (256 * n) k := by
  intro n
  induction n with
  | zero =>
    intro hn
    refine ⟨_, _, outs_A m c ⟨0, hn⟩ rfl, fun i k h8 => ?_, fun k => zero_row k⟩
    rw [if_pos (by omega)]
    exact zero_rows i k
  | succ n ih =>
    intro hn
    have hN : n + 1 < 32 := hn
    obtain ⟨s0, hr, e, hs, hh⟩ := ih (Nat.lt_of_succ_lt hn)
    refine ⟨_, _, outs_B m c ⟨n + 1, hn⟩ (by show ¬(n + 1) % 32 = 0; omega), fun i k h8 => ?_, fun k => ?_⟩
    · have h8' : 256 * (⟨n, Nat.lt_of_succ_lt hn⟩ : Fin cfg0.N).val + 256 + i.val - 8 < 8192 := by show 256 * n + 256 + i.val - 8 < 8192; omega
      refine (tail_next m c ⟨n, Nat.lt_of_succ_lt hn⟩ s0 hr _ e i k h8').trans ?_
      rw [if_neg (by omega)]
      exact congrArg (fun i => m ((c : Thread nD τ).loc main_arg0) (ix2 i _)) (Fin.ext (by show 256 * n + 256 + i.val - 8 = 256 * (n + 1) + i.val - 8; omega))
    · exact state_next m c ⟨n, Nat.lt_of_succ_lt hn⟩ s0 hr _ e hd hs hh k

/-- The recurrence's rows as the reference's scan leaves them. -/
def ROWS (x0 : FVec Ideal S8192x2048 .f32) (x1 : FVec Ideal S4x1024 .f32) (x2 : FVec Ideal S1024 .f32) (x3 : FVec Ideal S4x256x256 .f32)
    (x4 : FVec Ideal S4x256 .f32) (x5 : FVec Ideal S4x256x256 .f32) (x6 : FVec Ideal S4x256 .f32) (x7 : FVec Ideal S1024 .f32) : Cert.LrufReferenceIdeal.Step.State Ideal :=
  ITER (init x0 x1 x2 x3 x4 x5 x6 x7) 8192

/-- The scan's last state over a core's arguments. -/
abbrev ROWSM := ROWS (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))

theorem rows_eq (r : Fin 8192) (k : Fin 1024) : (ROWSM m c).main_v78_4 (ix2 r k) = RECM m c (r.val + 1) k := by
  refine (iter_rows _ r k 8192 (le_refl _) r.isLt).trans ?_
  refine congrArg (FOLD _ _ 0 _) ?_
  show Cert.LrufReferenceIdeal.Step.K_main_v76 (F := Ideal) (ix1 k) = 0
  pointwise [Cert.LrufReferenceIdeal.Step.K_main_v76, Cert.LrufReferenceIdeal.Step.K_main_cst_8]

theorem point10 (hd : DEC m c) (r : Fin 256) (k : Fin 1024) : (outsAt0 m c t.val t.isLt).2.1 (ix2 r k) = (ROWSM m c).main_v78_4 (ix2 (AT0 t.val (few t) r) k) := by
  obtain ⟨s0, hr, e, hs, hh⟩ := starts m c hd t.val t.isLt
  rw [e, rows_eq]
  exact hb_eq (blocks m c t) hs hd hh r k

theorem final10 (hd : DEC m c) : (dats m 0 c).arrAt 10 (cfgs 0).N = (ROWSM m c).main_v78_4 := by
  refine (dats m 0 c).arrAt_eq_of_covers 10 _ (by decide +kernel) fun t _ y => ?_
  refine (congrFun (flushed10 m c t) y).trans ?_
  blk_simp
  change S256x1024.Idx at y
  idx_vars y
  have := few t
  have e : ((cfg0.win 10).blk t).view.emb (ix2 y0 y1) = (ix2 (AT0 t.val (few t) y0) y1 : S8192x1024.Idx) := by
    blk_ext [idx t, AT0]
  rw [e]
  exact point10 m c t hd y0 y1

/-- The gated output's cell. -/
def GATED (x h : EReal) : EReal := Ideal.ofBits .f32 0x3F000000#32 * x * (1 + Ideal.tanh (Ideal.ofBits .f32 0x3F4C422A#32 * (x + Ideal.ofBits .f32 0x3D372713#32 * (x * x * x)))) * h

theorem ker_gated (x h : FVec Ideal S256x1024 .f32) (r : Fin 256) (k : Fin 1024) :
    k0_pay1 h (k0_pay34 x) (k0_pay35 x) (FloatOps.ofBits .f32 0x3F800000#32) (ix2 r k) = GATED (x (ix2 r k)) (h (ix2 r k)) := by
  unfold GATED
  pointwise [k0_pay1, k0_pay34, k0_pay35]

theorem ref_gated (s : Cert.LrufReferenceIdeal.Step.State Ideal) (x : FVec Ideal S8192x2048 .f32) (r : Fin 8192) (k : Fin 1024) :
    R_main_v94 s x (ix2 r k) = GATED (x (ix2 r ⟨k.val, by omega⟩)) (s.main_v78_4 (ix2 r k)) := by
  unfold GATED
  rw [mul_comm (Ideal.ofBits .f32 0x3F000000#32), mul_assoc (x _)]
  pointwise [R_main_v94]

theorem final9 (hd : DEC m c) : (dats m 0 c).arrAt 9 (cfgs 0).N = R_main_v94 (ROWSM m c) (m ((c : Thread nD τ).loc main_arg0)) := by
  refine (dats m 0 c).arrAt_eq_of_covers 9 _ (by decide +kernel) fun t _ y => ?_
  refine (congrFun (flushed9 m c t) y).trans ?_
  blk_simp
  change S256x1024.Idx at y
  idx_vars y
  have := few t
  have e : ((cfg0.win 9).blk t).view.emb (ix2 y0 y1) = (ix2 (AT0 t.val (few t) y0) y1 : S8192x1024.Idx) := by
    blk_ext [idx t, AT0]
  rw [e, ref_gated, ← point10 m c t hd, ← left_at m c t]
  obtain ⟨s0, hr, e, -⟩ := starts m c hd t.val t.isLt
  rw [e]
  exact ker_gated _ _ y0 y1

theorem pre_facts : Cert.Pre_lru_decays.Facts where
  slices_S8192x2048_S8192x1024_0_1024 := by decide
  slices_S4x1024_S1x1024_0_0 := by decide
  shapeCasts_S1x1024_S1024 := by decide
  bcast_S_S3x1024 := by decide
  slices_S8192x1024_S8189x1024_0_0 := by decide
  concatenates_S3x1024_S8189x1024_S8192x1024_d0 := by decide
  bcast_S1024_S1x1024_1 := by decide
  bcast_S1x1024_S8192x1024_0_1 := by decide
  slices_S4x1024_S1x1024_1_0 := by decide
  bcast_S_S2x1024 := by decide
  slices_S8192x1024_S8190x1024_0_0 := by decide
  concatenates_S2x1024_S8190x1024_S8192x1024_d0 := by decide
  slices_S4x1024_S1x1024_2_0 := by decide
  bcast_S_S1x1024 := by decide
  slices_S8192x1024_S8191x1024_0_0 := by decide
  concatenates_S1x1024_S8191x1024_S8192x1024_d0 := by decide
  slices_S4x1024_S1x1024_3_0 := by decide
  shapeCasts_S8192x1024_S8192x4x256 := by decide
  transposes_S4x256x8192_S8192x4x256_2_0_1 := by decide
  bcast_S4x256_S1x4x256_1_2 := by decide
  bcast_S1x4x256_S8192x4x256_0_1_2 := by decide
  bcast_S_S8192x4x256 := by decide
  shapeCasts_S8192x4x256_S8192x1024 := by decide
  bcast_S_S8192x1024 := by decide
  bcast_S_S1024 := by decide
  dot_S4x256x256_S8192x4x256_S4x256x8192_1_2_2_0_0_1_wf := by decide

theorem decays [Cert.Pre_lru_decays.Facts] {x0 : FVec Ideal S8192x2048 .f32} {x1 : FVec Ideal S4x1024 .f32} {x2 : FVec Ideal S1024 .f32} {x3 : FVec Ideal S4x256x256 .f32}
    {x4 : FVec Ideal S4x256 .f32} {x5 : FVec Ideal S4x256x256 .f32} {x6 : FVec Ideal S4x256 .f32} {x7 : FVec Ideal S1024 .f32}
    (h : Cert.Pre_lru_decays.fn (F := Ideal) x0 x1 x2 x3 x4 x5 x6 x7 = fun _ => 1#1) : Decays x0 x1 x2 x3 x4 x7 := fun r k => by
  have e : Cert.Pre_lru_decays.fn (F := Ideal) x0 x1 x2 x3 x4 x5 x6 x7 (ix2 r k)
      = FloatOps.cmpf (F := Ideal) (φ := .f32) .ole (Ideal.ofBits .f32 0x40000000#32 * Cert.LrufReferenceIdeal.Step.A_main_v67 (F := Ideal) x0 x1 x2 x3 x4 x5 x6 x7 (ix2 r k)) (Ideal.ofBits .f32 0xBC23D70A#32) := rfl
  have h' := e.symm.trans (congrFun h (ix2 r k))
  rw [v67_apply] at h'
  by_contra hn
  rw [show FloatOps.cmpf (F := Ideal) (φ := .f32) .ole _ _ = 0#1 from congrArg BitVec.ofBool (decide_eq_false hn)] at h'
  exact absurd h' (by decide)

theorem reference_frame : Cert.quiescent_LrufReferenceIdeal := fun m ρ _ =>
  (θ_run Cert.LrufReferenceIdeal.defs _ _).mono (fun r h => ⟨fun c => (h c).2.2, Idealize.ShloMosaic.sem_eq_zero_of_no_sems (by decide) r.2⟩) (LruRun.run m ρ)

theorem algebraic : Cert.algebraic_LrufKernelIdeal_LrufReferenceIdeal_pre_lru_decays (hLrufKernelIdeal := Cert.LrufKernelIdeal.Gen.facts)
    (hLrufReferenceIdeal := Cert.LrufReferenceIdeal.Gen.facts) (hPre_lru_decays := pre_facts) := by
  intro m g m' g' hp hag
  have hd : ∀ c : Dev nD, DEC m c := fun c => @decays pre_facts _ _ _ _ _ _ _ _ (hp c)
  refine ⟨_, _, (θ_run _ _ _).mono (fun _ h c => ⟨(h c).1.trans (final9 m c (hd c)), (h c).2.1.trans (final10 m c (hd c)), (h c).2.2⟩) (run_blocks m g),
    (θ_run _ _ _).mono (fun r h c => ?_) (LruRun.run m' g')⟩
  obtain ⟨h0, h1, h2, h3, h4, h5, h6, h7⟩ := hag c
  have e : LruRun.START m' c = init (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
    unfold LruRun.START
    rw [h0, h1, h2, h3, h4, h5, h6, h7]
  refine ⟨(h c).1.trans ?_, (h c).2.1.trans ?_, (h c).2.2⟩
  · rw [e, h0]
    rfl
  · rw [e]
    rfl

end Cert.Proof.LrufValue

end
-- ==== Proof.DwinValue.lean ====
/- The gradient of the feed-forward block's first weight: the sum over the rows, taken in four parts in the block kept from
   one grid step to the next, is the plain sum. -/
module

public import proofs.«01_k».proof.Proof.Gen.DwinKernelIdeal.Value
public import proofs.«01_k».proof.Proof.Gen.DwinReferenceIdeal.Run
public import proofs.«01_k».proof.Proof.Gen.DwinReferenceIdeal.Read
public import proofs.«01_k».proof.Proof.Norm
public import proofs.«01_k».proof.Defs
public import Idealize.ShloMosaic.Lib.Claim
public import Idealize.ShloMosaic.Adequacy
public import Idealize.ShloMosaic.Lib.Pipeline.ValueKit
public import Idealize.ShloMosaic.Lib.Pointwise

@[expose] public section

set_option maxRecDepth 16384
set_option maxHeartbeats 1000000

noncomputable section

namespace Cert.Proof.DwinValue

open Idealize.ShloMosaic Idealize.ShloMosaic.TcCoe Idealize.SL.Sem
open Cert.DwinKernelIdeal Cert.DwinKernelIdeal.Gen Cert.Proof.Norm

section
open Cert.DwinReferenceIdeal.Read

variable (x : FVec Ideal S8192x1024 .f32) (g : FVec Ideal S1024 .f32) (d u : FVec Ideal S8192x2816 .f32)

/-- An entry of the two halves' cotangents side by side. -/
def SIDE (l : Fin 8192) (k : Fin 5632) : EReal := if h : k.val < 2816 then d (ix2 l ⟨k.val, h⟩) else u (ix2 l ⟨k.val - 2816, by omega⟩)

/-- What a row adds to an entry of the weight's gradient. -/
def TERM (r : Fin 1024) (k : Fin 5632) (l : Fin 8192) : EReal := val_main_v12 (F := Ideal) x g (ix2 l r) * SIDE d u l k

theorem ref_apply (r : Fin 1024) (k : Fin 5632) : val_main_v18 (F := Ideal) x g d u (ix2 r k) = ∑ l, TERM x g d u r k l := by
  have e : idx_main_v18 (ix2 r k) = ix2 k r := by funext a; fin_cases a <;> rfl
  have e1 : ∀ q, lidx_main_v17 (ix2 k r) q = ix2 q k := fun q => by funext a; fin_cases a <;> rfl
  have e2 : ∀ q, ridx_main_v17 (ix2 k r) q = ix2 q r := fun q => by funext a; fin_cases a <;> rfl
  rw [val_main_v18_apply, e, val_main_v17_apply]
  simp only [e1, e2]
  refine Finset.sum_congr rfl fun l _ => (mul_comm _ _).trans (congrArg _ ?_)
  unfold SIDE
  pointwise [val_main_v16]
end

theorem part_apply (a : Vec Ideal S2048x1024 .bf16) (b : Vec Ideal S1x2048x1408 .bf16) (r : Fin 1024) (k : Fin 1408) :
    k0_pay2 (F := Ideal) a b (ix2 r k) = ∑ l : Fin 2048, a (ix2 l r) * b (ix3 0 l k) := by
  pointwise [k0_pay2, k0_pay1]

theorem both_apply (a : Vec Ideal S2048x1024 .bf16) (b : Vec Ideal S1x2048x1408 .bf16) (z : Vec Ideal S1024x1408 .f32) (r : Fin 1024) (k : Fin 1408) :
    k0_pay3 (F := Ideal) a b z (ix2 r k) = z (ix2 r k) + k0_pay2 (F := Ideal) a b (ix2 r k) := by
  rw [part_apply]
  pointwise [k0_pay3, k0_pay1]

variable (m : (ℓ : Loc nD τ sig) → Buf (Elt Ideal) ℓ) (c : Dev nD)

theorem idx : ∀ t : Fin cfg0.N, win0_0.index t = ![t.val % 4, 0] ∧ win0_1.index t = ![t.val / 8, t.val % 4, t.val / 4 % 2] ∧ win0_2.index t = ![0, t.val / 4] :=
  (by decide +kernel : ∀ t : Fin grid0.N, win0_0.index t = ![t.val % 4, 0] ∧ win0_1.index t = ![t.val / 8, t.val % 4, t.val / 4 % 2] ∧ win0_2.index t = ![0, t.val / 4])

theorem last : ∀ t : Fin cfg0.N, (cfg0.win 2).flush t = true → t.val % 4 = 3 :=
  (by decide +kernel : ∀ t : Fin grid0.N, (cfg0.win 2).flush t = true → t.val % 4 = 3)

/-- What the launch stages of the normalised rows. -/
theorem rows : V m c main_v13
    = (truncf .bf16 (Cert.DwinReferenceIdeal.Read.val_main_v12 (F := Ideal) (m ((c : Thread nD τ).loc main_arg0)) (m ((c : Thread nD τ).loc main_arg1)) : FVec Ideal S8192x1024 .f32) bitsLt_bf16_f32 : FVec Ideal S8192x1024 .bf16) := rfl

/-- What the launch stages of the two halves' cotangents: the two, one behind the other. -/
theorem stacked : V m c main_v17
    = truncf .bf16 (concatenate S2x8192x2816 0 [⟨S1x8192x2816, broadcastInDim S1x8192x2816 ![1, 2] bcast_S8192x2816_S1x8192x2816_1_2 (m ((c : Thread nD τ).loc main_arg3))⟩,
        ⟨S1x8192x2816, broadcastInDim S1x8192x2816 ![1, 2] bcast_S8192x2816_S1x8192x2816_1_2 (m ((c : Thread nD τ).loc main_arg4))⟩] concatenates_S1x8192x2816_S1x8192x2816_S2x8192x2816_d0 : FVec Ideal S2x8192x2816 .f32) bitsLt_bf16_f32 := rfl

/-- An entry's terms, of the arguments. -/
abbrev AT (r : Fin 1024) (k : Fin 5632) : Fin 8192 → EReal :=
  TERM (m ((c : Thread nD τ).loc main_arg0)) (m ((c : Thread nD τ).loc main_arg1)) (m ((c : Thread nD τ).loc main_arg3)) (m ((c : Thread nD τ).loc main_arg4)) r k

theorem part_at (t : Fin cfg0.N) (r : Fin 1024) (k : Fin 1408) (h : t.val / 4 * 1408 + k.val < 5632) :
    k0_pay2 (F := Ideal) (iblk m c 0 t) (iblk m c 1 t) (ix2 r k) = ∑ l : Fin 2048, pad (AT m c r ⟨t.val / 4 * 1408 + k.val, h⟩) (t.val % 4 * 2048 + l.val) := by
  have ht : t.val < 16 := t.isLt
  rw [part_apply]
  refine Finset.sum_congr rfl fun l _ => ?_
  have hl : t.val % 4 * 2048 + l.val < 8192 := by omega
  rw [pad_of hl]
  unfold AT TERM
  refine congrArg₂ (· * ·) ?_ ?_
  · have e : ((cfg0.win 0).blk t).view.emb (ix2 l r) = (ix2 ⟨t.val % 4 * 2048 + l.val, hl⟩ r : S8192x1024.Idx) := by
      blk_ext [idx t]
    refine (congrArg (V m c main_v13) e).trans ?_
    rw [rows]
    rfl
  · have hk : t.val / 4 % 2 * 1408 + k.val < 2816 := by omega
    have e : ((cfg0.win 1).blk t).view.emb (ix3 0 l k) = (ix3 ⟨t.val / 8, by omega⟩ ⟨t.val % 4 * 2048 + l.val, hl⟩ ⟨t.val / 4 % 2 * 1408 + k.val, hk⟩ : S2x8192x2816.Idx) := by
      blk_ext [idx t]
    refine (congrArg (V m c main_v17) e).trans ?_
    rw [stacked]
    unfold SIDE
    pointwise
    by_cases h1 : t.val / 8 < 1
    · rw [dif_pos h1, dif_pos (show t.val / 4 * 1408 + k.val < 2816 by omega)]
      exact congrArg _ (congrArg (ix2 _) (Fin.ext (by show t.val / 4 % 2 * 1408 + k.val = t.val / 4 * 1408 + k.val; omega)))
    · rw [dif_neg h1, dif_neg (show ¬ t.val / 4 * 1408 + k.val < 2816 by omega)]
      exact congrArg _ (congrArg (ix2 _) (Fin.ext (by show t.val / 4 % 2 * 1408 + k.val = t.val / 4 * 1408 + k.val - 2816; omega)))

/-- The sum over the rows of the parts up to a grid step's. -/
def SUMS (n : ℕ) (r : Fin 1024) (k : Fin 1408) : EReal :=
  ∑ l ∈ Finset.range ((n % 4 + 1) * 2048), pad (if h : n / 4 * 1408 + k.val < 5632 then AT m c r ⟨n / 4 * 1408 + k.val, h⟩ else 0) l

theorem sums_of (t : Fin cfg0.N) (r : Fin 1024) (k : Fin 1408) :
    SUMS m c t.val r k = (if t.val % 4 = 0 then 0 else SUMS m c (t.val - 1) r k) + k0_pay2 (F := Ideal) (iblk m c 0 t) (iblk m c 1 t) (ix2 r k) := by
  have ht : t.val < 16 := t.isLt
  have h : t.val / 4 * 1408 + k.val < 5632 := by omega
  rw [part_at m c t r k h, SUMS, sum_block, dif_pos h]
  congr 1
  by_cases h0 : t.val % 4 = 0
  · rw [if_pos h0, h0, Nat.zero_mul, Finset.range_zero, Finset.sum_empty]
  · rw [if_neg h0, SUMS, show (t.val - 1) % 4 + 1 = t.val % 4 by omega]
    simp only [show (t.val - 1) / 4 = t.val / 4 by omega]
    rw [dif_pos h]

/-- What the scratch holds after each grid step. -/
theorem held (r : Fin 1024) (k : Fin 1408) : ∀ (n : ℕ) (hn : n < cfg0.N), (outsAt0 m c n hn).2 (ix2 r k) = SUMS m c n r k := by
  intro n
  induction n with
  | zero =>
    intro hn
    refine (congrArg (fun p => p.2 (ix2 r k)) (outsAt0_A m c ⟨0, hn⟩ rfl (by simp) (by simp))).trans ?_
    frame_out
    have hs := sums_of m c ⟨0, hn⟩ r k
    rw [if_pos (show (⟨0, hn⟩ : Fin cfg0.N).val % 4 = 0 from rfl), zero_add] at hs
    exact hs.symm
  | succ n ih =>
    intro hn
    have hs := sums_of m c ⟨n + 1, hn⟩ r k
    by_cases h0 : (n + 1) % 4 = 0
    · refine (congrArg (fun p => p.2 (ix2 r k)) (outsAt0_A m c ⟨n + 1, hn⟩ h0 (by show ¬1 ≤ (n + 1) % 4; omega) (by show ¬(n + 1) % 4 = 3; omega))).trans ?_
      rw [if_pos h0, zero_add] at hs
      frame_out
      exact hs.symm
    · rw [if_neg h0] at hs
      refine Eq.trans ?_ hs.symm
      have hp : (outsAt0 m c n (by omega)).2 (ix2 r k) = SUMS m c (n + 1 - 1) r k := ih (by omega)
      by_cases h3 : (n + 1) % 4 = 3
      · refine (congrArg (fun p => p.2 (ix2 r k)) (outsAt0_C m c ⟨n + 1, hn⟩ h0 (by show 1 ≤ (n + 1) % 4; omega) h3)).trans ?_
        frame_out
        rw [(Memref.isWhole_whole cc0_scratch0).read_unread, both_apply]
        exact congrArg (· + _) hp
      · refine (congrArg (fun p => p.2 (ix2 r k)) (outsAt0_B m c ⟨n + 1, hn⟩ h0 (by show 1 ≤ (n + 1) % 4; omega) h3)).trans ?_
        frame_out
        rw [(Memref.isWhole_whole cc0_scratch0).read_unread, both_apply]
        exact congrArg (· + _) hp

theorem final : (dats m 0 c).arrAt 2 (cfgs 0).N = Cert.DwinReferenceIdeal.Read.val_main_v18 (F := Ideal) (m ((c : Thread nD τ).loc main_arg0)) (m ((c : Thread nD τ).loc main_arg1))
    (m ((c : Thread nD τ).loc main_arg3)) (m ((c : Thread nD τ).loc main_arg4)) := by
  refine (dats m 0 c).arrAt_eq_of_covers 2 _ (by decide +kernel) fun t hf y => ?_
  have h3 := last t hf
  have ht : t.val < 16 := t.isLt
  refine (congrFun (Value.flushed2_C m c t (by omega) (by omega) h3) y).trans ?_
  blk_simp
  frame_out
  rw [(Memref.isWhole_whole cc0_scratch0).read_unread]
  change S1024x1408.Idx at y
  idx_vars y
  have h : t.val / 4 * 1408 + y1.val < 5632 := by omega
  have e : ((cfg0.win 2).blk t).view.emb (ix2 y0 y1) = (ix2 y0 ⟨t.val / 4 * 1408 + y1.val, h⟩ : S1024x5632.Idx) := by
    blk_ext [idx t]
  have hs := sums_of m c t y0 y1
  rw [if_neg (by omega)] at hs
  change k0_pay3 (F := Ideal) (iblk m c 0 t) (iblk m c 1 t) (outsAt0 m c (t.val - 1) _).2 (ix2 y0 y1) = _
  rw [both_apply, held m c y0 y1 (t.val - 1), ← hs]
  refine Eq.trans ?_ (congrArg _ e).symm
  rw [ref_apply, ← sum_pad, SUMS, dif_pos h, h3]

theorem algebraic : Cert.algebraic_DwinKernelIdeal_DwinReferenceIdeal := by
  intro m g m' g' _ hag
  refine ⟨_, (θ_run _ _ _).mono (fun _ h => h) (Cert.DwinKernelIdeal.Value.run_blocks m g),
    (θ_run _ _ _).mono (fun r h c => ?_) (Cert.DwinReferenceIdeal.Value.run (F := Ideal) m' g')⟩
  obtain ⟨h0, h1, h2, h3, h4⟩ := hag c
  refine ⟨(h c).1.trans ?_, (h c).2⟩
  refine (Cert.DwinReferenceIdeal.Read.val_main_v18_eq _ _ _ _).trans ?_
  rw [h0, h1, h3, h4]
  exact (final m c).symm

theorem reference_frame : Cert.quiescent_DwinReferenceIdeal := fun m ρ _ =>
  (θ_run Cert.DwinReferenceIdeal.defs _ _).mono (fun r h => ⟨fun c => (h c).2, Idealize.ShloMosaic.sem_eq_zero_of_no_sems (by decide) r.2⟩)
    (Cert.DwinReferenceIdeal.Value.run (F := Ideal) m ρ)

end Cert.Proof.DwinValue

end
-- ==== Proof.lean ====
module

public import proofs.«01_k».proof.Defs
public import proofs.«01_k».proof.Proof.Gen.GluKernel.Frame
public import proofs.«01_k».proof.Proof.Gen.SbKernel.Frame
public import proofs.«01_k».proof.Proof.Gen.DguKernel.Frame
public import proofs.«01_k».proof.Proof.Gen.DhnKernel.Frame
public import proofs.«01_k».proof.Proof.Gen.MixKernel.Frame
public import proofs.«01_k».proof.Proof.GluValue
public import proofs.«01_k».proof.Proof.SbFinal
public import proofs.«01_k».proof.Proof.DguValue
public import proofs.«01_k».proof.Proof.MixValue
public import proofs.«01_k».proof.Proof.DhnValue
public import proofs.«01_k».proof.Proof.LossValue
public import proofs.«01_k».proof.Proof.DiscValue
public import proofs.«01_k».proof.Proof.GlufValue
public import proofs.«01_k».proof.Proof.NormValue
public import proofs.«01_k».proof.Proof.DiscfValue
public import proofs.«01_k».proof.Proof.Gen.GlufKernel.Frame
public import proofs.«01_k».proof.Proof.Gen.NormKernel.Frame
public import proofs.«01_k».proof.Proof.Gen.DiscfKernel.Frame
public import proofs.«01_k».proof.Proof.Gen.DiscKernel.Frame
public import proofs.«01_k».proof.Proof.Gen.LossKernel.Frame
public import proofs.«01_k».proof.Proof.OutValue
public import proofs.«01_k».proof.Proof.Gen.OutKernel.Frame
public import proofs.«01_k».proof.Proof.SumcValue
public import proofs.«01_k».proof.Proof.Gen.SumcKernel.Frame
public import proofs.«01_k».proof.Proof.AdamValue
public import proofs.«01_k».proof.Proof.Gen.AdamKernel.Frame
public import proofs.«01_k».proof.Proof.RepValue
public import proofs.«01_k».proof.Proof.Gen.RepKernel.Frame
public import proofs.«01_k».proof.Proof.FfnValue
public import proofs.«01_k».proof.Proof.Gen.FfnKernel.Frame
public import proofs.«01_k».proof.Proof.LrufValue
public import proofs.«01_k».proof.Proof.Gen.LrufKernel.Frame
public import proofs.«01_k».proof.Proof.Gen.S5fKernel.Frame
public import proofs.«01_k».proof.Proof.Gen.S5fKernelIdeal.Frame
public import proofs.«01_k».proof.Proof.Gen.DwinKernel.Frame
public import proofs.«01_k».proof.Proof.DwinValue
public import Idealize.ShloMosaic.Lib.Claim
public import Idealize.ShloMosaic.Adequacy
public import Idealize.ShloMosaic.Init

@[expose] public section

noncomputable section

namespace Cert.Proof

open Idealize.ShloMosaic Idealize.SL.Sem

theorem glu_algebraic : Cert.algebraic_GluKernelIdeal_GluReferenceIdeal := by
  intro m g m' g' _ hag
  refine ⟨_, (θ_run _ _ _).mono (fun _ h => h) (Cert.GluKernelIdeal.Value.run_blocks m g),
    (θ_run _ _ _).mono (fun r h c => ?_) (Cert.GluReferenceIdeal.Value.run (F := Ideal) m' g')⟩
  refine ⟨(h c).1.trans ?_, (h c).2⟩
  refine (Cert.GluReferenceIdeal.Read.val_main_v16_eq _ _).trans ?_
  rw [(hag c).1, (hag c).2]
  exact (GluValue.final m c).symm

theorem glu_reference_frame : Cert.quiescent_GluReferenceIdeal := fun m ρ _ =>
  (θ_run Cert.GluReferenceIdeal.defs _ _).mono (fun r h => ⟨fun c => (h c).2, Idealize.ShloMosaic.sem_eq_zero_of_no_sems (by decide) r.2⟩)
    (Cert.GluReferenceIdeal.Value.run (F := Ideal) m ρ)

theorem dgu_algebraic : Cert.algebraic_DguKernelIdeal_DguReferenceIdeal := by
  intro m g m' g' _ hag
  refine ⟨_, (θ_run _ _ _).mono (fun _ h => h) (Cert.DguKernelIdeal.Value.run_blocks m g),
    (θ_run _ _ _).mono (fun r h c => ?_) (Cert.DguReferenceIdeal.Value.run (F := Ideal) m' g')⟩
  refine ⟨(h c).1.trans ?_, (h c).2⟩
  refine (Cert.DguReferenceIdeal.Read.val_main_v14_eq _ _ _ _).trans ?_
  obtain ⟨h0, h1, h2, h3⟩ := hag c
  rw [h0, h1, h2, h3]
  exact (DguValue.final m c).symm

theorem dgu_reference_frame : Cert.quiescent_DguReferenceIdeal := fun m ρ _ =>
  (θ_run Cert.DguReferenceIdeal.defs _ _).mono (fun r h => ⟨fun c => (h c).2, Idealize.ShloMosaic.sem_eq_zero_of_no_sems (by decide) r.2⟩)
    (Cert.DguReferenceIdeal.Value.run (F := Ideal) m ρ)

theorem mix_algebraic : Cert.algebraic_MixKernelIdeal_MixReferenceIdeal := by
  intro m g m' g' _ hag
  refine ⟨_, _, (θ_run _ _ _).mono (fun _ h => h) (Cert.MixKernelIdeal.Value.run_blocks m g),
    (θ_run _ _ _).mono (fun r h c => ?_) (Cert.MixReferenceIdeal.Value.run (F := Ideal) m' g')⟩
  obtain ⟨h0, h1, h2, h3, h4⟩ := hag c
  refine ⟨(h c).1.trans ?_, (h c).2.1.trans ?_, (h c).2.2⟩
  · refine (Cert.MixReferenceIdeal.Read.val_main_v38_eq m' c).trans ?_
    rw [h0, h1, h2, h3, h4]
    exact (MixValue.final m c).symm
  · refine (Cert.MixReferenceIdeal.Read.val_main_v39_eq _ _ _).trans ?_
    rw [h0, h1, h2]
    exact (MixValue.final6 m c).symm

theorem mix_reference_frame : Cert.quiescent_MixReferenceIdeal := fun m ρ _ =>
  (θ_run Cert.MixReferenceIdeal.defs _ _).mono (fun r h => ⟨fun c => (h c).2.2, Idealize.ShloMosaic.sem_eq_zero_of_no_sems (by decide) r.2⟩)
    (Cert.MixReferenceIdeal.Value.run (F := Ideal) m ρ)

theorem dhn_algebraic : Cert.algebraic_DhnKernelIdeal_DhnReferenceIdeal := by
  intro m g m' g' _ hag
  refine ⟨_, _, (θ_run _ _ _).mono (fun _ h => h) (Cert.DhnKernelIdeal.Value.run_blocks m g),
    (θ_run _ _ _).mono (fun r h c => ?_) (Cert.DhnReferenceIdeal.Value.run (F := Ideal) m' g')⟩
  obtain ⟨h0, h1, h2, h3, h4, h5⟩ := hag c
  refine ⟨(h c).1.trans ?_, (h c).2.1.trans ?_, (h c).2.2⟩
  · refine (Cert.DhnReferenceIdeal.Read.val_main_v41_eq m' c).trans ?_
    rw [h0, h1, h2, h3, h4, h5]
    exact (DhnValue.final m c).symm
  · refine (Cert.DhnReferenceIdeal.Read.val_main_v42_eq _ _ _ _).trans ?_
    rw [h0, h1, h2, h3]
    exact (DhnValue.final6 m c).symm

theorem dhn_reference_frame : Cert.quiescent_DhnReferenceIdeal := fun m ρ _ =>
  (θ_run Cert.DhnReferenceIdeal.defs _ _).mono (fun r h => ⟨fun c => (h c).2.2, Idealize.ShloMosaic.sem_eq_zero_of_no_sems (by decide) r.2⟩)
    (Cert.DhnReferenceIdeal.Value.run (F := Ideal) m ρ)

theorem loss_algebraic : Cert.algebraic_LossKernelIdeal_LossReferenceIdeal := by
  intro m g m' g' _ hag
  refine ⟨_, _, _, (θ_run _ _ _).mono (fun _ h => h) (LossValue.run m g),
    (θ_run _ _ _).mono (fun r h c => ?_) (Cert.LossReferenceIdeal.Value.run (F := Ideal) m' g')⟩
  obtain ⟨h0, h1, h2⟩ := hag c
  refine ⟨(h c).1.trans ?_, (h c).2.1.trans ?_, (h c).2.2.1.trans ?_, (h c).2.2.2⟩
  · refine (Cert.LossReferenceIdeal.Read.val_main_v24_eq _ _ _).trans ?_
    rw [h0, h1, h2]
  · refine (Cert.LossReferenceIdeal.Read.val_main_v50_eq m' c).trans ?_
    rw [h0, h1, h2]
  · refine (Cert.LossReferenceIdeal.Read.val_main_v36_eq _ _ _).trans ?_
    rw [h0, h1, h2]

theorem loss_reference_frame : Cert.quiescent_LossReferenceIdeal := fun m ρ _ =>
  (θ_run Cert.LossReferenceIdeal.defs _ _).mono (fun r h => ⟨fun c => (h c).2.2.2, Idealize.ShloMosaic.sem_eq_zero_of_no_sems (by decide) r.2⟩)
    (Cert.LossReferenceIdeal.Value.run (F := Ideal) m ρ)

theorem claim : Cert.Claim := ⟨Cert.GluKernel.Gen.facts, Cert.GluKernelIdeal.Gen.facts, Cert.GluReferenceIdeal.Gen.facts,
  Cert.SbKernel.Gen.facts, Cert.SbKernelIdeal.Gen.facts, Cert.SbReferenceIdeal.Gen.facts,
  Cert.DguKernel.Gen.facts, Cert.DguKernelIdeal.Gen.facts, Cert.DguReferenceIdeal.Gen.facts,
  Cert.MixKernel.Gen.facts, Cert.MixKernelIdeal.Gen.facts, Cert.MixReferenceIdeal.Gen.facts,
  Cert.DhnKernel.Gen.facts, Cert.DhnKernelIdeal.Gen.facts, Cert.DhnReferenceIdeal.Gen.facts,
  Cert.LossKernel.Gen.facts, Cert.LossKernelIdeal.Gen.facts, Cert.LossReferenceIdeal.Gen.facts,
  Cert.DiscKernel.Gen.facts, Cert.DiscKernelIdeal.Gen.facts, Cert.DiscReferenceIdeal.Gen.facts,
  Cert.GlufKernel.Gen.facts, Cert.GlufKernelIdeal.Gen.facts, Cert.GlufReferenceIdeal.Gen.facts,
  Cert.NormKernel.Gen.facts, Cert.NormKernelIdeal.Gen.facts, Cert.NormReferenceIdeal.Gen.facts,
  Cert.DiscfKernel.Gen.facts, Cert.DiscfKernelIdeal.Gen.facts, Cert.DiscfReferenceIdeal.Gen.facts,
  Cert.OutKernel.Gen.facts, Cert.OutKernelIdeal.Gen.facts, Cert.OutReferenceIdeal.Gen.facts,
  Cert.SumcKernel.Gen.facts, Cert.SumcKernelIdeal.Gen.facts, Cert.SumcReferenceIdeal.Gen.facts,
  Cert.AdamKernel.Gen.facts, Cert.AdamKernelIdeal.Gen.facts, Cert.AdamReferenceIdeal.Gen.facts,
  Cert.RepKernel.Gen.facts, Cert.RepKernelIdeal.Gen.facts, Cert.RepReferenceIdeal.Gen.facts,
  Cert.FfnKernel.Gen.facts, Cert.FfnKernelIdeal.Gen.facts, Cert.FfnReferenceIdeal.Gen.facts,
  Cert.LrufKernel.Gen.facts, Cert.LrufKernelIdeal.Gen.facts, Cert.LrufReferenceIdeal.Gen.facts,
  Cert.S5fKernel.Gen.facts, Cert.S5fKernelIdeal.Gen.facts,
  Cert.DwinKernel.Gen.facts, Cert.DwinKernelIdeal.Gen.facts, Cert.DwinReferenceIdeal.Gen.facts,
  Sb.pre_facts, DiscValue.pre_facts, DiscfValue.pre_facts, LrufValue.pre_facts,
  fun m ρ _ => Cert.GluKernel.Gen.frame m ρ, fun m ρ _ => Cert.GluKernelIdeal.Gen.frame m ρ, glu_reference_frame,
  fun m ρ _ => Cert.SbKernel.Gen.frame m ρ, fun m ρ _ => Cert.SbKernelIdeal.Gen.frame m ρ, fun m ρ _ => Cert.SbKernelIdeal.Gen.frame m ρ,
  Sb.reference_frame, fun m ρ _ => Sb.reference_frame m ρ trivial,
  fun m ρ _ => Cert.DguKernel.Gen.frame m ρ, fun m ρ _ => Cert.DguKernelIdeal.Gen.frame m ρ, dgu_reference_frame,
  fun m ρ _ => Cert.MixKernel.Gen.frame m ρ, fun m ρ _ => Cert.MixKernelIdeal.Gen.frame m ρ, mix_reference_frame,
  fun m ρ _ => Cert.DhnKernel.Gen.frame m ρ, fun m ρ _ => Cert.DhnKernelIdeal.Gen.frame m ρ, dhn_reference_frame,
  fun m ρ _ => Cert.LossKernel.Gen.frame m ρ, fun m ρ _ => Cert.LossKernelIdeal.Gen.frame m ρ, loss_reference_frame,
  fun m ρ _ => Cert.DiscKernel.Gen.frame m ρ, fun m ρ _ => Cert.DiscKernelIdeal.Gen.frame m ρ, fun m ρ _ => Cert.DiscKernelIdeal.Gen.frame m ρ,
  DiscValue.reference_frame, fun m ρ _ => DiscValue.reference_frame m ρ trivial,
  fun m ρ _ => Cert.GlufKernel.Gen.frame m ρ, fun m ρ _ => Cert.GlufKernelIdeal.Gen.frame m ρ, GlufValue.reference_frame,
  fun m ρ _ => Cert.NormKernel.Gen.frame m ρ, fun m ρ _ => Cert.NormKernelIdeal.Gen.frame m ρ, NormValue.reference_frame,
  fun m ρ _ => Cert.DiscfKernel.Gen.frame m ρ, fun m ρ _ => Cert.DiscfKernelIdeal.Gen.frame m ρ, fun m ρ _ => Cert.DiscfKernelIdeal.Gen.frame m ρ,
  DiscfValue.reference_frame, fun m ρ _ => DiscfValue.reference_frame m ρ trivial,
  fun m ρ _ => Cert.OutKernel.Gen.frame m ρ, fun m ρ _ => Cert.OutKernelIdeal.Gen.frame m ρ, OutValue.reference_frame,
  fun m ρ _ => Cert.SumcKernel.Gen.frame m ρ, fun m ρ _ => Cert.SumcKernelIdeal.Gen.frame m ρ, SumcValue.reference_frame,
  fun m ρ _ => Cert.AdamKernel.Gen.frame m ρ, fun m ρ _ => Cert.AdamKernelIdeal.Gen.frame m ρ, AdamValue.reference_frame,
  fun m ρ _ => Cert.RepKernel.Gen.frame m ρ, fun m ρ _ => Cert.RepKernelIdeal.Gen.frame m ρ, RepValue.reference_frame,
  fun m ρ _ => Cert.FfnKernel.Gen.frame m ρ, fun m ρ _ => Cert.FfnKernelIdeal.Gen.frame m ρ, FfnValue.reference_frame,
  fun m ρ _ => Cert.LrufKernel.Gen.frame m ρ, fun m ρ _ => Cert.LrufKernelIdeal.Gen.frame m ρ, fun m ρ _ => Cert.LrufKernelIdeal.Gen.frame m ρ,
  LrufValue.reference_frame, fun m ρ _ => LrufValue.reference_frame m ρ trivial,
  fun m ρ _ => Cert.S5fKernel.Gen.frame m ρ, fun m ρ _ => Cert.S5fKernelIdeal.Gen.frame m ρ,
  fun m ρ _ => Cert.DwinKernel.Gen.frame m ρ, fun m ρ _ => Cert.DwinKernelIdeal.Gen.frame m ρ, DwinValue.reference_frame,
  trivial, glu_algebraic, trivial, Sb.algebraic, trivial, dgu_algebraic, trivial, mix_algebraic, trivial, dhn_algebraic, trivial, loss_algebraic, trivial, DiscValue.algebraic,
  trivial, GlufValue.algebraic, trivial, NormValue.algebraic, trivial, DiscfValue.algebraic,
  trivial, OutValue.algebraic, trivial, SumcValue.algebraic, trivial, AdamValue.algebraic, trivial, RepValue.algebraic,
  trivial, FfnValue.algebraic,
  trivial, LrufValue.algebraic, trivial,
  trivial, DwinValue.algebraic⟩

end Cert.Proof

end
